-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v3_3)) (v4 : (c : Dev Cert.Kernel3Ideal.nD) → Buf (Elt Ideal) ((c.tc : Thread Cert.Kernel3Ideal.nD Cert.Kernel3Ideal.τ).loc Cert.Kernel3Ideal.main_v3_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v3_3) = v3 c
          ∧ r.2.mem ((c.tc : Thread Cert.Kernel3Ideal.nD Cert.Kernel3Ideal.τ).loc Cert.Kernel3Ideal.main_v3_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v332) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_v333) = v2 c
          ∧ r.2.mem ((c.tc : Thread Cert.Reference3Ideal.nD Cert.Reference3Ideal.τ).loc Cert.Reference3Ideal.main_v208) = v3 c
          ∧ r.2.mem ((c.tc : Thread Cert.Reference3Ideal.nD Cert.Reference3Ideal.τ).loc Cert.Reference3Ideal.main_v334) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S17408x1024 : Shape := ⟨2, ![17408, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S16384x1024 : Shape := ⟨2, ![16384, 1024]⟩
abbrev S1024x1024 : Shape := ⟨2, ![1024, 1024]⟩
abbrev S512x1024 : Shape := ⟨2, ![512, 1024]⟩
abbrev S2x1024x256 : Shape := ⟨3, ![2, 1024, 256]⟩
abbrev S2x256x1024 : Shape := ⟨3, ![2, 256, 1024]⟩
abbrev S3x2 : Shape := ⟨2, ![3, 2]⟩
abbrev S2x512x1024 : Shape := ⟨3, ![2, 512, 1024]⟩
abbrev S1x1 : Shape := ⟨2, ![1, 1]⟩
abbrev S_ : Shape := ⟨0, ![]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S1x512x1024 : Shape := ⟨3, ![1, 512, 1024]⟩
abbrev S512 : Shape := ⟨1, ![512]⟩
abbrev S512x1 : Shape := ⟨2, ![512, 1]⟩
abbrev S512x256 : Shape := ⟨2, ![512, 256]⟩
abbrev S512x2816 : Shape := ⟨2, ![512, 2816]⟩
abbrev S1x64x1024 : Shape := ⟨3, ![1, 64, 1024]⟩
abbrev S64x1024 : Shape := ⟨2, ![64, 1024]⟩
abbrev S64 : Shape := ⟨1, ![64]⟩
abbrev S64x1 : Shape := ⟨2, ![64, 1]⟩

abbrev nBuf : Space → Nat
  | .hbm => 10
  | .vmem => 17
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S2x1024x256, .f32⟩
  | .local _ .vmem, ⟨12, _⟩ => ⟨S2x1024x256, .f32⟩
  | .local _ .vmem, ⟨13, _⟩ => ⟨S2x256x1024, .f32⟩
  | .local _ .vmem, ⟨14, _⟩ => ⟨S512x1024, .bf16⟩
  | .local _ .vmem, ⟨15, _⟩ => ⟨S2x512x1024, .f32⟩
  | .local _ .vmem, ⟨16, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch7 : Ref sig .tc := ⟨.vmem, 14, rfl⟩
abbrev cc0_scratch8 : Ref sig .tc := ⟨.vmem, 15, rfl⟩
abbrev cc0_scratch9 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v55 : Index := Scalar.indexCast v9
  let c0_52 : Index := 0#32
  let c0_53 : Index := 0#32
  ![v55.toNat, 0, 0]
def k0_cond2 (i : grid0.Coords) : BitVec 1 :=
  let arg0 : BitVec 32 := BitVec.ofNat 32 (i 0).val
  let c1_i32_5 : BitVec 32 := 1#32
  let v13 : BitVec 1 := Scalar.cmpi .eq arg0 c1_i32_5
  let v14 : BitVec 32 := Scalar.extui v13
  let c0_i32_6 : BitVec 32 := 0#32
  let v15 : BitVec 1 := Scalar.cmpi .ne v14 c0_i32_6
  v15

def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v618 : Index := Scalar.indexCast v9
  let c0_647 : Index := 0#32
  let c0_648 : Index := 0#32
  ![v618.toNat, 0, 0]
def k0_cond3 (i : grid0.Coords) : BitVec 1 :=
  let arg0 : BitVec 32 := BitVec.ofNat 32 (i 0).val
  let c1_i32_7 : BitVec 32 := 1#32
  let v16 : BitVec 1 := Scalar.cmpi .sgt arg0 c1_i32_7
  let c34_i32 : BitVec 32 := 34#32
  let v17 : BitVec 1 := Scalar.cmpi .sle arg0 c34_i32
  let v18 : BitVec 1 := Scalar.andi v16 v17
  let v19 : BitVec 32 := Scalar.extui v18
  let c0_i32_8 : BitVec 32 := 0#32
  let v20 : BitVec 1 := Scalar.cmpi .ne v19 c0_i32_8
  v20

def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v33 : Index := Scalar.indexCast v9
  let c0_16 : Index := 0#32
  let c0_17 : Index := 0#32
  ![v33.toNat, 0, 0]
def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v74 : Index := Scalar.indexCast v9
  let c64 : Index := 64#32
  let c0_37 : Index := 0#32
  ![v74.toNat, 64, 0]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v115 : Index := Scalar.indexCast v9
  let c128 : Index := 128#32
  let c0_58 : Index := 0#32
  ![v115.toNat, 128, 0]
def k0_off6 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v156 : Index := Scalar.indexCast v9
  let c192 : Index := 192#32
  let c0_79 : Index := 0#32
  ![v156.toNat, 192, 0]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v197 : Index := Scalar.indexCast v9
  let c256_100 : Index := 256#32
  let c0_101 : Index := 0#32
  ![v197.toNat, 256, 0]
def k0_off8 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v238 : Index := Scalar.indexCast v9
  let c320 : Index := 320#32
  let c0_122 : Index := 0#32
  ![v238.toNat, 320, 0]
def k0_off9 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v279 : Index := Scalar.indexCast v9
  let c384 : Index := 384#32
  let c0_143 : Index := 0#32
  ![v279.toNat, 384, 0]
def k0_off10 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v320 : Index := Scalar.indexCast v9
  let c448 : Index := 448#32
  let c0_164 : Index := 0#32
  ![v320.toNat, 448, 0]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v384 : Index := Scalar.indexCast v9
  let c0_202 : Index := 0#32
  let c0_203 : Index := 0#32
  ![v384.toNat, 0, 0]
def k0_cond4 (i : grid0.Coords) : BitVec 1 :=
  let arg0 : BitVec 32 := BitVec.ofNat 32 (i 0).val
  let c35_i32 : BitVec 32 := 35#32
  let v21 : BitVec 1 := Scalar.cmpi .eq arg0 c35_i32
  let v22 : BitVec 32 := Scalar.extui v21
  let c0_i32_9 : BitVec 32 := 0#32
  let v23 : BitVec 1 := Scalar.cmpi .ne v22 c0_i32_9
  v23

def k0_off12 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v24 : Index := Scalar.indexCast v9
  let c0 : Index := 0#32
  let c0_10 : Index := 0#32
  ![v24.toNat, 0, 0]
def cc0_transform_0 (i : grid0.Coords) : Fin 2 → Nat :=
  let arg0 : BitVec 32 := BitVec.ofNat 32 (i 0).val
  let c33_i32 : BitVec 32 := 33#32
  let v0 : BitVec 32 := Scalar.minsi arg0 c33_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c33_i32 : BitVec 32 := 33#32
  let v1 : BitVec 32 := Scalar.maxsi c0_i32 v0
  let v2 : BitVec 32 := Scalar.minsi c33_i32 v1
  let c31_i32 : BitVec 32 := 31#32
  let v3 : BitVec 32 := Scalar.minsi v2 c31_i32
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c33_i32 : BitVec 32 := 33#32
  let v1 : BitVec 32 := Scalar.maxsi c0_i32 v0
  let v2 : BitVec 32 := Scalar.minsi c33_i32 v1
  let c32_i32 : BitVec 32 := 32#32
  let v3 : BitVec 32 := Scalar.subi v2 c32_i32
  let c0_i32_0 : BitVec 32 := 0#32
  let v4 : BitVec 32 := Scalar.maxsi v3 c0_i32_0
  let c0_i32_1 : BitVec 32 := 0#32
  let c0_i32_2 : BitVec 32 := 0#32
  ![v4.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S17408x1024 : Shape := ⟨2, ![17408, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S1024x1024 : Shape := ⟨2, ![1024, 1024]⟩
abbrev S128x8x1024 : Shape := ⟨3, ![128, 8, 1024]⟩
abbrev S128x8 : Shape := ⟨2, ![128, 8]⟩
abbrev S128x8x1 : Shape := ⟨3, ![128, 8, 1]⟩
abbrev S128x8x2816 : Shape := ⟨3, ![128, 8, 2816]⟩

abbrev nBuf : Space → Nat
  | .hbm => 110
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S8x2048x1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S8x2048x2816, .f32⟩
  | .hbm, ⟨25, _⟩ => ⟨S8x2048x2816, .f32⟩
  | .hbm, ⟨26, _⟩ => ⟨S8x2048x2816, .f32⟩
  | .hbm, ⟨27, _⟩ => ⟨S_, .f32⟩
  | .hbm, ⟨28, _⟩ => ⟨S8x2048x2816, .f32⟩
  | .hbm, ⟨29, _⟩ => ⟨S8x2048x2816, .f32⟩
  | .hbm, ⟨30, _⟩ => ⟨S_, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S8x2048x1024, .f32⟩
  | .hbm, ⟨37, _⟩ => ⟨S_, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S8x2048x1, .f32⟩
  | .hbm, ⟨52, _⟩ => ⟨S8x2048x1024, .f32⟩
  | .hbm, ⟨53, _⟩ => ⟨S8x2048x1024, .f32⟩
  | .hbm, ⟨54, _⟩ => ⟨S1x1x1024, .f32⟩
  | .hbm, ⟨55, _⟩ => ⟨S8x2048x1024, .f32⟩
  | .hbm, ⟨56, _⟩ => ⟨S8x2048x1024, .f32⟩
  | .hbm, ⟨57, _⟩ => ⟨S1024x1024, .f32⟩
  | .hbm, ⟨58, _⟩ => ⟨S128x8x1024, .f32⟩
  | .hbm, ⟨59, _⟩ => ⟨S128x8x1024, .f32⟩
  | .hbm, ⟨60, _⟩ => ⟨S_, .f32⟩
  | .hbm, ⟨61, _⟩ => ⟨S128x8, .f32⟩
  | .hbm, ⟨62, _⟩ => ⟨S128x8x1, .f32⟩
  | .hbm, ⟨63, _⟩ => ⟨S_, .f32⟩
  | .hbm, ⟨64, _⟩ => ⟨S128x8x1, .f32⟩
  | .hbm, ⟨65, _⟩ => ⟨S128x8x1, .f32⟩
  | .hbm, ⟨66, _⟩ => ⟨S_, .f32⟩
  | .hbm, ⟨67, _⟩ => ⟨S128x8x1, .f32⟩
  | .hbm, ⟨68, _⟩ => ⟨S128x8x1, .f32⟩
  | .hbm, ⟨69, _⟩ => ⟨S128x8x1, .f32⟩
  | .hbm, ⟨70, _⟩ => ⟨S128x8x1024, .f32⟩
  | .hbm, ⟨71, _⟩ => ⟨S128x8x1024, .f32⟩
  | .hbm, ⟨72, _⟩ => ⟨S1x1x1024, .f32⟩
  | .hbm, ⟨73, _⟩ => ⟨S128x8x1024, .f32⟩
  | .hbm, ⟨74, _⟩ => ⟨S128x8x1024, .f32⟩
  | .hbm, ⟨75, _⟩ => ⟨S128x8x2816, .f32⟩
  | .hbm, ⟨76, _⟩ => ⟨S128x8x2816, .f32⟩
  | .hbm, ⟨77, _⟩ => ⟨S128x8x2816, .f32⟩
  | .hbm, ⟨78, _⟩ => ⟨S_, .f32⟩
  | .hbm, ⟨79, _⟩ => ⟨S128x8x2816, .f32⟩
  | .hbm, ⟨80, _⟩ => ⟨S128x8x2816, .f32⟩
  | .hbm, ⟨81, _⟩ => ⟨S_, .f32⟩
  | .hbm, ⟨82, _⟩ => ⟨S128x8x2816, .f32⟩
  | .hbm, ⟨83, _⟩ => ⟨S128x8x2816, .f32⟩
  | .hbm, ⟨84, _⟩ => ⟨S128x8x2816, .f32⟩
  | .hbm, ⟨85, _⟩ => ⟨S128x8x2816, .f32⟩
  | .hbm, ⟨86, _⟩ => ⟨S128x8x2816, .f32⟩
  | .hbm, ⟨87, _⟩ => ⟨S128x8x1024, .f32⟩
  | .hbm, ⟨88, _⟩ => ⟨S_, .f32⟩
  | .hbm, ⟨89, _⟩ => ⟨S128x8x1024, .f32⟩
  | .hbm, ⟨90, _⟩ => ⟨S128x8x1024, .f32⟩
  | .hbm, ⟨91, _⟩ => ⟨S128x8x1024, .f32⟩
  | .hbm, ⟨92, _⟩ => ⟨S128x8x1024, .f32⟩
  | .hbm, ⟨93, _⟩ => ⟨S_, .f32⟩
  | .hbm, ⟨94, _⟩ => ⟨S128x8, .f32⟩
  | .hbm, ⟨95, _⟩ => ⟨S128x8x1, .f32⟩
  | .hbm, ⟨96, _⟩ => ⟨S_, .f32⟩
  | .hbm, ⟨97, _⟩ => ⟨S128x8x1, .f32⟩
  | .hbm, ⟨98, _⟩ => ⟨S128x8x1, .f32⟩
  | .hbm, ⟨99, _⟩ => ⟨S_, .f32⟩
  | .hbm, ⟨100, _⟩ => ⟨S128x8x1, .f32⟩
  | .hbm, ⟨101, _⟩ => ⟨S128x8x1, .f32⟩
  | .hbm, ⟨102, _⟩ => ⟨S128x8x1, .f32⟩
  | .hbm, ⟨103, _⟩ => ⟨S128x8x1024, .f32⟩
  | .hbm, ⟨104, _⟩ => ⟨S128x8x1024, .f32⟩
  | .hbm, ⟨105, _⟩ => ⟨S1x1x1024, .f32⟩
  | .hbm, ⟨106, _⟩ => ⟨S128x8x1024, .f32⟩
  | .hbm, ⟨107, _⟩ => ⟨S128x8x1024, .f32⟩
  | .hbm, ⟨108, _⟩ => ⟨S16384x1024, .f32⟩
  | .hbm, ⟨109, _⟩ => ⟨S1024x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_9 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_10 : Ref sig .tc := ⟨.hbm, 93, rfl⟩
abbrev main_v60 : Ref sig .tc := ⟨.hbm, 94, rfl⟩
abbrev main_v61 : Ref sig .tc := ⟨.hbm, 95, rfl⟩
abbrev main_cst_11 : Ref sig .tc := ⟨.hbm, 96, rfl⟩
abbrev main_v62 : Ref sig .tc := ⟨.hbm, 97, rfl⟩
abbrev main_v63 : Ref sig .tc := ⟨.hbm, 98, rfl⟩
abbrev main_cst_12 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩

abbrev nD : Nat := 1
abbrev τ : Topo := Topo.v7x

variable {F : FTy → Type} [FloatOps F]
-- ==== Kernel2.lean ====
abbrev S8x2048x1024 : Shape := ⟨3, ![8, 2048, 1024]⟩
abbrev S128x8x1024 : Shape := ⟨3, ![128, 8, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1024x1024 : Shape := ⟨2, ![1024, 1024]⟩
abbrev S1x1024 : Shape := ⟨2, ![1, 1024]⟩
abbrev S17408x1024 : Shape := ⟨2, ![17408, 1024]⟩
abbrev S512x1024 : Shape := ⟨2, ![512, 1024]⟩
abbrev S2x1024x256 : Shape := ⟨3, ![2, 1024, 256]⟩
abbrev S2x256x1024 : Shape := ⟨3, ![2, 256, 1024]⟩
abbrev S3x2 : Shape := ⟨2, ![3, 2]⟩
abbrev S2x512x1024 : Shape := ⟨3, ![2, 512, 1024]⟩
abbrev S1x1 : Shape := ⟨2, ![1, 1]⟩
abbrev S_ : Shape := ⟨0, ![]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S1x512x1024 : Shape := ⟨3, ![1, 512, 1024]⟩
abbrev S512 : Shape := ⟨1, ![512]⟩
abbrev S512x1 : Shape := ⟨2, ![512, 1]⟩
abbrev S512x256 : Shape := ⟨2, ![512, 256]⟩
abbrev S512x2816 : Shape := ⟨2, ![512, 2816]⟩
abbrev S1x64x1024 : Shape := ⟨3, ![1, 64, 1024]⟩
abbrev S64x1024 : Shape := ⟨2, ![64, 1024]⟩

abbrev nBuf : Space → Nat
  | .hbm => 10
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S128x8x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S1024x1024, .f32⟩
  | .hbm, ⟨8, _⟩ => ⟨S1x1024, .f32⟩
  | .hbm, ⟨9, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S2x1024x256, .f32⟩
  | .local _ .vmem, ⟨12, _⟩ => ⟨S2x1024x256, .f32⟩
  | .local _ .vmem, ⟨13, _⟩ => ⟨S2x256x1024, .f32⟩
  | .local _ .vmem, ⟨14, _⟩ => ⟨S512x1024, .bf16⟩
  | .local _ .vmem, ⟨15, _⟩ => ⟨S2x512x1024, .f32⟩
  | .local _ .vmem, ⟨16, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch7 : Ref sig .tc := ⟨.vmem, 14, rfl⟩
abbrev cc0_scratch8 : Ref sig .tc := ⟨.vmem, 15, rfl⟩
abbrev cc0_scratch9 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v60 : Index := Scalar.indexCast v9
  let c0_54 : Index := 0#32
  let c0_55 : Index := 0#32
  ![v60.toNat, 0, 0]
def k0_cond2 (i : grid0.Coords) : BitVec 1 :=
  let arg0 : BitVec 32 := BitVec.ofNat 32 (i 0).val
  let c1_i32_5 : BitVec 32 := 1#32
  let v13 : BitVec 1 := Scalar.cmpi .eq arg0 c1_i32_5
  let v14 : BitVec 32 := Scalar.extui v13
  let c0_i32_6 : BitVec 32 := 0#32
  let v15 : BitVec 1 := Scalar.cmpi .ne v14 c0_i32_6
  v15

def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v623 : Index := Scalar.indexCast v9
  let c0_649 : Index := 0#32
  let c0_650 : Index := 0#32
  ![v623.toNat, 0, 0]
def k0_cond3 (i : grid0.Coords) : BitVec 1 :=
  let arg0 : BitVec 32 := BitVec.ofNat 32 (i 0).val
  let c1_i32_7 : BitVec 32 := 1#32
  let v16 : BitVec 1 := Scalar.cmpi .sgt arg0 c1_i32_7
  let c34_i32 : BitVec 32 := 34#32
  let v17 : BitVec 1 := Scalar.cmpi .sle arg0 c34_i32
  let v18 : BitVec 1 := Scalar.andi v16 v17
  let v19 : BitVec 32 := Scalar.extui v18
  let c0_i32_8 : BitVec 32 := 0#32
  let v20 : BitVec 1 := Scalar.cmpi .ne v19 c0_i32_8
  v20

def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v33 : Index := Scalar.indexCast v9
  let c0_16 : Index := 0#32
  let c0_17 : Index := 0#32
  ![v33.toNat, 0, 0]
def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v49 : Index := Scalar.indexCast v9
  let c64 : Index := 64#32
  let c0_28 : Index := 0#32
  ![v49.toNat, 64, 0]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v65 : Index := Scalar.indexCast v9
  let c128 : Index := 128#32
  let c0_39 : Index := 0#32
  ![v65.toNat, 128, 0]
def k0_off6 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v81 : Index := Scalar.indexCast v9
  let c192 : Index := 192#32
  let c0_50 : Index := 0#32
  ![v81.toNat, 192, 0]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v97 : Index := Scalar.indexCast v9
  let c256_61 : Index := 256#32
  let c0_62 : Index := 0#32
  ![v97.toNat, 256, 0]
def k0_off8 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v113 : Index := Scalar.indexCast v9
  let c320 : Index := 320#32
  let c0_73 : Index := 0#32
  ![v113.toNat, 320, 0]
def k0_off9 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v129 : Index := Scalar.indexCast v9
  let c384 : Index := 384#32
  let c0_84 : Index := 0#32
  ![v129.toNat, 384, 0]
def k0_off10 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v145 : Index := Scalar.indexCast v9
  let c448 : Index := 448#32
  let c0_95 : Index := 0#32
  ![v145.toNat, 448, 0]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v189 : Index := Scalar.indexCast v9
  let c0_125 : Index := 0#32
  let c0_126 : Index := 0#32
  ![v189.toNat, 0, 0]
def k0_cond4 (i : grid0.Coords) : BitVec 1 :=
  let arg0 : BitVec 32 := BitVec.ofNat 32 (i 0).val
  let c35_i32 : BitVec 32 := 35#32
  let v21 : BitVec 1 := Scalar.cmpi .eq arg0 c35_i32
  let v22 : BitVec 32 := Scalar.extui v21
  let c0_i32_9 : BitVec 32 := 0#32
  let v23 : BitVec 1 := Scalar.cmpi .ne v22 c0_i32_9
  v23

def k0_off12 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v24 : Index := Scalar.indexCast v9
  let c0 : Index := 0#32
  let c0_10 : Index := 0#32
  ![v24.toNat, 0, 0]
def cc0_transform_0 (i : grid0.Coords) : Fin 2 → Nat :=
  let arg0 : BitVec 32 := BitVec.ofNat 32 (i 0).val
  let c33_i32 : BitVec 32 := 33#32
  let v0 : BitVec 32 := Scalar.minsi arg0 c33_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c33_i32 : BitVec 32 := 33#32
  let v0 : BitVec 32 := Scalar.minsi arg0 c33_i32
  let c32_i32 : BitVec 32 := 32#32
  let v1 : BitVec 32 := Scalar.subi v0 c32_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c33_i32 : BitVec 32 := 33#32
  let v1 : BitVec 32 := Scalar.maxsi c0_i32 v0
  let v2 : BitVec 32 := Scalar.minsi c33_i32 v1
  let c0_i32_0 : BitVec 32 := 0#32
  let c0_i32_1 : BitVec 32 := 0#32
  ![v2.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8x2048x1024 : Shape := ⟨3, ![8, 2048, 1024]⟩
abbrev S128x8x1024 : Shape := ⟨3, ![128, 8, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S16384x1024 : Shape := ⟨2, ![16384, 1024]⟩
abbrev S128x8 : Shape := ⟨2, ![128, 8]⟩
abbrev S128x8x1 : Shape := ⟨3, ![128, 8, 1]⟩
abbrev S128x8x2816 : Shape := ⟨3, ![128, 8, 2816]⟩
abbrev S1024x1024 : Shape := ⟨2, ![1024, 1024]⟩
abbrev S17408x1024 : Shape := ⟨2, ![17408, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S128x8x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x2816, .f32⟩
  | .hbm, ⟨23, _⟩ => ⟨S8x2048x2816, .f32⟩
  | .hbm, ⟨24, _⟩ => ⟨S8x2048x2816, .f32⟩
  | .hbm, ⟨25, _⟩ => ⟨S_, .f32⟩
  | .hbm, ⟨26, _⟩ => ⟨S8x2048x2816, .f32⟩
  | .hbm, ⟨27, _⟩ => ⟨S8x2048x2816, .f32⟩
  | .hbm, ⟨28, _⟩ => ⟨S_, .f32⟩
  | .hbm, ⟨29, _⟩ => ⟨S8x2048x2816, .f32⟩
  | .hbm, ⟨30, _⟩ => ⟨S8x2048x2816, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S8x2048x1024, .f32⟩
  | .hbm, ⟨35, _⟩ => ⟨S_, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S16384x1024, .f32⟩
  | .hbm, ⟨40, _⟩ => ⟨S128x8x1024, .f32⟩
  | .hbm, ⟨41, _⟩ => ⟨S_, .f32⟩
  | .hbm, ⟨42, _⟩ => ⟨S128x8, .f32⟩
  | .hbm, ⟨43, _⟩ => ⟨S128x8x1, .f32⟩
  | .hbm, ⟨44, _⟩ => ⟨S_, .f32⟩
  | .hbm, ⟨45, _⟩ => ⟨S128x8x1, .f32⟩
  | .hbm, ⟨46, _⟩ => ⟨S128x8x1, .f32⟩
  | .hbm, ⟨47, _⟩ => ⟨S_, .f32⟩
  | .hbm, ⟨48, _⟩ => ⟨S128x8x1, .f32⟩
  | .hbm, ⟨49, _⟩ => ⟨S128x8x1, .f32⟩
  | .hbm, ⟨50, _⟩ => ⟨S128x8x1, .f32⟩
  | .hbm, ⟨51, _⟩ => ⟨S128x8x1024, .f32⟩
  | .hbm, ⟨52, _⟩ => ⟨S128x8x1024, .f32⟩
  | .hbm, ⟨53, _⟩ => ⟨S1x1x1024, .f32⟩
  | .hbm, ⟨54, _⟩ => ⟨S128x8x1024, .f32⟩
  | .hbm, ⟨55, _⟩ => ⟨S128x8x1024, .f32⟩
  | .hbm, ⟨56, _⟩ => ⟨S128x8x2816, .f32⟩
  | .hbm, ⟨57, _⟩ => ⟨S128x8x2816, .f32⟩
  | .hbm, ⟨58, _⟩ => ⟨S128x8x2816, .f32⟩
  | .hbm, ⟨59, _⟩ => ⟨S_, .f32⟩
  | .hbm, ⟨60, _⟩ => ⟨S128x8x2816, .f32⟩
  | .hbm, ⟨61, _⟩ => ⟨S128x8x2816, .f32⟩
  | .hbm, ⟨62, _⟩ => ⟨S_, .f32⟩
  | .hbm, ⟨63, _⟩ => ⟨S128x8x2816, .f32⟩
  | .hbm, ⟨64, _⟩ => ⟨S128x8x2816, .f32⟩
  | .hbm, ⟨65, _⟩ => ⟨S128x8x2816, .f32⟩
  | .hbm, ⟨66, _⟩ => ⟨S128x8x2816, .f32⟩
  | .hbm, ⟨67, _⟩ => ⟨S128x8x2816, .f32⟩
  | .hbm, ⟨68, _⟩ => ⟨S128x8x1024, .f32⟩
  | .hbm, ⟨69, _⟩ => ⟨S_, .f32⟩
  | .hbm, ⟨70, _⟩ => ⟨S128x8x1024, .f32⟩
  | .hbm, ⟨71, _⟩ => ⟨S128x8x1024, .f32⟩
  | .hbm, ⟨72, _⟩ => ⟨S128x8x1024, .f32⟩
  | .hbm, ⟨73, _⟩ => ⟨S1024x1024, .f32⟩
  | .hbm, ⟨74, _⟩ => ⟨S17408x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_6 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩

abbrev nD : Nat := 1
abbrev τ : Topo := Topo.v7x

variable {F : FTy → Type} [FloatOps F]
-- ==== Kernel3.lean ====
abbrev S17408x1024 : Shape := ⟨2, ![17408, 1024]⟩
abbrev S128x2x512 : Shape := ⟨3, ![128, 2, 512]⟩
abbrev S128x15x512 : Shape := ⟨3, ![128, 15, 512]⟩
abbrev S1024 : Shape := ⟨1, ![1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S15x128x512 : Shape := ⟨3, ![15, 128, 512]⟩
abbrev S1x1024 : Shape := ⟨2, ![1, 1024]⟩
abbrev S1x512 : Shape := ⟨2, ![1, 512]⟩
abbrev S8x2x512 : Shape := ⟨3, ![8, 2, 512]⟩
abbrev S15x8x512 : Shape := ⟨3, ![15, 8, 512]⟩
abbrev S1x2x512 : Shape := ⟨3, ![1, 2, 512]⟩
abbrev S1032x512 : Shape := ⟨2, ![1032, 512]⟩
abbrev S1040x512 : Shape := ⟨2, ![1040, 512]⟩
abbrev S128x16x512 : Shape := ⟨3, ![128, 16, 512]⟩
abbrev S128x24x512 : Shape := ⟨3, ![128, 24, 512]⟩
abbrev S3x15 : Shape := ⟨2, ![3, 15]⟩
abbrev S128x1x512 : Shape := ⟨3, ![128, 1, 512]⟩
abbrev S8x512 : Shape := ⟨2, ![8, 512]⟩
abbrev S16x512 : Shape := ⟨2, ![16, 512]⟩
abbrev S1x1 : Shape := ⟨2, ![1, 1]⟩
abbrev S_ : Shape := ⟨0, ![]⟩
abbrev S128x512 : Shape := ⟨2, ![128, 512]⟩
abbrev S1x128x512 : Shape := ⟨3, ![1, 128, 512]⟩
abbrev S1024x1 : Shape := ⟨2, ![1024, 1]⟩
abbrev S1024x512 : Shape := ⟨2, ![1024, 512]⟩
abbrev S1x1x512 : Shape := ⟨3, ![1, 1, 512]⟩
abbrev S1024x128 : Shape := ⟨2, ![1024, 128]⟩
abbrev S1040x384 : Shape := ⟨2, ![1040, 384]⟩
abbrev S1040x256 : Shape := ⟨2, ![1040, 256]⟩
abbrev S1040x128 : Shape := ⟨2, ![1040, 128]⟩
abbrev S1x128x128 : Shape := ⟨3, ![1, 128, 128]⟩
abbrev S128x128 : Shape := ⟨2, ![128, 128]⟩
abbrev S1x128 : Shape := ⟨2, ![1, 128]⟩
abbrev S2x512 : Shape := ⟨2, ![2, 512]⟩
abbrev S128x8x1024 : Shape := ⟨3, ![128, 8, 1024]⟩
abbrev S128x8x512 : Shape := ⟨3, ![128, 8, 512]⟩
abbrev S128x8x128 : Shape := ⟨3, ![128, 8, 128]⟩
abbrev S128x24x384 : Shape := ⟨3, ![128, 24, 384]⟩
abbrev S128x24x256 : Shape := ⟨3, ![128, 24, 256]⟩
abbrev S128x24x128 : Shape := ⟨3, ![128, 24, 128]⟩
abbrev S8x1 : Shape := ⟨2, ![8, 1]⟩
abbrev S1x8x1 : Shape := ⟨3, ![1, 8, 1]⟩
abbrev S1x1x128 : Shape := ⟨3, ![1, 1, 128]⟩

abbrev nBuf : Space → Nat
  | .hbm => 17
  | .vmem => 20
  | .smem => 0
  | _ => 0

abbrev bufTy : (tb : Table) → Fin (tcTables nBuf tb) → BufTy
  | .hbm, ⟨0, _⟩ => ⟨S17408x1024, .f32⟩
  | .hbm, ⟨1, _⟩ => ⟨S128x2x512, .f32⟩
  | .hbm, ⟨2, _⟩ => ⟨S128x15x512, .f32⟩
  | .hbm, ⟨3, _⟩ => ⟨S1024, .f32⟩
  | .hbm, ⟨4, _⟩ => ⟨S1024x2048, .f32⟩
  | .hbm, ⟨5, _⟩ => ⟨S3x512, .f32⟩
  | .hbm, ⟨6, _⟩ => ⟨S4x128x128, .f32⟩
  | .hbm, ⟨7, _⟩ => ⟨S512, .f32⟩
  | .hbm, ⟨8, _⟩ => ⟨S1024x1024, .f32⟩
  | .hbm, ⟨9, _⟩ => ⟨S15x128x512, .f32⟩
  | .hbm, ⟨10, _⟩ => ⟨S1x1024, .f32⟩
  | .hbm, ⟨11, _⟩ => ⟨S1x512, .f32⟩
  | .hbm, ⟨12, _⟩ => ⟨S17408x1024, .f32⟩
  | .hbm, ⟨13, _⟩ => ⟨S8x2x512, .f32⟩
  | .hbm, ⟨14, _⟩ => ⟨S15x8x512, .f32⟩
  | .hbm, ⟨15, _⟩ => ⟨S128x2x512, .f32⟩
  | .hbm, ⟨16, _⟩ => ⟨S15x128x512, .f32⟩
  | .local _ .vmem, ⟨0, _⟩ => ⟨S1024x1024, .f32⟩
  | .local _ .vmem, ⟨1, _⟩ => ⟨S1024x1024, .f32⟩
  | .local _ .vmem, ⟨2, _⟩ => ⟨S128x2x512, .f32⟩
  | .local _ .vmem, ⟨3, _⟩ => ⟨S128x2x512, .f32⟩
  | .local _ .vmem, ⟨4, _⟩ => ⟨S1x1024, .f32⟩
  | .local _ .vmem, ⟨5, _⟩ => ⟨S1024x2048, .f32⟩
  | .local _ .vmem, ⟨6, _⟩ => ⟨S3x512, .f32⟩
  | .local _ .vmem, ⟨7, _⟩ => ⟨S4x128x128, .f32⟩
  | .local _ .vmem, ⟨8, _⟩ => ⟨S1x512, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1x2x512, .f32⟩
  | .local _ .vmem, ⟨13, _⟩ => ⟨S1x2x512, .f32⟩
  | .local _ .vmem, ⟨14, _⟩ => ⟨S128x2x512, .f32⟩
  | .local _ .vmem, ⟨15, _⟩ => ⟨S128x2x512, .f32⟩
  | .local _ .vmem, ⟨16, _⟩ => ⟨S1032x512, .f32⟩
  | .local _ .vmem, ⟨17, _⟩ => ⟨S1040x512, .f32⟩
  | .local _ .vmem, ⟨18, _⟩ => ⟨S128x16x512, .f32⟩
  | .local _ .vmem, ⟨19, _⟩ => ⟨S128x24x512, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_cond5 (i : grid0.Coords) : BitVec 1 :=
  let arg0 : BitVec 32 := BitVec.ofNat 32 (i 0).val
  let c15_i32 : BitVec 32 := 15#32
  let v25 : BitVec 1 := Scalar.cmpi .eq arg0 c15_i32
  let v26 : BitVec 32 := Scalar.extui v25
  let c0_i32_12 : BitVec 32 := 0#32
  let v27 : BitVec 1 := Scalar.cmpi .ne v26 c0_i32_12
  v27

def k0_mult1 : BitVec 32 :=
  let c0_i32_439 : BitVec 32 := 0#32
  c0_i32_439
def k0_mult2 : BitVec 32 :=
  let c0_i32_447 : BitVec 32 := 0#32
  c0_i32_447
def k0_mult3 : BitVec 32 :=
  let c0_i32_455 : BitVec 32 := 0#32
  c0_i32_455
def k0_mult4 : BitVec 32 :=
  let c0_i32_463 : BitVec 32 := 0#32
  c0_i32_463
def k0_mult5 : BitVec 32 :=
  let c0_i32_471 : BitVec 32 := 0#32
  c0_i32_471
def k0_mult6 : BitVec 32 :=
  let c0_i32_479 : BitVec 32 := 0#32
  c0_i32_479
def k0_mult7 : BitVec 32 :=
  let c0_i32_487 : BitVec 32 := 0#32
  c0_i32_487
def k0_mult8 : BitVec 32 :=
  let c0_i32_495 : BitVec 32 := 0#32
  c0_i32_495
def k0_mult9 : BitVec 32 :=
  let c0_i32_503 : BitVec 32 := 0#32
  c0_i32_503
def k0_mult10 : BitVec 32 :=
  let c0_i32_511 : BitVec 32 := 0#32
  c0_i32_511
def k0_mult11 : BitVec 32 :=
  let c0_i32_519 : BitVec 32 := 0#32
  c0_i32_519
def k0_mult12 : BitVec 32 :=
  let c0_i32_527 : BitVec 32 := 0#32
  c0_i32_527
def k0_mult13 : BitVec 32 :=
  let c0_i32_535 : BitVec 32 := 0#32
  c0_i32_535
def k0_mult14 : BitVec 32 :=
  let c0_i32_543 : BitVec 32 := 0#32
  c0_i32_543
def k0_mult15 : BitVec 32 :=
  let c0_i32_551 : BitVec 32 := 0#32
  c0_i32_551
def k0_off1 (i : grid0.Coords) : Fin 3 → Nat :=
  let c0_i32_35 : BitVec 32 := 0#32
  let arg0 : BitVec 32 := BitVec.ofNat 32 (i 0).val
  let c0_i32_29 : BitVec 32 := 0#32
  let v57 : BitVec 1 := Scalar.cmpi .sgt arg0 c0_i32_29
  let v58 : BitVec 32 := Scalar.extui v57
  let c0_i32_30 : BitVec 32 := 0#32
  let v59 : BitVec 1 := Scalar.cmpi .slt arg0 c0_i32_30
  let v60 : BitVec 32 := Scalar.extui v59
  let v61 : BitVec 32 := Scalar.subi v58 v60
  let c2_i32_28 : BitVec 32 := 2#32
  let c0_i32_31 : BitVec 32 := 0#32
  let v62 : BitVec 1 := Scalar.cmpi .sgt c2_i32_28 c0_i32_31
  let v63 : BitVec 32 := Scalar.extui v62
  let c0_i32_32 : BitVec 32 := 0#32
  let v64 : BitVec 1 := Scalar.cmpi .slt c2_i32_28 c0_i32_32
  let v65 : BitVec 32 := Scalar.extui v64
  let v66 : BitVec 32 := Scalar.subi v63 v65
  let v67 : BitVec 1 := Scalar.cmpi .ne v61 v66
  let v68 : BitVec 32 := Scalar.remsi arg0 c2_i32_28
  let c0_i32_33 : BitVec 32 := 0#32
  let v69 : BitVec 1 := Scalar.cmpi .ne v68 c0_i32_33
  let v70 : BitVec 1 := Scalar.andi v67 v69
  let v56 : BitVec 32 := Scalar.divsi arg0 c2_i32_28
  let c1_i32_34 : BitVec 32 := 1#32
  let v71 : BitVec 32 := Scalar.subi v56 c1_i32_34
  let v72 : BitVec 32 := Scalar.select v70 v71 v56
  let c0_i32_38 : BitVec 32 := 0#32
  ![0, v72.toNat, 0]
def k0_off2 (i : grid0.Coords) : Fin 3 → Nat :=
  let c1_i32_47 : BitVec 32 := 1#32
  let arg0 : BitVec 32 := BitVec.ofNat 32 (i 0).val
  let c0_i32_41 : BitVec 32 := 0#32
  let v80 : BitVec 1 := Scalar.cmpi .sgt arg0 c0_i32_41
  let v81 : BitVec 32 := Scalar.extui v80
  let c0_i32_42 : BitVec 32 := 0#32
  let v82 : BitVec 1 := Scalar.cmpi .slt arg0 c0_i32_42
  let v83 : BitVec 32 := Scalar.extui v82
  let v84 : BitVec 32 := Scalar.subi v81 v83
  let c2_i32_40 : BitVec 32 := 2#32
  let c0_i32_43 : BitVec 32 := 0#32
  let v85 : BitVec 1 := Scalar.cmpi .sgt c2_i32_40 c0_i32_43
  let v86 : BitVec 32 := Scalar.extui v85
  let c0_i32_44 : BitVec 32 := 0#32
  let v87 : BitVec 1 := Scalar.cmpi .slt c2_i32_40 c0_i32_44
  let v88 : BitVec 32 := Scalar.extui v87
  let v89 : BitVec 32 := Scalar.subi v86 v88
  let v90 : BitVec 1 := Scalar.cmpi .ne v84 v89
  let v91 : BitVec 32 := Scalar.remsi arg0 c2_i32_40
  let c0_i32_45 : BitVec 32 := 0#32
  let v92 : BitVec 1 := Scalar.cmpi .ne v91 c0_i32_45
  let v93 : BitVec 1 := Scalar.andi v90 v92
  let v79 : BitVec 32 := Scalar.divsi arg0 c2_i32_40
  let c1_i32_46 : BitVec 32 := 1#32
  let v94 : BitVec 32 := Scalar.subi v79 c1_i32_46
  let v95 : BitVec 32 := Scalar.select v93 v94 v79
  let c0_i32_50 : BitVec 32 := 0#32
  ![1, v95.toNat, 0]
def k0_off3 (i : grid0.Coords) : Fin 3 → Nat :=
  let c2_i32_59 : BitVec 32 := 2#32
  let arg0 : BitVec 32 := BitVec.ofNat 32 (i 0).val
  let c0_i32_53 : BitVec 32 := 0#32
  let v103 : BitVec 1 := Scalar.cmpi .sgt arg0 c0_i32_53
  let v104 : BitVec 32 := Scalar.extui v103
  let c0_i32_54 : BitVec 32 := 0#32
  let v105 : BitVec 1 := Scalar.cmpi .slt arg0 c0_i32_54
  let v106 : BitVec 32 := Scalar.extui v105
  let v107 : BitVec 32 := Scalar.subi v104 v106
  let c2_i32_52 : BitVec 32 := 2#32
  let c0_i32_55 : BitVec 32 := 0#32
  let v108 : BitVec 1 := Scalar.cmpi .sgt c2_i32_52 c0_i32_55
  let v109 : BitVec 32 := Scalar.extui v108
  let c0_i32_56 : BitVec 32 := 0#32
  let v110 : BitVec 1 := Scalar.cmpi .slt c2_i32_52 c0_i32_56
  let v111 : BitVec 32 := Scalar.extui v110
  let v112 : BitVec 32 := Scalar.subi v109 v111
  let v113 : BitVec 1 := Scalar.cmpi .ne v107 v112
  let v114 : BitVec 32 := Scalar.remsi arg0 c2_i32_52
  let c0_i32_57 : BitVec 32 := 0#32
  let v115 : BitVec 1 := Scalar.cmpi .ne v114 c0_i32_57
  let v116 : BitVec 1 := Scalar.andi v113 v115
  let v102 : BitVec 32 := Scalar.divsi arg0 c2_i32_52
  let c1_i32_58 : BitVec 32 := 1#32
  let v117 : BitVec 32 := Scalar.subi v102 c1_i32_58
  let v118 : BitVec 32 := Scalar.select v116 v117 v102
  let c0_i32_62 : BitVec 32 := 0#32
  ![2, v118.toNat, 0]
def k0_off4 (i : grid0.Coords) : Fin 3 → Nat :=
  let c3_i32 : BitVec 32 := 3#32
  let arg0 : BitVec 32 := BitVec.ofNat 32 (i 0).val
  let c0_i32_65 : BitVec 32 := 0#32
  let v126 : BitVec 1 := Scalar.cmpi .sgt arg0 c0_i32_65
  let v127 : BitVec 32 := Scalar.extui v126
  let c0_i32_66 : BitVec 32 := 0#32
  let v128 : BitVec 1 := Scalar.cmpi .slt arg0 c0_i32_66
  let v129 : BitVec 32 := Scalar.extui v128
  let v130 : BitVec 32 := Scalar.subi v127 v129
  let c2_i32_64 : BitVec 32 := 2#32
  let c0_i32_67 : BitVec 32 := 0#32
  let v131 : BitVec 1 := Scalar.cmpi .sgt c2_i32_64 c0_i32_67
  let v132 : BitVec 32 := Scalar.extui v131
  let c0_i32_68 : BitVec 32 := 0#32
  let v133 : BitVec 1 := Scalar.cmpi .slt c2_i32_64 c0_i32_68
  let v134 : BitVec 32 := Scalar.extui v133
  let v135 : BitVec 32 := Scalar.subi v132 v134
  let v136 : BitVec 1 := Scalar.cmpi .ne v130 v135
  let v137 : BitVec 32 := Scalar.remsi arg0 c2_i32_64
  let c0_i32_69 : BitVec 32 := 0#32
  let v138 : BitVec 1 := Scalar.cmpi .ne v137 c0_i32_69
  let v139 : BitVec 1 := Scalar.andi v136 v138
  let v125 : BitVec 32 := Scalar.divsi arg0 c2_i32_64
  let c1_i32_70 : BitVec 32 := 1#32
  let v140 : BitVec 32 := Scalar.subi v125 c1_i32_70
  let v141 : BitVec 32 := Scalar.select v139 v140 v125
  let c0_i32_73 : BitVec 32 := 0#32
  ![3, v141.toNat, 0]
def k0_off5 (i : grid0.Coords) : Fin 3 → Nat :=
  let c4_i32 : BitVec 32 := 4#32
  let arg0 : BitVec 32 := BitVec.ofNat 32 (i 0).val
  let c0_i32_76 : BitVec 32 := 0#32
  let v149 : BitVec 1 := Scalar.cmpi .sgt arg0 c0_i32_76
  let v150 : BitVec 32 := Scalar.extui v149
  let c0_i32_77 : BitVec 32 := 0#32
  let v151 : BitVec 1 := Scalar.cmpi .slt arg0 c0_i32_77
  let v152 : BitVec 32 := Scalar.extui v151
  let v153 : BitVec 32 := Scalar.subi v150 v152
  let c2_i32_75 : BitVec 32 := 2#32
  let c0_i32_78 : BitVec 32 := 0#32
  let v154 : BitVec 1 := Scalar.cmpi .sgt c2_i32_75 c0_i32_78
  let v155 : BitVec 32 := Scalar.extui v154
  let c0_i32_79 : BitVec 32 := 0#32
  let v156 : BitVec 1 := Scalar.cmpi .slt c2_i32_75 c0_i32_79
  let v157 : BitVec 32 := Scalar.extui v156
  let v158 : BitVec 32 := Scalar.subi v155 v157
  let v159 : BitVec 1 := Scalar.cmpi .ne v153 v158
  let v160 : BitVec 32 := Scalar.remsi arg0 c2_i32_75
  let c0_i32_80 : BitVec 32 := 0#32
  let v161 : BitVec 1 := Scalar.cmpi .ne v160 c0_i32_80
  let v162 : BitVec 1 := Scalar.andi v159 v161
  let v148 : BitVec 32 := Scalar.divsi arg0 c2_i32_75
  let c1_i32_81 : BitVec 32 := 1#32
  let v163 : BitVec 32 := Scalar.subi v148 c1_i32_81
  let v164 : BitVec 32 := Scalar.select v162 v163 v148
  let c0_i32_84 : BitVec 32 := 0#32
  ![4, v164.toNat, 0]
def k0_off6 (i : grid0.Coords) : Fin 3 → Nat :=
  let c5_i32 : BitVec 32 := 5#32
  let arg0 : BitVec 32 := BitVec.ofNat 32 (i 0).val
  let c0_i32_87 : BitVec 32 := 0#32
  let v172 : BitVec 1 := Scalar.cmpi .sgt arg0 c0_i32_87
  let v173 : BitVec 32 := Scalar.extui v172
  let c0_i32_88 : BitVec 32 := 0#32
  let v174 : BitVec 1 := Scalar.cmpi .slt arg0 c0_i32_88
  let v175 : BitVec 32 := Scalar.extui v174
  let v176 : BitVec 32 := Scalar.subi v173 v175
  let c2_i32_86 : BitVec 32 := 2#32
  let c0_i32_89 : BitVec 32 := 0#32
  let v177 : BitVec 1 := Scalar.cmpi .sgt c2_i32_86 c0_i32_89
  let v178 : BitVec 32 := Scalar.extui v177
  let c0_i32_90 : BitVec 32 := 0#32
  let v179 : BitVec 1 := Scalar.cmpi .slt c2_i32_86 c0_i32_90
  let v180 : BitVec 32 := Scalar.extui v179
  let v181 : BitVec 32 := Scalar.subi v178 v180
  let v182 : BitVec 1 := Scalar.cmpi .ne v176 v181
  let v183 : BitVec 32 := Scalar.remsi arg0 c2_i32_86
  let c0_i32_91 : BitVec 32 := 0#32
  let v184 : BitVec 1 := Scalar.cmpi .ne v183 c0_i32_91
  let v185 : BitVec 1 := Scalar.andi v182 v184
  let v171 : BitVec 32 := Scalar.divsi arg0 c2_i32_86
  let c1_i32_92 : BitVec 32 := 1#32
  let v186 : BitVec 32 := Scalar.subi v171 c1_i32_92
  let v187 : BitVec 32 := Scalar.select v185 v186 v171
  let c0_i32_95 : BitVec 32 := 0#32
  ![5, v187.toNat, 0]
def k0_off7 (i : grid0.Coords) : Fin 3 → Nat :=
  let c6_i32 : BitVec 32 := 6#32
  let arg0 : BitVec 32 := BitVec.ofNat 32 (i 0).val
  let c0_i32_98 : BitVec 32 := 0#32
  let v195 : BitVec 1 := Scalar.cmpi .sgt arg0 c0_i32_98
  let v196 : BitVec 32 := Scalar.extui v195
  let c0_i32_99 : BitVec 32 := 0#32
  let v197 : BitVec 1 := Scalar.cmpi .slt arg0 c0_i32_99
  let v198 : BitVec 32 := Scalar.extui v197
  let v199 : BitVec 32 := Scalar.subi v196 v198
  let c2_i32_97 : BitVec 32 := 2#32
  let c0_i32_100 : BitVec 32 := 0#32
  let v200 : BitVec 1 := Scalar.cmpi .sgt c2_i32_97 c0_i32_100
  let v201 : BitVec 32 := Scalar.extui v200
  let c0_i32_101 : BitVec 32 := 0#32
  let v202 : BitVec 1 := Scalar.cmpi .slt c2_i32_97 c0_i32_101
  let v203 : BitVec 32 := Scalar.extui v202
  let v204 : BitVec 32 := Scalar.subi v201 v203
  let v205 : BitVec 1 := Scalar.cmpi .ne v199 v204
  let v206 : BitVec 32 := Scalar.remsi arg0 c2_i32_97
  let c0_i32_102 : BitVec 32 := 0#32
  let v207 : BitVec 1 := Scalar.cmpi .ne v206 c0_i32_102
  let v208 : BitVec 1 := Scalar.andi v205 v207
  let v194 : BitVec 32 := Scalar.divsi arg0 c2_i32_97
  let c1_i32_103 : BitVec 32 := 1#32
  let v209 : BitVec 32 := Scalar.subi v194 c1_i32_103
  let v210 : BitVec 32 := Scalar.select v208 v209 v194
  let c0_i32_106 : BitVec 32 := 0#32
  ![6, v210.toNat, 0]
def k0_off8 (i : grid0.Coords) : Fin 3 → Nat :=
  let c7_i32 : BitVec 32 := 7#32
  let arg0 : BitVec 32 := BitVec.ofNat 32 (i 0).val
  let c0_i32_109 : BitVec 32 := 0#32
  let v218 : BitVec 1 := Scalar.cmpi .sgt arg0 c0_i32_109
  let v219 : BitVec 32 := Scalar.extui v218
  let c0_i32_110 : BitVec 32 := 0#32
  let v220 : BitVec 1 := Scalar.cmpi .slt arg0 c0_i32_110
  let v221 : BitVec 32 := Scalar.extui v220
  let v222 : BitVec 32 := Scalar.subi v219 v221
  let c2_i32_108 : BitVec 32 := 2#32
  let c0_i32_111 : BitVec 32 := 0#32
  let v223 : BitVec 1 := Scalar.cmpi .sgt c2_i32_108 c0_i32_111
  let v224 : BitVec 32 := Scalar.extui v223
  let c0_i32_112 : BitVec 32 := 0#32
  let v225 : BitVec 1 := Scalar.cmpi .slt c2_i32_108 c0_i32_112
  let v226 : BitVec 32 := Scalar.extui v225
  let v227 : BitVec 32 := Scalar.subi v224 v226
  let v228 : BitVec 1 := Scalar.cmpi .ne v222 v227
  let v229 : BitVec 32 := Scalar.remsi arg0 c2_i32_108
  let c0_i32_113 : BitVec 32 := 0#32
  let v230 : BitVec 1 := Scalar.cmpi .ne v229 c0_i32_113
  let v231 : BitVec 1 := Scalar.andi v228 v230
  let v217 : BitVec 32 := Scalar.divsi arg0 c2_i32_108
  let c1_i32_114 : BitVec 32 := 1#32
  let v232 : BitVec 32 := Scalar.subi v217 c1_i32_114
  let v233 : BitVec 32 := Scalar.select v231 v232 v217
  let c0_i32_117 : BitVec 32 := 0#32
  ![7, v233.toNat, 0]
def k0_off9 (i : grid0.Coords) : Fin 3 → Nat :=
  let c8_i32 : BitVec 32 := 8#32
  let arg0 : BitVec 32 := BitVec.ofNat 32 (i 0).val
  let c0_i32_120 : BitVec 32 := 0#32
  let v241 : BitVec 1 := Scalar.cmpi .sgt arg0 c0_i32_120
  let v242 : BitVec 32 := Scalar.extui v241
  let c0_i32_121 : BitVec 32 := 0#32
  let v243 : BitVec 1 := Scalar.cmpi .slt arg0 c0_i32_121
  let v244 : BitVec 32 := Scalar.extui v243
  let v245 : BitVec 32 := Scalar.subi v242 v244
  let c2_i32_119 : BitVec 32 := 2#32
  let c0_i32_122 : BitVec 32 := 0#32
  let v246 : BitVec 1 := Scalar.cmpi .sgt c2_i32_119 c0_i32_122
  let v247 : BitVec 32 := Scalar.extui v246
  let c0_i32_123 : BitVec 32 := 0#32
  let v248 : BitVec 1 := Scalar.cmpi .slt c2_i32_119 c0_i32_123
  let v249 : BitVec 32 := Scalar.extui v248
  let v250 : BitVec 32 := Scalar.subi v247 v249
  let v251 : BitVec 1 := Scalar.cmpi .ne v245 v250
  let v252 : BitVec 32 := Scalar.remsi arg0 c2_i32_119
  let c0_i32_124 : BitVec 32 := 0#32
  let v253 : BitVec 1 := Scalar.cmpi .ne v252 c0_i32_124
  let v254 : BitVec 1 := Scalar.andi v251 v253
  let v240 : BitVec 32 := Scalar.divsi arg0 c2_i32_119
  let c1_i32_125 : BitVec 32 := 1#32
  let v255 : BitVec 32 := Scalar.subi v240 c1_i32_125
  let v256 : BitVec 32 := Scalar.select v254 v255 v240
  let c0_i32_128 : BitVec 32 := 0#32
  ![8, v256.toNat, 0]
def k0_off10 (i : grid0.Coords) : Fin 3 → Nat :=
  let c9_i32 : BitVec 32 := 9#32
  let arg0 : BitVec 32 := BitVec.ofNat 32 (i 0).val
  let c0_i32_131 : BitVec 32 := 0#32
  let v264 : BitVec 1 := Scalar.cmpi .sgt arg0 c0_i32_131
  let v265 : BitVec 32 := Scalar.extui v264
  let c0_i32_132 : BitVec 32 := 0#32
  let v266 : BitVec 1 := Scalar.cmpi .slt arg0 c0_i32_132
  let v267 : BitVec 32 := Scalar.extui v266
  let v268 : BitVec 32 := Scalar.subi v265 v267
  let c2_i32_130 : BitVec 32 := 2#32
  let c0_i32_133 : BitVec 32 := 0#32
  let v269 : BitVec 1 := Scalar.cmpi .sgt c2_i32_130 c0_i32_133
  let v270 : BitVec 32 := Scalar.extui v269
  let c0_i32_134 : BitVec 32 := 0#32
  let v271 : BitVec 1 := Scalar.cmpi .slt c2_i32_130 c0_i32_134
  let v272 : BitVec 32 := Scalar.extui v271
  let v273 : BitVec 32 := Scalar.subi v270 v272
  let v274 : BitVec 1 := Scalar.cmpi .ne v268 v273
  let v275 : BitVec 32 := Scalar.remsi arg0 c2_i32_130
  let c0_i32_135 : BitVec 32 := 0#32
  let v276 : BitVec 1 := Scalar.cmpi .ne v275 c0_i32_135
  let v277 : BitVec 1 := Scalar.andi v274 v276
  let v263 : BitVec 32 := Scalar.divsi arg0 c2_i32_130
  let c1_i32_136 : BitVec 32 := 1#32
  let v278 : BitVec 32 := Scalar.subi v263 c1_i32_136
  let v279 : BitVec 32 := Scalar.select v277 v278 v263
  let c0_i32_139 : BitVec 32 := 0#32
  ![9, v279.toNat, 0]
def k0_off11 (i : grid0.Coords) : Fin 3 → Nat :=
  let c10_i32 : BitVec 32 := 10#32
  let arg0 : BitVec 32 := BitVec.ofNat 32 (i 0).val
  let c0_i32_142 : BitVec 32 := 0#32
  let v287 : BitVec 1 := Scalar.cmpi .sgt arg0 c0_i32_142
  let v288 : BitVec 32 := Scalar.extui v287
  let c0_i32_143 : BitVec 32 := 0#32
  let v289 : BitVec 1 := Scalar.cmpi .slt arg0 c0_i32_143
  let v290 : BitVec 32 := Scalar.extui v289
  let v291 : BitVec 32 := Scalar.subi v288 v290
  let c2_i32_141 : BitVec 32 := 2#32
  let c0_i32_144 : BitVec 32 := 0#32
  let v292 : BitVec 1 := Scalar.cmpi .sgt c2_i32_141 c0_i32_144
  let v293 : BitVec 32 := Scalar.extui v292
  let c0_i32_145 : BitVec 32 := 0#32
  let v294 : BitVec 1 := Scalar.cmpi .slt c2_i32_141 c0_i32_145
  let v295 : BitVec 32 := Scalar.extui v294
  let v296 : BitVec 32 := Scalar.subi v293 v295
  let v297 : BitVec 1 := Scalar.cmpi .ne v291 v296
  let v298 : BitVec 32 := Scalar.remsi arg0 c2_i32_141
  let c0_i32_146 : BitVec 32 := 0#32
  let v299 : BitVec 1 := Scalar.cmpi .ne v298 c0_i32_146
  let v300 : BitVec 1 := Scalar.andi v297 v299
  let v286 : BitVec 32 := Scalar.divsi arg0 c2_i32_141
  let c1_i32_147 : BitVec 32 := 1#32
  let v301 : BitVec 32 := Scalar.subi v286 c1_i32_147
  let v302 : BitVec 32 := Scalar.select v300 v301 v286
  let c0_i32_150 : BitVec 32 := 0#32
  ![10, v302.toNat, 0]
def k0_off12 (i : grid0.Coords) : Fin 3 → Nat :=
  let c11_i32 : BitVec 32 := 11#32
  let arg0 : BitVec 32 := BitVec.ofNat 32 (i 0).val
  let c0_i32_153 : BitVec 32 := 0#32
  let v310 : BitVec 1 := Scalar.cmpi .sgt arg0 c0_i32_153
  let v311 : BitVec 32 := Scalar.extui v310
  let c0_i32_154 : BitVec 32 := 0#32
  let v312 : BitVec 1 := Scalar.cmpi .slt arg0 c0_i32_154
  let v313 : BitVec 32 := Scalar.extui v312
  let v314 : BitVec 32 := Scalar.subi v311 v313
  let c2_i32_152 : BitVec 32 := 2#32
  let c0_i32_155 : BitVec 32 := 0#32
  let v315 : BitVec 1 := Scalar.cmpi .sgt c2_i32_152 c0_i32_155
  let v316 : BitVec 32 := Scalar.extui v315
  let c0_i32_156 : BitVec 32 := 0#32
  let v317 : BitVec 1 := Scalar.cmpi .slt c2_i32_152 c0_i32_156
  let v318 : BitVec 32 := Scalar.extui v317
  let v319 : BitVec 32 := Scalar.subi v316 v318
  let v320 : BitVec 1 := Scalar.cmpi .ne v314 v319
  let v321 : BitVec 32 := Scalar.remsi arg0 c2_i32_152
  let c0_i32_157 : BitVec 32 := 0#32
  let v322 : BitVec 1 := Scalar.cmpi .ne v321 c0_i32_157
  let v323 : BitVec 1 := Scalar.andi v320 v322
  let v309 : BitVec 32 := Scalar.divsi arg0 c2_i32_152
  let c1_i32_158 : BitVec 32 := 1#32
  let v324 : BitVec 32 := Scalar.subi v309 c1_i32_158
  let v325 : BitVec 32 := Scalar.select v323 v324 v309
  let c0_i32_161 : BitVec 32 := 0#32
  ![11, v325.toNat, 0]
def k0_off13 (i : grid0.Coords) : Fin 3 → Nat :=
  let c12_i32 : BitVec 32 := 12#32
  let arg0 : BitVec 32 := BitVec.ofNat 32 (i 0).val
  let c0_i32_164 : BitVec 32 := 0#32
  let v333 : BitVec 1 := Scalar.cmpi .sgt arg0 c0_i32_164
  let v334 : BitVec 32 := Scalar.extui v333
  let c0_i32_165 : BitVec 32 := 0#32
  let v335 : BitVec 1 := Scalar.cmpi .slt arg0 c0_i32_165
  let v336 : BitVec 32 := Scalar.extui v335
  let v337 : BitVec 32 := Scalar.subi v334 v336
  let c2_i32_163 : BitVec 32 := 2#32
  let c0_i32_166 : BitVec 32 := 0#32
  let v338 : BitVec 1 := Scalar.cmpi .sgt c2_i32_163 c0_i32_166
  let v339 : BitVec 32 := Scalar.extui v338
  let c0_i32_167 : BitVec 32 := 0#32
  let v340 : BitVec 1 := Scalar.cmpi .slt c2_i32_163 c0_i32_167
  let v341 : BitVec 32 := Scalar.extui v340
  let v342 : BitVec 32 := Scalar.subi v339 v341
  let v343 : BitVec 1 := Scalar.cmpi .ne v337 v342
  let v344 : BitVec 32 := Scalar.remsi arg0 c2_i32_163
  let c0_i32_168 : BitVec 32 := 0#32
  let v345 : BitVec 1 := Scalar.cmpi .ne v344 c0_i32_168
  let v346 : BitVec 1 := Scalar.andi v343 v345
  let v332 : BitVec 32 := Scalar.divsi arg0 c2_i32_163
  let c1_i32_169 : BitVec 32 := 1#32
  let v347 : BitVec 32 := Scalar.subi v332 c1_i32_169
  let v348 : BitVec 32 := Scalar.select v346 v347 v332
  let c0_i32_172 : BitVec 32 := 0#32
  ![12, v348.toNat, 0]
def k0_off14 (i : grid0.Coords) : Fin 3 → Nat :=
  let c13_i32 : BitVec 32 := 13#32
  let arg0 : BitVec 32 := BitVec.ofNat 32 (i 0).val
  let c0_i32_175 : BitVec 32 := 0#32
  let v356 : BitVec 1 := Scalar.cmpi .sgt arg0 c0_i32_175
  let v357 : BitVec 32 := Scalar.extui v356
  let c0_i32_176 : BitVec 32 := 0#32
  let v358 : BitVec 1 := Scalar.cmpi .slt arg0 c0_i32_176
  let v359 : BitVec 32 := Scalar.extui v358
  let v360 : BitVec 32 := Scalar.subi v357 v359
  let c2_i32_174 : BitVec 32 := 2#32
  let c0_i32_177 : BitVec 32 := 0#32
  let v361 : BitVec 1 := Scalar.cmpi .sgt c2_i32_174 c0_i32_177
  let v362 : BitVec 32 := Scalar.extui v361
  let c0_i32_178 : BitVec 32 := 0#32
  let v363 : BitVec 1 := Scalar.cmpi .slt c2_i32_174 c0_i32_178
  let v364 : BitVec 32 := Scalar.extui v363
  let v365 : BitVec 32 := Scalar.subi v362 v364
  let v366 : BitVec 1 := Scalar.cmpi .ne v360 v365
  let v367 : BitVec 32 := Scalar.remsi arg0 c2_i32_174
  let c0_i32_179 : BitVec 32 := 0#32
  let v368 : BitVec 1 := Scalar.cmpi .ne v367 c0_i32_179
  let v369 : BitVec 1 := Scalar.andi v366 v368
  let v355 : BitVec 32 := Scalar.divsi arg0 c2_i32_174
  let c1_i32_180 : BitVec 32 := 1#32
  let v370 : BitVec 32 := Scalar.subi v355 c1_i32_180
  let v371 : BitVec 32 := Scalar.select v369 v370 v355
  let c0_i32_183 : BitVec 32 := 0#32
  ![13, v371.toNat, 0]
def k0_off15 (i : grid0.Coords) : Fin 3 → Nat :=
  let c14_i32 : BitVec 32 := 14#32
  let arg0 : BitVec 32 := BitVec.ofNat 32 (i 0).val
  let c0_i32_186 : BitVec 32 := 0#32
  let v379 : BitVec 1 := Scalar.cmpi .sgt arg0 c0_i32_186
  let v380 : BitVec 32 := Scalar.extui v379
  let c0_i32_187 : BitVec 32 := 0#32
  let v381 : BitVec 1 := Scalar.cmpi .slt arg0 c0_i32_187
  let v382 : BitVec 32 := Scalar.extui v381
  let v383 : BitVec 32 := Scalar.subi v380 v382
  let c2_i32_185 : BitVec 32 := 2#32
  let c0_i32_188 : BitVec 32 := 0#32
  let v384 : BitVec 1 := Scalar.cmpi .sgt c2_i32_185 c0_i32_188
  let v385 : BitVec 32 := Scalar.extui v384
  let c0_i32_189 : BitVec 32 := 0#32
  let v386 : BitVec 1 := Scalar.cmpi .slt c2_i32_185 c0_i32_189
  let v387 : BitVec 32 := Scalar.extui v386
  let v388 : BitVec 32 := Scalar.subi v385 v387
  let v389 : BitVec 1 := Scalar.cmpi .ne v383 v388
  let v390 : BitVec 32 := Scalar.remsi arg0 c2_i32_185
  let c0_i32_190 : BitVec 32 := 0#32
  let v391 : BitVec 1 := Scalar.cmpi .ne v390 c0_i32_190
  let v392 : BitVec 1 := Scalar.andi v389 v391
  let v378 : BitVec 32 := Scalar.divsi arg0 c2_i32_185
  let c1_i32_191 : BitVec 32 := 1#32
  let v393 : BitVec 32 := Scalar.subi v378 c1_i32_191
  let v394 : BitVec 32 := Scalar.select v392 v393 v378
  let c0_i32_194 : BitVec 32 := 0#32
  ![14, v394.toNat, 0]
def k0_cond6 (i : grid0.Coords) : BitVec 1 :=
  let arg0 : BitVec 32 := BitVec.ofNat 32 (i 0).val
  let c16_i32_2 : BitVec 32 := 16#32
  let v6 : BitVec 1 := Scalar.cmpi .sge arg0 c16_i32_2
  let v7 : BitVec 32 := Scalar.extui v6
  let c0_i32_3 : BitVec 32 := 0#32
  let v8 : BitVec 1 := Scalar.cmpi .ne v7 c0_i32_3
  v8

def k0_mult16 (i : grid0.Coords) : BitVec 32 :=
  let arg0 : BitVec 32 := BitVec.ofNat 32 (i 0).val
  let c16_i32_4 : BitVec 32 := 16#32
  let v9 : BitVec 32 := Scalar.subi arg0 c16_i32_4
  let c128_i32 : BitVec 32 := 128#32
  let v10 : BitVec 32 := Scalar.muli v9 c128_i32
  v10
def k0_cond7 (i : grid0.Coords) : BitVec 1 :=
  let arg0 : BitVec 32 := BitVec.ofNat 32 (i 0).val
  let c16_i32_5 : BitVec 32 := 16#32
  let v12 : BitVec 1 := Scalar.cmpi .sgt arg0 c16_i32_5
  let v13 : BitVec 32 := Scalar.extui v12
  let c0_i32_6 : BitVec 32 := 0#32
  let v14 : BitVec 1 := Scalar.cmpi .ne v13 c0_i32_6
  v14

def k0_mult17 (i : grid0.Coords) : BitVec 32 :=
  let arg0 : BitVec 32 := BitVec.ofNat 32 (i 0).val
  let c16_i32_402 : BitVec 32 := 16#32
  let v494 : BitVec 32 := Scalar.subi arg0 c16_i32_402
  let c128_i32_403 : BitVec 32 := 128#32
  let v495 : BitVec 32 := Scalar.muli v494 c128_i32_403
  v495
def k0_off16 (i : grid0.Coords) : Fin 3 → Nat :=
  let c0_i32_404 : BitVec 32 := 0#32
  let arg0 : BitVec 32 := BitVec.ofNat 32 (i 0).val
  let c16_i32_402 : BitVec 32 := 16#32
  let v494 : BitVec 32 := Scalar.subi arg0 c16_i32_402
  let c128_i32_403 : BitVec 32 := 128#32
  let v495 : BitVec 32 := Scalar.muli v494 c128_i32_403
  let v496 : BitVec 32 := v495
  let c0_i32_410 : BitVec 32 := 0#32
  ![0, v496.toNat, 0]
def k0_mult18 (i : grid0.Coords) : BitVec 32 :=
  let arg0 : BitVec 32 := BitVec.ofNat 32 (i 0).val
  let c16_i32_411 : BitVec 32 := 16#32
  let v503 : BitVec 32 := Scalar.subi arg0 c16_i32_411
  let c128_i32_412 : BitVec 32 := 128#32
  let v504 : BitVec 32 := Scalar.muli v503 c128_i32_412
  v504
def k0_off17 (i : grid0.Coords) : Fin 3 → Nat :=
  let c1_i32_413 : BitVec 32 := 1#32
  let arg0 : BitVec 32 := BitVec.ofNat 32 (i 0).val
  let c16_i32_411 : BitVec 32 := 16#32
  let v503 : BitVec 32 := Scalar.subi arg0 c16_i32_411
  let c128_i32_412 : BitVec 32 := 128#32
  let v504 : BitVec 32 := Scalar.muli v503 c128_i32_412
  let v505 : BitVec 32 := v504
  let c0_i32_419 : BitVec 32 := 0#32
  ![1, v505.toNat, 0]
def k0_mult19 (i : grid0.Coords) : BitVec 32 :=
  let arg0 : BitVec 32 := BitVec.ofNat 32 (i 0).val
  let c16_i32_420 : BitVec 32 := 16#32
  let v512 : BitVec 32 := Scalar.subi arg0 c16_i32_420
  let c128_i32_421 : BitVec 32 := 128#32
  let v513 : BitVec 32 := Scalar.muli v512 c128_i32_421
  v513
def k0_off18 (i : grid0.Coords) : Fin 3 → Nat :=
  let c2_i32_422 : BitVec 32 := 2#32
  let arg0 : BitVec 32 := BitVec.ofNat 32 (i 0).val
  let c16_i32_420 : BitVec 32 := 16#32
  let v512 : BitVec 32 := Scalar.subi arg0 c16_i32_420
  let c128_i32_421 : BitVec 32 := 128#32
  let v513 : BitVec 32 := Scalar.muli v512 c128_i32_421
  let v514 : BitVec 32 := v513
  let c0_i32_428 : BitVec 32 := 0#32
  ![2, v514.toNat, 0]
def k0_mult20 (i : grid0.Coords) : BitVec 32 :=
  let arg0 : BitVec 32 := BitVec.ofNat 32 (i 0).val
  let c16_i32_429 : BitVec 32 := 16#32
  let v521 : BitVec 32 := Scalar.subi arg0 c16_i32_429
  let c128_i32_430 : BitVec 32 := 128#32
  let v522 : BitVec 32 := Scalar.muli v521 c128_i32_430
  v522
def k0_off19 (i : grid0.Coords) : Fin 3 → Nat :=
  let c3_i32_431 : BitVec 32 := 3#32
  let arg0 : BitVec 32 := BitVec.ofNat 32 (i 0).val
  let c16_i32_429 : BitVec 32 := 16#32
  let v521 : BitVec 32 := Scalar.subi arg0 c16_i32_429
  let c128_i32_430 : BitVec 32 := 128#32
  let v522 : BitVec 32 := Scalar.muli v521 c128_i32_430
  let v523 : BitVec 32 := v522
  let c0_i32_437 : BitVec 32 := 0#32
  ![3, v523.toNat, 0]
def k0_mult21 (i : grid0.Coords) : BitVec 32 :=
  let arg0 : BitVec 32 := BitVec.ofNat 32 (i 0).val
  let c16_i32_438 : BitVec 32 := 16#32
  let v530 : BitVec 32 := Scalar.subi arg0 c16_i32_438
  let c128_i32_439 : BitVec 32 := 128#32
  let v531 : BitVec 32 := Scalar.muli v530 c128_i32_439
  v531
def k0_off20 (i : grid0.Coords) : Fin 3 → Nat :=
  let c4_i32_440 : BitVec 32 := 4#32
  let arg0 : BitVec 32 := BitVec.ofNat 32 (i 0).val
  let c16_i32_438 : BitVec 32 := 16#32
  let v530 : BitVec 32 := Scalar.subi arg0 c16_i32_438
  let c128_i32_439 : BitVec 32 := 128#32
  let v531 : BitVec 32 := Scalar.muli v530 c128_i32_439
  let v532 : BitVec 32 := v531
  let c0_i32_446 : BitVec 32 := 0#32
  ![4, v532.toNat, 0]
def k0_mult22 (i : grid0.Coords) : BitVec 32 :=
  let arg0 : BitVec 32 := BitVec.ofNat 32 (i 0).val
  let c16_i32_447 : BitVec 32 := 16#32
  let v539 : BitVec 32 := Scalar.subi arg0 c16_i32_447
  let c128_i32_448 : BitVec 32 := 128#32
  let v540 : BitVec 32 := Scalar.muli v539 c128_i32_448
  v540
def k0_off21 (i : grid0.Coords) : Fin 3 → Nat :=
  let c5_i32_449 : BitVec 32 := 5#32
  let arg0 : BitVec 32 := BitVec.ofNat 32 (i 0).val
  let c16_i32_447 : BitVec 32 := 16#32
  let v539 : BitVec 32 := Scalar.subi arg0 c16_i32_447
  let c128_i32_448 : BitVec 32 := 128#32
  let v540 : BitVec 32 := Scalar.muli v539 c128_i32_448
  let v541 : BitVec 32 := v540
  let c0_i32_455 : BitVec 32 := 0#32
  ![5, v541.toNat, 0]
def k0_mult23 (i : grid0.Coords) : BitVec 32 :=
  let arg0 : BitVec 32 := BitVec.ofNat 32 (i 0).val
  let c16_i32_456 : BitVec 32 := 16#32
  let v548 : BitVec 32 := Scalar.subi arg0 c16_i32_456
  let c128_i32_457 : BitVec 32 := 128#32
  let v549 : BitVec 32 := Scalar.muli v548 c128_i32_457
  v549
def k0_off22 (i : grid0.Coords) : Fin 3 → Nat :=
  let c6_i32_458 : BitVec 32 := 6#32
  let arg0 : BitVec 32 := BitVec.ofNat 32 (i 0).val
  let c16_i32_456 : BitVec 32 := 16#32
  let v548 : BitVec 32 := Scalar.subi arg0 c16_i32_456
  let c128_i32_457 : BitVec 32 := 128#32
  let v549 : BitVec 32 := Scalar.muli v548 c128_i32_457
  let v550 : BitVec 32 := v549
  let c0_i32_464 : BitVec 32 := 0#32
  ![6, v550.toNat, 0]
def k0_mult24 (i : grid0.Coords) : BitVec 32 :=
  let arg0 : BitVec 32 := BitVec.ofNat 32 (i 0).val
  let c16_i32_465 : BitVec 32 := 16#32
  let v557 : BitVec 32 := Scalar.subi arg0 c16_i32_465
  let c128_i32_466 : BitVec 32 := 128#32
  let v558 : BitVec 32 := Scalar.muli v557 c128_i32_466
  v558
def k0_off23 (i : grid0.Coords) : Fin 3 → Nat :=
  let c7_i32_467 : BitVec 32 := 7#32
  let arg0 : BitVec 32 := BitVec.ofNat 32 (i 0).val
  let c16_i32_465 : BitVec 32 := 16#32
  let v557 : BitVec 32 := Scalar.subi arg0 c16_i32_465
  let c128_i32_466 : BitVec 32 := 128#32
  let v558 : BitVec 32 := Scalar.muli v557 c128_i32_466
  let v559 : BitVec 32 := v558
  let c0_i32_473 : BitVec 32 := 0#32
  ![7, v559.toNat, 0]
def k0_mult25 (i : grid0.Coords) : BitVec 32 :=
  let arg0 : BitVec 32 := BitVec.ofNat 32 (i 0).val
  let c16_i32_474 : BitVec 32 := 16#32
  let v566 : BitVec 32 := Scalar.subi arg0 c16_i32_474
  let c128_i32_475 : BitVec 32 := 128#32
  let v567 : BitVec 32 := Scalar.muli v566 c128_i32_475
  v567
def k0_off24 (i : grid0.Coords) : Fin 3 → Nat :=
  let c8_i32_476 : BitVec 32 := 8#32
  let arg0 : BitVec 32 := BitVec.ofNat 32 (i 0).val
  let c16_i32_474 : BitVec 32 := 16#32
  let v566 : BitVec 32 := Scalar.subi arg0 c16_i32_474
  let c128_i32_475 : BitVec 32 := 128#32
  let v567 : BitVec 32 := Scalar.muli v566 c128_i32_475
  let v568 : BitVec 32 := v567
  let c0_i32_482 : BitVec 32 := 0#32
  ![8, v568.toNat, 0]
def k0_mult26 (i : grid0.Coords) : BitVec 32 :=
  let arg0 : BitVec 32 := BitVec.ofNat 32 (i 0).val
  let c16_i32_483 : BitVec 32 := 16#32
  let v575 : BitVec 32 := Scalar.subi arg0 c16_i32_483
  let c128_i32_484 : BitVec 32 := 128#32
  let v576 : BitVec 32 := Scalar.muli v575 c128_i32_484
  v576
def k0_off25 (i : grid0.Coords) : Fin 3 → Nat :=
  let c9_i32_485 : BitVec 32 := 9#32
  let arg0 : BitVec 32 := BitVec.ofNat 32 (i 0).val
  let c16_i32_483 : BitVec 32 := 16#32
  let v575 : BitVec 32 := Scalar.subi arg0 c16_i32_483
  let c128_i32_484 : BitVec 32 := 128#32
  let v576 : BitVec 32 := Scalar.muli v575 c128_i32_484
  let v577 : BitVec 32 := v576
  let c0_i32_491 : BitVec 32 := 0#32
  ![9, v577.toNat, 0]
def k0_mult27 (i : grid0.Coords) : BitVec 32 :=
  let arg0 : BitVec 32 := BitVec.ofNat 32 (i 0).val
  let c16_i32_492 : BitVec 32 := 16#32
  let v584 : BitVec 32 := Scalar.subi arg0 c16_i32_492
  let c128_i32_493 : BitVec 32 := 128#32
  let v585 : BitVec 32 := Scalar.muli v584 c128_i32_493
  v585
def k0_off26 (i : grid0.Coords) : Fin 3 → Nat :=
  let c10_i32_494 : BitVec 32 := 10#32
  let arg0 : BitVec 32 := BitVec.ofNat 32 (i 0).val
  let c16_i32_492 : BitVec 32 := 16#32
  let v584 : BitVec 32 := Scalar.subi arg0 c16_i32_492
  let c128_i32_493 : BitVec 32 := 128#32
  let v585 : BitVec 32 := Scalar.muli v584 c128_i32_493
  let v586 : BitVec 32 := v585
  let c0_i32_500 : BitVec 32 := 0#32
  ![10, v586.toNat, 0]
def k0_mult28 (i : grid0.Coords) : BitVec 32 :=
  let arg0 : BitVec 32 := BitVec.ofNat 32 (i 0).val
  let c16_i32_501 : BitVec 32 := 16#32
  let v593 : BitVec 32 := Scalar.subi arg0 c16_i32_501
  let c128_i32_502 : BitVec 32 := 128#32
  let v594 : BitVec 32 := Scalar.muli v593 c128_i32_502
  v594
def k0_off27 (i : grid0.Coords) : Fin 3 → Nat :=
  let c11_i32_503 : BitVec 32 := 11#32
  let arg0 : BitVec 32 := BitVec.ofNat 32 (i 0).val
  let c16_i32_501 : BitVec 32 := 16#32
  let v593 : BitVec 32 := Scalar.subi arg0 c16_i32_501
  let c128_i32_502 : BitVec 32 := 128#32
  let v594 : BitVec 32 := Scalar.muli v593 c128_i32_502
  let v595 : BitVec 32 := v594
  let c0_i32_509 : BitVec 32 := 0#32
  ![11, v595.toNat, 0]
def k0_mult29 (i : grid0.Coords) : BitVec 32 :=
  let arg0 : BitVec 32 := BitVec.ofNat 32 (i 0).val
  let c16_i32_510 : BitVec 32 := 16#32
  let v602 : BitVec 32 := Scalar.subi arg0 c16_i32_510
  let c128_i32_511 : BitVec 32 := 128#32
  let v603 : BitVec 32 := Scalar.muli v602 c128_i32_511
  v603
def k0_off28 (i : grid0.Coords) : Fin 3 → Nat :=
  let c12_i32_512 : BitVec 32 := 12#32
  let arg0 : BitVec 32 := BitVec.ofNat 32 (i 0).val
  let c16_i32_510 : BitVec 32 := 16#32
  let v602 : BitVec 32 := Scalar.subi arg0 c16_i32_510
  let c128_i32_511 : BitVec 32 := 128#32
  let v603 : BitVec 32 := Scalar.muli v602 c128_i32_511
  let v604 : BitVec 32 := v603
  let c0_i32_518 : BitVec 32 := 0#32
  ![12, v604.toNat, 0]
def k0_mult30 (i : grid0.Coords) : BitVec 32 :=
  let arg0 : BitVec 32 := BitVec.ofNat 32 (i 0).val
  let c16_i32_519 : BitVec 32 := 16#32
  let v611 : BitVec 32 := Scalar.subi arg0 c16_i32_519
  let c128_i32_520 : BitVec 32 := 128#32
  let v612 : BitVec 32 := Scalar.muli v611 c128_i32_520
  v612
def k0_off29 (i : grid0.Coords) : Fin 3 → Nat :=
  let c13_i32_521 : BitVec 32 := 13#32
  let arg0 : BitVec 32 := BitVec.ofNat 32 (i 0).val
  let c16_i32_519 : BitVec 32 := 16#32
  let v611 : BitVec 32 := Scalar.subi arg0 c16_i32_519
  let c128_i32_520 : BitVec 32 := 128#32
  let v612 : BitVec 32 := Scalar.muli v611 c128_i32_520
  let v613 : BitVec 32 := v612
  let c0_i32_527 : BitVec 32 := 0#32
  ![13, v613.toNat, 0]
def k0_mult31 (i : grid0.Coords) : BitVec 32 :=
  let arg0 : BitVec 32 := BitVec.ofNat 32 (i 0).val
  let c16_i32_528 : BitVec 32 := 16#32
  let v620 : BitVec 32 := Scalar.subi arg0 c16_i32_528
  let c128_i32_529 : BitVec 32 := 128#32
  let v621 : BitVec 32 := Scalar.muli v620 c128_i32_529
  v621
def k0_off30 (i : grid0.Coords) : Fin 3 → Nat :=
  let c14_i32_530 : BitVec 32 := 14#32
  let arg0 : BitVec 32 := BitVec.ofNat 32 (i 0).val
  let c16_i32_528 : BitVec 32 := 16#32
  let v620 : BitVec 32 := Scalar.subi arg0 c16_i32_528
  let c128_i32_529 : BitVec 32 := 128#32
  let v621 : BitVec 32 := Scalar.muli v620 c128_i32_529
  let v622 : BitVec 32 := v621
  let c0_i32_536 : BitVec 32 := 0#32
  ![14, v622.toNat, 0]
def k0_mult32 (i : grid0.Coords) : BitVec 32 :=
  let arg0 : BitVec 32 := BitVec.ofNat 32 (i 0).val
  let c16_i32_28 : BitVec 32 := 16#32
  let v51 : BitVec 32 := Scalar.subi arg0 c16_i32_28
  let c128_i32_29 : BitVec 32 := 128#32
  let v52 : BitVec 32 := Scalar.muli v51 c128_i32_29
  v52
def k0_off31 (i : grid0.Coords) : Fin 3 → Nat :=
  let c0_i32_30 : BitVec 32 := 0#32
  let arg0 : BitVec 32 := BitVec.ofNat 32 (i 0).val
  let c16_i32_28 : BitVec 32 := 16#32
  let v51 : BitVec 32 := Scalar.subi arg0 c16_i32_28
  let c128_i32_29 : BitVec 32 := 128#32
  let v52 : BitVec 32 := Scalar.muli v51 c128_i32_29
  let v53 : BitVec 32 := v52
  let c0_i32_35 : BitVec 32 := 0#32
  ![0, v53.toNat, 0]
def k0_mult33 (i : grid0.Coords) : BitVec 32 :=
  let arg0 : BitVec 32 := BitVec.ofNat 32 (i 0).val
  let c16_i32_36 : BitVec 32 := 16#32
  let v60 : BitVec 32 := Scalar.subi arg0 c16_i32_36
  let c128_i32_37 : BitVec 32 := 128#32
  let v61 : BitVec 32 := Scalar.muli v60 c128_i32_37
  v61
def k0_off32 (i : grid0.Coords) : Fin 3 → Nat :=
  let c1_i32_38 : BitVec 32 := 1#32
  let arg0 : BitVec 32 := BitVec.ofNat 32 (i 0).val
  let c16_i32_36 : BitVec 32 := 16#32
  let v60 : BitVec 32 := Scalar.subi arg0 c16_i32_36
  let c128_i32_37 : BitVec 32 := 128#32
  let v61 : BitVec 32 := Scalar.muli v60 c128_i32_37
  let v62 : BitVec 32 := v61
  let c0_i32_43 : BitVec 32 := 0#32
  ![1, v62.toNat, 0]
def k0_mult34 (i : grid0.Coords) : BitVec 32 :=
  let arg0 : BitVec 32 := BitVec.ofNat 32 (i 0).val
  let c16_i32_44 : BitVec 32 := 16#32
  let v69 : BitVec 32 := Scalar.subi arg0 c16_i32_44
  let c128_i32_45 : BitVec 32 := 128#32
  let v70 : BitVec 32 := Scalar.muli v69 c128_i32_45
  v70
def k0_off33 (i : grid0.Coords) : Fin 3 → Nat :=
  let c2_i32_46 : BitVec 32 := 2#32
  let arg0 : BitVec 32 := BitVec.ofNat 32 (i 0).val
  let c16_i32_44 : BitVec 32 := 16#32
  let v69 : BitVec 32 := Scalar.subi arg0 c16_i32_44
  let c128_i32_45 : BitVec 32 := 128#32
  let v70 : BitVec 32 := Scalar.muli v69 c128_i32_45
  let v71 : BitVec 32 := v70
  let c0_i32_51 : BitVec 32 := 0#32
  ![2, v71.toNat, 0]
def k0_mult35 (i : grid0.Coords) : BitVec 32 :=
  let arg0 : BitVec 32 := BitVec.ofNat 32 (i 0).val
  let c16_i32_52 : BitVec 32 := 16#32
  let v78 : BitVec 32 := Scalar.subi arg0 c16_i32_52
  let c128_i32_53 : BitVec 32 := 128#32
  let v79 : BitVec 32 := Scalar.muli v78 c128_i32_53
  v79
def k0_off34 (i : grid0.Coords) : Fin 3 → Nat :=
  let c3_i32_54 : BitVec 32 := 3#32
  let arg0 : BitVec 32 := BitVec.ofNat 32 (i 0).val
  let c16_i32_52 : BitVec 32 := 16#32
  let v78 : BitVec 32 := Scalar.subi arg0 c16_i32_52
  let c128_i32_53 : BitVec 32 := 128#32
  let v79 : BitVec 32 := Scalar.muli v78 c128_i32_53
  let v80 : BitVec 32 := v79
  let c0_i32_59 : BitVec 32 := 0#32
  ![3, v80.toNat, 0]
def k0_mult36 (i : grid0.Coords) : BitVec 32 :=
  let arg0 : BitVec 32 := BitVec.ofNat 32 (i 0).val
  let c16_i32_60 : BitVec 32 := 16#32
  let v87 : BitVec 32 := Scalar.subi arg0 c16_i32_60
  let c128_i32_61 : BitVec 32 := 128#32
  let v88 : BitVec 32 := Scalar.muli v87 c128_i32_61
  v88
def k0_off35 (i : grid0.Coords) : Fin 3 → Nat :=
  let c4_i32_62 : BitVec 32 := 4#32
  let arg0 : BitVec 32 := BitVec.ofNat 32 (i 0).val
  let c16_i32_60 : BitVec 32 := 16#32
  let v87 : BitVec 32 := Scalar.subi arg0 c16_i32_60
  let c128_i32_61 : BitVec 32 := 128#32
  let v88 : BitVec 32 := Scalar.muli v87 c128_i32_61
  let v89 : BitVec 32 := v88
  let c0_i32_67 : BitVec 32 := 0#32
  ![4, v89.toNat, 0]
def k0_mult37 (i : grid0.Coords) : BitVec 32 :=
  let arg0 : BitVec 32 := BitVec.ofNat 32 (i 0).val
  let c16_i32_68 : BitVec 32 := 16#32
  let v96 : BitVec 32 := Scalar.subi arg0 c16_i32_68
  let c128_i32_69 : BitVec 32 := 128#32
  let v97 : BitVec 32 := Scalar.muli v96 c128_i32_69
  v97
def k0_off36 (i : grid0.Coords) : Fin 3 → Nat :=
  let c5_i32_70 : BitVec 32 := 5#32
  let arg0 : BitVec 32 := BitVec.ofNat 32 (i 0).val
  let c16_i32_68 : BitVec 32 := 16#32
  let v96 : BitVec 32 := Scalar.subi arg0 c16_i32_68
  let c128_i32_69 : BitVec 32 := 128#32
  let v97 : BitVec 32 := Scalar.muli v96 c128_i32_69
  let v98 : BitVec 32 := v97
  let c0_i32_75 : BitVec 32 := 0#32
  ![5, v98.toNat, 0]
def k0_mult38 (i : grid0.Coords) : BitVec 32 :=
  let arg0 : BitVec 32 := BitVec.ofNat 32 (i 0).val
  let c16_i32_76 : BitVec 32 := 16#32
  let v105 : BitVec 32 := Scalar.subi arg0 c16_i32_76
  let c128_i32_77 : BitVec 32 := 128#32
  let v106 : BitVec 32 := Scalar.muli v105 c128_i32_77
  v106
def k0_off37 (i : grid0.Coords) : Fin 3 → Nat :=
  let c6_i32_78 : BitVec 32 := 6#32
  let arg0 : BitVec 32 := BitVec.ofNat 32 (i 0).val
  let c16_i32_76 : BitVec 32 := 16#32
  let v105 : BitVec 32 := Scalar.subi arg0 c16_i32_76
  let c128_i32_77 : BitVec 32 := 128#32
  let v106 : BitVec 32 := Scalar.muli v105 c128_i32_77
  let v107 : BitVec 32 := v106
  let c0_i32_83 : BitVec 32 := 0#32
  ![6, v107.toNat, 0]
def k0_mult39 (i : grid0.Coords) : BitVec 32 :=
  let arg0 : BitVec 32 := BitVec.ofNat 32 (i 0).val
  let c16_i32_84 : BitVec 32 := 16#32
  let v114 : BitVec 32 := Scalar.subi arg0 c16_i32_84
  let c128_i32_85 : BitVec 32 := 128#32
  let v115 : BitVec 32 := Scalar.muli v114 c128_i32_85
  v115
def k0_off38 (i : grid0.Coords) : Fin 3 → Nat :=
  let c7_i32_86 : BitVec 32 := 7#32
  let arg0 : BitVec 32 := BitVec.ofNat 32 (i 0).val
  let c16_i32_84 : BitVec 32 := 16#32
  let v114 : BitVec 32 := Scalar.subi arg0 c16_i32_84
  let c128_i32_85 : BitVec 32 := 128#32
  let v115 : BitVec 32 := Scalar.muli v114 c128_i32_85
  let v116 : BitVec 32 := v115
  let c0_i32_91 : BitVec 32 := 0#32
  ![7, v116.toNat, 0]
def k0_mult40 (i : grid0.Coords) : BitVec 32 :=
  let arg0 : BitVec 32 := BitVec.ofNat 32 (i 0).val
  let c16_i32_92 : BitVec 32 := 16#32
  let v123 : BitVec 32 := Scalar.subi arg0 c16_i32_92
  let c128_i32_93 : BitVec 32 := 128#32
  let v124 : BitVec 32 := Scalar.muli v123 c128_i32_93
  v124
def k0_off39 (i : grid0.Coords) : Fin 3 → Nat :=
  let c8_i32_94 : BitVec 32 := 8#32
  let arg0 : BitVec 32 := BitVec.ofNat 32 (i 0).val
  let c16_i32_92 : BitVec 32 := 16#32
  let v123 : BitVec 32 := Scalar.subi arg0 c16_i32_92
  let c128_i32_93 : BitVec 32 := 128#32
  let v124 : BitVec 32 := Scalar.muli v123 c128_i32_93
  let v125 : BitVec 32 := v124
  let c0_i32_99 : BitVec 32 := 0#32
  ![8, v125.toNat, 0]
def k0_mult41 (i : grid0.Coords) : BitVec 32 :=
  let arg0 : BitVec 32 := BitVec.ofNat 32 (i 0).val
  let c16_i32_100 : BitVec 32 := 16#32
  let v132 : BitVec 32 := Scalar.subi arg0 c16_i32_100
  let c128_i32_101 : BitVec 32 := 128#32
  let v133 : BitVec 32 := Scalar.muli v132 c128_i32_101
  v133
def k0_off40 (i : grid0.Coords) : Fin 3 → Nat :=
  let c9_i32_102 : BitVec 32 := 9#32
  let arg0 : BitVec 32 := BitVec.ofNat 32 (i 0).val
  let c16_i32_100 : BitVec 32 := 16#32
  let v132 : BitVec 32 := Scalar.subi arg0 c16_i32_100
  let c128_i32_101 : BitVec 32 := 128#32
  let v133 : BitVec 32 := Scalar.muli v132 c128_i32_101
  let v134 : BitVec 32 := v133
  let c0_i32_107 : BitVec 32 := 0#32
  ![9, v134.toNat, 0]
def k0_mult42 (i : grid0.Coords) : BitVec 32 :=
  let arg0 : BitVec 32 := BitVec.ofNat 32 (i 0).val
  let c16_i32_108 : BitVec 32 := 16#32
  let v141 : BitVec 32 := Scalar.subi arg0 c16_i32_108
  let c128_i32_109 : BitVec 32 := 128#32
  let v142 : BitVec 32 := Scalar.muli v141 c128_i32_109
  v142
def k0_off41 (i : grid0.Coords) : Fin 3 → Nat :=
  let c10_i32_110 : BitVec 32 := 10#32
  let arg0 : BitVec 32 := BitVec.ofNat 32 (i 0).val
  let c16_i32_108 : BitVec 32 := 16#32
  let v141 : BitVec 32 := Scalar.subi arg0 c16_i32_108
  let c128_i32_109 : BitVec 32 := 128#32
  let v142 : BitVec 32 := Scalar.muli v141 c128_i32_109
  let v143 : BitVec 32 := v142
  let c0_i32_115 : BitVec 32 := 0#32
  ![10, v143.toNat, 0]
def k0_mult43 (i : grid0.Coords) : BitVec 32 :=
  let arg0 : BitVec 32 := BitVec.ofNat 32 (i 0).val
  let c16_i32_116 : BitVec 32 := 16#32
  let v150 : BitVec 32 := Scalar.subi arg0 c16_i32_116
  let c128_i32_117 : BitVec 32 := 128#32
  let v151 : BitVec 32 := Scalar.muli v150 c128_i32_117
  v151
def k0_off42 (i : grid0.Coords) : Fin 3 → Nat :=
  let c11_i32_118 : BitVec 32 := 11#32
  let arg0 : BitVec 32 := BitVec.ofNat 32 (i 0).val
  let c16_i32_116 : BitVec 32 := 16#32
  let v150 : BitVec 32 := Scalar.subi arg0 c16_i32_116
  let c128_i32_117 : BitVec 32 := 128#32
  let v151 : BitVec 32 := Scalar.muli v150 c128_i32_117
  let v152 : BitVec 32 := v151
  let c0_i32_123 : BitVec 32 := 0#32
  ![11, v152.toNat, 0]
def k0_mult44 (i : grid0.Coords) : BitVec 32 :=
  let arg0 : BitVec 32 := BitVec.ofNat 32 (i 0).val
  let c16_i32_124 : BitVec 32 := 16#32
  let v159 : BitVec 32 := Scalar.subi arg0 c16_i32_124
  let c128_i32_125 : BitVec 32 := 128#32
  let v160 : BitVec 32 := Scalar.muli v159 c128_i32_125
  v160
def k0_off43 (i : grid0.Coords) : Fin 3 → Nat :=
  let c12_i32_126 : BitVec 32 := 12#32
  let arg0 : BitVec 32 := BitVec.ofNat 32 (i 0).val
  let c16_i32_124 : BitVec 32 := 16#32
  let v159 : BitVec 32 := Scalar.subi arg0 c16_i32_124
  let c128_i32_125 : BitVec 32 := 128#32
  let v160 : BitVec 32 := Scalar.muli v159 c128_i32_125
  let v161 : BitVec 32 := v160
  let c0_i32_131 : BitVec 32 := 0#32
  ![12, v161.toNat, 0]
def k0_mult45 (i : grid0.Coords) : BitVec 32 :=
  let arg0 : BitVec 32 := BitVec.ofNat 32 (i 0).val
  let c16_i32_132 : BitVec 32 := 16#32
  let v168 : BitVec 32 := Scalar.subi arg0 c16_i32_132
  let c128_i32_133 : BitVec 32 := 128#32
  let v169 : BitVec 32 := Scalar.muli v168 c128_i32_133
  v169
def k0_off44 (i : grid0.Coords) : Fin 3 → Nat :=
  let c13_i32_134 : BitVec 32 := 13#32
  let arg0 : BitVec 32 := BitVec.ofNat 32 (i 0).val
  let c16_i32_132 : BitVec 32 := 16#32
  let v168 : BitVec 32 := Scalar.subi arg0 c16_i32_132
  let c128_i32_133 : BitVec 32 := 128#32
  let v169 : BitVec 32 := Scalar.muli v168 c128_i32_133
  let v170 : BitVec 32 := v169
  let c0_i32_139 : BitVec 32 := 0#32
  ![13, v170.toNat, 0]
def k0_mult46 (i : grid0.Coords) : BitVec 32 :=
  let arg0 : BitVec 32 := BitVec.ofNat 32 (i 0).val
  let c16_i32_140 : BitVec 32 := 16#32
  let v177 : BitVec 32 := Scalar.subi arg0 c16_i32_140
  let c128_i32_141 : BitVec 32 := 128#32
  let v178 : BitVec 32 := Scalar.muli v177 c128_i32_141
  v178
def k0_off45 (i : grid0.Coords) : Fin 3 → Nat :=
  let c14_i32_142 : BitVec 32 := 14#32
  let arg0 : BitVec 32 := BitVec.ofNat 32 (i 0).val
  let c16_i32_140 : BitVec 32 := 16#32
  let v177 : BitVec 32 := Scalar.subi arg0 c16_i32_140
  let c128_i32_141 : BitVec 32 := 128#32
  let v178 : BitVec 32 := Scalar.muli v177 c128_i32_141
  let v179 : BitVec 32 := v178
  let c0_i32_147 : BitVec 32 := 0#32
  ![14, v179.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_12 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S17408x1024 : Shape := ⟨2, ![17408, 1024]⟩
abbrev S128x2x512 : Shape := ⟨3, ![128, 2, 512]⟩
abbrev S128x15x512 : Shape := ⟨3, ![128, 15, 512]⟩
abbrev S1024 : Shape := ⟨1, ![1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S16384x1024 : Shape := ⟨2, ![16384, 1024]⟩
abbrev S8x2048x1024 : Shape := ⟨3, ![8, 2048, 1024]⟩
abbrev S_ : Shape := ⟨0, ![]⟩
abbrev S8x2x512 : Shape := ⟨3, ![8, 2, 512]⟩
abbrev S8x15x512 : Shape := ⟨3, ![8, 15, 512]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩
abbrev S8x2048x512 : Shape := ⟨3, ![8, 2048, 512]⟩
abbrev S8x2050x512 : Shape := ⟨3, ![8, 2050, 512]⟩
abbrev S1x512 : Shape := ⟨2, ![1, 512]⟩
abbrev S1x1x512 : Shape := ⟨3, ![1, 1, 512]⟩
abbrev S8x2063x512 : Shape := ⟨3, ![8, 2063, 512]⟩
abbrev S2048 : Shape := ⟨1, ![2048]⟩
abbrev S8x2048x128 : Shape := ⟨3, ![8, 2048, 128]⟩
abbrev S1x2048x1 : Shape := ⟨3, ![1, 2048, 1]⟩
abbrev S1x128x128 : Shape := ⟨3, ![1, 128, 128]⟩
abbrev S128x128 : Shape := ⟨2, ![128, 128]⟩
abbrev S128x8x1024 : Shape := ⟨3, ![128, 8, 1024]⟩
abbrev S128x8 : Shape := ⟨2, ![128, 8]⟩
abbrev S128x8x1 : Shape := ⟨3, ![128, 8, 1]⟩
abbrev S128x8x2048 : Shape := ⟨3, ![128, 8, 2048]⟩
abbrev S128x8x512 : Shape := ⟨3, ![128, 8, 512]⟩
abbrev S128x10x512 : Shape := ⟨3, ![128, 10, 512]⟩
abbrev S128x23x512 : Shape := ⟨3, ![128, 23, 512]⟩
abbrev S8 : Shape := ⟨1, ![8]⟩
abbrev S128x8x128 : Shape := ⟨3, ![128, 8, 128]⟩
abbrev S1x8x1 : Shape := ⟨3, ![1, 8, 1]⟩
abbrev S15x8x512 : Shape := ⟨3, ![15, 8, 512]⟩
abbrev S15x128x512 : Shape := ⟨3, ![15, 128, 512]⟩

abbrev nBuf : Space → Nat
  | .hbm => 370
  | .vmem => 0
  | .smem => 0
  | _ => 0

abbrev hbmTy0_0 (i : Nat) : BufTy := match i % 128 with
  | 0 => ⟨S17408x1024, .f32⟩
  | 1 => ⟨S128x2x512, .f32⟩
  | 2 => ⟨S128x15x512, .f32⟩
  | 3 => ⟨S1024, .f32⟩
  | 4 => ⟨S1024x2048, .f32⟩
  | 5 => ⟨S3x512, .f32⟩
  | 6 => ⟨S4x128x128, .f32⟩
  | 7 => ⟨S512, .f32⟩
  | 8 => ⟨S1024x1024, .f32⟩
  | 9 => ⟨S16384x1024, .f32⟩
  | 10 => ⟨S8x2048x1024, .f32⟩
  | 11 => ⟨S_, .f32⟩
  | 12 => ⟨S8x2x512, .f32⟩
  | 13 => ⟨S_, .f32⟩
  | 14 => ⟨S8x15x512, .f32⟩
  | 15 => ⟨S8x2048x1024, .f32⟩
  | 16 => ⟨S_, .f32⟩
  | 17 => ⟨S8x2048, .f32⟩
  | 18 => ⟨S8x2048x1, .f32⟩
  | 19 => ⟨S_, .f32⟩
  | 20 => ⟨S8x2048x1, .f32⟩
  | 21 => ⟨S8x2048x1, .f32⟩
  | 22 => ⟨S_, .f32⟩
  | 23 => ⟨S8x2048x1, .f32⟩
  | 24 => ⟨S8x2048x1, .f32⟩
  | 25 => ⟨S8x2048x1, .f32⟩
  | 26 => ⟨S8x2048x1024, .f32⟩
  | 27 => ⟨S8x2048x1024, .f32⟩
  | 28 => ⟨S1x1x1024, .f32⟩
  | 29 => ⟨S8x2048x1024, .f32⟩
  | 30 => ⟨S8x2048x1024, .f32⟩
  | 31 => ⟨S8x2048x2048, .f32⟩
  | 32 => ⟨S8x2048x512, .f32⟩
  | 33 => ⟨S8x2048x512, .f32⟩
  | 34 => ⟨S8x2048x512, .f32⟩
  | 35 => ⟨S8x2048x512, .f32⟩
  | 36 => ⟨S8x2048x512, .f32⟩
  | 37 => ⟨S8x2050x512, .f32⟩
  | 38 => ⟨S8x2048x512, .f32⟩
  | 39 => ⟨S1x512, .f32⟩
  | 40 => ⟨S512, .f32⟩
  | 41 => ⟨S1x1x512, .f32⟩
  | 42 => ⟨S8x2048x512, .f32⟩
  | 43 => ⟨S8x2048x512, .f32⟩
  | 44 => ⟨S8x2048x512, .f32⟩
  | 45 => ⟨S1x512, .f32⟩
  | 46 => ⟨S512, .f32⟩
  | 47 => ⟨S1x1x512, .f32⟩
  | 48 => ⟨S8x2048x512, .f32⟩
  | 49 => ⟨S8x2048x512, .f32⟩
  | 50 => ⟨S8x2048x512, .f32⟩
  | 51 => ⟨S8x2048x512, .f32⟩
  | 52 => ⟨S1x512, .f32⟩
  | 53 => ⟨S512, .f32⟩
  | 54 => ⟨S1x1x512, .f32⟩
  | 55 => ⟨S8x2048x512, .f32⟩
  | 56 => ⟨S8x2048x512, .f32⟩
  | 57 => ⟨S8x2048x512, .f32⟩
  | 58 => ⟨S8x2x512, .f32⟩
  | 59 => ⟨S8x2048x512, .f32⟩
  | 60 => ⟨S8x2063x512, .f32⟩
  | 61 => ⟨S2048, .i32⟩
  | 62 => ⟨S_, .i32⟩
  | 63 => ⟨S2048, .i32⟩
  | 64 => ⟨S2048, .i32⟩
  | 65 => ⟨S8x2048x128, .f32⟩
  | 66 => ⟨S8x2048x128, .f32⟩
  | 67 => ⟨S8x2048x128, .f32⟩
  | 68 => ⟨S_, .i32⟩
  | 69 => ⟨S2048, .i32⟩
  | 70 => ⟨S2048, .i32⟩
  | 71 => ⟨S_, .i32⟩
  | 72 => ⟨S2048, .i32⟩
  | 73 => ⟨S2048, .i32⟩
  | 74 => ⟨S2048, .f32⟩
  | 75 => ⟨S1x2048x1, .f32⟩
  | 76 => ⟨S8x2048x128, .f32⟩
  | 77 => ⟨S8x2048x128, .f32⟩
  | 78 => ⟨S8x2048x128, .f32⟩
  | 79 => ⟨S8x2048x128, .f32⟩
  | 80 => ⟨S1x128x128, .f32⟩
  | 81 => ⟨S128x128, .f32⟩
  | 82 => ⟨S8x2048x128, .f32⟩
  | 83 => ⟨S8x2048x128, .f32⟩
  | 84 => ⟨S8x2048x128, .f32⟩
  | 85 => ⟨S8x2048x128, .f32⟩
  | 86 => ⟨S8x2048x128, .f32⟩
  | 87 => ⟨S8x2048x128, .f32⟩
  | 88 => ⟨S8x2048x128, .f32⟩
  | 89 => ⟨S8x2048x128, .f32⟩
  | 90 => ⟨S_, .i32⟩
  | 91 => ⟨S2048, .i32⟩
  | 92 => ⟨S2048, .i32⟩
  | 93 => ⟨S_, .i32⟩
  | 94 => ⟨S2048, .i32⟩
  | 95 => ⟨S2048, .i32⟩
  | 96 => ⟨S2048, .f32⟩
  | 97 => ⟨S1x2048x1, .f32⟩
  | 98 => ⟨S8x2048x128, .f32⟩
  | 99 => ⟨S8x2048x128, .f32⟩
  | 100 => ⟨S8x2048x128, .f32⟩
  | 101 => ⟨S8x2048x128, .f32⟩
  | 102 => ⟨S1x128x128, .f32⟩
  | 103 => ⟨S128x128, .f32⟩
  | 104 => ⟨S8x2048x128, .f32⟩
  | 105 => ⟨S8x2048x128, .f32⟩
  | 106 => ⟨S8x2048x128, .f32⟩
  | 107 => ⟨S8x2048x128, .f32⟩
  | 108 => ⟨S8x2048x128, .f32⟩
  | 109 => ⟨S8x2048x128, .f32⟩
  | 110 => ⟨S8x2048x128, .f32⟩
  | 111 => ⟨S8x2048x128, .f32⟩
  | 112 => ⟨S8x2048x128, .f32⟩
  | 113 => ⟨S8x2048x128, .f32⟩
  | 114 => ⟨S8x2048x128, .f32⟩
  | 115 => ⟨S8x2048x128, .f32⟩
  | 116 => ⟨S8x2048x128, .f32⟩
  | 117 => ⟨S8x2048x128, .f32⟩
  | 118 => ⟨S8x2048x128, .f32⟩
  | 119 => ⟨S8x2048x128, .f32⟩
  | 120 => ⟨S_, .i32⟩
  | 121 => ⟨S2048, .i32⟩
  | 122 => ⟨S2048, .i32⟩
  | 123 => ⟨S_, .i32⟩
  | 124 => ⟨S2048, .i32⟩
  | 125 => ⟨S2048, .i32⟩
  | 126 => ⟨S2048, .f32⟩
  | 127 => ⟨S1x2048x1, .f32⟩
  | _ => ⟨S17408x1024, .f32⟩

abbrev hbmTy0_1 (i : Nat) : BufTy := match i % 128 with
  | 0 => ⟨S8x2048x128, .f32⟩
  | 1 => ⟨S8x2048x128, .f32⟩
  | 2 => ⟨S8x2048x128, .f32⟩
  | 3 => ⟨S8x2048x128, .f32⟩
  | 4 => ⟨S1x128x128, .f32⟩
  | 5 => ⟨S128x128, .f32⟩
  | 6 => ⟨S8x2048x128, .f32⟩
  | 7 => ⟨S8x2048x128, .f32⟩
  | 8 => ⟨S8x2048x128, .f32⟩
  | 9 => ⟨S8x2048x128, .f32⟩
  | 10 => ⟨S8x2048x128, .f32⟩
  | 11 => ⟨S8x2048x128, .f32⟩
  | 12 => ⟨S8x2048x128, .f32⟩
  | 13 => ⟨S8x2048x128, .f32⟩
  | 14 => ⟨S8x2048x128, .f32⟩
  | 15 => ⟨S8x2048x128, .f32⟩
  | 16 => ⟨S8x2048x128, .f32⟩
  | 17 => ⟨S8x2048x128, .f32⟩
  | 18 => ⟨S8x2048x128, .f32⟩
  | 19 => ⟨S8x2048x128, .f32⟩
  | 20 => ⟨S8x2048x128, .f32⟩
  | 21 => ⟨S8x2048x128, .f32⟩
  | 22 => ⟨S8x2048x128, .f32⟩
  | 23 => ⟨S8x2048x128, .f32⟩
  | 24 => ⟨S8x2048x128, .f32⟩
  | 25 => ⟨S8x2048x128, .f32⟩
  | 26 => ⟨S8x2048x128, .f32⟩
  | 27 => ⟨S8x2048x128, .f32⟩
  | 28 => ⟨S8x2048x128, .f32⟩
  | 29 => ⟨S8x2048x128, .f32⟩
  | 30 => ⟨S8x2048x128, .f32⟩
  | 31 => ⟨S8x2048x128, .f32⟩
  | 32 => ⟨S8x2048x128, .f32⟩
  | 33 => ⟨S8x2048x128, .f32⟩
  | 34 => ⟨S8x2048x128, .f32⟩
  | 35 => ⟨S8x2048x128, .f32⟩
  | 36 => ⟨S8x2048x128, .f32⟩
  | 37 => ⟨S8x2048x128, .f32⟩
  | 38 => ⟨S_, .i32⟩
  | 39 => ⟨S2048, .i32⟩
  | 40 => ⟨S2048, .i32⟩
  | 41 => ⟨S_, .i32⟩
  | 42 => ⟨S2048, .i32⟩
  | 43 => ⟨S2048, .i32⟩
  | 44 => ⟨S2048, .f32⟩
  | 45 => ⟨S1x2048x1, .f32⟩
  | 46 => ⟨S8x2048x128, .f32⟩
  | 47 => ⟨S8x2048x128, .f32⟩
  | 48 => ⟨S8x2048x128, .f32⟩
  | 49 => ⟨S8x2048x128, .f32⟩
  | 50 => ⟨S1x128x128, .f32⟩
  | 51 => ⟨S128x128, .f32⟩
  | 52 => ⟨S8x2048x128, .f32⟩
  | 53 => ⟨S8x2048x512, .f32⟩
  | 54 => ⟨S1x1x512, .f32⟩
  | 55 => ⟨S8x2048x512, .f32⟩
  | 56 => ⟨S8x2048x512, .f32⟩
  | 57 => ⟨S8x15x512, .f32⟩
  | 58 => ⟨S8x2048x1024, .f32⟩
  | 59 => ⟨S8x2048x1024, .f32⟩
  | 60 => ⟨S8x2048x1024, .f32⟩
  | 61 => ⟨S1024x1024, .f32⟩
  | 62 => ⟨S128x8x1024, .f32⟩
  | 63 => ⟨S128x8x1024, .f32⟩
  | 64 => ⟨S_, .f32⟩
  | 65 => ⟨S128x8, .f32⟩
  | 66 => ⟨S128x8x1, .f32⟩
  | 67 => ⟨S_, .f32⟩
  | 68 => ⟨S128x8x1, .f32⟩
  | 69 => ⟨S128x8x1, .f32⟩
  | 70 => ⟨S_, .f32⟩
  | 71 => ⟨S128x8x1, .f32⟩
  | 72 => ⟨S128x8x1, .f32⟩
  | 73 => ⟨S128x8x1, .f32⟩
  | 74 => ⟨S128x8x1024, .f32⟩
  | 75 => ⟨S128x8x1024, .f32⟩
  | 76 => ⟨S1x1x1024, .f32⟩
  | 77 => ⟨S128x8x1024, .f32⟩
  | 78 => ⟨S128x8x1024, .f32⟩
  | 79 => ⟨S128x8x2048, .f32⟩
  | 80 => ⟨S128x8x512, .f32⟩
  | 81 => ⟨S128x8x512, .f32⟩
  | 82 => ⟨S128x8x512, .f32⟩
  | 83 => ⟨S128x8x512, .f32⟩
  | 84 => ⟨S128x8x512, .f32⟩
  | 85 => ⟨S128x10x512, .f32⟩
  | 86 => ⟨S128x8x512, .f32⟩
  | 87 => ⟨S1x512, .f32⟩
  | 88 => ⟨S512, .f32⟩
  | 89 => ⟨S1x1x512, .f32⟩
  | 90 => ⟨S128x8x512, .f32⟩
  | 91 => ⟨S128x8x512, .f32⟩
  | 92 => ⟨S128x8x512, .f32⟩
  | 93 => ⟨S1x512, .f32⟩
  | 94 => ⟨S512, .f32⟩
  | 95 => ⟨S1x1x512, .f32⟩
  | 96 => ⟨S128x8x512, .f32⟩
  | 97 => ⟨S128x8x512, .f32⟩
  | 98 => ⟨S128x8x512, .f32⟩
  | 99 => ⟨S128x8x512, .f32⟩
  | 100 => ⟨S1x512, .f32⟩
  | 101 => ⟨S512, .f32⟩
  | 102 => ⟨S1x1x512, .f32⟩
  | 103 => ⟨S128x8x512, .f32⟩
  | 104 => ⟨S128x8x512, .f32⟩
  | 105 => ⟨S128x8x512, .f32⟩
  | 106 => ⟨S128x2x512, .f32⟩
  | 107 => ⟨S128x8x512, .f32⟩
  | 108 => ⟨S128x23x512, .f32⟩
  | 109 => ⟨S8, .i32⟩
  | 110 => ⟨S_, .i32⟩
  | 111 => ⟨S8, .i32⟩
  | 112 => ⟨S8, .i32⟩
  | 113 => ⟨S128x8x128, .f32⟩
  | 114 => ⟨S128x8x128, .f32⟩
  | 115 => ⟨S128x8x128, .f32⟩
  | 116 => ⟨S_, .i32⟩
  | 117 => ⟨S8, .i32⟩
  | 118 => ⟨S8, .i32⟩
  | 119 => ⟨S_, .i32⟩
  | 120 => ⟨S8, .i32⟩
  | 121 => ⟨S8, .i32⟩
  | 122 => ⟨S8, .f32⟩
  | 123 => ⟨S1x8x1, .f32⟩
  | 124 => ⟨S128x8x128, .f32⟩
  | 125 => ⟨S128x8x128, .f32⟩
  | 126 => ⟨S128x8x128, .f32⟩
  | 127 => ⟨S128x8x128, .f32⟩
  | _ => ⟨S17408x1024, .f32⟩

abbrev hbmTy0_2 (i : Nat) : BufTy := match i % 128 with
  | 0 => ⟨S1x128x128, .f32⟩
  | 1 => ⟨S128x128, .f32⟩
  | 2 => ⟨S128x8x128, .f32⟩
  | 3 => ⟨S128x8x128, .f32⟩
  | 4 => ⟨S128x8x128, .f32⟩
  | 5 => ⟨S128x8x128, .f32⟩
  | 6 => ⟨S128x8x128, .f32⟩
  | 7 => ⟨S128x8x128, .f32⟩
  | 8 => ⟨S128x8x128, .f32⟩
  | 9 => ⟨S128x8x128, .f32⟩
  | 10 => ⟨S_, .i32⟩
  | 11 => ⟨S8, .i32⟩
  | 12 => ⟨S8, .i32⟩
  | 13 => ⟨S_, .i32⟩
  | 14 => ⟨S8, .i32⟩
  | 15 => ⟨S8, .i32⟩
  | 16 => ⟨S8, .f32⟩
  | 17 => ⟨S1x8x1, .f32⟩
  | 18 => ⟨S128x8x128, .f32⟩
  | 19 => ⟨S128x8x128, .f32⟩
  | 20 => ⟨S128x8x128, .f32⟩
  | 21 => ⟨S128x8x128, .f32⟩
  | 22 => ⟨S1x128x128, .f32⟩
  | 23 => ⟨S128x128, .f32⟩
  | 24 => ⟨S128x8x128, .f32⟩
  | 25 => ⟨S128x8x128, .f32⟩
  | 26 => ⟨S128x8x128, .f32⟩
  | 27 => ⟨S128x8x128, .f32⟩
  | 28 => ⟨S128x8x128, .f32⟩
  | 29 => ⟨S128x8x128, .f32⟩
  | 30 => ⟨S128x8x128, .f32⟩
  | 31 => ⟨S128x8x128, .f32⟩
  | 32 => ⟨S128x8x128, .f32⟩
  | 33 => ⟨S128x8x128, .f32⟩
  | 34 => ⟨S128x8x128, .f32⟩
  | 35 => ⟨S128x8x128, .f32⟩
  | 36 => ⟨S128x8x128, .f32⟩
  | 37 => ⟨S128x8x128, .f32⟩
  | 38 => ⟨S128x8x128, .f32⟩
  | 39 => ⟨S128x8x128, .f32⟩
  | 40 => ⟨S_, .i32⟩
  | 41 => ⟨S8, .i32⟩
  | 42 => ⟨S8, .i32⟩
  | 43 => ⟨S_, .i32⟩
  | 44 => ⟨S8, .i32⟩
  | 45 => ⟨S8, .i32⟩
  | 46 => ⟨S8, .f32⟩
  | 47 => ⟨S1x8x1, .f32⟩
  | 48 => ⟨S128x8x128, .f32⟩
  | 49 => ⟨S128x8x128, .f32⟩
  | 50 => ⟨S128x8x128, .f32⟩
  | 51 => ⟨S128x8x128, .f32⟩
  | 52 => ⟨S1x128x128, .f32⟩
  | 53 => ⟨S128x128, .f32⟩
  | 54 => ⟨S128x8x128, .f32⟩
  | 55 => ⟨S128x8x128, .f32⟩
  | 56 => ⟨S128x8x128, .f32⟩
  | 57 => ⟨S128x8x128, .f32⟩
  | 58 => ⟨S128x8x128, .f32⟩
  | 59 => ⟨S128x8x128, .f32⟩
  | 60 => ⟨S128x8x128, .f32⟩
  | 61 => ⟨S128x8x128, .f32⟩
  | 62 => ⟨S128x8x128, .f32⟩
  | 63 => ⟨S128x8x128, .f32⟩
  | 64 => ⟨S128x8x128, .f32⟩
  | 65 => ⟨S128x8x128, .f32⟩
  | 66 => ⟨S128x8x128, .f32⟩
  | 67 => ⟨S128x8x128, .f32⟩
  | 68 => ⟨S128x8x128, .f32⟩
  | 69 => ⟨S128x8x128, .f32⟩
  | 70 => ⟨S128x8x128, .f32⟩
  | 71 => ⟨S128x8x128, .f32⟩
  | 72 => ⟨S128x8x128, .f32⟩
  | 73 => ⟨S128x8x128, .f32⟩
  | 74 => ⟨S128x8x128, .f32⟩
  | 75 => ⟨S128x8x128, .f32⟩
  | 76 => ⟨S128x8x128, .f32⟩
  | 77 => ⟨S128x8x128, .f32⟩
  | 78 => ⟨S128x8x128, .f32⟩
  | 79 => ⟨S128x8x128, .f32⟩
  | 80 => ⟨S128x8x128, .f32⟩
  | 81 => ⟨S128x8x128, .f32⟩
  | 82 => ⟨S128x8x128, .f32⟩
  | 83 => ⟨S128x8x128, .f32⟩
  | 84 => ⟨S128x8x128, .f32⟩
  | 85 => ⟨S128x8x128, .f32⟩
  | 86 => ⟨S_, .i32⟩
  | 87 => ⟨S8, .i32⟩
  | 88 => ⟨S8, .i32⟩
  | 89 => ⟨S_, .i32⟩
  | 90 => ⟨S8, .i32⟩
  | 91 => ⟨S8, .i32⟩
  | 92 => ⟨S8, .f32⟩
  | 93 => ⟨S1x8x1, .f32⟩
  | 94 => ⟨S128x8x128, .f32⟩
  | 95 => ⟨S128x8x128, .f32⟩
  | 96 => ⟨S128x8x128, .f32⟩
  | 97 => ⟨S128x8x128, .f32⟩
  | 98 => ⟨S1x128x128, .f32⟩
  | 99 => ⟨S128x128, .f32⟩
  | 100 => ⟨S128x8x128, .f32⟩
  | 101 => ⟨S128x8x512, .f32⟩
  | 102 => ⟨S1x1x512, .f32⟩
  | 103 => ⟨S128x8x512, .f32⟩
  | 104 => ⟨S128x8x512, .f32⟩
  | 105 => ⟨S128x15x512, .f32⟩
  | 106 => ⟨S128x8x1024, .f32⟩
  | 107 => ⟨S128x8x1024, .f32⟩
  | 108 => ⟨S128x8x1024, .f32⟩
  | 109 => ⟨S16384x1024, .f32⟩
  | 110 => ⟨S1024x1024, .f32⟩
  | 111 => ⟨S17408x1024, .f32⟩
  | 112 => ⟨S15x8x512, .f32⟩
  | 113 => ⟨S15x128x512, .f32⟩
  | _ => ⟨S17408x1024, .f32⟩

abbrev hbmTy (i : Nat) : BufTy := match i / 128 with
  | 0 => hbmTy0_0 i
  | 1 => hbmTy0_1 i
  | 2 => hbmTy0_2 i
  | _ => ⟨S17408x1024, .f32⟩

abbrev bufTy : (tb : Table) → Fin (tcTables nBuf tb) → BufTy
  | .hbm, ⟨i, _⟩ => hbmTy i
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c_4 : Ref sig .tc := ⟨.hbm, 68, rfl⟩
abbrev main_v53 : Ref sig .tc := ⟨.hbm, 69, rfl⟩
abbrev main_v54 : Ref sig .tc := ⟨.hbm, 70, rfl⟩
abbrev main_c_5 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_c_6 : Ref sig .tc := ⟨.hbm, 90, rfl⟩
abbrev main_v73 : Ref sig .tc := ⟨.hbm, 91, rfl⟩
abbrev main_v74 : Ref sig .tc := ⟨.hbm, 92, rfl⟩
abbrev main_c_7 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_c_8 : Ref sig .tc := ⟨.hbm, 120, rfl⟩
abbrev main_v101 : Ref sig .tc := ⟨.hbm, 121, rfl⟩
abbrev main_v102 : Ref sig .tc := ⟨.hbm, 122, rfl⟩
abbrev main_c_9 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_c_10 : Ref sig .tc := ⟨.hbm, 166, rfl⟩
abbrev main_v145 : Ref sig .tc := ⟨.hbm, 167, rfl⟩
abbrev main_v146 : Ref sig .tc := ⟨.hbm, 168, rfl⟩
abbrev main_c_11 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_cst_12 : Ref sig .tc := ⟨.hbm, 192, rfl⟩
abbrev main_v169 : Ref sig .tc := ⟨.hbm, 193, rfl⟩
abbrev main_v170 : Ref sig .tc := ⟨.hbm, 194, rfl⟩
abbrev main_cst_13 : Ref sig .tc := ⟨.hbm, 195, rfl⟩
abbrev main_v171 : Ref sig .tc := ⟨.hbm, 196, rfl⟩
abbrev main_v172 : Ref sig .tc := ⟨.hbm, 197, rfl⟩
abbrev main_cst_14 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_c_15 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_v215 : Ref sig .tc := ⟨.hbm, 242, rfl⟩
abbrev main_v216 : Ref sig .tc := ⟨.hbm, 243, rfl⟩
abbrev main_c_16 : Ref sig .tc := ⟨.hbm, 244, rfl⟩
abbrev main_v217 : Ref sig .tc := ⟨.hbm, 245, rfl⟩
abbrev main_v218 : Ref sig .tc := ⟨.hbm, 246, rfl⟩
abbrev main_c_17 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_v233 : Ref sig .tc := ⟨.hbm, 262, rfl⟩
abbrev main_v234 : Ref sig .tc := ⟨.hbm, 263, rfl⟩
abbrev main_v235 : Ref sig .tc := ⟨.hbm, 264, rfl⟩
abbrev main_v236 : Ref sig .tc := ⟨.hbm, 265, rfl⟩
abbrev main_c_18 : Ref sig .tc := ⟨.hbm, 266, rfl⟩
abbrev main_v237 : Ref sig .tc := ⟨.hbm, 267, rfl⟩
abbrev main_v238 : Ref sig .tc := ⟨.hbm, 268, rfl⟩
abbrev main_c_19 : Ref sig .tc := ⟨.hbm, 269, rfl⟩
abbrev main_v239 : Ref sig .tc := ⟨.hbm, 270, rfl⟩
abbrev main_v240 : Ref sig .tc := ⟨.hbm, 271, rfl⟩
abbrev main_v241 : Ref sig .tc := ⟨.hbm, 272, rfl⟩
abbrev main_v242 : Ref sig .tc := ⟨.hbm, 273, rfl⟩
abbrev main_v243 : Ref sig .tc := ⟨.hbm, 274, rfl⟩
abbrev main_v244 : Ref sig .tc := ⟨.hbm, 275, rfl⟩
abbrev main_v245 : Ref sig .tc := ⟨.hbm, 276, rfl⟩
abbrev main_v246 : Ref sig .tc := ⟨.hbm, 277, rfl⟩
abbrev main_v247 : Ref sig .tc := ⟨.hbm, 278, rfl⟩
abbrev main_v248 : Ref sig .tc := ⟨.hbm, 279, rfl⟩
abbrev main_v249 : Ref sig .tc := ⟨.hbm, 280, rfl⟩
abbrev main_v250 : Ref sig .tc := ⟨.hbm, 281, rfl⟩
abbrev main_v251 : Ref sig .tc := ⟨.hbm, 282, rfl⟩
abbrev main_v252 : Ref sig .tc := ⟨.hbm, 283, rfl⟩
abbrev main_v253 : Ref sig .tc := ⟨.hbm, 284, rfl⟩
abbrev main_v254 : Ref sig .tc := ⟨.hbm, 285, rfl⟩
abbrev main_v255 : Ref sig .tc := ⟨.hbm, 286, rfl⟩
abbrev main_v256 : Ref sig .tc := ⟨.hbm, 287, rfl⟩
abbrev main_v257 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩
abbrev main_v262 : Ref sig .tc := ⟨.hbm, 293, rfl⟩
abbrev main_v263 : Ref sig .tc := ⟨.hbm, 294, rfl⟩
abbrev main_v264 : Ref sig .tc := ⟨.hbm, 295, rfl⟩
abbrev main_c_20 : Ref sig .tc := ⟨.hbm, 296, rfl⟩
abbrev main_v265 : Ref sig .tc := ⟨.hbm, 297, rfl⟩
abbrev main_v266 : Ref sig .tc := ⟨.hbm, 298, rfl⟩
abbrev main_c_21 : Ref sig .tc := ⟨.hbm, 299, rfl⟩
abbrev main_v267 : Ref sig .tc := ⟨.hbm, 300, rfl⟩
abbrev main_v268 : Ref sig .tc := ⟨.hbm, 301, rfl⟩
abbrev main_v269 : Ref sig .tc := ⟨.hbm, 302, rfl⟩
abbrev main_v270 : Ref sig .tc := ⟨.hbm, 303, rfl⟩
abbrev main_v271 : Ref sig .tc := ⟨.hbm, 304, rfl⟩
abbrev main_v272 : Ref sig .tc := ⟨.hbm, 305, rfl⟩
abbrev main_v273 : Ref sig .tc := ⟨.hbm, 306, rfl⟩
abbrev main_v274 : Ref sig .tc := ⟨.hbm, 307, rfl⟩
abbrev main_v275 : Ref sig .tc := ⟨.hbm, 308, rfl⟩
abbrev main_v276 : Ref sig .tc := ⟨.hbm, 309, rfl⟩
abbrev main_v277 : Ref sig .tc := ⟨.hbm, 310, rfl⟩
abbrev main_v278 : Ref sig .tc := ⟨.hbm, 311, rfl⟩
abbrev main_v279 : Ref sig .tc := ⟨.hbm, 312, rfl⟩
abbrev main_v280 : Ref sig .tc := ⟨.hbm, 313, rfl⟩
abbrev main_v281 : Ref sig .tc := ⟨.hbm, 314, rfl⟩
abbrev main_v282 : Ref sig .tc := ⟨.hbm, 315, rfl⟩
abbrev main_v283 : Ref sig .tc := ⟨.hbm, 316, rfl⟩
abbrev main_v284 : Ref sig .tc := ⟨.hbm, 317, rfl⟩
abbrev main_v285 : Ref sig .tc := ⟨.hbm, 318, rfl⟩
abbrev main_v286 : Ref sig .tc := ⟨.hbm, 319, rfl⟩
abbrev main_v287 : Ref sig .tc := ⟨.hbm, 320, rfl⟩
abbrev main_v288 : Ref sig .tc := ⟨.hbm, 321, rfl⟩
abbrev main_v289 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_v296 : Ref sig .tc := ⟨.hbm, 329, rfl⟩
abbrev main_v297 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_v302 : Ref sig .tc := ⟨.hbm, 335, rfl⟩
abbrev main_v303 : Ref sig .tc := ⟨.hbm, 336, rfl⟩
abbrev main_v304 : Ref sig .tc := ⟨.hbm, 337, rfl⟩
abbrev main_v305 : Ref sig .tc := ⟨.hbm, 338, rfl⟩
abbrev main_v306 : Ref sig .tc := ⟨.hbm, 339, rfl⟩
abbrev main_v307 : Ref sig .tc := ⟨.hbm, 340, rfl⟩
abbrev main_v308 : Ref sig .tc := ⟨.hbm, 341, rfl⟩
abbrev main_c_22 : Ref sig .tc := ⟨.hbm, 342, rfl⟩
abbrev main_v309 : Ref sig .tc := ⟨.hbm, 343, rfl⟩
abbrev main_v310 : Ref sig .tc := ⟨.hbm, 344, rfl⟩
abbrev main_c_23 : Ref sig .tc := ⟨.hbm, 345, rfl⟩
abbrev main_v311 : Ref sig .tc := ⟨.hbm, 346, rfl⟩
abbrev main_v312 : Ref sig .tc := ⟨.hbm, 347, rfl⟩
abbrev main_v313 : Ref sig .tc := ⟨.hbm, 348, rfl⟩
abbrev main_v314 : Ref sig .tc := ⟨.hbm, 349, rfl⟩
abbrev main_v315 : Ref sig .tc := ⟨.hbm, 350, rfl⟩
abbrev main_v316 : Ref sig .tc := ⟨.hbm, 351, rfl⟩
abbrev main_v317 : Ref sig .tc := ⟨.hbm, 352, rfl⟩
abbrev main_v318 : Ref sig .tc := ⟨.hbm, 353, rfl⟩
abbrev main_v319 : Ref sig .tc := ⟨.hbm, 354, rfl⟩
abbrev main_v320 : Ref sig .tc := ⟨.hbm, 355, rfl⟩
abbrev main_v321 : Ref sig .tc := ⟨.hbm, 356, rfl⟩
abbrev main_v322 : Ref sig .tc := ⟨.hbm, 357, rfl⟩
abbrev main_v323 : Ref sig .tc := ⟨.hbm, 358, rfl⟩
abbrev main_v324 : Ref sig .tc := ⟨.hbm, 359, rfl⟩
abbrev main_v325 : Ref sig .tc := ⟨.hbm, 360, rfl⟩
abbrev main_v326 : Ref sig .tc := ⟨.hbm, 361, rfl⟩
abbrev main_v327 : Ref sig .tc := ⟨.hbm, 362, rfl⟩
abbrev main_v328 : Ref sig .tc := ⟨.hbm, 363, rfl⟩
abbrev main_v329 : Ref sig .tc := ⟨.hbm, 364, rfl⟩
abbrev main_v330 : Ref sig .tc := ⟨.hbm, 365, rfl⟩
abbrev main_v331 : Ref sig .tc := ⟨.hbm, 366, rfl⟩
abbrev main_v332 : Ref sig .tc := ⟨.hbm, 367, rfl⟩
abbrev main_v333 : Ref sig .tc := ⟨.hbm, 368, rfl⟩
abbrev main_v334 : Ref sig .tc := ⟨.hbm, 369, rfl⟩

abbrev nD : Nat := 1
abbrev τ : Topo := Topo.v7x

variable {F : FTy → Type} [FloatOps F]
-- ==== Proof.Base.lean ====
/-
  The kernel's own names for a proof of its body: its scratch buffers held whole, the two stage slots of each of the
  three weight operands with the six DMA cells that fill them, and the column (row) blocks of the weights in HBM.
-/
module

public import proofs.«01_k».proof.Proof.Gen.KernelIdeal.Frame
public import proofs.«01_k».proof.Proof.Gen.KernelIdeal.Skeleton
public import Idealize.ShloMosaic.Lib.Tactic
public import Idealize.ShloMosaic.Lib.Ring

@[expose] public section

set_option maxRecDepth 16384

noncomputable section

namespace Cert.Ffn2

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of a pipeline whose body issues its own transfers. -/
local notation "𝕄" => MT nD τ sig Unit (Elt F) ℕ (Pipeline.UD sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c` held whole at `f`. -/
abbrev pt (c : Dev nD) {sp : Space} {S : Shape} {e : EltTy} (M : Memref sig .tc sp S e) (f : Bf (F := F) c M) : sProp 𝕄 :=
  M.view.loc (c : Thread nD τ) ↦{fullShare} f
/-- The elements memref `M` names, held at `f`. -/
abbrev ptOwn (c : Dev nD) {sp : Space} {S : Shape} {e : EltTy} (M : Memref sig .tc sp S e) (f : Bf (F := F) c M) : sProp 𝕄 :=
  M.view.loc (c : Thread nD τ) ↦[M.view.set]{fullShare} f

/-- Memref `M`'s buffer held whole at contents that read `X`. -/
abbrev hold (c : Dev nD) {sp : Space} {S : Shape} {e : EltTy} (M : Memref sig .tc sp S e) (X : S.Idx → Elt F e) : sProp 𝕄 :=
  iprop(∃ f : Bf (F := F) c M, ⌜M.view.read (Elt F) f = X⌝ ∗ pt c M f)
/-- Memref `M`'s buffer held whole at some contents. -/
abbrev some' (c : Dev nD) {sp : Space} {S : Shape} {e : EltTy} (M : Memref sig .tc sp S e) : sProp 𝕄 :=
  iprop(∃ f : Bf (F := F) c M, pt c M f)
/-- The elements memref `M` names, held at some contents. -/
abbrev someOwn (c : Dev nD) {sp : Space} {S : Shape} {e : EltTy} (M : Memref sig .tc sp S e) : sProp 𝕄 :=
  iprop(∃ f : Bf (F := F) c M, ptOwn c M f)

abbrev wgM : Memref sig .tc .vmem S1024x2816 .bf16 := Memref.whole cc0_scratch0
abbrev wuM : Memref sig .tc .vmem S1024x2816 .bf16 := Memref.whole cc0_scratch1
abbrev wdM : Memref sig .tc .vmem S2816x1024 .bf16 := Memref.whole cc0_scratch2
abbrev sgM : Memref sig .tc .vmem S2x1024x256 .f32 := Memref.whole cc0_scratch3
abbrev suM : Memref sig .tc .vmem S2x1024x256 .f32 := Memref.whole cc0_scratch4
abbrev sdM : Memref sig .tc .vmem S2x256x1024 .f32 := Memref.whole cc0_scratch5
abbrev hM : Memref sig .tc .vmem S512x1024 .bf16 := Memref.whole cc0_scratch7
abbrev resM : Memref sig .tc .vmem S2x512x1024 .f32 := Memref.whole cc0_scratch8
abbrev accM : Memref sig .tc .vmem S512x1024 .f32 := Memref.whole cc0_scratch9
abbrev gM : Memref sig .tc .hbm S1024x2816 .f32 := Memref.whole main_arg2
abbrev uM : Memref sig .tc .hbm S1024x2816 .f32 := Memref.whole main_arg3
abbrev dM : Memref sig .tc .hbm S2816x1024 .f32 := Memref.whole main_arg4

/-- The two slots of each weight's stage buffer, as the body slices them. -/
abbrev sg0 : Memref sig .tc .vmem S1024x256 .f32 := (sgM.slice (Rect.unit (s := S2x1024x256) ![0, 0, 0] S1x1024x256.size inb_S2x1024x256_S1x1024x256_0_0_0) (fun _ => rfl)).squeeze S1024x256 squeezes_S1x1024x256_S1024x256
abbrev sg1 : Memref sig .tc .vmem S1024x256 .f32 := (sgM.slice (Rect.unit (s := S2x1024x256) ![1, 0, 0] S1x1024x256.size inb_S2x1024x256_S1x1024x256_1_0_0) (fun _ => rfl)).squeeze S1024x256 squeezes_S1x1024x256_S1024x256
abbrev su0 : Memref sig .tc .vmem S1024x256 .f32 := (suM.slice (Rect.unit (s := S2x1024x256) ![0, 0, 0] S1x1024x256.size inb_S2x1024x256_S1x1024x256_0_0_0) (fun _ => rfl)).squeeze S1024x256 squeezes_S1x1024x256_S1024x256
abbrev su1 : Memref sig .tc .vmem S1024x256 .f32 := (suM.slice (Rect.unit (s := S2x1024x256) ![1, 0, 0] S1x1024x256.size inb_S2x1024x256_S1x1024x256_1_0_0) (fun _ => rfl)).squeeze S1024x256 squeezes_S1x1024x256_S1024x256
abbrev sd0 : Memref sig .tc .vmem S256x1024 .f32 := (sdM.slice (Rect.unit (s := S2x256x1024) ![0, 0, 0] S1x256x1024.size inb_S2x256x1024_S1x256x1024_0_0_0) (fun _ => rfl)).squeeze S256x1024 squeezes_S1x256x1024_S256x1024
abbrev sd1 : Memref sig .tc .vmem S256x1024 .f32 := (sdM.slice (Rect.unit (s := S2x256x1024) ![1, 0, 0] S1x256x1024.size inb_S2x256x1024_S1x256x1024_1_0_0) (fun _ => rfl)).squeeze S256x1024 squeezes_S1x256x1024_S256x1024

/-- Blocks 0 and 1 of each weight in HBM, as the first point's transfers slice them. -/
abbrev gB0 : Memref sig .tc .hbm S1024x256 .f32 := gM.slice (Rect.unit (s := S1024x2816) ![0, 0] S1024x256.size inb_S1024x2816_S1024x256_0_0) (fun _ => rfl)
abbrev gB1 : Memref sig .tc .hbm S1024x256 .f32 := gM.slice (Rect.unit (s := S1024x2816) ![0, 256] S1024x256.size inb_S1024x2816_S1024x256_0_256) (fun _ => rfl)
abbrev uB0 : Memref sig .tc .hbm S1024x256 .f32 := uM.slice (Rect.unit (s := S1024x2816) ![0, 0] S1024x256.size inb_S1024x2816_S1024x256_0_0) (fun _ => rfl)
abbrev uB1 : Memref sig .tc .hbm S1024x256 .f32 := uM.slice (Rect.unit (s := S1024x2816) ![0, 256] S1024x256.size inb_S1024x2816_S1024x256_0_256) (fun _ => rfl)
abbrev dB0 : Memref sig .tc .hbm S256x1024 .f32 := dM.slice (Rect.unit (s := S2816x1024) ![0, 0] S256x1024.size inb_S2816x1024_S256x1024_0_0) (fun _ => rfl)
abbrev dB1 : Memref sig .tc .hbm S256x1024 .f32 := dM.slice (Rect.unit (s := S2816x1024) ![256, 0] S256x1024.size inb_S2816x1024_S256x1024_256_0) (fun _ => rfl)

/-- The kernel's own cells: weight `a`'s slot `s` is filled on cell `2 a + s`. -/
abbrev osem : Fin 6 → SemLoc sig := fun | 0 => .dma 8 | 1 => .dma 9 | 2 => .dma 10 | 3 => .dma 11 | 4 => .dma 12 | 5 => .dma 13

/-- The kernel body at grid coordinates `i` on the staging buffers `M0 … M4`. -/
abbrev bodyP (i : grid0.Coords) (M0 : Memref sig .tc .vmem S512x1024 .f32) (h0 : M0.IsWhole) (M1 : Memref sig .tc .vmem S1x1024 .f32) (h1 : M1.IsWhole)
    (M2 : Memref sig .tc .vmem S1x1024 .f32) (h2 : M2.IsWhole) (M3 : Memref sig .tc .vmem S512x1024 .f32) (h3 : M3.IsWhole)
    (M4 : Memref sig .tc .vmem S512x1024 .f32) (h4 : M4.IsWhole) : Prog (TpuEff nD τ sig (Elt F) Λ₀ .tc) PUnit :=
  cc0_ffn2 i M0 h0 M1 h1 gM (Memref.isWhole_whole _) uM (Memref.isWhole_whole _) dM (Memref.isWhole_whole _) M2 h2 M3 h3 M4 h4
    wgM (Memref.isWhole_whole _) wuM (Memref.isWhole_whole _) wdM (Memref.isWhole_whole _) sgM (Memref.isWhole_whole _) suM (Memref.isWhole_whole _)
    sdM (Memref.isWhole_whole _) cc0_scratch6 hM (Memref.isWhole_whole _) resM (Memref.isWhole_whole _) accM (Memref.isWhole_whole _)

/-- Block 0 of weight `gM` in flight into slot 0 of its stage buffer. -/
abbrev flG0 (c : Dev nD) (X : Bf (F := F) c gM) (a : Bf (F := F) c sgM) : sProp 𝕄 :=
  Transfers.Flight countersEmb (c : Thread nD τ) (osem 0) () 32768
    iprop((sg0.view.loc (c : Thread nD τ) ↦[sg0.view.set]{fullShare} sg0.view.writes (Elt F) a [⟨Rect.whole S1024x256, ReadAs.same.apply (gB0.view.read (Elt F) X)⟩])
      ∗ gM.view.loc (c : Thread nD τ) ↦[gB0.view.set]{fullShare} X)
/-- Block 1 of weight `gM` in flight into slot 1 of its stage buffer. -/
abbrev flG1 (c : Dev nD) (X : Bf (F := F) c gM) (a : Bf (F := F) c sgM) : sProp 𝕄 :=
  Transfers.Flight countersEmb (c : Thread nD τ) (osem 1) () 32768
    iprop((sg1.view.loc (c : Thread nD τ) ↦[sg1.view.set]{fullShare} sg1.view.writes (Elt F) a [⟨Rect.whole S1024x256, ReadAs.same.apply (gB1.view.read (Elt F) X)⟩])
      ∗ gM.view.loc (c : Thread nD τ) ↦[gB1.view.set]{fullShare} X)
/-- Block 0 of weight `uM` in flight into slot 0 of its stage buffer. -/
abbrev flU0 (c : Dev nD) (X : Bf (F := F) c uM) (a : Bf (F := F) c suM) : sProp 𝕄 :=
  Transfers.Flight countersEmb (c : Thread nD τ) (osem 2) () 32768
    iprop((su0.view.loc (c : Thread nD τ) ↦[su0.view.set]{fullShare} su0.view.writes (Elt F) a [⟨Rect.whole S1024x256, ReadAs.same.apply (uB0.view.read (Elt F) X)⟩])
      ∗ uM.view.loc (c : Thread nD τ) ↦[uB0.view.set]{fullShare} X)
/-- Block 1 of weight `uM` in flight into slot 1 of its stage buffer. -/
abbrev flU1 (c : Dev nD) (X : Bf (F := F) c uM) (a : Bf (F := F) c suM) : sProp 𝕄 :=
  Transfers.Flight countersEmb (c : Thread nD τ) (osem 3) () 32768
    iprop((su1.view.loc (c : Thread nD τ) ↦[su1.view.set]{fullShare} su1.view.writes (Elt F) a [⟨Rect.whole S1024x256, ReadAs.same.apply (uB1.view.read (Elt F) X)⟩])
      ∗ uM.view.loc (c : Thread nD τ) ↦[uB1.view.set]{fullShare} X)
/-- Block 0 of weight `dM` in flight into slot 0 of its stage buffer. -/
abbrev flD0 (c : Dev nD) (X : Bf (F := F) c dM) (a : Bf (F := F) c sdM) : sProp 𝕄 :=
  Transfers.Flight countersEmb (c : Thread nD τ) (osem 4) () 32768
    iprop((sd0.view.loc (c : Thread nD τ) ↦[sd0.view.set]{fullShare} sd0.view.writes (Elt F) a [⟨Rect.whole S256x1024, ReadAs.same.apply (dB0.view.read (Elt F) X)⟩])
      ∗ dM.view.loc (c : Thread nD τ) ↦[dB0.view.set]{fullShare} X)
/-- Block 1 of weight `dM` in flight into slot 1 of its stage buffer. -/
abbrev flD1 (c : Dev nD) (X : Bf (F := F) c dM) (a : Bf (F := F) c sdM) : sProp 𝕄 :=
  Transfers.Flight countersEmb (c : Thread nD τ) (osem 5) () 32768
    iprop((sd1.view.loc (c : Thread nD τ) ↦[sd1.view.set]{fullShare} sd1.view.writes (Elt F) a [⟨Rect.whole S256x1024, ReadAs.same.apply (dB1.view.read (Elt F) X)⟩])
      ∗ dM.view.loc (c : Thread nD τ) ↦[dB1.view.set]{fullShare} X)

/-- What stays of a weight `M` in HBM while its blocks `b0` and `b1` are in flight. -/
abbrev restP (c : Dev nD) {S : Shape} (M : Memref sig .tc .hbm S .f32) (b0 b1 : Finset (Idx (M.view.loc (c : Thread nD τ)))) (X : Bf (F := F) c M) : sProp 𝕄 :=
  M.view.loc (c : Thread nD τ) ↦[(Finset.univ \ b0) \ b1]{fullShare} X

end Cert.Ffn2

end
-- ==== Proof.Content.lean ====
/-
  What one grid step of the kernel computes on the contents of its buffers, as functions of vectors over any float
  semantics, and what the loads and stores of the body read and leave in these terms.
-/
module

public import proofs.«01_k».proof.Proof.Base
public import Idealize.ShloMosaic.Lib.VecWindow
public import Idealize.ShloMosaic.Lib.Pipeline.Value
public import Idealize.ShloMosaic.Lib.Pipeline.FrameBody
public import Idealize.ShloMosaic.Lib.ValueIdxCore

@[expose] public section

set_option maxRecDepth 16384

noncomputable section

namespace Cert.Ffn2

open Cert.KernelIdeal Cert.KernelIdeal.Gen
open Idealize.ShloMosaic
open Idealize.ShloMosaic.TcCoe Idealize.ShloMosaic.Tactic

variable {F : FTy → Type} [FloatOps F] {sg : RefSig}

/-- The normed rows of a tile: each row scaled by the reciprocal root of its mean square and by the gain, rounded to bfloat16. -/
def normT (x : Vec F S512x1024 .f32) (g : Vec F S1x1024 .f32) : Vec F S512x1024 .bf16 := k0_pay2 x g

/-- A weight of the gate (or up) shape rounded to bfloat16. -/
def castG (X : Vec F S1024x2816 .f32) : Vec F S1024x2816 .bf16 := fun y => FloatOps.truncf .bf16 bitsLt_bf16_f32 (X y)

/-- The down weight rounded to bfloat16. -/
def castD (X : Vec F S2816x1024 .f32) : Vec F S2816x1024 .bf16 := fun y => FloatOps.truncf .bf16 bitsLt_bf16_f32 (X y)

/-- A stage slot read, as a matrix, through its buffer after a transfer filled the slot: the transfer's payload. -/
theorem stage_read {sp : Space} {s s' : Shape} {e : EltTy} (v : View sg .tc sp s e) (r : Rect s) (h : s'.numel = r.shape.numel) (h' : r.shape.ShapeCasts s')
    (f : v.ty.Contents (Elt F)) (w : s'.Idx → Elt F e) (L : List (View.Piece (Elt F) s' e)) :
    shapeCast s' (v.readAt (Elt F) r.toLoadRect (((v.slice r).reshape s' h).writes (Elt F) f (⟨Rect.whole s', w⟩ :: L))) h' = w := by
  funext y
  have h := View.read_writes_cons_emb ((v.slice r).reshape s' h) f (Rect.whole s') w L y
  rwa [Rect.emb_whole_apply] at h

/-- A block of columns of a weight of the gate shape. -/
abbrev colW {e : EltTy} (X : S1024x2816.Idx → Elt F e) (off : Fin 2 → ℕ) (h : ∀ a, off a + S1024x256.size a ≤ S1024x2816.size a) : Vec F S1024x256 e :=
  VecWindow.window (s := S1024x2816) X off S1024x256.size h

/-- The activation of one chunk of 256 hidden columns: the sigmoid-weighted gate product times the up product, rounded to bfloat16. -/
def actK (h : Vec F S512x1024 .bf16) (g u : Vec F S1024x256 .bf16) : Vec F S512x256 .bf16 := k0_pay62 h g u

/-- The feed-forward product of a tile: the eleven chunks' activations side by side, times the down weight. -/
def accT (h : Vec F S512x1024 .bf16) (G U : Vec F S1024x2816 .bf16) (D : Vec F S2816x1024 .bf16) : Vec F S512x1024 .f32 :=
  k0_pay59 h
    (actK h (colW G ![0, 0] inb_S1024x2816_S1024x256_0_0) (colW U ![0, 0] inb_S1024x2816_S1024x256_0_0))
    (actK h (colW G ![0, 256] inb_S1024x2816_S1024x256_0_256) (colW U ![0, 256] inb_S1024x2816_S1024x256_0_256))
    (actK h (colW G ![0, 512] inb_S1024x2816_S1024x256_0_512) (colW U ![0, 512] inb_S1024x2816_S1024x256_0_512))
    (actK h (colW G ![0, 768] inb_S1024x2816_S1024x256_0_768) (colW U ![0, 768] inb_S1024x2816_S1024x256_0_768))
    (actK h (colW G ![0, 1024] inb_S1024x2816_S1024x256_0_1024) (colW U ![0, 1024] inb_S1024x2816_S1024x256_0_1024))
    (actK h (colW G ![0, 1280] inb_S1024x2816_S1024x256_0_1280) (colW U ![0, 1280] inb_S1024x2816_S1024x256_0_1280))
    (actK h (colW G ![0, 1536] inb_S1024x2816_S1024x256_0_1536) (colW U ![0, 1536] inb_S1024x2816_S1024x256_0_1536))
    (actK h (colW G ![0, 1792] inb_S1024x2816_S1024x256_0_1792) (colW U ![0, 1792] inb_S1024x2816_S1024x256_0_1792))
    (actK h (colW G ![0, 2048] inb_S1024x2816_S1024x256_0_2048) (colW U ![0, 2048] inb_S1024x2816_S1024x256_0_2048))
    (actK h (colW G ![0, 2304] inb_S1024x2816_S1024x256_0_2304) (colW U ![0, 2304] inb_S1024x2816_S1024x256_0_2304))
    (colW G ![0, 2560] inb_S1024x2816_S1024x256_0_2560) (colW U ![0, 2560] inb_S1024x2816_S1024x256_0_2560) D

/-- Slot `s` of the residual buffer. -/
def slotR (s : Fin 2) (R : S2x512x1024.Idx → F .f32) : Vec F S512x1024 .f32 := fun y => R (ValueIdx.ix3 s (y 0) (y 1))

/-- Rows `64 k … 64 k + 63` of a tile, under a unit axis. -/
def rows3 (R : Vec F S512x1024 .f32) (k : ℕ) : Vec F S1x64x1024 .f32 :=
  fun z => R (ValueIdx.ix2 ⟨(64 * k + (z 1).val) % 512, Nat.mod_lt _ (by decide)⟩ (z 2))

/-- Rows `64 k … 64 k + 63` of a tile. -/
def rows2 (A : Vec F S512x1024 .f32) (k : ℕ) : Vec F S64x1024 .f32 :=
  fun z => A (ValueIdx.ix2 ⟨(64 * k + (z 0).val) % 512, Nat.mod_lt _ (by decide)⟩ (z 1))

/-- A tile under a unit axis. -/
def under1 (R : Vec F S512x1024 .f32) : Vec F S1x512x1024 .f32 := fun z => R (ValueIdx.ix2 (z 1) (z 2))

/-- A finished tile, computed in eight pieces of 64 rows: the residual rows plus half the product, normed and scaled by the gain. -/
def finP (R A : Vec F S512x1024 .f32) (g : Vec F S1x1024 .f32) : Vec F S512x1024 .f32 :=
  fun y => k0_pay65 (rows3 R ((y 0).val / 64)) (rows2 A ((y 0).val / 64)) g (ValueIdx.ix2 ⟨(y 0).val % 64, Nat.mod_lt _ (by decide)⟩ (y 1))

/-- A finished tile, computed in one piece. -/
def finL (R A : Vec F S512x1024 .f32) (g : Vec F S1x1024 .f32) : Vec F S512x1024 .f32 := k0_pay6 (under1 R) A g

/-- The mask of the stores into the first result at grid coordinates `i`: one exactly where tile `i - 2` is one of its 32. -/
abbrev msk (i : grid0.Coords) : BitVec 1 := Scalar.cmpi .slt (Scalar.subi (BitVec.ofNat 32 (i 0).val) 2#32) 32#32

/-! ## Stores -/

/-- A buffer that reads `G` before coordinate `n` of axis `a` reads `G` before `n'` once the next block of `G` on that axis is stored. -/
theorem cov_step {κ : Kind} {sp : Space} {s : Shape} {e : EltTy} (v : View sg κ sp s e) (G : s.Idx → Elt F e) (a : Fin s.rank) {off size : Fin s.rank → ℕ}
    (inb : ∀ a, off a + size a ≤ s.size a) (n n' : ℕ) (hn : off a = n) (hn' : n + size a = n') (hb : ∀ b, b ≠ a → off b = 0 ∧ size b = s.size b)
    (f : v.ty.Contents (Elt F)) (w : (Rect.unit off size inb).shape.Idx → Elt F e) (hw : w = VecWindow.window G off size inb)
    (h : ∀ y : s.Idx, (y a).val < n → v.read (Elt F) f y = G y) :
    ∀ y : s.Idx, (y a).val < n' → v.read (Elt F) ((v.slice (Rect.unit off size inb)).write (Elt F) f w Finset.univ) y = G y := by
  intro y hy
  have e := View.read_writes_cons_unit v f inb w [] y rfl
  rw [View.writes_nil] at e
  refine (show _ = _ from e).trans ?_
  by_cases hyn : (y a).val < n
  · rw [dif_neg (fun hall => by have := (hall a).1; omega)]
    exact h y hyn
  · have hall : ∀ b, off b ≤ (y b).val ∧ (y b).val < off b + size b := fun b => by
      by_cases hba : b = a
      · subst hba; omega
      · obtain ⟨h1, h2⟩ := hb b hba
        have := (y b).isLt
        omega
    rw [dif_pos hall, hw]
    exact congrArg G (funext fun b => Fin.ext (by
      show off b + 1 * ((y b).val - off b) = (y b).val
      have := (hall b).1
      omega))

/-- Nothing is claimed before coordinate 0. -/
theorem cov_zero {κ : Kind} {sp : Space} {s : Shape} {e : EltTy} (v : View sg κ sp s e) (G : s.Idx → Elt F e) (a : Fin s.rank) (f : v.ty.Contents (Elt F)) :
    ∀ y : s.Idx, (y a).val < 0 → v.read (Elt F) f y = G y := fun y h => absurd h (Nat.not_lt_zero _)

theorem on_univ {s : Shape} (m : IVec s 1) (h : ∀ j, m j = 1#1) : m.on = Finset.univ := Finset.filter_true_of_mem fun j _ => h j
theorem on_empty {s : Shape} (m : IVec s 1) (h : ∀ j, m j = 0#1) : m.on = ∅ := Finset.filter_false_of_mem fun j _ => by rw [h j]; decide

/-- A store under a mask that is one everywhere. -/
theorem write_on_univ {κ : Kind} {sp : Space} {s : Shape} {e : EltTy} (v : View sg κ sp s e) (f : v.ty.Contents (Elt F)) (w : s.Idx → Elt F e) (m : IVec s 1)
    (h : ∀ j, m j = 1#1) : v.write (Elt F) f w m.on = v.write (Elt F) f w Finset.univ := by rw [on_univ m h]

/-- A store under a mask that is zero everywhere changes nothing. -/
theorem write_on_empty {κ : Kind} {sp : Space} {s : Shape} {e : EltTy} (v : View sg κ sp s e) (f : v.ty.Contents (Elt F)) (w : s.Idx → Elt F e) (m : IVec s 1)
    (h : ∀ j, m j = 0#1) : v.write (Elt F) f w m.on = f := by rw [on_empty m h, View.write_empty]

/-- A view stored whole reads the payload. -/
theorem read_write_full {κ : Kind} {sp : Space} {s : Shape} {e : EltTy} (v : View sg κ sp s e) {off : Fin s.rank → ℕ} (inb : ∀ a, off a + s.size a ≤ s.size a)
    (f : v.ty.Contents (Elt F)) (w : (Rect.unit off s.size inb).shape.Idx → Elt F e) :
    v.read (Elt F) ((v.slice (Rect.unit off s.size inb)).write (Elt F) f w Finset.univ) = w := by
  exact View.read_writes_full v f inb w []

/-- Storing the next 256 columns of `G`. -/
theorem cols_cons {e : EltTy} {κ : Kind} {sp : Space} (v : View sg κ sp S1024x2816 e) (G : S1024x2816.Idx → Elt F e) (n : ℕ) (off : Fin 2 → ℕ) (ho : off = ![0, n])
    (inb : ∀ a, off a + S1024x256.size a ≤ S1024x2816.size a) (w : S1024x256.Idx → Elt F e) (L : List (View.Piece (Elt F) S1024x2816 e))
    (hw : w = colW G off inb) (h : ∀ f, ∀ y : S1024x2816.Idx, (y 1).val < n → v.read (Elt F) (v.writes (Elt F) f L) y = G y) :
    ∀ f, ∀ y : S1024x2816.Idx, (y 1).val < n + 256 →
      v.read (Elt F) (v.writes (Elt F) f (⟨Rect.unit (s := S1024x2816) off S1024x256.size inb, w⟩ :: L)) y = G y := by
  intro f
  refine cov_step v G (1 : Fin 2) inb n (n + 256) (by rw [ho]; rfl) rfl ?_ (v.writes (Elt F) f L) w hw (h f)
  intro b hb
  match b with
  | ⟨0, _⟩ => exact ⟨by rw [ho]; rfl, rfl⟩
  | ⟨1, _⟩ => exact absurd rfl hb

/-- Storing the next 256 rows of `G`. -/
theorem rows_cons {e : EltTy} {κ : Kind} {sp : Space} (v : View sg κ sp S2816x1024 e) (G : S2816x1024.Idx → Elt F e) (n : ℕ) (off : Fin 2 → ℕ) (ho : off = ![n, 0])
    (inb : ∀ a, off a + S256x1024.size a ≤ S2816x1024.size a) (w : S256x1024.Idx → Elt F e) (L : List (View.Piece (Elt F) S2816x1024 e))
    (hw : w = VecWindow.window (s := S2816x1024) G off S256x1024.size inb)
    (h : ∀ f, ∀ y : S2816x1024.Idx, (y 0).val < n → v.read (Elt F) (v.writes (Elt F) f L) y = G y) :
    ∀ f, ∀ y : S2816x1024.Idx, (y 0).val < n + 256 →
      v.read (Elt F) (v.writes (Elt F) f (⟨Rect.unit (s := S2816x1024) off S256x1024.size inb, w⟩ :: L)) y = G y := by
  intro f
  refine cov_step v G (0 : Fin 2) inb n (n + 256) (by rw [ho]; rfl) rfl ?_ (v.writes (Elt F) f L) w hw (h f)
  intro b hb
  match b with
  | ⟨0, _⟩ => exact absurd rfl hb
  | ⟨1, _⟩ => exact ⟨by rw [ho]; rfl, rfl⟩

/-- The product from the chunks' columns as they were loaded. -/
theorem accT_of (h : Vec F S512x1024 .bf16) (G U : Vec F S1024x2816 .bf16) (D d : Vec F S2816x1024 .bf16)
    (g0 g1 g2 g3 g4 g5 g6 g7 g8 g9 g10 : Vec F S1024x256 .bf16) (u0 u1 u2 u3 u4 u5 u6 u7 u8 u9 u10 : Vec F S1024x256 .bf16)
    (hg0 : g0 = colW G ![0, 0] inb_S1024x2816_S1024x256_0_0) (hu0 : u0 = colW U ![0, 0] inb_S1024x2816_S1024x256_0_0)
    (hg1 : g1 = colW G ![0, 256] inb_S1024x2816_S1024x256_0_256) (hu1 : u1 = colW U ![0, 256] inb_S1024x2816_S1024x256_0_256)
    (hg2 : g2 = colW G ![0, 512] inb_S1024x2816_S1024x256_0_512) (hu2 : u2 = colW U ![0, 512] inb_S1024x2816_S1024x256_0_512)
    (hg3 : g3 = colW G ![0, 768] inb_S1024x2816_S1024x256_0_768) (hu3 : u3 = colW U ![0, 768] inb_S1024x2816_S1024x256_0_768)
    (hg4 : g4 = colW G ![0, 1024] inb_S1024x2816_S1024x256_0_1024) (hu4 : u4 = colW U ![0, 1024] inb_S1024x2816_S1024x256_0_1024)
    (hg5 : g5 = colW G ![0, 1280] inb_S1024x2816_S1024x256_0_1280) (hu5 : u5 = colW U ![0, 1280] inb_S1024x2816_S1024x256_0_1280)
    (hg6 : g6 = colW G ![0, 1536] inb_S1024x2816_S1024x256_0_1536) (hu6 : u6 = colW U ![0, 1536] inb_S1024x2816_S1024x256_0_1536)
    (hg7 : g7 = colW G ![0, 1792] inb_S1024x2816_S1024x256_0_1792) (hu7 : u7 = colW U ![0, 1792] inb_S1024x2816_S1024x256_0_1792)
    (hg8 : g8 = colW G ![0, 2048] inb_S1024x2816_S1024x256_0_2048) (hu8 : u8 = colW U ![0, 2048] inb_S1024x2816_S1024x256_0_2048)
    (hg9 : g9 = colW G ![0, 2304] inb_S1024x2816_S1024x256_0_2304) (hu9 : u9 = colW U ![0, 2304] inb_S1024x2816_S1024x256_0_2304)
    (hg10 : g10 = colW G ![0, 2560] inb_S1024x2816_S1024x256_0_2560) (hu10 : u10 = colW U ![0, 2560] inb_S1024x2816_S1024x256_0_2560)
    (hd : d = D) :
    k0_pay59 h (actK h g0 u0) (actK h g1 u1) (actK h g2 u2) (actK h g3 u3) (actK h g4 u4) (actK h g5 u5) (actK h g6 u6) (actK h g7 u7) (actK h g8 u8) (actK h g9 u9) g10 u10 d = accT h G U D := by
  subst hg0 hu0 hg1 hu1 hg2 hu2 hg3 hu3 hg4 hu4 hg5 hu5 hg6 hu6 hg7 hu7 hg8 hu8 hg9 hu9 hg10 hu10 hd
  rfl

/-! ## Loads -/

/-- The piece of a tile that the finished tile's rows `64 k …` are. -/
theorem finP_window (R A : Vec F S512x1024 .f32) (g : Vec F S1x1024 .f32) (k : ℕ) (hk : k < 8) (off : Fin 2 → ℕ) (ho : off = ![64 * k, 0])
    (inb : ∀ a, off a + S64x1024.size a ≤ S512x1024.size a) :
    k0_pay65 (rows3 R k) (rows2 A k) g = VecWindow.window (s := S512x1024) (finP R A g) off S64x1024.size inb := by
  subst ho
  funext z
  have hz : (z 0).val < 64 := (z 0).isLt
  have hd : (64 * k + 1 * (z 0).val) / 64 = k := by omega
  have hm : (64 * k + 1 * (z 0).val) % 64 = (z 0).val := by omega
  show _ = k0_pay65 (rows3 R ((64 * k + 1 * (z 0).val) / 64)) (rows2 A ((64 * k + 1 * (z 0).val) / 64)) g (ValueIdx.ix2 ⟨(64 * k + 1 * (z 0).val) % 64, _⟩ _)
  rw [hd]
  refine congrArg (k0_pay65 (rows3 R k) (rows2 A k) g) (funext fun a => ?_)
  match a with
  | ⟨0, _⟩ => exact Fin.ext hm.symm
  | ⟨1, _⟩ => exact Fin.ext (by show (z 1).val = 0 + 1 * (z 1).val; omega)

/-- Rows `64 k …` of slot `s` of the residual buffer, loaded. -/
theorem res_rows {κ : Kind} {sp : Space} (v : View sg κ sp S2x512x1024 .f32) (f : v.ty.Contents (Elt F)) (s : Fin 2) (k : ℕ) (hk : k < 8) (off : Fin 3 → ℕ) (ho : off = ![s.val, 64 * k, 0])
    (inb : ∀ a, off a + S1x64x1024.size a ≤ S2x512x1024.size a) :
    v.readAt (Elt F) (Rect.unit (s := S2x512x1024) off S1x64x1024.size inb).toLoadRect f = rows3 (slotR s (v.read (Elt F) f)) k := by
  subst ho
  funext z
  have h0 : (z 0).val < 1 := (z 0).isLt
  have h1 : (z 1).val < 64 := (z 1).isLt
  refine congrArg (v.read (Elt F) f) (funext fun a => ?_)
  match a with
  | ⟨0, _⟩ => exact Fin.ext (by show s.val + 1 * (z 0).val = s.val; omega)
  | ⟨1, _⟩ => exact Fin.ext (by show 64 * k + 1 * (z 1).val = (64 * k + (z 1).val) % 512; omega)
  | ⟨2, _⟩ => exact Fin.ext (by show 0 + 1 * (z 2).val = (z 2).val; omega)

/-- Slot `s` of the residual buffer, loaded. -/
theorem res_slot {κ : Kind} {sp : Space} (v : View sg κ sp S2x512x1024 .f32) (f : v.ty.Contents (Elt F)) (s : Fin 2) (off : Fin 3 → ℕ) (ho : off = ![s.val, 0, 0])
    (inb : ∀ a, off a + S1x512x1024.size a ≤ S2x512x1024.size a) :
    v.readAt (Elt F) (Rect.unit (s := S2x512x1024) off S1x512x1024.size inb).toLoadRect f = under1 (slotR s (v.read (Elt F) f)) := by
  subst ho
  funext z
  have h0 : (z 0).val < 1 := (z 0).isLt
  refine congrArg (v.read (Elt F) f) (funext fun a => ?_)
  match a with
  | ⟨0, _⟩ => exact Fin.ext (by show s.val + 1 * (z 0).val = s.val; omega)
  | ⟨1, _⟩ => exact Fin.ext (by show 0 + 1 * (z 1).val = (z 1).val; omega)
  | ⟨2, _⟩ => exact Fin.ext (by show 0 + 1 * (z 2).val = (z 2).val; omega)

/-- Rows `64 k …` of the product buffer, loaded. -/
theorem acc_rows {κ : Kind} {sp : Space} (v : View sg κ sp S512x1024 .f32) (f : v.ty.Contents (Elt F)) (k : ℕ) (hk : k < 8) (off : Fin 2 → ℕ) (ho : off = ![64 * k, 0])
    (inb : ∀ a, off a + S64x1024.size a ≤ S512x1024.size a) :
    v.readAt (Elt F) (Rect.unit (s := S512x1024) off S64x1024.size inb).toLoadRect f = rows2 (v.read (Elt F) f) k := by
  subst ho
  funext z
  have h0 : (z 0).val < 64 := (z 0).isLt
  refine congrArg (v.read (Elt F) f) (funext fun a => ?_)
  match a with
  | ⟨0, _⟩ => exact Fin.ext (by show 64 * k + 1 * (z 0).val = (64 * k + (z 0).val) % 512; omega)
  | ⟨1, _⟩ => exact Fin.ext (by show 0 + 1 * (z 1).val = (z 1).val; omega)

/-- A piece of 64 rows of a finished tile, from what the buffers of residual, product and gain hold. -/
theorem piece_eq (fr : resM.view.ty.Contents (Elt F)) (fa : accM.view.ty.Contents (Elt F)) {κ : Kind} {sp : Space} (v2 : View sg κ sp S1x1024 .f32)
    (f2 : v2.ty.Contents (Elt F)) (s : Fin 2) (k : ℕ) (hk : k < 8) (off3 : Fin 3 → ℕ) (ho3 : off3 = ![s.val, 64 * k, 0])
    (inb3 : ∀ a, off3 a + S1x64x1024.size a ≤ S2x512x1024.size a) (off : Fin 2 → ℕ) (ho : off = ![64 * k, 0])
    (inb : ∀ a, off a + S64x1024.size a ≤ S512x1024.size a) (inb2 : ∀ a, (![0, 0] : Fin 2 → ℕ) a + S1x1024.size a ≤ S1x1024.size a) :
    k0_pay65 (resM.view.readAt (Elt F) (Rect.unit (s := S2x512x1024) off3 S1x64x1024.size inb3).toLoadRect fr)
        (accM.view.readAt (Elt F) (Rect.unit (s := S512x1024) off S64x1024.size inb).toLoadRect fa)
        (v2.readAt (Elt F) (Rect.unit (s := S1x1024) ![0, 0] S1x1024.size inb2).toLoadRect f2)
      = VecWindow.window (s := S512x1024) (finP (slotR s (resM.view.read (Elt F) fr)) (accM.view.read (Elt F) fa) (v2.read (Elt F) f2)) off S64x1024.size inb := by
  rw [res_rows resM.view fr s k hk off3 ho3 inb3, acc_rows accM.view fa k hk off ho inb, View.readAt_full v2 f2]
  exact finP_window _ _ _ k hk off ho inb

/-- Storing the next 64 rows of `G` under a mask that is one everywhere. -/
theorem piece_on {κ : Kind} {sp : Space} (v : View sg κ sp S512x1024 .f32) (G : S512x1024.Idx → F .f32) (k : ℕ) (off : Fin 2 → ℕ) (ho : off = ![64 * k, 0])
    (inb : ∀ a, off a + S64x1024.size a ≤ S512x1024.size a) (f : v.ty.Contents (Elt F)) (w : S64x1024.Idx → F .f32) (m : IVec S64x1024 1)
    (hm : ∀ j, m j = 1#1) (hw : w = VecWindow.window (s := S512x1024) G off S64x1024.size inb)
    (h : ∀ y : S512x1024.Idx, (y 0).val < 64 * k → v.read (Elt F) f y = G y) :
    ∀ y : S512x1024.Idx, (y 0).val < 64 * (k + 1) →
      v.read (Elt F) ((v.slice (Rect.unit (s := S512x1024) off S64x1024.size inb)).write (Elt F) f w m.on) y = G y := by
  rw [on_univ m hm]
  refine cov_step v G (0 : Fin 2) inb (64 * k) (64 * (k + 1)) (by rw [ho]; rfl) rfl ?_ f w hw h
  intro b hb
  match b with
  | ⟨0, _⟩ => exact absurd rfl hb
  | ⟨1, _⟩ => exact ⟨by rw [ho]; rfl, rfl⟩

/-- Storing 64 rows under a mask that is zero everywhere. -/
theorem piece_off {κ : Kind} {sp : Space} (v : View sg κ sp S512x1024 .f32) (off : Fin 2 → ℕ)
    (inb : ∀ a, off a + S64x1024.size a ≤ S512x1024.size a) (f f0 : v.ty.Contents (Elt F)) (w : S64x1024.Idx → F .f32) (m : IVec S64x1024 1)
    (hm : ∀ j, m j = 0#1) (h : f = f0) :
    (v.slice (Rect.unit (s := S512x1024) off S64x1024.size inb)).write (Elt F) f w m.on = f0 := by
  rw [on_empty m hm, h]
  exact View.write_empty _ _

/-- A tile stored in slot `s` of the residual buffer is what the slot then holds, -/
theorem res_write_same {κ : Kind} {sp : Space} (v : View sg κ sp S2x512x1024 .f32) (f : v.ty.Contents (Elt F)) (s : Fin 2) (off : Fin 3 → ℕ) (ho : off = ![s.val, 0, 0])
    (inb : ∀ a, off a + S1x512x1024.size a ≤ S2x512x1024.size a) (x : Vec F S512x1024 .f32) :
    slotR s (v.read (Elt F) (v.writes (Elt F) f [⟨Rect.unit (s := S2x512x1024) off S1x512x1024.size inb, k0_pay1 x⟩])) = x := by
  subst ho
  funext y
  refine (View.read_writes_cons_unit_of_mem v f inb (k0_pay1 x) [] (ValueIdx.ix3 s (y 0) (y 1)) (ValueIdx.ix3 (0 : Fin 1) (y 0) (y 1)) rfl ?_).trans ?_
  · intro a
    match a with
    | ⟨0, _⟩ => rfl
    | ⟨1, _⟩ => exact (Nat.zero_add _).symm
    | ⟨2, _⟩ => exact (Nat.zero_add _).symm
  · refine shapeCast_apply x _ _ y ?_
    rw [Shape.rowMajor_val_two, Shape.rowMajor_val_three]
    simp

/-- and the other slot is untouched. -/
theorem res_write_other {κ : Kind} {sp : Space} (v : View sg κ sp S2x512x1024 .f32) (f : v.ty.Contents (Elt F)) (s s' : Fin 2) (hs : s ≠ s') (off : Fin 3 → ℕ) (ho : off = ![s.val, 0, 0])
    (inb : ∀ a, off a + S1x512x1024.size a ≤ S2x512x1024.size a) (w : Vec F S1x512x1024 .f32) :
    slotR s' (v.read (Elt F) (v.writes (Elt F) f [⟨Rect.unit (s := S2x512x1024) off S1x512x1024.size inb, w⟩])) = slotR s' (v.read (Elt F) f) := by
  subst ho
  funext y
  refine View.read_writes_cons_unit_of_not_mem v f inb w [] (ValueIdx.ix3 s' (y 0) (y 1)) rfl 0 ?_
  show s'.val < s.val ∨ s.val + 1 ≤ s'.val
  have : s.val ≠ s'.val := fun h => hs (Fin.ext h)
  omega

/-- A column block of a weight rounded to bfloat16, from its stage slot. -/
theorem cast_cols (z : Vec F S1x1024x256 .f32) (X : Vec F S1024x2816 .f32) (off : Fin 2 → ℕ) (inb : ∀ a, off a + S1024x256.size a ≤ S1024x2816.size a)
    (h : shapeCast S1024x256 z shapeCasts_S1x1024x256_S1024x256 = colW (F := F) (e := .f32) X off inb) : k0_pay10 z = colW (F := F) (e := .bf16) (castG X) off inb := by
  refine (shapeCast_self (truncf .bf16 (shapeCast S1024x256 z shapeCasts_S1x1024x256_S1024x256) bitsLt_bf16_f32) _).trans ?_
  rw [h]
  rfl

/-- A row block of the down weight rounded to bfloat16, from its stage slot. -/
theorem cast_rows (z : Vec F S1x256x1024 .f32) (X : Vec F S2816x1024 .f32) (off : Fin 2 → ℕ) (inb : ∀ a, off a + S256x1024.size a ≤ S2816x1024.size a)
    (h : shapeCast S256x1024 z shapeCasts_S1x256x1024_S256x1024 = VecWindow.window (s := S2816x1024) X off S256x1024.size inb) :
    k0_pay13 z = VecWindow.window (s := S2816x1024) (castD X) off S256x1024.size inb := by
  refine (shapeCast_self (truncf .bf16 (shapeCast S256x1024 z shapeCasts_S1x256x1024_S256x1024) bitsLt_bf16_f32) _).trans ?_
  rw [h]
  rfl

end Cert.Ffn2

end
-- ==== Proof.Inv.lean ====
/-
  The kernel's invariant between grid points: which tile each scratch buffer holds, where the weights are, and what a
  point may leave in each window's staging buffer.
-/
module

public import proofs.«01_k».proof.Proof.Content

@[expose] public section

set_option maxRecDepth 16384

noncomputable section

namespace Cert.Ffn2

open Cert.KernelIdeal Cert.KernelIdeal.Gen
open Idealize.ShloMosaic
open Idealize.ShloMosaic.TcCoe Idealize.ShloMosaic.Tactic
open Idealize.ShloMosaic.Pipeline (RDat Cfg Window)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

/-! ## The grid's points -/

theorem pt_c1 : ∀ t : Fin grid0.N, k0_cond1 (grid0.coords t) = 1#1 ↔ t.val = 0 := by decide +kernel
theorem pt_c2 : ∀ t : Fin grid0.N, k0_cond2 (grid0.coords t) = 1#1 ↔ t.val = 1 := by decide +kernel
theorem pt_c3 : ∀ t : Fin grid0.N, k0_cond3 (grid0.coords t) = 1#1 ↔ (2 ≤ t.val ∧ t.val ≤ 34) := by decide +kernel
theorem pt_c4 : ∀ t : Fin grid0.N, k0_cond4 (grid0.coords t) = 1#1 ↔ t.val = 35 := by decide +kernel
theorem pt_msk1 : ∀ t : Fin grid0.N, t.val ≤ 33 → msk (grid0.coords t) = 1#1 := by decide +kernel
theorem pt_msk0 : ∀ t : Fin grid0.N, 34 ≤ t.val → msk (grid0.coords t) = 0#1 := by decide +kernel
theorem pt_off1 : ∀ t : Fin grid0.N, k0_off1 (grid0.coords t) = ![t.val % 2, 0, 0] := by decide +kernel
theorem pt_off2 : ∀ t : Fin grid0.N, k0_off2 (grid0.coords t) = ![t.val % 2, 0, 0] := by decide +kernel
theorem pt_off3 : ∀ t : Fin grid0.N, k0_off3 (grid0.coords t) = ![t.val % 2, 64 * 0, 0] := by decide +kernel
theorem pt_off4 : ∀ t : Fin grid0.N, k0_off4 (grid0.coords t) = ![t.val % 2, 64 * 1, 0] := by decide +kernel
theorem pt_off5 : ∀ t : Fin grid0.N, k0_off5 (grid0.coords t) = ![t.val % 2, 64 * 2, 0] := by decide +kernel
theorem pt_off6 : ∀ t : Fin grid0.N, k0_off6 (grid0.coords t) = ![t.val % 2, 64 * 3, 0] := by decide +kernel
theorem pt_off7 : ∀ t : Fin grid0.N, k0_off7 (grid0.coords t) = ![t.val % 2, 64 * 4, 0] := by decide +kernel
theorem pt_off8 : ∀ t : Fin grid0.N, k0_off8 (grid0.coords t) = ![t.val % 2, 64 * 5, 0] := by decide +kernel
theorem pt_off9 : ∀ t : Fin grid0.N, k0_off9 (grid0.coords t) = ![t.val % 2, 64 * 6, 0] := by decide +kernel
theorem pt_off10 : ∀ t : Fin grid0.N, k0_off10 (grid0.coords t) = ![t.val % 2, 64 * 7, 0] := by decide +kernel
theorem pt_off11 : ∀ t : Fin grid0.N, k0_off11 (grid0.coords t) = ![t.val % 2, 0, 0] := by decide +kernel
theorem pt_off12 : ∀ t : Fin grid0.N, k0_off12 (grid0.coords t) = ![t.val % 2, 0, 0] := by decide +kernel

/-- The parity slot of a natural number. -/
abbrev par (n : ℕ) : Fin 2 := ⟨n % 2, Nat.mod_lt _ (by decide)⟩
theorem par_ne (n : ℕ) : par n ≠ par (n + 1) := fun h => by have := congrArg Fin.val h; simp only [par] at this; omega
theorem par_add2 (n : ℕ) : par (n + 2) = par n := Fin.ext (by simp [par])

/-! ## A whole buffer owned at what it reads -/

theorem owns_hold (c : Dev nD) {sp : Space} {S : Shape} {e : EltTy} (M : Memref sig .tc sp S e) (h : M.IsWhole) (X : S.Idx → Elt F e) :
    (owns (c : Thread nD τ) M fullShare X : sProp 𝕄) ⊢ hold c M X := by
  obtain ⟨b, rfl, rfl, rfl, hm⟩ := h; cases hm
  unfold owns hold pt
  iintro ⟨%f, %hf, H⟩; iexists f; isplitr; · ipureintro; exact hf
  simp only [Memref.view_whole, View.set_whole]
  iexact H

theorem hold_owns (c : Dev nD) {sp : Space} {S : Shape} {e : EltTy} (M : Memref sig .tc sp S e) (h : M.IsWhole) (X : S.Idx → Elt F e) :
    hold c M X ⊢ (owns (c : Thread nD τ) M fullShare X : sProp 𝕄) := by
  obtain ⟨b, rfl, rfl, rfl, hm⟩ := h; cases hm
  unfold owns hold pt
  iintro ⟨%f, %hf, H⟩; iexists f; isplitr; · ipureintro; exact hf
  simp only [Memref.view_whole, View.set_whole]
  iexact H

/-! ## The stage buffers' two slots -/

theorem inb_slotG (j : Fin 2) : ∀ a, (![j.val, 0, 0] : Fin 3 → ℕ) a + S1x1024x256.size a ≤ S2x1024x256.size a := by revert j; decide
theorem inb_slotD (j : Fin 2) : ∀ a, (![j.val, 0, 0] : Fin 3 → ℕ) a + S1x256x1024.size a ≤ S2x256x1024.size a := by revert j; decide
abbrev slotSetG (j : Fin 2) : Finset S2x1024x256.Idx := (Rect.unit (s := S2x1024x256) ![j.val, 0, 0] S1x1024x256.size (inb_slotG j)).set
abbrev slotSetD (j : Fin 2) : Finset S2x256x1024.Idx := (Rect.unit (s := S2x256x1024) ![j.val, 0, 0] S1x256x1024.size (inb_slotD j)).set
theorem slotG_disjoint (j j' : Fin 2) (hj : j ≠ j') : Disjoint (slotSetG j) (slotSetG j') :=
  Ring.lead_disjoint (s := S2x1024x256) (0 : Fin 3) 1 (fun j : Fin 2 => (![j.val, 0, 0] : Fin 3 → Nat)) S1x1024x256.size inb_slotG (fun j => by simp) rfl j j' hj
theorem slotG_cover : Finset.univ.biUnion slotSetG = Finset.univ :=
  Ring.lead_cover (s := S2x1024x256) (0 : Fin 3) 1 (fun j : Fin 2 => (![j.val, 0, 0] : Fin 3 → Nat)) S1x1024x256.size inb_slotG (fun j => by simp)
    (fun j a ha => by fin_cases a <;> first | exact absurd rfl ha | rfl) rfl (fun a ha => by fin_cases a <;> first | exact absurd rfl ha | rfl) rfl
theorem slotD_disjoint (j j' : Fin 2) (hj : j ≠ j') : Disjoint (slotSetD j) (slotSetD j') :=
  Ring.lead_disjoint (s := S2x256x1024) (0 : Fin 3) 1 (fun j : Fin 2 => (![j.val, 0, 0] : Fin 3 → Nat)) S1x256x1024.size inb_slotD (fun j => by simp) rfl j j' hj
theorem slotD_cover : Finset.univ.biUnion slotSetD = Finset.univ :=
  Ring.lead_cover (s := S2x256x1024) (0 : Fin 3) 1 (fun j : Fin 2 => (![j.val, 0, 0] : Fin 3 → Nat)) S1x256x1024.size inb_slotD (fun j => by simp)
    (fun j a ha => by fin_cases a <;> first | exact absurd rfl ha | rfl) rfl (fun a ha => by fin_cases a <;> first | exact absurd rfl ha | rfl) rfl
theorem sg0_set : sg0.view.set = slotSetG 0 := by
  simp only [sg0, Memref.view_squeeze, View.set_reshape]; exact View.set_slice_whole _ _
theorem sg1_set : sg1.view.set = slotSetG 1 := by
  simp only [sg1, Memref.view_squeeze, View.set_reshape]; exact View.set_slice_whole _ _
theorem sg_split (c : Dev nD) : some' (F := F) c sgM ⊢ iprop(someOwn c sg0 ∗ someOwn c sg1) :=
  Ring.slots2_split (U := Pipeline.UD sig nD τ) (ℓ := (sgM).view.loc (c : Thread nD τ)) (q := fullShare) slotSetG slotG_disjoint slotG_cover
    (fun f => ptOwn c sg0 f) (fun f => ptOwn c sg1 f) (fun f => by unfold ptOwn; rw [sg0_set]) (fun f => by unfold ptOwn; rw [sg1_set])
theorem sg_join (c : Dev nD) : iprop(someOwn (F := F) c sg0 ∗ someOwn c sg1) ⊢ some' c sgM :=
  Ring.slots2_join (U := Pipeline.UD sig nD τ) (ℓ := (sgM).view.loc (c : Thread nD τ)) (q := fullShare) slotSetG slotG_disjoint slotG_cover
    (fun f => ptOwn c sg0 f) (fun f => ptOwn c sg1 f) (fun f => by unfold ptOwn; rw [sg0_set]) (fun f => by unfold ptOwn; rw [sg1_set])
theorem su0_set : su0.view.set = slotSetG 0 := by
  simp only [su0, Memref.view_squeeze, View.set_reshape]; exact View.set_slice_whole _ _
theorem su1_set : su1.view.set = slotSetG 1 := by
  simp only [su1, Memref.view_squeeze, View.set_reshape]; exact View.set_slice_whole _ _
theorem su_split (c : Dev nD) : some' (F := F) c suM ⊢ iprop(someOwn c su0 ∗ someOwn c su1) :=
  Ring.slots2_split (U := Pipeline.UD sig nD τ) (ℓ := (suM).view.loc (c : Thread nD τ)) (q := fullShare) slotSetG slotG_disjoint slotG_cover
    (fun f => ptOwn c su0 f) (fun f => ptOwn c su1 f) (fun f => by unfold ptOwn; rw [su0_set]) (fun f => by unfold ptOwn; rw [su1_set])
theorem su_join (c : Dev nD) : iprop(someOwn (F := F) c su0 ∗ someOwn c su1) ⊢ some' c suM :=
  Ring.slots2_join (U := Pipeline.UD sig nD τ) (ℓ := (suM).view.loc (c : Thread nD τ)) (q := fullShare) slotSetG slotG_disjoint slotG_cover
    (fun f => ptOwn c su0 f) (fun f => ptOwn c su1 f) (fun f => by unfold ptOwn; rw [su0_set]) (fun f => by unfold ptOwn; rw [su1_set])
theorem sd0_set : sd0.view.set = slotSetD 0 := by
  simp only [sd0, Memref.view_squeeze, View.set_reshape]; exact View.set_slice_whole _ _
theorem sd1_set : sd1.view.set = slotSetD 1 := by
  simp only [sd1, Memref.view_squeeze, View.set_reshape]; exact View.set_slice_whole _ _
theorem sd_split (c : Dev nD) : some' (F := F) c sdM ⊢ iprop(someOwn c sd0 ∗ someOwn c sd1) :=
  Ring.slots2_split (U := Pipeline.UD sig nD τ) (ℓ := (sdM).view.loc (c : Thread nD τ)) (q := fullShare) slotSetD slotD_disjoint slotD_cover
    (fun f => ptOwn c sd0 f) (fun f => ptOwn c sd1 f) (fun f => by unfold ptOwn; rw [sd0_set]) (fun f => by unfold ptOwn; rw [sd1_set])
theorem sd_join (c : Dev nD) : iprop(someOwn (F := F) c sd0 ∗ someOwn c sd1) ⊢ some' c sdM :=
  Ring.slots2_join (U := Pipeline.UD sig nD τ) (ℓ := (sdM).view.loc (c : Thread nD τ)) (q := fullShare) slotSetD slotD_disjoint slotD_cover
    (fun f => ptOwn c sd0 f) (fun f => ptOwn c sd1 f) (fun f => by unfold ptOwn; rw [sd0_set]) (fun f => by unfold ptOwn; rw [sd1_set])

/-! ## The tiles, the gains and the weights -/

/-- The rows the first window stages at point `n` (at point 35 when `n` is larger). -/
def tX (c : Dev nD) (n : ℕ) : Vec F S512x1024 .f32 := iblk m c 0 (⟨min n 35, by rw [N_0]; omega⟩ : Fin grid0.N)
/-- The gain of the norm before the product, as its window stages it. -/
def g1 (c : Dev nD) : Vec F S1x1024 .f32 := iblk m c 1 (⟨0, by rw [N_0]; omega⟩ : Fin grid0.N)
/-- The gain of the last norm, as its window stages it. -/
def g2 (c : Dev nD) : Vec F S1x1024 .f32 := iblk m c 2 (⟨0, by rw [N_0]; omega⟩ : Fin grid0.N)
/-- The three weights rounded to bfloat16. -/
def wG (c : Dev nD) : Vec F S1024x2816 .bf16 := castG (gM.view.read (Elt F) (V m c main_arg2))
def wU (c : Dev nD) : Vec F S1024x2816 .bf16 := castG (uM.view.read (Elt F) (V m c main_arg3))
def wD (c : Dev nD) : Vec F S2816x1024 .bf16 := castD (dM.view.read (Elt F) (V m c main_arg4))
/-- The product of the tile staged at point `n`. -/
def tA (c : Dev nD) (n : ℕ) : Vec F S512x1024 .f32 := accT (normT (tX m c n) (g1 m c)) (wG m c) (wU m c) (wD m c)
/-- The finished tile staged at point `n`, by pieces of 64 rows. -/
def tP (c : Dev nD) (n : ℕ) : Vec F S512x1024 .f32 := finP (tX m c n) (tA m c n) (g2 m c)
/-- The finished tile staged at point `n`, in one piece. -/
def tL (c : Dev nD) (n : ℕ) : Vec F S512x1024 .f32 := finL (tX m c n) (tA m c n) (g2 m c)

theorem tX_at (c : Dev nD) (t : Fin grid0.N) : iblk m c 0 t = tX m c t.val := by
  unfold tX; congr 1; exact Fin.ext (by have := lt_of_lt_of_eq t.isLt N_0; simp only []; omega)

/-! ## The invariant -/

/-- The weights in HBM, whole. -/
def hbm3 (c : Dev nD) : sProp 𝕄 := iprop(pt c gM (V m c main_arg2) ∗ pt c uM (V m c main_arg3) ∗ pt c dM (V m c main_arg4))
/-- The six cells at zero. -/
def sems6 (c : Dev nD) : sProp 𝕄 :=
  iprop(semVal ((c : Thread nD τ), osem 0) 0 ∗ semVal ((c : Thread nD τ), osem 1) 0 ∗ semVal ((c : Thread nD τ), osem 2) 0
    ∗ semVal ((c : Thread nD τ), osem 3) 0 ∗ semVal ((c : Thread nD τ), osem 4) 0 ∗ semVal ((c : Thread nD τ), osem 5) 0)

/-- Outside the grid: every scratch buffer at anything, the cells at zero, the weights in HBM. -/
def phiOut (c : Dev nD) : sProp 𝕄 :=
  iprop((some' c wgM ∗ some' c wuM ∗ some' c wdM ∗ some' c sgM ∗ some' c suM ∗ some' c sdM ∗ some' c hM ∗ some' c resM ∗ some' c accM)
    ∗ (∃ r, prngReg c r) ∗ sems6 c ∗ hbm3 m c)

/-- After the first point: the first chunks of the weights are in flight, the first tile is normed and kept. -/
def phiOne (c : Dev nD) : sProp 𝕄 :=
  iprop((some' c wgM ∗ some' c wuM ∗ some' c wdM ∗ some' c accM)
    ∗ (restP c gM gB0.view.set gB1.view.set (V m c main_arg2) ∗ restP c uM uB0.view.set uB1.view.set (V m c main_arg3) ∗ restP c dM dB0.view.set dB1.view.set (V m c main_arg4))
    ∗ (∃ a, flG0 c (V m c main_arg2) a) ∗ (∃ a, flG1 c (V m c main_arg2) a) ∗ (∃ a, flU0 c (V m c main_arg3) a) ∗ (∃ a, flU1 c (V m c main_arg3) a)
    ∗ (∃ a, flD0 c (V m c main_arg4) a) ∗ (∃ a, flD1 c (V m c main_arg4) a)
    ∗ hold c hM (normT (tX m c 0) (g1 m c))
    ∗ (∃ gr : Bf (F := F) c resM, ⌜slotR (par 0) (resM.view.read (Elt F) gr) = tX m c 0⌝ ∗ pt c resM gr)
    ∗ (∃ r, prngReg c r))

/-- Between two middle points: tile `n`'s product is formed, tile `n + 1` is normed, the rows of both are kept, the weights are held rounded. -/
def phiMid (c : Dev nD) (n : ℕ) : sProp 𝕄 :=
  iprop((hold c wgM (wG m c) ∗ hold c wuM (wU m c) ∗ hold c wdM (wD m c) ∗ some' c sgM ∗ some' c suM ∗ some' c sdM)
    ∗ hold c hM (normT (tX m c (n + 1)) (g1 m c))
    ∗ (∃ gr : Bf (F := F) c resM, ⌜slotR (par n) (resM.view.read (Elt F) gr) = tX m c n ∧ slotR (par (n + 1)) (resM.view.read (Elt F) gr) = tX m c (n + 1)⌝ ∗ pt c resM gr)
    ∗ hold c accM (tA m c n)
    ∗ (∃ r, prngReg c r) ∗ sems6 c ∗ hbm3 m c)

/-- The invariant before point `n`. -/
def phi (c : Dev nD) : ℕ → sProp 𝕄
  | 0 => phiOut m c
  | 1 => phiOne m c
  | n + 2 => if n ≤ 33 then phiMid m c n else phiOut m c

/-! ## The windows -/

/-- What point `t` may leave in the first result's buffer: the finished tile at points 2 to 33, else what it found. -/
def after3 (c : Dev nD) (t : ℕ) (Y X : Vec F S512x1024 .f32) : Prop := if 2 ≤ t ∧ t ≤ 33 then X = tP m c (t - 2) else X = Y
/-- What point `t` may leave in the second result's buffer: the finished tile at points 34 and 35, else what it found. -/
def after4 (c : Dev nD) (t : ℕ) (Y X : Vec F S512x1024 .f32) : Prop :=
  if t = 34 then X = tP m c 32 else if t = 35 then X = tL m c 33 else X = Y

/-- The pipeline's data: the arrays as the region finds them, what each point leaves, the invariant. -/
def rdat (c : Dev nD) : RDat τ (Elt F) Unit ℕ (Pipeline.UD sig nD τ) ℕ cfg0 c where
  A w := V m c (Pipeline.arrRef spec0 w)
  after w t := match w with
    | 0 => fun Y X => X = Y
    | 1 => fun Y X => X = Y
    | 2 => fun Y X => X = Y
    | 3 => fun Y X => after3 m c t.val Y X
    | 4 => fun Y X => after4 m c t.val Y X
    | ⟨_ + 5, h⟩ => absurd h (Nat.not_lt.mpr (Nat.le_add_left 5 _))
  Φ t := phi m c t.val
  q _ := fullShare
  owed _ := 0

theorem osem_ok : Pipeline.OwnSemFacts spec0 osem := by decide
theorem sems6_eq (c : Dev nD) :
    (Pipeline.ownSems0 (Ix := Unit) (Name := ℕ) (U := Pipeline.UD sig nD τ) (Lvl := ℕ) (Val := Elt F) (τ := τ) osem c : sProp 𝕄) = sems6 c := by
  rw [Pipeline.ownSems0_eq_of_list c osem [0, 1, 2, 3, 4, 5] (by decide) (by decide)]; rfl
/-- The buffers in HBM the kernel reads itself: the three weights. -/
def hbmRefs : Finset (Ref sig .tc) := {main_arg2, main_arg3, main_arg4}
theorem hbmRefs_sub : hbmRefs ⊆ Pipeline.restRefs sig spec0 := by decide
theorem hbm3_eq (c : Dev nD) :
    (bigSep hbmRefs (fun b => ((c : Thread nD τ).loc b) ↦{fullShare} V m c b) : sProp 𝕄) = hbm3 m c := by
  rw [BI.bigSep_eq_bigSepL_of_eq [main_arg2, main_arg3, main_arg4] (by decide) (by decide)]; rfl
theorem phiOut_eq (c : Dev nD) : (Pipeline.ΦD osem spec0 hbmRefs (V m) c : sProp 𝕄) = phiOut m c := by
  rw [Pipeline.ΦD_eq, scopedRest0_eq, sems6_eq, hbm3_eq]; rfl

/-- Window 0 finds its point's tile. -/
theorem finds0 (c : Dev nD) (t : Fin cfg0.N) (Y) (h : (rdat m c).Finds 0 t Y) : Y = tX m c t.val := by
  obtain ⟨d, hd⟩ := (rdat m c).finds_in_eq_fetched 0 rfl (fun _ _ _ => rfl) (fun _ _ _ h => h) t Y h
  rw [hd, ← tX_at]; rfl
/-- Window 1 finds the first gain. -/
theorem finds1 (c : Dev nD) (t : Fin cfg0.N) (Y) (h : (rdat m c).Finds 1 t Y) : Y = g1 m c := by
  obtain ⟨d, hd⟩ := (rdat m c).finds_in_eq_fetched 1 rfl (fun _ _ _ => rfl) (fun _ _ _ h => h) t Y h
  rw [hd]; rfl
/-- Window 2 finds the second gain. -/
theorem finds2 (c : Dev nD) (t : Fin cfg0.N) (Y) (h : (rdat m c).Finds 2 t Y) : Y = g2 m c := by
  obtain ⟨d, hd⟩ := (rdat m c).finds_in_eq_fetched 2 rfl (fun _ _ _ => rfl) (fun _ _ _ h => h) t Y h
  rw [hd]; rfl

end Cert.Ffn2

end
-- ==== Proof.Step0.lean ====
/-
  The first grid step: the first two chunks of each weight are sent for and the first tile is normed.
-/
module

public import proofs.«01_k».proof.Proof.Content

@[expose] public section

set_option maxRecDepth 16384

noncomputable section

namespace Cert.Ffn2

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The step: six transfers in flight, the first tile normed and kept as a residual. -/
theorem step0 (c : Dev nD) (i : grid0.Coords) (hc1 : k0_cond1 i = 1#1) (hc2 : ¬ k0_cond2 i = 1#1) (hc3 : ¬ k0_cond3 i = 1#1) (hc4 : ¬ k0_cond4 i = 1#1)
    (s : Fin 2) (ho : k0_off1 i = ![s.val, 0, 0])
    (M0 : Memref sig .tc .vmem S512x1024 .f32) (h0 : M0.IsWhole) (M1 : Memref sig .tc .vmem S1x1024 .f32) (h1 : M1.IsWhole)
    (M2 : Memref sig .tc .vmem S1x1024 .f32) (h2 : M2.IsWhole) (M3 : Memref sig .tc .vmem S512x1024 .f32) (h3 : M3.IsWhole)
    (M4 : Memref sig .tc .vmem S512x1024 .f32) (h4 : M4.IsWhole)
    (f0 : Bf (F := F) c M0) (f1 : Bf (F := F) c M1) (XG : Bf (F := F) c gM) (XU : Bf (F := F) c uM) (XD : Bf (F := F) c dM)
    (a0 a1 : Bf (F := F) c sgM) (b0 b1 : Bf (F := F) c suM) (d0 d1 : Bf (F := F) c sdM)
    (fh : Bf (F := F) c hM) (fr : Bf (F := F) c resM)
    (W : Waits sig Unit) (Q : PUnit → sProp 𝕄) :
    iprop(pt c M0 f0 ∗ pt c M1 f1 ∗ pt c gM XG ∗ pt c uM XU ∗ pt c dM XD
      ∗ ptOwn c sg0 a0 ∗ ptOwn c sg1 a1 ∗ ptOwn c su0 b0 ∗ ptOwn c su1 b1 ∗ ptOwn c sd0 d0 ∗ ptOwn c sd1 d1
      ∗ pt c hM fh ∗ pt c resM fr
      ∗ semVal ((c : Thread nD τ), osem 0) 0 ∗ semVal ((c : Thread nD τ), osem 1) 0 ∗ semVal ((c : Thread nD τ), osem 2) 0
      ∗ semVal ((c : Thread nD τ), osem 3) 0 ∗ semVal ((c : Thread nD τ), osem 4) 0 ∗ semVal ((c : Thread nD τ), osem 5) 0
      ∗ owes (c : Thread nD τ) 0 W
      ∗ (iprop(pt c M0 f0 ∗ pt c M1 f1
          ∗ restP c gM gB0.view.set gB1.view.set XG ∗ restP c uM uB0.view.set uB1.view.set XU ∗ restP c dM dB0.view.set dB1.view.set XD
          ∗ flG0 c XG a0 ∗ flG1 c XG a1 ∗ flU0 c XU b0 ∗ flU1 c XU b1 ∗ flD0 c XD d0 ∗ flD1 c XD d1
          ∗ hold c hM (normT (M0.view.read (Elt F) f0) (M1.view.read (Elt F) f1))
          ∗ (∃ gr : Bf (F := F) c resM, ⌜slotR s (resM.view.read (Elt F) gr) = M0.view.read (Elt F) f0⌝ ∗ pt c resM gr)
          ∗ (∃ W', owes (c : Thread nD τ) 0 W')) -∗ Q ⟨⟩))
    ⊢ wp frame (wpE (defs₀ (F := F)) Variants.none c none) Set.univ (bodyP i M0 h0 M1 h1 M2 h2 M3 h3 M4 h4) Q := by
  iintro ⟨H0, H1, HG, HU, HD, Hg0, Hg1, Hu0, Hu1, Hd0, Hd1, Hh, Hr, S0, S1, S2, S3, S4, S5, HO, Hk⟩
  unfold bodyP
  simp only [cc0_ffn2_eq_skeleton]
  unfold cc0_ffn2_skel
  sl_exec
  sl_step
  iapply Hk
  iframe H0 H1 HG HU HD S0 S1 S2 S3 S4 S5
  isplitl [Hh]
  · iexists _; isplitr; swap; · iexact Hh
    ipureintro
    refine (View.read_writes_full hM.view fh _ _ _).trans ?_
    exact congrArg₂ normT (View.readAt_full M0.view f0 _) (View.readAt_full M1.view f1 _)
  isplitl [Hr]
  · iexists _; isplitr; swap; · iexact Hr
    ipureintro
    exact (res_write_same resM.view fr s _ ho _ _).trans (View.readAt_full M0.view f0 _)
  iexists _
  iexact HO

end Cert.Ffn2

end
-- ==== Proof.Step1.lean ====
/-
  The second grid step: the weights' chunks arrive, are rounded to bfloat16 and kept; the first tile's product is formed
  from them as they arrive; the second tile is normed.
-/
module

public import proofs.«01_k».proof.Proof.Content

@[expose] public section

set_option maxRecDepth 16384

noncomputable section

namespace Cert.Ffn2

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The step: every transfer has landed, the three weights are held rounded, the first tile's product and the second tile's normed rows are formed. -/
theorem step1 (c : Dev nD) (i : grid0.Coords) (hc1 : ¬ k0_cond1 i = 1#1) (hc2 : k0_cond2 i = 1#1) (hc3 : ¬ k0_cond3 i = 1#1) (hc4 : ¬ k0_cond4 i = 1#1)
    (s s' : Fin 2) (hs : s ≠ s') (ho : k0_off2 i = ![s.val, 0, 0])
    (M0 : Memref sig .tc .vmem S512x1024 .f32) (h0 : M0.IsWhole) (M1 : Memref sig .tc .vmem S1x1024 .f32) (h1 : M1.IsWhole)
    (M2 : Memref sig .tc .vmem S1x1024 .f32) (h2 : M2.IsWhole) (M3 : Memref sig .tc .vmem S512x1024 .f32) (h3 : M3.IsWhole)
    (M4 : Memref sig .tc .vmem S512x1024 .f32) (h4 : M4.IsWhole)
    (f0 : Bf (F := F) c M0) (f1 : Bf (F := F) c M1) (XG : Bf (F := F) c gM) (XU : Bf (F := F) c uM) (XD : Bf (F := F) c dM)
    (a0 a1 : Bf (F := F) c sgM) (b0 b1 : Bf (F := F) c suM) (d0 d1 : Bf (F := F) c sdM)
    (fwg : Bf (F := F) c wgM) (fwu : Bf (F := F) c wuM) (fwd : Bf (F := F) c wdM)
    (fh : Bf (F := F) c hM) (fr : Bf (F := F) c resM) (fa : Bf (F := F) c accM)
    (W : Waits sig Unit) (Q : PUnit → sProp 𝕄) :
    iprop(pt c M0 f0 ∗ pt c M1 f1 ∗ restP c gM gB0.view.set gB1.view.set XG ∗ restP c uM uB0.view.set uB1.view.set XU ∗ restP c dM dB0.view.set dB1.view.set XD
      ∗ flG0 c XG a0 ∗ flG1 c XG a1 ∗ flU0 c XU b0 ∗ flU1 c XU b1 ∗ flD0 c XD d0 ∗ flD1 c XD d1
      ∗ pt c wgM fwg ∗ pt c wuM fwu ∗ pt c wdM fwd
      ∗ pt c hM fh ∗ pt c resM fr ∗ pt c accM fa
      ∗ owes (c : Thread nD τ) 0 W
      ∗ (iprop(pt c M0 f0 ∗ pt c M1 f1 ∗ pt c gM XG ∗ pt c uM XU ∗ pt c dM XD
          ∗ someOwn c sg0 ∗ someOwn c sg1 ∗ someOwn c su0 ∗ someOwn c su1 ∗ someOwn c sd0 ∗ someOwn c sd1
          ∗ semVal ((c : Thread nD τ), osem 0) 0 ∗ semVal ((c : Thread nD τ), osem 1) 0 ∗ semVal ((c : Thread nD τ), osem 2) 0
          ∗ semVal ((c : Thread nD τ), osem 3) 0 ∗ semVal ((c : Thread nD τ), osem 4) 0 ∗ semVal ((c : Thread nD τ), osem 5) 0
          ∗ hold c wgM (castG (gM.view.read (Elt F) XG)) ∗ hold c wuM (castG (uM.view.read (Elt F) XU)) ∗ hold c wdM (castD (dM.view.read (Elt F) XD))
          ∗ hold c hM (normT (M0.view.read (Elt F) f0) (M1.view.read (Elt F) f1))
          ∗ (∃ gr : Bf (F := F) c resM, ⌜slotR s (resM.view.read (Elt F) gr) = M0.view.read (Elt F) f0
              ∧ slotR s' (resM.view.read (Elt F) gr) = slotR s' (resM.view.read (Elt F) fr)⌝ ∗ pt c resM gr)
          ∗ hold c accM (accT (hM.view.read (Elt F) fh) (castG (gM.view.read (Elt F) XG)) (castG (uM.view.read (Elt F) XU)) (castD (dM.view.read (Elt F) XD)))
          ∗ (∃ W', owes (c : Thread nD τ) 0 W')) -∗ Q ⟨⟩))
    ⊢ wp frame (wpE (defs₀ (F := F)) Variants.none c none) Set.univ (bodyP i M0 h0 M1 h1 M2 h2 M3 h3 M4 h4) Q := by
  iintro ⟨H0, H1, HG, HU, HD, S0, S1, S2, S3, S4, S5, Hwg, Hwu, Hwd, Hh, Hr, Ha, HO, Hk⟩
  unfold bodyP
  simp only [cc0_ffn2_eq_skeleton]
  unfold cc0_ffn2_skel
  sl_exec
  sl_step
  have pg0 : k0_pay10 (step1.sl.v40 c XG) = colW (F := F) (e := .bf16) (castG (gM.view.read (Elt F) XG)) ![0, 0] inb_S1024x2816_S1024x256_0_0 :=
    cast_cols _ (gM.view.read (Elt F) XG) _ _ ((stage_read sgM.view _ _ _ _ _ _).trans rfl)
  have pg1 : k0_pay16 (step1.sl.r_3 c XG) = colW (F := F) (e := .bf16) (castG (gM.view.read (Elt F) XG)) ![0, 256] inb_S1024x2816_S1024x256_0_256 :=
    cast_cols _ (gM.view.read (Elt F) XG) _ _ ((stage_read sgM.view _ _ _ _ _ _).trans rfl)
  have pg2 : k0_pay20 (step1.sl.v152 c XG) = colW (F := F) (e := .bf16) (castG (gM.view.read (Elt F) XG)) ![0, 512] inb_S1024x2816_S1024x256_0_512 :=
    cast_cols _ (gM.view.read (Elt F) XG) _ _ ((stage_read sgM.view _ _ _ _ _ _).trans rfl)
  have pg3 : k0_pay24 (step1.sl.v208 c XG) = colW (F := F) (e := .bf16) (castG (gM.view.read (Elt F) XG)) ![0, 768] inb_S1024x2816_S1024x256_0_768 :=
    cast_cols _ (gM.view.read (Elt F) XG) _ _ ((stage_read sgM.view _ _ _ _ _ _).trans rfl)
  have pg4 : k0_pay28 (step1.sl.v264 c XG) = colW (F := F) (e := .bf16) (castG (gM.view.read (Elt F) XG)) ![0, 1024] inb_S1024x2816_S1024x256_0_1024 :=
    cast_cols _ (gM.view.read (Elt F) XG) _ _ ((stage_read sgM.view _ _ _ _ _ _).trans rfl)
  have pg5 : k0_pay32 (step1.sl.v320 c XG) = colW (F := F) (e := .bf16) (castG (gM.view.read (Elt F) XG)) ![0, 1280] inb_S1024x2816_S1024x256_0_1280 :=
    cast_cols _ (gM.view.read (Elt F) XG) _ _ ((stage_read sgM.view _ _ _ _ _ _).trans rfl)
  have pg6 : k0_pay36 (step1.sl.v376 c XG) = colW (F := F) (e := .bf16) (castG (gM.view.read (Elt F) XG)) ![0, 1536] inb_S1024x2816_S1024x256_0_1536 :=
    cast_cols _ (gM.view.read (Elt F) XG) _ _ ((stage_read sgM.view _ _ _ _ _ _).trans rfl)
  have pg7 : k0_pay41 (step1.sl.v432 c XG) = colW (F := F) (e := .bf16) (castG (gM.view.read (Elt F) XG)) ![0, 1792] inb_S1024x2816_S1024x256_0_1792 :=
    cast_cols _ (gM.view.read (Elt F) XG) _ _ ((stage_read sgM.view _ _ _ _ _ _).trans rfl)
  have pg8 : k0_pay47 (step1.sl.v488 c XG) = colW (F := F) (e := .bf16) (castG (gM.view.read (Elt F) XG)) ![0, 2048] inb_S1024x2816_S1024x256_0_2048 :=
    cast_cols _ (gM.view.read (Elt F) XG) _ _ ((stage_read sgM.view _ _ _ _ _ _).trans rfl)
  have pg9 : k0_pay52 (step1.sl.r_15 c XG) = colW (F := F) (e := .bf16) (castG (gM.view.read (Elt F) XG)) ![0, 2304] inb_S1024x2816_S1024x256_0_2304 :=
    cast_cols _ (gM.view.read (Elt F) XG) _ _ ((stage_read sgM.view _ _ _ _ _ _).trans rfl)
  have pg10 : k0_pay56 (step1.sl.v585 c XG) = colW (F := F) (e := .bf16) (castG (gM.view.read (Elt F) XG)) ![0, 2560] inb_S1024x2816_S1024x256_0_2560 :=
    cast_cols _ (gM.view.read (Elt F) XG) _ _ ((stage_read sgM.view _ _ _ _ _ _).trans rfl)
  have pu0 : k0_pay12 (step1.sl.r_1 c XU) = colW (F := F) (e := .bf16) (castG (uM.view.read (Elt F) XU)) ![0, 0] inb_S1024x2816_S1024x256_0_0 :=
    cast_cols _ (uM.view.read (Elt F) XU) _ _ ((stage_read suM.view _ _ _ _ _ _).trans rfl)
  have pu1 : k0_pay17 (step1.sl.v102 c XU) = colW (F := F) (e := .bf16) (castG (uM.view.read (Elt F) XU)) ![0, 256] inb_S1024x2816_S1024x256_0_256 :=
    cast_cols _ (uM.view.read (Elt F) XU) _ _ ((stage_read suM.view _ _ _ _ _ _).trans rfl)
  have pu2 : k0_pay21 (step1.sl.v158 c XU) = colW (F := F) (e := .bf16) (castG (uM.view.read (Elt F) XU)) ![0, 512] inb_S1024x2816_S1024x256_0_512 :=
    cast_cols _ (uM.view.read (Elt F) XU) _ _ ((stage_read suM.view _ _ _ _ _ _).trans rfl)
  have pu3 : k0_pay25 (step1.sl.v214 c XU) = colW (F := F) (e := .bf16) (castG (uM.view.read (Elt F) XU)) ![0, 768] inb_S1024x2816_S1024x256_0_768 :=
    cast_cols _ (uM.view.read (Elt F) XU) _ _ ((stage_read suM.view _ _ _ _ _ _).trans rfl)
  have pu4 : k0_pay29 (step1.sl.v270 c XU) = colW (F := F) (e := .bf16) (castG (uM.view.read (Elt F) XU)) ![0, 1024] inb_S1024x2816_S1024x256_0_1024 :=
    cast_cols _ (uM.view.read (Elt F) XU) _ _ ((stage_read suM.view _ _ _ _ _ _).trans rfl)
  have pu5 : k0_pay33 (step1.sl.v326 c XU) = colW (F := F) (e := .bf16) (castG (uM.view.read (Elt F) XU)) ![0, 1280] inb_S1024x2816_S1024x256_0_1280 :=
    cast_cols _ (uM.view.read (Elt F) XU) _ _ ((stage_read suM.view _ _ _ _ _ _).trans rfl)
  have pu6 : k0_pay37 (step1.sl.v382 c XU) = colW (F := F) (e := .bf16) (castG (uM.view.read (Elt F) XU)) ![0, 1536] inb_S1024x2816_S1024x256_0_1536 :=
    cast_cols _ (uM.view.read (Elt F) XU) _ _ ((stage_read suM.view _ _ _ _ _ _).trans rfl)
  have pu7 : k0_pay43 (step1.sl.r_11 c XU) = colW (F := F) (e := .bf16) (castG (uM.view.read (Elt F) XU)) ![0, 1792] inb_S1024x2816_S1024x256_0_1792 :=
    cast_cols _ (uM.view.read (Elt F) XU) _ _ ((stage_read suM.view _ _ _ _ _ _).trans rfl)
  have pu8 : k0_pay48 (step1.sl.v494 c XU) = colW (F := F) (e := .bf16) (castG (uM.view.read (Elt F) XU)) ![0, 2048] inb_S1024x2816_S1024x256_0_2048 :=
    cast_cols _ (uM.view.read (Elt F) XU) _ _ ((stage_read suM.view _ _ _ _ _ _).trans rfl)
  have pu9 : k0_pay53 (step1.sl.v550 c XU) = colW (F := F) (e := .bf16) (castG (uM.view.read (Elt F) XU)) ![0, 2304] inb_S1024x2816_S1024x256_0_2304 :=
    cast_cols _ (uM.view.read (Elt F) XU) _ _ ((stage_read suM.view _ _ _ _ _ _).trans rfl)
  have pu10 : k0_pay57 (step1.sl.v591 c XU) = colW (F := F) (e := .bf16) (castG (uM.view.read (Elt F) XU)) ![0, 2560] inb_S1024x2816_S1024x256_0_2560 :=
    cast_cols _ (uM.view.read (Elt F) XU) _ _ ((stage_read suM.view _ _ _ _ _ _).trans rfl)
  have pd0 : k0_pay13 (step1.sl.v52 c XD) = VecWindow.window (s := S2816x1024) (castD (dM.view.read (Elt F) XD)) ![0, 0] S256x1024.size inb_S2816x1024_S256x1024_0_0 :=
    cast_rows _ (dM.view.read (Elt F) XD) _ _ ((stage_read sdM.view _ _ _ _ _ _).trans rfl)
  have pd1 : k0_pay18 (step1.sl.v108 c XD) = VecWindow.window (s := S2816x1024) (castD (dM.view.read (Elt F) XD)) ![256, 0] S256x1024.size inb_S2816x1024_S256x1024_256_0 :=
    cast_rows _ (dM.view.read (Elt F) XD) _ _ ((stage_read sdM.view _ _ _ _ _ _).trans rfl)
  have pd2 : k0_pay22 (step1.sl.v164 c XD) = VecWindow.window (s := S2816x1024) (castD (dM.view.read (Elt F) XD)) ![512, 0] S256x1024.size inb_S2816x1024_S256x1024_512_0 :=
    cast_rows _ (dM.view.read (Elt F) XD) _ _ ((stage_read sdM.view _ _ _ _ _ _).trans rfl)
  have pd3 : k0_pay26 (step1.sl.v220 c XD) = VecWindow.window (s := S2816x1024) (castD (dM.view.read (Elt F) XD)) ![768, 0] S256x1024.size inb_S2816x1024_S256x1024_768_0 :=
    cast_rows _ (dM.view.read (Elt F) XD) _ _ ((stage_read sdM.view _ _ _ _ _ _).trans rfl)
  have pd4 : k0_pay30 (step1.sl.v276 c XD) = VecWindow.window (s := S2816x1024) (castD (dM.view.read (Elt F) XD)) ![1024, 0] S256x1024.size inb_S2816x1024_S256x1024_1024_0 :=
    cast_rows _ (dM.view.read (Elt F) XD) _ _ ((stage_read sdM.view _ _ _ _ _ _).trans rfl)
  have pd5 : k0_pay34 (step1.sl.v332 c XD) = VecWindow.window (s := S2816x1024) (castD (dM.view.read (Elt F) XD)) ![1280, 0] S256x1024.size inb_S2816x1024_S256x1024_1280_0 :=
    cast_rows _ (dM.view.read (Elt F) XD) _ _ ((stage_read sdM.view _ _ _ _ _ _).trans rfl)
  have pd6 : k0_pay39 (step1.sl.r_9 c XD) = VecWindow.window (s := S2816x1024) (castD (dM.view.read (Elt F) XD)) ![1536, 0] S256x1024.size inb_S2816x1024_S256x1024_1536_0 :=
    cast_rows _ (dM.view.read (Elt F) XD) _ _ ((stage_read sdM.view _ _ _ _ _ _).trans rfl)
  have pd7 : k0_pay44 (step1.sl.v444 c XD) = VecWindow.window (s := S2816x1024) (castD (dM.view.read (Elt F) XD)) ![1792, 0] S256x1024.size inb_S2816x1024_S256x1024_1792_0 :=
    cast_rows _ (dM.view.read (Elt F) XD) _ _ ((stage_read sdM.view _ _ _ _ _ _).trans rfl)
  have pd8 : k0_pay49 (step1.sl.v500 c XD) = VecWindow.window (s := S2816x1024) (castD (dM.view.read (Elt F) XD)) ![2048, 0] S256x1024.size inb_S2816x1024_S256x1024_2048_0 :=
    cast_rows _ (dM.view.read (Elt F) XD) _ _ ((stage_read sdM.view _ _ _ _ _ _).trans rfl)
  have pd9 : k0_pay54 (step1.sl.v556 c XD) = VecWindow.window (s := S2816x1024) (castD (dM.view.read (Elt F) XD)) ![2304, 0] S256x1024.size inb_S2816x1024_S256x1024_2304_0 :=
    cast_rows _ (dM.view.read (Elt F) XD) _ _ ((stage_read sdM.view _ _ _ _ _ _).trans rfl)
  have pd10 : k0_pay58 (step1.sl.v597 c XD) = VecWindow.window (s := S2816x1024) (castD (dM.view.read (Elt F) XD)) ![2560, 0] S256x1024.size inb_S2816x1024_S256x1024_2560_0 :=
    cast_rows _ (dM.view.read (Elt F) XD) _ _ ((stage_read sdM.view _ _ _ _ _ _).trans rfl)
  have cg0 : ∀ f, ∀ y : S1024x2816.Idx, (y 1).val < 0 → wgM.view.read (Elt F) (wgM.view.writes (Elt F) f []) y = castG (gM.view.read (Elt F) XG) y := fun _ _ h => absurd h (Nat.not_lt_zero _)
  have cg1 := cols_cons wgM.view _ 0 _ rfl inb_S1024x2816_S1024x256_0_0 _ _ pg0 cg0
  have cg2 := cols_cons wgM.view _ 256 _ rfl inb_S1024x2816_S1024x256_0_256 _ _ pg1 cg1
  have cg3 := cols_cons wgM.view _ 512 _ rfl inb_S1024x2816_S1024x256_0_512 _ _ pg2 cg2
  have cg4 := cols_cons wgM.view _ 768 _ rfl inb_S1024x2816_S1024x256_0_768 _ _ pg3 cg3
  have cg5 := cols_cons wgM.view _ 1024 _ rfl inb_S1024x2816_S1024x256_0_1024 _ _ pg4 cg4
  have cg6 := cols_cons wgM.view _ 1280 _ rfl inb_S1024x2816_S1024x256_0_1280 _ _ pg5 cg5
  have cg7 := cols_cons wgM.view _ 1536 _ rfl inb_S1024x2816_S1024x256_0_1536 _ _ pg6 cg6
  have cg8 := cols_cons wgM.view _ 1792 _ rfl inb_S1024x2816_S1024x256_0_1792 _ _ pg7 cg7
  have cg9 := cols_cons wgM.view _ 2048 _ rfl inb_S1024x2816_S1024x256_0_2048 _ _ pg8 cg8
  have cg10 := cols_cons wgM.view _ 2304 _ rfl inb_S1024x2816_S1024x256_0_2304 _ _ pg9 cg9
  have cg11 := cols_cons wgM.view _ 2560 _ rfl inb_S1024x2816_S1024x256_0_2560 _ _ pg10 cg10
  have cu0 : ∀ f, ∀ y : S1024x2816.Idx, (y 1).val < 0 → wuM.view.read (Elt F) (wuM.view.writes (Elt F) f []) y = castG (uM.view.read (Elt F) XU) y := fun _ _ h => absurd h (Nat.not_lt_zero _)
  have cu1 := cols_cons wuM.view _ 0 _ rfl inb_S1024x2816_S1024x256_0_0 _ _ pu0 cu0
  have cu2 := cols_cons wuM.view _ 256 _ rfl inb_S1024x2816_S1024x256_0_256 _ _ pu1 cu1
  have cu3 := cols_cons wuM.view _ 512 _ rfl inb_S1024x2816_S1024x256_0_512 _ _ pu2 cu2
  have cu4 := cols_cons wuM.view _ 768 _ rfl inb_S1024x2816_S1024x256_0_768 _ _ pu3 cu3
  have cu5 := cols_cons wuM.view _ 1024 _ rfl inb_S1024x2816_S1024x256_0_1024 _ _ pu4 cu4
  have cu6 := cols_cons wuM.view _ 1280 _ rfl inb_S1024x2816_S1024x256_0_1280 _ _ pu5 cu5
  have cu7 := cols_cons wuM.view _ 1536 _ rfl inb_S1024x2816_S1024x256_0_1536 _ _ pu6 cu6
  have cu8 := cols_cons wuM.view _ 1792 _ rfl inb_S1024x2816_S1024x256_0_1792 _ _ pu7 cu7
  have cu9 := cols_cons wuM.view _ 2048 _ rfl inb_S1024x2816_S1024x256_0_2048 _ _ pu8 cu8
  have cu10 := cols_cons wuM.view _ 2304 _ rfl inb_S1024x2816_S1024x256_0_2304 _ _ pu9 cu9
  have cu11 := cols_cons wuM.view _ 2560 _ rfl inb_S1024x2816_S1024x256_0_2560 _ _ pu10 cu10
  have cd0 : ∀ f, ∀ y : S2816x1024.Idx, (y 0).val < 0 → wdM.view.read (Elt F) (wdM.view.writes (Elt F) f []) y = castD (dM.view.read (Elt F) XD) y := fun _ _ h => absurd h (Nat.not_lt_zero _)
  have cd1 := rows_cons wdM.view _ 0 _ rfl inb_S2816x1024_S256x1024_0_0 _ _ pd0 cd0
  have cd2 := rows_cons wdM.view _ 256 _ rfl inb_S2816x1024_S256x1024_256_0 _ _ pd1 cd1
  have cd3 := rows_cons wdM.view _ 512 _ rfl inb_S2816x1024_S256x1024_512_0 _ _ pd2 cd2
  have cd4 := rows_cons wdM.view _ 768 _ rfl inb_S2816x1024_S256x1024_768_0 _ _ pd3 cd3
  have cd5 := rows_cons wdM.view _ 1024 _ rfl inb_S2816x1024_S256x1024_1024_0 _ _ pd4 cd4
  have cd6 := rows_cons wdM.view _ 1280 _ rfl inb_S2816x1024_S256x1024_1280_0 _ _ pd5 cd5
  have cd7 := rows_cons wdM.view _ 1536 _ rfl inb_S2816x1024_S256x1024_1536_0 _ _ pd6 cd6
  have cd8 := rows_cons wdM.view _ 1792 _ rfl inb_S2816x1024_S256x1024_1792_0 _ _ pd7 cd7
  have cd9 := rows_cons wdM.view _ 2048 _ rfl inb_S2816x1024_S256x1024_2048_0 _ _ pd8 cd8
  have cd10 := rows_cons wdM.view _ 2304 _ rfl inb_S2816x1024_S256x1024_2304_0 _ _ pd9 cd9
  have cd11 := rows_cons wdM.view _ 2560 _ rfl inb_S2816x1024_S256x1024_2560_0 _ _ pd10 cd10
  have rg0 : step1.sl.v c XG = colW (F := F) (e := .bf16) (castG (gM.view.read (Elt F) XG)) ![0, 0] inb_S1024x2816_S1024x256_0_0 :=
    (View.readCov_cons_toLoadRect _ _ _ _).trans pg0
  have rg1 : step1.sl.v129 c XG = colW (F := F) (e := .bf16) (castG (gM.view.read (Elt F) XG)) ![0, 256] inb_S1024x2816_S1024x256_0_256 :=
    (View.readCov_cons_toLoadRect _ _ _ _).trans pg1
  have rg2 : step1.sl.v185 c XG = colW (F := F) (e := .bf16) (castG (gM.view.read (Elt F) XG)) ![0, 512] inb_S1024x2816_S1024x256_0_512 :=
    (View.readCov_cons_toLoadRect _ _ _ _).trans pg2
  have rg3 : step1.sl.v241 c XG = colW (F := F) (e := .bf16) (castG (gM.view.read (Elt F) XG)) ![0, 768] inb_S1024x2816_S1024x256_0_768 :=
    (View.readCov_cons_toLoadRect _ _ _ _).trans pg3
  have rg4 : step1.sl.v297 c XG = colW (F := F) (e := .bf16) (castG (gM.view.read (Elt F) XG)) ![0, 1024] inb_S1024x2816_S1024x256_0_1024 :=
    (View.readCov_cons_toLoadRect _ _ _ _).trans pg4
  have rg5 : step1.sl.v353 c XG = colW (F := F) (e := .bf16) (castG (gM.view.read (Elt F) XG)) ![0, 1280] inb_S1024x2816_S1024x256_0_1280 :=
    (View.readCov_cons_toLoadRect _ _ _ _).trans pg5
  have rg6 : step1.sl.v409 c XG = colW (F := F) (e := .bf16) (castG (gM.view.read (Elt F) XG)) ![0, 1536] inb_S1024x2816_S1024x256_0_1536 :=
    (View.readCov_cons_toLoadRect _ _ _ _).trans pg6
  have rg7 : step1.sl.v465 c XG = colW (F := F) (e := .bf16) (castG (gM.view.read (Elt F) XG)) ![0, 1792] inb_S1024x2816_S1024x256_0_1792 :=
    (View.readCov_cons_toLoadRect _ _ _ _).trans pg7
  have rg8 : step1.sl.v521 c XG = colW (F := F) (e := .bf16) (castG (gM.view.read (Elt F) XG)) ![0, 2048] inb_S1024x2816_S1024x256_0_2048 :=
    (View.readCov_cons_toLoadRect _ _ _ _).trans pg8
  have rg9 : step1.sl.v562 c XG = colW (F := F) (e := .bf16) (castG (gM.view.read (Elt F) XG)) ![0, 2304] inb_S1024x2816_S1024x256_0_2304 :=
    (View.readCov_cons_toLoadRect _ _ _ _).trans pg9
  have rg10 : step1.sl.v603 c XG = colW (F := F) (e := .bf16) (castG (gM.view.read (Elt F) XG)) ![0, 2560] inb_S1024x2816_S1024x256_0_2560 :=
    (View.readCov_cons_toLoadRect _ _ _ _).trans pg10
  have ru0 : step1.sl.v75 c XU = colW (F := F) (e := .bf16) (castG (uM.view.read (Elt F) XU)) ![0, 0] inb_S1024x2816_S1024x256_0_0 :=
    (View.readCov_cons_toLoadRect _ _ _ _).trans pu0
  have ru1 : step1.sl.v131 c XU = colW (F := F) (e := .bf16) (castG (uM.view.read (Elt F) XU)) ![0, 256] inb_S1024x2816_S1024x256_0_256 :=
    (View.readCov_cons_toLoadRect _ _ _ _).trans pu1
  have ru2 : step1.sl.v187 c XU = colW (F := F) (e := .bf16) (castG (uM.view.read (Elt F) XU)) ![0, 512] inb_S1024x2816_S1024x256_0_512 :=
    (View.readCov_cons_toLoadRect _ _ _ _).trans pu2
  have ru3 : step1.sl.v243 c XU = colW (F := F) (e := .bf16) (castG (uM.view.read (Elt F) XU)) ![0, 768] inb_S1024x2816_S1024x256_0_768 :=
    (View.readCov_cons_toLoadRect _ _ _ _).trans pu3
  have ru4 : step1.sl.v299 c XU = colW (F := F) (e := .bf16) (castG (uM.view.read (Elt F) XU)) ![0, 1024] inb_S1024x2816_S1024x256_0_1024 :=
    (View.readCov_cons_toLoadRect _ _ _ _).trans pu4
  have ru5 : step1.sl.v355 c XU = colW (F := F) (e := .bf16) (castG (uM.view.read (Elt F) XU)) ![0, 1280] inb_S1024x2816_S1024x256_0_1280 :=
    (View.readCov_cons_toLoadRect _ _ _ _).trans pu5
  have ru6 : step1.sl.v411 c XU = colW (F := F) (e := .bf16) (castG (uM.view.read (Elt F) XU)) ![0, 1536] inb_S1024x2816_S1024x256_0_1536 :=
    (View.readCov_cons_toLoadRect _ _ _ _).trans pu6
  have ru7 : step1.sl.v467 c XU = colW (F := F) (e := .bf16) (castG (uM.view.read (Elt F) XU)) ![0, 1792] inb_S1024x2816_S1024x256_0_1792 :=
    (View.readCov_cons_toLoadRect _ _ _ _).trans pu7
  have ru8 : step1.sl.v523 c XU = colW (F := F) (e := .bf16) (castG (uM.view.read (Elt F) XU)) ![0, 2048] inb_S1024x2816_S1024x256_0_2048 :=
    (View.readCov_cons_toLoadRect _ _ _ _).trans pu8
  have ru9 : step1.sl.v564 c XU = colW (F := F) (e := .bf16) (castG (uM.view.read (Elt F) XU)) ![0, 2304] inb_S1024x2816_S1024x256_0_2304 :=
    (View.readCov_cons_toLoadRect _ _ _ _).trans pu9
  have ru10 : step1.sl.v605 c XU = colW (F := F) (e := .bf16) (castG (uM.view.read (Elt F) XU)) ![0, 2560] inb_S1024x2816_S1024x256_0_2560 :=
    (View.readCov_cons_toLoadRect _ _ _ _).trans pu10
  have rd : step1.sl.v612 c XD = castD (dM.view.read (Elt F) XD) :=
    (View.readAt_full wdM.view (wdM.view.writes (Elt F) wdM.view.junk (step1.sl.Hwd_11 c XD)) _).trans (funext fun y => cd11 _ y (y 0).isLt)
  have ea := accT_of (step1.sl.r c fh) (castG (gM.view.read (Elt F) XG)) (castG (uM.view.read (Elt F) XU)) (castD (dM.view.read (Elt F) XD)) (step1.sl.v612 c XD)
    (step1.sl.v c XG) (step1.sl.v129 c XG) (step1.sl.v185 c XG) (step1.sl.v241 c XG) (step1.sl.v297 c XG) (step1.sl.v353 c XG) (step1.sl.v409 c XG) (step1.sl.v465 c XG) (step1.sl.v521 c XG) (step1.sl.v562 c XG) (step1.sl.v603 c XG)
    (step1.sl.v75 c XU) (step1.sl.v131 c XU) (step1.sl.v187 c XU) (step1.sl.v243 c XU) (step1.sl.v299 c XU) (step1.sl.v355 c XU) (step1.sl.v411 c XU) (step1.sl.v467 c XU) (step1.sl.v523 c XU) (step1.sl.v564 c XU) (step1.sl.v605 c XU)
    rg0 ru0 rg1 ru1 rg2 ru2 rg3 ru3 rg4 ru4 rg5 ru5 rg6 ru6 rg7 ru7 rg8 ru8 rg9 ru9 rg10 ru10 rd
  iapply Hk
  iframe H0 H1 HG HU HD
  isplitl [S0_dst]; · iexists _; iexact S0_dst
  isplitl [S1_dst]; · iexists _; iexact S1_dst
  isplitl [S2_dst]; · iexists _; iexact S2_dst
  isplitl [S3_dst]; · iexists _; iexact S3_dst
  isplitl [S4_dst]; · iexists _; iexact S4_dst
  isplitl [S5_dst]; · iexists _; iexact S5_dst
  iframe S0 S1 S2 S3 S4 S5
  isplitl [Hwg]
  · iexists _; isplitr; swap; · iexact Hwg
    ipureintro
    exact funext fun y => cg11 fwg y (y 1).isLt
  isplitl [Hwu]
  · iexists _; isplitr; swap; · iexact Hwu
    ipureintro
    exact funext fun y => cu11 fwu y (y 1).isLt
  isplitl [Hwd]
  · iexists _; isplitr; swap; · iexact Hwd
    ipureintro
    exact funext fun y => cd11 fwd y (y 0).isLt
  isplitl [Hh]
  · iexists _; isplitr; swap; · iexact Hh
    ipureintro
    refine (View.read_writes_full hM.view fh _ _ _).trans ?_
    exact congrArg₂ normT (View.readAt_full M0.view f0 _) (View.readAt_full M1.view f1 _)
  isplitl [Hr]
  · iexists _; isplitr; swap; · iexact Hr
    ipureintro
    refine ⟨(res_write_same resM.view fr s _ ho _ _).trans (View.readAt_full M0.view f0 _), res_write_other resM.view fr s s' hs _ ho _ _⟩
  isplitl [Ha]
  · iexists _; isplitr; swap; · iexact Ha
    ipureintro
    refine (View.read_writes_full accM.view fa _ _ _).trans (Eq.trans ea ?_)
    exact congrArg (fun h => accT h _ _ _) (View.readAt_full hM.view fh _)
  iexists _
  iexact HO

end Cert.Ffn2

end
-- ==== Proof.StepMid.lean ====
/-
  A middle grid step: one tile is finished into one of the two results, the next tile's product is formed and the tile
  after that is normed.
-/
module

public import proofs.«01_k».proof.Proof.Content

@[expose] public section

set_option maxRecDepth 16384

noncomputable section

namespace Cert.Ffn2

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What a middle step at grid coordinates `i` leaves in the two results' buffers: the finished tile in the one its mask chooses, the other as it was. -/
def MidPost {s3 s4 : Type} (m : BitVec 1) (r3 : s3 → S512x1024.Idx → F .f32) (r4 : s4 → S512x1024.Idx → F .f32) (f3 g3 : s3) (f4 g4 : s4)
    (T : Vec F S512x1024 .f32) : Prop :=
  (m = 1#1 → r3 g3 = T ∧ g4 = f4) ∧ (m = 0#1 → g3 = f3 ∧ r4 g4 = T)

/-- The step: results as `MidPost` says; the weights stay; the normed tile, the residual slot and the product are those of the step's tiles. -/
theorem stepMid (c : Dev nD) (i : grid0.Coords) (hc1 : ¬ k0_cond1 i = 1#1) (hc2 : ¬ k0_cond2 i = 1#1) (hc3 : k0_cond3 i = 1#1) (hc4 : ¬ k0_cond4 i = 1#1)
    (s s' : Fin 2) (hs : s ≠ s')
    (o0 : k0_off3 i = ![s.val, 64 * 0, 0])
    (o1 : k0_off4 i = ![s.val, 64 * 1, 0])
    (o2 : k0_off5 i = ![s.val, 64 * 2, 0])
    (o3 : k0_off6 i = ![s.val, 64 * 3, 0])
    (o4 : k0_off7 i = ![s.val, 64 * 4, 0])
    (o5 : k0_off8 i = ![s.val, 64 * 5, 0])
    (o6 : k0_off9 i = ![s.val, 64 * 6, 0])
    (o7 : k0_off10 i = ![s.val, 64 * 7, 0])
    (o8 : k0_off11 i = ![s.val, 0, 0])
    (M0 : Memref sig .tc .vmem S512x1024 .f32) (h0 : M0.IsWhole) (M1 : Memref sig .tc .vmem S1x1024 .f32) (h1 : M1.IsWhole)
    (M2 : Memref sig .tc .vmem S1x1024 .f32) (h2 : M2.IsWhole) (M3 : Memref sig .tc .vmem S512x1024 .f32) (h3 : M3.IsWhole)
    (M4 : Memref sig .tc .vmem S512x1024 .f32) (h4 : M4.IsWhole)
    (f0 : Bf (F := F) c M0) (f1 : Bf (F := F) c M1) (f2 : Bf (F := F) c M2) (f3 : Bf (F := F) c M3) (f4 : Bf (F := F) c M4)
    (fwg : Bf (F := F) c wgM) (fwu : Bf (F := F) c wuM) (fwd : Bf (F := F) c wdM)
    (fh : Bf (F := F) c hM) (fr : Bf (F := F) c resM) (fa : Bf (F := F) c accM)
    (W : Waits sig Unit) (Q : PUnit → sProp 𝕄) :
    iprop(pt c M0 f0 ∗ pt c M1 f1 ∗ pt c M2 f2 ∗ pt c M3 f3 ∗ pt c M4 f4
      ∗ pt c wgM fwg ∗ pt c wuM fwu ∗ pt c wdM fwd
      ∗ pt c hM fh ∗ pt c resM fr ∗ pt c accM fa
      ∗ owes (c : Thread nD τ) 0 W
      ∗ (iprop(pt c M0 f0 ∗ pt c M1 f1 ∗ pt c M2 f2
          ∗ (∃ g3 : Bf (F := F) c M3, ∃ g4 : Bf (F := F) c M4,
              ⌜MidPost (msk i) (M3.view.read (Elt F)) (M4.view.read (Elt F)) f3 g3 f4 g4 (finP (slotR s (resM.view.read (Elt F) fr)) (accM.view.read (Elt F) fa) (M2.view.read (Elt F) f2))⌝ ∗ pt c M3 g3 ∗ pt c M4 g4)
          ∗ pt c wgM fwg ∗ pt c wuM fwu ∗ pt c wdM fwd
          ∗ hold c hM (normT (M0.view.read (Elt F) f0) (M1.view.read (Elt F) f1))
          ∗ (∃ gr : Bf (F := F) c resM, ⌜slotR s (resM.view.read (Elt F) gr) = M0.view.read (Elt F) f0
              ∧ slotR s' (resM.view.read (Elt F) gr) = slotR s' (resM.view.read (Elt F) fr)⌝ ∗ pt c resM gr)
          ∗ hold c accM (accT (hM.view.read (Elt F) fh) (wgM.view.read (Elt F) fwg) (wuM.view.read (Elt F) fwu) (wdM.view.read (Elt F) fwd))
          ∗ owes (c : Thread nD τ) 0 W) -∗ Q ⟨⟩))
    ⊢ wp frame (wpE (defs₀ (F := F)) Variants.none c none) Set.univ (bodyP i M0 h0 M1 h1 M2 h2 M3 h3 M4 h4) Q := by
  iintro ⟨H0, H1, H2, H3, H4, Hwg, Hwu, Hwd, Hh, Hr, Ha, HO, Hk⟩
  unfold bodyP
  simp only [cc0_ffn2_eq_skeleton]
  unfold cc0_ffn2_skel
  sl_exec
  sl_step
  have e3on (hm : msk i = 1#1) : M3.view.read (Elt F) (stepMid.sl.H3_w15 c i hc3 M2 M3 f2 f3 fr fa) = finP (slotR s (resM.view.read (Elt F) fr)) (accM.view.read (Elt F) fa) (M2.view.read (Elt F) f2) := by
    have s0 := cov_zero M3.view (finP (slotR s (resM.view.read (Elt F) fr)) (accM.view.read (Elt F) fa) (M2.view.read (Elt F) f2)) (0 : Fin 2) f3
    have s1 := piece_on M3.view _ 0 ![0, 0] rfl inb_S512x1024_S64x1024_0_0 _ _ _ (fun _ => hm) (piece_eq fr fa M2.view f2 s 0 (by decide) _ o0 (k0_off3_inb i hc3) ![0, 0] rfl inb_S512x1024_S64x1024_0_0 inb_S1x1024_S1x1024_0_0) s0
    have s2 := piece_on M3.view _ 1 ![64, 0] rfl inb_S512x1024_S64x1024_64_0 _ _ _ (fun _ => hm) (piece_eq fr fa M2.view f2 s 1 (by decide) _ o1 (k0_off4_inb i hc3) ![64, 0] rfl inb_S512x1024_S64x1024_64_0 inb_S1x1024_S1x1024_0_0) s1
    have s3 := piece_on M3.view _ 2 ![128, 0] rfl inb_S512x1024_S64x1024_128_0 _ _ _ (fun _ => hm) (piece_eq fr fa M2.view f2 s 2 (by decide) _ o2 (k0_off5_inb i hc3) ![128, 0] rfl inb_S512x1024_S64x1024_128_0 inb_S1x1024_S1x1024_0_0) s2
    have s4 := piece_on M3.view _ 3 ![192, 0] rfl inb_S512x1024_S64x1024_192_0 _ _ _ (fun _ => hm) (piece_eq fr fa M2.view f2 s 3 (by decide) _ o3 (k0_off6_inb i hc3) ![192, 0] rfl inb_S512x1024_S64x1024_192_0 inb_S1x1024_S1x1024_0_0) s3
    have s5 := piece_on M3.view _ 4 ![256, 0] rfl inb_S512x1024_S64x1024_256_0 _ _ _ (fun _ => hm) (piece_eq fr fa M2.view f2 s 4 (by decide) _ o4 (k0_off7_inb i hc3) ![256, 0] rfl inb_S512x1024_S64x1024_256_0 inb_S1x1024_S1x1024_0_0) s4
    have s6 := piece_on M3.view _ 5 ![320, 0] rfl inb_S512x1024_S64x1024_320_0 _ _ _ (fun _ => hm) (piece_eq fr fa M2.view f2 s 5 (by decide) _ o5 (k0_off8_inb i hc3) ![320, 0] rfl inb_S512x1024_S64x1024_320_0 inb_S1x1024_S1x1024_0_0) s5
    have s7 := piece_on M3.view _ 6 ![384, 0] rfl inb_S512x1024_S64x1024_384_0 _ _ _ (fun _ => hm) (piece_eq fr fa M2.view f2 s 6 (by decide) _ o6 (k0_off9_inb i hc3) ![384, 0] rfl inb_S512x1024_S64x1024_384_0 inb_S1x1024_S1x1024_0_0) s6
    have s8 := piece_on M3.view _ 7 ![448, 0] rfl inb_S512x1024_S64x1024_448_0 _ _ _ (fun _ => hm) (piece_eq fr fa M2.view f2 s 7 (by decide) _ o7 (k0_off10_inb i hc3) ![448, 0] rfl inb_S512x1024_S64x1024_448_0 inb_S1x1024_S1x1024_0_0) s7
    exact funext fun y => s8 y (y 0).isLt
  have e4on (hm : msk i = 0#1) : M4.view.read (Elt F) (stepMid.sl.H4_w16 c i hc3 M2 M4 f2 f4 fr fa) = finP (slotR s (resM.view.read (Elt F) fr)) (accM.view.read (Elt F) fa) (M2.view.read (Elt F) f2) := by
    have hm' : Scalar.xori (msk i) 1#1 = 1#1 := by rw [hm]; decide
    have s0 := cov_zero M4.view (finP (slotR s (resM.view.read (Elt F) fr)) (accM.view.read (Elt F) fa) (M2.view.read (Elt F) f2)) (0 : Fin 2) f4
    have s1 := piece_on M4.view _ 0 ![0, 0] rfl inb_S512x1024_S64x1024_0_0 _ _ _ (fun _ => hm') (piece_eq fr fa M2.view f2 s 0 (by decide) _ o0 (k0_off3_inb i hc3) ![0, 0] rfl inb_S512x1024_S64x1024_0_0 inb_S1x1024_S1x1024_0_0) s0
    have s2 := piece_on M4.view _ 1 ![64, 0] rfl inb_S512x1024_S64x1024_64_0 _ _ _ (fun _ => hm') (piece_eq fr fa M2.view f2 s 1 (by decide) _ o1 (k0_off4_inb i hc3) ![64, 0] rfl inb_S512x1024_S64x1024_64_0 inb_S1x1024_S1x1024_0_0) s1
    have s3 := piece_on M4.view _ 2 ![128, 0] rfl inb_S512x1024_S64x1024_128_0 _ _ _ (fun _ => hm') (piece_eq fr fa M2.view f2 s 2 (by decide) _ o2 (k0_off5_inb i hc3) ![128, 0] rfl inb_S512x1024_S64x1024_128_0 inb_S1x1024_S1x1024_0_0) s2
    have s4 := piece_on M4.view _ 3 ![192, 0] rfl inb_S512x1024_S64x1024_192_0 _ _ _ (fun _ => hm') (piece_eq fr fa M2.view f2 s 3 (by decide) _ o3 (k0_off6_inb i hc3) ![192, 0] rfl inb_S512x1024_S64x1024_192_0 inb_S1x1024_S1x1024_0_0) s3
    have s5 := piece_on M4.view _ 4 ![256, 0] rfl inb_S512x1024_S64x1024_256_0 _ _ _ (fun _ => hm') (piece_eq fr fa M2.view f2 s 4 (by decide) _ o4 (k0_off7_inb i hc3) ![256, 0] rfl inb_S512x1024_S64x1024_256_0 inb_S1x1024_S1x1024_0_0) s4
    have s6 := piece_on M4.view _ 5 ![320, 0] rfl inb_S512x1024_S64x1024_320_0 _ _ _ (fun _ => hm') (piece_eq fr fa M2.view f2 s 5 (by decide) _ o5 (k0_off8_inb i hc3) ![320, 0] rfl inb_S512x1024_S64x1024_320_0 inb_S1x1024_S1x1024_0_0) s5
    have s7 := piece_on M4.view _ 6 ![384, 0] rfl inb_S512x1024_S64x1024_384_0 _ _ _ (fun _ => hm') (piece_eq fr fa M2.view f2 s 6 (by decide) _ o6 (k0_off9_inb i hc3) ![384, 0] rfl inb_S512x1024_S64x1024_384_0 inb_S1x1024_S1x1024_0_0) s6
    have s8 := piece_on M4.view _ 7 ![448, 0] rfl inb_S512x1024_S64x1024_448_0 _ _ _ (fun _ => hm') (piece_eq fr fa M2.view f2 s 7 (by decide) _ o7 (k0_off10_inb i hc3) ![448, 0] rfl inb_S512x1024_S64x1024_448_0 inb_S1x1024_S1x1024_0_0) s7
    exact funext fun y => s8 y (y 0).isLt
  have e3off (hm : msk i = 0#1) : stepMid.sl.H3_w15 c i hc3 M2 M3 f2 f3 fr fa = f3 := by
    have s0 : stepMid.sl.H3_w1 c i hc3 M2 M3 f2 f3 fr fa = f3 := piece_off M3.view _ _ _ _ _ _ (fun _ => hm) rfl
    have s1 : stepMid.sl.H3_w3 c i hc3 M2 M3 f2 f3 fr fa = f3 := piece_off M3.view _ _ _ _ _ _ (fun _ => hm) s0
    have s2 : stepMid.sl.H3_w5 c i hc3 M2 M3 f2 f3 fr fa = f3 := piece_off M3.view _ _ _ _ _ _ (fun _ => hm) s1
    have s3 : stepMid.sl.H3_w7 c i hc3 M2 M3 f2 f3 fr fa = f3 := piece_off M3.view _ _ _ _ _ _ (fun _ => hm) s2
    have s4 : stepMid.sl.H3_w9 c i hc3 M2 M3 f2 f3 fr fa = f3 := piece_off M3.view _ _ _ _ _ _ (fun _ => hm) s3
    have s5 : stepMid.sl.H3_w11 c i hc3 M2 M3 f2 f3 fr fa = f3 := piece_off M3.view _ _ _ _ _ _ (fun _ => hm) s4
    have s6 : stepMid.sl.H3_w13 c i hc3 M2 M3 f2 f3 fr fa = f3 := piece_off M3.view _ _ _ _ _ _ (fun _ => hm) s5
    have s7 : stepMid.sl.H3_w15 c i hc3 M2 M3 f2 f3 fr fa = f3 := piece_off M3.view _ _ _ _ _ _ (fun _ => hm) s6
    exact s7
  have e4off (hm : msk i = 1#1) : stepMid.sl.H4_w16 c i hc3 M2 M4 f2 f4 fr fa = f4 := by
    have hm' : Scalar.xori (msk i) 1#1 = 0#1 := by rw [hm]; decide
    have s0 : stepMid.sl.H4_w2 c i hc3 M2 M4 f2 f4 fr fa = f4 := piece_off M4.view _ _ _ _ _ _ (fun _ => hm') rfl
    have s1 : stepMid.sl.H4_w4 c i hc3 M2 M4 f2 f4 fr fa = f4 := piece_off M4.view _ _ _ _ _ _ (fun _ => hm') s0
    have s2 : stepMid.sl.H4_w6 c i hc3 M2 M4 f2 f4 fr fa = f4 := piece_off M4.view _ _ _ _ _ _ (fun _ => hm') s1
    have s3 : stepMid.sl.H4_w8 c i hc3 M2 M4 f2 f4 fr fa = f4 := piece_off M4.view _ _ _ _ _ _ (fun _ => hm') s2
    have s4 : stepMid.sl.H4_w10 c i hc3 M2 M4 f2 f4 fr fa = f4 := piece_off M4.view _ _ _ _ _ _ (fun _ => hm') s3
    have s5 : stepMid.sl.H4_w12 c i hc3 M2 M4 f2 f4 fr fa = f4 := piece_off M4.view _ _ _ _ _ _ (fun _ => hm') s4
    have s6 : stepMid.sl.H4_w14 c i hc3 M2 M4 f2 f4 fr fa = f4 := piece_off M4.view _ _ _ _ _ _ (fun _ => hm') s5
    have s7 : stepMid.sl.H4_w16 c i hc3 M2 M4 f2 f4 fr fa = f4 := piece_off M4.view _ _ _ _ _ _ (fun _ => hm') s6
    exact s7
  iapply Hk
  iframe H0 H1 H2
  isplitl [H3 H4]
  · iexists _, _; isplitr; swap
    · isplitl [H3]; · iexact H3
      iexact H4
    ipureintro
    exact ⟨fun hm => ⟨e3on hm, e4off hm⟩, fun hm => ⟨e3off hm, e4on hm⟩⟩
  iframe Hwg Hwu Hwd
  isplitl [Hh]
  · iexists _; isplitr; swap; · iexact Hh
    ipureintro
    refine (View.read_writes_full hM.view fh _ _ _).trans ?_
    exact congrArg₂ normT (View.readAt_full M0.view f0 _) (View.readAt_full M1.view f1 _)
  isplitl [Hr]
  · iexists _; isplitr; swap; · iexact Hr
    ipureintro
    refine ⟨(res_write_same resM.view fr s _ o8 _ _).trans (View.readAt_full M0.view f0 _), res_write_other resM.view fr s s' hs _ o8 _ _⟩
  isplitl [Ha]
  · iexists _; isplitr; swap; · iexact Ha
    ipureintro
    refine (View.read_writes_full accM.view fa _ _ _).trans ?_
    exact congrArg₂ (fun h d => accT h (wgM.view.read (Elt F) fwg) (wuM.view.read (Elt F) fwu) d) (View.readAt_full hM.view fh _) (View.readAt_full wdM.view fwd _)
  iexact HO

end Cert.Ffn2

end
-- ==== Proof.StepLast.lean ====
/-
  The last grid step: the last tile is finished in one piece and stored, under its masks, into the second result.
-/
module

public import proofs.«01_k».proof.Proof.Content

@[expose] public section

set_option maxRecDepth 16384

noncomputable section

namespace Cert.Ffn2

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The last grid step leaves the first result's buffer alone and the finished last tile in the second's. -/
theorem stepLast (c : Dev nD) (i : grid0.Coords) (hc1 : ¬ k0_cond1 i = 1#1) (hc2 : ¬ k0_cond2 i = 1#1) (hc3 : ¬ k0_cond3 i = 1#1) (hc4 : k0_cond4 i = 1#1)
    (hm : msk i = 0#1) (s : Fin 2) (ho : k0_off12 i = ![s.val, 0, 0])
    (M0 : Memref sig .tc .vmem S512x1024 .f32) (h0 : M0.IsWhole) (M1 : Memref sig .tc .vmem S1x1024 .f32) (h1 : M1.IsWhole)
    (M2 : Memref sig .tc .vmem S1x1024 .f32) (h2 : M2.IsWhole) (M3 : Memref sig .tc .vmem S512x1024 .f32) (h3 : M3.IsWhole)
    (M4 : Memref sig .tc .vmem S512x1024 .f32) (h4 : M4.IsWhole)
    (f2 : Bf (F := F) c M2) (f3 : Bf (F := F) c M3) (f4 : Bf (F := F) c M4) (fr : Bf (F := F) c resM) (fa : Bf (F := F) c accM)
    (W : Waits sig Unit) (Q : PUnit → sProp 𝕄) :
    iprop(pt c M2 f2 ∗ pt c M3 f3 ∗ pt c M4 f4 ∗ pt c resM fr ∗ pt c accM fa ∗ owes (c : Thread nD τ) 0 W
      ∗ (iprop(pt c M2 f2 ∗ pt c M3 f3
          ∗ hold c M4 (finL (slotR s (resM.view.read (Elt F) fr)) (accM.view.read (Elt F) fa) (M2.view.read (Elt F) f2))
          ∗ pt c resM fr ∗ pt c accM fa ∗ owes (c : Thread nD τ) 0 W) -∗ Q ⟨⟩))
    ⊢ wp frame (wpE (defs₀ (F := F)) Variants.none c none) Set.univ (bodyP i M0 h0 M1 h1 M2 h2 M3 h3 M4 h4) Q := by
  iintro ⟨H2, H3, H4, Hr, Ha, HO, Hk⟩
  unfold bodyP
  simp only [cc0_ffn2_eq_skeleton]
  unfold cc0_ffn2_skel
  sl_exec
  sl_step
  have e3 : stepLast.sl.H3_w1 c i hc4 M2 M3 f2 f3 fr fa = f3 := by
    unfold stepLast.sl.H3_w1
    exact write_on_empty _ _ _ _ fun _ => hm
  have e4 : M4.view.read (Elt F) (stepLast.sl.H4_w2 c i hc4 M2 M4 f2 f4 fr fa)
      = finL (slotR s (resM.view.read (Elt F) fr)) (accM.view.read (Elt F) fa) (M2.view.read (Elt F) f2) := by
    have hm' : ∀ j, k0_pay9 i j = 1#1 := fun j => by
      show Scalar.xori (msk i) 1#1 = 1#1
      rw [hm]; decide
    unfold stepLast.sl.H4_w2
    refine (congrArg (M4.view.read (Elt F)) (write_on_univ (F := F) (M4.access (Rect.unit (s := S512x1024) ![0, 0] S512x1024.size inb_S512x1024_S512x1024_0_0)) f4 _ (k0_pay9 i) hm')).trans ?_
    refine (read_write_full (F := F) M4.view (off := ![0, 0]) inb_S512x1024_S512x1024_0_0 f4 _).trans ?_
    refine (congrArg₂ (fun a b => k0_pay8 a b _) (res_slot resM.view fr s _ ho _) (View.readAt_full accM.view fa _)).trans ?_
    exact congrArg (k0_pay8 _ _) (View.readAt_full M2.view f2 _)
  rw [e3]
  iapply Hk
  isplitl [H2]; · iexact H2
  isplitl [H3]; · iexact H3
  isplitl [H4]
  · iexists _; isplitr; · ipureintro; exact e4
    iexact H4
  isplitl [Hr]; · iexact Hr
  isplitl [Ha]; · iexact Ha
  iexact HO

end Cert.Ffn2

end
-- ==== Proof.Body.lean ====
/-
  Each grid point takes the invariant before it to the invariant after it, and leaves in the windows' buffers what the
  pipeline's data says.
-/
module

public import proofs.«01_k».proof.Proof.Inv
public import proofs.«01_k».proof.Proof.Step0
public import proofs.«01_k».proof.Proof.Step1
public import proofs.«01_k».proof.Proof.StepMid
public import proofs.«01_k».proof.Proof.StepLast

@[expose] public section

set_option maxRecDepth 16384

noncomputable section

namespace Cert.Ffn2

open Cert.KernelIdeal Cert.KernelIdeal.Gen
open Idealize.ShloMosaic
open Idealize.ShloMosaic.TcCoe Idealize.ShloMosaic.Tactic
open Idealize.ShloMosaic.Pipeline (RDat Cfg Window)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

/-- What a point starts from: the invariant, what the core owes, and the five staging buffers at what they hold. -/
abbrev preP (c : Dev nD) (n : ℕ) (M0 : Memref sig .tc .vmem S512x1024 .f32) (M1 M2 : Memref sig .tc .vmem S1x1024 .f32)
    (M3 M4 : Memref sig .tc .vmem S512x1024 .f32) (Y3 Y4 : Vec F S512x1024 .f32) : sProp 𝕄 :=
  iprop(phi m c n ∗ (∃ W, owes (c : Thread nD τ) 0 W) ∗ hold c M0 (tX m c n) ∗ hold c M1 (g1 m c) ∗ hold c M2 (g2 m c) ∗ hold c M3 Y3 ∗ hold c M4 Y4)
/-- What a point ends at. -/
abbrev postP (c : Dev nD) (n : ℕ) (M0 : Memref sig .tc .vmem S512x1024 .f32) (M1 M2 : Memref sig .tc .vmem S1x1024 .f32)
    (M3 M4 : Memref sig .tc .vmem S512x1024 .f32) (Y3 Y4 : Vec F S512x1024 .f32) : sProp 𝕄 :=
  iprop(phi m c (n + 1) ∗ (∃ W, owes (c : Thread nD τ) 0 W) ∗ hold c M0 (tX m c n) ∗ hold c M1 (g1 m c) ∗ hold c M2 (g2 m c)
    ∗ (∃ X, ⌜after3 m c n Y3 X⌝ ∗ hold c M3 X) ∗ (∃ X, ⌜after4 m c n Y4 X⌝ ∗ hold c M4 X))

/-- A buffer that holds what it should. -/
theorem hold_of {sp : Space} {S : Shape} {e : EltTy} {c : Dev nD} {M : Memref sig .tc sp S e} {f : Bf (F := F) c M} {X : S.Idx → Elt F e} (h : M.view.read (Elt F) f = X) : pt c M f ⊢ hold c M X := by
  iintro H
  iexists f; isplitr; · ipureintro; exact h
  iexact H

variable (c : Dev nD) (t : Fin grid0.N)
  (M0 : Memref sig .tc .vmem S512x1024 .f32) (h0 : M0.IsWhole) (M1 : Memref sig .tc .vmem S1x1024 .f32) (h1 : M1.IsWhole)
  (M2 : Memref sig .tc .vmem S1x1024 .f32) (h2 : M2.IsWhole) (M3 : Memref sig .tc .vmem S512x1024 .f32) (h3 : M3.IsWhole)
  (M4 : Memref sig .tc .vmem S512x1024 .f32) (h4 : M4.IsWhole) (Y3 Y4 : Vec F S512x1024 .f32)

/-- The first point. -/
theorem body0 (ht : t.val = 0) :
    preP m c t.val M0 M1 M2 M3 M4 Y3 Y4
    ⊢ wp frame (wpE (defs₀ (F := F)) Variants.none c none) Set.univ (bodyP (grid0.coords t) M0 h0 M1 h1 M2 h2 M3 h3 M4 h4)
      fun _ => postP m c t.val M0 M1 M2 M3 M4 Y3 Y4 := by
  have hc1 := (pt_c1 t).2 ht
  have hc2 := mt (pt_c2 t).1 (by omega)
  have hc3 := mt (pt_c3 t).1 (by omega)
  have hc4 := mt (pt_c4 t).1 (by omega)
  have ho : k0_off1 (grid0.coords t) = ![(par 0).val, 0, 0] := (pt_off1 t).trans (by rw [ht])
  unfold preP postP
  rw [ht]
  change iprop(phiOut m c ∗ _) ⊢ wp frame _ _ _ fun _ => iprop(phiOne m c ∗ _)
  unfold phiOut phiOne hbm3 sems6
  iintro ⟨⟨⟨Hwg, Hwu, Hwd, Hsg, Hsu, Hsd, ⟨%fh, Hh⟩, ⟨%fr, Hr⟩, Ha⟩, Hp, ⟨S0, S1, S2, S3, S4, S5⟩, ⟨HG, HU, HD⟩⟩, ⟨%W, HO⟩, ⟨%f0, %e0, H0⟩, ⟨%f1, %e1, H1⟩, ⟨%f2, %e2, H2⟩, ⟨%f3, %e3, H3⟩, ⟨%f4, %e4, H4⟩⟩
  ihave Hsg' := (sg_split (F := F) c) $$ Hsg
  icases Hsg' with ⟨⟨%a0, A0⟩, ⟨%a1, A1⟩⟩
  ihave Hsu' := (su_split (F := F) c) $$ Hsu
  icases Hsu' with ⟨⟨%b0, B0⟩, ⟨%b1, B1⟩⟩
  ihave Hsd' := (sd_split (F := F) c) $$ Hsd
  icases Hsd' with ⟨⟨%d0, D0⟩, ⟨%d1, D1⟩⟩
  iapply (step0 c (grid0.coords t) hc1 hc2 hc3 hc4 (par 0) ho M0 h0 M1 h1 M2 h2 M3 h3 M4 h4 f0 f1 (V m c main_arg2) (V m c main_arg3) (V m c main_arg4) a0 a1 b0 b1 d0 d1 fh fr W _)
  iframe H0 H1 HG HU HD A0 A1 B0 B1 D0 D1 Hh Hr S0 S1 S2 S3 S4 S5 HO
  iintro ⟨H0, H1, HG, HU, HD, F0, F1, F2, F3, F4, F5, ⟨%gh, %eh, Hh⟩, ⟨%gr, %er, Hr⟩, HW⟩
  isplitl [Hwg Hwu Hwd Ha HG HU HD F0 F1 F2 F3 F4 F5 Hh Hr Hp]
  · isplitl [Hwg Hwu Hwd Ha]
    · isplitl [Hwg]; · iexact Hwg
      iframe Hwu Hwd
      iexact Ha
    isplitl [HG HU HD]
    · isplitl [HG]; · iexact HG
      iframe HU
      iexact HD
    isplitl [F0]; · iexists _; iexact F0
    isplitl [F1]; · iexists _; iexact F1
    isplitl [F2]; · iexists _; iexact F2
    isplitl [F3]; · iexists _; iexact F3
    isplitl [F4]; · iexists _; iexact F4
    isplitl [F5]; · iexists _; iexact F5
    isplitl [Hh]
    · iexists gh; isplitr; · ipureintro; rw [eh, e0, e1]
      iexact Hh
    isplitl [Hr]
    · iexists gr; isplitr; · ipureintro; rw [er, e0]
      iexact Hr
    iexact Hp
  iframe HW
  isplitl [H0]; · iapply (hold_of e0) $$ H0
  isplitl [H1]; · iapply (hold_of e1) $$ H1
  isplitl [H2]; · iapply (hold_of e2) $$ H2
  isplitl [H3]
  · iexists Y3; isplitr; · ipureintro; unfold after3; rw [if_neg (by omega)]
    iexists f3; isplitr; · ipureintro; exact e3
    iexact H3
  iexists Y4; isplitr; · ipureintro; unfold after4; rw [if_neg (by omega), if_neg (by omega)]
  iexists f4; isplitr; · ipureintro; exact e4
  iexact H4

/-- The second point. -/
theorem body1 (ht : t.val = 1) :
    preP m c t.val M0 M1 M2 M3 M4 Y3 Y4
    ⊢ wp frame (wpE (defs₀ (F := F)) Variants.none c none) Set.univ (bodyP (grid0.coords t) M0 h0 M1 h1 M2 h2 M3 h3 M4 h4)
      fun _ => postP m c t.val M0 M1 M2 M3 M4 Y3 Y4 := by
  have hc1 := mt (pt_c1 t).1 (by omega)
  have hc2 := (pt_c2 t).2 ht
  have hc3 := mt (pt_c3 t).1 (by omega)
  have hc4 := mt (pt_c4 t).1 (by omega)
  have ho : k0_off2 (grid0.coords t) = ![(par 1).val, 0, 0] := (pt_off2 t).trans (by rw [ht])
  unfold preP postP
  rw [ht]
  change iprop(phiOne m c ∗ _) ⊢ wp frame _ _ _ fun _ => iprop((if 0 ≤ 33 then phiMid m c 0 else phiOut m c) ∗ _)
  rw [if_pos (by omega)]
  unfold phiOne phiMid hbm3 sems6
  iintro ⟨⟨⟨⟨%fwg, Hwg⟩, ⟨%fwu, Hwu⟩, ⟨%fwd, Hwd⟩, ⟨%fa, Ha⟩⟩, ⟨HG, HU, HD⟩, ⟨%a0, F0⟩, ⟨%a1, F1⟩, ⟨%b0, F2⟩, ⟨%b1, F3⟩, ⟨%d0, F4⟩, ⟨%d1, F5⟩, ⟨%fh, %eh, Hh⟩, ⟨%fr, %er, Hr⟩, Hp⟩, ⟨%W, HO⟩, ⟨%f0, %e0, H0⟩, ⟨%f1, %e1, H1⟩, ⟨%f2, %e2, H2⟩, ⟨%f3, %e3, H3⟩, ⟨%f4, %e4, H4⟩⟩
  iapply (step1 c (grid0.coords t) hc1 hc2 hc3 hc4 (par 1) (par 0) (by decide) ho M0 h0 M1 h1 M2 h2 M3 h3 M4 h4 f0 f1 (V m c main_arg2) (V m c main_arg3) (V m c main_arg4) a0 a1 b0 b1 d0 d1 fwg fwu fwd fh fr fa W _)
  iframe H0 H1 HG HU HD F0 F1 F2 F3 F4 F5 Hwg Hwu Hwd Hh Hr Ha HO
  iintro ⟨H0, H1, HG, HU, HD, A0, A1, B0, B1, D0, D1, S0, S1, S2, S3, S4, S5, Hwg, Hwu, Hwd, ⟨%gh, %eh', Hh⟩, ⟨%gr, %er', Hr⟩, ⟨%ga, %ea, Ha⟩, HW⟩
  ihave Hsg := (sg_join (F := F) c) $$ [A0 A1]
  · isplitl [A0]; · iexact A0
    iexact A1
  ihave Hsu := (su_join (F := F) c) $$ [B0 B1]
  · isplitl [B0]; · iexact B0
    iexact B1
  ihave Hsd := (sd_join (F := F) c) $$ [D0 D1]
  · isplitl [D0]; · iexact D0
    iexact D1
  isplitl [Hwg Hwu Hwd Hsg Hsu Hsd Hh Hr Ha Hp S0 S1 S2 S3 S4 S5 HG HU HD]
  · isplitl [Hwg Hwu Hwd Hsg Hsu Hsd]
    · isplitl [Hwg]
      · iexact Hwg
      iframe Hwu Hwd Hsg Hsu
      iexact Hsd
    isplitl [Hh]
    · iexists gh; isplitr; · ipureintro; rw [eh', e0, e1]
      iexact Hh
    isplitl [Hr]
    · iexists gr; isplitr; · ipureintro; exact ⟨er'.2.trans er, er'.1.trans e0⟩
      iexact Hr
    isplitl [Ha]
    · iexists ga; isplitr; · ipureintro; rw [ea, eh]; rfl
      iexact Ha
    iframe Hp
    isplitl [S0 S1 S2 S3 S4 S5]
    · isplitl [S0]; · iexact S0
      iframe S1 S2 S3 S4
      iexact S5
    iframe HG HU
    iexact HD
  iframe HW
  isplitl [H0]; · iapply (hold_of e0) $$ H0
  isplitl [H1]; · iapply (hold_of e1) $$ H1
  isplitl [H2]; · iapply (hold_of e2) $$ H2
  isplitl [H3]
  · iexists Y3; isplitr; · ipureintro; unfold after3; rw [if_neg (by omega)]
    iexists f3; isplitr; · ipureintro; exact e3
    iexact H3
  iexists Y4; isplitr; · ipureintro; unfold after4; rw [if_neg (by omega), if_neg (by omega)]
  iexists f4; isplitr; · ipureintro; exact e4
  iexact H4

/-- A middle point. -/
theorem bodyMid (n : ℕ) (ht : t.val = n + 2) (hn : n ≤ 32) :
    preP m c t.val M0 M1 M2 M3 M4 Y3 Y4
    ⊢ wp frame (wpE (defs₀ (F := F)) Variants.none c none) Set.univ (bodyP (grid0.coords t) M0 h0 M1 h1 M2 h2 M3 h3 M4 h4)
      fun _ => postP m c t.val M0 M1 M2 M3 M4 Y3 Y4 := by
  have hc1 := mt (pt_c1 t).1 (by omega)
  have hc2 := mt (pt_c2 t).1 (by omega)
  have hc3 := (pt_c3 t).2 ⟨by omega, by omega⟩
  have hc4 := mt (pt_c4 t).1 (by omega)
  have hpar : t.val % 2 = (par n).val := by rw [ht]; exact congrArg Fin.val (par_add2 n)
  have hm1 := pt_msk1 t
  have hm0 := pt_msk0 t
  unfold preP postP
  rw [ht] at hm1 hm0 ⊢
  change iprop((if n ≤ 33 then phiMid m c n else phiOut m c) ∗ _) ⊢ wp frame _ _ _ fun _ => iprop((if n + 1 ≤ 33 then phiMid m c (n + 1) else phiOut m c) ∗ _)
  rw [if_pos (by omega), if_pos (by omega)]
  unfold phiMid
  iintro ⟨⟨⟨⟨%fwg, %ewg, Hwg⟩, ⟨%fwu, %ewu, Hwu⟩, ⟨%fwd, %ewd, Hwd⟩, Hsg, Hsu, Hsd⟩, ⟨%fh, %eh, Hh⟩, ⟨%fr, %er, Hr⟩, ⟨%fa, %ea, Ha⟩, Hp, HS, HH⟩, ⟨%W, HO⟩, ⟨%f0, %e0, H0⟩, ⟨%f1, %e1, H1⟩, ⟨%f2, %e2, H2⟩, ⟨%f3, %e3, H3⟩, ⟨%f4, %e4, H4⟩⟩
  iapply (stepMid c (grid0.coords t) hc1 hc2 hc3 hc4 (par n) (par (n + 1)) (par_ne n)
    ((pt_off3 t).trans (by rw [hpar]))
    ((pt_off4 t).trans (by rw [hpar]))
    ((pt_off5 t).trans (by rw [hpar]))
    ((pt_off6 t).trans (by rw [hpar]))
    ((pt_off7 t).trans (by rw [hpar]))
    ((pt_off8 t).trans (by rw [hpar]))
    ((pt_off9 t).trans (by rw [hpar]))
    ((pt_off10 t).trans (by rw [hpar]))
    ((pt_off11 t).trans (by rw [hpar]))
    M0 h0 M1 h1 M2 h2 M3 h3 M4 h4 f0 f1 f2 f3 f4 fwg fwu fwd fh fr fa W _)
  iframe H0 H1 H2 H3 H4 Hwg Hwu Hwd Hh Hr Ha HO
  iintro ⟨H0, H1, H2, ⟨%g3, %g4, %e34, H3, H4⟩, Hwg, Hwu, Hwd, ⟨%gh, %eh', Hh⟩, ⟨%gr, %er', Hr⟩, ⟨%ga, %ea', Ha⟩, HO⟩
  have eT : finP (slotR (par n) (resM.view.read (Elt F) fr)) (accM.view.read (Elt F) fa) (M2.view.read (Elt F) f2) = tP m c n := by
    rw [er.1, ea, e2]; rfl
  rw [eT] at e34
  isplitl [Hwg Hwu Hwd Hsg Hsu Hsd Hh Hr Ha Hp HS HH]
  · isplitl [Hwg Hwu Hwd Hsg Hsu Hsd]
    · isplitl [Hwg]
      · iexists fwg; isplitr; · ipureintro; exact ewg
        iexact Hwg
      isplitl [Hwu]
      · iexists fwu; isplitr; · ipureintro; exact ewu
        iexact Hwu
      isplitl [Hwd]
      · iexists fwd; isplitr; · ipureintro; exact ewd
        iexact Hwd
      iframe Hsg Hsu
      iexact Hsd
    isplitl [Hh]
    · iexists gh; isplitr; · ipureintro; rw [eh', e0, e1]
      iexact Hh
    isplitl [Hr]
    · iexists gr; isplitr
      · ipureintro; exact ⟨er'.2.trans er.2, (congrArg (fun s => slotR s (resM.view.read (Elt F) gr)) (par_add2 n)).trans (er'.1.trans e0)⟩
      iexact Hr
    isplitl [Ha]
    · iexists ga; isplitr; · ipureintro; rw [ea', eh, ewg, ewu, ewd]; rfl
      iexact Ha
    iframe Hp HS
    iexact HH
  isplitl [HO]; · iexists W; iexact HO
  isplitl [H0]; · iapply (hold_of e0) $$ H0
  isplitl [H1]; · iapply (hold_of e1) $$ H1
  isplitl [H2]; · iapply (hold_of e2) $$ H2
  isplitl [H3]
  · iexists (M3.view.read (Elt F) g3); isplitr
    · ipureintro; unfold after3
      by_cases h : n ≤ 31
      · rw [if_pos ⟨by omega, by omega⟩]; exact (e34.1 (hm1 (by omega))).1
      · rw [if_neg (by omega), (e34.2 (hm0 (by omega))).1]; exact e3
    iexists g3; isplitr; · ipureintro; rfl
    iexact H3
  iexists (M4.view.read (Elt F) g4); isplitr
  · ipureintro; unfold after4
    by_cases h : n ≤ 31
    · rw [if_neg (by omega), if_neg (by omega), (e34.1 (hm1 (by omega))).2]; exact e4
    · rw [if_pos (by omega)]; obtain rfl : n = 32 := by omega
      exact (e34.2 (hm0 (by omega))).2
  iexists g4; isplitr; · ipureintro; rfl
  iexact H4

/-- The last point. -/
theorem bodyLast (ht : t.val = 35) :
    preP m c t.val M0 M1 M2 M3 M4 Y3 Y4
    ⊢ wp frame (wpE (defs₀ (F := F)) Variants.none c none) Set.univ (bodyP (grid0.coords t) M0 h0 M1 h1 M2 h2 M3 h3 M4 h4)
      fun _ => postP m c t.val M0 M1 M2 M3 M4 Y3 Y4 := by
  have hc1 := mt (pt_c1 t).1 (by omega)
  have hc2 := mt (pt_c2 t).1 (by omega)
  have hc3 := mt (pt_c3 t).1 (by omega)
  have hc4 := (pt_c4 t).2 ht
  have hm := pt_msk0 t (by omega)
  have ho : k0_off12 (grid0.coords t) = ![(par 33).val, 0, 0] := (pt_off12 t).trans (by rw [ht])
  unfold preP postP
  rw [ht]
  change iprop((if 33 ≤ 33 then phiMid m c 33 else phiOut m c) ∗ _) ⊢ wp frame _ _ _ fun _ => iprop((if 34 ≤ 33 then phiMid m c 34 else phiOut m c) ∗ _)
  rw [if_pos (by omega), if_neg (by omega)]
  unfold phiMid phiOut
  iintro ⟨⟨⟨⟨%fwg, %ewg, Hwg⟩, ⟨%fwu, %ewu, Hwu⟩, ⟨%fwd, %ewd, Hwd⟩, Hsg, Hsu, Hsd⟩, ⟨%fh, %eh, Hh⟩, ⟨%fr, %er, Hr⟩, ⟨%fa, %ea, Ha⟩, Hp, HS, HH⟩, ⟨%W, HO⟩, ⟨%f0, %e0, H0⟩, ⟨%f1, %e1, H1⟩, ⟨%f2, %e2, H2⟩, ⟨%f3, %e3, H3⟩, ⟨%f4, %e4, H4⟩⟩
  iapply (stepLast c (grid0.coords t) hc1 hc2 hc3 hc4 hm (par 33) ho M0 h0 M1 h1 M2 h2 M3 h3 M4 h4 f2 f3 f4 fr fa W _)
  iframe H2 H3 H4 Hr Ha HO
  iintro ⟨H2, H3, ⟨%g4, %e4', H4⟩, Hr, Ha, HO⟩
  isplitl [Hwg Hwu Hwd Hsg Hsu Hsd Hh Hr Ha Hp HS HH]
  · isplitl [Hwg Hwu Hwd Hsg Hsu Hsd Hh Hr Ha]
    · isplitl [Hwg]; · iexists _; iexact Hwg
      isplitl [Hwu]; · iexists _; iexact Hwu
      isplitl [Hwd]; · iexists _; iexact Hwd
      iframe Hsg Hsu Hsd
      isplitl [Hh]; · iexists _; iexact Hh
      isplitl [Hr]; · iexists _; iexact Hr
      iexists _; iexact Ha
    iframe Hp HS
    iexact HH
  isplitl [HO]; · iexists W; iexact HO
  isplitl [H0]; · iapply (hold_of e0) $$ H0
  isplitl [H1]; · iapply (hold_of e1) $$ H1
  isplitl [H2]; · iapply (hold_of e2) $$ H2
  isplitl [H3]
  · iexists Y3; isplitr; · ipureintro; unfold after3; rw [if_neg (by omega)]
    iexists f3; isplitr; · ipureintro; exact e3
    iexact H3
  iexists (tL m c 33); isplitr; · ipureintro; unfold after4; rw [if_neg (by omega), if_pos rfl]
  iexists g4; isplitr
  · ipureintro; rw [e4', er.1, ea, e2]; rfl
  iexact H4

/-- Every point. -/
theorem bodyAll :
    preP m c t.val M0 M1 M2 M3 M4 Y3 Y4
    ⊢ wp frame (wpE (defs₀ (F := F)) Variants.none c none) Set.univ (bodyP (grid0.coords t) M0 h0 M1 h1 M2 h2 M3 h3 M4 h4)
      fun _ => postP m c t.val M0 M1 M2 M3 M4 Y3 Y4 := by
  have hN := lt_of_lt_of_eq t.isLt N_0
  by_cases t0 : t.val = 0
  · exact body0 m c t M0 h0 M1 h1 M2 h2 M3 h3 M4 h4 Y3 Y4 t0
  by_cases t1 : t.val = 1
  · exact body1 m c t M0 h0 M1 h1 M2 h2 M3 h3 M4 h4 Y3 Y4 t1
  by_cases t2 : t.val = 35
  · exact bodyLast m c t M0 h0 M1 h1 M2 h2 M3 h3 M4 h4 Y3 Y4 t2
  exact bodyMid m c t M0 h0 M1 h1 M2 h2 M3 h3 M4 h4 Y3 Y4 (t.val - 2) (by omega) (by omega)

end Cert.Ffn2

end
-- ==== Proof.Run.lean ====
/-
  The kernel's run: from any memory it terminates with its arguments unchanged and every semaphore at zero, and its two
  results hold what the pipeline's data says.
-/
module

public import proofs.«01_k».proof.Proof.Body

@[expose] public section

set_option maxRecDepth 16384

noncomputable section

namespace Cert.Ffn2

open Cert.KernelIdeal Cert.KernelIdeal.Gen
open Idealize.ShloMosaic
open Idealize.ShloMosaic.TcCoe Idealize.ShloMosaic.Tactic
open Idealize.ShloMosaic.Pipeline (RDat Cfg Window)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem body_row (t : Fin cfg0.N) :
    defs₀ (F := F) .tc cfg0.body (cfg0.bodyArgs t (cfg0.slots t)) = bodyAt0 t := by
  unfold defs₀; rw [Defs.onTc_tc]

/-- The pipeline's obligation at every point. -/
theorem obligation (c : Dev nD) : (rdat m c).BodyObligation (defs₀ (F := F)) Variants.none () Set.univ := fun t Y hY => by
  rw [bigSep_W0, bigSep_W0, body_row]
  have hb := bodyAll m c t (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (Y 3) (Y 4)
  refine BI.Entails.trans ?_ (hb.trans (wp_mono _ _ _ fun _ => ?_))
  · unfold RDat.owesAt Pipeline.owesWithin
    rw [show (rdat m c).owed t.castSucc = 0 from rfl]
    change iprop(phi m c t.val ∗ _) ⊢ _
    iintro ⟨HP, ⟨%W, -, HO⟩, H0, H1, H2, H3, H4⟩
    isplitl [HP]; · iexact HP
    isplitl [HO]; · iexists W; iexact HO
    isplitl [H0]
    · rw [← finds0 m c t (Y 0) (hY 0)]
      iapply (owns_hold c _ (hstage0_0 ((cfg0.slots t 0).cast nbuf0_0)) (Y 0)); iexact H0
    isplitl [H1]
    · rw [← finds1 m c t (Y 1) (hY 1)]
      iapply (owns_hold c _ (hstage0_1 ((cfg0.slots t 1).cast nbuf0_1)) (Y 1)); iexact H1
    isplitl [H2]
    · rw [← finds2 m c t (Y 2) (hY 2)]
      iapply (owns_hold c _ (hstage0_2 ((cfg0.slots t 2).cast nbuf0_2)) (Y 2)); iexact H2
    isplitl [H3]
    · iapply (owns_hold c _ (hstage0_3 ((cfg0.slots t 3).cast nbuf0_3)) (Y 3)); iexact H3
    iapply (owns_hold c _ (hstage0_4 ((cfg0.slots t 4).cast nbuf0_4)) (Y 4)); iexact H4
  · unfold RDat.owesAt Pipeline.owesWithin
    rw [show (rdat m c).owed t.succ = 0 from rfl]
    change _ ⊢ iprop(phi m c (t.val + 1) ∗ _)
    iintro ⟨HP, ⟨%W, HO⟩, H0, H1, H2, ⟨%X3, %a3, H3⟩, ⟨%X4, %a4, H4⟩⟩
    isplitl [HP]; · iexact HP
    isplitl [HO]
    · iexists W; isplitr; · ipureintro; exact fun _ _ => Or.inl trivial
      iexact HO
    isplitl [H0]
    · iexists (Y 0); isplitr; · ipureintro; rfl
      rw [← finds0 m c t (Y 0) (hY 0)]
      iapply (hold_owns c _ (hstage0_0 ((cfg0.slots t 0).cast nbuf0_0)) (Y 0)); iexact H0
    isplitl [H1]
    · iexists (Y 1); isplitr; · ipureintro; rfl
      rw [← finds1 m c t (Y 1) (hY 1)]
      iapply (hold_owns c _ (hstage0_1 ((cfg0.slots t 1).cast nbuf0_1)) (Y 1)); iexact H1
    isplitl [H2]
    · iexists (Y 2); isplitr; · ipureintro; rfl
      rw [← finds2 m c t (Y 2) (hY 2)]
      iapply (hold_owns c _ (hstage0_2 ((cfg0.slots t 2).cast nbuf0_2)) (Y 2)); iexact H2
    isplitl [H3]
    · iexists X3; isplitr; · ipureintro; exact a3
      iapply (hold_owns c _ (hstage0_3 ((cfg0.slots t 3).cast nbuf0_3)) X3); iexact H3
    iexists X4; isplitr; · ipureintro; exact a4
    iapply (hold_owns c _ (hstage0_4 ((cfg0.slots t 4).cast nbuf0_4)) X4); iexact H4

/-- The run: every window's array as the pipeline's data says, every other unscoped buffer as the region finds it, every counter at zero. -/
theorem run_main : θ_run defs (onTc (τ := τ) (main (F := F))) (s₀ m ρ)
    (fun r => RDat.FramePost cfg0 (rdat m) (V m) r ∧ r.2.sem = fun _ => 0) :=
  RDat.θ_run_frame_dma (Q' := _) cfgs (0 : Fin 1) launch0 osem defs₀ Variants.none (rdat m) osem_ok hbmRefs hbmRefs_sub m ρ main
    (hbody := obligation m) (hshare := fun c w => by fin_cases w <;> rfl) (howed := fun _ _ => rfl) (V := V m)
    (hmain := Pipeline.hmain_prefix cfgs 0 defs₀ Variants.none m main hostOps0 hostOps0_sub hostOps0_fresh main_chain)
    (hA := fun _ _ => rfl) (hin := fun c => (by rw [phiOut_eq]; exact .rfl)) (hout := fun c => (by rw [phiOut_eq]; exact .rfl))

/-- The arguments end as they were. -/
theorem args_of {r : PUnit × MemSt nD τ sig (Elt F)} (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(RDat.FramePost.arr_in h c 0 rfl).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame, at any float values: the run terminates, the arguments end as they were, every counter ends at zero. -/
theorem frame_main : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0) :=
  (θ_run defs _ _).mono (fun _ h => ⟨fun c => args_of m h.1 c, h.2⟩) (run_main m ρ)

end Cert.Ffn2

end
-- ==== Proof.Final.lean ====
/-
  WHAT THE TWO RESULTS HOLD AT THE END, at any float values: the first result's tile `k` is the finished tile `k`, the second
  result's two tiles are the finished tiles 32 and 33. The first result's last tile is written back only at the last point:
  the points between leave its buffer alone.
-/
module

public import proofs.«01_k».proof.Proof.Run
public import Idealize.ShloMosaic.Lib.Pipeline.ArrRel
public import Idealize.ShloMosaic.Lib.Pipeline.Value

@[expose] public section

set_option maxRecDepth 16384

noncomputable section

namespace Cert.Ffn2

open Cert.KernelIdeal Cert.KernelIdeal.Gen
open Idealize.ShloMosaic
open Idealize.ShloMosaic.TcCoe Idealize.ShloMosaic.Tactic
open Idealize.ShloMosaic.Pipeline (RDat Cfg Window)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

/-! ## The schedule of the two results -/

theorem flush3 : ∀ t : Fin cfg0.N, (cfg0.win 3).flush t = true ↔ (2 ≤ t.val ∧ t.val ≤ 32) ∨ t.val = 35 := by decide +kernel
theorem flush4 : ∀ t : Fin cfg0.N, (cfg0.win 4).flush t = true ↔ 34 ≤ t.val := by decide +kernel
theorem fetch3 : ∀ t : Fin cfg0.N, (cfg0.win 3).fetch t = false := by decide +kernel
theorem index3 : ∀ t : Fin cfg0.N, (cfg0.win 3).index t = ![min (t.val - 2) 31, 0] := by decide +kernel
theorem index4 : ∀ t : Fin cfg0.N, 34 ≤ t.val → (cfg0.win 4).index t = ![t.val - 34, 0] := by decide +kernel

theorem pt_lt (t : Fin cfg0.N) : t.val < 36 := lt_of_lt_of_eq t.isLt N_0
/-- Point `n` of the grid. -/
abbrev ptOf (n : ℕ) (h : n < 36) : Fin cfg0.N := ⟨n, lt_of_lt_of_eq h N_0.symm⟩

/-- A point after 33 that finds the first result's buffer not just written back finds what the point before left. -/
theorem back3 (c : Dev nD) (n : ℕ) (h : n + 1 < 36) (hf : ¬ ((2 ≤ n ∧ n ≤ 32) ∨ n = 35)) (h33 : 33 < n + 1) (X) (hX : (rdat m c).Leaves 3 (ptOf (n + 1) h) X) :
    (rdat m c).Leaves 3 (ptOf n (by omega)) X := by
  obtain ⟨Y, hY, hXY⟩ := hX
  have e : X = Y := by
    have h' : after3 m c (n + 1) Y X := hXY
    unfold after3 at h'
    rwa [if_neg (by omega)] at h'
  subst e
  rcases ((rdat m c).finds_of_pos (fetch3 _) (Nat.succ_ne_zero n) X).mp hY with hfl | hL
  · exact absurd ((flush3 _).mp hfl) hf
  · exact hL

/-- What a point that writes the first result back may have left in its buffer: the finished tile of its block. -/
theorem leaves3 (c : Dev nD) (t : Fin cfg0.N) (ht : (cfg0.win 3).flush t = true) (X) (hX : (rdat m c).Leaves 3 t X) : X = tP m c (min (t.val - 2) 31) := by
  have at33 : ∀ t : Fin cfg0.N, (2 ≤ t.val ∧ t.val ≤ 33) → ∀ X, (rdat m c).Leaves 3 t X → X = tP m c (t.val - 2) := fun t h X ⟨Y, _, hXY⟩ => by
    have h' : after3 m c t.val Y X := hXY
    unfold after3 at h'
    rwa [if_pos h] at h'
  rcases (flush3 t).mp ht with h | h
  · rw [Nat.min_eq_left (by omega)]
    exact at33 t ⟨h.1, by omega⟩ X hX
  · have e : t = ptOf 35 (by decide) := Fin.ext h
    subst e
    exact at33 (ptOf 33 (by decide)) (by decide) X (back3 m c 33 _ (by decide) (by decide) X (back3 m c 34 _ (by decide) (by decide) X hX))

/-- What a point that writes the second result back may have left in its buffer. -/
theorem leaves4 (c : Dev nD) (t : Fin cfg0.N) (ht : (cfg0.win 4).flush t = true) (X) (hX : (rdat m c).Leaves 4 t X) :
    X = if t.val = 34 then tP m c 32 else tL m c 33 := by
  obtain ⟨Y, _, hXY⟩ := hX
  have h' : after4 m c t.val Y X := hXY
  have h34 := (flush4 t).mp ht
  have hlt := pt_lt t
  unfold after4 at h'
  by_cases h : t.val = 34
  · rw [if_pos h] at h' ⊢; exact h'
  · rw [if_neg h, if_pos (by omega)] at h'; rw [if_neg h]; exact h'

/-! ## The arrays -/

/-- The first result's tile `k` ends as the finished tile `k`. -/
theorem first_at {r : PUnit × MemSt nD τ sig (Elt F)} (h : RDat.FramePost cfg0 (rdat m) (V m) r) (c : Dev nD) (i : S16384x1024.Idx) :
    r.2.mem ((c.tc : Thread nD τ).loc main_v2_0) i = tP m c ((i 0).val / 512) (ValueIdx.ix2 ⟨(i 0).val % 512, Nat.mod_lt _ (by decide)⟩ (i 1)) := by
  obtain ⟨after, hL, hA⟩ := RDat.FramePost.exists_exact h c
  refine (congrFun (hA 3) i).trans ?_
  refine Pipeline.Dat.arrAt_forall_of_cover (dat := (rdat m c).withAfter after) 3
    (fun (i : S16384x1024.Idx) v => v = tP m c ((i 0).val / 512) (ValueIdx.ix2 ⟨(i 0).val % 512, Nat.mod_lt _ (by decide)⟩ (i 1))) ?_ ?_ i
  · intro t ht y
    have e := leaves3 m c t ht _ (hL 3 t ht)
    have h0 : (((cfg0.win 3).rect t).emb y 0 : ℕ) = min (t.val - 2) 31 * 512 + y 0 := by
      rw [Pipeline.Window.rect_emb_val (hk := rfl), index3]; rfl
    have h1 : (((cfg0.win 3).rect t).emb y 1 : ℕ) = y 1 := by
      rw [Pipeline.Window.rect_emb_val (hk := rfl), index3]; show 0 * 1024 + _ = _; omega
    have hy : (y 0 : ℕ) < 512 := (y 0).isLt
    show after 3 t _ = tP m c ((((cfg0.win 3).rect t).emb y 0 : ℕ) / 512) (ValueIdx.ix2 ⟨(((cfg0.win 3).rect t).emb y 0 : ℕ) % 512, _⟩ (((cfg0.win 3).rect t).emb y 1))
    rw [e]
    refine (congrArg (tP m c _) (funext fun a => Fin.ext ?_)).trans (congrArg (fun k => tP m c k _) ?_)
    · match a with
      | ⟨0, _⟩ => show (y 0 : ℕ) = (((cfg0.win 3).rect t).emb y 0 : ℕ) % 512; omega
      | ⟨1, _⟩ => show (y 1 : ℕ) = (((cfg0.win 3).rect t).emb y 1 : ℕ); omega
    · omega
  · intro i
    have hi : ((i : S16384x1024.Idx) 0).val < 16384 := ((i : S16384x1024.Idx) 0).isLt
    have hi1 : ((i : S16384x1024.Idx) 1).val < 1024 := ((i : S16384x1024.Idx) 1).isLt
    have ht : ∃ t : Fin cfg0.N, (cfg0.win 3).flush t = true ∧ min (t.val - 2) 31 = ((i : S16384x1024.Idx) 0).val / 512 := by
      by_cases h31 : ((i : S16384x1024.Idx) 0).val / 512 < 31
      · exact ⟨ptOf (((i : S16384x1024.Idx) 0).val / 512 + 2) (by omega), (flush3 _).mpr (.inl (by show 2 ≤ _ + 2 ∧ _ + 2 ≤ 32; omega)), by show min (_ + 2 - 2) 31 = _; omega⟩
      · exact ⟨ptOf 35 (by omega), (flush3 _).mpr (.inr rfl), by show min (35 - 2) 31 = _; omega⟩
    obtain ⟨t, hf, ht⟩ := ht
    refine ⟨t, hf, Finset.mem_map.mpr ⟨(ValueIdx.ix2 (⟨((i : S16384x1024.Idx) 0).val % 512, Nat.mod_lt _ (by decide)⟩ : Fin 512) ((i : S16384x1024.Idx) 1) : S512x1024.Idx), Finset.mem_univ _, ?_⟩⟩
    funext a
    apply Fin.ext
    match a with
    | ⟨0, _⟩ =>
      refine (Pipeline.Window.rect_emb_val (cfg0.win 3) t _ 0 (hk := rfl)).trans ?_
      rw [index3]
      show min (t.val - 2) 31 * 512 + ((i : S16384x1024.Idx) 0).val % 512 = ((i : S16384x1024.Idx) 0).val
      omega
    | ⟨1, _⟩ =>
      refine (Pipeline.Window.rect_emb_val (cfg0.win 3) t _ 1 (hk := rfl)).trans ?_
      rw [index3]
      show 0 * 1024 + ((i : S16384x1024.Idx) 1).val = ((i : S16384x1024.Idx) 1).val
      omega

/-- What the second result ends as: the finished tile 32, then the finished tile 33. -/
def tS (c : Dev nD) (i : S1024x1024.Idx) : F .f32 :=
  (if (i 0).val < 512 then tP m c 32 else tL m c 33) (ValueIdx.ix2 (⟨(i 0).val % 512, Nat.mod_lt _ (by decide)⟩ : Fin 512) (i 1))

/-- The second result ends as the finished tiles 32 and 33. -/
theorem second_at {r : PUnit × MemSt nD τ sig (Elt F)} (h : RDat.FramePost cfg0 (rdat m) (V m) r) (c : Dev nD) (i : S1024x1024.Idx) :
    r.2.mem ((c.tc : Thread nD τ).loc main_v2_1) i = tS m c i := by
  obtain ⟨after, hL, hA⟩ := RDat.FramePost.exists_exact h c
  refine (congrFun (hA 4) i).trans ?_
  refine Pipeline.Dat.arrAt_forall_of_cover (dat := (rdat m c).withAfter after) 4 (fun (i : S1024x1024.Idx) v => v = tS m c i) ?_ ?_ i
  · intro t ht y
    have h34 := (flush4 t).mp ht
    have e := leaves4 m c t ht _ (hL 4 t ht)
    have h0 : (((cfg0.win 4).rect t).emb y 0 : ℕ) = (t.val - 34) * 512 + y 0 := by
      rw [Pipeline.Window.rect_emb_val (hk := rfl), index4 t h34]; rfl
    have h1 : (((cfg0.win 4).rect t).emb y 1 : ℕ) = y 1 := by
      rw [Pipeline.Window.rect_emb_val (hk := rfl), index4 t h34]; show 0 * 1024 + _ = _; omega
    have hy : (y 0 : ℕ) < 512 := (y 0).isLt
    show after 4 t _ = tS m c (((cfg0.win 4).rect t).emb y)
    rw [e]
    have hlt := pt_lt t
    have hx : ∀ z : S512x1024.Idx, (z 0 : ℕ) = y 0 → (z 1 : ℕ) = y 1 → z = ValueIdx.ix2 (⟨(((cfg0.win 4).rect t).emb y 0 : ℕ) % 512, Nat.mod_lt _ (by decide)⟩ : Fin 512) (((cfg0.win 4).rect t).emb y 1) :=
      fun z hz hz1 => funext fun a => Fin.ext (by
        match a with
        | ⟨0, _⟩ => show (z 0 : ℕ) = (((cfg0.win 4).rect t).emb y 0 : ℕ) % 512; omega
        | ⟨1, _⟩ => show (z 1 : ℕ) = (((cfg0.win 4).rect t).emb y 1 : ℕ); omega)
    unfold tS
    by_cases h : t.val = 34
    · rw [if_pos h, if_pos (by omega)]; exact congrArg _ (hx _ rfl rfl)
    · rw [if_neg h, if_neg (by omega)]; exact congrArg _ (hx _ rfl rfl)
  · intro i
    have hi : ((i : S1024x1024.Idx) 0).val < 1024 := ((i : S1024x1024.Idx) 0).isLt
    have hi1 : ((i : S1024x1024.Idx) 1).val < 1024 := ((i : S1024x1024.Idx) 1).isLt
    have ht : ∃ t : Fin cfg0.N, 34 ≤ t.val ∧ t.val - 34 = ((i : S1024x1024.Idx) 0).val / 512 :=
      ⟨ptOf (((i : S1024x1024.Idx) 0).val / 512 + 34) (by omega), by show 34 ≤ _ + 34; omega, by show _ + 34 - 34 = _; omega⟩
    obtain ⟨t, h34, ht⟩ := ht
    have hf := (flush4 t).mpr h34
    refine ⟨t, hf, Finset.mem_map.mpr ⟨(ValueIdx.ix2 (⟨((i : S1024x1024.Idx) 0).val % 512, Nat.mod_lt _ (by decide)⟩ : Fin 512) ((i : S1024x1024.Idx) 1) : S512x1024.Idx), Finset.mem_univ _, ?_⟩⟩
    funext a
    apply Fin.ext
    match a with
    | ⟨0, _⟩ =>
      refine (Pipeline.Window.rect_emb_val (cfg0.win 4) t _ 0 (hk := rfl)).trans ?_
      rw [index4 t h34]
      show (t.val - 34) * 512 + ((i : S1024x1024.Idx) 0).val % 512 = ((i : S1024x1024.Idx) 0).val
      omega
    | ⟨1, _⟩ =>
      refine (Pipeline.Window.rect_emb_val (cfg0.win 4) t _ 1 (hk := rfl)).trans ?_
      rw [index4 t h34]
      show 0 * 1024 + ((i : S1024x1024.Idx) 1).val = ((i : S1024x1024.Idx) 1).val
      omega

end Cert.Ffn2

end
-- ==== Proof.Row.lean ====
/-
  WHAT ONE ROW BECOMES, over the extended reals: the residual row plus half of its gated feed-forward product, normed by its
  root mean square and scaled by a gain. The kernel's tiles are read row by row as this function; the eleven column blocks
  of the activations, laid side by side, are the activations of the whole feed-forward width.
-/
module

public import proofs.«01_k».proof.Proof.Content
public import Idealize.ShloMosaic.Lib.Pipeline.Value
public import Idealize.ShloMosaic.Lib.Pointwise
public import Idealize.ShloMosaic.Lib.Pointwise.IndexBridge

@[expose] public section

set_option maxRecDepth 16384

noncomputable section

namespace Cert.Ffn2

open Cert.KernelIdeal Cert.KernelIdeal.Gen
open Idealize.ShloMosaic

/-! ## The row function -/

/-- A row over its root mean square, scaled by a gain. -/
def nrm (x g : Fin 1024 → EReal) (j : Fin 1024) : EReal :=
  x j * Ideal.rsqrt (Ideal.div (∑ k, x k * x k) (Ideal.ofBits .f32 0x44800000#32) + Ideal.ofBits .f32 0x358637BD#32) * g j

/-- One gated activation of a row: the gate column's product through `a · logistic a`, times the up column's product. -/
def gate (h G U : Fin 1024 → EReal) : EReal :=
  (∑ k, h k * G k) * Ideal.logistic (∑ k, h k * G k) * ∑ k, h k * U k

/-- The residual row plus half of its product. -/
def resid (x a : Fin 1024 → EReal) (j : Fin 1024) : EReal := x j + Ideal.ofBits .f32 0x3F000000#32 * a j

/-- The gated feed-forward product of a normed row. -/
def ffn (h : Fin 1024 → EReal) (G U : Fin 1024 → Fin 2816 → EReal) (D : Fin 2816 → Fin 1024 → EReal) (j : Fin 1024) : EReal :=
  ∑ f, gate h (fun k => G k f) (fun k => U k f) * D f j

/-- The row that the layer's end makes of a row. -/
def layerRow (x g : Fin 1024 → EReal) (G U : Fin 1024 → Fin 2816 → EReal) (D : Fin 2816 → Fin 1024 → EReal) (g' : Fin 1024 → EReal) : Fin 1024 → EReal :=
  nrm (resid x (ffn (nrm x g) G U D)) g'

/-! ## The kernel's tiles, read at a row -/

/-- Row `p` of an array of 1024 columns. -/
abbrev rowOf {n : ℕ} (X : (⟨2, ![n, 1024]⟩ : Shape).Idx → EReal) (p : Fin n) : Fin 1024 → EReal := fun k => X (ix2 p k)
/-- A matrix by its two coordinates. -/
abbrev matOf {a b : ℕ} (X : (⟨2, ![a, b]⟩ : Shape).Idx → EReal) : Fin a → Fin b → EReal := fun k f => X (ix2 k f)

theorem normT_row (x : Vec Ideal S512x1024 .f32) (g : Vec Ideal S1x1024 .f32) (p : Fin 512) (c : Fin 1024) :
    normT x g (ix2 p c) = nrm (rowOf x p) (rowOf g 0) c := by
  pointwise [normT, k0_pay2, nrm]

theorem actK_row (h : Vec Ideal S512x1024 .bf16) (G U : Vec Ideal S1024x256 .bf16) (p : Fin 512) (f : Fin 256) :
    actK h G U (ix2 p f) = gate (rowOf h p) (fun k => G (ix2 k f)) (fun k => U (ix2 k f)) := by
  pointwise [actK, k0_pay62, gate]

/-- An element of a block of columns of a weight. -/
theorem colW_at (X : S1024x2816.Idx → Elt Ideal .bf16) (n : Fin 11) (h : ∀ a, (![0, 256 * n.val] : Fin 2 → ℕ) a + S1024x256.size a ≤ S1024x2816.size a) (k : Fin 1024) (f : Fin 2816)
    (hf : f.val / 256 = n.val) :
    colW (F := Ideal) X ![0, 256 * n.val] h (ix2 k ⟨f.val % 256, Nat.mod_lt _ (by decide)⟩) = X (ix2 k f) := by
  unfold colW VecWindow.window
  refine congrArg X (funext fun a => Fin.ext ?_)
  match a with
  | ⟨0, _⟩ => show 0 + 1 * k.val = k.val; omega
  | ⟨1, _⟩ => show 256 * n.val + 1 * (f.val % 256) = f.val; omega

theorem inb_col (n : Fin 11) : ∀ a, (![0, 256 * n.val] : Fin 2 → ℕ) a + S1024x256.size a ≤ S1024x2816.size a := by
  revert n; decide

/-- The activations of column block `n`. -/
def actN (h : Vec Ideal S512x1024 .bf16) (G U : Vec Ideal S1024x2816 .bf16) (n : Fin 11) : Vec Ideal S512x256 .bf16 :=
  actK h (colW G ![0, 256 * n.val] (inb_col n)) (colW U ![0, 256 * n.val] (inb_col n))

/-- All eleven blocks' activations side by side. -/
def acts (h : Vec Ideal S512x1024 .bf16) (G U : Vec Ideal S1024x2816 .bf16) : Vec Ideal S512x2816 .bf16 :=
  concatenate S512x2816 1 (List.ofFn fun n : Fin 11 => (⟨S512x256, actN h G U n⟩ : (s : Shape) × (s.Idx → Elt Ideal .bf16)))
    concatenates_S512x256_S512x256_S512x256_S512x256_S512x256_S512x256_S512x256_S512x256_S512x256_S512x256_S512x256_S512x2816_d1

theorem acts_row (h : Vec Ideal S512x1024 .bf16) (G U : Vec Ideal S1024x2816 .bf16) (p : Fin 512) (f : Fin 2816) :
    acts h G U (ix2 p f) = gate (rowOf h p) (fun k => G (ix2 k f)) (fun k => U (ix2 k f)) := by
  have hn : f.val / 256 < 11 := by have := f.isLt; omega
  refine (concatenate_ofFn_apply (t := S512x2816) 1 (actN h G U) _ rfl 256 rfl (ix2 p f) ⟨f.val / 256, hn⟩ rfl
    (ix2 p ⟨f.val % 256, Nat.mod_lt _ (by decide)⟩) rfl ?_).trans ?_
  · intro b hb
    match b with
    | ⟨0, _⟩ => rfl
    | ⟨1, _⟩ => exact absurd rfl hb
  · refine (actK_row _ _ _ _ _).trans ?_
    congr 1 <;> funext k <;> exact colW_at _ ⟨f.val / 256, hn⟩ _ k f rfl

/-- The down product of a tile's activations. -/
theorem down_row (a : Vec Ideal S512x2816 .bf16) (D : Vec Ideal S2816x1024 .bf16) (p : Fin 512) (c : Fin 1024) :
    matmul (F := Ideal) (φ₁ := .bf16) (φ₂ := .bf16) dot_S512x2816_S2816x1024_S512x1024_1_0_0_1_n_n none a D (constant S512x1024 .f32 0x00000000#32) (ix2 p c)
      = ∑ f, a (ix2 p f) * D (ix2 f c) := by
  pointwise

theorem accT_eq (h : Vec Ideal S512x1024 .bf16) (G U : Vec Ideal S1024x2816 .bf16) (D : Vec Ideal S2816x1024 .bf16) :
    accT h G U D = matmul (F := Ideal) (φ₁ := .bf16) (φ₂ := .bf16) dot_S512x2816_S2816x1024_S512x1024_1_0_0_1_n_n none (acts h G U) D (constant S512x1024 .f32 0x00000000#32) := by
  refine (?_ : _ = shapeCast S512x1024 _ shapeCasts_S512x1024_S512x1024).trans (shapeCast_self _ _)
  rfl

/-- A tile's feed-forward product, row by row. -/
theorem accT_row (h : Vec Ideal S512x1024 .bf16) (G U : Vec Ideal S1024x2816 .bf16) (D : Vec Ideal S2816x1024 .bf16) (p : Fin 512) (c : Fin 1024) :
    accT h G U D (ix2 p c) = ffn (rowOf h p) (matOf G) (matOf U) (matOf D) c := by
  rw [accT_eq, down_row]
  exact Finset.sum_congr rfl fun f _ => by rw [acts_row]

/-- A tile finished in one piece, row by row. -/
theorem finL_row (R A : Vec Ideal S512x1024 .f32) (g : Vec Ideal S1x1024 .f32) (p : Fin 512) (c : Fin 1024) :
    finL R A g (ix2 p c) = nrm (resid (rowOf R p) (rowOf A p)) (rowOf g 0) c := by
  unfold finL
  pointwise [k0_pay6, k0_pay4, nrm, resid, under1]
  simp only [← ix2_eq_valueIdx]

/-- One piece of a tile, row by row. -/
theorem pay65_row (R : Vec Ideal S1x64x1024 .f32) (A : Vec Ideal S64x1024 .f32) (g : Vec Ideal S1x1024 .f32) (p : Fin 64) (c : Fin 1024) :
    k0_pay65 R A g (ix2 p c) = nrm (resid (fun k => R (ix3 0 p k)) (rowOf A p)) (rowOf g 0) c := by
  pointwise [k0_pay65, k0_pay63, nrm, resid]

/-- A tile finished in eight pieces, row by row: what the piece at once makes. -/
theorem finP_row (R A : Vec Ideal S512x1024 .f32) (g : Vec Ideal S1x1024 .f32) (p : Fin 512) (c : Fin 1024) :
    finP R A g (ix2 p c) = nrm (resid (rowOf R p) (rowOf A p)) (rowOf g 0) c := by
  have e : (⟨(64 * (p.val / 64) + p.val % 64) % 512, Nat.mod_lt _ (by decide)⟩ : Fin 512) = p := Fin.ext (by have := p.isLt; show (64 * (p.val / 64) + p.val % 64) % 512 = p.val; omega)
  show k0_pay65 (rows3 R (p.val / 64)) (rows2 A (p.val / 64)) g (ValueIdx.ix2 (⟨p.val % 64, Nat.mod_lt _ (by decide)⟩ : Fin 64) c) = _
  rw [← ix2_eq_valueIdx, pay65_row]
  congr 2
  · funext k
    show R (ValueIdx.ix2 (⟨(64 * (p.val / 64) + p.val % 64) % 512, _⟩ : Fin 512) k) = R (ix2 p k)
    rw [← ix2_eq_valueIdx, e]
  · funext k
    show A (ValueIdx.ix2 (⟨(64 * (p.val / 64) + p.val % 64) % 512, _⟩ : Fin 512) k) = A (ix2 p k)
    rw [← ix2_eq_valueIdx, e]

/-- A finished tile (in pieces) is the row function of the tile's rows. -/
theorem tileP_row (X : Vec Ideal S512x1024 .f32) (g g' : Vec Ideal S1x1024 .f32) (G U : Vec Ideal S1024x2816 .bf16) (D : Vec Ideal S2816x1024 .bf16) (p : Fin 512) (c : Fin 1024) :
    finP X (accT (normT X g) G U D) g' (ix2 p c) = layerRow (rowOf X p) (rowOf g 0) (matOf G) (matOf U) (matOf D) (rowOf g' 0) c := by
  rw [finP_row]
  unfold layerRow
  congr 2
  funext k
  exact (accT_row _ _ _ _ _ _).trans (congrArg (fun h => ffn h _ _ _ k) (funext fun j => normT_row _ _ _ _))

/-- A finished tile (in one piece) is the row function of the tile's rows. -/
theorem tileL_row (X : Vec Ideal S512x1024 .f32) (g g' : Vec Ideal S1x1024 .f32) (G U : Vec Ideal S1024x2816 .bf16) (D : Vec Ideal S2816x1024 .bf16) (p : Fin 512) (c : Fin 1024) :
    finL X (accT (normT X g) G U D) g' (ix2 p c) = layerRow (rowOf X p) (rowOf g 0) (matOf G) (matOf U) (matOf D) (rowOf g' 0) c :=
  (finL_row _ _ _ _ _).trans ((finP_row _ _ _ _ _).symm.trans (tileP_row _ _ _ _ _ _ _ _))

end Cert.Ffn2

end
-- ==== Proof.RefRow.lean ====
/-
  WHAT THE REFERENCE COMPUTES, read row by row over the extended reals: each row of either result is the row function of
  the input row it comes from — row `p` for the first result, row `16384 + p` for the second.
-/
module

public import proofs.«01_k».proof.Proof.Row
public import proofs.«01_k».proof.Proof.Gen.ReferenceIdeal.Run

@[expose] public section

set_option maxRecDepth 16384

noncomputable section

namespace Cert.Ffn2

open Cert.ReferenceIdeal Cert.ReferenceIdeal.Value
open Idealize.ShloMosaic
open Idealize.ShloMosaic.TcCoe

/-- The layer's end of row `r` of the tokens, from the six arguments. -/
def rowOut (x : Fin 17408 → Fin 1024 → EReal) (g : Fin 1024 → EReal) (G U : Fin 1024 → Fin 2816 → EReal) (D : Fin 2816 → Fin 1024 → EReal)
    (g' : Fin 1024 → EReal) (r : Fin 17408) : Fin 1024 → EReal := layerRow (x r) g G U D g'

variable (m : (ℓ : Loc nD τ sig) → Buf (Elt Ideal) ℓ) (c : Dev nD)

/-- Row `p` of the reference's first result. -/
theorem ref_first (p : Fin 16384) (j : Fin 1024) :
    res_out0 m c (ix2 p j) = rowOut (matOf (m (c.tc.loc main_arg0))) (fun k => m (c.tc.loc main_arg1) (ix1 k)) (matOf (m (c.tc.loc main_arg2)))
      (matOf (m (c.tc.loc main_arg3))) (matOf (m (c.tc.loc main_arg4))) (fun k => m (c.tc.loc main_arg5) (ix1 k)) ⟨p.val, by omega⟩ j := by
  pointwise [res_out0, res_main_v72, rowOut, layerRow, nrm, resid, ffn, gate, Ideal.logistic]

/-- Row `p` of the reference's second result. -/
theorem ref_second (p : Fin 1024) (j : Fin 1024) :
    res_out1 m c (ix2 p j) = rowOut (matOf (m (c.tc.loc main_arg0))) (fun k => m (c.tc.loc main_arg1) (ix1 k)) (matOf (m (c.tc.loc main_arg2)))
      (matOf (m (c.tc.loc main_arg3))) (matOf (m (c.tc.loc main_arg4))) (fun k => m (c.tc.loc main_arg5) (ix1 k)) ⟨16384 + p.val, by omega⟩ j := by
  pointwise [res_out1, res_main_v73, rowOut, layerRow, nrm, resid, ffn, gate, Ideal.logistic]

end Cert.Ffn2

end
-- ==== Proof.Value.lean ====
/-
  THE CALL'S TWO RESULTS OVER THE EXTENDED REALS: every row is the row function of the token row it comes from, at the call's own
  arguments; and so are the reference's rows (RefRow), so both results are the reference's.
-/
module

public import proofs.«01_k».proof.Proof.Final
public import proofs.«01_k».proof.Proof.RefRow

@[expose] public section

set_option maxRecDepth 16384

noncomputable section

namespace Cert.Ffn2

open Cert.KernelIdeal Cert.KernelIdeal.Gen
open Idealize.ShloMosaic
open Idealize.ShloMosaic.TcCoe Idealize.ShloMosaic.Tactic
open Idealize.ShloMosaic.Pipeline (RDat Cfg Window)
open Idealize.SL.Sem

variable (m : (ℓ : Loc nD τ sig) → Buf (Elt Ideal) ℓ) (c : Dev nD)

/-! ## What the region finds -/

/-- The first gain, as the region finds it: the argument as one row. -/
theorem V_gain : V m c main_v1 = shapeCast S1x1024 (m ((c.tc : Thread nD τ).loc main_arg1)) shapeCasts_S1024_S1x1024 := by
  unfold V hostOps0
  simp only [List.flatten_cons, List.flatten_nil, List.append_nil, List.cons_append, List.nil_append, StableHlo.after_cons, StableHlo.after_nil]
  rw [StableHlo.reshape_result', StableHlo.reshape_result_ne' (h := by decide)]
  rfl

/-- The last gain, as the region finds it: the argument as one row. -/
theorem V_gain_out : V m c main_v0 = shapeCast S1x1024 (m ((c.tc : Thread nD τ).loc main_arg5)) shapeCasts_S1024_S1x1024 := by
  unfold V hostOps0
  simp only [List.flatten_cons, List.flatten_nil, List.append_nil, List.cons_append, List.nil_append, StableHlo.after_cons, StableHlo.after_nil]
  rw [StableHlo.reshape_result_ne' (h := by decide), StableHlo.reshape_result']
  rfl

theorem index0 : ∀ t : Fin cfg0.N, (cfg0.win 0).index t = ![min t.val 33, 0] := by decide +kernel

/-- The tile staged at point `n` is rows `512 · min n 33 …` of the tokens. -/
theorem tX_row (n : ℕ) (p : Fin 512) (k : Fin 1024) :
    tX m c n (ix2 p k) = m ((c.tc : Thread nD τ).loc main_arg0) (ix2 (⟨min n 33 * 512 + p.val, by omega⟩ : Fin 17408) k) := by
  show V m c main_arg0 (((cfg0.win 0).rect (ptOf (min n 35) (by omega))).emb (ix2 p k : S512x1024.Idx)) = _
  rw [V_main_arg0]
  refine congrArg (m _) (funext fun a => Fin.ext ?_)
  match a with
  | ⟨0, _⟩ =>
    refine (Pipeline.Window.rect_emb_val (cfg0.win 0) (ptOf (min n 35) (by omega)) _ 0 (hk := rfl)).trans ?_
    rw [index0]
    show min (min n 35) 33 * 512 + p.val = min n 33 * 512 + p.val
    omega
  | ⟨1, _⟩ =>
    refine (Pipeline.Window.rect_emb_val (cfg0.win 0) (ptOf (min n 35) (by omega)) _ 1 (hk := rfl)).trans ?_
    rw [index0]
    show 0 * 1024 + k.val = k.val
    omega

theorem row1 (X : Vec Ideal S1024 .f32) (k : Fin 1024) : shapeCast S1x1024 X shapeCasts_S1024_S1x1024 (ix2 0 k) = X (ix1 k) := by pointwise

/-- The first gain's window holds the argument. -/
theorem g1_row (k : Fin 1024) : g1 m c (ix2 0 k) = m ((c.tc : Thread nD τ).loc main_arg1) (ix1 k) := by
  refine Eq.trans (?_ : _ = V m c main_v1 (ix2 0 k)) ((congrFun (V_gain m c) _).trans (row1 _ k))
  show V m c main_v1 (((cfg0.win 1).rect (ptOf 0 (by omega))).emb (ix2 0 k : S1x1024.Idx)) = _
  refine congrArg (V m c main_v1) (funext fun a => Fin.ext ?_)
  match a with
  | ⟨0, _⟩ => rfl
  | ⟨1, _⟩ => exact Pipeline.Window.rect_emb_val_of_index_zero (cfg0.win 1) (ptOf 0 (by omega)) 1 rfl _

/-- The last gain's window holds the argument. -/
theorem g2_row (k : Fin 1024) : g2 m c (ix2 0 k) = m ((c.tc : Thread nD τ).loc main_arg5) (ix1 k) := by
  refine Eq.trans (?_ : _ = V m c main_v0 (ix2 0 k)) ((congrFun (V_gain_out m c) _).trans (row1 _ k))
  show V m c main_v0 (((cfg0.win 2).rect (ptOf 0 (by omega))).emb (ix2 0 k : S1x1024.Idx)) = _
  refine congrArg (V m c main_v0) (funext fun a => Fin.ext ?_)
  match a with
  | ⟨0, _⟩ => rfl
  | ⟨1, _⟩ => exact Pipeline.Window.rect_emb_val_of_index_zero (cfg0.win 2) (ptOf 0 (by omega)) 1 rfl _

theorem wG_eq : wG m c = m ((c.tc : Thread nD τ).loc main_arg2) := (congrArg castG (V_main_arg2 m c)).trans rfl
theorem wU_eq : wU m c = m ((c.tc : Thread nD τ).loc main_arg3) := (congrArg castG (V_main_arg3 m c)).trans rfl
theorem wD_eq : wD m c = m ((c.tc : Thread nD τ).loc main_arg4) := (congrArg castD (V_main_arg4 m c)).trans rfl

/-! ## The call's rows -/

/-- Row `r` of the layer's end, at the call's arguments. -/
def callRow (r : Fin 17408) : Fin 1024 → EReal :=
  rowOut (matOf (m ((c.tc : Thread nD τ).loc main_arg0))) (fun k => m ((c.tc : Thread nD τ).loc main_arg1) (ix1 k)) (matOf (m ((c.tc : Thread nD τ).loc main_arg2)))
    (matOf (m ((c.tc : Thread nD τ).loc main_arg3))) (matOf (m ((c.tc : Thread nD τ).loc main_arg4))) (fun k => m ((c.tc : Thread nD τ).loc main_arg5) (ix1 k)) r

theorem tP_row (n : ℕ) (p : Fin 512) (j : Fin 1024) : tP m c n (ix2 p j) = callRow m c ⟨min n 33 * 512 + p.val, by omega⟩ j := by
  unfold tP tA callRow rowOut
  refine (tileP_row _ _ _ _ _ _ p j).trans ?_
  rw [wG_eq, wU_eq, wD_eq, show rowOf (tX m c n) p = _ from funext fun k => tX_row m c n p k, show rowOf (g1 m c) 0 = _ from funext fun k => g1_row m c k,
    show rowOf (g2 m c) 0 = _ from funext fun k => g2_row m c k]

theorem tL_row (n : ℕ) (p : Fin 512) (j : Fin 1024) : tL m c n (ix2 p j) = callRow m c ⟨min n 33 * 512 + p.val, by omega⟩ j :=
  ((tileL_row _ _ _ _ _ _ p j).trans (tileP_row _ _ _ _ _ _ p j).symm).trans (tP_row m c n p j)

variable {m} in
/-- Row `p` of the first result is the row function of token row `p`. -/
theorem first_row {r : PUnit × MemSt nD τ sig (Elt Ideal)} (h : RDat.FramePost cfg0 (rdat m) (V m) r) (p : Fin 16384) (j : Fin 1024) :
    r.2.mem ((c.tc : Thread nD τ).loc main_v2_0) (ix2 p j) = callRow m c ⟨p.val, by omega⟩ j := by
  refine (first_at m h c (ix2 p j)).trans ?_
  show tP m c (p.val / 512) (ValueIdx.ix2 (⟨p.val % 512, _⟩ : Fin 512) j) = _
  rw [← ix2_eq_valueIdx]
  refine (tP_row m c (p.val / 512) ⟨p.val % 512, Nat.mod_lt _ (by decide)⟩ j).trans ?_
  exact congrArg (fun q => callRow m c q j) (Fin.ext (by show min (p.val / 512) 33 * 512 + p.val % 512 = p.val; omega))

variable {m} in
/-- Row `p` of the second result is the row function of token row `16384 + p`. -/
theorem second_row {r : PUnit × MemSt nD τ sig (Elt Ideal)} (h : RDat.FramePost cfg0 (rdat m) (V m) r) (p : Fin 1024) (j : Fin 1024) :
    r.2.mem ((c.tc : Thread nD τ).loc main_v2_1) (ix2 p j) = callRow m c ⟨16384 + p.val, by omega⟩ j := by
  refine (second_at m h c (ix2 p j)).trans ?_
  show (if p.val < 512 then tP m c 32 else tL m c 33) (ValueIdx.ix2 (⟨p.val % 512, _⟩ : Fin 512) j) = _
  rw [← ix2_eq_valueIdx]
  by_cases hp : p.val < 512
  · rw [if_pos hp]
    refine (tP_row m c 32 _ j).trans (congrArg (fun q => callRow m c q j) (Fin.ext ?_))
    show min 32 33 * 512 + p.val % 512 = 16384 + p.val; omega
  · rw [if_neg hp]
    refine (tL_row m c 33 _ j).trans (congrArg (fun q => callRow m c q j) (Fin.ext ?_))
    show min 33 33 * 512 + p.val % 512 = 16384 + p.val; omega

/-! ## Both results, against the reference at the same arguments -/

/-- The first result as an array: row `p` is the row function of token row `p`. -/
def outFirst : Vec Ideal S16384x1024 .f32 := fun i => callRow m c ⟨(i 0).val, Nat.lt_trans (show (i 0).val < 16384 from (i 0).isLt) (by decide)⟩ (i 1)
/-- The second result as an array: row `p` is the row function of token row `16384 + p`. -/
def outSecond : Vec Ideal S1024x1024 .f32 := fun i => callRow m c ⟨16384 + (i 0).val, Nat.add_lt_add_left (show (i 0).val < 1024 from (i 0).isLt) 16384⟩ (i 1)

variable {m} in
theorem call_first {r : PUnit × MemSt nD τ sig (Elt Ideal)} (h : RDat.FramePost cfg0 (rdat m) (V m) r) :
    r.2.mem ((c.tc : Thread nD τ).loc main_v2_0) = outFirst m c := by
  funext i
  have e : i = ix2 (n0 := 16384) (n1 := 1024) (i 0) (i 1) := eq_ix2 i
  rw [e]
  exact first_row c h _ _

variable {m} in
theorem call_second {r : PUnit × MemSt nD τ sig (Elt Ideal)} (h : RDat.FramePost cfg0 (rdat m) (V m) r) :
    r.2.mem ((c.tc : Thread nD τ).loc main_v2_1) = outSecond m c := by
  funext i
  have e : i = ix2 (n0 := 1024) (n1 := 1024) (i 0) (i 1) := eq_ix2 i
  rw [e]
  exact second_row c h _ _

variable {m}

/-- The reference's arguments are the call's. -/
abbrev SameArgs (m : (ℓ : Loc nD τ sig) → Buf (Elt Ideal) ℓ) (m' : (ℓ : Loc Cert.ReferenceIdeal.nD Cert.ReferenceIdeal.τ Cert.ReferenceIdeal.sig) → Buf (Elt Ideal) ℓ) (c : Dev nD) : Prop :=
  m' ((c.tc : Thread Cert.ReferenceIdeal.nD Cert.ReferenceIdeal.τ).loc Cert.ReferenceIdeal.main_arg0) = m ((c.tc : Thread nD τ).loc main_arg0)
    ∧ m' ((c.tc : Thread Cert.ReferenceIdeal.nD Cert.ReferenceIdeal.τ).loc Cert.ReferenceIdeal.main_arg1) = m ((c.tc : Thread nD τ).loc main_arg1)
    ∧ m' ((c.tc : Thread Cert.ReferenceIdeal.nD Cert.ReferenceIdeal.τ).loc Cert.ReferenceIdeal.main_arg2) = m ((c.tc : Thread nD τ).loc main_arg2)
    ∧ m' ((c.tc : Thread Cert.ReferenceIdeal.nD Cert.ReferenceIdeal.τ).loc Cert.ReferenceIdeal.main_arg3) = m ((c.tc : Thread nD τ).loc main_arg3)
    ∧ m' ((c.tc : Thread Cert.ReferenceIdeal.nD Cert.ReferenceIdeal.τ).loc Cert.ReferenceIdeal.main_arg4) = m ((c.tc : Thread nD τ).loc main_arg4)
    ∧ m' ((c.tc : Thread Cert.ReferenceIdeal.nD Cert.ReferenceIdeal.τ).loc Cert.ReferenceIdeal.main_arg5) = m ((c.tc : Thread nD τ).loc main_arg5)

variable {m' : (ℓ : Loc Cert.ReferenceIdeal.nD Cert.ReferenceIdeal.τ Cert.ReferenceIdeal.sig) → Buf (Elt Ideal) ℓ}

/-- The reference's first result is the call's, from the same arguments. -/
theorem reference_first (h : SameArgs m m' c) : Cert.ReferenceIdeal.Value.res_out0 m' c = outFirst m c := by
  obtain ⟨h0, h1, h2, h3, h4, h5⟩ := h
  funext i
  have e : i = ix2 (n0 := 16384) (n1 := 1024) (i 0) (i 1) := eq_ix2 i
  rw [e]
  refine (ref_first m' c _ _).trans ?_
  rw [h0, h1, h2, h3, h4, h5]
  rfl

/-- The reference's second result is the call's, from the same arguments. -/
theorem reference_second (h : SameArgs m m' c) : Cert.ReferenceIdeal.Value.res_out1 m' c = outSecond m c := by
  obtain ⟨h0, h1, h2, h3, h4, h5⟩ := h
  funext i
  have e : i = ix2 (n0 := 1024) (n1 := 1024) (i 0) (i 1) := eq_ix2 i
  rw [e]
  refine (ref_second m' c _ _).trans ?_
  rw [h0, h1, h2, h3, h4, h5]
  rfl

end Cert.Ffn2

end
-- ==== Proof.FirstBase.lean ====
/-
  The first feed-forward call's own names for a proof of its body: its scratch buffers held whole, the two stage slots of each of the
  three weight operands with the six DMA cells that fill them, and the column (row) blocks of the weights in HBM.
-/
module

public import proofs.«01_k».proof.Proof.Gen.Kernel2Ideal.Frame
public import proofs.«01_k».proof.Proof.Gen.Kernel2Ideal.Skeleton
public import Idealize.ShloMosaic.Lib.Tactic
public import Idealize.ShloMosaic.Lib.Ring

@[expose] public section

set_option maxRecDepth 16384

noncomputable section

namespace Cert.Ffn1

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of a pipeline whose body issues its own transfers. -/
local notation "𝕄" => MT nD τ sig Unit (Elt F) ℕ (Pipeline.UD sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c` held whole at `f`. -/
abbrev pt (c : Dev nD) {sp : Space} {S : Shape} {e : EltTy} (M : Memref sig .tc sp S e) (f : Bf (F := F) c M) : sProp 𝕄 :=
  M.view.loc (c : Thread nD τ) ↦{fullShare} f
/-- The elements memref `M` names, held at `f`. -/
abbrev ptOwn (c : Dev nD) {sp : Space} {S : Shape} {e : EltTy} (M : Memref sig .tc sp S e) (f : Bf (F := F) c M) : sProp 𝕄 :=
  M.view.loc (c : Thread nD τ) ↦[M.view.set]{fullShare} f

/-- Memref `M`'s buffer held whole at contents that read `X`. -/
abbrev hold (c : Dev nD) {sp : Space} {S : Shape} {e : EltTy} (M : Memref sig .tc sp S e) (X : S.Idx → Elt F e) : sProp 𝕄 :=
  iprop(∃ f : Bf (F := F) c M, ⌜M.view.read (Elt F) f = X⌝ ∗ pt c M f)
/-- Memref `M`'s buffer held whole at some contents. -/
abbrev some' (c : Dev nD) {sp : Space} {S : Shape} {e : EltTy} (M : Memref sig .tc sp S e) : sProp 𝕄 :=
  iprop(∃ f : Bf (F := F) c M, pt c M f)
/-- The elements memref `M` names, held at some contents. -/
abbrev someOwn (c : Dev nD) {sp : Space} {S : Shape} {e : EltTy} (M : Memref sig .tc sp S e) : sProp 𝕄 :=
  iprop(∃ f : Bf (F := F) c M, ptOwn c M f)

abbrev wgM : Memref sig .tc .vmem S1024x2816 .bf16 := Memref.whole cc0_scratch0
abbrev wuM : Memref sig .tc .vmem S1024x2816 .bf16 := Memref.whole cc0_scratch1
abbrev wdM : Memref sig .tc .vmem S2816x1024 .bf16 := Memref.whole cc0_scratch2
abbrev sgM : Memref sig .tc .vmem S2x1024x256 .f32 := Memref.whole cc0_scratch3
abbrev suM : Memref sig .tc .vmem S2x1024x256 .f32 := Memref.whole cc0_scratch4
abbrev sdM : Memref sig .tc .vmem S2x256x1024 .f32 := Memref.whole cc0_scratch5
abbrev hM : Memref sig .tc .vmem S512x1024 .bf16 := Memref.whole cc0_scratch7
abbrev resM : Memref sig .tc .vmem S2x512x1024 .f32 := Memref.whole cc0_scratch8
abbrev accM : Memref sig .tc .vmem S512x1024 .f32 := Memref.whole cc0_scratch9
abbrev gM : Memref sig .tc .hbm S1024x2816 .f32 := Memref.whole main_arg3
abbrev uM : Memref sig .tc .hbm S1024x2816 .f32 := Memref.whole main_arg4
abbrev dM : Memref sig .tc .hbm S2816x1024 .f32 := Memref.whole main_arg5

/-- The two slots of each weight's stage buffer, as the body slices them. -/
abbrev sg0 : Memref sig .tc .vmem S1024x256 .f32 := (sgM.slice (Rect.unit (s := S2x1024x256) ![0, 0, 0] S1x1024x256.size inb_S2x1024x256_S1x1024x256_0_0_0) (fun _ => rfl)).squeeze S1024x256 squeezes_S1x1024x256_S1024x256
abbrev sg1 : Memref sig .tc .vmem S1024x256 .f32 := (sgM.slice (Rect.unit (s := S2x1024x256) ![1, 0, 0] S1x1024x256.size inb_S2x1024x256_S1x1024x256_1_0_0) (fun _ => rfl)).squeeze S1024x256 squeezes_S1x1024x256_S1024x256
abbrev su0 : Memref sig .tc .vmem S1024x256 .f32 := (suM.slice (Rect.unit (s := S2x1024x256) ![0, 0, 0] S1x1024x256.size inb_S2x1024x256_S1x1024x256_0_0_0) (fun _ => rfl)).squeeze S1024x256 squeezes_S1x1024x256_S1024x256
abbrev su1 : Memref sig .tc .vmem S1024x256 .f32 := (suM.slice (Rect.unit (s := S2x1024x256) ![1, 0, 0] S1x1024x256.size inb_S2x1024x256_S1x1024x256_1_0_0) (fun _ => rfl)).squeeze S1024x256 squeezes_S1x1024x256_S1024x256
abbrev sd0 : Memref sig .tc .vmem S256x1024 .f32 := (sdM.slice (Rect.unit (s := S2x256x1024) ![0, 0, 0] S1x256x1024.size inb_S2x256x1024_S1x256x1024_0_0_0) (fun _ => rfl)).squeeze S256x1024 squeezes_S1x256x1024_S256x1024
abbrev sd1 : Memref sig .tc .vmem S256x1024 .f32 := (sdM.slice (Rect.unit (s := S2x256x1024) ![1, 0, 0] S1x256x1024.size inb_S2x256x1024_S1x256x1024_1_0_0) (fun _ => rfl)).squeeze S256x1024 squeezes_S1x256x1024_S256x1024

/-- Blocks 0 and 1 of each weight in HBM, as the first point's transfers slice them. -/
abbrev gB0 : Memref sig .tc .hbm S1024x256 .f32 := gM.slice (Rect.unit (s := S1024x2816) ![0, 0] S1024x256.size inb_S1024x2816_S1024x256_0_0) (fun _ => rfl)
abbrev gB1 : Memref sig .tc .hbm S1024x256 .f32 := gM.slice (Rect.unit (s := S1024x2816) ![0, 256] S1024x256.size inb_S1024x2816_S1024x256_0_256) (fun _ => rfl)
abbrev uB0 : Memref sig .tc .hbm S1024x256 .f32 := uM.slice (Rect.unit (s := S1024x2816) ![0, 0] S1024x256.size inb_S1024x2816_S1024x256_0_0) (fun _ => rfl)
abbrev uB1 : Memref sig .tc .hbm S1024x256 .f32 := uM.slice (Rect.unit (s := S1024x2816) ![0, 256] S1024x256.size inb_S1024x2816_S1024x256_0_256) (fun _ => rfl)
abbrev dB0 : Memref sig .tc .hbm S256x1024 .f32 := dM.slice (Rect.unit (s := S2816x1024) ![0, 0] S256x1024.size inb_S2816x1024_S256x1024_0_0) (fun _ => rfl)
abbrev dB1 : Memref sig .tc .hbm S256x1024 .f32 := dM.slice (Rect.unit (s := S2816x1024) ![256, 0] S256x1024.size inb_S2816x1024_S256x1024_256_0) (fun _ => rfl)

/-- The kernel's own cells: weight `a`'s slot `s` is filled on cell `2 a + s`. -/
abbrev osem : Fin 6 → SemLoc sig := fun | 0 => .dma 8 | 1 => .dma 9 | 2 => .dma 10 | 3 => .dma 11 | 4 => .dma 12 | 5 => .dma 13

/-- The kernel body at grid coordinates `i` on the staging buffers `M0 … M4`. -/
abbrev bodyP (i : grid0.Coords) (M0 : Memref sig .tc .vmem S512x1024 .f32) (h0 : M0.IsWhole) (M1 : Memref sig .tc .vmem S512x1024 .f32) (h1 : M1.IsWhole)
    (M2 : Memref sig .tc .vmem S1x1024 .f32) (h2 : M2.IsWhole) (M3 : Memref sig .tc .vmem S1x1024 .f32) (h3 : M3.IsWhole)
    (M4 : Memref sig .tc .vmem S512x1024 .f32) (h4 : M4.IsWhole) : Prog (TpuEff nD τ sig (Elt F) Λ₀ .tc) PUnit :=
  cc0_ffn1 i M0 h0 M1 h1 M2 h2 gM (Memref.isWhole_whole _) uM (Memref.isWhole_whole _) dM (Memref.isWhole_whole _) M3 h3 M4 h4
    wgM (Memref.isWhole_whole _) wuM (Memref.isWhole_whole _) wdM (Memref.isWhole_whole _) sgM (Memref.isWhole_whole _) suM (Memref.isWhole_whole _)
    sdM (Memref.isWhole_whole _) cc0_scratch6 hM (Memref.isWhole_whole _) resM (Memref.isWhole_whole _) accM (Memref.isWhole_whole _)

/-- Block 0 of weight `gM` in flight into slot 0 of its stage buffer. -/
abbrev flG0 (c : Dev nD) (X : Bf (F := F) c gM) (a : Bf (F := F) c sgM) : sProp 𝕄 :=
  Transfers.Flight countersEmb (c : Thread nD τ) (osem 0) () 32768
    iprop((sg0.view.loc (c : Thread nD τ) ↦[sg0.view.set]{fullShare} sg0.view.writes (Elt F) a [⟨Rect.whole S1024x256, ReadAs.same.apply (gB0.view.read (Elt F) X)⟩])
      ∗ gM.view.loc (c : Thread nD τ) ↦[gB0.view.set]{fullShare} X)
/-- Block 1 of weight `gM` in flight into slot 1 of its stage buffer. -/
abbrev flG1 (c : Dev nD) (X : Bf (F := F) c gM) (a : Bf (F := F) c sgM) : sProp 𝕄 :=
  Transfers.Flight countersEmb (c : Thread nD τ) (osem 1) () 32768
    iprop((sg1.view.loc (c : Thread nD τ) ↦[sg1.view.set]{fullShare} sg1.view.writes (Elt F) a [⟨Rect.whole S1024x256, ReadAs.same.apply (gB1.view.read (Elt F) X)⟩])
      ∗ gM.view.loc (c : Thread nD τ) ↦[gB1.view.set]{fullShare} X)
/-- Block 0 of weight `uM` in flight into slot 0 of its stage buffer. -/
abbrev flU0 (c : Dev nD) (X : Bf (F := F) c uM) (a : Bf (F := F) c suM) : sProp 𝕄 :=
  Transfers.Flight countersEmb (c : Thread nD τ) (osem 2) () 32768
    iprop((su0.view.loc (c : Thread nD τ) ↦[su0.view.set]{fullShare} su0.view.writes (Elt F) a [⟨Rect.whole S1024x256, ReadAs.same.apply (uB0.view.read (Elt F) X)⟩])
      ∗ uM.view.loc (c : Thread nD τ) ↦[uB0.view.set]{fullShare} X)
/-- Block 1 of weight `uM` in flight into slot 1 of its stage buffer. -/
abbrev flU1 (c : Dev nD) (X : Bf (F := F) c uM) (a : Bf (F := F) c suM) : sProp 𝕄 :=
  Transfers.Flight countersEmb (c : Thread nD τ) (osem 3) () 32768
    iprop((su1.view.loc (c : Thread nD τ) ↦[su1.view.set]{fullShare} su1.view.writes (Elt F) a [⟨Rect.whole S1024x256, ReadAs.same.apply (uB1.view.read (Elt F) X)⟩])
      ∗ uM.view.loc (c : Thread nD τ) ↦[uB1.view.set]{fullShare} X)
/-- Block 0 of weight `dM` in flight into slot 0 of its stage buffer. -/
abbrev flD0 (c : Dev nD) (X : Bf (F := F) c dM) (a : Bf (F := F) c sdM) : sProp 𝕄 :=
  Transfers.Flight countersEmb (c : Thread nD τ) (osem 4) () 32768
    iprop((sd0.view.loc (c : Thread nD τ) ↦[sd0.view.set]{fullShare} sd0.view.writes (Elt F) a [⟨Rect.whole S256x1024, ReadAs.same.apply (dB0.view.read (Elt F) X)⟩])
      ∗ dM.view.loc (c : Thread nD τ) ↦[dB0.view.set]{fullShare} X)
/-- Block 1 of weight `dM` in flight into slot 1 of its stage buffer. -/
abbrev flD1 (c : Dev nD) (X : Bf (F := F) c dM) (a : Bf (F := F) c sdM) : sProp 𝕄 :=
  Transfers.Flight countersEmb (c : Thread nD τ) (osem 5) () 32768
    iprop((sd1.view.loc (c : Thread nD τ) ↦[sd1.view.set]{fullShare} sd1.view.writes (Elt F) a [⟨Rect.whole S256x1024, ReadAs.same.apply (dB1.view.read (Elt F) X)⟩])
      ∗ dM.view.loc (c : Thread nD τ) ↦[dB1.view.set]{fullShare} X)

/-- What stays of a weight `M` in HBM while its blocks `b0` and `b1` are in flight. -/
abbrev restP (c : Dev nD) {S : Shape} (M : Memref sig .tc .hbm S .f32) (b0 b1 : Finset (Idx (M.view.loc (c : Thread nD τ)))) (X : Bf (F := F) c M) : sProp 𝕄 :=
  M.view.loc (c : Thread nD τ) ↦[(Finset.univ \ b0) \ b1]{fullShare} X

end Cert.Ffn1

end
-- ==== Proof.FirstContent.lean ====
/-
  What one grid step of the first feed-forward call computes on the contents of its buffers, in the terms of the second
  call's steps: the tile is chosen from one of two staged tiles, and the finished tile is not normed.
-/
module

public import proofs.«01_k».proof.Proof.Content
public import proofs.«01_k».proof.Proof.FirstBase

@[expose] public section

set_option maxRecDepth 16384

noncomputable section

namespace Cert.Ffn1

open Cert.Kernel2Ideal Cert.Kernel2Ideal.Gen
open Cert.Ffn2 (normT slotR rows3 rows2 under1 cov_step res_rows acc_rows)
open Idealize.ShloMosaic
open Idealize.ShloMosaic.TcCoe Idealize.ShloMosaic.Tactic

variable {F : FTy → Type} [FloatOps F] {sg : RefSig}

/-- One exactly at the grid coordinates whose tile comes from the first input. -/
abbrev fromFirst (i : grid0.Coords) : BitVec 1 := Scalar.cmpi .slt (BitVec.ofNat 32 (i 0).val) 32#32

/-- The tile at grid coordinates `i`, from the two tiles staged there. -/
def pick (i : grid0.Coords) (xa xb : Vec F S512x1024 .f32) : Vec F S512x1024 .f32 := k0_pay3 (fromFirst i) xa xb

/-- A finished tile: the tile plus half its product. -/
def fin (R A : Vec F S512x1024 .f32) : Vec F S512x1024 .f32 := addf R (mulf (broadcast S512x1024 (Scalar.ofBits .f32 0x3F000000#32)) A)

/-- The normed rows a middle step stores are those of the chosen tile; -/
theorem norm_eqM (i : grid0.Coords) (xa xb : Vec F S512x1024 .f32) (g : Vec F S1x1024 .f32) : k0_pay5 (fromFirst i) xa xb g = normT (pick i xa xb) g :=
  rfl

/-- so are those the first step stores, -/
theorem norm_eq0 (i : grid0.Coords) (xa xb : Vec F S512x1024 .f32) (g : Vec F S1x1024 .f32) :
    k0_pay1 (k0_pay9 (BitVec.ofNat 32 (i 0).val) xa xb g) = normT (pick i xa xb) g := norm_eqM i xa xb g

/-- and those the second step stores. -/
theorem norm_eq1 (i : grid0.Coords) (xa xb : Vec F S512x1024 .f32) (g : Vec F S1x1024 .f32) :
    k0_pay2 (k0_pay62 g) (k0_pay63 (BitVec.ofNat 32 (i 0).val) xa xb) = normT (pick i xa xb) g := norm_eqM i xa xb g

/-- The finished tile, from the residual rows under a unit axis. -/
theorem fin_last (R A : Vec F S512x1024 .f32) : k0_pay6 (under1 R) A = fin R A := by
  have e : shapeCast S512x1024 (under1 R) shapeCasts_S1x512x1024_S512x1024 = R := by
    funext y
    refine (shapeCast_apply (under1 R) _ y (ValueIdx.ix3 (0 : Fin 1) (y 0) (y 1)) ?_).trans ?_
    · rw [Shape.rowMajor_val_two, Shape.rowMajor_val_three]
      simp
    · exact congrArg R (funext fun a => by match a with | ⟨0, _⟩ => rfl | ⟨1, _⟩ => rfl)
  unfold k0_pay6
  rw [e]
  rfl

/-- The finished tile's rows `64 k … 64 k + 63`, from those rows of the residual and of the product. -/
theorem fin_window (R A : Vec F S512x1024 .f32) (k : ℕ) (hk : k < 8) (off : Fin 2 → ℕ) (ho : off = ![64 * k, 0])
    (inb : ∀ a, off a + S64x1024.size a ≤ S512x1024.size a) :
    k0_pay65 (rows3 R k) (rows2 A k) = VecWindow.window (s := S512x1024) (fin R A) off S64x1024.size inb := by
  subst ho
  have e : shapeCast S64x1024 (rows3 R k) shapeCasts_S1x64x1024_S64x1024 = rows2 R k := by
    funext y
    refine (shapeCast_apply (rows3 R k) _ y (ValueIdx.ix3 (0 : Fin 1) (y 0) (y 1)) ?_).trans rfl
    rw [Shape.rowMajor_val_two, Shape.rowMajor_val_three]
    simp
  have w (B : Vec F S512x1024 .f32) : rows2 B k = VecWindow.window (s := S512x1024) B ![64 * k, 0] S64x1024.size inb := by
    funext z
    have hz : (z 0).val < 64 := (z 0).isLt
    refine congrArg B (funext fun a => ?_)
    match a with
    | ⟨0, _⟩ => exact Fin.ext (by show (64 * k + (z 0).val) % 512 = 64 * k + 1 * (z 0).val; omega)
    | ⟨1, _⟩ => exact Fin.ext (by show (z 1).val = 0 + 1 * (z 1).val; omega)
  unfold k0_pay65
  rw [e, w R, w A]
  rfl

/-- A piece of 64 rows of a finished tile, from what the buffers of residual and product hold. -/
theorem piece_eq (fr : resM.view.ty.Contents (Elt F)) (fa : accM.view.ty.Contents (Elt F)) (s : Fin 2) (k : ℕ) (hk : k < 8)
    (off3 : Fin 3 → ℕ) (ho3 : off3 = ![s.val, 64 * k, 0])
    (inb3 : ∀ a, off3 a + S1x64x1024.size a ≤ S2x512x1024.size a) (off : Fin 2 → ℕ) (ho : off = ![64 * k, 0])
    (inb : ∀ a, off a + S64x1024.size a ≤ S512x1024.size a) :
    k0_pay65 (resM.view.readAt (Elt F) (Rect.unit (s := S2x512x1024) off3 S1x64x1024.size inb3).toLoadRect fr)
        (accM.view.readAt (Elt F) (Rect.unit (s := S512x1024) off S64x1024.size inb).toLoadRect fa)
      = VecWindow.window (s := S512x1024) (fin (slotR s (resM.view.read (Elt F) fr)) (accM.view.read (Elt F) fa)) off S64x1024.size inb := by
  rw [res_rows resM.view fr s k hk off3 ho3 inb3, acc_rows accM.view fa k hk off ho inb]
  exact fin_window _ _ k hk off ho inb

/-- Storing the next 64 rows of `G`. -/
theorem piece_cons {κ : Kind} {sp : Space} (v : View sg κ sp S512x1024 .f32) (G : S512x1024.Idx → F .f32) (k : ℕ) (off : Fin 2 → ℕ) (ho : off = ![64 * k, 0])
    (inb : ∀ a, off a + S64x1024.size a ≤ S512x1024.size a) (w : S64x1024.Idx → F .f32) (L : List (View.Piece (Elt F) S512x1024 .f32))
    (hw : w = VecWindow.window (s := S512x1024) G off S64x1024.size inb)
    (h : ∀ f, ∀ y : S512x1024.Idx, (y 0).val < 64 * k → v.read (Elt F) (v.writes (Elt F) f L) y = G y) :
    ∀ f, ∀ y : S512x1024.Idx, (y 0).val < 64 * (k + 1) →
      v.read (Elt F) (v.writes (Elt F) f (⟨Rect.unit (s := S512x1024) off S64x1024.size inb, w⟩ :: L)) y = G y := by
  intro f
  refine cov_step v G (0 : Fin 2) inb (64 * k) (64 * (k + 1)) (by rw [ho]; rfl) rfl ?_ (v.writes (Elt F) f L) w hw (h f)
  intro b hb
  match b with
  | ⟨0, _⟩ => exact absurd rfl hb
  | ⟨1, _⟩ => exact ⟨by rw [ho]; rfl, rfl⟩

end Cert.Ffn1

end
-- ==== Proof.FirstInv.lean ====
/-
  The first feed-forward call's invariant between grid points: which tile each scratch buffer holds, where the weights are, and what a
  point may leave in each window's staging buffer.
-/
module

public import proofs.«01_k».proof.Proof.FirstContent
public import proofs.«01_k».proof.Proof.Inv

@[expose] public section

set_option maxRecDepth 16384

noncomputable section

namespace Cert.Ffn1

open Cert.Kernel2Ideal Cert.Kernel2Ideal.Gen
open Cert.Ffn2 (normT castG castD accT slotR par slotSetG slotSetD slotG_disjoint slotG_cover slotD_disjoint slotD_cover)
open Idealize.ShloMosaic
open Idealize.ShloMosaic.TcCoe Idealize.ShloMosaic.Tactic
open Idealize.ShloMosaic.Pipeline (RDat Cfg Window)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

/-! ## The grid's points -/

theorem pt_c1 : ∀ t : Fin grid0.N, k0_cond1 (grid0.coords t) = 1#1 ↔ t.val = 0 := by decide +kernel
theorem pt_c2 : ∀ t : Fin grid0.N, k0_cond2 (grid0.coords t) = 1#1 ↔ t.val = 1 := by decide +kernel
theorem pt_c3 : ∀ t : Fin grid0.N, k0_cond3 (grid0.coords t) = 1#1 ↔ (2 ≤ t.val ∧ t.val ≤ 34) := by decide +kernel
theorem pt_c4 : ∀ t : Fin grid0.N, k0_cond4 (grid0.coords t) = 1#1 ↔ t.val = 35 := by decide +kernel
theorem pt_off1 : ∀ t : Fin grid0.N, k0_off1 (grid0.coords t) = ![t.val % 2, 0, 0] := by decide +kernel
theorem pt_off2 : ∀ t : Fin grid0.N, k0_off2 (grid0.coords t) = ![t.val % 2, 0, 0] := by decide +kernel
theorem pt_off3 : ∀ t : Fin grid0.N, k0_off3 (grid0.coords t) = ![t.val % 2, 64 * 0, 0] := by decide +kernel
theorem pt_off4 : ∀ t : Fin grid0.N, k0_off4 (grid0.coords t) = ![t.val % 2, 64 * 1, 0] := by decide +kernel
theorem pt_off5 : ∀ t : Fin grid0.N, k0_off5 (grid0.coords t) = ![t.val % 2, 64 * 2, 0] := by decide +kernel
theorem pt_off6 : ∀ t : Fin grid0.N, k0_off6 (grid0.coords t) = ![t.val % 2, 64 * 3, 0] := by decide +kernel
theorem pt_off7 : ∀ t : Fin grid0.N, k0_off7 (grid0.coords t) = ![t.val % 2, 64 * 4, 0] := by decide +kernel
theorem pt_off8 : ∀ t : Fin grid0.N, k0_off8 (grid0.coords t) = ![t.val % 2, 64 * 5, 0] := by decide +kernel
theorem pt_off9 : ∀ t : Fin grid0.N, k0_off9 (grid0.coords t) = ![t.val % 2, 64 * 6, 0] := by decide +kernel
theorem pt_off10 : ∀ t : Fin grid0.N, k0_off10 (grid0.coords t) = ![t.val % 2, 64 * 7, 0] := by decide +kernel
theorem pt_off11 : ∀ t : Fin grid0.N, k0_off11 (grid0.coords t) = ![t.val % 2, 0, 0] := by decide +kernel
theorem pt_off12 : ∀ t : Fin grid0.N, k0_off12 (grid0.coords t) = ![t.val % 2, 0, 0] := by decide +kernel

/-! ## A whole buffer owned at what it reads -/

theorem owns_hold (c : Dev nD) {sp : Space} {S : Shape} {e : EltTy} (M : Memref sig .tc sp S e) (h : M.IsWhole) (X : S.Idx → Elt F e) :
    (owns (c : Thread nD τ) M fullShare X : sProp 𝕄) ⊢ hold c M X := by
  obtain ⟨b, rfl, rfl, rfl, hm⟩ := h; cases hm
  unfold owns hold pt
  iintro ⟨%f, %hf, H⟩; iexists f; isplitr; · ipureintro; exact hf
  simp only [Memref.view_whole, View.set_whole]
  iexact H

theorem hold_owns (c : Dev nD) {sp : Space} {S : Shape} {e : EltTy} (M : Memref sig .tc sp S e) (h : M.IsWhole) (X : S.Idx → Elt F e) :
    hold c M X ⊢ (owns (c : Thread nD τ) M fullShare X : sProp 𝕄) := by
  obtain ⟨b, rfl, rfl, rfl, hm⟩ := h; cases hm
  unfold owns hold pt
  iintro ⟨%f, %hf, H⟩; iexists f; isplitr; · ipureintro; exact hf
  simp only [Memref.view_whole, View.set_whole]
  iexact H

/-! ## The stage buffers' two slots -/

theorem sg0_set : sg0.view.set = slotSetG 0 := by
  simp only [sg0, Memref.view_squeeze, View.set_reshape]; exact View.set_slice_whole _ _
theorem sg1_set : sg1.view.set = slotSetG 1 := by
  simp only [sg1, Memref.view_squeeze, View.set_reshape]; exact View.set_slice_whole _ _
theorem sg_split (c : Dev nD) : some' (F := F) c sgM ⊢ iprop(someOwn c sg0 ∗ someOwn c sg1) :=
  Ring.slots2_split (U := Pipeline.UD sig nD τ) (ℓ := (sgM).view.loc (c : Thread nD τ)) (q := fullShare) slotSetG slotG_disjoint slotG_cover
    (fun f => ptOwn c sg0 f) (fun f => ptOwn c sg1 f) (fun f => by unfold ptOwn; rw [sg0_set]) (fun f => by unfold ptOwn; rw [sg1_set])
theorem sg_join (c : Dev nD) : iprop(someOwn (F := F) c sg0 ∗ someOwn c sg1) ⊢ some' c sgM :=
  Ring.slots2_join (U := Pipeline.UD sig nD τ) (ℓ := (sgM).view.loc (c : Thread nD τ)) (q := fullShare) slotSetG slotG_disjoint slotG_cover
    (fun f => ptOwn c sg0 f) (fun f => ptOwn c sg1 f) (fun f => by unfold ptOwn; rw [sg0_set]) (fun f => by unfold ptOwn; rw [sg1_set])
theorem su0_set : su0.view.set = slotSetG 0 := by
  simp only [su0, Memref.view_squeeze, View.set_reshape]; exact View.set_slice_whole _ _
theorem su1_set : su1.view.set = slotSetG 1 := by
  simp only [su1, Memref.view_squeeze, View.set_reshape]; exact View.set_slice_whole _ _
theorem su_split (c : Dev nD) : some' (F := F) c suM ⊢ iprop(someOwn c su0 ∗ someOwn c su1) :=
  Ring.slots2_split (U := Pipeline.UD sig nD τ) (ℓ := (suM).view.loc (c : Thread nD τ)) (q := fullShare) slotSetG slotG_disjoint slotG_cover
    (fun f => ptOwn c su0 f) (fun f => ptOwn c su1 f) (fun f => by unfold ptOwn; rw [su0_set]) (fun f => by unfold ptOwn; rw [su1_set])
theorem su_join (c : Dev nD) : iprop(someOwn (F := F) c su0 ∗ someOwn c su1) ⊢ some' c suM :=
  Ring.slots2_join (U := Pipeline.UD sig nD τ) (ℓ := (suM).view.loc (c : Thread nD τ)) (q := fullShare) slotSetG slotG_disjoint slotG_cover
    (fun f => ptOwn c su0 f) (fun f => ptOwn c su1 f) (fun f => by unfold ptOwn; rw [su0_set]) (fun f => by unfold ptOwn; rw [su1_set])
theorem sd0_set : sd0.view.set = slotSetD 0 := by
  simp only [sd0, Memref.view_squeeze, View.set_reshape]; exact View.set_slice_whole _ _
theorem sd1_set : sd1.view.set = slotSetD 1 := by
  simp only [sd1, Memref.view_squeeze, View.set_reshape]; exact View.set_slice_whole _ _
theorem sd_split (c : Dev nD) : some' (F := F) c sdM ⊢ iprop(someOwn c sd0 ∗ someOwn c sd1) :=
  Ring.slots2_split (U := Pipeline.UD sig nD τ) (ℓ := (sdM).view.loc (c : Thread nD τ)) (q := fullShare) slotSetD slotD_disjoint slotD_cover
    (fun f => ptOwn c sd0 f) (fun f => ptOwn c sd1 f) (fun f => by unfold ptOwn; rw [sd0_set]) (fun f => by unfold ptOwn; rw [sd1_set])
theorem sd_join (c : Dev nD) : iprop(someOwn (F := F) c sd0 ∗ someOwn c sd1) ⊢ some' c sdM :=
  Ring.slots2_join (U := Pipeline.UD sig nD τ) (ℓ := (sdM).view.loc (c : Thread nD τ)) (q := fullShare) slotSetD slotD_disjoint slotD_cover
    (fun f => ptOwn c sd0 f) (fun f => ptOwn c sd1 f) (fun f => by unfold ptOwn; rw [sd0_set]) (fun f => by unfold ptOwn; rw [sd1_set])

/-! ## The tiles, the gain and the weights -/

/-- Point `n`, or the last point when `n` is larger. -/
def ptMin (n : ℕ) : Fin grid0.N := ⟨min n 35, by rw [N_0]; omega⟩
/-- The rows the first window stages at point `n` (at point 35 when `n` is larger). -/
def tX0 (c : Dev nD) (n : ℕ) : Vec F S512x1024 .f32 := iblk m c 0 (ptMin n)
/-- The rows the second window stages at point `n` (at point 35 when `n` is larger). -/
def tX1 (c : Dev nD) (n : ℕ) : Vec F S512x1024 .f32 := iblk m c 1 (ptMin n)
/-- The tile of point `n`: the one of the two staged tiles the point takes. -/
def tX (c : Dev nD) (n : ℕ) : Vec F S512x1024 .f32 := pick (grid0.coords (ptMin n)) (tX0 m c n) (tX1 m c n)
/-- The gain of the norm before the product, as its window stages it. -/
def g1 (c : Dev nD) : Vec F S1x1024 .f32 := iblk m c 2 (⟨0, by rw [N_0]; omega⟩ : Fin grid0.N)
/-- The three weights rounded to bfloat16. -/
def wG (c : Dev nD) : Vec F S1024x2816 .bf16 := castG (gM.view.read (Elt F) (V m c main_arg3))
def wU (c : Dev nD) : Vec F S1024x2816 .bf16 := castG (uM.view.read (Elt F) (V m c main_arg4))
def wD (c : Dev nD) : Vec F S2816x1024 .bf16 := castD (dM.view.read (Elt F) (V m c main_arg5))
/-- The product of the tile of point `n`. -/
def tA (c : Dev nD) (n : ℕ) : Vec F S512x1024 .f32 := accT (normT (tX m c n) (g1 m c)) (wG m c) (wU m c) (wD m c)
/-- The finished tile of point `n`. -/
def tF (c : Dev nD) (n : ℕ) : Vec F S512x1024 .f32 := fin (tX m c n) (tA m c n)

theorem at_min (t : Fin grid0.N) : ptMin t.val = t := Fin.ext (by have := lt_of_lt_of_eq t.isLt N_0; show min t.val 35 = t.val; omega)
theorem tX0_at (c : Dev nD) (t : Fin grid0.N) : iblk m c 0 t = tX0 m c t.val := by unfold tX0; rw [at_min]
theorem tX1_at (c : Dev nD) (t : Fin grid0.N) : iblk m c 1 t = tX1 m c t.val := by unfold tX1; rw [at_min]
theorem tX_at (c : Dev nD) (t : Fin grid0.N) (n : ℕ) (h : t.val = n) : pick (grid0.coords t) (tX0 m c n) (tX1 m c n) = tX m c n := by
  subst h; unfold tX; rw [at_min]

/-! ## The invariant -/

/-- The weights in HBM, whole. -/
def hbm3 (c : Dev nD) : sProp 𝕄 := iprop(pt c gM (V m c main_arg3) ∗ pt c uM (V m c main_arg4) ∗ pt c dM (V m c main_arg5))
/-- The six cells at zero. -/
def sems6 (c : Dev nD) : sProp 𝕄 :=
  iprop(semVal ((c : Thread nD τ), osem 0) 0 ∗ semVal ((c : Thread nD τ), osem 1) 0 ∗ semVal ((c : Thread nD τ), osem 2) 0
    ∗ semVal ((c : Thread nD τ), osem 3) 0 ∗ semVal ((c : Thread nD τ), osem 4) 0 ∗ semVal ((c : Thread nD τ), osem 5) 0)

/-- Outside the grid: every scratch buffer at anything, the cells at zero, the weights in HBM. -/
def phiOut (c : Dev nD) : sProp 𝕄 :=
  iprop((some' c wgM ∗ some' c wuM ∗ some' c wdM ∗ some' c sgM ∗ some' c suM ∗ some' c sdM ∗ some' c hM ∗ some' c resM ∗ some' c accM)
    ∗ (∃ r, prngReg c r) ∗ sems6 c ∗ hbm3 m c)

/-- After the first point: the first chunks of the weights are in flight, the first tile is normed and kept. -/
def phiOne (c : Dev nD) : sProp 𝕄 :=
  iprop((some' c wgM ∗ some' c wuM ∗ some' c wdM ∗ some' c accM)
    ∗ (restP c gM gB0.view.set gB1.view.set (V m c main_arg3) ∗ restP c uM uB0.view.set uB1.view.set (V m c main_arg4) ∗ restP c dM dB0.view.set dB1.view.set (V m c main_arg5))
    ∗ (∃ a, flG0 c (V m c main_arg3) a) ∗ (∃ a, flG1 c (V m c main_arg3) a) ∗ (∃ a, flU0 c (V m c main_arg4) a) ∗ (∃ a, flU1 c (V m c main_arg4) a)
    ∗ (∃ a, flD0 c (V m c main_arg5) a) ∗ (∃ a, flD1 c (V m c main_arg5) a)
    ∗ hold c hM (normT (tX m c 0) (g1 m c))
    ∗ (∃ gr : Bf (F := F) c resM, ⌜slotR (par 0) (resM.view.read (Elt F) gr) = tX m c 0⌝ ∗ pt c resM gr)
    ∗ (∃ r, prngReg c r))

/-- Between two middle points: tile `n`'s product is formed, tile `n + 1` is normed, the rows of both are kept, the weights are held rounded. -/
def phiMid (c : Dev nD) (n : ℕ) : sProp 𝕄 :=
  iprop((hold c wgM (wG m c) ∗ hold c wuM (wU m c) ∗ hold c wdM (wD m c) ∗ some' c sgM ∗ some' c suM ∗ some' c sdM)
    ∗ hold c hM (normT (tX m c (n + 1)) (g1 m c))
    ∗ (∃ gr : Bf (F := F) c resM, ⌜slotR (par n) (resM.view.read (Elt F) gr) = tX m c n ∧ slotR (par (n + 1)) (resM.view.read (Elt F) gr) = tX m c (n + 1)⌝ ∗ pt c resM gr)
    ∗ hold c accM (tA m c n)
    ∗ (∃ r, prngReg c r) ∗ sems6 c ∗ hbm3 m c)

/-- The invariant before point `n`. -/
def phi (c : Dev nD) : ℕ → sProp 𝕄
  | 0 => phiOut m c
  | 1 => phiOne m c
  | n + 2 => if n ≤ 33 then phiMid m c n else phiOut m c

/-! ## The windows -/

/-- What point `t` may leave in the result's buffer: the finished tile from point 2 on, else what it found. -/
def after4 (c : Dev nD) (t : ℕ) (Y X : Vec F S512x1024 .f32) : Prop := if 2 ≤ t then X = tF m c (t - 2) else X = Y

/-- The pipeline's data: the arrays as the region finds them, what each point leaves, the invariant. -/
def rdat (c : Dev nD) : RDat τ (Elt F) Unit ℕ (Pipeline.UD sig nD τ) ℕ cfg0 c where
  A w := V m c (Pipeline.arrRef spec0 w)
  after w t := match w with
    | 0 => fun Y X => X = Y
    | 1 => fun Y X => X = Y
    | 2 => fun Y X => X = Y
    | 3 => fun Y X => X = Y
    | 4 => fun Y X => after4 m c t.val Y X
    | ⟨_ + 5, h⟩ => absurd h (Nat.not_lt.mpr (Nat.le_add_left 5 _))
  Φ t := phi m c t.val
  q w := Pipeline.shareOf spec0 w
  owed _ := 0

theorem osem_ok : Pipeline.OwnSemFacts spec0 osem := by decide
theorem sems6_eq (c : Dev nD) :
    (Pipeline.ownSems0 (Ix := Unit) (Name := ℕ) (U := Pipeline.UD sig nD τ) (Lvl := ℕ) (Val := Elt F) (τ := τ) osem c : sProp 𝕄) = sems6 c := by
  rw [Pipeline.ownSems0_eq_of_list c osem [0, 1, 2, 3, 4, 5] (by decide) (by decide)]; rfl
/-- The buffers in HBM the kernel reads itself: the three weights. -/
def hbmRefs : Finset (Ref sig .tc) := {main_arg3, main_arg4, main_arg5}
theorem hbmRefs_sub : hbmRefs ⊆ Pipeline.restRefs sig spec0 := by decide
theorem hbm3_eq (c : Dev nD) :
    (bigSep hbmRefs (fun b => ((c : Thread nD τ).loc b) ↦{fullShare} V m c b) : sProp 𝕄) = hbm3 m c := by
  rw [BI.bigSep_eq_bigSepL_of_eq [main_arg3, main_arg4, main_arg5] (by decide) (by decide)]; rfl
theorem phiOut_eq (c : Dev nD) : (Pipeline.ΦD osem spec0 hbmRefs (V m) c : sProp 𝕄) = phiOut m c := by
  rw [Pipeline.ΦD_eq, scopedRest0_eq, sems6_eq, hbm3_eq]; rfl

/-- Window 0 finds its point's rows of the first input. -/
theorem finds0 (c : Dev nD) (t : Fin cfg0.N) (Y) (h : (rdat m c).Finds 0 t Y) : Y = tX0 m c t.val := by
  obtain ⟨d, hd⟩ := (rdat m c).finds_in_eq_fetched 0 rfl (fun _ _ _ => rfl) (fun _ _ _ h => h) t Y h
  rw [hd, ← tX0_at]; rfl
/-- Window 1 finds its point's rows of the second input. -/
theorem finds1 (c : Dev nD) (t : Fin cfg0.N) (Y) (h : (rdat m c).Finds 1 t Y) : Y = tX1 m c t.val := by
  obtain ⟨d, hd⟩ := (rdat m c).finds_in_eq_fetched 1 rfl (fun _ _ _ => rfl) (fun _ _ _ h => h) t Y h
  rw [hd, ← tX1_at]; rfl
/-- Window 2 finds the gain. -/
theorem finds2 (c : Dev nD) (t : Fin cfg0.N) (Y) (h : (rdat m c).Finds 2 t Y) : Y = g1 m c := by
  obtain ⟨d, hd⟩ := (rdat m c).finds_in_eq_fetched 2 rfl (fun _ _ _ => rfl) (fun _ _ _ h => h) t Y h
  rw [hd]; rfl

end Cert.Ffn1

end
-- ==== Proof.FirstStep0.lean ====
/-
  The first grid step of the first feed-forward call: the first two chunks of each weight are sent for and the first tile is normed.
-/
module

public import proofs.«01_k».proof.Proof.FirstContent

@[expose] public section

set_option maxRecDepth 16384

noncomputable section

namespace Cert.Ffn1

open Cert.Kernel2Ideal Cert.Kernel2Ideal.Gen
open Cert.Ffn2 (normT castG castD colW actK accT accT_of slotR rows3 rows2 under1 stage_read cov_step cov_zero cols_cons rows_cons res_rows res_slot acc_rows res_write_same res_write_other cast_cols cast_rows)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The step: six transfers in flight, the first tile normed and kept as a residual. -/
theorem step0 (c : Dev nD) (i : grid0.Coords) (hc1 : k0_cond1 i = 1#1) (hc2 : ¬ k0_cond2 i = 1#1) (hc3 : ¬ k0_cond3 i = 1#1) (hc4 : ¬ k0_cond4 i = 1#1)
    (s : Fin 2) (ho : k0_off1 i = ![s.val, 0, 0])
    (M0 : Memref sig .tc .vmem S512x1024 .f32) (h0 : M0.IsWhole) (M1 : Memref sig .tc .vmem S512x1024 .f32) (h1 : M1.IsWhole)
    (M2 : Memref sig .tc .vmem S1x1024 .f32) (h2 : M2.IsWhole) (M3 : Memref sig .tc .vmem S1x1024 .f32) (h3 : M3.IsWhole)
    (M4 : Memref sig .tc .vmem S512x1024 .f32) (h4 : M4.IsWhole)
    (f0 : Bf (F := F) c M0) (f1 : Bf (F := F) c M1) (f2 : Bf (F := F) c M2) (XG : Bf (F := F) c gM) (XU : Bf (F := F) c uM) (XD : Bf (F := F) c dM)
    (a0 a1 : Bf (F := F) c sgM) (b0 b1 : Bf (F := F) c suM) (d0 d1 : Bf (F := F) c sdM)
    (fh : Bf (F := F) c hM) (fr : Bf (F := F) c resM)
    (W : Waits sig Unit) (Q : PUnit → sProp 𝕄) :
    iprop(pt c M0 f0 ∗ pt c M1 f1 ∗ pt c M2 f2 ∗ pt c gM XG ∗ pt c uM XU ∗ pt c dM XD
      ∗ ptOwn c sg0 a0 ∗ ptOwn c sg1 a1 ∗ ptOwn c su0 b0 ∗ ptOwn c su1 b1 ∗ ptOwn c sd0 d0 ∗ ptOwn c sd1 d1
      ∗ pt c hM fh ∗ pt c resM fr
      ∗ semVal ((c : Thread nD τ), osem 0) 0 ∗ semVal ((c : Thread nD τ), osem 1) 0 ∗ semVal ((c : Thread nD τ), osem 2) 0
      ∗ semVal ((c : Thread nD τ), osem 3) 0 ∗ semVal ((c : Thread nD τ), osem 4) 0 ∗ semVal ((c : Thread nD τ), osem 5) 0
      ∗ owes (c : Thread nD τ) 0 W
      ∗ (iprop(pt c M0 f0 ∗ pt c M1 f1 ∗ pt c M2 f2
          ∗ restP c gM gB0.view.set gB1.view.set XG ∗ restP c uM uB0.view.set uB1.view.set XU ∗ restP c dM dB0.view.set dB1.view.set XD
          ∗ flG0 c XG a0 ∗ flG1 c XG a1 ∗ flU0 c XU b0 ∗ flU1 c XU b1 ∗ flD0 c XD d0 ∗ flD1 c XD d1
          ∗ hold c hM (normT (pick i (M0.view.read (Elt F) f0) (M1.view.read (Elt F) f1)) (M2.view.read (Elt F) f2))
          ∗ (∃ gr : Bf (F := F) c resM, ⌜slotR s (resM.view.read (Elt F) gr) = pick i (M0.view.read (Elt F) f0) (M1.view.read (Elt F) f1)⌝ ∗ pt c resM gr)
          ∗ (∃ W', owes (c : Thread nD τ) 0 W')) -∗ Q ⟨⟩))
    ⊢ wp frame (wpE (defs₀ (F := F)) Variants.none c none) Set.univ (bodyP i M0 h0 M1 h1 M2 h2 M3 h3 M4 h4) Q := by
  iintro ⟨H0, H1, H2, HG, HU, HD, Hg0, Hg1, Hu0, Hu1, Hd0, Hd1, Hh, Hr, S0, S1, S2, S3, S4, S5, HO, Hk⟩
  unfold bodyP
  simp only [cc0_ffn1_eq_skeleton]
  unfold cc0_ffn1_skel
  sl_exec
  sl_step
  iapply Hk
  iframe H0 H1 H2 HG HU HD S0 S1 S2 S3 S4 S5
  isplitl [Hh]
  · iexists _; isplitr; swap; · iexact Hh
    ipureintro
    refine (View.read_writes_full hM.view fh _ _ _).trans ?_
    exact (norm_eq0 i _ _ _).trans (congrArg₂ normT (congrArg₂ (pick i) (View.readAt_full M0.view f0 _) (View.readAt_full M1.view f1 _)) (View.readAt_full M2.view f2 _))
  isplitl [Hr]
  · iexists _; isplitr; swap; · iexact Hr
    ipureintro
    exact (res_write_same resM.view fr s _ ho _ (pick i _ _)).trans (congrArg₂ (pick i) (View.readAt_full M0.view f0 _) (View.readAt_full M1.view f1 _))
  iexists _
  iexact HO

end Cert.Ffn1

end
-- ==== Proof.FirstStep1.lean ====
/-
  The second grid step: the weights' chunks arrive, are rounded to bfloat16 and kept; the first tile's product is formed
  from them as they arrive; the second tile is normed.
-/
module

public import proofs.«01_k».proof.Proof.FirstContent

@[expose] public section

set_option maxRecDepth 16384

noncomputable section

namespace Cert.Ffn1

open Cert.Kernel2Ideal Cert.Kernel2Ideal.Gen
open Cert.Ffn2 (normT castG castD colW actK accT accT_of slotR rows3 rows2 under1 stage_read cov_step cov_zero cols_cons rows_cons res_rows res_slot acc_rows res_write_same res_write_other cast_cols cast_rows)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The step: every transfer has landed, the three weights are held rounded, the first tile's product and the second tile's normed rows are formed. -/
theorem step1 (c : Dev nD) (i : grid0.Coords) (hc1 : ¬ k0_cond1 i = 1#1) (hc2 : k0_cond2 i = 1#1) (hc3 : ¬ k0_cond3 i = 1#1) (hc4 : ¬ k0_cond4 i = 1#1)
    (s s' : Fin 2) (hs : s ≠ s') (ho : k0_off2 i = ![s.val, 0, 0])
    (M0 : Memref sig .tc .vmem S512x1024 .f32) (h0 : M0.IsWhole) (M1 : Memref sig .tc .vmem S512x1024 .f32) (h1 : M1.IsWhole)
    (M2 : Memref sig .tc .vmem S1x1024 .f32) (h2 : M2.IsWhole) (M3 : Memref sig .tc .vmem S1x1024 .f32) (h3 : M3.IsWhole)
    (M4 : Memref sig .tc .vmem S512x1024 .f32) (h4 : M4.IsWhole)
    (f0 : Bf (F := F) c M0) (f1 : Bf (F := F) c M1) (f2 : Bf (F := F) c M2) (XG : Bf (F := F) c gM) (XU : Bf (F := F) c uM) (XD : Bf (F := F) c dM)
    (a0 a1 : Bf (F := F) c sgM) (b0 b1 : Bf (F := F) c suM) (d0 d1 : Bf (F := F) c sdM)
    (fwg : Bf (F := F) c wgM) (fwu : Bf (F := F) c wuM) (fwd : Bf (F := F) c wdM)
    (fh : Bf (F := F) c hM) (fr : Bf (F := F) c resM) (fa : Bf (F := F) c accM)
    (W : Waits sig Unit) (Q : PUnit → sProp 𝕄) :
    iprop(pt c M0 f0 ∗ pt c M1 f1 ∗ pt c M2 f2 ∗ restP c gM gB0.view.set gB1.view.set XG ∗ restP c uM uB0.view.set uB1.view.set XU ∗ restP c dM dB0.view.set dB1.view.set XD
      ∗ flG0 c XG a0 ∗ flG1 c XG a1 ∗ flU0 c XU b0 ∗ flU1 c XU b1 ∗ flD0 c XD d0 ∗ flD1 c XD d1
      ∗ pt c wgM fwg ∗ pt c wuM fwu ∗ pt c wdM fwd
      ∗ pt c hM fh ∗ pt c resM fr ∗ pt c accM fa
      ∗ owes (c : Thread nD τ) 0 W
      ∗ (iprop(pt c M0 f0 ∗ pt c M1 f1 ∗ pt c M2 f2 ∗ pt c gM XG ∗ pt c uM XU ∗ pt c dM XD
          ∗ someOwn c sg0 ∗ someOwn c sg1 ∗ someOwn c su0 ∗ someOwn c su1 ∗ someOwn c sd0 ∗ someOwn c sd1
          ∗ semVal ((c : Thread nD τ), osem 0) 0 ∗ semVal ((c : Thread nD τ), osem 1) 0 ∗ semVal ((c : Thread nD τ), osem 2) 0
          ∗ semVal ((c : Thread nD τ), osem 3) 0 ∗ semVal ((c : Thread nD τ), osem 4) 0 ∗ semVal ((c : Thread nD τ), osem 5) 0
          ∗ hold c wgM (castG (gM.view.read (Elt F) XG)) ∗ hold c wuM (castG (uM.view.read (Elt F) XU)) ∗ hold c wdM (castD (dM.view.read (Elt F) XD))
          ∗ hold c hM (normT (pick i (M0.view.read (Elt F) f0) (M1.view.read (Elt F) f1)) (M2.view.read (Elt F) f2))
          ∗ (∃ gr : Bf (F := F) c resM, ⌜slotR s (resM.view.read (Elt F) gr) = pick i (M0.view.read (Elt F) f0) (M1.view.read (Elt F) f1)
              ∧ slotR s' (resM.view.read (Elt F) gr) = slotR s' (resM.view.read (Elt F) fr)⌝ ∗ pt c resM gr)
          ∗ hold c accM (accT (hM.view.read (Elt F) fh) (castG (gM.view.read (Elt F) XG)) (castG (uM.view.read (Elt F) XU)) (castD (dM.view.read (Elt F) XD)))
          ∗ (∃ W', owes (c : Thread nD τ) 0 W')) -∗ Q ⟨⟩))
    ⊢ wp frame (wpE (defs₀ (F := F)) Variants.none c none) Set.univ (bodyP i M0 h0 M1 h1 M2 h2 M3 h3 M4 h4) Q := by
  iintro ⟨H0, H1, H2, HG, HU, HD, S0, S1, S2, S3, S4, S5, Hwg, Hwu, Hwd, Hh, Hr, Ha, HO, Hk⟩
  unfold bodyP
  simp only [cc0_ffn1_eq_skeleton]
  unfold cc0_ffn1_skel
  sl_exec
  sl_step
  have pg0 : k0_pay10 (step1.sl.v40 c XG) = colW (F := F) (e := .bf16) (castG (gM.view.read (Elt F) XG)) ![0, 0] inb_S1024x2816_S1024x256_0_0 :=
    cast_cols _ (gM.view.read (Elt F) XG) _ _ ((stage_read sgM.view _ _ _ _ _ _).trans rfl)
  have pg1 : k0_pay16 (step1.sl.r_3 c XG) = colW (F := F) (e := .bf16) (castG (gM.view.read (Elt F) XG)) ![0, 256] inb_S1024x2816_S1024x256_0_256 :=
    cast_cols _ (gM.view.read (Elt F) XG) _ _ ((stage_read sgM.view _ _ _ _ _ _).trans rfl)
  have pg2 : k0_pay20 (step1.sl.v152 c XG) = colW (F := F) (e := .bf16) (castG (gM.view.read (Elt F) XG)) ![0, 512] inb_S1024x2816_S1024x256_0_512 :=
    cast_cols _ (gM.view.read (Elt F) XG) _ _ ((stage_read sgM.view _ _ _ _ _ _).trans rfl)
  have pg3 : k0_pay24 (step1.sl.v208 c XG) = colW (F := F) (e := .bf16) (castG (gM.view.read (Elt F) XG)) ![0, 768] inb_S1024x2816_S1024x256_0_768 :=
    cast_cols _ (gM.view.read (Elt F) XG) _ _ ((stage_read sgM.view _ _ _ _ _ _).trans rfl)
  have pg4 : k0_pay28 (step1.sl.v264 c XG) = colW (F := F) (e := .bf16) (castG (gM.view.read (Elt F) XG)) ![0, 1024] inb_S1024x2816_S1024x256_0_1024 :=
    cast_cols _ (gM.view.read (Elt F) XG) _ _ ((stage_read sgM.view _ _ _ _ _ _).trans rfl)
  have pg5 : k0_pay32 (step1.sl.v320 c XG) = colW (F := F) (e := .bf16) (castG (gM.view.read (Elt F) XG)) ![0, 1280] inb_S1024x2816_S1024x256_0_1280 :=
    cast_cols _ (gM.view.read (Elt F) XG) _ _ ((stage_read sgM.view _ _ _ _ _ _).trans rfl)
  have pg6 : k0_pay36 (step1.sl.v376 c XG) = colW (F := F) (e := .bf16) (castG (gM.view.read (Elt F) XG)) ![0, 1536] inb_S1024x2816_S1024x256_0_1536 :=
    cast_cols _ (gM.view.read (Elt F) XG) _ _ ((stage_read sgM.view _ _ _ _ _ _).trans rfl)
  have pg7 : k0_pay41 (step1.sl.v432 c XG) = colW (F := F) (e := .bf16) (castG (gM.view.read (Elt F) XG)) ![0, 1792] inb_S1024x2816_S1024x256_0_1792 :=
    cast_cols _ (gM.view.read (Elt F) XG) _ _ ((stage_read sgM.view _ _ _ _ _ _).trans rfl)
  have pg8 : k0_pay47 (step1.sl.v488 c XG) = colW (F := F) (e := .bf16) (castG (gM.view.read (Elt F) XG)) ![0, 2048] inb_S1024x2816_S1024x256_0_2048 :=
    cast_cols _ (gM.view.read (Elt F) XG) _ _ ((stage_read sgM.view _ _ _ _ _ _).trans rfl)
  have pg9 : k0_pay52 (step1.sl.r_15 c XG) = colW (F := F) (e := .bf16) (castG (gM.view.read (Elt F) XG)) ![0, 2304] inb_S1024x2816_S1024x256_0_2304 :=
    cast_cols _ (gM.view.read (Elt F) XG) _ _ ((stage_read sgM.view _ _ _ _ _ _).trans rfl)
  have pg10 : k0_pay56 (step1.sl.v585 c XG) = colW (F := F) (e := .bf16) (castG (gM.view.read (Elt F) XG)) ![0, 2560] inb_S1024x2816_S1024x256_0_2560 :=
    cast_cols _ (gM.view.read (Elt F) XG) _ _ ((stage_read sgM.view _ _ _ _ _ _).trans rfl)
  have pu0 : k0_pay12 (step1.sl.r_1 c XU) = colW (F := F) (e := .bf16) (castG (uM.view.read (Elt F) XU)) ![0, 0] inb_S1024x2816_S1024x256_0_0 :=
    cast_cols _ (uM.view.read (Elt F) XU) _ _ ((stage_read suM.view _ _ _ _ _ _).trans rfl)
  have pu1 : k0_pay17 (step1.sl.v102 c XU) = colW (F := F) (e := .bf16) (castG (uM.view.read (Elt F) XU)) ![0, 256] inb_S1024x2816_S1024x256_0_256 :=
    cast_cols _ (uM.view.read (Elt F) XU) _ _ ((stage_read suM.view _ _ _ _ _ _).trans rfl)
  have pu2 : k0_pay21 (step1.sl.v158 c XU) = colW (F := F) (e := .bf16) (castG (uM.view.read (Elt F) XU)) ![0, 512] inb_S1024x2816_S1024x256_0_512 :=
    cast_cols _ (uM.view.read (Elt F) XU) _ _ ((stage_read suM.view _ _ _ _ _ _).trans rfl)
  have pu3 : k0_pay25 (step1.sl.v214 c XU) = colW (F := F) (e := .bf16) (castG (uM.view.read (Elt F) XU)) ![0, 768] inb_S1024x2816_S1024x256_0_768 :=
    cast_cols _ (uM.view.read (Elt F) XU) _ _ ((stage_read suM.view _ _ _ _ _ _).trans rfl)
  have pu4 : k0_pay29 (step1.sl.v270 c XU) = colW (F := F) (e := .bf16) (castG (uM.view.read (Elt F) XU)) ![0, 1024] inb_S1024x2816_S1024x256_0_1024 :=
    cast_cols _ (uM.view.read (Elt F) XU) _ _ ((stage_read suM.view _ _ _ _ _ _).trans rfl)
  have pu5 : k0_pay33 (step1.sl.v326 c XU) = colW (F := F) (e := .bf16) (castG (uM.view.read (Elt F) XU)) ![0, 1280] inb_S1024x2816_S1024x256_0_1280 :=
    cast_cols _ (uM.view.read (Elt F) XU) _ _ ((stage_read suM.view _ _ _ _ _ _).trans rfl)
  have pu6 : k0_pay37 (step1.sl.v382 c XU) = colW (F := F) (e := .bf16) (castG (uM.view.read (Elt F) XU)) ![0, 1536] inb_S1024x2816_S1024x256_0_1536 :=
    cast_cols _ (uM.view.read (Elt F) XU) _ _ ((stage_read suM.view _ _ _ _ _ _).trans rfl)
  have pu7 : k0_pay43 (step1.sl.r_11 c XU) = colW (F := F) (e := .bf16) (castG (uM.view.read (Elt F) XU)) ![0, 1792] inb_S1024x2816_S1024x256_0_1792 :=
    cast_cols _ (uM.view.read (Elt F) XU) _ _ ((stage_read suM.view _ _ _ _ _ _).trans rfl)
  have pu8 : k0_pay48 (step1.sl.v494 c XU) = colW (F := F) (e := .bf16) (castG (uM.view.read (Elt F) XU)) ![0, 2048] inb_S1024x2816_S1024x256_0_2048 :=
    cast_cols _ (uM.view.read (Elt F) XU) _ _ ((stage_read suM.view _ _ _ _ _ _).trans rfl)
  have pu9 : k0_pay53 (step1.sl.v550 c XU) = colW (F := F) (e := .bf16) (castG (uM.view.read (Elt F) XU)) ![0, 2304] inb_S1024x2816_S1024x256_0_2304 :=
    cast_cols _ (uM.view.read (Elt F) XU) _ _ ((stage_read suM.view _ _ _ _ _ _).trans rfl)
  have pu10 : k0_pay57 (step1.sl.v591 c XU) = colW (F := F) (e := .bf16) (castG (uM.view.read (Elt F) XU)) ![0, 2560] inb_S1024x2816_S1024x256_0_2560 :=
    cast_cols _ (uM.view.read (Elt F) XU) _ _ ((stage_read suM.view _ _ _ _ _ _).trans rfl)
  have pd0 : k0_pay13 (step1.sl.v52 c XD) = VecWindow.window (s := S2816x1024) (castD (dM.view.read (Elt F) XD)) ![0, 0] S256x1024.size inb_S2816x1024_S256x1024_0_0 :=
    cast_rows _ (dM.view.read (Elt F) XD) _ _ ((stage_read sdM.view _ _ _ _ _ _).trans rfl)
  have pd1 : k0_pay18 (step1.sl.v108 c XD) = VecWindow.window (s := S2816x1024) (castD (dM.view.read (Elt F) XD)) ![256, 0] S256x1024.size inb_S2816x1024_S256x1024_256_0 :=
    cast_rows _ (dM.view.read (Elt F) XD) _ _ ((stage_read sdM.view _ _ _ _ _ _).trans rfl)
  have pd2 : k0_pay22 (step1.sl.v164 c XD) = VecWindow.window (s := S2816x1024) (castD (dM.view.read (Elt F) XD)) ![512, 0] S256x1024.size inb_S2816x1024_S256x1024_512_0 :=
    cast_rows _ (dM.view.read (Elt F) XD) _ _ ((stage_read sdM.view _ _ _ _ _ _).trans rfl)
  have pd3 : k0_pay26 (step1.sl.v220 c XD) = VecWindow.window (s := S2816x1024) (castD (dM.view.read (Elt F) XD)) ![768, 0] S256x1024.size inb_S2816x1024_S256x1024_768_0 :=
    cast_rows _ (dM.view.read (Elt F) XD) _ _ ((stage_read sdM.view _ _ _ _ _ _).trans rfl)
  have pd4 : k0_pay30 (step1.sl.v276 c XD) = VecWindow.window (s := S2816x1024) (castD (dM.view.read (Elt F) XD)) ![1024, 0] S256x1024.size inb_S2816x1024_S256x1024_1024_0 :=
    cast_rows _ (dM.view.read (Elt F) XD) _ _ ((stage_read sdM.view _ _ _ _ _ _).trans rfl)
  have pd5 : k0_pay34 (step1.sl.v332 c XD) = VecWindow.window (s := S2816x1024) (castD (dM.view.read (Elt F) XD)) ![1280, 0] S256x1024.size inb_S2816x1024_S256x1024_1280_0 :=
    cast_rows _ (dM.view.read (Elt F) XD) _ _ ((stage_read sdM.view _ _ _ _ _ _).trans rfl)
  have pd6 : k0_pay39 (step1.sl.r_9 c XD) = VecWindow.window (s := S2816x1024) (castD (dM.view.read (Elt F) XD)) ![1536, 0] S256x1024.size inb_S2816x1024_S256x1024_1536_0 :=
    cast_rows _ (dM.view.read (Elt F) XD) _ _ ((stage_read sdM.view _ _ _ _ _ _).trans rfl)
  have pd7 : k0_pay44 (step1.sl.v444 c XD) = VecWindow.window (s := S2816x1024) (castD (dM.view.read (Elt F) XD)) ![1792, 0] S256x1024.size inb_S2816x1024_S256x1024_1792_0 :=
    cast_rows _ (dM.view.read (Elt F) XD) _ _ ((stage_read sdM.view _ _ _ _ _ _).trans rfl)
  have pd8 : k0_pay49 (step1.sl.v500 c XD) = VecWindow.window (s := S2816x1024) (castD (dM.view.read (Elt F) XD)) ![2048, 0] S256x1024.size inb_S2816x1024_S256x1024_2048_0 :=
    cast_rows _ (dM.view.read (Elt F) XD) _ _ ((stage_read sdM.view _ _ _ _ _ _).trans rfl)
  have pd9 : k0_pay54 (step1.sl.v556 c XD) = VecWindow.window (s := S2816x1024) (castD (dM.view.read (Elt F) XD)) ![2304, 0] S256x1024.size inb_S2816x1024_S256x1024_2304_0 :=
    cast_rows _ (dM.view.read (Elt F) XD) _ _ ((stage_read sdM.view _ _ _ _ _ _).trans rfl)
  have pd10 : k0_pay58 (step1.sl.v597 c XD) = VecWindow.window (s := S2816x1024) (castD (dM.view.read (Elt F) XD)) ![2560, 0] S256x1024.size inb_S2816x1024_S256x1024_2560_0 :=
    cast_rows _ (dM.view.read (Elt F) XD) _ _ ((stage_read sdM.view _ _ _ _ _ _).trans rfl)
  have cg0 : ∀ f, ∀ y : S1024x2816.Idx, (y 1).val < 0 → wgM.view.read (Elt F) (wgM.view.writes (Elt F) f []) y = castG (gM.view.read (Elt F) XG) y := fun _ _ h => absurd h (Nat.not_lt_zero _)
  have cg1 := cols_cons wgM.view _ 0 _ rfl inb_S1024x2816_S1024x256_0_0 _ _ pg0 cg0
  have cg2 := cols_cons wgM.view _ 256 _ rfl inb_S1024x2816_S1024x256_0_256 _ _ pg1 cg1
  have cg3 := cols_cons wgM.view _ 512 _ rfl inb_S1024x2816_S1024x256_0_512 _ _ pg2 cg2
  have cg4 := cols_cons wgM.view _ 768 _ rfl inb_S1024x2816_S1024x256_0_768 _ _ pg3 cg3
  have cg5 := cols_cons wgM.view _ 1024 _ rfl inb_S1024x2816_S1024x256_0_1024 _ _ pg4 cg4
  have cg6 := cols_cons wgM.view _ 1280 _ rfl inb_S1024x2816_S1024x256_0_1280 _ _ pg5 cg5
  have cg7 := cols_cons wgM.view _ 1536 _ rfl inb_S1024x2816_S1024x256_0_1536 _ _ pg6 cg6
  have cg8 := cols_cons wgM.view _ 1792 _ rfl inb_S1024x2816_S1024x256_0_1792 _ _ pg7 cg7
  have cg9 := cols_cons wgM.view _ 2048 _ rfl inb_S1024x2816_S1024x256_0_2048 _ _ pg8 cg8
  have cg10 := cols_cons wgM.view _ 2304 _ rfl inb_S1024x2816_S1024x256_0_2304 _ _ pg9 cg9
  have cg11 := cols_cons wgM.view _ 2560 _ rfl inb_S1024x2816_S1024x256_0_2560 _ _ pg10 cg10
  have cu0 : ∀ f, ∀ y : S1024x2816.Idx, (y 1).val < 0 → wuM.view.read (Elt F) (wuM.view.writes (Elt F) f []) y = castG (uM.view.read (Elt F) XU) y := fun _ _ h => absurd h (Nat.not_lt_zero _)
  have cu1 := cols_cons wuM.view _ 0 _ rfl inb_S1024x2816_S1024x256_0_0 _ _ pu0 cu0
  have cu2 := cols_cons wuM.view _ 256 _ rfl inb_S1024x2816_S1024x256_0_256 _ _ pu1 cu1
  have cu3 := cols_cons wuM.view _ 512 _ rfl inb_S1024x2816_S1024x256_0_512 _ _ pu2 cu2
  have cu4 := cols_cons wuM.view _ 768 _ rfl inb_S1024x2816_S1024x256_0_768 _ _ pu3 cu3
  have cu5 := cols_cons wuM.view _ 1024 _ rfl inb_S1024x2816_S1024x256_0_1024 _ _ pu4 cu4
  have cu6 := cols_cons wuM.view _ 1280 _ rfl inb_S1024x2816_S1024x256_0_1280 _ _ pu5 cu5
  have cu7 := cols_cons wuM.view _ 1536 _ rfl inb_S1024x2816_S1024x256_0_1536 _ _ pu6 cu6
  have cu8 := cols_cons wuM.view _ 1792 _ rfl inb_S1024x2816_S1024x256_0_1792 _ _ pu7 cu7
  have cu9 := cols_cons wuM.view _ 2048 _ rfl inb_S1024x2816_S1024x256_0_2048 _ _ pu8 cu8
  have cu10 := cols_cons wuM.view _ 2304 _ rfl inb_S1024x2816_S1024x256_0_2304 _ _ pu9 cu9
  have cu11 := cols_cons wuM.view _ 2560 _ rfl inb_S1024x2816_S1024x256_0_2560 _ _ pu10 cu10
  have cd0 : ∀ f, ∀ y : S2816x1024.Idx, (y 0).val < 0 → wdM.view.read (Elt F) (wdM.view.writes (Elt F) f []) y = castD (dM.view.read (Elt F) XD) y := fun _ _ h => absurd h (Nat.not_lt_zero _)
  have cd1 := rows_cons wdM.view _ 0 _ rfl inb_S2816x1024_S256x1024_0_0 _ _ pd0 cd0
  have cd2 := rows_cons wdM.view _ 256 _ rfl inb_S2816x1024_S256x1024_256_0 _ _ pd1 cd1
  have cd3 := rows_cons wdM.view _ 512 _ rfl inb_S2816x1024_S256x1024_512_0 _ _ pd2 cd2
  have cd4 := rows_cons wdM.view _ 768 _ rfl inb_S2816x1024_S256x1024_768_0 _ _ pd3 cd3
  have cd5 := rows_cons wdM.view _ 1024 _ rfl inb_S2816x1024_S256x1024_1024_0 _ _ pd4 cd4
  have cd6 := rows_cons wdM.view _ 1280 _ rfl inb_S2816x1024_S256x1024_1280_0 _ _ pd5 cd5
  have cd7 := rows_cons wdM.view _ 1536 _ rfl inb_S2816x1024_S256x1024_1536_0 _ _ pd6 cd6
  have cd8 := rows_cons wdM.view _ 1792 _ rfl inb_S2816x1024_S256x1024_1792_0 _ _ pd7 cd7
  have cd9 := rows_cons wdM.view _ 2048 _ rfl inb_S2816x1024_S256x1024_2048_0 _ _ pd8 cd8
  have cd10 := rows_cons wdM.view _ 2304 _ rfl inb_S2816x1024_S256x1024_2304_0 _ _ pd9 cd9
  have cd11 := rows_cons wdM.view _ 2560 _ rfl inb_S2816x1024_S256x1024_2560_0 _ _ pd10 cd10
  have rg0 : step1.sl.v c XG = colW (F := F) (e := .bf16) (castG (gM.view.read (Elt F) XG)) ![0, 0] inb_S1024x2816_S1024x256_0_0 :=
    (View.readCov_cons_toLoadRect _ _ _ _).trans pg0
  have rg1 : step1.sl.v129 c XG = colW (F := F) (e := .bf16) (castG (gM.view.read (Elt F) XG)) ![0, 256] inb_S1024x2816_S1024x256_0_256 :=
    (View.readCov_cons_toLoadRect _ _ _ _).trans pg1
  have rg2 : step1.sl.v185 c XG = colW (F := F) (e := .bf16) (castG (gM.view.read (Elt F) XG)) ![0, 512] inb_S1024x2816_S1024x256_0_512 :=
    (View.readCov_cons_toLoadRect _ _ _ _).trans pg2
  have rg3 : step1.sl.v241 c XG = colW (F := F) (e := .bf16) (castG (gM.view.read (Elt F) XG)) ![0, 768] inb_S1024x2816_S1024x256_0_768 :=
    (View.readCov_cons_toLoadRect _ _ _ _).trans pg3
  have rg4 : step1.sl.v297 c XG = colW (F := F) (e := .bf16) (castG (gM.view.read (Elt F) XG)) ![0, 1024] inb_S1024x2816_S1024x256_0_1024 :=
    (View.readCov_cons_toLoadRect _ _ _ _).trans pg4
  have rg5 : step1.sl.v353 c XG = colW (F := F) (e := .bf16) (castG (gM.view.read (Elt F) XG)) ![0, 1280] inb_S1024x2816_S1024x256_0_1280 :=
    (View.readCov_cons_toLoadRect _ _ _ _).trans pg5
  have rg6 : step1.sl.v409 c XG = colW (F := F) (e := .bf16) (castG (gM.view.read (Elt F) XG)) ![0, 1536] inb_S1024x2816_S1024x256_0_1536 :=
    (View.readCov_cons_toLoadRect _ _ _ _).trans pg6
  have rg7 : step1.sl.v465 c XG = colW (F := F) (e := .bf16) (castG (gM.view.read (Elt F) XG)) ![0, 1792] inb_S1024x2816_S1024x256_0_1792 :=
    (View.readCov_cons_toLoadRect _ _ _ _).trans pg7
  have rg8 : step1.sl.v521 c XG = colW (F := F) (e := .bf16) (castG (gM.view.read (Elt F) XG)) ![0, 2048] inb_S1024x2816_S1024x256_0_2048 :=
    (View.readCov_cons_toLoadRect _ _ _ _).trans pg8
  have rg9 : step1.sl.v562 c XG = colW (F := F) (e := .bf16) (castG (gM.view.read (Elt F) XG)) ![0, 2304] inb_S1024x2816_S1024x256_0_2304 :=
    (View.readCov_cons_toLoadRect _ _ _ _).trans pg9
  have rg10 : step1.sl.v603 c XG = colW (F := F) (e := .bf16) (castG (gM.view.read (Elt F) XG)) ![0, 2560] inb_S1024x2816_S1024x256_0_2560 :=
    (View.readCov_cons_toLoadRect _ _ _ _).trans pg10
  have ru0 : step1.sl.v75 c XU = colW (F := F) (e := .bf16) (castG (uM.view.read (Elt F) XU)) ![0, 0] inb_S1024x2816_S1024x256_0_0 :=
    (View.readCov_cons_toLoadRect _ _ _ _).trans pu0
  have ru1 : step1.sl.v131 c XU = colW (F := F) (e := .bf16) (castG (uM.view.read (Elt F) XU)) ![0, 256] inb_S1024x2816_S1024x256_0_256 :=
    (View.readCov_cons_toLoadRect _ _ _ _).trans pu1
  have ru2 : step1.sl.v187 c XU = colW (F := F) (e := .bf16) (castG (uM.view.read (Elt F) XU)) ![0, 512] inb_S1024x2816_S1024x256_0_512 :=
    (View.readCov_cons_toLoadRect _ _ _ _).trans pu2
  have ru3 : step1.sl.v243 c XU = colW (F := F) (e := .bf16) (castG (uM.view.read (Elt F) XU)) ![0, 768] inb_S1024x2816_S1024x256_0_768 :=
    (View.readCov_cons_toLoadRect _ _ _ _).trans pu3
  have ru4 : step1.sl.v299 c XU = colW (F := F) (e := .bf16) (castG (uM.view.read (Elt F) XU)) ![0, 1024] inb_S1024x2816_S1024x256_0_1024 :=
    (View.readCov_cons_toLoadRect _ _ _ _).trans pu4
  have ru5 : step1.sl.v355 c XU = colW (F := F) (e := .bf16) (castG (uM.view.read (Elt F) XU)) ![0, 1280] inb_S1024x2816_S1024x256_0_1280 :=
    (View.readCov_cons_toLoadRect _ _ _ _).trans pu5
  have ru6 : step1.sl.v411 c XU = colW (F := F) (e := .bf16) (castG (uM.view.read (Elt F) XU)) ![0, 1536] inb_S1024x2816_S1024x256_0_1536 :=
    (View.readCov_cons_toLoadRect _ _ _ _).trans pu6
  have ru7 : step1.sl.v467 c XU = colW (F := F) (e := .bf16) (castG (uM.view.read (Elt F) XU)) ![0, 1792] inb_S1024x2816_S1024x256_0_1792 :=
    (View.readCov_cons_toLoadRect _ _ _ _).trans pu7
  have ru8 : step1.sl.v523 c XU = colW (F := F) (e := .bf16) (castG (uM.view.read (Elt F) XU)) ![0, 2048] inb_S1024x2816_S1024x256_0_2048 :=
    (View.readCov_cons_toLoadRect _ _ _ _).trans pu8
  have ru9 : step1.sl.v564 c XU = colW (F := F) (e := .bf16) (castG (uM.view.read (Elt F) XU)) ![0, 2304] inb_S1024x2816_S1024x256_0_2304 :=
    (View.readCov_cons_toLoadRect _ _ _ _).trans pu9
  have ru10 : step1.sl.v605 c XU = colW (F := F) (e := .bf16) (castG (uM.view.read (Elt F) XU)) ![0, 2560] inb_S1024x2816_S1024x256_0_2560 :=
    (View.readCov_cons_toLoadRect _ _ _ _).trans pu10
  have rd : step1.sl.v612 c XD = castD (dM.view.read (Elt F) XD) :=
    (View.readAt_full wdM.view (wdM.view.writes (Elt F) wdM.view.junk (step1.sl.Hwd_11 c XD)) _).trans (funext fun y => cd11 _ y (y 0).isLt)
  have ea := accT_of (step1.sl.r c fh) (castG (gM.view.read (Elt F) XG)) (castG (uM.view.read (Elt F) XU)) (castD (dM.view.read (Elt F) XD)) (step1.sl.v612 c XD)
    (step1.sl.v c XG) (step1.sl.v129 c XG) (step1.sl.v185 c XG) (step1.sl.v241 c XG) (step1.sl.v297 c XG) (step1.sl.v353 c XG) (step1.sl.v409 c XG) (step1.sl.v465 c XG) (step1.sl.v521 c XG) (step1.sl.v562 c XG) (step1.sl.v603 c XG)
    (step1.sl.v75 c XU) (step1.sl.v131 c XU) (step1.sl.v187 c XU) (step1.sl.v243 c XU) (step1.sl.v299 c XU) (step1.sl.v355 c XU) (step1.sl.v411 c XU) (step1.sl.v467 c XU) (step1.sl.v523 c XU) (step1.sl.v564 c XU) (step1.sl.v605 c XU)
    rg0 ru0 rg1 ru1 rg2 ru2 rg3 ru3 rg4 ru4 rg5 ru5 rg6 ru6 rg7 ru7 rg8 ru8 rg9 ru9 rg10 ru10 rd
  iapply Hk
  iframe H0 H1 H2 HG HU HD
  isplitl [S0_dst]; · iexists _; iexact S0_dst
  isplitl [S1_dst]; · iexists _; iexact S1_dst
  isplitl [S2_dst]; · iexists _; iexact S2_dst
  isplitl [S3_dst]; · iexists _; iexact S3_dst
  isplitl [S4_dst]; · iexists _; iexact S4_dst
  isplitl [S5_dst]; · iexists _; iexact S5_dst
  iframe S0 S1 S2 S3 S4 S5
  isplitl [Hwg]
  · iexists _; isplitr; swap; · iexact Hwg
    ipureintro
    exact funext fun y => cg11 fwg y (y 1).isLt
  isplitl [Hwu]
  · iexists _; isplitr; swap; · iexact Hwu
    ipureintro
    exact funext fun y => cu11 fwu y (y 1).isLt
  isplitl [Hwd]
  · iexists _; isplitr; swap; · iexact Hwd
    ipureintro
    exact funext fun y => cd11 fwd y (y 0).isLt
  isplitl [Hh]
  · iexists _; isplitr; swap; · iexact Hh
    ipureintro
    refine (View.read_writes_full hM.view fh _ _ _).trans ?_
    exact (norm_eq1 i _ _ _).trans (congrArg₂ normT (congrArg₂ (pick i) (View.readAt_full M0.view f0 _) (View.readAt_full M1.view f1 _)) (View.readAt_full M2.view f2 _))
  isplitl [Hr]
  · iexists _; isplitr; swap; · iexact Hr
    ipureintro
    refine ⟨(res_write_same resM.view fr s _ ho _ (pick i _ _)).trans (congrArg₂ (pick i) (View.readAt_full M0.view f0 _) (View.readAt_full M1.view f1 _)), res_write_other resM.view fr s s' hs _ ho _ _⟩
  isplitl [Ha]
  · iexists _; isplitr; swap; · iexact Ha
    ipureintro
    refine (View.read_writes_full accM.view fa _ _ _).trans (Eq.trans ea ?_)
    exact congrArg (fun h => accT h _ _ _) (View.readAt_full hM.view fh _)
  iexists _
  iexact HO

end Cert.Ffn1

end
-- ==== Proof.FirstStepMid.lean ====
/-
  A middle grid step of the first feed-forward call: one tile is finished into the result, the next tile's product is formed and the tile
  after that is normed.
-/
module

public import proofs.«01_k».proof.Proof.FirstContent

@[expose] public section

set_option maxRecDepth 16384

noncomputable section

namespace Cert.Ffn1

open Cert.Kernel2Ideal Cert.Kernel2Ideal.Gen
open Cert.Ffn2 (normT castG castD colW actK accT accT_of slotR rows3 rows2 under1 stage_read cov_step cov_zero cols_cons rows_cons res_rows res_slot acc_rows res_write_same res_write_other cast_cols cast_rows)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The step: the result is the finished tile; the weights stay; the normed tile, the residual slot and the product are those of the step's tiles. -/
theorem stepMid (c : Dev nD) (i : grid0.Coords) (hc1 : ¬ k0_cond1 i = 1#1) (hc2 : ¬ k0_cond2 i = 1#1) (hc3 : k0_cond3 i = 1#1) (hc4 : ¬ k0_cond4 i = 1#1)
    (s s' : Fin 2) (hs : s ≠ s')
    (o0 : k0_off3 i = ![s.val, 64 * 0, 0])
    (o1 : k0_off4 i = ![s.val, 64 * 1, 0])
    (o2 : k0_off5 i = ![s.val, 64 * 2, 0])
    (o3 : k0_off6 i = ![s.val, 64 * 3, 0])
    (o4 : k0_off7 i = ![s.val, 64 * 4, 0])
    (o5 : k0_off8 i = ![s.val, 64 * 5, 0])
    (o6 : k0_off9 i = ![s.val, 64 * 6, 0])
    (o7 : k0_off10 i = ![s.val, 64 * 7, 0])
    (o8 : k0_off11 i = ![s.val, 0, 0])
    (M0 : Memref sig .tc .vmem S512x1024 .f32) (h0 : M0.IsWhole) (M1 : Memref sig .tc .vmem S512x1024 .f32) (h1 : M1.IsWhole)
    (M2 : Memref sig .tc .vmem S1x1024 .f32) (h2 : M2.IsWhole) (M3 : Memref sig .tc .vmem S1x1024 .f32) (h3 : M3.IsWhole)
    (M4 : Memref sig .tc .vmem S512x1024 .f32) (h4 : M4.IsWhole)
    (f0 : Bf (F := F) c M0) (f1 : Bf (F := F) c M1) (f2 : Bf (F := F) c M2) (f4 : Bf (F := F) c M4)
    (fwg : Bf (F := F) c wgM) (fwu : Bf (F := F) c wuM) (fwd : Bf (F := F) c wdM)
    (fh : Bf (F := F) c hM) (fr : Bf (F := F) c resM) (fa : Bf (F := F) c accM)
    (W : Waits sig Unit) (Q : PUnit → sProp 𝕄) :
    iprop(pt c M0 f0 ∗ pt c M1 f1 ∗ pt c M2 f2 ∗ pt c M4 f4
      ∗ pt c wgM fwg ∗ pt c wuM fwu ∗ pt c wdM fwd
      ∗ pt c hM fh ∗ pt c resM fr ∗ pt c accM fa
      ∗ owes (c : Thread nD τ) 0 W
      ∗ (iprop(pt c M0 f0 ∗ pt c M1 f1 ∗ pt c M2 f2
          ∗ hold c M4 (fin (slotR s (resM.view.read (Elt F) fr)) (accM.view.read (Elt F) fa))
          ∗ pt c wgM fwg ∗ pt c wuM fwu ∗ pt c wdM fwd
          ∗ hold c hM (normT (pick i (M0.view.read (Elt F) f0) (M1.view.read (Elt F) f1)) (M2.view.read (Elt F) f2))
          ∗ (∃ gr : Bf (F := F) c resM, ⌜slotR s (resM.view.read (Elt F) gr) = pick i (M0.view.read (Elt F) f0) (M1.view.read (Elt F) f1)
              ∧ slotR s' (resM.view.read (Elt F) gr) = slotR s' (resM.view.read (Elt F) fr)⌝ ∗ pt c resM gr)
          ∗ hold c accM (accT (hM.view.read (Elt F) fh) (wgM.view.read (Elt F) fwg) (wuM.view.read (Elt F) fwu) (wdM.view.read (Elt F) fwd))
          ∗ owes (c : Thread nD τ) 0 W) -∗ Q ⟨⟩))
    ⊢ wp frame (wpE (defs₀ (F := F)) Variants.none c none) Set.univ (bodyP i M0 h0 M1 h1 M2 h2 M3 h3 M4 h4) Q := by
  iintro ⟨H0, H1, H2, H4, Hwg, Hwu, Hwd, Hh, Hr, Ha, HO, Hk⟩
  unfold bodyP
  simp only [cc0_ffn1_eq_skeleton]
  unfold cc0_ffn1_skel
  sl_exec
  sl_step
  have s0 : ∀ f : Bf (F := F) c M4, ∀ y : S512x1024.Idx, (y 0).val < 64 * 0 → M4.view.read (Elt F) (M4.view.writes (Elt F) f []) y = (fin (slotR s (resM.view.read (Elt F) fr)) (accM.view.read (Elt F) fa)) y := fun f => cov_zero M4.view (fin (slotR s (resM.view.read (Elt F) fr)) (accM.view.read (Elt F) fa)) (0 : Fin 2) _
  have s1 := piece_cons M4.view _ 0 ![0, 0] rfl inb_S512x1024_S64x1024_0_0 _ _ (piece_eq fr fa s 0 (by decide) _ o0 (k0_off3_inb i hc3) ![0, 0] rfl inb_S512x1024_S64x1024_0_0) s0
  have s2 := piece_cons M4.view _ 1 ![64, 0] rfl inb_S512x1024_S64x1024_64_0 _ _ (piece_eq fr fa s 1 (by decide) _ o1 (k0_off4_inb i hc3) ![64, 0] rfl inb_S512x1024_S64x1024_64_0) s1
  have s3 := piece_cons M4.view _ 2 ![128, 0] rfl inb_S512x1024_S64x1024_128_0 _ _ (piece_eq fr fa s 2 (by decide) _ o2 (k0_off5_inb i hc3) ![128, 0] rfl inb_S512x1024_S64x1024_128_0) s2
  have s4 := piece_cons M4.view _ 3 ![192, 0] rfl inb_S512x1024_S64x1024_192_0 _ _ (piece_eq fr fa s 3 (by decide) _ o3 (k0_off6_inb i hc3) ![192, 0] rfl inb_S512x1024_S64x1024_192_0) s3
  have s5 := piece_cons M4.view _ 4 ![256, 0] rfl inb_S512x1024_S64x1024_256_0 _ _ (piece_eq fr fa s 4 (by decide) _ o4 (k0_off7_inb i hc3) ![256, 0] rfl inb_S512x1024_S64x1024_256_0) s4
  have s6 := piece_cons M4.view _ 5 ![320, 0] rfl inb_S512x1024_S64x1024_320_0 _ _ (piece_eq fr fa s 5 (by decide) _ o5 (k0_off8_inb i hc3) ![320, 0] rfl inb_S512x1024_S64x1024_320_0) s5
  have s7 := piece_cons M4.view _ 6 ![384, 0] rfl inb_S512x1024_S64x1024_384_0 _ _ (piece_eq fr fa s 6 (by decide) _ o6 (k0_off9_inb i hc3) ![384, 0] rfl inb_S512x1024_S64x1024_384_0) s6
  have s8 := piece_cons M4.view _ 7 ![448, 0] rfl inb_S512x1024_S64x1024_448_0 _ _ (piece_eq fr fa s 7 (by decide) _ o7 (k0_off10_inb i hc3) ![448, 0] rfl inb_S512x1024_S64x1024_448_0) s7
  iapply Hk
  iframe H0 H1 H2
  isplitl [H4]
  · iexists _; isplitr; swap; · iexact H4
    ipureintro
    exact funext fun y => s8 f4 y (y 0).isLt
  iframe Hwg Hwu Hwd
  isplitl [Hh]
  · iexists _; isplitr; swap; · iexact Hh
    ipureintro
    refine (View.read_writes_full hM.view fh _ _ _).trans ?_
    exact (norm_eqM i _ _ _).trans (congrArg₂ normT (congrArg₂ (pick i) (View.readAt_full M0.view f0 _) (View.readAt_full M1.view f1 _)) (View.readAt_full M2.view f2 _))
  isplitl [Hr]
  · iexists _; isplitr; swap; · iexact Hr
    ipureintro
    refine ⟨(res_write_same resM.view fr s _ o8 _ (pick i _ _)).trans (congrArg₂ (pick i) (View.readAt_full M0.view f0 _) (View.readAt_full M1.view f1 _)), res_write_other resM.view fr s s' hs _ o8 _ _⟩
  isplitl [Ha]
  · iexists _; isplitr; swap; · iexact Ha
    ipureintro
    refine (View.read_writes_full accM.view fa _ _ _).trans ?_
    exact congrArg₂ (fun h d => accT h (wgM.view.read (Elt F) fwg) (wuM.view.read (Elt F) fwu) d) (View.readAt_full hM.view fh _) (View.readAt_full wdM.view fwd _)
  iexact HO

end Cert.Ffn1

end
-- ==== Proof.FirstStepLast.lean ====
/-
  The last grid step: the last tile is finished in one piece and stored, under its masks, into the second result.
-/
module

public import proofs.«01_k».proof.Proof.FirstContent

@[expose] public section

set_option maxRecDepth 16384

noncomputable section

namespace Cert.Ffn1

open Cert.Kernel2Ideal Cert.Kernel2Ideal.Gen
open Cert.Ffn2 (normT castG castD colW actK accT accT_of slotR rows3 rows2 under1 stage_read cov_step cov_zero cols_cons rows_cons res_rows res_slot acc_rows res_write_same res_write_other cast_cols cast_rows)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The last grid step leaves the finished last tile in the result's buffer. -/
theorem stepLast (c : Dev nD) (i : grid0.Coords) (hc1 : ¬ k0_cond1 i = 1#1) (hc2 : ¬ k0_cond2 i = 1#1) (hc3 : ¬ k0_cond3 i = 1#1) (hc4 : k0_cond4 i = 1#1)
    (s : Fin 2) (ho : k0_off12 i = ![s.val, 0, 0])
    (M0 : Memref sig .tc .vmem S512x1024 .f32) (h0 : M0.IsWhole) (M1 : Memref sig .tc .vmem S512x1024 .f32) (h1 : M1.IsWhole)
    (M2 : Memref sig .tc .vmem S1x1024 .f32) (h2 : M2.IsWhole) (M3 : Memref sig .tc .vmem S1x1024 .f32) (h3 : M3.IsWhole)
    (M4 : Memref sig .tc .vmem S512x1024 .f32) (h4 : M4.IsWhole)
    (f4 : Bf (F := F) c M4) (fr : Bf (F := F) c resM) (fa : Bf (F := F) c accM)
    (W : Waits sig Unit) (Q : PUnit → sProp 𝕄) :
    iprop(pt c M4 f4 ∗ pt c resM fr ∗ pt c accM fa ∗ owes (c : Thread nD τ) 0 W
      ∗ (iprop(hold c M4 (fin (slotR s (resM.view.read (Elt F) fr)) (accM.view.read (Elt F) fa))
          ∗ pt c resM fr ∗ pt c accM fa ∗ owes (c : Thread nD τ) 0 W) -∗ Q ⟨⟩))
    ⊢ wp frame (wpE (defs₀ (F := F)) Variants.none c none) Set.univ (bodyP i M0 h0 M1 h1 M2 h2 M3 h3 M4 h4) Q := by
  iintro ⟨H4, Hr, Ha, HO, Hk⟩
  unfold bodyP
  simp only [cc0_ffn1_eq_skeleton]
  unfold cc0_ffn1_skel
  sl_exec
  sl_step
  iapply Hk
  isplitl [H4]
  · iexists _; isplitr; swap; · iexact H4
    ipureintro
    refine (View.read_writes_full M4.view f4 _ _ _).trans ?_
    refine (congrArg₂ k0_pay6 (res_slot resM.view fr s _ ho _) (View.readAt_full accM.view fa _)).trans ?_
    exact fin_last _ _
  isplitl [Hr]; · iexact Hr
  isplitl [Ha]; · iexact Ha
  iexact HO

end Cert.Ffn1

end
-- ==== Proof.FirstBody.lean ====
/-
  Each grid point of the first feed-forward call takes the invariant before it to the invariant after it, and leaves in the windows' buffers what the
  pipeline's data says.
-/
module

public import proofs.«01_k».proof.Proof.FirstInv
public import proofs.«01_k».proof.Proof.FirstStep0
public import proofs.«01_k».proof.Proof.FirstStep1
public import proofs.«01_k».proof.Proof.FirstStepMid
public import proofs.«01_k».proof.Proof.FirstStepLast

@[expose] public section

set_option maxRecDepth 16384

noncomputable section

namespace Cert.Ffn1

open Cert.Kernel2Ideal Cert.Kernel2Ideal.Gen
open Cert.Ffn2 (normT accT slotR par par_ne par_add2)
open Idealize.ShloMosaic
open Idealize.ShloMosaic.TcCoe Idealize.ShloMosaic.Tactic
open Idealize.ShloMosaic.Pipeline (RDat Cfg Window)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

/-- What a point starts from: the invariant, what the core owes, and the five staging buffers at what they hold. -/
abbrev preP (c : Dev nD) (n : ℕ) (M0 M1 : Memref sig .tc .vmem S512x1024 .f32) (M2 M3 : Memref sig .tc .vmem S1x1024 .f32)
    (M4 : Memref sig .tc .vmem S512x1024 .f32) (Y3 : Vec F S1x1024 .f32) (Y4 : Vec F S512x1024 .f32) : sProp 𝕄 :=
  iprop(phi m c n ∗ (∃ W, owes (c : Thread nD τ) 0 W) ∗ hold c M0 (tX0 m c n) ∗ hold c M1 (tX1 m c n) ∗ hold c M2 (g1 m c) ∗ hold c M3 Y3 ∗ hold c M4 Y4)
/-- What a point ends at. -/
abbrev postP (c : Dev nD) (n : ℕ) (M0 M1 : Memref sig .tc .vmem S512x1024 .f32) (M2 M3 : Memref sig .tc .vmem S1x1024 .f32)
    (M4 : Memref sig .tc .vmem S512x1024 .f32) (Y3 : Vec F S1x1024 .f32) (Y4 : Vec F S512x1024 .f32) : sProp 𝕄 :=
  iprop(phi m c (n + 1) ∗ (∃ W, owes (c : Thread nD τ) 0 W) ∗ hold c M0 (tX0 m c n) ∗ hold c M1 (tX1 m c n) ∗ hold c M2 (g1 m c)
    ∗ hold c M3 Y3 ∗ (∃ X, ⌜after4 m c n Y4 X⌝ ∗ hold c M4 X))

/-- A buffer that holds what it should. -/
theorem hold_of {sp : Space} {S : Shape} {e : EltTy} {c : Dev nD} {M : Memref sig .tc sp S e} {f : Bf (F := F) c M} {X : S.Idx → Elt F e} (h : M.view.read (Elt F) f = X) : pt c M f ⊢ hold c M X := by
  iintro H
  iexists f; isplitr; · ipureintro; exact h
  iexact H

variable (c : Dev nD) (t : Fin grid0.N)
  (M0 : Memref sig .tc .vmem S512x1024 .f32) (h0 : M0.IsWhole) (M1 : Memref sig .tc .vmem S512x1024 .f32) (h1 : M1.IsWhole)
  (M2 : Memref sig .tc .vmem S1x1024 .f32) (h2 : M2.IsWhole) (M3 : Memref sig .tc .vmem S1x1024 .f32) (h3 : M3.IsWhole)
  (M4 : Memref sig .tc .vmem S512x1024 .f32) (h4 : M4.IsWhole) (Y3 : Vec F S1x1024 .f32) (Y4 : Vec F S512x1024 .f32)

/-- The first point. -/
theorem body0 (ht : t.val = 0) :
    preP m c t.val M0 M1 M2 M3 M4 Y3 Y4
    ⊢ wp frame (wpE (defs₀ (F := F)) Variants.none c none) Set.univ (bodyP (grid0.coords t) M0 h0 M1 h1 M2 h2 M3 h3 M4 h4)
      fun _ => postP m c t.val M0 M1 M2 M3 M4 Y3 Y4 := by
  have hc1 := (pt_c1 t).2 ht
  have hc2 := mt (pt_c2 t).1 (by omega)
  have hc3 := mt (pt_c3 t).1 (by omega)
  have hc4 := mt (pt_c4 t).1 (by omega)
  have ho : k0_off1 (grid0.coords t) = ![(par 0).val, 0, 0] := (pt_off1 t).trans (by rw [ht])
  have hx := tX_at m c t 0 ht
  unfold preP postP
  rw [ht]
  change iprop(phiOut m c ∗ _) ⊢ wp frame _ _ _ fun _ => iprop(phiOne m c ∗ _)
  unfold phiOut phiOne hbm3 sems6
  iintro ⟨⟨⟨Hwg, Hwu, Hwd, Hsg, Hsu, Hsd, ⟨%fh, Hh⟩, ⟨%fr, Hr⟩, Ha⟩, Hp, ⟨S0, S1, S2, S3, S4, S5⟩, ⟨HG, HU, HD⟩⟩, ⟨%W, HO⟩, ⟨%f0, %e0, H0⟩, ⟨%f1, %e1, H1⟩, ⟨%f2, %e2, H2⟩, ⟨%f3, %e3, H3⟩, ⟨%f4, %e4, H4⟩⟩
  ihave Hsg' := (sg_split (F := F) c) $$ Hsg
  icases Hsg' with ⟨⟨%a0, A0⟩, ⟨%a1, A1⟩⟩
  ihave Hsu' := (su_split (F := F) c) $$ Hsu
  icases Hsu' with ⟨⟨%b0, B0⟩, ⟨%b1, B1⟩⟩
  ihave Hsd' := (sd_split (F := F) c) $$ Hsd
  icases Hsd' with ⟨⟨%d0, D0⟩, ⟨%d1, D1⟩⟩
  iapply (step0 c (grid0.coords t) hc1 hc2 hc3 hc4 (par 0) ho M0 h0 M1 h1 M2 h2 M3 h3 M4 h4 f0 f1 f2 (V m c main_arg3) (V m c main_arg4) (V m c main_arg5) a0 a1 b0 b1 d0 d1 fh fr W _)
  iframe H0 H1 H2 HG HU HD A0 A1 B0 B1 D0 D1 Hh Hr S0 S1 S2 S3 S4 S5 HO
  iintro ⟨H0, H1, H2, HG, HU, HD, F0, F1, F2, F3, F4, F5, ⟨%gh, %eh, Hh⟩, ⟨%gr, %er, Hr⟩, HW⟩
  isplitl [Hwg Hwu Hwd Ha HG HU HD F0 F1 F2 F3 F4 F5 Hh Hr Hp]
  · isplitl [Hwg Hwu Hwd Ha]
    · isplitl [Hwg]; · iexact Hwg
      iframe Hwu Hwd
      iexact Ha
    isplitl [HG HU HD]
    · isplitl [HG]; · iexact HG
      iframe HU
      iexact HD
    isplitl [F0]; · iexists _; iexact F0
    isplitl [F1]; · iexists _; iexact F1
    isplitl [F2]; · iexists _; iexact F2
    isplitl [F3]; · iexists _; iexact F3
    isplitl [F4]; · iexists _; iexact F4
    isplitl [F5]; · iexists _; iexact F5
    isplitl [Hh]
    · iexists gh; isplitr; · ipureintro; rw [eh, e0, e1, e2, hx]
      iexact Hh
    isplitl [Hr]
    · iexists gr; isplitr; · ipureintro; rw [er, e0, e1, hx]
      iexact Hr
    iexact Hp
  iframe HW
  isplitl [H0]; · iapply (hold_of e0) $$ H0
  isplitl [H1]; · iapply (hold_of e1) $$ H1
  isplitl [H2]; · iapply (hold_of e2) $$ H2
  isplitl [H3]; · iapply (hold_of e3) $$ H3
  iexists Y4; isplitr; · ipureintro; unfold after4; rw [if_neg (by omega)]
  iexists f4; isplitr; · ipureintro; exact e4
  iexact H4

/-- The second point. -/
theorem body1 (ht : t.val = 1) :
    preP m c t.val M0 M1 M2 M3 M4 Y3 Y4
    ⊢ wp frame (wpE (defs₀ (F := F)) Variants.none c none) Set.univ (bodyP (grid0.coords t) M0 h0 M1 h1 M2 h2 M3 h3 M4 h4)
      fun _ => postP m c t.val M0 M1 M2 M3 M4 Y3 Y4 := by
  have hc1 := mt (pt_c1 t).1 (by omega)
  have hc2 := (pt_c2 t).2 ht
  have hc3 := mt (pt_c3 t).1 (by omega)
  have hc4 := mt (pt_c4 t).1 (by omega)
  have ho : k0_off2 (grid0.coords t) = ![(par 1).val, 0, 0] := (pt_off2 t).trans (by rw [ht])
  have hx := tX_at m c t 1 ht
  unfold preP postP
  rw [ht]
  change iprop(phiOne m c ∗ _) ⊢ wp frame _ _ _ fun _ => iprop((if 0 ≤ 33 then phiMid m c 0 else phiOut m c) ∗ _)
  rw [if_pos (by omega)]
  unfold phiOne phiMid hbm3 sems6
  iintro ⟨⟨⟨⟨%fwg, Hwg⟩, ⟨%fwu, Hwu⟩, ⟨%fwd, Hwd⟩, ⟨%fa, Ha⟩⟩, ⟨HG, HU, HD⟩, ⟨%a0, F0⟩, ⟨%a1, F1⟩, ⟨%b0, F2⟩, ⟨%b1, F3⟩, ⟨%d0, F4⟩, ⟨%d1, F5⟩, ⟨%fh, %eh, Hh⟩, ⟨%fr, %er, Hr⟩, Hp⟩, ⟨%W, HO⟩, ⟨%f0, %e0, H0⟩, ⟨%f1, %e1, H1⟩, ⟨%f2, %e2, H2⟩, ⟨%f3, %e3, H3⟩, ⟨%f4, %e4, H4⟩⟩
  iapply (step1 c (grid0.coords t) hc1 hc2 hc3 hc4 (par 1) (par 0) (by decide) ho M0 h0 M1 h1 M2 h2 M3 h3 M4 h4 f0 f1 f2 (V m c main_arg3) (V m c main_arg4) (V m c main_arg5) a0 a1 b0 b1 d0 d1 fwg fwu fwd fh fr fa W _)
  iframe H0 H1 H2 HG HU HD F0 F1 F2 F3 F4 F5 Hwg Hwu Hwd Hh Hr Ha HO
  iintro ⟨H0, H1, H2, HG, HU, HD, A0, A1, B0, B1, D0, D1, S0, S1, S2, S3, S4, S5, Hwg, Hwu, Hwd, ⟨%gh, %eh', Hh⟩, ⟨%gr, %er', Hr⟩, ⟨%ga, %ea, Ha⟩, HW⟩
  ihave Hsg := (sg_join (F := F) c) $$ [A0 A1]
  · isplitl [A0]; · iexact A0
    iexact A1
  ihave Hsu := (su_join (F := F) c) $$ [B0 B1]
  · isplitl [B0]; · iexact B0
    iexact B1
  ihave Hsd := (sd_join (F := F) c) $$ [D0 D1]
  · isplitl [D0]; · iexact D0
    iexact D1
  isplitl [Hwg Hwu Hwd Hsg Hsu Hsd Hh Hr Ha Hp S0 S1 S2 S3 S4 S5 HG HU HD]
  · isplitl [Hwg Hwu Hwd Hsg Hsu Hsd]
    · isplitl [Hwg]
      · iexact Hwg
      iframe Hwu Hwd Hsg Hsu
      iexact Hsd
    isplitl [Hh]
    · iexists gh; isplitr; · ipureintro; rw [eh', e0, e1, e2, hx]
      iexact Hh
    isplitl [Hr]
    · iexists gr; isplitr; · ipureintro; exact ⟨er'.2.trans er, er'.1.trans (by rw [e0, e1, hx])⟩
      iexact Hr
    isplitl [Ha]
    · iexists ga; isplitr; · ipureintro; rw [ea, eh]; rfl
      iexact Ha
    iframe Hp
    isplitl [S0 S1 S2 S3 S4 S5]
    · isplitl [S0]; · iexact S0
      iframe S1 S2 S3 S4
      iexact S5
    iframe HG HU
    iexact HD
  iframe HW
  isplitl [H0]; · iapply (hold_of e0) $$ H0
  isplitl [H1]; · iapply (hold_of e1) $$ H1
  isplitl [H2]; · iapply (hold_of e2) $$ H2
  isplitl [H3]; · iapply (hold_of e3) $$ H3
  iexists Y4; isplitr; · ipureintro; unfold after4; rw [if_neg (by omega)]
  iexists f4; isplitr; · ipureintro; exact e4
  iexact H4

/-- A middle point. -/
theorem bodyMid (n : ℕ) (ht : t.val = n + 2) (hn : n ≤ 32) :
    preP m c t.val M0 M1 M2 M3 M4 Y3 Y4
    ⊢ wp frame (wpE (defs₀ (F := F)) Variants.none c none) Set.univ (bodyP (grid0.coords t) M0 h0 M1 h1 M2 h2 M3 h3 M4 h4)
      fun _ => postP m c t.val M0 M1 M2 M3 M4 Y3 Y4 := by
  have hc1 := mt (pt_c1 t).1 (by omega)
  have hc2 := mt (pt_c2 t).1 (by omega)
  have hc3 := (pt_c3 t).2 ⟨by omega, by omega⟩
  have hc4 := mt (pt_c4 t).1 (by omega)
  have hpar : t.val % 2 = (par n).val := by rw [ht]; exact congrArg Fin.val (par_add2 n)
  have hx := tX_at m c t (n + 2) ht
  unfold preP postP
  rw [ht]
  change iprop((if n ≤ 33 then phiMid m c n else phiOut m c) ∗ _) ⊢ wp frame _ _ _ fun _ => iprop((if n + 1 ≤ 33 then phiMid m c (n + 1) else phiOut m c) ∗ _)
  rw [if_pos (by omega), if_pos (by omega)]
  unfold phiMid
  iintro ⟨⟨⟨⟨%fwg, %ewg, Hwg⟩, ⟨%fwu, %ewu, Hwu⟩, ⟨%fwd, %ewd, Hwd⟩, Hsg, Hsu, Hsd⟩, ⟨%fh, %eh, Hh⟩, ⟨%fr, %er, Hr⟩, ⟨%fa, %ea, Ha⟩, Hp, HS, HH⟩, ⟨%W, HO⟩, ⟨%f0, %e0, H0⟩, ⟨%f1, %e1, H1⟩, ⟨%f2, %e2, H2⟩, ⟨%f3, %e3, H3⟩, ⟨%f4, %e4, H4⟩⟩
  iapply (stepMid c (grid0.coords t) hc1 hc2 hc3 hc4 (par n) (par (n + 1)) (par_ne n)
    ((pt_off3 t).trans (by rw [hpar]))
    ((pt_off4 t).trans (by rw [hpar]))
    ((pt_off5 t).trans (by rw [hpar]))
    ((pt_off6 t).trans (by rw [hpar]))
    ((pt_off7 t).trans (by rw [hpar]))
    ((pt_off8 t).trans (by rw [hpar]))
    ((pt_off9 t).trans (by rw [hpar]))
    ((pt_off10 t).trans (by rw [hpar]))
    ((pt_off11 t).trans (by rw [hpar]))
    M0 h0 M1 h1 M2 h2 M3 h3 M4 h4 f0 f1 f2 f4 fwg fwu fwd fh fr fa W _)
  iframe H0 H1 H2 H4 Hwg Hwu Hwd Hh Hr Ha HO
  iintro ⟨H0, H1, H2, ⟨%g4, %e4', H4⟩, Hwg, Hwu, Hwd, ⟨%gh, %eh', Hh⟩, ⟨%gr, %er', Hr⟩, ⟨%ga, %ea', Ha⟩, HO⟩
  have eT : M4.view.read (Elt F) g4 = tF m c n := by rw [e4', er.1, ea]; rfl
  isplitl [Hwg Hwu Hwd Hsg Hsu Hsd Hh Hr Ha Hp HS HH]
  · isplitl [Hwg Hwu Hwd Hsg Hsu Hsd]
    · isplitl [Hwg]
      · iexists fwg; isplitr; · ipureintro; exact ewg
        iexact Hwg
      isplitl [Hwu]
      · iexists fwu; isplitr; · ipureintro; exact ewu
        iexact Hwu
      isplitl [Hwd]
      · iexists fwd; isplitr; · ipureintro; exact ewd
        iexact Hwd
      iframe Hsg Hsu
      iexact Hsd
    isplitl [Hh]
    · iexists gh; isplitr; · ipureintro; rw [eh', e0, e1, e2, hx]
      iexact Hh
    isplitl [Hr]
    · iexists gr; isplitr
      · ipureintro; exact ⟨er'.2.trans er.2, (congrArg (fun s => slotR s (resM.view.read (Elt F) gr)) (par_add2 n)).trans (er'.1.trans (by rw [e0, e1, hx]))⟩
      iexact Hr
    isplitl [Ha]
    · iexists ga; isplitr; · ipureintro; rw [ea', eh, ewg, ewu, ewd]; rfl
      iexact Ha
    iframe Hp HS
    iexact HH
  isplitl [HO]; · iexists W; iexact HO
  isplitl [H0]; · iapply (hold_of e0) $$ H0
  isplitl [H1]; · iapply (hold_of e1) $$ H1
  isplitl [H2]; · iapply (hold_of e2) $$ H2
  isplitl [H3]; · iapply (hold_of e3) $$ H3
  iexists (tF m c n); isplitr; · ipureintro; unfold after4; rw [if_pos (by omega)]; rfl
  iexists g4; isplitr; · ipureintro; exact eT
  iexact H4

/-- The last point. -/
theorem bodyLast (ht : t.val = 35) :
    preP m c t.val M0 M1 M2 M3 M4 Y3 Y4
    ⊢ wp frame (wpE (defs₀ (F := F)) Variants.none c none) Set.univ (bodyP (grid0.coords t) M0 h0 M1 h1 M2 h2 M3 h3 M4 h4)
      fun _ => postP m c t.val M0 M1 M2 M3 M4 Y3 Y4 := by
  have hc1 := mt (pt_c1 t).1 (by omega)
  have hc2 := mt (pt_c2 t).1 (by omega)
  have hc3 := mt (pt_c3 t).1 (by omega)
  have hc4 := (pt_c4 t).2 ht
  have ho : k0_off12 (grid0.coords t) = ![(par 33).val, 0, 0] := (pt_off12 t).trans (by rw [ht])
  unfold preP postP
  rw [ht]
  change iprop((if 33 ≤ 33 then phiMid m c 33 else phiOut m c) ∗ _) ⊢ wp frame _ _ _ fun _ => iprop((if 34 ≤ 33 then phiMid m c 34 else phiOut m c) ∗ _)
  rw [if_pos (by omega), if_neg (by omega)]
  unfold phiMid phiOut
  iintro ⟨⟨⟨⟨%fwg, %ewg, Hwg⟩, ⟨%fwu, %ewu, Hwu⟩, ⟨%fwd, %ewd, Hwd⟩, Hsg, Hsu, Hsd⟩, ⟨%fh, %eh, Hh⟩, ⟨%fr, %er, Hr⟩, ⟨%fa, %ea, Ha⟩, Hp, HS, HH⟩, ⟨%W, HO⟩, ⟨%f0, %e0, H0⟩, ⟨%f1, %e1, H1⟩, ⟨%f2, %e2, H2⟩, ⟨%f3, %e3, H3⟩, ⟨%f4, %e4, H4⟩⟩
  iapply (stepLast c (grid0.coords t) hc1 hc2 hc3 hc4 (par 33) ho M0 h0 M1 h1 M2 h2 M3 h3 M4 h4 f4 fr fa W _)
  iframe H4 Hr Ha HO
  iintro ⟨⟨%g4, %e4', H4⟩, Hr, Ha, HO⟩
  isplitl [Hwg Hwu Hwd Hsg Hsu Hsd Hh Hr Ha Hp HS HH]
  · isplitl [Hwg Hwu Hwd Hsg Hsu Hsd Hh Hr Ha]
    · isplitl [Hwg]; · iexists _; iexact Hwg
      isplitl [Hwu]; · iexists _; iexact Hwu
      isplitl [Hwd]; · iexists _; iexact Hwd
      iframe Hsg Hsu Hsd
      isplitl [Hh]; · iexists _; iexact Hh
      isplitl [Hr]; · iexists _; iexact Hr
      iexists _; iexact Ha
    iframe Hp HS
    iexact HH
  isplitl [HO]; · iexists W; iexact HO
  isplitl [H0]; · iapply (hold_of e0) $$ H0
  isplitl [H1]; · iapply (hold_of e1) $$ H1
  isplitl [H2]; · iapply (hold_of e2) $$ H2
  isplitl [H3]; · iapply (hold_of e3) $$ H3
  iexists (tF m c 33); isplitr; · ipureintro; unfold after4; rw [if_pos (by omega)]
  iexists g4; isplitr
  · ipureintro; rw [e4', er.1, ea]; rfl
  iexact H4

/-- Every point. -/
theorem bodyAll :
    preP m c t.val M0 M1 M2 M3 M4 Y3 Y4
    ⊢ wp frame (wpE (defs₀ (F := F)) Variants.none c none) Set.univ (bodyP (grid0.coords t) M0 h0 M1 h1 M2 h2 M3 h3 M4 h4)
      fun _ => postP m c t.val M0 M1 M2 M3 M4 Y3 Y4 := by
  have hN := lt_of_lt_of_eq t.isLt N_0
  by_cases t0 : t.val = 0
  · exact body0 m c t M0 h0 M1 h1 M2 h2 M3 h3 M4 h4 Y3 Y4 t0
  by_cases t1 : t.val = 1
  · exact body1 m c t M0 h0 M1 h1 M2 h2 M3 h3 M4 h4 Y3 Y4 t1
  by_cases t2 : t.val = 35
  · exact bodyLast m c t M0 h0 M1 h1 M2 h2 M3 h3 M4 h4 Y3 Y4 t2
  exact bodyMid m c t M0 h0 M1 h1 M2 h2 M3 h3 M4 h4 Y3 Y4 (t.val - 2) (by omega) (by omega)

end Cert.Ffn1

end
-- ==== Proof.FirstRun.lean ====
/-
  The first feed-forward call's run: from any memory it terminates with its arguments unchanged and every semaphore at
  zero, and its result holds what the pipeline's data says.
-/
module

public import proofs.«01_k».proof.Proof.FirstBody

@[expose] public section

set_option maxRecDepth 16384

noncomputable section

namespace Cert.Ffn1

open Cert.Kernel2Ideal Cert.Kernel2Ideal.Gen
open Idealize.ShloMosaic
open Idealize.ShloMosaic.TcCoe Idealize.ShloMosaic.Tactic
open Idealize.ShloMosaic.Pipeline (RDat Cfg Window)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem body_row (t : Fin cfg0.N) :
    defs₀ (F := F) .tc cfg0.body (cfg0.bodyArgs t (cfg0.slots t)) = bodyAt0 t := by
  unfold defs₀; rw [Defs.onTc_tc]

/-- The pipeline's obligation at every point. -/
theorem obligation (c : Dev nD) : (rdat m c).BodyObligation (defs₀ (F := F)) Variants.none () Set.univ := fun t Y hY => by
  rw [bigSep_W0, bigSep_W0, body_row]
  have hb := bodyAll m c t (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (Y 3) (Y 4)
  refine BI.Entails.trans ?_ (hb.trans (wp_mono _ _ _ fun _ => ?_))
  · unfold RDat.owesAt Pipeline.owesWithin
    rw [show (rdat m c).owed t.castSucc = 0 from rfl]
    change iprop(phi m c t.val ∗ _) ⊢ _
    iintro ⟨HP, ⟨%W, -, HO⟩, H0, H1, H2, H3, H4⟩
    isplitl [HP]; · iexact HP
    isplitl [HO]; · iexists W; iexact HO
    isplitl [H0]
    · rw [← finds0 m c t (Y 0) (hY 0)]
      iapply (owns_hold c _ (hstage0_0 ((cfg0.slots t 0).cast nbuf0_0)) (Y 0)); iexact H0
    isplitl [H1]
    · rw [← finds1 m c t (Y 1) (hY 1)]
      iapply (owns_hold c _ (hstage0_1 ((cfg0.slots t 1).cast nbuf0_1)) (Y 1)); iexact H1
    isplitl [H2]
    · rw [← finds2 m c t (Y 2) (hY 2)]
      iapply (owns_hold c _ (hstage0_2 ((cfg0.slots t 2).cast nbuf0_2)) (Y 2)); iexact H2
    isplitl [H3]
    · iapply (owns_hold c _ (hstage0_3 ((cfg0.slots t 3).cast nbuf0_3)) (Y 3)); iexact H3
    iapply (owns_hold c _ (hstage0_4 ((cfg0.slots t 4).cast nbuf0_4)) (Y 4)); iexact H4
  · unfold RDat.owesAt Pipeline.owesWithin
    rw [show (rdat m c).owed t.succ = 0 from rfl]
    change _ ⊢ iprop(phi m c (t.val + 1) ∗ _)
    iintro ⟨HP, ⟨%W, HO⟩, H0, H1, H2, H3, ⟨%X4, %a4, H4⟩⟩
    isplitl [HP]; · iexact HP
    isplitl [HO]
    · iexists W; isplitr; · ipureintro; exact fun _ _ => Or.inl trivial
      iexact HO
    isplitl [H0]
    · iexists (Y 0); isplitr; · ipureintro; rfl
      rw [← finds0 m c t (Y 0) (hY 0)]
      iapply (hold_owns c _ (hstage0_0 ((cfg0.slots t 0).cast nbuf0_0)) (Y 0)); iexact H0
    isplitl [H1]
    · iexists (Y 1); isplitr; · ipureintro; rfl
      rw [← finds1 m c t (Y 1) (hY 1)]
      iapply (hold_owns c _ (hstage0_1 ((cfg0.slots t 1).cast nbuf0_1)) (Y 1)); iexact H1
    isplitl [H2]
    · iexists (Y 2); isplitr; · ipureintro; rfl
      rw [← finds2 m c t (Y 2) (hY 2)]
      iapply (hold_owns c _ (hstage0_2 ((cfg0.slots t 2).cast nbuf0_2)) (Y 2)); iexact H2
    isplitl [H3]
    · iexists (Y 3); isplitr; · ipureintro; rfl
      iapply (hold_owns c _ (hstage0_3 ((cfg0.slots t 3).cast nbuf0_3)) (Y 3)); iexact H3
    iexists X4; isplitr; · ipureintro; exact a4
    iapply (hold_owns c _ (hstage0_4 ((cfg0.slots t 4).cast nbuf0_4)) X4); iexact H4

/-- The run: every window's array as the pipeline's data says, every other unscoped buffer as the region finds it, every counter at zero. -/
theorem run_main : θ_run defs (onTc (τ := τ) (main (F := F))) (s₀ m ρ)
    (fun r => RDat.FramePost cfg0 (rdat m) (V m) r ∧ r.2.sem = fun _ => 0) :=
  RDat.θ_run_frame_dma_shared (Q' := _) cfgs (0 : Fin 1) launch₀0 osem defs₀ Variants.none (rdat m) osem_ok hbmRefs hbmRefs_sub m ρ main
    (hbody := obligation m) (hq := fun _ _ _ => rfl) (howed := fun _ _ => rfl) (V := V m)
    (hmain := Pipeline.hmain_prefix cfgs 0 defs₀ Variants.none m main hostOps0 hostOps0_sub hostOps0_fresh main_chain)
    (hA := fun _ _ => rfl) (hin := fun c => (by rw [phiOut_eq]; exact .rfl)) (hout := fun c => (by rw [phiOut_eq]; exact .rfl))

/-- The arguments end as they were. -/
theorem args_of {r : PUnit × MemSt nD τ sig (Elt F)} (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame, at any float values: the run terminates, the arguments end as they were, every counter ends at zero. -/
theorem frame_main : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0) :=
  (θ_run defs _ _).mono (fun _ h => ⟨fun c => args_of m h.1 c, h.2⟩) (run_main m ρ)

end Cert.Ffn1

end
-- ==== Proof.FirstFinal.lean ====
/-
  WHAT THE FIRST FEED-FORWARD CALL'S RESULT HOLDS AT THE END, at any float values: its tile `k` is the finished tile `k`, written
  back by point `k + 2`.
-/
module

public import proofs.«01_k».proof.Proof.FirstRun
public import Idealize.ShloMosaic.Lib.Pipeline.ArrRel
public import Idealize.ShloMosaic.Lib.Pipeline.Value

@[expose] public section

set_option maxRecDepth 16384

noncomputable section

namespace Cert.Ffn1

open Cert.Kernel2Ideal Cert.Kernel2Ideal.Gen
open Idealize.ShloMosaic
open Idealize.ShloMosaic.TcCoe Idealize.ShloMosaic.Tactic
open Idealize.ShloMosaic.Pipeline (RDat Cfg Window)
open Idealize.SL.Sem

variable {F : FTy → Type} [FloatOps F]

variable (m : (ℓ : Loc nD τ sig) → Buf (Elt F) ℓ)

theorem flush4 : ∀ t : Fin cfg0.N, (cfg0.win 4).flush t = true ↔ 2 ≤ t.val := by decide +kernel
theorem index4 : ∀ t : Fin cfg0.N, (cfg0.win 4).index t = ![t.val - 2, 0] := by decide +kernel

theorem pt_lt (t : Fin cfg0.N) : t.val < 36 := lt_of_lt_of_eq t.isLt N_0
/-- Point `n` of the grid. -/
abbrev ptOf (n : ℕ) (h : n < 36) : Fin cfg0.N := ⟨n, lt_of_lt_of_eq h N_0.symm⟩

/-- What a point that writes the result back left in its buffer: the finished tile of its block. -/
theorem leaves4 (c : Dev nD) (t : Fin cfg0.N) (ht : (cfg0.win 4).flush t = true) (X) (hX : (rdat m c).Leaves 4 t X) : X = tF m c (t.val - 2) := by
  obtain ⟨Y, _, hXY⟩ := hX
  have h' : after4 m c t.val Y X := hXY
  unfold after4 at h'
  rwa [if_pos ((flush4 t).mp ht)] at h'

/-- The result's tile `k` ends as the finished tile `k`. -/
theorem out_at {r : PUnit × MemSt nD τ sig (Elt F)} (h : RDat.FramePost cfg0 (rdat m) (V m) r) (c : Dev nD) (i : S17408x1024.Idx) :
    r.2.mem ((c.tc : Thread nD τ).loc main_v3) i = tF m c ((i 0).val / 512) (ValueIdx.ix2 ⟨(i 0).val % 512, Nat.mod_lt _ (by decide)⟩ (i 1)) := by
  obtain ⟨after, hL, hA⟩ := RDat.FramePost.exists_exact h c
  refine (congrFun (hA 4) i).trans ?_
  refine Pipeline.Dat.arrAt_forall_of_cover (dat := (rdat m c).withAfter after) 4
    (fun (i : S17408x1024.Idx) v => v = tF m c ((i 0).val / 512) (ValueIdx.ix2 ⟨(i 0).val % 512, Nat.mod_lt _ (by decide)⟩ (i 1))) ?_ ?_ i
  · intro t ht y
    have e := leaves4 m c t ht _ (hL 4 t ht)
    have h0 : (((cfg0.win 4).rect t).emb y 0 : ℕ) = (t.val - 2) * 512 + y 0 := by
      rw [Pipeline.Window.rect_emb_val (hk := rfl), index4]; rfl
    have h1 : (((cfg0.win 4).rect t).emb y 1 : ℕ) = y 1 := by
      rw [Pipeline.Window.rect_emb_val (hk := rfl), index4]; show 0 * 1024 + _ = _; omega
    have hy : (y 0 : ℕ) < 512 := (y 0).isLt
    show after 4 t _ = tF m c ((((cfg0.win 4).rect t).emb y 0 : ℕ) / 512) (ValueIdx.ix2 ⟨(((cfg0.win 4).rect t).emb y 0 : ℕ) % 512, _⟩ (((cfg0.win 4).rect t).emb y 1))
    rw [e]
    refine (congrArg (tF m c _) (funext fun a => Fin.ext ?_)).trans (congrArg (fun k => tF m c k _) ?_)
    · match a with
      | ⟨0, _⟩ => show (y 0 : ℕ) = (((cfg0.win 4).rect t).emb y 0 : ℕ) % 512; omega
      | ⟨1, _⟩ => show (y 1 : ℕ) = (((cfg0.win 4).rect t).emb y 1 : ℕ); omega
    · omega
  · intro i
    have hi : ((i : S17408x1024.Idx) 0).val < 17408 := ((i : S17408x1024.Idx) 0).isLt
    have ht : ∃ t : Fin cfg0.N, 2 ≤ t.val ∧ t.val - 2 = ((i : S17408x1024.Idx) 0).val / 512 :=
      ⟨ptOf (((i : S17408x1024.Idx) 0).val / 512 + 2) (by omega), by show 2 ≤ _ + 2; omega, by show _ + 2 - 2 = _; omega⟩
    obtain ⟨t, h2, ht⟩ := ht
    refine ⟨t, (flush4 t).mpr h2, Finset.mem_map.mpr ⟨(ValueIdx.ix2 (⟨((i : S17408x1024.Idx) 0).val % 512, Nat.mod_lt _ (by decide)⟩ : Fin 512) ((i : S17408x1024.Idx) 1) : S512x1024.Idx), Finset.mem_univ _, ?_⟩⟩
    funext a
    apply Fin.ext
    match a with
    | ⟨0, _⟩ =>
      refine (Pipeline.Window.rect_emb_val (cfg0.win 4) t _ 0 (hk := rfl)).trans ?_
      rw [index4]
      show (t.val - 2) * 512 + ((i : S17408x1024.Idx) 0).val % 512 = ((i : S17408x1024.Idx) 0).val
      omega
    | ⟨1, _⟩ =>
      refine (Pipeline.Window.rect_emb_val (cfg0.win 4) t _ 1 (hk := rfl)).trans ?_
      rw [index4]
      show 0 * 1024 + ((i : S17408x1024.Idx) 1).val = ((i : S17408x1024.Idx) 1).val
      omega

end Cert.Ffn1

end
-- ==== Proof.FirstRow.lean ====
/-
  WHAT THE FIRST FEED-FORWARD CALL MAKES OF A ROW, over the extended reals: the row plus half of the gated feed-forward
  product of its normed values. The call's finished tiles and the reference's result are read row by row as this function;
  row `r` of either is made of token `r`, the tokens of the first input coming before those of the second.
-/
module

public import proofs.«01_k».proof.Proof.FirstContent
public import proofs.«01_k».proof.Proof.Row
public import proofs.«01_k».proof.Proof.Gen.Reference2Ideal.Run

@[expose] public section

set_option maxRecDepth 16384

noncomputable section

namespace Cert.Ffn1

open Cert.Ffn2 (normT accT nrm gate resid ffn rowOf matOf normT_row accT_row)
open Idealize.ShloMosaic
open Idealize.ShloMosaic.TcCoe

/-- The layer's start of a row. -/
def startRow (x g : Fin 1024 → EReal) (G U : Fin 1024 → Fin 2816 → EReal) (D : Fin 2816 → Fin 1024 → EReal) : Fin 1024 → EReal :=
  resid x (ffn (nrm x g) G U D)

section Tile
open Cert.Kernel2Ideal

theorem fin_row (R A : Vec Ideal S512x1024 .f32) (p : Fin 512) (c : Fin 1024) : fin R A (ix2 p c) = resid (rowOf R p) (rowOf A p) c := by
  pointwise [fin, resid]

/-- A finished tile is the row function of the tile's rows. -/
theorem tile_row (X : Vec Ideal S512x1024 .f32) (g : Vec Ideal S1x1024 .f32) (G U : Vec Ideal S1024x2816 .bf16) (D : Vec Ideal S2816x1024 .bf16) (p : Fin 512) (c : Fin 1024) :
    fin X (accT (normT X g) G U D) (ix2 p c) = startRow (rowOf X p) (rowOf g 0) (matOf G) (matOf U) (matOf D) c := by
  rw [fin_row]
  unfold startRow
  congr 1
  funext k
  exact (accT_row _ _ _ _ _ _).trans (congrArg (fun h => ffn h _ _ _ k) (funext fun j => normT_row _ _ _ _))

end Tile

section Reference
open Cert.Reference2Ideal Cert.Reference2Ideal.Value

/-- Row `p` of the first input's tokens. -/
abbrev tokA (X : S8x2048x1024.Idx → EReal) (p : Fin 16384) : Fin 1024 → EReal :=
  fun k => X (ix3 (⟨p.val / 2048, by omega⟩ : Fin 8) (⟨p.val % 2048, Nat.mod_lt _ (by decide)⟩ : Fin 2048) k)
/-- Row `p` of the second input's tokens. -/
abbrev tokB (X : S128x8x1024.Idx → EReal) (p : Fin 1024) : Fin 1024 → EReal :=
  fun k => X (ix3 (⟨p.val / 8, by omega⟩ : Fin 128) (⟨p.val % 8, Nat.mod_lt _ (by decide)⟩ : Fin 8) k)

variable (m : (ℓ : Loc nD τ sig) → Buf (Elt Ideal) ℓ) (c : Dev nD)

/-- Row `p` of the reference's result: a token of the first input. -/
theorem ref_first (p : Fin 16384) (j : Fin 1024) :
    res_out0 m c (ix2 (⟨p.val, by omega⟩ : Fin 17408) j) = startRow (tokA (m (c.tc.loc main_arg0)) p) (fun k => m (c.tc.loc main_arg2) (ix1 k))
      (matOf (m (c.tc.loc main_arg3))) (matOf (m (c.tc.loc main_arg4))) (matOf (m (c.tc.loc main_arg5))) j := by
  refine (concatenate_pair_apply_left (t := S17408x1024) (s₁ := S16384x1024) (s₂ := S1024x1024) (0 : Fin 2) _ _ _ (ix2 (⟨p.val, by omega⟩ : Fin 17408) j) rfl (ix2 p j) ?_).trans ?_
  · intro b
    match b with
    | ⟨0, _⟩ => rfl
    | ⟨1, _⟩ => rfl
  refine (shapeCast_apply _ _ (ix2 p j) (ix3 (⟨p.val / 2048, by omega⟩ : Fin 8) (⟨p.val % 2048, Nat.mod_lt _ (by decide)⟩ : Fin 2048) j) ?_).trans ?_
  · rw [Shape.rowMajor_val_two, Shape.rowMajor_val_three]
    show (p.val / 2048 * 2048 + p.val % 2048) * 1024 + j.val = p.val * 1024 + j.val
    omega
  pointwise [startRow, nrm, resid, ffn, gate, Ideal.logistic]

/-- Row `16384 + p` of the reference's result: a token of the second input. -/
theorem ref_second (p : Fin 1024) (j : Fin 1024) :
    res_out0 m c (ix2 (⟨16384 + p.val, by omega⟩ : Fin 17408) j) = startRow (tokB (m (c.tc.loc main_arg1)) p) (fun k => m (c.tc.loc main_arg2) (ix1 k))
      (matOf (m (c.tc.loc main_arg3))) (matOf (m (c.tc.loc main_arg4))) (matOf (m (c.tc.loc main_arg5))) j := by
  refine (concatenate_pair_apply_right (t := S17408x1024) (s₁ := S16384x1024) (s₂ := S1024x1024) (0 : Fin 2) _ _ _ (ix2 (⟨16384 + p.val, by omega⟩ : Fin 17408) j) rfl rfl (ix2 p j) ?_ ?_).trans ?_
  · intro b hb
    match b with
    | ⟨0, _⟩ => exact absurd rfl hb
    | ⟨1, _⟩ => rfl
  · exact Nat.add_comm _ _
  refine (shapeCast_apply _ _ (ix2 p j) (ix3 (⟨p.val / 8, by omega⟩ : Fin 128) (⟨p.val % 8, Nat.mod_lt _ (by decide)⟩ : Fin 8) j) ?_).trans ?_
  · rw [Shape.rowMajor_val_two, Shape.rowMajor_val_three]
    show (p.val / 8 * 8 + p.val % 8) * 1024 + j.val = p.val * 1024 + j.val
    omega
  pointwise [startRow, nrm, resid, ffn, gate, Ideal.logistic]

end Reference

end Cert.Ffn1

end
-- ==== Proof.FirstValue.lean ====
/-
  THE FIRST FEED-FORWARD CALL'S RESULT OVER THE EXTENDED REALS: row `r` is the row function of token `r`, the tokens of the first
  input coming before those of the second; so is the reference's row (FirstRow), so the result is the reference's.
-/
module

public import proofs.«01_k».proof.Proof.FirstFinal
public import proofs.«01_k».proof.Proof.FirstRow

@[expose] public section

set_option maxRecDepth 16384

noncomputable section

namespace Cert.Ffn1

open Cert.Kernel2Ideal Cert.Kernel2Ideal.Gen
open Cert.Ffn2 (castG castD rowOf matOf)
open Idealize.ShloMosaic
open Idealize.ShloMosaic.TcCoe Idealize.ShloMosaic.Tactic
open Idealize.ShloMosaic.Pipeline (RDat Cfg Window)
open Idealize.SL.Sem

variable (m : (ℓ : Loc nD τ sig) → Buf (Elt Ideal) ℓ) (c : Dev nD)

/-! ## What the region finds -/

/-- The first input, as the region finds it: one row for each token. -/
theorem V_first : V m c main_v0 = shapeCast S16384x1024 (m ((c.tc : Thread nD τ).loc main_arg0)) shapeCasts_S8x2048x1024_S16384x1024 := by
  unfold V hostOps0
  simp only [List.flatten_cons, List.flatten_nil, List.append_nil, List.cons_append, List.nil_append, StableHlo.after_cons, StableHlo.after_nil]
  rw [StableHlo.reshape_result_ne' (h := by decide), StableHlo.reshape_result_ne' (h := by decide), StableHlo.reshape_result']
  rfl

/-- The second input, as the region finds it: one row for each token. -/
theorem V_second : V m c main_v1 = shapeCast S1024x1024 (m ((c.tc : Thread nD τ).loc main_arg1)) shapeCasts_S128x8x1024_S1024x1024 := by
  unfold V hostOps0
  simp only [List.flatten_cons, List.flatten_nil, List.append_nil, List.cons_append, List.nil_append, StableHlo.after_cons, StableHlo.after_nil]
  rw [StableHlo.reshape_result_ne' (h := by decide), StableHlo.reshape_result', StableHlo.reshape_result_ne' (h := by decide)]
  rfl

/-- The gain, as the region finds it: the argument as one row. -/
theorem V_gain : V m c main_v2 = shapeCast S1x1024 (m ((c.tc : Thread nD τ).loc main_arg2)) shapeCasts_S1024_S1x1024 := by
  unfold V hostOps0
  simp only [List.flatten_cons, List.flatten_nil, List.append_nil, List.cons_append, List.nil_append, StableHlo.after_cons, StableHlo.after_nil]
  rw [StableHlo.reshape_result', StableHlo.reshape_result_ne' (h := by decide), StableHlo.reshape_result_ne' (h := by decide)]
  rfl

theorem index0 : ∀ t : Fin cfg0.N, (cfg0.win 0).index t = ![min t.val 31, 0] := by decide +kernel
theorem index1 : ∀ t : Fin cfg0.N, (cfg0.win 1).index t = ![min t.val 33 - 32, 0] := by decide +kernel
theorem pt_first : ∀ t : Fin grid0.N, fromFirst (grid0.coords t) = 1#1 ↔ t.val < 32 := by decide +kernel

theorem cast_first (X : S8x2048x1024.Idx → EReal) (p : Fin 16384) (k : Fin 1024) :
    shapeCast S16384x1024 X shapeCasts_S8x2048x1024_S16384x1024 (ix2 p k) = tokA X p k := by
  refine shapeCast_apply _ _ (ix2 p k) (ix3 (⟨p.val / 2048, by omega⟩ : Fin 8) (⟨p.val % 2048, Nat.mod_lt _ (by decide)⟩ : Fin 2048) k) ?_
  rw [Shape.rowMajor_val_two, Shape.rowMajor_val_three]
  show (p.val / 2048 * 2048 + p.val % 2048) * 1024 + k.val = p.val * 1024 + k.val
  omega

theorem cast_second (X : S128x8x1024.Idx → EReal) (p : Fin 1024) (k : Fin 1024) :
    shapeCast S1024x1024 X shapeCasts_S128x8x1024_S1024x1024 (ix2 p k) = tokB X p k := by
  refine shapeCast_apply _ _ (ix2 p k) (ix3 (⟨p.val / 8, by omega⟩ : Fin 128) (⟨p.val % 8, Nat.mod_lt _ (by decide)⟩ : Fin 8) k) ?_
  rw [Shape.rowMajor_val_two, Shape.rowMajor_val_three]
  show (p.val / 8 * 8 + p.val % 8) * 1024 + k.val = p.val * 1024 + k.val
  omega

/-- Token `r`: one of the first input's, then one of the second's. -/
def tok (r : Fin 17408) : Fin 1024 → EReal :=
  if h : r.val < 16384 then tokA (m ((c.tc : Thread nD τ).loc main_arg0)) ⟨r.val, h⟩ else tokB (m ((c.tc : Thread nD τ).loc main_arg1)) ⟨r.val - 16384, by omega⟩

/-- The first window's tile at a point before 32 is the first input's tokens. -/
theorem tX0_row (n : ℕ) (hn : n < 32) (p : Fin 512) (k : Fin 1024) :
    tX0 m c n (ix2 p k) = tokA (m ((c.tc : Thread nD τ).loc main_arg0)) ⟨n * 512 + p.val, by omega⟩ k := by
  refine Eq.trans (?_ : _ = V m c main_v0 (ix2 (⟨n * 512 + p.val, by omega⟩ : Fin 16384) k)) ((congrFun (V_first m c) _).trans (cast_first _ _ k))
  show V m c main_v0 (((cfg0.win 0).rect (ptOf (min n 35) (by omega))).emb (ix2 p k : S512x1024.Idx)) = _
  refine congrArg (V m c main_v0) (funext fun a => Fin.ext ?_)
  match a with
  | ⟨0, _⟩ =>
    refine (Pipeline.Window.rect_emb_val (cfg0.win 0) (ptOf (min n 35) (by omega)) _ 0 (hk := rfl)).trans ?_
    rw [index0]
    show min (min n 35) 31 * 512 + p.val = n * 512 + p.val
    omega
  | ⟨1, _⟩ =>
    refine (Pipeline.Window.rect_emb_val (cfg0.win 0) (ptOf (min n 35) (by omega)) _ 1 (hk := rfl)).trans ?_
    rw [index0]
    show 0 * 1024 + k.val = k.val
    omega

/-- The second window's tile at points 32 and 33 is the second input's tokens. -/
theorem tX1_row (n : ℕ) (hn : 32 ≤ n ∧ n < 34) (p : Fin 512) (k : Fin 1024) :
    tX1 m c n (ix2 p k) = tokB (m ((c.tc : Thread nD τ).loc main_arg1)) ⟨n * 512 + p.val - 16384, by omega⟩ k := by
  refine Eq.trans (?_ : _ = V m c main_v1 (ix2 (⟨n * 512 + p.val - 16384, by omega⟩ : Fin 1024) k)) ((congrFun (V_second m c) _).trans (cast_second _ _ k))
  show V m c main_v1 (((cfg0.win 1).rect (ptOf (min n 35) (by omega))).emb (ix2 p k : S512x1024.Idx)) = _
  refine congrArg (V m c main_v1) (funext fun a => Fin.ext ?_)
  match a with
  | ⟨0, _⟩ =>
    refine (Pipeline.Window.rect_emb_val (cfg0.win 1) (ptOf (min n 35) (by omega)) _ 0 (hk := rfl)).trans ?_
    rw [index1]
    show (min (min n 35) 33 - 32) * 512 + p.val = n * 512 + p.val - 16384
    omega
  | ⟨1, _⟩ =>
    refine (Pipeline.Window.rect_emb_val (cfg0.win 1) (ptOf (min n 35) (by omega)) _ 1 (hk := rfl)).trans ?_
    rw [index1]
    show 0 * 1024 + k.val = k.val
    omega

theorem pick_first (i) (h : fromFirst i = 1#1) (xa xb : Vec Ideal S512x1024 .f32) : pick i xa xb = xa := by
  unfold pick k0_pay3
  rw [shapeCast_self, shapeCast_self, h]; rfl
theorem pick_second (i) (h : ¬ fromFirst i = 1#1) (xa xb : Vec Ideal S512x1024 .f32) : pick i xa xb = xb := by
  unfold pick k0_pay3
  rw [shapeCast_self, shapeCast_self]; exact if_neg h

/-- The tile of point `n` is tokens `512 · n …`. -/
theorem tX_row (n : ℕ) (hn : n < 34) (p : Fin 512) (k : Fin 1024) : tX m c n (ix2 p k) = tok m c ⟨n * 512 + p.val, by omega⟩ k := by
  unfold tX tok
  by_cases h : n < 32
  · rw [pick_first _ ((pt_first _).mpr (by show min n 35 < 32; omega)), dif_pos (by show n * 512 + p.val < 16384; omega)]
    exact tX0_row m c n h p k
  · rw [pick_second _ (fun e => absurd ((pt_first _).mp e) (by show ¬ min n 35 < 32; omega)), dif_neg (by show ¬ n * 512 + p.val < 16384; omega)]
    exact tX1_row m c n ⟨by omega, hn⟩ p k

theorem row1 (X : Vec Ideal S1024 .f32) (k : Fin 1024) : shapeCast S1x1024 X shapeCasts_S1024_S1x1024 (ix2 0 k) = X (ix1 k) := by pointwise

/-- The gain's window holds the argument. -/
theorem g1_row (k : Fin 1024) : g1 m c (ix2 0 k) = m ((c.tc : Thread nD τ).loc main_arg2) (ix1 k) := by
  refine Eq.trans (?_ : _ = V m c main_v2 (ix2 0 k)) ((congrFun (V_gain m c) _).trans (row1 _ k))
  show V m c main_v2 (((cfg0.win 2).rect (ptOf 0 (by omega))).emb (ix2 0 k : S1x1024.Idx)) = _
  refine congrArg (V m c main_v2) (funext fun a => Fin.ext ?_)
  match a with
  | ⟨0, _⟩ => rfl
  | ⟨1, _⟩ => exact Pipeline.Window.rect_emb_val_of_index_zero (cfg0.win 2) (ptOf 0 (by omega)) 1 rfl _

theorem wG_eq : wG m c = m ((c.tc : Thread nD τ).loc main_arg3) := (congrArg castG (V_main_arg3 m c)).trans rfl
theorem wU_eq : wU m c = m ((c.tc : Thread nD τ).loc main_arg4) := (congrArg castG (V_main_arg4 m c)).trans rfl
theorem wD_eq : wD m c = m ((c.tc : Thread nD τ).loc main_arg5) := (congrArg castD (V_main_arg5 m c)).trans rfl

/-! ## The call's rows -/

/-- Row `r` of the layer's start, at the call's arguments. -/
def callRow (r : Fin 17408) : Fin 1024 → EReal :=
  startRow (tok m c r) (fun k => m ((c.tc : Thread nD τ).loc main_arg2) (ix1 k)) (matOf (m ((c.tc : Thread nD τ).loc main_arg3)))
    (matOf (m ((c.tc : Thread nD τ).loc main_arg4))) (matOf (m ((c.tc : Thread nD τ).loc main_arg5)))

theorem tF_row (n : ℕ) (hn : n < 34) (p : Fin 512) (j : Fin 1024) : tF m c n (ix2 p j) = callRow m c ⟨n * 512 + p.val, by omega⟩ j := by
  unfold tF tA callRow
  refine (tile_row _ _ _ _ _ p j).trans ?_
  rw [wG_eq, wU_eq, wD_eq, show rowOf (tX m c n) p = _ from funext fun k => tX_row m c n hn p k, show rowOf (g1 m c) 0 = _ from funext fun k => g1_row m c k]

/-- The result as an array: row `r` is the row function of token `r`. -/
def out : Vec Ideal S17408x1024 .f32 := fun i => callRow m c (i 0) (i 1)

variable {m} in
/-- Row `r` of the result is the row function of token `r`. -/
theorem out_row {r : PUnit × MemSt nD τ sig (Elt Ideal)} (h : RDat.FramePost cfg0 (rdat m) (V m) r) (p : Fin 17408) (j : Fin 1024) :
    r.2.mem ((c.tc : Thread nD τ).loc main_v3) (ix2 p j) = callRow m c p j := by
  refine (out_at m h c (ix2 p j)).trans ?_
  show tF m c (p.val / 512) (ValueIdx.ix2 (⟨p.val % 512, _⟩ : Fin 512) j) = _
  rw [← ix2_eq_valueIdx]
  refine (tF_row m c (p.val / 512) (by omega) ⟨p.val % 512, Nat.mod_lt _ (by decide)⟩ j).trans ?_
  exact congrArg (fun q => callRow m c q j) (Fin.ext (by show p.val / 512 * 512 + p.val % 512 = p.val; omega))

variable {m} in
theorem call_out {r : PUnit × MemSt nD τ sig (Elt Ideal)} (h : RDat.FramePost cfg0 (rdat m) (V m) r) :
    r.2.mem ((c.tc : Thread nD τ).loc main_v3) = out m c := by
  funext i
  have e : i = ix2 (n0 := 17408) (n1 := 1024) (i 0) (i 1) := eq_ix2 i
  rw [e]
  exact out_row c h _ _

/-! ## The result, against the reference at the same arguments -/

variable {m}

/-- The reference's arguments are the call's. -/
abbrev SameArgs (m : (ℓ : Loc nD τ sig) → Buf (Elt Ideal) ℓ) (m' : (ℓ : Loc Cert.Reference2Ideal.nD Cert.Reference2Ideal.τ Cert.Reference2Ideal.sig) → Buf (Elt Ideal) ℓ) (c : Dev nD) : Prop :=
  m' ((c.tc : Thread Cert.Reference2Ideal.nD Cert.Reference2Ideal.τ).loc Cert.Reference2Ideal.main_arg0) = m ((c.tc : Thread nD τ).loc main_arg0)
    ∧ m' ((c.tc : Thread Cert.Reference2Ideal.nD Cert.Reference2Ideal.τ).loc Cert.Reference2Ideal.main_arg1) = m ((c.tc : Thread nD τ).loc main_arg1)
    ∧ m' ((c.tc : Thread Cert.Reference2Ideal.nD Cert.Reference2Ideal.τ).loc Cert.Reference2Ideal.main_arg2) = m ((c.tc : Thread nD τ).loc main_arg2)
    ∧ m' ((c.tc : Thread Cert.Reference2Ideal.nD Cert.Reference2Ideal.τ).loc Cert.Reference2Ideal.main_arg3) = m ((c.tc : Thread nD τ).loc main_arg3)
    ∧ m' ((c.tc : Thread Cert.Reference2Ideal.nD Cert.Reference2Ideal.τ).loc Cert.Reference2Ideal.main_arg4) = m ((c.tc : Thread nD τ).loc main_arg4)
    ∧ m' ((c.tc : Thread Cert.Reference2Ideal.nD Cert.Reference2Ideal.τ).loc Cert.Reference2Ideal.main_arg5) = m ((c.tc : Thread nD τ).loc main_arg5)

variable {m' : (ℓ : Loc Cert.Reference2Ideal.nD Cert.Reference2Ideal.τ Cert.Reference2Ideal.sig) → Buf (Elt Ideal) ℓ}

/-- Row `p` of the reference's result is the call's, from the same arguments. -/
theorem reference_row (h : SameArgs m m' c) (p : Fin 17408) (j : Fin 1024) : Cert.Reference2Ideal.Value.res_out0 m' c (ix2 p j) = callRow m c p j := by
  obtain ⟨h0, h1, h2, h3, h4, h5⟩ := h
  unfold callRow tok
  by_cases hp : p.val < 16384
  · rw [dif_pos hp]
    refine (ref_first m' c ⟨p.val, hp⟩ j).trans ?_
    rw [h0, h2, h3, h4, h5]
  · rw [dif_neg hp]
    refine (congrArg (fun q => Cert.Reference2Ideal.Value.res_out0 m' c (ix2 (n0 := 17408) (n1 := 1024) q j)) (Fin.ext (by show p.val = 16384 + (p.val - 16384); omega) : p = ⟨16384 + (p.val - 16384), by omega⟩)).trans ?_
    refine (ref_second m' c ⟨p.val - 16384, by omega⟩ j).trans ?_
    rw [h1, h2, h3, h4, h5]

/-- The reference's result is the call's, from the same arguments. -/
theorem reference_out (h : SameArgs m m' c) : Cert.Reference2Ideal.Value.res_out0 m' c = out m c := by
  funext i
  have e : i = ix2 (n0 := 17408) (n1 := 1024) (i 0) (i 1) := eq_ix2 i
  rw [e]
  exact reference_row c h _ _

end Cert.Ffn1

end
-- ==== Proof.MixBase.lean ====
/-
  The mixer's own names for a proof of its body: its operands left in HBM, its scratch buffers and its transfer cells.
-/
module

public import proofs.«01_k».proof.Proof.Gen.Kernel3Ideal.Frame
public import proofs.«01_k».proof.Proof.Gen.Kernel3Ideal.Skeleton
public import Idealize.ShloMosaic.Lib.Tactic
public import Idealize.ShloMosaic.Lib.Ring
public import Idealize.ShloMosaic.Lib.Pipeline.FrameValue

@[expose] public section

set_option maxRecDepth 16384

noncomputable section

namespace Cert.Mix

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of a pipeline whose body issues its own transfers. -/
local notation "𝕄" => MT nD τ sig Unit (Elt F) ℕ (Pipeline.UD sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c` held whole at `f`. -/
abbrev pt (c : Dev nD) {sp : Space} {S : Shape} {e : EltTy} (M : Memref sig .tc sp S e) (f : Bf (F := F) c M) : sProp 𝕄 :=
  M.view.loc (c : Thread nD τ) ↦{fullShare} f
/-- The elements memref `M` names, held at `f`. -/
abbrev ptOwn (c : Dev nD) {sp : Space} {S : Shape} {e : EltTy} (M : Memref sig .tc sp S e) (f : Bf (F := F) c M) : sProp 𝕄 :=
  M.view.loc (c : Thread nD τ) ↦[M.view.set]{fullShare} f

/-- Memref `M`'s buffer held whole at contents that read `X`. -/
abbrev hold (c : Dev nD) {sp : Space} {S : Shape} {e : EltTy} (M : Memref sig .tc sp S e) (X : S.Idx → Elt F e) : sProp 𝕄 :=
  iprop(∃ f : Bf (F := F) c M, ⌜M.view.read (Elt F) f = X⌝ ∗ pt c M f)
/-- Memref `M`'s buffer held whole at some contents. -/
abbrev some' (c : Dev nD) {sp : Space} {S : Shape} {e : EltTy} (M : Memref sig .tc sp S e) : sProp 𝕄 :=
  iprop(∃ f : Bf (F := F) c M, pt c M f)

abbrev caM : Memref sig .tc .vmem S1032x512 .f32 := Memref.whole cc0_scratch0
abbrev paM : Memref sig .tc .vmem S1040x512 .f32 := Memref.whole cc0_scratch1
abbrev cbM : Memref sig .tc .vmem S128x16x512 .f32 := Memref.whole cc0_scratch2
abbrev pbM : Memref sig .tc .vmem S128x24x512 .f32 := Memref.whole cc0_scratch3
abbrev histM : Memref sig .tc .hbm S15x128x512 .f32 := Memref.whole main_v0
abbrev stAM : Memref sig .tc .hbm S15x8x512 .f32 := Memref.whole main_v3_2
abbrev stBM : Memref sig .tc .hbm S15x128x512 .f32 := Memref.whole main_v3_4

/-- Row `r` of every sequence of the sample's pool buffer, and row `j` of the pool history in HBM, as the transfers slice them. -/
abbrev hr (r : ℕ) (h : ∀ a, (![0, r, 0] : Fin 3 → ℕ) a + S128x1x512.size a ≤ S128x24x512.size a) : Memref sig .tc .vmem S128x512 .f32 :=
  (pbM.slice (Rect.unit (s := S128x24x512) ![0, r, 0] S128x1x512.size h) (fun _ => rfl)).squeeze S128x512 squeezes_S128x1x512_S128x512
abbrev pbT : Memref sig .tc .vmem S128x8x512 .f32 := pbM.slice (Rect.unit (s := S128x24x512) ![0, 16, 0] S128x8x512.size inb_S128x24x512_S128x8x512_0_16_0) (fun _ => rfl)
abbrev hs (j : ℕ) (h : ∀ a, (![j, 0, 0] : Fin 3 → ℕ) a + S1x128x512.size a ≤ S15x128x512.size a) : Memref sig .tc .hbm S128x512 .f32 :=
  (histM.slice (Rect.unit (s := S15x128x512) ![j, 0, 0] S1x128x512.size h) (fun _ => rfl)).squeeze S128x512 squeezes_S1x128x512_S128x512

/-- The kernel's own cells: row 0 fills the sample's pool history, row 1 writes its pool state, row 2 a prompt's. -/
abbrev osem : Fin 45 → SemLoc sig := fun k => .dma ⟨16 + k.val, by have := k.isLt; show 16 + k.val < 61; omega⟩

/-- A transfer in flight on cell `k` from row `S` of the pool history at `X`, into row `D` of the sample's pool buffer, which held `a`. -/
abbrev flH (c : Dev nD) (k : Fin 45) (D : Memref sig .tc .vmem S128x512 .f32) (S : Memref sig .tc .hbm S128x512 .f32)
    (a : Bf (F := F) c D) (X : Bf (F := F) c S) : sProp 𝕄 :=
  Transfers.Flight countersEmb (c : Thread nD τ) (osem k) () 8192
    iprop((D.view.loc (c : Thread nD τ) ↦[D.view.set]{fullShare} D.view.writes (Elt F) a [⟨Rect.whole S128x512, ReadAs.same.apply (S.view.read (Elt F) X)⟩])
      ∗ S.view.loc (c : Thread nD τ) ↦[S.view.set]{fullShare} X)
/-- What stays of the pool history in HBM while its rows are in flight. -/
abbrev histRest (c : Dev nD) : Finset (Idx (histM.view.loc (c : Thread nD τ))) := (((((((((((((((Finset.univ \ (hs 0 inb_S15x128x512_S1x128x512_0_0_0).view.set) \ (hs 1 inb_S15x128x512_S1x128x512_1_0_0).view.set) \ (hs 2 inb_S15x128x512_S1x128x512_2_0_0).view.set) \ (hs 3 inb_S15x128x512_S1x128x512_3_0_0).view.set) \ (hs 4 inb_S15x128x512_S1x128x512_4_0_0).view.set) \ (hs 5 inb_S15x128x512_S1x128x512_5_0_0).view.set) \ (hs 6 inb_S15x128x512_S1x128x512_6_0_0).view.set) \ (hs 7 inb_S15x128x512_S1x128x512_7_0_0).view.set) \ (hs 8 inb_S15x128x512_S1x128x512_8_0_0).view.set) \ (hs 9 inb_S15x128x512_S1x128x512_9_0_0).view.set) \ (hs 10 inb_S15x128x512_S1x128x512_10_0_0).view.set) \ (hs 11 inb_S15x128x512_S1x128x512_11_0_0).view.set) \ (hs 12 inb_S15x128x512_S1x128x512_12_0_0).view.set) \ (hs 13 inb_S15x128x512_S1x128x512_13_0_0).view.set) \ (hs 14 inb_S15x128x512_S1x128x512_14_0_0).view.set)

/-- The kernel body at grid coordinates `i` on the staging buffers `M0 … M10`. -/
abbrev bodyP (i : grid0.Coords) (M0 : Memref sig .tc .vmem S1024x1024 .f32) (h0 : M0.IsWhole) (M1 : Memref sig .tc .vmem S128x2x512 .f32) (h1 : M1.IsWhole) (M2 : Memref sig .tc .vmem S1x1024 .f32) (h2 : M2.IsWhole) (M3 : Memref sig .tc .vmem S1024x2048 .f32) (h3 : M3.IsWhole) (M4 : Memref sig .tc .vmem S3x512 .f32) (h4 : M4.IsWhole) (M5 : Memref sig .tc .vmem S4x128x128 .f32) (h5 : M5.IsWhole) (M6 : Memref sig .tc .vmem S1x512 .f32) (h6 : M6.IsWhole) (M7 : Memref sig .tc .vmem S1024x1024 .f32) (h7 : M7.IsWhole) (M8 : Memref sig .tc .vmem S1024x1024 .f32) (h8 : M8.IsWhole) (M9 : Memref sig .tc .vmem S1x2x512 .f32) (h9 : M9.IsWhole) (M10 : Memref sig .tc .vmem S128x2x512 .f32) (h10 : M10.IsWhole) : Prog (TpuEff nD τ sig (Elt F) Λ₀ .tc) PUnit :=
  cc0_mixer i M0 h0 M1 h1 histM (Memref.isWhole_whole _) M2 h2 M3 h3 M4 h4 M5 h5 M6 h6 M7 h7 M8 h8 M9 h9 stAM (Memref.isWhole_whole _) M10 h10 stBM (Memref.isWhole_whole _) caM (Memref.isWhole_whole _) paM (Memref.isWhole_whole _) cbM (Memref.isWhole_whole _) pbM (Memref.isWhole_whole _) cc0_scratch4

/-- One exactly at the first grid point. -/
abbrev atFirst (i : grid0.Coords) : BitVec 1 := Scalar.cmpi .ne (Scalar.extui (Scalar.cmpi .eq (BitVec.ofNat 32 (i 0).val) 0#32) : BitVec 32) 0#32
/-- The grid point's tile within its sequence, as the kernel computes it. -/
abbrev tileOf (i : grid0.Coords) : BitVec 32 :=
  let a := BitVec.ofNat 32 (i 0).val
  let d := Scalar.select (Scalar.cmpi .eq 2#32 0#32) 1#32 2#32
  let r := Scalar.remsi a d
  Scalar.select (Scalar.andi (Scalar.xori (Scalar.cmpi .slt r 0#32) (Scalar.cmpi .slt d 0#32)) (Scalar.cmpi .ne r 0#32)) (Scalar.addi r d) r
/-- One exactly at a sequence's first tile. -/
abbrev atHead (i : grid0.Coords) : BitVec 1 := Scalar.cmpi .ne (Scalar.extui (Scalar.cmpi .eq (tileOf i) 0#32) : BitVec 32) 0#32
/-- One exactly at a sequence's later tiles. -/
abbrev atTail (i : grid0.Coords) : BitVec 1 := Scalar.cmpi .ne (Scalar.extui (Scalar.cmpi .sgt (tileOf i) 0#32) : BitVec 32) 0#32

end Cert.Mix

end
-- ==== Proof.MixPool.lean ====
/-
  The sample's pool buffer as sixteen rows of every sequence and a tail: the rows land one by one, and are joined again before the pooling reads them.
-/
module

public import proofs.«01_k».proof.Proof.MixBase

@[expose] public section

set_option maxRecDepth 16384

noncomputable section

namespace Cert.Mix

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The elements of part `b`: a row of every sequence, or all rows from 16 on. -/
def pbSet (b : Fin 17) : Finset S128x24x512.Idx :=
  Finset.univ.filter fun i => if b.val < 16 then (i 1).val = b.val else 16 ≤ (i 1).val
/-- The part of an element. -/
def pbPart (i : S128x24x512.Idx) : Fin 17 := ⟨min (i 1).val 16, by omega⟩

theorem mem_pbSet (b : Fin 17) (i : S128x24x512.Idx) : i ∈ pbSet b ↔ pbPart i = b := by
  unfold pbSet pbPart
  rw [Finset.mem_filter, Fin.ext_iff]
  have := b.isLt
  simp only [Finset.mem_univ, true_and]
  split <;> omega
theorem pbSet_disjoint (b b' : Fin 17) (h : b ≠ b') : Disjoint (pbSet b) (pbSet b') := by
  rw [Finset.disjoint_left]
  intro i hi hi'
  exact h (((mem_pbSet b i).1 hi).symm.trans ((mem_pbSet b' i).1 hi'))
theorem pbSet_cover : Finset.univ.biUnion pbSet = (Finset.univ : Finset S128x24x512.Idx) := by
  ext i
  simp only [Finset.mem_biUnion, Finset.mem_univ, true_and, iff_true]
  exact ⟨pbPart i, (mem_pbSet _ i).2 rfl⟩

theorem hr_set (r : ℕ) (hr' : r < 16) (h) : (hr r h).view.set = pbSet ⟨r, by omega⟩ := by
  simp only [hr, Memref.view_squeeze, View.set_reshape]
  refine (View.set_slice_whole _ _).trans ?_
  ext i
  have h0 : (i 0).val < 128 := (i 0).isLt
  have h2 : (i 2).val < 512 := (i 2).isLt
  rw [Rect.mem_set_unit, pbSet, Finset.mem_filter, if_pos hr']
  simp only [Finset.mem_univ, true_and]
  constructor
  · intro hh
    have h1 := hh 1
    have e1 : r ≤ (i 1).val ∧ (i 1).val < r + 1 := h1
    omega
  · intro e a
    match a with
    | ⟨0, _⟩ => exact (show 0 ≤ (i 0).val ∧ (i 0).val < 0 + 128 from by omega)
    | ⟨1, _⟩ => exact (show r ≤ (i 1).val ∧ (i 1).val < r + 1 from by omega)
    | ⟨2, _⟩ => exact (show 0 ≤ (i 2).val ∧ (i 2).val < 0 + 512 from by omega)
theorem pbT_set : pbT.view.set = pbSet 16 := by
  simp only [pbT]
  refine (View.set_slice_whole _ _).trans ?_
  ext i
  have h0 : (i 0).val < 128 := (i 0).isLt
  have h1 : (i 1).val < 24 := (i 1).isLt
  have h2 : (i 2).val < 512 := (i 2).isLt
  rw [Rect.mem_set_unit, pbSet, Finset.mem_filter, if_neg (by decide)]
  simp only [Finset.mem_univ, true_and]
  constructor
  · intro hh
    have e1 : 16 ≤ (i 1).val ∧ (i 1).val < 16 + 8 := hh 1
    omega
  · intro e a
    match a with
    | ⟨0, _⟩ => exact (show 0 ≤ (i 0).val ∧ (i 0).val < 0 + 128 from by omega)
    | ⟨1, _⟩ => exact (show 16 ≤ (i 1).val ∧ (i 1).val < 16 + 8 from by omega)
    | ⟨2, _⟩ => exact (show 0 ≤ (i 2).val ∧ (i 2).val < 0 + 512 from by omega)

/-- The seventeen parts, part `b` at the contents `fs b`. -/
abbrev pbParts (c : Dev nD) (fs : Fin 17 → Bf (F := F) c pbM) : sProp 𝕄 :=
  iprop(ptOwn c (hr 0 inb_S128x24x512_S128x1x512_0_0_0) (fs 0) ∗ ptOwn c (hr 1 inb_S128x24x512_S128x1x512_0_1_0) (fs 1) ∗ ptOwn c (hr 2 inb_S128x24x512_S128x1x512_0_2_0) (fs 2) ∗ ptOwn c (hr 3 inb_S128x24x512_S128x1x512_0_3_0) (fs 3) ∗ ptOwn c (hr 4 inb_S128x24x512_S128x1x512_0_4_0) (fs 4) ∗ ptOwn c (hr 5 inb_S128x24x512_S128x1x512_0_5_0) (fs 5) ∗ ptOwn c (hr 6 inb_S128x24x512_S128x1x512_0_6_0) (fs 6) ∗ ptOwn c (hr 7 inb_S128x24x512_S128x1x512_0_7_0) (fs 7) ∗ ptOwn c (hr 8 inb_S128x24x512_S128x1x512_0_8_0) (fs 8) ∗ ptOwn c (hr 9 inb_S128x24x512_S128x1x512_0_9_0) (fs 9) ∗ ptOwn c (hr 10 inb_S128x24x512_S128x1x512_0_10_0) (fs 10) ∗ ptOwn c (hr 11 inb_S128x24x512_S128x1x512_0_11_0) (fs 11) ∗ ptOwn c (hr 12 inb_S128x24x512_S128x1x512_0_12_0) (fs 12) ∗ ptOwn c (hr 13 inb_S128x24x512_S128x1x512_0_13_0) (fs 13) ∗ ptOwn c (hr 14 inb_S128x24x512_S128x1x512_0_14_0) (fs 14) ∗ ptOwn c (hr 15 inb_S128x24x512_S128x1x512_0_15_0) (fs 15) ∗ ptOwn c pbT (fs 16))

theorem own_hr (c : Dev nD) (r : ℕ) (b : Fin 17) (hb : b.val = r) (hr' : r < 16) (h) (f : Bf (F := F) c pbM) :
    (pbM.view.loc (c : Thread nD τ) ↦[pbSet b]{fullShare} f : sProp 𝕄) = ptOwn c (hr r h) f := by
  have e : pbSet b = pbSet ⟨r, by omega⟩ := congrArg pbSet (Fin.ext hb)
  rw [e, ← hr_set r hr' h]
theorem own_tail (c : Dev nD) (f : Bf (F := F) c pbM) :
    (pbM.view.loc (c : Thread nD τ) ↦[pbSet 16]{fullShare} f : sProp 𝕄) = ptOwn c pbT f := by
  rw [← pbT_set]
theorem parts17 (Φ : Fin 17 → sProp 𝕄) : (bigSep Finset.univ Φ : sProp 𝕄) = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) := by
  rw [BI.bigSep_eq_bigSepL_of_eq [(0 : Fin 17), (1 : Fin 17), (2 : Fin 17), (3 : Fin 17), (4 : Fin 17), (5 : Fin 17), (6 : Fin 17), (7 : Fin 17), (8 : Fin 17), (9 : Fin 17), (10 : Fin 17), (11 : Fin 17), (12 : Fin 17), (13 : Fin 17), (14 : Fin 17), (15 : Fin 17), (16 : Fin 17)] (by decide) (by decide)]
  rfl
theorem pbParts_eq (c : Dev nD) (fs : Fin 17 → Bf (F := F) c pbM) :
    (bigSep Finset.univ (fun b => pbM.view.loc (c : Thread nD τ) ↦[pbSet b]{fullShare} fs b) : sProp 𝕄) = pbParts c fs :=
  (parts17 _).trans (congrArg₂ BIBase.sep (own_hr c 0 0 rfl (by decide) _ _) (congrArg₂ BIBase.sep (own_hr c 1 1 rfl (by decide) _ _) (congrArg₂ BIBase.sep (own_hr c 2 2 rfl (by decide) _ _) (congrArg₂ BIBase.sep (own_hr c 3 3 rfl (by decide) _ _) (congrArg₂ BIBase.sep (own_hr c 4 4 rfl (by decide) _ _) (congrArg₂ BIBase.sep (own_hr c 5 5 rfl (by decide) _ _) (congrArg₂ BIBase.sep (own_hr c 6 6 rfl (by decide) _ _) (congrArg₂ BIBase.sep (own_hr c 7 7 rfl (by decide) _ _) (congrArg₂ BIBase.sep (own_hr c 8 8 rfl (by decide) _ _) (congrArg₂ BIBase.sep (own_hr c 9 9 rfl (by decide) _ _) (congrArg₂ BIBase.sep (own_hr c 10 10 rfl (by decide) _ _) (congrArg₂ BIBase.sep (own_hr c 11 11 rfl (by decide) _ _) (congrArg₂ BIBase.sep (own_hr c 12 12 rfl (by decide) _ _) (congrArg₂ BIBase.sep (own_hr c 13 13 rfl (by decide) _ _) (congrArg₂ BIBase.sep (own_hr c 14 14 rfl (by decide) _ _) (congrArg₂ BIBase.sep (own_hr c 15 15 rfl (by decide) _ _) (own_tail c _)))))))))))))))))

theorem pb_split (c : Dev nD) (f : Bf (F := F) c pbM) : pt c pbM f ⊢ pbParts c (fun _ => f) := by
  rw [← pbParts_eq]
  exact Entails.of_eq (Ring.pointsTo_blocks (ℓ := pbM.view.loc (c : Thread nD τ)) (q := fullShare) pbSet pbSet_disjoint pbSet_cover f)

theorem pb_join (c : Dev nD) (fs : Fin 17 → Bf (F := F) c pbM) :
    pbParts c fs ⊢ iprop(∃ g : Bf (F := F) c pbM, ⌜∀ i : S128x24x512.Idx, g i = fs (pbPart i) i⌝ ∗ pt c pbM g) := by
  rw [← pbParts_eq]
  refine (pointsTo_biUnion_join (ℓ := pbM.view.loc (c : Thread nD τ)) (q := fullShare) Finset.univ pbSet fs (fs 0) (fun b _ b' _ h => pbSet_disjoint b b' h)).trans ?_
  rw [pbSet_cover]
  iintro ⟨%g, %hg, H⟩
  iexists g
  isplitr
  · ipureintro
    exact fun i => hg (pbPart i) (Finset.mem_univ _) i ((mem_pbSet _ i).2 rfl)
  iexact H

/-- Seventeen contents as one family. -/
def fam (c : Dev nD) (a0 a1 a2 a3 a4 a5 a6 a7 a8 a9 a10 a11 a12 a13 a14 a15 a16 : Bf (F := F) c pbM) : Fin 17 → Bf (F := F) c pbM
  | 0 => a0
  | 1 => a1
  | 2 => a2
  | 3 => a3
  | 4 => a4
  | 5 => a5
  | 6 => a6
  | 7 => a7
  | 8 => a8
  | 9 => a9
  | 10 => a10
  | 11 => a11
  | 12 => a12
  | 13 => a13
  | 14 => a14
  | 15 => a15
  | _ => a16

theorem fam0 (c : Dev nD) (a0 a1 a2 a3 a4 a5 a6 a7 a8 a9 a10 a11 a12 a13 a14 a15 a16 : Bf (F := F) c pbM) : fam c a0 a1 a2 a3 a4 a5 a6 a7 a8 a9 a10 a11 a12 a13 a14 a15 a16 0 = a0 := rfl
theorem fam1 (c : Dev nD) (a0 a1 a2 a3 a4 a5 a6 a7 a8 a9 a10 a11 a12 a13 a14 a15 a16 : Bf (F := F) c pbM) : fam c a0 a1 a2 a3 a4 a5 a6 a7 a8 a9 a10 a11 a12 a13 a14 a15 a16 1 = a1 := rfl
theorem fam2 (c : Dev nD) (a0 a1 a2 a3 a4 a5 a6 a7 a8 a9 a10 a11 a12 a13 a14 a15 a16 : Bf (F := F) c pbM) : fam c a0 a1 a2 a3 a4 a5 a6 a7 a8 a9 a10 a11 a12 a13 a14 a15 a16 2 = a2 := rfl
theorem fam3 (c : Dev nD) (a0 a1 a2 a3 a4 a5 a6 a7 a8 a9 a10 a11 a12 a13 a14 a15 a16 : Bf (F := F) c pbM) : fam c a0 a1 a2 a3 a4 a5 a6 a7 a8 a9 a10 a11 a12 a13 a14 a15 a16 3 = a3 := rfl
theorem fam4 (c : Dev nD) (a0 a1 a2 a3 a4 a5 a6 a7 a8 a9 a10 a11 a12 a13 a14 a15 a16 : Bf (F := F) c pbM) : fam c a0 a1 a2 a3 a4 a5 a6 a7 a8 a9 a10 a11 a12 a13 a14 a15 a16 4 = a4 := rfl
theorem fam5 (c : Dev nD) (a0 a1 a2 a3 a4 a5 a6 a7 a8 a9 a10 a11 a12 a13 a14 a15 a16 : Bf (F := F) c pbM) : fam c a0 a1 a2 a3 a4 a5 a6 a7 a8 a9 a10 a11 a12 a13 a14 a15 a16 5 = a5 := rfl
theorem fam6 (c : Dev nD) (a0 a1 a2 a3 a4 a5 a6 a7 a8 a9 a10 a11 a12 a13 a14 a15 a16 : Bf (F := F) c pbM) : fam c a0 a1 a2 a3 a4 a5 a6 a7 a8 a9 a10 a11 a12 a13 a14 a15 a16 6 = a6 := rfl
theorem fam7 (c : Dev nD) (a0 a1 a2 a3 a4 a5 a6 a7 a8 a9 a10 a11 a12 a13 a14 a15 a16 : Bf (F := F) c pbM) : fam c a0 a1 a2 a3 a4 a5 a6 a7 a8 a9 a10 a11 a12 a13 a14 a15 a16 7 = a7 := rfl
theorem fam8 (c : Dev nD) (a0 a1 a2 a3 a4 a5 a6 a7 a8 a9 a10 a11 a12 a13 a14 a15 a16 : Bf (F := F) c pbM) : fam c a0 a1 a2 a3 a4 a5 a6 a7 a8 a9 a10 a11 a12 a13 a14 a15 a16 8 = a8 := rfl
theorem fam9 (c : Dev nD) (a0 a1 a2 a3 a4 a5 a6 a7 a8 a9 a10 a11 a12 a13 a14 a15 a16 : Bf (F := F) c pbM) : fam c a0 a1 a2 a3 a4 a5 a6 a7 a8 a9 a10 a11 a12 a13 a14 a15 a16 9 = a9 := rfl
theorem fam10 (c : Dev nD) (a0 a1 a2 a3 a4 a5 a6 a7 a8 a9 a10 a11 a12 a13 a14 a15 a16 : Bf (F := F) c pbM) : fam c a0 a1 a2 a3 a4 a5 a6 a7 a8 a9 a10 a11 a12 a13 a14 a15 a16 10 = a10 := rfl
theorem fam11 (c : Dev nD) (a0 a1 a2 a3 a4 a5 a6 a7 a8 a9 a10 a11 a12 a13 a14 a15 a16 : Bf (F := F) c pbM) : fam c a0 a1 a2 a3 a4 a5 a6 a7 a8 a9 a10 a11 a12 a13 a14 a15 a16 11 = a11 := rfl
theorem fam12 (c : Dev nD) (a0 a1 a2 a3 a4 a5 a6 a7 a8 a9 a10 a11 a12 a13 a14 a15 a16 : Bf (F := F) c pbM) : fam c a0 a1 a2 a3 a4 a5 a6 a7 a8 a9 a10 a11 a12 a13 a14 a15 a16 12 = a12 := rfl
theorem fam13 (c : Dev nD) (a0 a1 a2 a3 a4 a5 a6 a7 a8 a9 a10 a11 a12 a13 a14 a15 a16 : Bf (F := F) c pbM) : fam c a0 a1 a2 a3 a4 a5 a6 a7 a8 a9 a10 a11 a12 a13 a14 a15 a16 13 = a13 := rfl
theorem fam14 (c : Dev nD) (a0 a1 a2 a3 a4 a5 a6 a7 a8 a9 a10 a11 a12 a13 a14 a15 a16 : Bf (F := F) c pbM) : fam c a0 a1 a2 a3 a4 a5 a6 a7 a8 a9 a10 a11 a12 a13 a14 a15 a16 14 = a14 := rfl
theorem fam15 (c : Dev nD) (a0 a1 a2 a3 a4 a5 a6 a7 a8 a9 a10 a11 a12 a13 a14 a15 a16 : Bf (F := F) c pbM) : fam c a0 a1 a2 a3 a4 a5 a6 a7 a8 a9 a10 a11 a12 a13 a14 a15 a16 15 = a15 := rfl
theorem fam16 (c : Dev nD) (a0 a1 a2 a3 a4 a5 a6 a7 a8 a9 a10 a11 a12 a13 a14 a15 a16 : Bf (F := F) c pbM) : fam c a0 a1 a2 a3 a4 a5 a6 a7 a8 a9 a10 a11 a12 a13 a14 a15 a16 16 = a16 := rfl
set_option maxHeartbeats 2000000 in
theorem pb_join17 (c : Dev nD) (a0 a1 a2 a3 a4 a5 a6 a7 a8 a9 a10 a11 a12 a13 a14 a15 a16 : Bf (F := F) c pbM) :
    iprop(ptOwn c (hr 0 inb_S128x24x512_S128x1x512_0_0_0) (a0) ∗ ptOwn c (hr 1 inb_S128x24x512_S128x1x512_0_1_0) (a1) ∗ ptOwn c (hr 2 inb_S128x24x512_S128x1x512_0_2_0) (a2) ∗ ptOwn c (hr 3 inb_S128x24x512_S128x1x512_0_3_0) (a3) ∗ ptOwn c (hr 4 inb_S128x24x512_S128x1x512_0_4_0) (a4) ∗ ptOwn c (hr 5 inb_S128x24x512_S128x1x512_0_5_0) (a5) ∗ ptOwn c (hr 6 inb_S128x24x512_S128x1x512_0_6_0) (a6) ∗ ptOwn c (hr 7 inb_S128x24x512_S128x1x512_0_7_0) (a7) ∗ ptOwn c (hr 8 inb_S128x24x512_S128x1x512_0_8_0) (a8) ∗ ptOwn c (hr 9 inb_S128x24x512_S128x1x512_0_9_0) (a9) ∗ ptOwn c (hr 10 inb_S128x24x512_S128x1x512_0_10_0) (a10) ∗ ptOwn c (hr 11 inb_S128x24x512_S128x1x512_0_11_0) (a11) ∗ ptOwn c (hr 12 inb_S128x24x512_S128x1x512_0_12_0) (a12) ∗ ptOwn c (hr 13 inb_S128x24x512_S128x1x512_0_13_0) (a13) ∗ ptOwn c (hr 14 inb_S128x24x512_S128x1x512_0_14_0) (a14) ∗ ptOwn c (hr 15 inb_S128x24x512_S128x1x512_0_15_0) (a15) ∗ ptOwn c pbT (a16))
    ⊢ iprop(∃ g : Bf (F := F) c pbM, ⌜∀ i : S128x24x512.Idx, g i = fam c a0 a1 a2 a3 a4 a5 a6 a7 a8 a9 a10 a11 a12 a13 a14 a15 a16 (pbPart i) i⌝ ∗ pt c pbM g) :=
 by
  have h := pb_join c (fam c a0 a1 a2 a3 a4 a5 a6 a7 a8 a9 a10 a11 a12 a13 a14 a15 a16)
  unfold pbParts at h
  rw [fam0, fam1, fam2, fam3, fam4, fam5, fam6, fam7, fam8, fam9, fam10, fam11, fam12, fam13, fam14, fam15, fam16] at h
  exact h

theorem keep (P : sProp 𝕄) : P ⊢ iprop((BI.emp : sProp 𝕄) -∗ P) := by
  iintro H -
  iexact H

/-- Two halves of a share of one buffer are that share. -/
theorem halves (c : Dev nD) {sp : Space} {S : Shape} {e : EltTy} (M : Memref sig .tc sp S e) (q : PosShare TreeShare) (f : Bf (F := F) c M) :
    iprop((M.view.loc (c : Thread nD τ) ↦{q.left} f) ∗ M.view.loc (c : Thread nD τ) ↦{q.right} f) ⊢ (M.view.loc (c : Thread nD τ) ↦{q} f : sProp 𝕄) :=
  (pointsTo_share (PosShare.mem_left_op_right q)).2

end Cert.Mix

end
-- ==== Proof.MixContent.lean ====
/-
  What the transfers of a grid point leave in the pool state in HBM, and what they read of the pool buffers.
-/
module

public import proofs.«01_k».proof.Proof.MixPool
public import Idealize.ShloMosaic.Lib.VecWindow
public import Idealize.ShloMosaic.Lib.Pipeline.Value
public import Idealize.ShloMosaic.Lib.Pipeline.FrameBody
public import Idealize.ShloMosaic.Lib.ValueIdxCore

@[expose] public section

set_option maxRecDepth 16384

noncomputable section

namespace Cert.Mix

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Pipeline

/-- Entry `(j, s)` of the prompts' pool state, and row `j` of the sample's, as the transfers slice them. -/
abbrev stA (off : Fin 3 → ℕ) (h : ∀ a, off a + S1x1x512.size a ≤ S15x8x512.size a) : Memref sig .tc .hbm S512 .f32 :=
  (stAM.slice (Rect.unit (s := S15x8x512) off S1x1x512.size h) (fun _ => rfl)).squeeze S512 squeezes_S1x1x512_S512
abbrev stB (off : Fin 3 → ℕ) (h : ∀ a, off a + S1x128x512.size a ≤ S15x128x512.size a) : Memref sig .tc .hbm S128x512 .f32 :=
  (stBM.slice (Rect.unit (s := S15x128x512) off S1x128x512.size h) (fun _ => rfl)).squeeze S128x512 squeezes_S1x128x512_S128x512
/-- Row `r` of the prompt's pool buffer, as the transfers slice it. -/
abbrev paR (r : ℕ) (h : ∀ a, (![r, 0] : Fin 2 → ℕ) a + S1x512.size a ≤ S1040x512.size a) : Memref sig .tc .vmem S512 .f32 :=
  (paM.slice (Rect.unit (s := S1040x512) ![r, 0] S1x512.size h) (fun _ => rfl)).squeeze S512 squeezes_S1x512_S512

theorem resh_1 (h : S512.numel = S1x512.numel) (l : Fin 512) : Shape.reshapeEquiv h (ValueIdx.ix1 l) = ValueIdx.ix2 (0 : Fin 1) l :=
  Shape.reshapeEquiv_eq_of_rowMajor h (by rw [Shape.rowMajor_val_two, Shape.rowMajor_val_one]; simp)
theorem resh_11 (h : S512.numel = S1x1x512.numel) (l : Fin 512) : Shape.reshapeEquiv h (ValueIdx.ix1 l) = ValueIdx.ix3 (0 : Fin 1) (0 : Fin 1) l :=
  Shape.reshapeEquiv_eq_of_rowMajor h (by rw [Shape.rowMajor_val_three, Shape.rowMajor_val_one]; simp)
theorem resh_row (h : S128x512.numel = S128x1x512.numel) (s : Fin 128) (l : Fin 512) : Shape.reshapeEquiv h (ValueIdx.ix2 s l) = ValueIdx.ix3 s (0 : Fin 1) l :=
  Shape.reshapeEquiv_eq_of_rowMajor h (by rw [Shape.rowMajor_val_three, Shape.rowMajor_val_two]; simp)
theorem resh_top (h : S128x512.numel = S1x128x512.numel) (s : Fin 128) (l : Fin 512) : Shape.reshapeEquiv h (ValueIdx.ix2 s l) = ValueIdx.ix3 (0 : Fin 1) s l :=
  Shape.reshapeEquiv_eq_of_rowMajor h (by rw [Shape.rowMajor_val_three, Shape.rowMajor_val_two]; simp)

theorem stA_set (j s : ℕ) (h) (i : S15x8x512.Idx) : i ∈ (stA ![j, s, 0] h).view.set ↔ (i 0).val = j ∧ (i 1).val = s := by
  simp only [stA, Memref.view_squeeze, View.set_reshape]
  rw [show ((stAM.slice (Rect.unit (s := S15x8x512) ![j, s, 0] S1x1x512.size h) (fun _ => rfl)).view.set) = _ from View.set_slice_whole _ _]
  have h2 : (i 2).val < 512 := (i 2).isLt
  rw [Rect.mem_set_unit]
  constructor
  · intro hh
    have e0 : j ≤ (i 0).val ∧ (i 0).val < j + 1 := hh 0
    have e1 : s ≤ (i 1).val ∧ (i 1).val < s + 1 := hh 1
    omega
  · intro e a
    match a with
    | ⟨0, _⟩ => exact (show j ≤ (i 0).val ∧ (i 0).val < j + 1 from by omega)
    | ⟨1, _⟩ => exact (show s ≤ (i 1).val ∧ (i 1).val < s + 1 from by omega)
    | ⟨2, _⟩ => exact (show 0 ≤ (i 2).val ∧ (i 2).val < 0 + 512 from by omega)

theorem stA_emb (j s : ℕ) (h) (i : S15x8x512.Idx) (h0 : (i 0).val = j) (h1 : (i 1).val = s) :
    (stA ![j, s, 0] h).view.emb (ValueIdx.ix1 (i 2)) = i := by
  show (Rect.unit (s := S15x8x512) ![j, s, 0] S1x1x512.size h).emb (Shape.reshapeEquiv squeezes_S1x1x512_S512.numel_eq (ValueIdx.ix1 (i 2))) = i
  refine (congrArg (fun z => (Rect.unit (s := S15x8x512) ![j, s, 0] S1x1x512.size h).emb z) (resh_11 squeezes_S1x1x512_S512.numel_eq (i 2))).trans ?_
  funext a
  apply Fin.ext
  match a with
  | ⟨0, _⟩ => show j + 1 * 0 = (i 0).val; omega
  | ⟨1, _⟩ => show s + 1 * 0 = (i 1).val; omega
  | ⟨2, _⟩ => show 0 + 1 * (i 2).val = (i 2).val; omega

theorem stA_write (c : Dev nD) (j s : ℕ) (off) (ho : off = ![j, s, 0]) (h) (f : Bf (F := F) c stAM) (w : S512.Idx → F .f32) (i : S15x8x512.Idx) :
    ((stA off h).view.write (Elt F) f w Finset.univ : Bf (F := F) c stAM) i = if (i 0).val = j ∧ (i 1).val = s then w (ValueIdx.ix1 (i 2)) else f i := by
  subst ho
  by_cases e : (i 0).val = j ∧ (i 1).val = s
  · rw [if_pos e]
    have hx := stA_emb j s h i e.1 e.2
    have hw := View.write_emb_of_mem (v := (stA ![j, s, 0] h).view) (Val := Elt F) f w (Finset.mem_univ (ValueIdx.ix1 (i 2)))
    exact (congrArg (View.write (Elt F) (stA ![j, s, 0] h).view f w Finset.univ) hx.symm).trans hw
  · rw [if_neg e]
    refine View.write_of_not_mem (v := (stA ![j, s, 0] h).view) (Val := Elt F) f w Finset.univ ?_
    intro hm
    exact e ((stA_set j s h i).1 hm)

/-- The first `n` rows of sequence `s` of the prompts' pool state are `R`; everything else is as in `f`. -/
def UpdA (c : Dev nD) (s n : ℕ) (R : S15x8x512.Idx → F .f32) (f' f : Bf (F := F) c stAM) : Prop :=
  ∀ i : S15x8x512.Idx, f' i = if (i 1).val = s ∧ (i 0).val < n then R i else f i

theorem UpdA.init (c : Dev nD) (s : ℕ) (R : S15x8x512.Idx → F .f32) (f : Bf (F := F) c stAM) : UpdA c s 0 R f f := by
  intro i
  rw [if_neg (by omega)]
theorem UpdA.step {c : Dev nD} {s n : ℕ} {R : S15x8x512.Idx → F .f32} {f' f : Bf (F := F) c stAM} (u : UpdA c s n R f' f)
    (off) (ho : off = ![n, s, 0]) (h) (w : S512.Idx → F .f32) (hw : ∀ i : S15x8x512.Idx, (i 0).val = n → w (ValueIdx.ix1 (i 2)) = R i) :
    UpdA c s (n + 1) R ((stA off h).view.write (Elt F) f' w Finset.univ) f := by
  intro i
  rw [stA_write c n s off ho h f' w i, u i]
  by_cases e : (i 0).val = n ∧ (i 1).val = s
  · rw [if_pos e, if_pos (by omega), hw i e.1]
  · rw [if_neg e]
    by_cases e' : (i 1).val = s ∧ (i 0).val < n
    · rw [if_pos e', if_pos (by omega)]
    · rw [if_neg e', if_neg (by omega)]

theorem stB_emb (j : ℕ) (h) (i : S15x128x512.Idx) (h0 : (i 0).val = j) :
    (stB ![j, 0, 0] h).view.emb (ValueIdx.ix2 (i 1) (i 2)) = i := by
  show (Rect.unit (s := S15x128x512) ![j, 0, 0] S1x128x512.size h).emb (Shape.reshapeEquiv squeezes_S1x128x512_S128x512.numel_eq (ValueIdx.ix2 (i 1) (i 2))) = i
  refine (congrArg (fun z => (Rect.unit (s := S15x128x512) ![j, 0, 0] S1x128x512.size h).emb z) (resh_top squeezes_S1x128x512_S128x512.numel_eq (i 1) (i 2))).trans ?_
  funext a
  apply Fin.ext
  match a with
  | ⟨0, _⟩ => show j + 1 * 0 = (i 0).val; omega
  | ⟨1, _⟩ => show 0 + 1 * (i 1).val = (i 1).val; omega
  | ⟨2, _⟩ => show 0 + 1 * (i 2).val = (i 2).val; omega

theorem stB_set (j : ℕ) (h) (i : S15x128x512.Idx) (hi : i ∈ (stB ![j, 0, 0] h).view.set) : (i 0).val = j := by
  simp only [stB, Memref.view_squeeze, View.set_reshape] at hi
  rw [show ((stBM.slice (Rect.unit (s := S15x128x512) ![j, 0, 0] S1x128x512.size h) (fun _ => rfl)).view.set) = _ from View.set_slice_whole _ _] at hi
  rw [Rect.mem_set_unit] at hi
  have e0 : j ≤ (i 0).val ∧ (i 0).val < j + 1 := hi 0
  omega

/-- The first `n` rows of the sample's pool state are `R`. -/
def UpdB (c : Dev nD) (n : ℕ) (R : S15x128x512.Idx → F .f32) (f' : Bf (F := F) c stBM) : Prop :=
  ∀ i : S15x128x512.Idx, (i 0).val < n → f' i = R i
theorem UpdB.init (c : Dev nD) (R : S15x128x512.Idx → F .f32) (f : Bf (F := F) c stBM) : UpdB c 0 R f := by
  intro i hi
  omega
theorem UpdB.step {c : Dev nD} {n : ℕ} {R : S15x128x512.Idx → F .f32} {f' : Bf (F := F) c stBM} (u : UpdB c n R f')
    (off) (ho : off = ![n, 0, 0]) (h) (w : S128x512.Idx → F .f32) (hw : ∀ i : S15x128x512.Idx, (i 0).val = n → w (ValueIdx.ix2 (i 1) (i 2)) = R i) :
    UpdB c (n + 1) R ((stB off h).view.write (Elt F) f' w Finset.univ) := by
  subst ho
  intro i hi
  by_cases e : (i 0).val = n
  · have hx := stB_emb n h i e
    have hw' := View.write_emb_of_mem (v := (stB ![n, 0, 0] h).view) (Val := Elt F) f' w (Finset.mem_univ (ValueIdx.ix2 (i 1) (i 2)))
    exact ((congrArg (View.write (Elt F) (stB ![n, 0, 0] h).view f' w Finset.univ) hx.symm).trans hw').trans (hw i e)
  · rw [← u i (by omega)]
    refine View.write_of_not_mem (v := (stB ![n, 0, 0] h).view) (Val := Elt F) f' w Finset.univ ?_
    intro hm
    exact e (stB_set n h i hm)

/-- A row of the prompt's pool buffer, when the rows from 16 on were written last. -/
theorem paR_read (c : Dev nD) (k : ℕ) (hk : k < 1024) (r : ℕ) (hr' : r = 16 + k) (h) (h16) (f : Bf (F := F) c paM) (P : S1024x512.Idx → F .f32)
    (L : List (View.Piece (Elt F) S1040x512 .f32)) (l : Fin 512) :
    (paR r h).view.read (Elt F) (paM.view.writes (Elt F) f (⟨Rect.unit (s := S1040x512) ![16, 0] S1024x512.size h16, P⟩ :: L)) (ValueIdx.ix1 l)
      = P (ValueIdx.ix2 ⟨k, hk⟩ l) := by
  subst hr'
  show paM.view.read (Elt F) _ ((Rect.unit (s := S1040x512) ![16 + k, 0] S1x512.size h).emb (Shape.reshapeEquiv squeezes_S1x512_S512.numel_eq (ValueIdx.ix1 l))) = _
  rw [resh_1]
  have e : (Rect.unit (s := S1040x512) ![16 + k, 0] S1x512.size h).emb (ValueIdx.ix2 (0 : Fin 1) l)
      = (Rect.unit (s := S1040x512) ![16, 0] S1024x512.size h16).emb (ValueIdx.ix2 ⟨k, hk⟩ l) := by
    funext a
    apply Fin.ext
    match a with
    | ⟨0, _⟩ => show 16 + k + 1 * 0 = 16 + 1 * k; omega
    | ⟨1, _⟩ => rfl
  refine (congrArg _ e).trans ?_
  exact View.read_writes_cons_emb _ _ _ _ _ _

/-- The last two rows of the prompt's conv buffer, when the rows from 8 on were written last. -/
theorem caR_read (h8) (h1030) (P : S1024x512.Idx → F .f32) (L : List (View.Piece (Elt F) S1032x512 .f32)) (y : S2x512.Idx) :
    caM.view.readCov (⟨Rect.unit (s := S1032x512) ![8, 0] S1024x512.size h8, P⟩ :: L) (Rect.unit (s := S1032x512) ![1030, 0] S2x512.size h1030).toLoadRect y
      = P (ValueIdx.ix2 ⟨1022 + (y 0).val, by have h0 : (y 0).val < 2 := (y 0).isLt; omega⟩ (y 1)) := by
  rw [View.readCov_eq_canon']
  have e : ((Rect.unit (s := S1032x512) ![1030, 0] S2x512.size h1030).toLoadRect).idx y = (Rect.unit (s := S1032x512) ![8, 0] S1024x512.size h8).emb (ValueIdx.ix2 (⟨1022 + (y 0).val, by have h0 : (y 0).val < 2 := (y 0).isLt; omega⟩ : Fin 1024) (y 1)) := by
    funext a
    apply Fin.ext
    match a with
    | ⟨0, _⟩ => show 1030 + 1 * (y 0).val = 8 + 1 * (1022 + (y 0).val); omega
    | ⟨1, _⟩ => rfl
  exact (congrArg (View.canon (Val := Elt F) (⟨Rect.unit (s := S1032x512) ![8, 0] S1024x512.size h8, P⟩ :: L)) e).trans (View.canon_cons_emb (Val := Elt F) (Rect.unit (s := S1032x512) ![8, 0] S1024x512.size h8) P L _)

set_option maxHeartbeats 2000000 in
/-- Likewise the sample's conv buffer, of every sequence. -/
theorem cbR_read (h8) (h14) (P : S128x8x512.Idx → F .f32) (L : List (View.Piece (Elt F) S128x16x512 .f32)) (y : S128x2x512.Idx) :
    cbM.view.readCov (⟨Rect.unit (s := S128x16x512) ![0, 8, 0] S128x8x512.size h8, P⟩ :: L) (Rect.unit (s := S128x16x512) ![0, 14, 0] S128x2x512.size h14).toLoadRect y
      = P (ValueIdx.ix3 (y 0) ⟨6 + (y 1).val, by have h0 : (y 1).val < 2 := (y 1).isLt; omega⟩ (y 2)) := by
  rw [View.readCov_eq_canon']
  have e : ((Rect.unit (s := S128x16x512) ![0, 14, 0] S128x2x512.size h14).toLoadRect).idx y = (Rect.unit (s := S128x16x512) ![0, 8, 0] S128x8x512.size h8).emb (ValueIdx.ix3 (y 0) (⟨6 + (y 1).val, by have h0 : (y 1).val < 2 := (y 1).isLt; omega⟩ : Fin 8) (y 2)) := by
    funext a
    apply Fin.ext
    match a with
    | ⟨0, _⟩ => rfl
    | ⟨1, _⟩ => show 14 + 1 * (y 1).val = 8 + 1 * (6 + (y 1).val); omega
    | ⟨2, _⟩ => rfl
  exact (congrArg (View.canon (Val := Elt F) (⟨Rect.unit (s := S128x16x512) ![0, 8, 0] S128x8x512.size h8, P⟩ :: L)) e).trans (View.canon_cons_emb (Val := Elt F) (Rect.unit (s := S128x16x512) ![0, 8, 0] S128x8x512.size h8) P L _)

theorem hr_emb (r : ℕ) (hr' : r < 24) (h) (s : Fin 128) (l : Fin 512) : (hr r h).view.emb (ValueIdx.ix2 s l) = ValueIdx.ix3 s ⟨r, hr'⟩ l := by
  show (Rect.unit (s := S128x24x512) ![0, r, 0] S128x1x512.size h).emb (Shape.reshapeEquiv squeezes_S128x1x512_S128x512.numel_eq (ValueIdx.ix2 s l)) = _
  rw [resh_row]
  funext a
  apply Fin.ext
  match a with
  | ⟨0, _⟩ => show 0 + 1 * s.val = s.val; omega
  | ⟨1, _⟩ => show r + 1 * 0 = r; omega
  | ⟨2, _⟩ => show 0 + 1 * l.val = l.val; omega
theorem hs_emb (j : ℕ) (hj : j < 15) (h) (s : Fin 128) (l : Fin 512) : (hs j h).view.emb (ValueIdx.ix2 s l) = ValueIdx.ix3 ⟨j, hj⟩ s l := by
  show (Rect.unit (s := S15x128x512) ![j, 0, 0] S1x128x512.size h).emb (Shape.reshapeEquiv squeezes_S1x128x512_S128x512.numel_eq (ValueIdx.ix2 s l)) = _
  rw [resh_top]
  funext a
  apply Fin.ext
  match a with
  | ⟨0, _⟩ => show j + 1 * 0 = j; omega
  | ⟨1, _⟩ => show 0 + 1 * s.val = s.val; omega
  | ⟨2, _⟩ => show 0 + 1 * l.val = l.val; omega

/-- A row of the sample's pool buffer, read as the transfers read it. -/
theorem hr_read (c : Dev nD) (r : ℕ) (hr' : r < 24) (h) (g : Bf (F := F) c pbM) (s : Fin 128) (l : Fin 512) :
    (hr r h).view.read (Elt F) g (ValueIdx.ix2 s l) = g (ValueIdx.ix3 s ⟨r, hr'⟩ l) := by
  show g ((hr r h).view.emb (ValueIdx.ix2 s l)) = _
  rw [hr_emb r hr']

/-- A row of the sample's pool buffer after its transfer landed is its row of the pool history. -/
theorem hr_landed (c : Dev nD) (r : ℕ) (hr' : r < 24) (h) (j : ℕ) (hj : j < 15) (h') (a : Bf (F := F) c pbM) (X : Bf (F := F) c histM) (s : Fin 128) (l : Fin 512) :
    ((hr r h).view.writes (Elt F) a [⟨Rect.whole S128x512, ReadAs.same.apply ((hs j h').view.read (Elt F) X)⟩] : Bf (F := F) c pbM) (ValueIdx.ix3 s ⟨r, hr'⟩ l)
      = X (ValueIdx.ix3 ⟨j, hj⟩ s l) := by
  have e := View.read_writes_cons_emb (hr r h).view a (Rect.whole S128x512) (ReadAs.same.apply ((hs j h').view.read (Elt F) X)) [] (ValueIdx.ix2 s l)
  rw [Rect.emb_whole_apply] at e
  refine (hr_read c r hr' h _ s l).symm.trans (e.trans ?_)
  show X ((hs j h').view.emb (ValueIdx.ix2 s l)) = _
  rw [hs_emb j hj]

/-- The tail of the sample's pool buffer after its store. -/
theorem tail_stored (c : Dev nD) (h) (a : Bf (F := F) c pbM) (P : S128x8x512.Idx → F .f32) (s : Fin 128) (k : Fin 8) (l : Fin 512) (r : Fin 24) (hr' : r.val = 16 + k.val) :
    (View.write (Elt F) (pbM.access (Rect.unit (s := S128x24x512) ![0, 16, 0] S128x8x512.size h)) a P Finset.univ : Bf (F := F) c pbM) (ValueIdx.ix3 s r l)
      = P (ValueIdx.ix3 s k l) := by
  have hw := View.write_emb_of_mem (v := pbM.access (Rect.unit (s := S128x24x512) ![0, 16, 0] S128x8x512.size h)) (Val := Elt F) a P (Finset.mem_univ (ValueIdx.ix3 s k l))
  have e : (pbM.access (Rect.unit (s := S128x24x512) ![0, 16, 0] S128x8x512.size h)).emb (ValueIdx.ix3 s k l) = ValueIdx.ix3 s r l := by
    show (Rect.unit (s := S128x24x512) ![0, 16, 0] S128x8x512.size h).emb (ValueIdx.ix3 s k l) = _
    funext a
    apply Fin.ext
    match a with
    | ⟨0, _⟩ => show 0 + 1 * s.val = s.val; omega
    | ⟨1, _⟩ => show 16 + 1 * k.val = r.val; omega
    | ⟨2, _⟩ => show 0 + 1 * l.val = l.val; omega
  rw [e] at hw
  exact hw

/-- The columns from `o` on of the input projection. -/
def cw (W : S1024x2048.Idx → F .f32) (o : ℕ) (h : ∀ a, (![0, o] : Fin 2 → ℕ) a + S1024x512.size a ≤ S1024x2048.size a) : Vec F S1024x512 .f32 :=
  fun y => W ((Rect.unit (s := S1024x2048) ![0, o] S1024x512.size h).toLoadRect.idx y)
/-- A prompt tile's pool input and its gated conv input. -/
def pP (X : Vec F S1024x1024 .f32) (g : Vec F S1x1024 .f32) (W : S1024x2048.Idx → F .f32) : Vec F S1024x512 .f32 :=
  k0_pay11 (k0_pay6 X g) (cw W 1536 inb_S1024x2048_S1024x512_0_1536)
def uP (X : Vec F S1024x1024 .f32) (g : Vec F S1x1024 .f32) (W : S1024x2048.Idx → F .f32) : Vec F S1024x512 .f32 :=
  k0_pay28 (k0_pay8 (k0_pay6 X g) (cw W 512 inb_S1024x2048_S1024x512_0_512)) (k0_pay9 (k0_pay6 X g) (cw W 1024 inb_S1024x2048_S1024x512_0_1024))
/-- The sample's. -/
def pS (X : Vec F S1024x1024 .f32) (g : Vec F S1x1024 .f32) (W : S1024x2048.Idx → F .f32) : Vec F S128x8x512 .f32 :=
  k0_pay40 (k0_pay36 X g (cw W 1536 inb_S1024x2048_S1024x512_0_1536))
def uS (X : Vec F S1024x1024 .f32) (g : Vec F S1x1024 .f32) (W : S1024x2048.Idx → F .f32) : Vec F S128x8x512 .f32 :=
  k0_pay54 (k0_pay37 X g (cw W 512 inb_S1024x2048_S1024x512_0_512)) (k0_pay38 (k0_pay34 X g) (cw W 1024 inb_S1024x2048_S1024x512_0_1024))

/-- A prompt's conv state and pool state, from its last tile. -/
def cP (u : Vec F S1024x512 .f32) : S1x2x512.Idx → F .f32 := fun y => u (ValueIdx.ix2 ⟨1022 + (y 1).val, by have h0 : (y 1).val < 2 := (y 1).isLt; omega⟩ (y 2))
def rP (p : Vec F S1024x512 .f32) : S15x8x512.Idx → F .f32 := fun i => p (ValueIdx.ix2 ⟨1009 + (i 0).val, by have h0 : (i 0).val < 15 := (i 0).isLt; omega⟩ (i 2))
/-- The sample's conv state and pool state: of the pool history, the eight oldest rows are gone. -/
def cS (u : Vec F S128x8x512 .f32) : S128x2x512.Idx → F .f32 := fun y => u (ValueIdx.ix3 (y 0) ⟨6 + (y 1).val, by have h0 : (y 1).val < 2 := (y 1).isLt; omega⟩ (y 2))
def rS (H : S15x128x512.Idx → F .f32) (p : Vec F S128x8x512 .f32) : S15x128x512.Idx → F .f32 := fun i =>
  if h : (i 0).val < 7 then H (ValueIdx.ix3 ⟨8 + (i 0).val, by omega⟩ (i 1) (i 2))
  else p (ValueIdx.ix3 (i 1) ⟨(i 0).val - 7, by have h0 : (i 0).val < 15 := (i 0).isLt; omega⟩ (i 2))

theorem pay32_apply (v : Vec F S2x512 .f32) (y : S1x2x512.Idx) : k0_pay32 v y = v (ValueIdx.ix2 (y 1) (y 2)) := by
  unfold k0_pay32
  refine shapeCast_apply v _ y _ ?_
  rw [Shape.rowMajor_val_two, Shape.rowMajor_val_three]
  have h0 : (y 0).val < 1 := (y 0).isLt
  have h0 : (y 0).val = 0 := by omega
  simp [h0]

end Cert.Mix

end
-- ==== Proof.MixMove.lean ====
/-
  One transfer's effect on the pool state, and the joins after the last transfer.
-/
module

public import proofs.«01_k».proof.Proof.MixContent

@[expose] public section

set_option maxRecDepth 16384

noncomputable section

namespace Cert.Mix

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Pipeline

theorem rP_row (p : Vec F S1024x512 .f32) (n : ℕ) (hn : n < 15) (i : S15x8x512.Idx) (hi : (i 0).val = n) : p (ValueIdx.ix2 ⟨1009 + n, by omega⟩ (i 2)) = rP p i := by
  subst hi
  rfl
/-- A prompt's tile writes one row of its pool state. -/
theorem stepA {c : Dev nD} {s n : ℕ} {p : Vec F S1024x512 .f32} {f' f : Bf (F := F) c stAM} (u : UpdA c s n (rP p) f' f) (hn : n < 15)
    (off) (ho : off = ![n, s, 0]) (h) (r : ℕ) (hr' : r = 1025 + n) (hi) (h16) (fp : Bf (F := F) c paM) (P : S1024x512.Idx → F .f32) (hP : P = p)
    (L : List (View.Piece (Elt F) S1040x512 .f32)) :
    UpdA c s (n + 1) (rP p) ((stA off h).view.write (Elt F) f'
      (ReadAs.same.apply ((paR r hi).view.read (Elt F) (paM.view.writes (Elt F) fp (⟨Rect.unit (s := S1040x512) ![16, 0] S1024x512.size h16, P⟩ :: L)))) Finset.univ) f := by
  subst hP
  refine UpdA.step u off ho h _ fun i e => ?_
  exact (paR_read c (1009 + n) (by omega) r (by omega) hi h16 fp P L (i 2)).trans (rP_row P n hn i e)

/-- The sample writes one row, of every sequence, of its pool state. -/
theorem stepB {c : Dev nD} {n : ℕ} {R : S15x128x512.Idx → F .f32} {f' : Bf (F := F) c stBM} (u : UpdB c n R f') (hn : n < 15)
    (off) (ho : off = ![n, 0, 0]) (h) (r : ℕ) (hr' : r < 24) (hi) (g : Bf (F := F) c pbM)
    (hg : ∀ (s : Fin 128) (l : Fin 512), g (ValueIdx.ix3 s ⟨r, hr'⟩ l) = R (ValueIdx.ix3 ⟨n, hn⟩ s l)) :
    UpdB c (n + 1) R ((stB off h).view.write (Elt F) f' (ReadAs.same.apply ((hr r hi).view.read (Elt F) g)) Finset.univ) := by
  refine UpdB.step u off ho h _ fun i e => ?_
  refine (hr_read c r hr' hi g (i 1) (i 2)).trans ((hg (i 1) (i 2)).trans (congrArg R (funext fun a => ?_)))
  match a with
  | ⟨0, _⟩ => exact Fin.ext e.symm
  | ⟨1, _⟩ => rfl
  | ⟨2, _⟩ => rfl

theorem rS_lo (H : S15x128x512.Idx → F .f32) (p : Vec F S128x8x512 .f32) (n : ℕ) (hn : n < 7) (s : Fin 128) (l : Fin 512) :
    H (ValueIdx.ix3 ⟨8 + n, by omega⟩ s l) = rS H p (ValueIdx.ix3 ⟨n, by omega⟩ s l) := by
  unfold rS
  split
  case isTrue h => rfl
  case isFalse h => exact absurd hn h
theorem rS_hi (H : S15x128x512.Idx → F .f32) (p : Vec F S128x8x512 .f32) (n : ℕ) (hn : ¬ n < 7) (h : n < 15) (s : Fin 128) (l : Fin 512) :
    p (ValueIdx.ix3 s ⟨n - 7, by omega⟩ l) = rS H p (ValueIdx.ix3 ⟨n, h⟩ s l) := by
  unfold rS
  split
  case isTrue h => exact absurd h hn
  case isFalse h => rfl

theorem rejoin (c : Dev nD) {sp : Space} {S : Shape} {e : EltTy} (M : Memref sig .tc sp S e) (f : Bf (F := F) c M)
    (A I : Finset (Idx (M.view.loc (c : Thread nD τ)))) (h : A ⊆ I) :
    iprop((M.view.loc (c : Thread nD τ) ↦[A]{fullShare} f) ∗ M.view.loc (c : Thread nD τ) ↦[I \ A]{fullShare} f) ⊢ (M.view.loc (c : Thread nD τ) ↦[I]{fullShare} f : sProp 𝕄) := by
  have u := (pointsTo_union (ℓ := M.view.loc (c : Thread nD τ)) (q := fullShare) (f := f) (Finset.disjoint_sdiff (s := A) (t := I)) (Ix := Unit) (Name := ℕ) (U := Pipeline.UD sig nD τ) (Lvl := ℕ)).2
  rw [Finset.union_sdiff_of_subset h] at u
  exact u

theorem hs_set (j : ℕ) (h) (i : S15x128x512.Idx) (hi : i ∈ (hs j h).view.set) : (i 0).val = j := by
  simp only [hs, Memref.view_squeeze, View.set_reshape] at hi
  rw [show ((histM.slice (Rect.unit (s := S15x128x512) ![j, 0, 0] S1x128x512.size h) (fun _ => rfl)).view.set) = _ from View.set_slice_whole _ _] at hi
  rw [Rect.mem_set_unit] at hi
  have e0 : j ≤ (i 0).val ∧ (i 0).val < j + 1 := hi 0
  omega
theorem hs_disjoint (j j' : ℕ) (h h') (hne : j ≠ j') : Disjoint (hs j h).view.set (hs j' h').view.set := by
  rw [Finset.disjoint_left]
  intro i hi hi'
  exact hne ((hs_set j h i hi).symm.trans (hs_set j' h' i hi'))

/-- One row more joins what the others come to. -/
theorem rejoin_row (c : Dev nD) {sp : Space} {S : Shape} {e : EltTy} (M : Memref sig .tc sp S e) (f : Bf (F := F) c M)
    {A I : Finset (Idx (M.view.loc (c : Thread nD τ)))} {Q : sProp 𝕄} (h : A ⊆ I) (k : Q ⊢ M.view.loc (c : Thread nD τ) ↦[I \ A]{fullShare} f) :
    iprop((M.view.loc (c : Thread nD τ) ↦[A]{fullShare} f) ∗ Q) ⊢ (M.view.loc (c : Thread nD τ) ↦[I]{fullShare} f : sProp 𝕄) := by
  iintro ⟨H, HQ⟩
  iapply (rejoin c M f A I h)
  iframe H
  iapply k $$ HQ

set_option maxHeartbeats 8000000 in
/-- The rows of the pool history in HBM, landed, and the rest are the whole again. -/
theorem hist_join (c : Dev nD) (X : Bf (F := F) c histM) :
    iprop(ptOwn c (hs 0 inb_S15x128x512_S1x128x512_0_0_0) X ∗ ptOwn c (hs 1 inb_S15x128x512_S1x128x512_1_0_0) X ∗ ptOwn c (hs 2 inb_S15x128x512_S1x128x512_2_0_0) X ∗ ptOwn c (hs 3 inb_S15x128x512_S1x128x512_3_0_0) X ∗ ptOwn c (hs 4 inb_S15x128x512_S1x128x512_4_0_0) X ∗ ptOwn c (hs 5 inb_S15x128x512_S1x128x512_5_0_0) X ∗ ptOwn c (hs 6 inb_S15x128x512_S1x128x512_6_0_0) X ∗ ptOwn c (hs 7 inb_S15x128x512_S1x128x512_7_0_0) X ∗ ptOwn c (hs 8 inb_S15x128x512_S1x128x512_8_0_0) X ∗ ptOwn c (hs 9 inb_S15x128x512_S1x128x512_9_0_0) X ∗ ptOwn c (hs 10 inb_S15x128x512_S1x128x512_10_0_0) X ∗ ptOwn c (hs 11 inb_S15x128x512_S1x128x512_11_0_0) X ∗ ptOwn c (hs 12 inb_S15x128x512_S1x128x512_12_0_0) X ∗ ptOwn c (hs 13 inb_S15x128x512_S1x128x512_13_0_0) X ∗ ptOwn c (hs 14 inb_S15x128x512_S1x128x512_14_0_0) X ∗ histM.view.loc (c : Thread nD τ) ↦[histRest c]{fullShare} X)
    ⊢ pt c histM X := by
  iterate 15
    refine rejoin_row c histM X ?_ ?_
    · repeat refine Finset.subset_sdiff.2 ⟨?_, hs_disjoint _ _ _ _ (by decide)⟩
      exact Finset.subset_univ _
  iintro H
  iexact H

/-- Shares of one buffer, halved seven times, are the whole again. -/
theorem shares8 (c : Dev nD) {sp : Space} {S : Shape} {e : EltTy} (M : Memref sig .tc sp S e) (f : Bf (F := F) c M) :
    iprop((M.view.loc (c : Thread nD τ) ↦{fullShare.right} f) ∗ (M.view.loc (c : Thread nD τ) ↦{fullShare.left.right} f) ∗ (M.view.loc (c : Thread nD τ) ↦{fullShare.left.left.right} f) ∗ (M.view.loc (c : Thread nD τ) ↦{fullShare.left.left.left.right} f) ∗ (M.view.loc (c : Thread nD τ) ↦{fullShare.left.left.left.left.right} f) ∗ (M.view.loc (c : Thread nD τ) ↦{fullShare.left.left.left.left.left.right} f) ∗ (M.view.loc (c : Thread nD τ) ↦{fullShare.left.left.left.left.left.left.right} f) ∗ M.view.loc (c : Thread nD τ) ↦{fullShare.left.left.left.left.left.left.left} f)
    ⊢ pt c M f := by
  iintro ⟨H0, H1, H2, H3, H4, H5, H6, HR⟩
  ihave HR := (halves c M fullShare.left.left.left.left.left.left f) $$ [HR H6]
  · isplitl [HR]
    · iexact HR
    iexact H6
  ihave HR := (halves c M fullShare.left.left.left.left.left f) $$ [HR H5]
  · isplitl [HR]
    · iexact HR
    iexact H5
  ihave HR := (halves c M fullShare.left.left.left.left f) $$ [HR H4]
  · isplitl [HR]
    · iexact HR
    iexact H4
  ihave HR := (halves c M fullShare.left.left.left f) $$ [HR H3]
  · isplitl [HR]
    · iexact HR
    iexact H3
  ihave HR := (halves c M fullShare.left.left f) $$ [HR H2]
  · isplitl [HR]
    · iexact HR
    iexact H2
  ihave HR := (halves c M fullShare.left f) $$ [HR H1]
  · isplitl [HR]
    · iexact HR
    iexact H1
  ihave HR := (halves c M fullShare f) $$ [HR H0]
  · isplitl [HR]
    · iexact HR
    iexact H0
  iexact HR

/-- Where a prompt point's transfers and the sample's write: sequence `s`, one row each. -/
def offsA (i : grid0.Coords) (s : ℕ) : Prop := k0_off1 i = ![0, s, 0] ∧ k0_off2 i = ![1, s, 0] ∧ k0_off3 i = ![2, s, 0] ∧ k0_off4 i = ![3, s, 0] ∧ k0_off5 i = ![4, s, 0] ∧ k0_off6 i = ![5, s, 0] ∧ k0_off7 i = ![6, s, 0] ∧ k0_off8 i = ![7, s, 0] ∧ k0_off9 i = ![8, s, 0] ∧ k0_off10 i = ![9, s, 0] ∧ k0_off11 i = ![10, s, 0] ∧ k0_off12 i = ![11, s, 0] ∧ k0_off13 i = ![12, s, 0] ∧ k0_off14 i = ![13, s, 0] ∧ k0_off15 i = ![14, s, 0]
def offsB (i : grid0.Coords) : Prop := k0_off31 i = ![0, 0, 0] ∧ k0_off32 i = ![1, 0, 0] ∧ k0_off33 i = ![2, 0, 0] ∧ k0_off34 i = ![3, 0, 0] ∧ k0_off35 i = ![4, 0, 0] ∧ k0_off36 i = ![5, 0, 0] ∧ k0_off37 i = ![6, 0, 0] ∧ k0_off38 i = ![7, 0, 0] ∧ k0_off39 i = ![8, 0, 0] ∧ k0_off40 i = ![9, 0, 0] ∧ k0_off41 i = ![10, 0, 0] ∧ k0_off42 i = ![11, 0, 0] ∧ k0_off43 i = ![12, 0, 0] ∧ k0_off44 i = ![13, 0, 0] ∧ k0_off45 i = ![14, 0, 0]

/-- The payloads of a prompt's tile and of the sample's, in what the windows read. -/
theorem pP_eq (c : Dev nD) (M0 : Memref sig .tc .vmem S1024x1024 .f32) (M2 : Memref sig .tc .vmem S1x1024 .f32) (M3 : Memref sig .tc .vmem S1024x2048 .f32)
    (f0 : Bf (F := F) c M0) (f2 : Bf (F := F) c M2) (f3 : Bf (F := F) c M3) (X g W) (hX : M0.view.read (Elt F) f0 = X) (hg : M2.view.read (Elt F) f2 = g) (hW : M3.view.read (Elt F) f3 = W) (a b) :
    k0_pay11 (k0_pay6 (M0.view.readAt (Elt F) (Rect.unit (s := S1024x1024) ![0, 0] S1024x1024.size a).toLoadRect f0) (M2.view.readAt (Elt F) (Rect.unit (s := S1x1024) ![0, 0] S1x1024.size b).toLoadRect f2))
      (M3.view.readAt (Elt F) (Rect.unit (s := S1024x2048) ![0, 1536] S1024x512.size inb_S1024x2048_S1024x512_0_1536).toLoadRect f3) = pP X g W := by
  rw [View.readAt_full M0.view, View.readAt_full M2.view, hX, hg, ← hW]
  rfl
theorem uP_eq (c : Dev nD) (M0 : Memref sig .tc .vmem S1024x1024 .f32) (M2 : Memref sig .tc .vmem S1x1024 .f32) (M3 : Memref sig .tc .vmem S1024x2048 .f32)
    (f0 : Bf (F := F) c M0) (f2 : Bf (F := F) c M2) (f3 : Bf (F := F) c M3) (X g W) (hX : M0.view.read (Elt F) f0 = X) (hg : M2.view.read (Elt F) f2 = g) (hW : M3.view.read (Elt F) f3 = W) (a b) :
    k0_pay28 (k0_pay8 (k0_pay6 (M0.view.readAt (Elt F) (Rect.unit (s := S1024x1024) ![0, 0] S1024x1024.size a).toLoadRect f0) (M2.view.readAt (Elt F) (Rect.unit (s := S1x1024) ![0, 0] S1x1024.size b).toLoadRect f2))
      (M3.view.readAt (Elt F) (Rect.unit (s := S1024x2048) ![0, 512] S1024x512.size inb_S1024x2048_S1024x512_0_512).toLoadRect f3))
      (k0_pay9 (k0_pay6 (M0.view.readAt (Elt F) (Rect.unit (s := S1024x1024) ![0, 0] S1024x1024.size a).toLoadRect f0) (M2.view.readAt (Elt F) (Rect.unit (s := S1x1024) ![0, 0] S1x1024.size b).toLoadRect f2))
      (M3.view.readAt (Elt F) (Rect.unit (s := S1024x2048) ![0, 1024] S1024x512.size inb_S1024x2048_S1024x512_0_1024).toLoadRect f3)) = uP X g W := by
  rw [View.readAt_full M0.view, View.readAt_full M2.view, hX, hg, ← hW]
  rfl
theorem pS_eq (c : Dev nD) (M0 : Memref sig .tc .vmem S1024x1024 .f32) (M2 : Memref sig .tc .vmem S1x1024 .f32) (M3 : Memref sig .tc .vmem S1024x2048 .f32)
    (f0 : Bf (F := F) c M0) (f2 : Bf (F := F) c M2) (f3 : Bf (F := F) c M3) (X g W) (hX : M0.view.read (Elt F) f0 = X) (hg : M2.view.read (Elt F) f2 = g) (hW : M3.view.read (Elt F) f3 = W) (a b) :
    k0_pay40 (k0_pay36 (M0.view.readAt (Elt F) (Rect.unit (s := S1024x1024) ![0, 0] S1024x1024.size a).toLoadRect f0) (M2.view.readAt (Elt F) (Rect.unit (s := S1x1024) ![0, 0] S1x1024.size b).toLoadRect f2)
      (M3.view.readAt (Elt F) (Rect.unit (s := S1024x2048) ![0, 1536] S1024x512.size inb_S1024x2048_S1024x512_0_1536).toLoadRect f3)) = pS X g W := by
  rw [View.readAt_full M0.view, View.readAt_full M2.view, hX, hg, ← hW]
  rfl
theorem uS_eq (c : Dev nD) (M0 : Memref sig .tc .vmem S1024x1024 .f32) (M2 : Memref sig .tc .vmem S1x1024 .f32) (M3 : Memref sig .tc .vmem S1024x2048 .f32)
    (f0 : Bf (F := F) c M0) (f2 : Bf (F := F) c M2) (f3 : Bf (F := F) c M3) (X g W) (hX : M0.view.read (Elt F) f0 = X) (hg : M2.view.read (Elt F) f2 = g) (hW : M3.view.read (Elt F) f3 = W) (a b) :
    k0_pay54 (k0_pay37 (M0.view.readAt (Elt F) (Rect.unit (s := S1024x1024) ![0, 0] S1024x1024.size a).toLoadRect f0) (M2.view.readAt (Elt F) (Rect.unit (s := S1x1024) ![0, 0] S1x1024.size b).toLoadRect f2)
      (M3.view.readAt (Elt F) (Rect.unit (s := S1024x2048) ![0, 512] S1024x512.size inb_S1024x2048_S1024x512_0_512).toLoadRect f3))
      (k0_pay38 (k0_pay34 (M0.view.readAt (Elt F) (Rect.unit (s := S1024x1024) ![0, 0] S1024x1024.size a).toLoadRect f0) (M2.view.readAt (Elt F) (Rect.unit (s := S1x1024) ![0, 0] S1x1024.size b).toLoadRect f2))
      (M3.view.readAt (Elt F) (Rect.unit (s := S1024x2048) ![0, 1024] S1024x512.size inb_S1024x2048_S1024x512_0_1024).toLoadRect f3)) = uS X g W := by
  rw [View.readAt_full M0.view, View.readAt_full M2.view, hX, hg, ← hW]
  rfl

/-- What a prompt's tile leaves in the conv window, and the sample in its own. -/
theorem cP_read (c : Dev nD) (M9 : Memref sig .tc .vmem S1x2x512 .f32) (f9 : Bf (F := F) c M9) (a) (h8) (h1030) (P u : S1024x512.Idx → F .f32) (hP : P = u) (L : List (View.Piece (Elt F) S1032x512 .f32)) :
    M9.view.read (Elt F) (M9.view.writes (Elt F) f9 [⟨Rect.unit (s := S1x2x512) ![0, 0, 0] S1x2x512.size a, k0_pay32 (caM.view.readCov (⟨Rect.unit (s := S1032x512) ![8, 0] S1024x512.size h8, P⟩ :: L) (Rect.unit (s := S1032x512) ![1030, 0] S2x512.size h1030).toLoadRect)⟩])
      = cP u := by
  subst hP
  refine (View.read_writes_full M9.view f9 _ _ _).trans (funext fun y => ?_)
  exact (pay32_apply _ y).trans (caR_read h8 h1030 P L (ValueIdx.ix2 (y 1) (y 2)))
theorem cS_read (c : Dev nD) (M10 : Memref sig .tc .vmem S128x2x512 .f32) (f10 : Bf (F := F) c M10) (a) (h8) (h14) (P u : S128x8x512.Idx → F .f32) (hP : P = u) (L : List (View.Piece (Elt F) S128x16x512 .f32)) :
    M10.view.read (Elt F) (M10.view.writes (Elt F) f10 [⟨Rect.unit (s := S128x2x512) ![0, 0, 0] S128x2x512.size a, cbM.view.readCov (⟨Rect.unit (s := S128x16x512) ![0, 8, 0] S128x8x512.size h8, P⟩ :: L) (Rect.unit (s := S128x16x512) ![0, 14, 0] S128x2x512.size h14).toLoadRect⟩])
      = cS u := by
  subst hP
  refine (View.read_writes_full M10.view f10 _ _ _).trans (funext fun y => ?_)
  exact cbR_read h8 h14 P L y

end Cert.Mix

end
-- ==== Proof.MixOut.lean ====
/-
  WHAT A GRID POINT WRITES OF THE TOKENS: the tile of a prompt and of the sample as functions of what the windows hold and of the conv
  and pool buffers, which hold the rows before the tile and then the tile's own.
-/
module

public import proofs.«01_k».proof.Proof.MixMove

@[expose] public section

set_option maxRecDepth 16384

noncomputable section

namespace Cert.Mix

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Pipeline

/-- The first position of the grid point's tile, as the kernel computes it. -/
abbrev posV (i : grid0.Coords) : BitVec 32 := Scalar.muli (tileOf i) 1024#32

/-- Row `k` of the conv weights; matrix and scale of a group of the pool. -/
def kw (C : S3x512.Idx → F .f32) (k : ℕ) (h : ∀ a, (![k, 0] : Fin 2 → ℕ) a + S1x512.size a ≤ S3x512.size a) : Vec F S1x512 .f32 :=
  fun y => C ((Rect.unit (s := S3x512) ![k, 0] S1x512.size h).toLoadRect.idx y)
def gw (P : S4x128x128.Idx → F .f32) (k : ℕ) (h : ∀ a, (![k, 0, 0] : Fin 3 → ℕ) a + S1x128x128.size a ≤ S4x128x128.size a) : Vec F S1x128x128 .f32 :=
  fun y => P ((Rect.unit (s := S4x128x128) ![k, 0, 0] S1x128x128.size h).toLoadRect.idx y)
def sw (S : S1x512.Idx → F .f32) (o : ℕ) (h : ∀ a, (![0, o] : Fin 2 → ℕ) a + S1x128.size a ≤ S1x512.size a) : Vec F S1x128 .f32 :=
  fun y => S ((Rect.unit (s := S1x512) ![0, o] S1x128.size h).toLoadRect.idx y)

/-- The conv buffer and the pool buffer of a prompt: the rows before the tile, then the tile's. -/
def cE (lo : Vec F S8x512 .f32) (u : Vec F S1024x512 .f32) : Vec F S1032x512 .f32 := fun i =>
  if h : (i 0).val < 8 then lo (ValueIdx.ix2 ⟨(i 0).val, h⟩ (i 1)) else u (ValueIdx.ix2 ⟨(i 0).val - 8, by have h0 : (i 0).val < 1032 := (i 0).isLt; omega⟩ (i 1))
def pE (lo : Vec F S16x512 .f32) (p : Vec F S1024x512 .f32) : Vec F S1040x512 .f32 := fun i =>
  if h : (i 0).val < 16 then lo (ValueIdx.ix2 ⟨(i 0).val, h⟩ (i 1)) else p (ValueIdx.ix2 ⟨(i 0).val - 16, by have h0 : (i 0).val < 1040 := (i 0).isLt; omega⟩ (i 1))
/-- A tile's last rows, which the next tile of the sequence takes over. -/
def cTop (u : Vec F S1024x512 .f32) : Vec F S8x512 .f32 := fun y => u (ValueIdx.ix2 ⟨1016 + (y 0).val, by have h0 : (y 0).val < 8 := (y 0).isLt; omega⟩ (y 1))
def pTop (p : Vec F S1024x512 .f32) : Vec F S16x512 .f32 := fun y => p (ValueIdx.ix2 ⟨1008 + (y 0).val, by have h0 : (y 0).val < 16 := (y 0).isLt; omega⟩ (y 1))
/-- The buffers hold a tile's rows after the first eight or sixteen. -/
def hasC (c : Dev nD) (f : Bf (F := F) c caM) (u : Vec F S1024x512 .f32) : Prop :=
  ∀ (r : Fin 1024) (l : Fin 512), caM.view.read (Elt F) f (ValueIdx.ix2 (⟨8 + r.val, by omega⟩ : Fin 1032) l) = u (ValueIdx.ix2 r l)
def hasP (c : Dev nD) (f : Bf (F := F) c paM) (p : Vec F S1024x512 .f32) : Prop :=
  ∀ (r : Fin 1024) (l : Fin 512), paM.view.read (Elt F) f (ValueIdx.ix2 (⟨16 + r.val, by omega⟩ : Fin 1040) l) = p (ValueIdx.ix2 r l)

theorem embC (h) (r : Fin 1024) (l : Fin 512) : (Rect.unit (s := S1032x512) ![8, 0] S1024x512.size h).emb (ValueIdx.ix2 r l) = ValueIdx.ix2 (⟨8 + r.val, by omega⟩ : Fin 1032) l := by
  funext a
  apply Fin.ext
  match a with
  | ⟨0, _⟩ => show 8 + 1 * r.val = 8 + r.val; omega
  | ⟨1, _⟩ => show 0 + 1 * l.val = l.val; omega
theorem hasC_writes (c : Dev nD) (f : Bf (F := F) c caM) (h) (P u : Vec F S1024x512 .f32) (hP : P = u) (L : List (View.Piece (Elt F) S1032x512 .f32)) :
    hasC c (caM.view.writes (Elt F) f (⟨Rect.unit (s := S1032x512) ![8, 0] S1024x512.size h, P⟩ :: L)) u := by
  subst hP
  intro r l
  rw [← embC h r l]
  exact View.read_writes_cons_emb _ _ _ _ _ _
theorem cTop_eq (c : Dev nD) (f : Bf (F := F) c caM) (u : Vec F S1024x512 .f32) (hf : hasC c f u) (h) :
    k0_pay4 (caM.view.readAt (Elt F) (Rect.unit (s := S1032x512) ![1024, 0] S8x512.size h).toLoadRect f) = cTop u := by
  unfold k0_pay4
  rw [shapeCast_self]
  funext y
  have h0 : (y 0).val < 8 := (y 0).isLt
  refine Eq.trans ?_ (hf ⟨1016 + (y 0).val, by omega⟩ (y 1))
  refine congrArg (caM.view.read (Elt F) f) (funext fun a => Fin.ext ?_)
  match a with
  | ⟨0, _⟩ => show 1024 + 1 * (y 0).val = 8 + (1016 + (y 0).val); omega
  | ⟨1, _⟩ => show 0 + 1 * (y 1).val = (y 1).val; omega
theorem cE_eq (h8) (h0) (hf) (P u : Vec F S1024x512 .f32) (hP : P = u) (Q lo : Vec F S8x512 .f32) (hQ : Q = lo) :
    caM.view.readCov [⟨Rect.unit (s := S1032x512) ![8, 0] S1024x512.size h8, P⟩, ⟨Rect.unit (s := S1032x512) ![0, 0] S8x512.size h0, Q⟩] (Rect.unit (s := S1032x512) ![0, 0] S1032x512.size hf).toLoadRect = cE lo u := by
  subst hP hQ
  rw [View.readCov_eq_canon']
  funext y
  have hy : (y 0).val < 1032 := (y 0).isLt
  have e0 : ((Rect.unit (s := S1032x512) ![0, 0] S1032x512.size hf).toLoadRect).idx y = y := by
    funext a
    apply Fin.ext
    match a with
    | ⟨0, _⟩ => show 0 + 1 * (y 0).val = (y 0).val; omega
    | ⟨1, _⟩ => show 0 + 1 * (y 1).val = (y 1).val; omega
  refine (congrArg (View.canon (Val := Elt F) _) e0).trans ?_
  unfold cE
  by_cases hh : (y 0).val < 8
  · rw [dif_pos hh]
    have e1 : y = (Rect.unit (s := S1032x512) ![0, 0] S8x512.size h0).emb (ValueIdx.ix2 (⟨(y 0).val, hh⟩ : Fin 8) (y 1)) := by
      funext a
      apply Fin.ext
      match a with
      | ⟨0, _⟩ => show (y 0).val = 0 + 1 * (y 0).val; omega
      | ⟨1, _⟩ => show (y 1).val = 0 + 1 * (y 1).val; omega
    refine (View.canon_cons_of_not_mem _ _ ?_).trans ((congrArg (View.canon (Val := Elt F) _) e1).trans (View.canon_cons_emb (Val := Elt F) (Rect.unit (s := S1032x512) ![0, 0] S8x512.size h0) Q [] _))
    intro hm
    have hm' := (Rect.mem_set_unit (inb := h8)).1 hm
    have h1 : 8 ≤ (y 0).val ∧ (y 0).val < 8 + 1024 := hm' 0
    omega
  · rw [dif_neg hh]
    have e1 : y = (Rect.unit (s := S1032x512) ![8, 0] S1024x512.size h8).emb (ValueIdx.ix2 (⟨(y 0).val - 8, by omega⟩ : Fin 1024) (y 1)) := by
      funext a
      apply Fin.ext
      match a with
      | ⟨0, _⟩ => show (y 0).val = 8 + 1 * ((y 0).val - 8); omega
      | ⟨1, _⟩ => show (y 1).val = 0 + 1 * (y 1).val; omega
    exact (congrArg (View.canon (Val := Elt F) _) e1).trans (View.canon_cons_emb (Val := Elt F) (Rect.unit (s := S1032x512) ![8, 0] S1024x512.size h8) P _ _)

theorem embP (h) (r : Fin 1024) (l : Fin 512) : (Rect.unit (s := S1040x512) ![16, 0] S1024x512.size h).emb (ValueIdx.ix2 r l) = ValueIdx.ix2 (⟨16 + r.val, by omega⟩ : Fin 1040) l := by
  funext a
  apply Fin.ext
  match a with
  | ⟨0, _⟩ => show 16 + 1 * r.val = 16 + r.val; omega
  | ⟨1, _⟩ => show 0 + 1 * l.val = l.val; omega
theorem hasP_writes (c : Dev nD) (f : Bf (F := F) c paM) (h) (P u : Vec F S1024x512 .f32) (hP : P = u) (L : List (View.Piece (Elt F) S1040x512 .f32)) :
    hasP c (paM.view.writes (Elt F) f (⟨Rect.unit (s := S1040x512) ![16, 0] S1024x512.size h, P⟩ :: L)) u := by
  subst hP
  intro r l
  rw [← embP h r l]
  exact View.read_writes_cons_emb _ _ _ _ _ _
theorem pTop_eq (c : Dev nD) (f : Bf (F := F) c paM) (u : Vec F S1024x512 .f32) (hf : hasP c f u) (h) :
    k0_pay5 (paM.view.readAt (Elt F) (Rect.unit (s := S1040x512) ![1024, 0] S16x512.size h).toLoadRect f) = pTop u := by
  unfold k0_pay5
  rw [shapeCast_self]
  funext y
  have h0 : (y 0).val < 16 := (y 0).isLt
  refine Eq.trans ?_ (hf ⟨1008 + (y 0).val, by omega⟩ (y 1))
  refine congrArg (paM.view.read (Elt F) f) (funext fun a => Fin.ext ?_)
  match a with
  | ⟨0, _⟩ => show 1024 + 1 * (y 0).val = 16 + (1008 + (y 0).val); omega
  | ⟨1, _⟩ => show 0 + 1 * (y 1).val = (y 1).val; omega
theorem pE_eq (h8) (h0) (hf) (P u : Vec F S1024x512 .f32) (hP : P = u) (Q lo : Vec F S16x512 .f32) (hQ : Q = lo) :
    paM.view.readCov [⟨Rect.unit (s := S1040x512) ![16, 0] S1024x512.size h8, P⟩, ⟨Rect.unit (s := S1040x512) ![0, 0] S16x512.size h0, Q⟩] (Rect.unit (s := S1040x512) ![0, 0] S1040x512.size hf).toLoadRect = pE lo u := by
  subst hP hQ
  rw [View.readCov_eq_canon']
  funext y
  have hy : (y 0).val < 1040 := (y 0).isLt
  have e0 : ((Rect.unit (s := S1040x512) ![0, 0] S1040x512.size hf).toLoadRect).idx y = y := by
    funext a
    apply Fin.ext
    match a with
    | ⟨0, _⟩ => show 0 + 1 * (y 0).val = (y 0).val; omega
    | ⟨1, _⟩ => show 0 + 1 * (y 1).val = (y 1).val; omega
  refine (congrArg (View.canon (Val := Elt F) _) e0).trans ?_
  unfold pE
  by_cases hh : (y 0).val < 16
  · rw [dif_pos hh]
    have e1 : y = (Rect.unit (s := S1040x512) ![0, 0] S16x512.size h0).emb (ValueIdx.ix2 (⟨(y 0).val, hh⟩ : Fin 16) (y 1)) := by
      funext a
      apply Fin.ext
      match a with
      | ⟨0, _⟩ => show (y 0).val = 0 + 1 * (y 0).val; omega
      | ⟨1, _⟩ => show (y 1).val = 0 + 1 * (y 1).val; omega
    refine (View.canon_cons_of_not_mem _ _ ?_).trans ((congrArg (View.canon (Val := Elt F) _) e1).trans (View.canon_cons_emb (Val := Elt F) (Rect.unit (s := S1040x512) ![0, 0] S16x512.size h0) Q [] _))
    intro hm
    have hm' := (Rect.mem_set_unit (inb := h8)).1 hm
    have h1 : 16 ≤ (y 0).val ∧ (y 0).val < 16 + 1024 := hm' 0
    omega
  · rw [dif_neg hh]
    have e1 : y = (Rect.unit (s := S1040x512) ![16, 0] S1024x512.size h8).emb (ValueIdx.ix2 (⟨(y 0).val - 16, by omega⟩ : Fin 1024) (y 1)) := by
      funext a
      apply Fin.ext
      match a with
      | ⟨0, _⟩ => show (y 0).val = 16 + 1 * ((y 0).val - 16); omega
      | ⟨1, _⟩ => show (y 1).val = 0 + 1 * (y 1).val; omega
    exact (congrArg (View.canon (Val := Elt F) _) e1).trans (View.canon_cons_emb (Val := Elt F) (Rect.unit (s := S1040x512) ![16, 0] S1024x512.size h8) P _ _)

/-- A prompt's tile of the tokens. -/
def oP (b : BitVec 32) (X : Vec F S1024x1024 .f32) (g : Vec F S1x1024 .f32) (W : S1024x2048.Idx → F .f32) (C : S3x512.Idx → F .f32) (Wp : S4x128x128.Idx → F .f32) (Sc : S1x512.Idx → F .f32) (Wo : Vec F S1024x1024 .f32) (ce : Vec F S1032x512 .f32) (pe : Vec F S1040x512 .f32) : Vec F S1024x1024 .f32 :=
  k0_pay31 X (k0_pay10 (k0_pay6 X g) (cw W 0 inb_S1024x2048_S1024x512_0_0))
    (k0_pay23 b (k0_pay7 (k0_pay6 X g) (cw W 1536 inb_S1024x2048_S1024x512_0_1536)) (k0_pay13 (pe)) (gw Wp 0 inb_S4x128x128_S1x128x128_0_0_0) (sw Sc 0 inb_S1x512_S1x128_0_0))
    (k0_pay24 b (k0_pay7 (k0_pay6 X g) (cw W 1536 inb_S1024x2048_S1024x512_0_1536)) (k0_pay15 (pe)) (gw Wp 1 inb_S4x128x128_S1x128x128_1_0_0) (sw Sc 128 inb_S1x512_S1x128_0_128))
    (k0_pay26 (k0_pay25 b (k0_pay7 (k0_pay6 X g) (cw W 1536 inb_S1024x2048_S1024x512_0_1536)) (k0_pay17 (pe))) (gw Wp 2 inb_S4x128x128_S1x128x128_2_0_0) (sw Sc 256 inb_S1x512_S1x128_0_256))
    (k0_pay27 (k0_pay7 (k0_pay6 X g) (cw W 1536 inb_S1024x2048_S1024x512_0_1536)) (k0_pay21 (k0_pay19 (pe)) (k0_pay20 (pe))) (k0_pay22 b) (gw Wp 3 inb_S4x128x128_S1x128x128_3_0_0) (sw Sc 384 inb_S1x512_S1x128_0_384))
    (k0_pay29 (ce) (kw C 0 inb_S3x512_S1x512_0_0) (kw C 1 inb_S3x512_S1x512_1_0)) (k0_pay30 (ce)) (kw C 2 inb_S3x512_S1x512_2_0) Wo
/-- The sample's. -/
def oS (X : Vec F S1024x1024 .f32) (g : Vec F S1x1024 .f32) (W : S1024x2048.Idx → F .f32) (C : S3x512.Idx → F .f32) (Wp : S4x128x128.Idx → F .f32) (Sc : S1x512.Idx → F .f32) (Wo : Vec F S1024x1024 .f32) (ce : Vec F S128x16x512 .f32) (pe : Vec F S128x24x512 .f32) : Vec F S1024x1024 .f32 :=
  k0_pay56 (k0_pay35 X) (k0_pay39 (k0_pay34 X g) (cw W 0 inb_S1024x2048_S1024x512_0_0))
    (k0_pay49 (k0_pay36 X g (cw W 1536 inb_S1024x2048_S1024x512_0_1536)) (k0_pay42 (pe)) k0_pay48 (Scalar.ofBits .f32 0x40000000#32) (gw Wp 0 inb_S4x128x128_S1x128x128_0_0_0) (sw Sc 0 inb_S1x512_S1x128_0_0))
    (k0_pay50 (k0_pay36 X g (cw W 1536 inb_S1024x2048_S1024x512_0_1536)) (k0_pay44 (pe)) k0_pay48 (gw Wp 1 inb_S4x128x128_S1x128x128_1_0_0) (sw Sc 128 inb_S1x512_S1x128_0_128))
    (k0_pay52 (k0_pay51 (k0_pay36 X g (cw W 1536 inb_S1024x2048_S1024x512_0_1536)) (k0_pay46 (pe)) k0_pay48) (gw Wp 2 inb_S4x128x128_S1x128x128_2_0_0) (sw Sc 256 inb_S1x512_S1x128_0_256))
    (k0_pay53 (k0_pay36 X g (cw W 1536 inb_S1024x2048_S1024x512_0_1536)) (k0_pay47 (pe)) k0_pay48 (gw Wp 3 inb_S4x128x128_S1x128x128_3_0_0) (sw Sc 384 inb_S1x512_S1x128_0_384))
    (ce) (k0_pay55 (ce) (kw C 0 inb_S3x512_S1x512_0_0)) (kw C 1 inb_S3x512_S1x512_1_0) (kw C 2 inb_S3x512_S1x512_2_0) Wo

theorem oP_read (c : Dev nD) (M0 : Memref sig .tc .vmem S1024x1024 .f32) (M2 : Memref sig .tc .vmem S1x1024 .f32) (M3 : Memref sig .tc .vmem S1024x2048 .f32) (M4 : Memref sig .tc .vmem S3x512 .f32) (M5 : Memref sig .tc .vmem S4x128x128 .f32) (M6 : Memref sig .tc .vmem S1x512 .f32) (M7 : Memref sig .tc .vmem S1024x1024 .f32) (M8 : Memref sig .tc .vmem S1024x1024 .f32)
    (f0 : Bf (F := F) c M0) (f2 : Bf (F := F) c M2) (f3 : Bf (F := F) c M3) (f4 : Bf (F := F) c M4) (f5 : Bf (F := F) c M5) (f6 : Bf (F := F) c M6) (f7 : Bf (F := F) c M7) (f8 : Bf (F := F) c M8)
    (b : BitVec 32) (X : Vec F S1024x1024 .f32) (g : Vec F S1x1024 .f32) (W : S1024x2048.Idx → F .f32) (C : S3x512.Idx → F .f32) (Wp : S4x128x128.Idx → F .f32) (Sc : S1x512.Idx → F .f32) (Wo : Vec F S1024x1024 .f32) (hX : M0.view.read (Elt F) f0 = X) (hg : M2.view.read (Elt F) f2 = g) (hW : M3.view.read (Elt F) f3 = W) (hC : M4.view.read (Elt F) f4 = C) (hWp : M5.view.read (Elt F) f5 = Wp) (hSc : M6.view.read (Elt F) f6 = Sc) (hWo : M7.view.read (Elt F) f7 = Wo)
    (v : BitVec 32) (hv : v = b) (ce ce' : Vec F S1032x512 .f32) (hce : ce' = ce) (pe pe' : Vec F S1040x512 .f32) (hpe : pe' = pe) (a0 a2 a7 a8) :
    M8.view.read (Elt F) (M8.view.writes (Elt F) f8 [⟨Rect.unit (s := S1024x1024) ![0, 0] S1024x1024.size a8,
    k0_pay31 (M0.view.readAt (Elt F) (Rect.unit (s := S1024x1024) ![0, 0] S1024x1024.size a0).toLoadRect f0) (k0_pay10 (k0_pay6 (M0.view.readAt (Elt F) (Rect.unit (s := S1024x1024) ![0, 0] S1024x1024.size a0).toLoadRect f0) (M2.view.readAt (Elt F) (Rect.unit (s := S1x1024) ![0, 0] S1x1024.size a2).toLoadRect f2)) (M3.view.readAt (Elt F) (Rect.unit (s := S1024x2048) ![0, 0] S1024x512.size inb_S1024x2048_S1024x512_0_0).toLoadRect f3))
    (k0_pay23 v (k0_pay7 (k0_pay6 (M0.view.readAt (Elt F) (Rect.unit (s := S1024x1024) ![0, 0] S1024x1024.size a0).toLoadRect f0) (M2.view.readAt (Elt F) (Rect.unit (s := S1x1024) ![0, 0] S1x1024.size a2).toLoadRect f2)) (M3.view.readAt (Elt F) (Rect.unit (s := S1024x2048) ![0, 1536] S1024x512.size inb_S1024x2048_S1024x512_0_1536).toLoadRect f3)) (k0_pay13 (pe')) (M5.view.readAt (Elt F) (Rect.unit (s := S4x128x128) ![0, 0, 0] S1x128x128.size inb_S4x128x128_S1x128x128_0_0_0).toLoadRect f5) (M6.view.readAt (Elt F) (Rect.unit (s := S1x512) ![0, 0] S1x128.size inb_S1x512_S1x128_0_0).toLoadRect f6))
    (k0_pay24 v (k0_pay7 (k0_pay6 (M0.view.readAt (Elt F) (Rect.unit (s := S1024x1024) ![0, 0] S1024x1024.size a0).toLoadRect f0) (M2.view.readAt (Elt F) (Rect.unit (s := S1x1024) ![0, 0] S1x1024.size a2).toLoadRect f2)) (M3.view.readAt (Elt F) (Rect.unit (s := S1024x2048) ![0, 1536] S1024x512.size inb_S1024x2048_S1024x512_0_1536).toLoadRect f3)) (k0_pay15 (pe')) (M5.view.readAt (Elt F) (Rect.unit (s := S4x128x128) ![1, 0, 0] S1x128x128.size inb_S4x128x128_S1x128x128_1_0_0).toLoadRect f5) (M6.view.readAt (Elt F) (Rect.unit (s := S1x512) ![0, 128] S1x128.size inb_S1x512_S1x128_0_128).toLoadRect f6))
    (k0_pay26 (k0_pay25 v (k0_pay7 (k0_pay6 (M0.view.readAt (Elt F) (Rect.unit (s := S1024x1024) ![0, 0] S1024x1024.size a0).toLoadRect f0) (M2.view.readAt (Elt F) (Rect.unit (s := S1x1024) ![0, 0] S1x1024.size a2).toLoadRect f2)) (M3.view.readAt (Elt F) (Rect.unit (s := S1024x2048) ![0, 1536] S1024x512.size inb_S1024x2048_S1024x512_0_1536).toLoadRect f3)) (k0_pay17 (pe'))) (M5.view.readAt (Elt F) (Rect.unit (s := S4x128x128) ![2, 0, 0] S1x128x128.size inb_S4x128x128_S1x128x128_2_0_0).toLoadRect f5) (M6.view.readAt (Elt F) (Rect.unit (s := S1x512) ![0, 256] S1x128.size inb_S1x512_S1x128_0_256).toLoadRect f6))
    (k0_pay27 (k0_pay7 (k0_pay6 (M0.view.readAt (Elt F) (Rect.unit (s := S1024x1024) ![0, 0] S1024x1024.size a0).toLoadRect f0) (M2.view.readAt (Elt F) (Rect.unit (s := S1x1024) ![0, 0] S1x1024.size a2).toLoadRect f2)) (M3.view.readAt (Elt F) (Rect.unit (s := S1024x2048) ![0, 1536] S1024x512.size inb_S1024x2048_S1024x512_0_1536).toLoadRect f3)) (k0_pay21 (k0_pay19 (pe')) (k0_pay20 (pe'))) (k0_pay22 v) (M5.view.readAt (Elt F) (Rect.unit (s := S4x128x128) ![3, 0, 0] S1x128x128.size inb_S4x128x128_S1x128x128_3_0_0).toLoadRect f5) (M6.view.readAt (Elt F) (Rect.unit (s := S1x512) ![0, 384] S1x128.size inb_S1x512_S1x128_0_384).toLoadRect f6))
    (k0_pay29 (ce') (M4.view.readAt (Elt F) (Rect.unit (s := S3x512) ![0, 0] S1x512.size inb_S3x512_S1x512_0_0).toLoadRect f4) (M4.view.readAt (Elt F) (Rect.unit (s := S3x512) ![1, 0] S1x512.size inb_S3x512_S1x512_1_0).toLoadRect f4)) (k0_pay30 (ce')) (M4.view.readAt (Elt F) (Rect.unit (s := S3x512) ![2, 0] S1x512.size inb_S3x512_S1x512_2_0).toLoadRect f4) (M7.view.readAt (Elt F) (Rect.unit (s := S1024x1024) ![0, 0] S1024x1024.size a7).toLoadRect f7)⟩])
      = oP b X g W C Wp Sc Wo ce pe := by
  refine (View.read_writes_full M8.view f8 _ _ _).trans ?_
  rw [View.readAt_full M0.view, View.readAt_full M2.view, View.readAt_full M7.view, hX, hg, hWo, ← hW, ← hC, ← hWp, ← hSc, hv, hce, hpe]
  rfl
theorem oS_read (c : Dev nD) (M0 : Memref sig .tc .vmem S1024x1024 .f32) (M2 : Memref sig .tc .vmem S1x1024 .f32) (M3 : Memref sig .tc .vmem S1024x2048 .f32) (M4 : Memref sig .tc .vmem S3x512 .f32) (M5 : Memref sig .tc .vmem S4x128x128 .f32) (M6 : Memref sig .tc .vmem S1x512 .f32) (M7 : Memref sig .tc .vmem S1024x1024 .f32) (M8 : Memref sig .tc .vmem S1024x1024 .f32)
    (f0 : Bf (F := F) c M0) (f2 : Bf (F := F) c M2) (f3 : Bf (F := F) c M3) (f4 : Bf (F := F) c M4) (f5 : Bf (F := F) c M5) (f6 : Bf (F := F) c M6) (f7 : Bf (F := F) c M7) (f8 : Bf (F := F) c M8)
    (X : Vec F S1024x1024 .f32) (g : Vec F S1x1024 .f32) (W : S1024x2048.Idx → F .f32) (C : S3x512.Idx → F .f32) (Wp : S4x128x128.Idx → F .f32) (Sc : S1x512.Idx → F .f32) (Wo : Vec F S1024x1024 .f32) (hX : M0.view.read (Elt F) f0 = X) (hg : M2.view.read (Elt F) f2 = g) (hW : M3.view.read (Elt F) f3 = W) (hC : M4.view.read (Elt F) f4 = C) (hWp : M5.view.read (Elt F) f5 = Wp) (hSc : M6.view.read (Elt F) f6 = Sc) (hWo : M7.view.read (Elt F) f7 = Wo)
    (ce ce' : Vec F S128x16x512 .f32) (hce : ce' = ce) (pe pe' : Vec F S128x24x512 .f32) (hpe : pe' = pe) (a0 a2 a7 a8) :
    M8.view.read (Elt F) (M8.view.writes (Elt F) f8 [⟨Rect.unit (s := S1024x1024) ![0, 0] S1024x1024.size a8,
    k0_pay56 (k0_pay35 (M0.view.readAt (Elt F) (Rect.unit (s := S1024x1024) ![0, 0] S1024x1024.size a0).toLoadRect f0)) (k0_pay39 (k0_pay34 (M0.view.readAt (Elt F) (Rect.unit (s := S1024x1024) ![0, 0] S1024x1024.size a0).toLoadRect f0) (M2.view.readAt (Elt F) (Rect.unit (s := S1x1024) ![0, 0] S1x1024.size a2).toLoadRect f2)) (M3.view.readAt (Elt F) (Rect.unit (s := S1024x2048) ![0, 0] S1024x512.size inb_S1024x2048_S1024x512_0_0).toLoadRect f3))
    (k0_pay49 (k0_pay36 (M0.view.readAt (Elt F) (Rect.unit (s := S1024x1024) ![0, 0] S1024x1024.size a0).toLoadRect f0) (M2.view.readAt (Elt F) (Rect.unit (s := S1x1024) ![0, 0] S1x1024.size a2).toLoadRect f2) (M3.view.readAt (Elt F) (Rect.unit (s := S1024x2048) ![0, 1536] S1024x512.size inb_S1024x2048_S1024x512_0_1536).toLoadRect f3)) (k0_pay42 (pe')) k0_pay48 (Scalar.ofBits .f32 0x40000000#32) (M5.view.readAt (Elt F) (Rect.unit (s := S4x128x128) ![0, 0, 0] S1x128x128.size inb_S4x128x128_S1x128x128_0_0_0).toLoadRect f5) (M6.view.readAt (Elt F) (Rect.unit (s := S1x512) ![0, 0] S1x128.size inb_S1x512_S1x128_0_0).toLoadRect f6))
    (k0_pay50 (k0_pay36 (M0.view.readAt (Elt F) (Rect.unit (s := S1024x1024) ![0, 0] S1024x1024.size a0).toLoadRect f0) (M2.view.readAt (Elt F) (Rect.unit (s := S1x1024) ![0, 0] S1x1024.size a2).toLoadRect f2) (M3.view.readAt (Elt F) (Rect.unit (s := S1024x2048) ![0, 1536] S1024x512.size inb_S1024x2048_S1024x512_0_1536).toLoadRect f3)) (k0_pay44 (pe')) k0_pay48 (M5.view.readAt (Elt F) (Rect.unit (s := S4x128x128) ![1, 0, 0] S1x128x128.size inb_S4x128x128_S1x128x128_1_0_0).toLoadRect f5) (M6.view.readAt (Elt F) (Rect.unit (s := S1x512) ![0, 128] S1x128.size inb_S1x512_S1x128_0_128).toLoadRect f6))
    (k0_pay52 (k0_pay51 (k0_pay36 (M0.view.readAt (Elt F) (Rect.unit (s := S1024x1024) ![0, 0] S1024x1024.size a0).toLoadRect f0) (M2.view.readAt (Elt F) (Rect.unit (s := S1x1024) ![0, 0] S1x1024.size a2).toLoadRect f2) (M3.view.readAt (Elt F) (Rect.unit (s := S1024x2048) ![0, 1536] S1024x512.size inb_S1024x2048_S1024x512_0_1536).toLoadRect f3)) (k0_pay46 (pe')) k0_pay48) (M5.view.readAt (Elt F) (Rect.unit (s := S4x128x128) ![2, 0, 0] S1x128x128.size inb_S4x128x128_S1x128x128_2_0_0).toLoadRect f5) (M6.view.readAt (Elt F) (Rect.unit (s := S1x512) ![0, 256] S1x128.size inb_S1x512_S1x128_0_256).toLoadRect f6))
    (k0_pay53 (k0_pay36 (M0.view.readAt (Elt F) (Rect.unit (s := S1024x1024) ![0, 0] S1024x1024.size a0).toLoadRect f0) (M2.view.readAt (Elt F) (Rect.unit (s := S1x1024) ![0, 0] S1x1024.size a2).toLoadRect f2) (M3.view.readAt (Elt F) (Rect.unit (s := S1024x2048) ![0, 1536] S1024x512.size inb_S1024x2048_S1024x512_0_1536).toLoadRect f3)) (k0_pay47 (pe')) k0_pay48 (M5.view.readAt (Elt F) (Rect.unit (s := S4x128x128) ![3, 0, 0] S1x128x128.size inb_S4x128x128_S1x128x128_3_0_0).toLoadRect f5) (M6.view.readAt (Elt F) (Rect.unit (s := S1x512) ![0, 384] S1x128.size inb_S1x512_S1x128_0_384).toLoadRect f6))
    (ce') (k0_pay55 (ce') (M4.view.readAt (Elt F) (Rect.unit (s := S3x512) ![0, 0] S1x512.size inb_S3x512_S1x512_0_0).toLoadRect f4)) (M4.view.readAt (Elt F) (Rect.unit (s := S3x512) ![1, 0] S1x512.size inb_S3x512_S1x512_1_0).toLoadRect f4) (M4.view.readAt (Elt F) (Rect.unit (s := S3x512) ![2, 0] S1x512.size inb_S3x512_S1x512_2_0).toLoadRect f4) (M7.view.readAt (Elt F) (Rect.unit (s := S1024x1024) ![0, 0] S1024x1024.size a7).toLoadRect f7)⟩])
      = oS X g W C Wp Sc Wo ce pe := by
  refine (View.read_writes_full M8.view f8 _ _ _).trans ?_
  rw [View.readAt_full M0.view, View.readAt_full M2.view, View.readAt_full M7.view, hX, hg, hWo, ← hW, ← hC, ← hWp, ← hSc, hce, hpe]
  rfl

/-- The sample's conv buffer and pool buffer, as far as the tile reads them: the histories' rows, then the tile's. -/
def hasCS (ce : Vec F S128x16x512 .f32) (h1 : S128x2x512.Idx → F .f32) (u : Vec F S128x8x512 .f32) : Prop :=
  (∀ (s : Fin 128) (k : Fin 2) (l : Fin 512), ce (ValueIdx.ix3 s (⟨6 + k.val, by omega⟩ : Fin 16) l) = h1 (ValueIdx.ix3 s k l))
    ∧ ∀ (s : Fin 128) (q : Fin 8) (l : Fin 512), ce (ValueIdx.ix3 s (⟨8 + q.val, by omega⟩ : Fin 16) l) = u (ValueIdx.ix3 s q l)
def hasPS (pe : Vec F S128x24x512 .f32) (H : S15x128x512.Idx → F .f32) (p : Vec F S128x8x512 .f32) : Prop :=
  (∀ (s : Fin 128) (k : Fin 15) (l : Fin 512), pe (ValueIdx.ix3 s (⟨1 + k.val, by omega⟩ : Fin 24) l) = H (ValueIdx.ix3 k s l))
    ∧ ∀ (s : Fin 128) (q : Fin 8) (l : Fin 512), pe (ValueIdx.ix3 s (⟨16 + q.val, by omega⟩ : Fin 24) l) = p (ValueIdx.ix3 s q l)
theorem hasCS_writes (c : Dev nD) (f : Bf (F := F) c cbM) (h8) (h6) (P u : Vec F S128x8x512 .f32) (hP : P = u) (M1 : Memref sig .tc .vmem S128x2x512 .f32) (f1 : Bf (F := F) c M1) (h1 : S128x2x512.Idx → F .f32)
    (hh : M1.view.read (Elt F) f1 = h1) (a1) (a) :
    hasCS (cbM.view.readAt (Elt F) (Rect.unit (s := S128x16x512) ![0, 0, 0] S128x16x512.size a).toLoadRect (cbM.view.writes (Elt F) f [⟨Rect.unit (s := S128x16x512) ![0, 8, 0] S128x8x512.size h8, P⟩,
      ⟨Rect.unit (s := S128x16x512) ![0, 6, 0] S128x2x512.size h6, k0_pay33 (M1.view.readAt (Elt F) (Rect.unit (s := S128x2x512) ![0, 0, 0] S128x2x512.size a1).toLoadRect f1)⟩])) h1 u := by
  subst hP
  rw [View.readAt_full cbM.view, View.readAt_full M1.view, hh]
  unfold k0_pay33
  rw [shapeCast_self]
  constructor
  · intro s k l
    have e1 : (ValueIdx.ix3 s (⟨6 + k.val, by omega⟩ : Fin 16) l : S128x16x512.Idx) = (Rect.unit (s := S128x16x512) ![0, 6, 0] S128x2x512.size h6).emb (ValueIdx.ix3 s k l) := by
      funext a
      apply Fin.ext
      match a with
      | ⟨0, _⟩ => show s.val = 0 + 1 * s.val; omega
      | ⟨1, _⟩ => show 6 + k.val = 6 + 1 * k.val; omega
      | ⟨2, _⟩ => show l.val = 0 + 1 * l.val; omega
    refine (View.read_writes_cons_unit_of_not_mem cbM.view f h8 P _ _ rfl 1 (Or.inl (by show 6 + k.val < 8; omega))).trans ?_
    rw [e1]
    exact View.read_writes_cons_emb _ _ _ _ _ _
  · intro s q l
    have e1 : (ValueIdx.ix3 s (⟨8 + q.val, by omega⟩ : Fin 16) l : S128x16x512.Idx) = (Rect.unit (s := S128x16x512) ![0, 8, 0] S128x8x512.size h8).emb (ValueIdx.ix3 s q l) := by
      funext a
      apply Fin.ext
      match a with
      | ⟨0, _⟩ => show s.val = 0 + 1 * s.val; omega
      | ⟨1, _⟩ => show 8 + q.val = 8 + 1 * q.val; omega
      | ⟨2, _⟩ => show l.val = 0 + 1 * l.val; omega
    rw [e1]
    exact View.read_writes_cons_emb _ _ _ _ _ _

end Cert.Mix

end
-- ==== Proof.MixInv.lean ====
/-
  The mixer's invariant between grid points: which sequences' pool state is written, what is in flight, and what a point may leave in
  each window's staging buffer.
-/
module

public import proofs.«01_k».proof.Proof.MixMove
public import proofs.«01_k».proof.Proof.MixOut

@[expose] public section

set_option maxRecDepth 16384

noncomputable section

namespace Cert.Mix

open Cert.Kernel3Ideal Cert.Kernel3Ideal.Gen
open Idealize.ShloMosaic
open Idealize.ShloMosaic.TcCoe Idealize.ShloMosaic.Tactic
open Idealize.ShloMosaic.Pipeline (RDat Cfg Window)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

/-! ## The grid's points -/

theorem pt_first : ∀ t : Fin grid0.N, atFirst (grid0.coords t) = 1#1 ↔ t.val = 0 := by decide +kernel
theorem pt_c2 : ∀ t : Fin grid0.N, k0_cond2 (grid0.coords t) = 1#1 ↔ t.val < 16 := by decide +kernel
theorem pt_head : ∀ t : Fin grid0.N, atHead (grid0.coords t) = 1#1 ↔ t.val % 2 = 0 := by decide +kernel
theorem pt_tail : ∀ t : Fin grid0.N, atTail (grid0.coords t) = 1#1 ↔ t.val % 2 = 1 := by decide +kernel
theorem pt_c5 : ∀ t : Fin grid0.N, k0_cond5 (grid0.coords t) = 1#1 ↔ t.val = 15 := by decide +kernel
theorem pt_c6 : ∀ t : Fin grid0.N, k0_cond6 (grid0.coords t) = 1#1 ↔ t.val = 16 := by decide +kernel
theorem pt_c7 : ∀ t : Fin grid0.N, ¬ k0_cond7 (grid0.coords t) = 1#1 := by decide +kernel
theorem pt_offsA (t : Fin grid0.N) (h : t.val < 16) : offsA (grid0.coords t) (t.val / 2) := by
  revert t; unfold offsA; decide +kernel
theorem pt_offsB (t : Fin grid0.N) (h : t.val = 16) : offsB (grid0.coords t) := by
  revert t; unfold offsB; decide +kernel

/-! ## A whole buffer owned at what it reads -/

theorem owns_hold (c : Dev nD) {sp : Space} {S : Shape} {e : EltTy} (M : Memref sig .tc sp S e) (h : M.IsWhole) (X : S.Idx → Elt F e) :
    (owns (c : Thread nD τ) M fullShare X : sProp 𝕄) ⊢ hold c M X := by
  obtain ⟨b, rfl, rfl, rfl, hm⟩ := h; cases hm
  unfold owns hold pt
  iintro ⟨%f, %hf, H⟩; iexists f; isplitr; · ipureintro; exact hf
  simp only [Memref.view_whole, View.set_whole]
  iexact H

theorem hold_owns (c : Dev nD) {sp : Space} {S : Shape} {e : EltTy} (M : Memref sig .tc sp S e) (h : M.IsWhole) (X : S.Idx → Elt F e) :
    hold c M X ⊢ (owns (c : Thread nD τ) M fullShare X : sProp 𝕄) := by
  obtain ⟨b, rfl, rfl, rfl, hm⟩ := h; cases hm
  unfold owns hold pt
  iintro ⟨%f, %hf, H⟩; iexists f; isplitr; · ipureintro; exact hf
  simp only [Memref.view_whole, View.set_whole]
  iexact H

/-! ## The tiles, the gain and the weight -/

/-- Point `n`, or the last point when `n` is larger. -/
def ptMin (n : ℕ) : Fin grid0.N := ⟨min n 16, by rw [N_0]; omega⟩
/-- The tile of point `n`, as its window stages it. -/
def tX (c : Dev nD) (n : ℕ) : Vec F S1024x1024 .f32 := iblk m c 0 (ptMin n)
/-- The gain of the norm, as its window stages it. -/
def gN (c : Dev nD) : Vec F S1x1024 .f32 := iblk m c 2 (⟨0, by rw [N_0]; omega⟩ : Fin grid0.N)
/-- The input projection's weight, as its window stages it. -/
def wN (c : Dev nD) : S1024x2048.Idx → F .f32 := iblk m c 3 (⟨0, by rw [N_0]; omega⟩ : Fin grid0.N)

/-- The conv weights, the pool's matrices and scales, the output projection's weight and the sample's convolution history, as their
    windows stage them. -/
def cN (c : Dev nD) : S3x512.Idx → F .f32 := iblk m c 4 (⟨0, by rw [N_0]; omega⟩ : Fin grid0.N)
def kN (c : Dev nD) : S4x128x128.Idx → F .f32 := iblk m c 5 (⟨0, by rw [N_0]; omega⟩ : Fin grid0.N)
def sN (c : Dev nD) : S1x512.Idx → F .f32 := iblk m c 6 (⟨0, by rw [N_0]; omega⟩ : Fin grid0.N)
def oN (c : Dev nD) : Vec F S1024x1024 .f32 := iblk m c 7 (⟨0, by rw [N_0]; omega⟩ : Fin grid0.N)
def hN (c : Dev nD) : S128x2x512.Idx → F .f32 := V m c main_arg1

theorem at_min (t : Fin grid0.N) : ptMin t.val = t := Fin.ext (by have := lt_of_lt_of_eq t.isLt N_0; show min t.val 16 = t.val; omega)
theorem tX_at (c : Dev nD) (t : Fin grid0.N) : iblk m c 0 t = tX m c t.val := by unfold tX; rw [at_min]

/-- What the prompts' pool state ends at: of sequence `s`, the last rows of its second tile. -/
def GA (c : Dev nD) : S15x8x512.Idx → F .f32 := fun i => rP (pP (tX m c (2 * (i 1).val + 1)) (gN m c) (wN m c)) i
/-- What the sample's pool state ends at. -/
def GB (c : Dev nD) : S15x128x512.Idx → F .f32 := rS (V m c main_v0) (pS (tX m c 16) (gN m c) (wN m c))
/-- What a prompt's tile leaves for the prompt's convolution state, and the sample's tile for the sample's. -/
def tC (c : Dev nD) (n : ℕ) : Vec F S1x2x512 .f32 := cP (uP (tX m c n) (gN m c) (wN m c))
def tS (c : Dev nD) : Vec F S128x2x512 .f32 := cS (uS (tX m c 16) (gN m c) (wN m c))

/-- The gated convolution input and the pool input of point `n`'s tile. -/
def uT (c : Dev nD) (n : ℕ) : Vec F S1024x512 .f32 := uP (tX m c n) (gN m c) (wN m c)
def pT (c : Dev nD) (n : ℕ) : Vec F S1024x512 .f32 := pP (tX m c n) (gN m c) (wN m c)
/-- What a prompt's point writes of the tokens: a sequence's first tile with nothing before it, its second with the first's last rows. -/
def tO (c : Dev nD) (n : ℕ) : Vec F S1024x1024 .f32 :=
  oP (posV (grid0.coords (ptMin n))) (tX m c n) (gN m c) (wN m c) (cN m c) (kN m c) (sN m c) (oN m c)
    (cE (if n % 2 = 0 then k0_pay2 else cTop (uT m c (n - 1))) (uT m c n)) (pE (if n % 2 = 0 then k0_pay3 else pTop (pT m c (n - 1))) (pT m c n))
theorem tO_first (c : Dev nD) (t : Fin grid0.N) (h : t.val % 2 = 0) : tO m c t.val = oP (posV (grid0.coords t)) (tX m c t.val) (gN m c) (wN m c) (cN m c) (kN m c) (sN m c) (oN m c)
    (cE k0_pay2 (uT m c t.val)) (pE k0_pay3 (pT m c t.val)) := by
  unfold tO; rw [at_min, if_pos h, if_pos h]
theorem tO_second (c : Dev nD) (t : Fin grid0.N) (h : t.val % 2 = 1) : tO m c t.val = oP (posV (grid0.coords t)) (tX m c t.val) (gN m c) (wN m c) (cN m c) (kN m c) (sN m c) (oN m c)
    (cE (cTop (uT m c (t.val - 1))) (uT m c t.val)) (pE (pTop (pT m c (t.val - 1))) (pT m c t.val)) := by
  unfold tO; rw [at_min, if_neg (by omega), if_neg (by omega)]
/-- What the sample's point writes of the tokens. -/
def tOS (c : Dev nD) (Y : Vec F S1024x1024 .f32) : Prop :=
  ∃ ce pe, hasCS ce (hN m c) (uS (tX m c 16) (gN m c) (wN m c)) ∧ hasPS pe (V m c main_v0) (pS (tX m c 16) (gN m c) (wN m c))
    ∧ Y = oS (tX m c 16) (gN m c) (wN m c) (cN m c) (kN m c) (sN m c) (oN m c) ce pe

/-! ## The prompts' pool state, sequence by sequence -/

/-- Before point `n`: every sequence whose second tile is done is written. -/
def AgreeA (c : Dev nD) (n : ℕ) (fa : Bf (F := F) c stAM) : Prop := ∀ i : S15x8x512.Idx, 2 * (i 1).val + 1 < n → fa i = GA m c i

theorem agree_zero (c : Dev nD) (fa) : AgreeA m c 0 fa := fun i h => absurd h (Nat.not_lt_zero _)
theorem agree_step (c : Dev nD) (n : ℕ) (fa fa' : Bf (F := F) c stAM) (h : AgreeA m c n fa)
    (u : UpdA c (n / 2) 15 (rP (pP (tX m c n) (gN m c) (wN m c))) fa' fa) : AgreeA m c (n + 1) fa' := by
  intro i hi
  have h0 : (i 0).val < 15 := (i 0).isLt
  rw [u i]
  by_cases e : (i 1).val = n / 2
  · rw [if_pos ⟨e, h0⟩]
    unfold GA
    rw [show n = 2 * (i 1).val + 1 by omega]
  · rw [if_neg (fun hh => e hh.1)]
    exact h i (by omega)
theorem agree_all (c : Dev nD) (n : ℕ) (hn : 16 ≤ n) (fa : Bf (F := F) c stAM) (h : AgreeA m c n fa) : fa = GA m c :=
  funext fun (i : S15x8x512.Idx) => h i (by have : (i 1).val < 8 := (i 1).isLt; omega)
theorem agree_mono (c : Dev nD) (n : ℕ) (hn : 16 ≤ n) (fa : Bf (F := F) c stAM) (h : AgreeA m c n fa) : AgreeA m c (n + 1) fa := by
  rw [agree_all m c n hn fa h]; exact fun _ _ => rfl

/-! ## The invariant -/

/-- The three rows of the kernel's cells, each cell at zero. -/
def sems0 (c : Dev nD) : sProp 𝕄 := iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0)
def sems1 (c : Dev nD) : sProp 𝕄 := iprop(semVal ((c : Thread nD τ), osem 15) 0 ∗ semVal ((c : Thread nD τ), osem 16) 0 ∗ semVal ((c : Thread nD τ), osem 17) 0 ∗ semVal ((c : Thread nD τ), osem 18) 0 ∗ semVal ((c : Thread nD τ), osem 19) 0 ∗ semVal ((c : Thread nD τ), osem 20) 0 ∗ semVal ((c : Thread nD τ), osem 21) 0 ∗ semVal ((c : Thread nD τ), osem 22) 0 ∗ semVal ((c : Thread nD τ), osem 23) 0 ∗ semVal ((c : Thread nD τ), osem 24) 0 ∗ semVal ((c : Thread nD τ), osem 25) 0 ∗ semVal ((c : Thread nD τ), osem 26) 0 ∗ semVal ((c : Thread nD τ), osem 27) 0 ∗ semVal ((c : Thread nD τ), osem 28) 0 ∗ semVal ((c : Thread nD τ), osem 29) 0)
def sems2 (c : Dev nD) : sProp 𝕄 := iprop(semVal ((c : Thread nD τ), osem 30) 0 ∗ semVal ((c : Thread nD τ), osem 31) 0 ∗ semVal ((c : Thread nD τ), osem 32) 0 ∗ semVal ((c : Thread nD τ), osem 33) 0 ∗ semVal ((c : Thread nD τ), osem 34) 0 ∗ semVal ((c : Thread nD τ), osem 35) 0 ∗ semVal ((c : Thread nD τ), osem 36) 0 ∗ semVal ((c : Thread nD τ), osem 37) 0 ∗ semVal ((c : Thread nD τ), osem 38) 0 ∗ semVal ((c : Thread nD τ), osem 39) 0 ∗ semVal ((c : Thread nD τ), osem 40) 0 ∗ semVal ((c : Thread nD τ), osem 41) 0 ∗ semVal ((c : Thread nD τ), osem 42) 0 ∗ semVal ((c : Thread nD τ), osem 43) 0 ∗ semVal ((c : Thread nD τ), osem 44) 0)
/-- All of them. -/
def sems (c : Dev nD) : sProp 𝕄 := iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0 ∗ semVal ((c : Thread nD τ), osem 16) 0 ∗ semVal ((c : Thread nD τ), osem 17) 0 ∗ semVal ((c : Thread nD τ), osem 18) 0 ∗ semVal ((c : Thread nD τ), osem 19) 0 ∗ semVal ((c : Thread nD τ), osem 20) 0 ∗ semVal ((c : Thread nD τ), osem 21) 0 ∗ semVal ((c : Thread nD τ), osem 22) 0 ∗ semVal ((c : Thread nD τ), osem 23) 0 ∗ semVal ((c : Thread nD τ), osem 24) 0 ∗ semVal ((c : Thread nD τ), osem 25) 0 ∗ semVal ((c : Thread nD τ), osem 26) 0 ∗ semVal ((c : Thread nD τ), osem 27) 0 ∗ semVal ((c : Thread nD τ), osem 28) 0 ∗ semVal ((c : Thread nD τ), osem 29) 0 ∗ semVal ((c : Thread nD τ), osem 30) 0 ∗ semVal ((c : Thread nD τ), osem 31) 0 ∗ semVal ((c : Thread nD τ), osem 32) 0 ∗ semVal ((c : Thread nD τ), osem 33) 0 ∗ semVal ((c : Thread nD τ), osem 34) 0 ∗ semVal ((c : Thread nD τ), osem 35) 0 ∗ semVal ((c : Thread nD τ), osem 36) 0 ∗ semVal ((c : Thread nD τ), osem 37) 0 ∗ semVal ((c : Thread nD τ), osem 38) 0 ∗ semVal ((c : Thread nD τ), osem 39) 0 ∗ semVal ((c : Thread nD τ), osem 40) 0 ∗ semVal ((c : Thread nD τ), osem 41) 0 ∗ semVal ((c : Thread nD τ), osem 42) 0 ∗ semVal ((c : Thread nD τ), osem 43) 0 ∗ semVal ((c : Thread nD τ), osem 44) 0)
theorem sems_split (c : Dev nD) : sems (F := F) c ⊢ iprop(sems0 c ∗ sems1 c ∗ sems2 c) := by
  unfold sems sems0 sems1 sems2
  iintro ⟨S0, S1, S2, S3, S4, S5, S6, S7, S8, S9, S10, S11, S12, S13, S14, S15, S16, S17, S18, S19, S20, S21, S22, S23, S24, S25, S26, S27, S28, S29, S30, S31, S32, S33, S34, S35, S36, S37, S38, S39, S40, S41, S42, S43, S44⟩
  isplitl [S0 S1 S2 S3 S4 S5 S6 S7 S8 S9 S10 S11 S12 S13 S14]
  · isplitl [S0]; · iexact S0
    iframe S1 S2 S3 S4 S5 S6 S7 S8 S9 S10 S11 S12 S13
    iexact S14
  isplitl [S15 S16 S17 S18 S19 S20 S21 S22 S23 S24 S25 S26 S27 S28 S29]
  · isplitl [S15]; · iexact S15
    iframe S16 S17 S18 S19 S20 S21 S22 S23 S24 S25 S26 S27 S28
    iexact S29
  iframe S30 S31 S32 S33 S34 S35 S36 S37 S38 S39 S40 S41 S42 S43
  iexact S44
theorem sems_join (c : Dev nD) : iprop(sems0 c ∗ sems1 c ∗ sems2 c) ⊢ sems (F := F) c := by
  unfold sems sems0 sems1 sems2
  iintro ⟨⟨S0, S1, S2, S3, S4, S5, S6, S7, S8, S9, S10, S11, S12, S13, S14⟩, ⟨S15, S16, S17, S18, S19, S20, S21, S22, S23, S24, S25, S26, S27, S28, S29⟩, ⟨S30, S31, S32, S33, S34, S35, S36, S37, S38, S39, S40, S41, S42, S43, S44⟩⟩
  iframe S0 S1 S2 S3 S4 S5 S6 S7 S8 S9 S10 S11 S12 S13 S14 S15 S16 S17 S18 S19 S20 S21 S22 S23 S24 S25 S26 S27 S28 S29 S30 S31 S32 S33 S34 S35 S36 S37 S38 S39 S40 S41 S42 S43
  iexact S44

/-- The prompts' pool state before point `n`. -/
def stAat (c : Dev nD) (n : ℕ) : sProp 𝕄 := iprop(∃ fa : Bf (F := F) c stAM, ⌜AgreeA m c n fa⌝ ∗ pt c stAM fa)

/-- The prompts' conv and pool buffers before point `n`: before a sequence's second tile, the first's rows. -/
def caAt (c : Dev nD) (n : ℕ) : sProp 𝕄 := iprop(∃ fc : Bf (F := F) c caM, ⌜n % 2 = 1 → hasC c fc (uT m c (n - 1))⌝ ∗ pt c caM fc)
def paAt (c : Dev nD) (n : ℕ) : sProp 𝕄 := iprop(∃ fp : Bf (F := F) c paM, ⌜n % 2 = 1 → hasP c fp (pT m c (n - 1))⌝ ∗ pt c paM fp)

/-- Through the prompts' points. -/
def phiRun (c : Dev nD) (n : ℕ) : sProp 𝕄 :=
  iprop((caAt m c n ∗ paAt m c n ∗ some' c cbM ∗ some' c pbM) ∗ (∃ r, prngReg c r) ∗ sems c ∗ pt c histM (V m c main_v0) ∗ stAat m c n ∗ some' c stBM)
/-- Before the sample's point: the rows of the sample's pool history are in flight. -/
def phiFly (c : Dev nD) : sProp 𝕄 :=
  iprop((some' c caM ∗ some' c paM ∗ some' c cbM) ∗ (∃ r, prngReg c r) ∗ sems1 c ∗ sems2 c
    ∗ ((∃ a, flH c 0 (hr 1 inb_S128x24x512_S128x1x512_0_1_0) (hs 0 inb_S15x128x512_S1x128x512_0_0_0) a (V m c main_v0)) ∗ (∃ a, flH c 1 (hr 2 inb_S128x24x512_S128x1x512_0_2_0) (hs 1 inb_S15x128x512_S1x128x512_1_0_0) a (V m c main_v0)) ∗ (∃ a, flH c 2 (hr 3 inb_S128x24x512_S128x1x512_0_3_0) (hs 2 inb_S15x128x512_S1x128x512_2_0_0) a (V m c main_v0)) ∗ (∃ a, flH c 3 (hr 4 inb_S128x24x512_S128x1x512_0_4_0) (hs 3 inb_S15x128x512_S1x128x512_3_0_0) a (V m c main_v0)) ∗ (∃ a, flH c 4 (hr 5 inb_S128x24x512_S128x1x512_0_5_0) (hs 4 inb_S15x128x512_S1x128x512_4_0_0) a (V m c main_v0)) ∗ (∃ a, flH c 5 (hr 6 inb_S128x24x512_S128x1x512_0_6_0) (hs 5 inb_S15x128x512_S1x128x512_5_0_0) a (V m c main_v0)) ∗ (∃ a, flH c 6 (hr 7 inb_S128x24x512_S128x1x512_0_7_0) (hs 6 inb_S15x128x512_S1x128x512_6_0_0) a (V m c main_v0)) ∗ (∃ a, flH c 7 (hr 8 inb_S128x24x512_S128x1x512_0_8_0) (hs 7 inb_S15x128x512_S1x128x512_7_0_0) a (V m c main_v0)) ∗ (∃ a, flH c 8 (hr 9 inb_S128x24x512_S128x1x512_0_9_0) (hs 8 inb_S15x128x512_S1x128x512_8_0_0) a (V m c main_v0)) ∗ (∃ a, flH c 9 (hr 10 inb_S128x24x512_S128x1x512_0_10_0) (hs 9 inb_S15x128x512_S1x128x512_9_0_0) a (V m c main_v0)) ∗ (∃ a, flH c 10 (hr 11 inb_S128x24x512_S128x1x512_0_11_0) (hs 10 inb_S15x128x512_S1x128x512_10_0_0) a (V m c main_v0)) ∗ (∃ a, flH c 11 (hr 12 inb_S128x24x512_S128x1x512_0_12_0) (hs 11 inb_S15x128x512_S1x128x512_11_0_0) a (V m c main_v0)) ∗ (∃ a, flH c 12 (hr 13 inb_S128x24x512_S128x1x512_0_13_0) (hs 12 inb_S15x128x512_S1x128x512_12_0_0) a (V m c main_v0)) ∗ (∃ a, flH c 13 (hr 14 inb_S128x24x512_S128x1x512_0_14_0) (hs 13 inb_S15x128x512_S1x128x512_13_0_0) a (V m c main_v0)) ∗ (∃ a, flH c 14 (hr 15 inb_S128x24x512_S128x1x512_0_15_0) (hs 14 inb_S15x128x512_S1x128x512_14_0_0) a (V m c main_v0)))
    ∗ (histM.view.loc (c : Thread nD τ) ↦[histRest c]{fullShare} V m c main_v0) ∗ (∃ gp, ptOwn c pbT gp) ∗ (∃ g0, ptOwn c (hr 0 inb_S128x24x512_S128x1x512_0_0_0) g0)
    ∗ stAat m c 16 ∗ some' c stBM)
/-- After the sample's point. -/
def phiEnd (c : Dev nD) : sProp 𝕄 :=
  iprop((some' c caM ∗ some' c paM ∗ some' c cbM ∗ some' c pbM) ∗ (∃ r, prngReg c r) ∗ sems c ∗ pt c histM (V m c main_v0) ∗ stAat m c 17 ∗ pt c stBM (GB m c))

/-- The invariant before point `n`. -/
def phi (c : Dev nD) (n : ℕ) : sProp 𝕄 := if n ≤ 15 then phiRun m c n else if n = 16 then phiFly m c else phiEnd m c
theorem phi_run (c : Dev nD) (n : ℕ) (h : n ≤ 15) : phi m c n = phiRun m c n := if_pos h
theorem phi_fly (c : Dev nD) : phi m c 16 = phiFly m c := rfl
theorem phi_end (c : Dev nD) : phi m c 17 = phiEnd m c := rfl

/-! ## The windows -/

/-- What point `t` may leave of the tokens. -/
def after8 (c : Dev nD) (t : ℕ) (X : Vec F S1024x1024 .f32) : Prop := if t < 16 then X = tO m c t else tOS m c X
/-- What point `t` may leave for a prompt's convolution state: its tile's last rows through the prompts, what it found at the sample. -/
def after9 (c : Dev nD) (t : ℕ) (Y X : Vec F S1x2x512 .f32) : Prop := if t < 16 then X = tC m c t else X = Y
/-- What point `t` may leave for the sample's convolution state. -/
def after10 (c : Dev nD) (t : ℕ) (X : Vec F S128x2x512 .f32) : Prop := t = 16 → X = tS m c

/-- The pipeline's data: the arrays as the region finds them, what each point leaves, the invariant. -/
def rdat (c : Dev nD) : RDat τ (Elt F) Unit ℕ (Pipeline.UD sig nD τ) ℕ cfg0 c where
  A w := V m c (Pipeline.arrRef spec0 w)
  after w t := match w with
    | 0 => fun Y X => X = Y
    | 1 => fun Y X => X = Y
    | 2 => fun Y X => X = Y
    | 3 => fun Y X => X = Y
    | 4 => fun Y X => X = Y
    | 5 => fun Y X => X = Y
    | 6 => fun Y X => X = Y
    | 7 => fun Y X => X = Y
    | 8 => fun _ X => after8 m c t.val X
    | 9 => fun Y X => after9 m c t.val Y X
    | 10 => fun _ X => after10 m c t.val X
    | ⟨_ + 11, h⟩ => absurd h (Nat.not_lt.mpr (Nat.le_add_left 11 _))
  Φ t := phi m c t.val
  q w := Pipeline.shareOf spec0 w
  owed _ := 0

theorem osem_ok : Pipeline.OwnSemFacts spec0 osem := by decide
theorem sems_eq (c : Dev nD) :
    (Pipeline.ownSems0 (Ix := Unit) (Name := ℕ) (U := Pipeline.UD sig nD τ) (Lvl := ℕ) (Val := Elt F) (τ := τ) osem c : sProp 𝕄) = sems c := by
  rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44] (by decide) (by decide)]; rfl
/-- The buffers in HBM the kernel reads itself, and those it writes itself. -/
def hbmRefs : Finset (Ref sig .tc) := {main_v0}
def outRefs : Finset (Ref sig .tc) := {main_v3_2, main_v3_4}
theorem hbmRefs_sub : hbmRefs ⊆ Pipeline.restRefs sig spec0 := by decide
theorem outRefs_sub : outRefs ⊆ Pipeline.restRefs sig spec0 \ hbmRefs := by decide
theorem hist_eq (c : Dev nD) :
    (bigSep hbmRefs (fun b => ((c : Thread nD τ).loc b) ↦{fullShare} V m c b) : sProp 𝕄) = pt c histM (V m c main_v0) := by
  rw [BI.bigSep_eq_bigSepL_of_eq [main_v0] (by decide) (by decide)]; rfl
theorem routed_eq (c : Dev nD) (W : (b : Ref sig .tc) → Buf (Elt F) ((c : Thread nD τ).loc b)) :
    (Pipeline.routed outRefs c W : sProp 𝕄) = iprop(pt c stAM (W main_v3_2) ∗ pt c stBM (W main_v3_4)) := by
  unfold Pipeline.routed
  rw [BI.bigSep_eq_bigSepL_of_eq [main_v3_2, main_v3_4] (by decide) (by decide)]; rfl

/-- What the buffers the kernel writes itself end at. -/
def ends (c : Dev nD) : (b : Ref sig .tc) → Buf (Elt F) ((c : Thread nD τ).loc b) :=
  Function.update (Function.update (V m c) main_v3_2 (GA m c)) main_v3_4 (GB m c)
theorem ends_A (c : Dev nD) : ends m c main_v3_2 = GA m c := by
  unfold ends; rw [Function.update_of_ne (by decide), Function.update_self]
theorem ends_B (c : Dev nD) : ends m c main_v3_4 = GB m c := by
  unfold ends; rw [Function.update_self]

theorem phi_in (c : Dev nD) : (Pipeline.ΦDRG osem spec0 hbmRefs outRefs (V m) (V m) c : sProp 𝕄) ⊢ phi m c 0 := by
  rw [Pipeline.ΦDRG_eq, scopedRest0_eq, sems_eq, hist_eq, routed_eq, phi_run m c 0 (by decide)]
  unfold phiRun stAat caAt paAt
  iintro ⟨⟨⟨%fc, HCA⟩, ⟨%fp, HPA⟩, H⟩, Hp, S, HH, HA, HB⟩
  isplitl [HCA HPA H]
  · isplitl [HCA]
    · iexists fc; isplitr; · ipureintro; exact fun h => absurd h (by decide)
      iexact HCA
    isplitl [HPA]
    · iexists fp; isplitr; · ipureintro; exact fun h => absurd h (by decide)
      iexact HPA
    iexact H
  iframe Hp S HH
  isplitl [HA]
  · iexists _; isplitr; swap; · iexact HA
    ipureintro; exact agree_zero m c _
  iexists _; iexact HB
theorem phi_out (c : Dev nD) : phi m c 17 ⊢ (Pipeline.ΦDRG osem spec0 hbmRefs outRefs (V m) (ends m) c : sProp 𝕄) := by
  rw [Pipeline.ΦDRG_eq, scopedRest0_eq, sems_eq, hist_eq, routed_eq, phi_end, ends_A, ends_B]
  unfold phiEnd stAat
  iintro ⟨H, Hp, S, HH, ⟨%fa, %ha, HA⟩, HB⟩
  iframe H Hp S HH
  isplitl [HA]
  · rw [← agree_all m c 17 (by decide) fa ha]; iexact HA
  iexact HB

/-- Window 0 finds its point's tile. -/
theorem finds0 (c : Dev nD) (t : Fin cfg0.N) (Y) (h : (rdat m c).Finds 0 t Y) : Y = tX m c t.val := by
  obtain ⟨d, hd⟩ := (rdat m c).finds_in_eq_fetched 0 rfl (fun _ _ _ => rfl) (fun _ _ _ h => h) t Y h
  rw [hd, ← tX_at]; rfl
/-- Window 2 finds the gain. -/
theorem finds2 (c : Dev nD) (t : Fin cfg0.N) (Y) (h : (rdat m c).Finds 2 t Y) : Y = gN m c := by
  obtain ⟨d, hd⟩ := (rdat m c).finds_in_eq_fetched 2 rfl (fun _ _ _ => rfl) (fun _ _ _ h => h) t Y h
  rw [hd]; rfl
/-- Window 3 finds the weight. -/
theorem finds3 (c : Dev nD) (t : Fin cfg0.N) (Y) (h : (rdat m c).Finds 3 t Y) : Y = wN m c := by
  obtain ⟨d, hd⟩ := (rdat m c).finds_in_eq_fetched 3 rfl (fun _ _ _ => rfl) (fun _ _ _ h => h) t Y h
  rw [hd]; rfl
theorem index1 : ∀ t : Fin cfg0.N, (cfg0.win 1).index t = ![0, 0, 0] := by decide +kernel
theorem emb1 (t : Fin cfg0.N) (y : S128x2x512.Idx) : ((cfg0.win 1).rect t).emb y = y := by
  funext a
  apply Fin.ext
  match a with
  | ⟨0, _⟩ =>
    refine (Pipeline.Window.rect_emb_val (cfg0.win 1) t _ 0 (hk := rfl)).trans ?_
    rw [index1]; show 0 * 128 + (y 0).val = (y 0).val; omega
  | ⟨1, _⟩ =>
    refine (Pipeline.Window.rect_emb_val (cfg0.win 1) t _ 1 (hk := rfl)).trans ?_
    rw [index1]; show 0 * 2 + (y 1).val = (y 1).val; omega
  | ⟨2, _⟩ =>
    refine (Pipeline.Window.rect_emb_val (cfg0.win 1) t _ 2 (hk := rfl)).trans ?_
    rw [index1]; show 0 * 512 + (y 2).val = (y 2).val; omega
/-- Window 1 finds the sample's convolution history. -/
theorem finds1 (c : Dev nD) (t : Fin cfg0.N) (Y) (h : (rdat m c).Finds 1 t Y) : Y = hN m c := by
  obtain ⟨d, hd⟩ := (rdat m c).finds_in_eq_fetched 1 rfl (fun _ _ _ => rfl) (fun _ _ _ h => h) t Y h
  rw [hd]; funext y; exact congrArg (V m c main_arg1) (emb1 t y)
/-- Window 4 finds the conv weights. -/
theorem finds4 (c : Dev nD) (t : Fin cfg0.N) (Y) (h : (rdat m c).Finds 4 t Y) : Y = cN m c := by
  obtain ⟨d, hd⟩ := (rdat m c).finds_in_eq_fetched 4 rfl (fun _ _ _ => rfl) (fun _ _ _ h => h) t Y h
  rw [hd]; rfl
/-- Window 5 finds the pool's matrices. -/
theorem finds5 (c : Dev nD) (t : Fin cfg0.N) (Y) (h : (rdat m c).Finds 5 t Y) : Y = kN m c := by
  obtain ⟨d, hd⟩ := (rdat m c).finds_in_eq_fetched 5 rfl (fun _ _ _ => rfl) (fun _ _ _ h => h) t Y h
  rw [hd]; rfl
/-- Window 6 finds the pool's scales. -/
theorem finds6 (c : Dev nD) (t : Fin cfg0.N) (Y) (h : (rdat m c).Finds 6 t Y) : Y = sN m c := by
  obtain ⟨d, hd⟩ := (rdat m c).finds_in_eq_fetched 6 rfl (fun _ _ _ => rfl) (fun _ _ _ h => h) t Y h
  rw [hd]; rfl
/-- Window 7 finds the output projection's weight. -/
theorem finds7 (c : Dev nD) (t : Fin cfg0.N) (Y) (h : (rdat m c).Finds 7 t Y) : Y = oN m c := by
  obtain ⟨d, hd⟩ := (rdat m c).finds_in_eq_fetched 7 rfl (fun _ _ _ => rfl) (fun _ _ _ h => h) t Y h
  rw [hd]; rfl

end Cert.Mix

end
-- ==== Proof.MixA.lean ====
/-
  A grid point at a first tile of a sequence, not the first of all.
-/
module

public import proofs.«01_k».proof.Proof.MixOut

@[expose] public section

set_option maxRecDepth 16384

noncomputable section

namespace Cert.Mix

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option sl_exec.lendShare "HPA" in
theorem stepHead (c : Dev nD) (i : grid0.Coords) (hp : k0_cond2 i = 1#1) (hh : atHead i = 1#1) (hz : ¬ atFirst i = 1#1) (ht : ¬ atTail i = 1#1) (hc5 : ¬ k0_cond5 i = 1#1) (hc6 : ¬ k0_cond6 i = 1#1)
    (M0 : Memref sig .tc .vmem S1024x1024 .f32) (h0 : M0.IsWhole) (M1 : Memref sig .tc .vmem S128x2x512 .f32) (h1 : M1.IsWhole) (M2 : Memref sig .tc .vmem S1x1024 .f32) (h2 : M2.IsWhole) (M3 : Memref sig .tc .vmem S1024x2048 .f32) (h3 : M3.IsWhole) (M4 : Memref sig .tc .vmem S3x512 .f32) (h4 : M4.IsWhole) (M5 : Memref sig .tc .vmem S4x128x128 .f32) (h5 : M5.IsWhole) (M6 : Memref sig .tc .vmem S1x512 .f32) (h6 : M6.IsWhole) (M7 : Memref sig .tc .vmem S1024x1024 .f32) (h7 : M7.IsWhole) (M8 : Memref sig .tc .vmem S1024x1024 .f32) (h8 : M8.IsWhole) (M9 : Memref sig .tc .vmem S1x2x512 .f32) (h9 : M9.IsWhole) (M10 : Memref sig .tc .vmem S128x2x512 .f32) (h10 : M10.IsWhole)
    (f0 : Bf (F := F) c M0) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (fc : Bf (F := F) c caM) (fp : Bf (F := F) c paM) (fa : Bf (F := F) c stAM) (X : Vec F S1024x1024 .f32) (g : Vec F S1x1024 .f32) (W' : S1024x2048.Idx → F .f32) (hX : M0.view.read (Elt F) f0 = X) (hg : M2.view.read (Elt F) f2 = g) (hW : M3.view.read (Elt F) f3 = W') (C : S3x512.Idx → F .f32) (Wp : S4x128x128.Idx → F .f32) (Sc : S1x512.Idx → F .f32) (Wo : Vec F S1024x1024 .f32) (hC : M4.view.read (Elt F) f4 = C) (hWp : M5.view.read (Elt F) f5 = Wp) (hSc : M6.view.read (Elt F) f6 = Sc) (hWo : M7.view.read (Elt F) f7 = Wo) (s : ℕ) (ho : offsA i s)
    (W : Waits sig Unit) (Q : PUnit → sProp 𝕄) :
    iprop(pt c M0 f0 ∗ pt c M2 f2 ∗ pt c M3 f3 ∗ pt c M4 f4 ∗ pt c M5 f5 ∗ pt c M6 f6 ∗ pt c M7 f7 ∗ pt c M8 f8 ∗ pt c M9 f9 ∗ pt c caM fc ∗ pt c paM fp ∗ pt c stAM fa ∗ semVal ((c : Thread nD τ), osem 30) 0 ∗ semVal ((c : Thread nD τ), osem 31) 0 ∗ semVal ((c : Thread nD τ), osem 32) 0 ∗ semVal ((c : Thread nD τ), osem 33) 0 ∗ semVal ((c : Thread nD τ), osem 34) 0 ∗ semVal ((c : Thread nD τ), osem 35) 0 ∗ semVal ((c : Thread nD τ), osem 36) 0 ∗ semVal ((c : Thread nD τ), osem 37) 0 ∗ semVal ((c : Thread nD τ), osem 38) 0 ∗ semVal ((c : Thread nD τ), osem 39) 0 ∗ semVal ((c : Thread nD τ), osem 40) 0 ∗ semVal ((c : Thread nD τ), osem 41) 0 ∗ semVal ((c : Thread nD τ), osem 42) 0 ∗ semVal ((c : Thread nD τ), osem 43) 0 ∗ semVal ((c : Thread nD τ), osem 44) 0
      ∗ owes (c : Thread nD τ) 0 W
      ∗ (iprop(pt c M0 f0 ∗ pt c M2 f2 ∗ pt c M3 f3 ∗ pt c M4 f4 ∗ pt c M5 f5 ∗ pt c M6 f6 ∗ pt c M7 f7 ∗ hold c M8 (oP (posV i) X g W' C Wp Sc Wo (cE k0_pay2 (uP X g W')) (pE k0_pay3 (pP X g W'))) ∗ hold c M9 (cP (uP X g W')) ∗ (∃ fc' : Bf (F := F) c caM, ⌜hasC c fc' (uP X g W')⌝ ∗ pt c caM fc') ∗ (∃ fp' : Bf (F := F) c paM, ⌜hasP c fp' (pP X g W')⌝ ∗ pt c paM fp') ∗ (∃ fa' : Bf (F := F) c stAM, ⌜UpdA c s 15 (rP (pP X g W')) fa' fa⌝ ∗ pt c stAM fa') ∗ semVal ((c : Thread nD τ), osem 30) 0 ∗ semVal ((c : Thread nD τ), osem 31) 0 ∗ semVal ((c : Thread nD τ), osem 32) 0 ∗ semVal ((c : Thread nD τ), osem 33) 0 ∗ semVal ((c : Thread nD τ), osem 34) 0 ∗ semVal ((c : Thread nD τ), osem 35) 0 ∗ semVal ((c : Thread nD τ), osem 36) 0 ∗ semVal ((c : Thread nD τ), osem 37) 0 ∗ semVal ((c : Thread nD τ), osem 38) 0 ∗ semVal ((c : Thread nD τ), osem 39) 0 ∗ semVal ((c : Thread nD τ), osem 40) 0 ∗ semVal ((c : Thread nD τ), osem 41) 0 ∗ semVal ((c : Thread nD τ), osem 42) 0 ∗ semVal ((c : Thread nD τ), osem 43) 0 ∗ semVal ((c : Thread nD τ), osem 44) 0 ∗ ∃ W₁, owes (c : Thread nD τ) 0 W₁) -∗ Q ⟨⟩))
    ⊢ wp frame (wpE (defs₀ (F := F)) Variants.none c none) Set.univ (bodyP i M0 h0 M1 h1 M2 h2 M3 h3 M4 h4 M5 h5 M6 h6 M7 h7 M8 h8 M9 h9 M10 h10) Q := by
  iintro ⟨H0, H2, H3, H4, H5, H6, H7, H8, H9, HCA, HPA, HST, S30, S31, S32, S33, S34, S35, S36, S37, S38, S39, S40, S41, S42, S43, S44, HO, Hk⟩
  unfold bodyP
  simp only [cc0_mixer_eq_skeleton]
  unfold cc0_mixer_skel
  sl_exec
  sl_step
  iapply Hk
  iframe H0 H2 H3 H4 H5 H6 H7
  isplitl [H8]
  · iexists _
    isplitr
    swap
    · iexact H8
    ipureintro
    exact oP_read c M0 M2 M3 M4 M5 M6 M7 M8 f0 f2 f3 f4 f5 f6 f7 f8 (posV i) X g W' C Wp Sc Wo hX hg hW hC hWp hSc hWo _ rfl
      _ _ (cE_eq _ _ _ _ _ (uP_eq c M0 M2 M3 f0 f2 f3 X g W' hX hg hW _ _) _ _ rfl) _ _ (pE_eq _ _ _ _ _ (pP_eq c M0 M2 M3 f0 f2 f3 X g W' hX hg hW _ _) _ _ rfl) _ _ _ _
  isplitl [H9]
  · iexists _
    isplitr
    swap
    · iexact H9
    ipureintro
    exact cP_read c M9 f9 _ _ _ _ _ (uP_eq c M0 M2 M3 f0 f2 f3 X g W' hX hg hW _ _) _
  isplitl [HCA]
  · iexists _
    isplitr
    swap
    · iexact HCA
    ipureintro
    exact hasC_writes c fc _ _ _ (uP_eq c M0 M2 M3 f0 f2 f3 X g W' hX hg hW _ _) _
  isplitl [HPA_lend HPA_lend_2 HPA_lend_3 HPA_lend_4 HPA_lend_5 HPA_lend_6 HPA_lend_7 HPA]
  · iexists _
    isplitr
    swap
    · iapply (shares8 c paM _)
      isplitl [HPA_lend]; · iexact HPA_lend
      isplitl [HPA_lend_2]; · iexact HPA_lend_2
      isplitl [HPA_lend_3]; · iexact HPA_lend_3
      isplitl [HPA_lend_4]; · iexact HPA_lend_4
      isplitl [HPA_lend_5]; · iexact HPA_lend_5
      isplitl [HPA_lend_6]; · iexact HPA_lend_6
      isplitl [HPA_lend_7]; · iexact HPA_lend_7
      iexact HPA
    ipureintro
    exact hasP_writes c fp _ _ _ (pP_eq c M0 M2 M3 f0 f2 f3 X g W' hX hg hW _ _) _
  isplitl [HST]
  · iexists _
    isplitr
    swap
    · iexact HST
    ipureintro
    refine stepA ?_ (by decide) _ ho.2.2.2.2.2.2.2.2.2.2.2.2.2.2 _ 1039 rfl _ _ _ _ (pP_eq c M0 M2 M3 f0 f2 f3 X g W' hX hg hW _ _) _
    refine stepA ?_ (by decide) _ ho.2.2.2.2.2.2.2.2.2.2.2.2.2.1 _ 1038 rfl _ _ _ _ (pP_eq c M0 M2 M3 f0 f2 f3 X g W' hX hg hW _ _) _
    refine stepA ?_ (by decide) _ ho.2.2.2.2.2.2.2.2.2.2.2.2.1 _ 1037 rfl _ _ _ _ (pP_eq c M0 M2 M3 f0 f2 f3 X g W' hX hg hW _ _) _
    refine stepA ?_ (by decide) _ ho.2.2.2.2.2.2.2.2.2.2.2.1 _ 1036 rfl _ _ _ _ (pP_eq c M0 M2 M3 f0 f2 f3 X g W' hX hg hW _ _) _
    refine stepA ?_ (by decide) _ ho.2.2.2.2.2.2.2.2.2.2.1 _ 1035 rfl _ _ _ _ (pP_eq c M0 M2 M3 f0 f2 f3 X g W' hX hg hW _ _) _
    refine stepA ?_ (by decide) _ ho.2.2.2.2.2.2.2.2.2.1 _ 1034 rfl _ _ _ _ (pP_eq c M0 M2 M3 f0 f2 f3 X g W' hX hg hW _ _) _
    refine stepA ?_ (by decide) _ ho.2.2.2.2.2.2.2.2.1 _ 1033 rfl _ _ _ _ (pP_eq c M0 M2 M3 f0 f2 f3 X g W' hX hg hW _ _) _
    refine stepA ?_ (by decide) _ ho.2.2.2.2.2.2.2.1 _ 1032 rfl _ _ _ _ (pP_eq c M0 M2 M3 f0 f2 f3 X g W' hX hg hW _ _) _
    refine stepA ?_ (by decide) _ ho.2.2.2.2.2.2.1 _ 1031 rfl _ _ _ _ (pP_eq c M0 M2 M3 f0 f2 f3 X g W' hX hg hW _ _) _
    refine stepA ?_ (by decide) _ ho.2.2.2.2.2.1 _ 1030 rfl _ _ _ _ (pP_eq c M0 M2 M3 f0 f2 f3 X g W' hX hg hW _ _) _
    refine stepA ?_ (by decide) _ ho.2.2.2.2.1 _ 1029 rfl _ _ _ _ (pP_eq c M0 M2 M3 f0 f2 f3 X g W' hX hg hW _ _) _
    refine stepA ?_ (by decide) _ ho.2.2.2.1 _ 1028 rfl _ _ _ _ (pP_eq c M0 M2 M3 f0 f2 f3 X g W' hX hg hW _ _) _
    refine stepA ?_ (by decide) _ ho.2.2.1 _ 1027 rfl _ _ _ _ (pP_eq c M0 M2 M3 f0 f2 f3 X g W' hX hg hW _ _) _
    refine stepA ?_ (by decide) _ ho.2.1 _ 1026 rfl _ _ _ _ (pP_eq c M0 M2 M3 f0 f2 f3 X g W' hX hg hW _ _) _
    refine stepA ?_ (by decide) _ ho.1 _ 1025 rfl _ _ _ _ (pP_eq c M0 M2 M3 f0 f2 f3 X g W' hX hg hW _ _) _
    exact UpdA.init c s _ fa
  iframe S30 S31 S32 S33 S34 S35 S36 S37 S38 S39 S40 S41 S42 S43 S44
  iexists _
  iexact HO

end Cert.Mix

end
-- ==== Proof.MixB.lean ====
/-
  A grid point at a second tile of a sequence, not the last.
-/
module

public import proofs.«01_k».proof.Proof.MixOut

@[expose] public section

set_option maxRecDepth 16384

noncomputable section

namespace Cert.Mix

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option sl_exec.lendShare "HPA" in
theorem stepTail (c : Dev nD) (i : grid0.Coords) (hp : k0_cond2 i = 1#1) (ht : atTail i = 1#1) (hz : ¬ atFirst i = 1#1) (hh : ¬ atHead i = 1#1) (hc5 : ¬ k0_cond5 i = 1#1) (hc6 : ¬ k0_cond6 i = 1#1)
    (M0 : Memref sig .tc .vmem S1024x1024 .f32) (h0 : M0.IsWhole) (M1 : Memref sig .tc .vmem S128x2x512 .f32) (h1 : M1.IsWhole) (M2 : Memref sig .tc .vmem S1x1024 .f32) (h2 : M2.IsWhole) (M3 : Memref sig .tc .vmem S1024x2048 .f32) (h3 : M3.IsWhole) (M4 : Memref sig .tc .vmem S3x512 .f32) (h4 : M4.IsWhole) (M5 : Memref sig .tc .vmem S4x128x128 .f32) (h5 : M5.IsWhole) (M6 : Memref sig .tc .vmem S1x512 .f32) (h6 : M6.IsWhole) (M7 : Memref sig .tc .vmem S1024x1024 .f32) (h7 : M7.IsWhole) (M8 : Memref sig .tc .vmem S1024x1024 .f32) (h8 : M8.IsWhole) (M9 : Memref sig .tc .vmem S1x2x512 .f32) (h9 : M9.IsWhole) (M10 : Memref sig .tc .vmem S128x2x512 .f32) (h10 : M10.IsWhole)
    (f0 : Bf (F := F) c M0) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (fc : Bf (F := F) c caM) (fp : Bf (F := F) c paM) (fa : Bf (F := F) c stAM) (X : Vec F S1024x1024 .f32) (g : Vec F S1x1024 .f32) (W' : S1024x2048.Idx → F .f32) (hX : M0.view.read (Elt F) f0 = X) (hg : M2.view.read (Elt F) f2 = g) (hW : M3.view.read (Elt F) f3 = W') (C : S3x512.Idx → F .f32) (Wp : S4x128x128.Idx → F .f32) (Sc : S1x512.Idx → F .f32) (Wo : Vec F S1024x1024 .f32) (hC : M4.view.read (Elt F) f4 = C) (hWp : M5.view.read (Elt F) f5 = Wp) (hSc : M6.view.read (Elt F) f6 = Sc) (hWo : M7.view.read (Elt F) f7 = Wo) (u' p' : Vec F S1024x512 .f32) (hc' : hasC c fc u') (hp' : hasP c fp p') (s : ℕ) (ho : offsA i s)
    (W : Waits sig Unit) (Q : PUnit → sProp 𝕄) :
    iprop(pt c M0 f0 ∗ pt c M2 f2 ∗ pt c M3 f3 ∗ pt c M4 f4 ∗ pt c M5 f5 ∗ pt c M6 f6 ∗ pt c M7 f7 ∗ pt c M8 f8 ∗ pt c M9 f9 ∗ pt c caM fc ∗ pt c paM fp ∗ pt c stAM fa ∗ semVal ((c : Thread nD τ), osem 30) 0 ∗ semVal ((c : Thread nD τ), osem 31) 0 ∗ semVal ((c : Thread nD τ), osem 32) 0 ∗ semVal ((c : Thread nD τ), osem 33) 0 ∗ semVal ((c : Thread nD τ), osem 34) 0 ∗ semVal ((c : Thread nD τ), osem 35) 0 ∗ semVal ((c : Thread nD τ), osem 36) 0 ∗ semVal ((c : Thread nD τ), osem 37) 0 ∗ semVal ((c : Thread nD τ), osem 38) 0 ∗ semVal ((c : Thread nD τ), osem 39) 0 ∗ semVal ((c : Thread nD τ), osem 40) 0 ∗ semVal ((c : Thread nD τ), osem 41) 0 ∗ semVal ((c : Thread nD τ), osem 42) 0 ∗ semVal ((c : Thread nD τ), osem 43) 0 ∗ semVal ((c : Thread nD τ), osem 44) 0
      ∗ owes (c : Thread nD τ) 0 W
      ∗ (iprop(pt c M0 f0 ∗ pt c M2 f2 ∗ pt c M3 f3 ∗ pt c M4 f4 ∗ pt c M5 f5 ∗ pt c M6 f6 ∗ pt c M7 f7 ∗ hold c M8 (oP (posV i) X g W' C Wp Sc Wo (cE (cTop u') (uP X g W')) (pE (pTop p') (pP X g W'))) ∗ hold c M9 (cP (uP X g W')) ∗ some' c caM ∗ some' c paM ∗ (∃ fa' : Bf (F := F) c stAM, ⌜UpdA c s 15 (rP (pP X g W')) fa' fa⌝ ∗ pt c stAM fa') ∗ semVal ((c : Thread nD τ), osem 30) 0 ∗ semVal ((c : Thread nD τ), osem 31) 0 ∗ semVal ((c : Thread nD τ), osem 32) 0 ∗ semVal ((c : Thread nD τ), osem 33) 0 ∗ semVal ((c : Thread nD τ), osem 34) 0 ∗ semVal ((c : Thread nD τ), osem 35) 0 ∗ semVal ((c : Thread nD τ), osem 36) 0 ∗ semVal ((c : Thread nD τ), osem 37) 0 ∗ semVal ((c : Thread nD τ), osem 38) 0 ∗ semVal ((c : Thread nD τ), osem 39) 0 ∗ semVal ((c : Thread nD τ), osem 40) 0 ∗ semVal ((c : Thread nD τ), osem 41) 0 ∗ semVal ((c : Thread nD τ), osem 42) 0 ∗ semVal ((c : Thread nD τ), osem 43) 0 ∗ semVal ((c : Thread nD τ), osem 44) 0 ∗ ∃ W₁, owes (c : Thread nD τ) 0 W₁) -∗ Q ⟨⟩))
    ⊢ wp frame (wpE (defs₀ (F := F)) Variants.none c none) Set.univ (bodyP i M0 h0 M1 h1 M2 h2 M3 h3 M4 h4 M5 h5 M6 h6 M7 h7 M8 h8 M9 h9 M10 h10) Q := by
  iintro ⟨H0, H2, H3, H4, H5, H6, H7, H8, H9, HCA, HPA, HST, S30, S31, S32, S33, S34, S35, S36, S37, S38, S39, S40, S41, S42, S43, S44, HO, Hk⟩
  unfold bodyP
  simp only [cc0_mixer_eq_skeleton]
  unfold cc0_mixer_skel
  sl_exec
  sl_step
  iapply Hk
  iframe H0 H2 H3 H4 H5 H6 H7
  isplitl [H8]
  · iexists _
    isplitr
    swap
    · iexact H8
    ipureintro
    exact oP_read c M0 M2 M3 M4 M5 M6 M7 M8 f0 f2 f3 f4 f5 f6 f7 f8 (posV i) X g W' C Wp Sc Wo hX hg hW hC hWp hSc hWo _ rfl
      _ _ (cE_eq _ _ _ _ _ (uP_eq c M0 M2 M3 f0 f2 f3 X g W' hX hg hW _ _) _ _ (cTop_eq c fc u' hc' _)) _ _ (pE_eq _ _ _ _ _ (pP_eq c M0 M2 M3 f0 f2 f3 X g W' hX hg hW _ _) _ _ (pTop_eq c fp p' hp' _)) _ _ _ _
  isplitl [H9]
  · iexists _
    isplitr
    swap
    · iexact H9
    ipureintro
    exact cP_read c M9 f9 _ _ _ _ _ (uP_eq c M0 M2 M3 f0 f2 f3 X g W' hX hg hW _ _) _
  isplitl [HCA]; · iexists _; iexact HCA
  isplitl [HPA_lend HPA_lend_2 HPA_lend_3 HPA_lend_4 HPA_lend_5 HPA_lend_6 HPA_lend_7 HPA]
  · iexists _
    iapply (shares8 c paM _)
    isplitl [HPA_lend]; · iexact HPA_lend
    isplitl [HPA_lend_2]; · iexact HPA_lend_2
    isplitl [HPA_lend_3]; · iexact HPA_lend_3
    isplitl [HPA_lend_4]; · iexact HPA_lend_4
    isplitl [HPA_lend_5]; · iexact HPA_lend_5
    isplitl [HPA_lend_6]; · iexact HPA_lend_6
    isplitl [HPA_lend_7]; · iexact HPA_lend_7
    iexact HPA
  isplitl [HST]
  · iexists _
    isplitr
    swap
    · iexact HST
    ipureintro
    refine stepA ?_ (by decide) _ ho.2.2.2.2.2.2.2.2.2.2.2.2.2.2 _ 1039 rfl _ _ _ _ (pP_eq c M0 M2 M3 f0 f2 f3 X g W' hX hg hW _ _) _
    refine stepA ?_ (by decide) _ ho.2.2.2.2.2.2.2.2.2.2.2.2.2.1 _ 1038 rfl _ _ _ _ (pP_eq c M0 M2 M3 f0 f2 f3 X g W' hX hg hW _ _) _
    refine stepA ?_ (by decide) _ ho.2.2.2.2.2.2.2.2.2.2.2.2.1 _ 1037 rfl _ _ _ _ (pP_eq c M0 M2 M3 f0 f2 f3 X g W' hX hg hW _ _) _
    refine stepA ?_ (by decide) _ ho.2.2.2.2.2.2.2.2.2.2.2.1 _ 1036 rfl _ _ _ _ (pP_eq c M0 M2 M3 f0 f2 f3 X g W' hX hg hW _ _) _
    refine stepA ?_ (by decide) _ ho.2.2.2.2.2.2.2.2.2.2.1 _ 1035 rfl _ _ _ _ (pP_eq c M0 M2 M3 f0 f2 f3 X g W' hX hg hW _ _) _
    refine stepA ?_ (by decide) _ ho.2.2.2.2.2.2.2.2.2.1 _ 1034 rfl _ _ _ _ (pP_eq c M0 M2 M3 f0 f2 f3 X g W' hX hg hW _ _) _
    refine stepA ?_ (by decide) _ ho.2.2.2.2.2.2.2.2.1 _ 1033 rfl _ _ _ _ (pP_eq c M0 M2 M3 f0 f2 f3 X g W' hX hg hW _ _) _
    refine stepA ?_ (by decide) _ ho.2.2.2.2.2.2.2.1 _ 1032 rfl _ _ _ _ (pP_eq c M0 M2 M3 f0 f2 f3 X g W' hX hg hW _ _) _
    refine stepA ?_ (by decide) _ ho.2.2.2.2.2.2.1 _ 1031 rfl _ _ _ _ (pP_eq c M0 M2 M3 f0 f2 f3 X g W' hX hg hW _ _) _
    refine stepA ?_ (by decide) _ ho.2.2.2.2.2.1 _ 1030 rfl _ _ _ _ (pP_eq c M0 M2 M3 f0 f2 f3 X g W' hX hg hW _ _) _
    refine stepA ?_ (by decide) _ ho.2.2.2.2.1 _ 1029 rfl _ _ _ _ (pP_eq c M0 M2 M3 f0 f2 f3 X g W' hX hg hW _ _) _
    refine stepA ?_ (by decide) _ ho.2.2.2.1 _ 1028 rfl _ _ _ _ (pP_eq c M0 M2 M3 f0 f2 f3 X g W' hX hg hW _ _) _
    refine stepA ?_ (by decide) _ ho.2.2.1 _ 1027 rfl _ _ _ _ (pP_eq c M0 M2 M3 f0 f2 f3 X g W' hX hg hW _ _) _
    refine stepA ?_ (by decide) _ ho.2.1 _ 1026 rfl _ _ _ _ (pP_eq c M0 M2 M3 f0 f2 f3 X g W' hX hg hW _ _) _
    refine stepA ?_ (by decide) _ ho.1 _ 1025 rfl _ _ _ _ (pP_eq c M0 M2 M3 f0 f2 f3 X g W' hX hg hW _ _) _
    exact UpdA.init c s _ fa
  iframe S30 S31 S32 S33 S34 S35 S36 S37 S38 S39 S40 S41 S42 S43 S44
  iexists _
  iexact HO

end Cert.Mix

end
-- ==== Proof.MixC.lean ====
/-
  The first grid point.
-/
module

public import proofs.«01_k».proof.Proof.MixOut

@[expose] public section

set_option maxRecDepth 16384

noncomputable section

namespace Cert.Mix

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option sl_exec.lendShare "HPA" in
theorem stepFirst (c : Dev nD) (i : grid0.Coords) (hz : atFirst i = 1#1) (hp : k0_cond2 i = 1#1) (hh : atHead i = 1#1) (ht : ¬ atTail i = 1#1) (hc5 : ¬ k0_cond5 i = 1#1) (hc6 : ¬ k0_cond6 i = 1#1)
    (M0 : Memref sig .tc .vmem S1024x1024 .f32) (h0 : M0.IsWhole) (M1 : Memref sig .tc .vmem S128x2x512 .f32) (h1 : M1.IsWhole) (M2 : Memref sig .tc .vmem S1x1024 .f32) (h2 : M2.IsWhole) (M3 : Memref sig .tc .vmem S1024x2048 .f32) (h3 : M3.IsWhole) (M4 : Memref sig .tc .vmem S3x512 .f32) (h4 : M4.IsWhole) (M5 : Memref sig .tc .vmem S4x128x128 .f32) (h5 : M5.IsWhole) (M6 : Memref sig .tc .vmem S1x512 .f32) (h6 : M6.IsWhole) (M7 : Memref sig .tc .vmem S1024x1024 .f32) (h7 : M7.IsWhole) (M8 : Memref sig .tc .vmem S1024x1024 .f32) (h8 : M8.IsWhole) (M9 : Memref sig .tc .vmem S1x2x512 .f32) (h9 : M9.IsWhole) (M10 : Memref sig .tc .vmem S128x2x512 .f32) (h10 : M10.IsWhole)
    (f0 : Bf (F := F) c M0) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (fc : Bf (F := F) c caM) (fp : Bf (F := F) c paM) (fa : Bf (F := F) c stAM) (gp : Bf (F := F) c pbM) (X : Vec F S1024x1024 .f32) (g : Vec F S1x1024 .f32) (W' : S1024x2048.Idx → F .f32) (hX : M0.view.read (Elt F) f0 = X) (hg : M2.view.read (Elt F) f2 = g) (hW : M3.view.read (Elt F) f3 = W') (C : S3x512.Idx → F .f32) (Wp : S4x128x128.Idx → F .f32) (Sc : S1x512.Idx → F .f32) (Wo : Vec F S1024x1024 .f32) (hC : M4.view.read (Elt F) f4 = C) (hWp : M5.view.read (Elt F) f5 = Wp) (hSc : M6.view.read (Elt F) f6 = Sc) (hWo : M7.view.read (Elt F) f7 = Wo) (s : ℕ) (ho : offsA i s)
    (W : Waits sig Unit) (Q : PUnit → sProp 𝕄) :
    iprop(pt c M0 f0 ∗ pt c M2 f2 ∗ pt c M3 f3 ∗ pt c M4 f4 ∗ pt c M5 f5 ∗ pt c M6 f6 ∗ pt c M7 f7 ∗ pt c M8 f8 ∗ pt c M9 f9 ∗ pt c caM fc ∗ pt c paM fp ∗ pt c stAM fa ∗ pt c pbM gp ∗ semVal ((c : Thread nD τ), osem 30) 0 ∗ semVal ((c : Thread nD τ), osem 31) 0 ∗ semVal ((c : Thread nD τ), osem 32) 0 ∗ semVal ((c : Thread nD τ), osem 33) 0 ∗ semVal ((c : Thread nD τ), osem 34) 0 ∗ semVal ((c : Thread nD τ), osem 35) 0 ∗ semVal ((c : Thread nD τ), osem 36) 0 ∗ semVal ((c : Thread nD τ), osem 37) 0 ∗ semVal ((c : Thread nD τ), osem 38) 0 ∗ semVal ((c : Thread nD τ), osem 39) 0 ∗ semVal ((c : Thread nD τ), osem 40) 0 ∗ semVal ((c : Thread nD τ), osem 41) 0 ∗ semVal ((c : Thread nD τ), osem 42) 0 ∗ semVal ((c : Thread nD τ), osem 43) 0 ∗ semVal ((c : Thread nD τ), osem 44) 0
      ∗ owes (c : Thread nD τ) 0 W
      ∗ (iprop(pt c M0 f0 ∗ pt c M2 f2 ∗ pt c M3 f3 ∗ pt c M4 f4 ∗ pt c M5 f5 ∗ pt c M6 f6 ∗ pt c M7 f7 ∗ hold c M8 (oP (posV i) X g W' C Wp Sc Wo (cE k0_pay2 (uP X g W')) (pE k0_pay3 (pP X g W'))) ∗ hold c M9 (cP (uP X g W')) ∗ (∃ fc' : Bf (F := F) c caM, ⌜hasC c fc' (uP X g W')⌝ ∗ pt c caM fc') ∗ (∃ fp' : Bf (F := F) c paM, ⌜hasP c fp' (pP X g W')⌝ ∗ pt c paM fp') ∗ (∃ fa' : Bf (F := F) c stAM, ⌜UpdA c s 15 (rP (pP X g W')) fa' fa⌝ ∗ pt c stAM fa') ∗ some' c pbM ∗ semVal ((c : Thread nD τ), osem 30) 0 ∗ semVal ((c : Thread nD τ), osem 31) 0 ∗ semVal ((c : Thread nD τ), osem 32) 0 ∗ semVal ((c : Thread nD τ), osem 33) 0 ∗ semVal ((c : Thread nD τ), osem 34) 0 ∗ semVal ((c : Thread nD τ), osem 35) 0 ∗ semVal ((c : Thread nD τ), osem 36) 0 ∗ semVal ((c : Thread nD τ), osem 37) 0 ∗ semVal ((c : Thread nD τ), osem 38) 0 ∗ semVal ((c : Thread nD τ), osem 39) 0 ∗ semVal ((c : Thread nD τ), osem 40) 0 ∗ semVal ((c : Thread nD τ), osem 41) 0 ∗ semVal ((c : Thread nD τ), osem 42) 0 ∗ semVal ((c : Thread nD τ), osem 43) 0 ∗ semVal ((c : Thread nD τ), osem 44) 0 ∗ ∃ W₁, owes (c : Thread nD τ) 0 W₁) -∗ Q ⟨⟩))
    ⊢ wp frame (wpE (defs₀ (F := F)) Variants.none c none) Set.univ (bodyP i M0 h0 M1 h1 M2 h2 M3 h3 M4 h4 M5 h5 M6 h6 M7 h7 M8 h8 M9 h9 M10 h10) Q := by
  iintro ⟨H0, H2, H3, H4, H5, H6, H7, H8, H9, HCA, HPA, HST, HPB, S30, S31, S32, S33, S34, S35, S36, S37, S38, S39, S40, S41, S42, S43, S44, HO, Hk⟩
  unfold bodyP
  simp only [cc0_mixer_eq_skeleton]
  unfold cc0_mixer_skel
  sl_exec
  sl_step
  iapply Hk
  iframe H0 H2 H3 H4 H5 H6 H7
  isplitl [H8]
  · iexists _
    isplitr
    swap
    · iexact H8
    ipureintro
    exact oP_read c M0 M2 M3 M4 M5 M6 M7 M8 f0 f2 f3 f4 f5 f6 f7 f8 (posV i) X g W' C Wp Sc Wo hX hg hW hC hWp hSc hWo _ rfl
      _ _ (cE_eq _ _ _ _ _ (uP_eq c M0 M2 M3 f0 f2 f3 X g W' hX hg hW _ _) _ _ rfl) _ _ (pE_eq _ _ _ _ _ (pP_eq c M0 M2 M3 f0 f2 f3 X g W' hX hg hW _ _) _ _ rfl) _ _ _ _
  isplitl [H9]
  · iexists _
    isplitr
    swap
    · iexact H9
    ipureintro
    exact cP_read c M9 f9 _ _ _ _ _ (uP_eq c M0 M2 M3 f0 f2 f3 X g W' hX hg hW _ _) _
  isplitl [HCA]
  · iexists _
    isplitr
    swap
    · iexact HCA
    ipureintro
    exact hasC_writes c fc _ _ _ (uP_eq c M0 M2 M3 f0 f2 f3 X g W' hX hg hW _ _) _
  isplitl [HPA_lend HPA_lend_2 HPA_lend_3 HPA_lend_4 HPA_lend_5 HPA_lend_6 HPA_lend_7 HPA]
  · iexists _
    isplitr
    swap
    · iapply (shares8 c paM _)
      isplitl [HPA_lend]; · iexact HPA_lend
      isplitl [HPA_lend_2]; · iexact HPA_lend_2
      isplitl [HPA_lend_3]; · iexact HPA_lend_3
      isplitl [HPA_lend_4]; · iexact HPA_lend_4
      isplitl [HPA_lend_5]; · iexact HPA_lend_5
      isplitl [HPA_lend_6]; · iexact HPA_lend_6
      isplitl [HPA_lend_7]; · iexact HPA_lend_7
      iexact HPA
    ipureintro
    exact hasP_writes c fp _ _ _ (pP_eq c M0 M2 M3 f0 f2 f3 X g W' hX hg hW _ _) _
  isplitl [HST]
  · iexists _
    isplitr
    swap
    · iexact HST
    ipureintro
    refine stepA ?_ (by decide) _ ho.2.2.2.2.2.2.2.2.2.2.2.2.2.2 _ 1039 rfl _ _ _ _ (pP_eq c M0 M2 M3 f0 f2 f3 X g W' hX hg hW _ _) _
    refine stepA ?_ (by decide) _ ho.2.2.2.2.2.2.2.2.2.2.2.2.2.1 _ 1038 rfl _ _ _ _ (pP_eq c M0 M2 M3 f0 f2 f3 X g W' hX hg hW _ _) _
    refine stepA ?_ (by decide) _ ho.2.2.2.2.2.2.2.2.2.2.2.2.1 _ 1037 rfl _ _ _ _ (pP_eq c M0 M2 M3 f0 f2 f3 X g W' hX hg hW _ _) _
    refine stepA ?_ (by decide) _ ho.2.2.2.2.2.2.2.2.2.2.2.1 _ 1036 rfl _ _ _ _ (pP_eq c M0 M2 M3 f0 f2 f3 X g W' hX hg hW _ _) _
    refine stepA ?_ (by decide) _ ho.2.2.2.2.2.2.2.2.2.2.1 _ 1035 rfl _ _ _ _ (pP_eq c M0 M2 M3 f0 f2 f3 X g W' hX hg hW _ _) _
    refine stepA ?_ (by decide) _ ho.2.2.2.2.2.2.2.2.2.1 _ 1034 rfl _ _ _ _ (pP_eq c M0 M2 M3 f0 f2 f3 X g W' hX hg hW _ _) _
    refine stepA ?_ (by decide) _ ho.2.2.2.2.2.2.2.2.1 _ 1033 rfl _ _ _ _ (pP_eq c M0 M2 M3 f0 f2 f3 X g W' hX hg hW _ _) _
    refine stepA ?_ (by decide) _ ho.2.2.2.2.2.2.2.1 _ 1032 rfl _ _ _ _ (pP_eq c M0 M2 M3 f0 f2 f3 X g W' hX hg hW _ _) _
    refine stepA ?_ (by decide) _ ho.2.2.2.2.2.2.1 _ 1031 rfl _ _ _ _ (pP_eq c M0 M2 M3 f0 f2 f3 X g W' hX hg hW _ _) _
    refine stepA ?_ (by decide) _ ho.2.2.2.2.2.1 _ 1030 rfl _ _ _ _ (pP_eq c M0 M2 M3 f0 f2 f3 X g W' hX hg hW _ _) _
    refine stepA ?_ (by decide) _ ho.2.2.2.2.1 _ 1029 rfl _ _ _ _ (pP_eq c M0 M2 M3 f0 f2 f3 X g W' hX hg hW _ _) _
    refine stepA ?_ (by decide) _ ho.2.2.2.1 _ 1028 rfl _ _ _ _ (pP_eq c M0 M2 M3 f0 f2 f3 X g W' hX hg hW _ _) _
    refine stepA ?_ (by decide) _ ho.2.2.1 _ 1027 rfl _ _ _ _ (pP_eq c M0 M2 M3 f0 f2 f3 X g W' hX hg hW _ _) _
    refine stepA ?_ (by decide) _ ho.2.1 _ 1026 rfl _ _ _ _ (pP_eq c M0 M2 M3 f0 f2 f3 X g W' hX hg hW _ _) _
    refine stepA ?_ (by decide) _ ho.1 _ 1025 rfl _ _ _ _ (pP_eq c M0 M2 M3 f0 f2 f3 X g W' hX hg hW _ _) _
    exact UpdA.init c s _ fa
  isplitl [HPB]; · iexists _; iexact HPB
  iframe S30 S31 S32 S33 S34 S35 S36 S37 S38 S39 S40 S41 S42 S43 S44
  iexists _
  iexact HO

end Cert.Mix

end
-- ==== Proof.MixD.lean ====
/-
  The last prompt's last grid point, which also starts the sample's pool history.
-/
module

public import proofs.«01_k».proof.Proof.MixOut

@[expose] public section

set_option maxRecDepth 16384

noncomputable section

namespace Cert.Mix

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option sl_exec.lendShare "HPA" in
theorem stepLastP (c : Dev nD) (i : grid0.Coords) (hp : k0_cond2 i = 1#1) (ht : atTail i = 1#1) (hc5 : k0_cond5 i = 1#1) (hz : ¬ atFirst i = 1#1) (hh : ¬ atHead i = 1#1) (hc6 : ¬ k0_cond6 i = 1#1)
    (M0 : Memref sig .tc .vmem S1024x1024 .f32) (h0 : M0.IsWhole) (M1 : Memref sig .tc .vmem S128x2x512 .f32) (h1 : M1.IsWhole) (M2 : Memref sig .tc .vmem S1x1024 .f32) (h2 : M2.IsWhole) (M3 : Memref sig .tc .vmem S1024x2048 .f32) (h3 : M3.IsWhole) (M4 : Memref sig .tc .vmem S3x512 .f32) (h4 : M4.IsWhole) (M5 : Memref sig .tc .vmem S4x128x128 .f32) (h5 : M5.IsWhole) (M6 : Memref sig .tc .vmem S1x512 .f32) (h6 : M6.IsWhole) (M7 : Memref sig .tc .vmem S1024x1024 .f32) (h7 : M7.IsWhole) (M8 : Memref sig .tc .vmem S1024x1024 .f32) (h8 : M8.IsWhole) (M9 : Memref sig .tc .vmem S1x2x512 .f32) (h9 : M9.IsWhole) (M10 : Memref sig .tc .vmem S128x2x512 .f32) (h10 : M10.IsWhole)
    (f0 : Bf (F := F) c M0) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (fc : Bf (F := F) c caM) (fp : Bf (F := F) c paM) (fa : Bf (F := F) c stAM) (hh : Bf (F := F) c histM) (X : Vec F S1024x1024 .f32) (g : Vec F S1x1024 .f32) (W' : S1024x2048.Idx → F .f32) (hX : M0.view.read (Elt F) f0 = X) (hg : M2.view.read (Elt F) f2 = g) (hW : M3.view.read (Elt F) f3 = W') (C : S3x512.Idx → F .f32) (Wp : S4x128x128.Idx → F .f32) (Sc : S1x512.Idx → F .f32) (Wo : Vec F S1024x1024 .f32) (hC : M4.view.read (Elt F) f4 = C) (hWp : M5.view.read (Elt F) f5 = Wp) (hSc : M6.view.read (Elt F) f6 = Sc) (hWo : M7.view.read (Elt F) f7 = Wo) (u' p' : Vec F S1024x512 .f32) (hc' : hasC c fc u') (hp' : hasP c fp p') (s : ℕ) (ho : offsA i s) (r0 : Bf (F := F) c pbM) (r1 : Bf (F := F) c pbM) (r2 : Bf (F := F) c pbM) (r3 : Bf (F := F) c pbM) (r4 : Bf (F := F) c pbM) (r5 : Bf (F := F) c pbM) (r6 : Bf (F := F) c pbM) (r7 : Bf (F := F) c pbM) (r8 : Bf (F := F) c pbM) (r9 : Bf (F := F) c pbM) (r10 : Bf (F := F) c pbM) (r11 : Bf (F := F) c pbM) (r12 : Bf (F := F) c pbM) (r13 : Bf (F := F) c pbM) (r14 : Bf (F := F) c pbM)
    (W : Waits sig Unit) (Q : PUnit → sProp 𝕄) :
    iprop(pt c M0 f0 ∗ pt c M2 f2 ∗ pt c M3 f3 ∗ pt c M4 f4 ∗ pt c M5 f5 ∗ pt c M6 f6 ∗ pt c M7 f7 ∗ pt c M8 f8 ∗ pt c M9 f9 ∗ pt c caM fc ∗ pt c paM fp ∗ pt c stAM fa ∗ pt c histM hh ∗ semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 30) 0 ∗ semVal ((c : Thread nD τ), osem 31) 0 ∗ semVal ((c : Thread nD τ), osem 32) 0 ∗ semVal ((c : Thread nD τ), osem 33) 0 ∗ semVal ((c : Thread nD τ), osem 34) 0 ∗ semVal ((c : Thread nD τ), osem 35) 0 ∗ semVal ((c : Thread nD τ), osem 36) 0 ∗ semVal ((c : Thread nD τ), osem 37) 0 ∗ semVal ((c : Thread nD τ), osem 38) 0 ∗ semVal ((c : Thread nD τ), osem 39) 0 ∗ semVal ((c : Thread nD τ), osem 40) 0 ∗ semVal ((c : Thread nD τ), osem 41) 0 ∗ semVal ((c : Thread nD τ), osem 42) 0 ∗ semVal ((c : Thread nD τ), osem 43) 0 ∗ semVal ((c : Thread nD τ), osem 44) 0
      ∗ ptOwn c (hr 1 inb_S128x24x512_S128x1x512_0_1_0) r0 ∗ ptOwn c (hr 2 inb_S128x24x512_S128x1x512_0_2_0) r1 ∗ ptOwn c (hr 3 inb_S128x24x512_S128x1x512_0_3_0) r2 ∗ ptOwn c (hr 4 inb_S128x24x512_S128x1x512_0_4_0) r3 ∗ ptOwn c (hr 5 inb_S128x24x512_S128x1x512_0_5_0) r4 ∗ ptOwn c (hr 6 inb_S128x24x512_S128x1x512_0_6_0) r5 ∗ ptOwn c (hr 7 inb_S128x24x512_S128x1x512_0_7_0) r6 ∗ ptOwn c (hr 8 inb_S128x24x512_S128x1x512_0_8_0) r7 ∗ ptOwn c (hr 9 inb_S128x24x512_S128x1x512_0_9_0) r8 ∗ ptOwn c (hr 10 inb_S128x24x512_S128x1x512_0_10_0) r9 ∗ ptOwn c (hr 11 inb_S128x24x512_S128x1x512_0_11_0) r10 ∗ ptOwn c (hr 12 inb_S128x24x512_S128x1x512_0_12_0) r11 ∗ ptOwn c (hr 13 inb_S128x24x512_S128x1x512_0_13_0) r12 ∗ ptOwn c (hr 14 inb_S128x24x512_S128x1x512_0_14_0) r13 ∗ ptOwn c (hr 15 inb_S128x24x512_S128x1x512_0_15_0) r14
      ∗ owes (c : Thread nD τ) 0 W
      ∗ (iprop(pt c M0 f0 ∗ pt c M2 f2 ∗ pt c M3 f3 ∗ pt c M4 f4 ∗ pt c M5 f5 ∗ pt c M6 f6 ∗ pt c M7 f7 ∗ hold c M8 (oP (posV i) X g W' C Wp Sc Wo (cE (cTop u') (uP X g W')) (pE (pTop p') (pP X g W'))) ∗ hold c M9 (cP (uP X g W')) ∗ some' c caM ∗ some' c paM ∗ (∃ fa' : Bf (F := F) c stAM, ⌜UpdA c s 15 (rP (pP X g W')) fa' fa⌝ ∗ pt c stAM fa') ∗ flH c 0 (hr 1 inb_S128x24x512_S128x1x512_0_1_0) (hs 0 inb_S15x128x512_S1x128x512_0_0_0) r0 hh ∗ flH c 1 (hr 2 inb_S128x24x512_S128x1x512_0_2_0) (hs 1 inb_S15x128x512_S1x128x512_1_0_0) r1 hh ∗ flH c 2 (hr 3 inb_S128x24x512_S128x1x512_0_3_0) (hs 2 inb_S15x128x512_S1x128x512_2_0_0) r2 hh ∗ flH c 3 (hr 4 inb_S128x24x512_S128x1x512_0_4_0) (hs 3 inb_S15x128x512_S1x128x512_3_0_0) r3 hh ∗ flH c 4 (hr 5 inb_S128x24x512_S128x1x512_0_5_0) (hs 4 inb_S15x128x512_S1x128x512_4_0_0) r4 hh ∗ flH c 5 (hr 6 inb_S128x24x512_S128x1x512_0_6_0) (hs 5 inb_S15x128x512_S1x128x512_5_0_0) r5 hh ∗ flH c 6 (hr 7 inb_S128x24x512_S128x1x512_0_7_0) (hs 6 inb_S15x128x512_S1x128x512_6_0_0) r6 hh ∗ flH c 7 (hr 8 inb_S128x24x512_S128x1x512_0_8_0) (hs 7 inb_S15x128x512_S1x128x512_7_0_0) r7 hh ∗ flH c 8 (hr 9 inb_S128x24x512_S128x1x512_0_9_0) (hs 8 inb_S15x128x512_S1x128x512_8_0_0) r8 hh ∗ flH c 9 (hr 10 inb_S128x24x512_S128x1x512_0_10_0) (hs 9 inb_S15x128x512_S1x128x512_9_0_0) r9 hh ∗ flH c 10 (hr 11 inb_S128x24x512_S128x1x512_0_11_0) (hs 10 inb_S15x128x512_S1x128x512_10_0_0) r10 hh ∗ flH c 11 (hr 12 inb_S128x24x512_S128x1x512_0_12_0) (hs 11 inb_S15x128x512_S1x128x512_11_0_0) r11 hh ∗ flH c 12 (hr 13 inb_S128x24x512_S128x1x512_0_13_0) (hs 12 inb_S15x128x512_S1x128x512_12_0_0) r12 hh ∗ flH c 13 (hr 14 inb_S128x24x512_S128x1x512_0_14_0) (hs 13 inb_S15x128x512_S1x128x512_13_0_0) r13 hh ∗ flH c 14 (hr 15 inb_S128x24x512_S128x1x512_0_15_0) (hs 14 inb_S15x128x512_S1x128x512_14_0_0) r14 hh ∗ (histM.view.loc (c : Thread nD τ) ↦[histRest c]{fullShare} hh) ∗ semVal ((c : Thread nD τ), osem 30) 0 ∗ semVal ((c : Thread nD τ), osem 31) 0 ∗ semVal ((c : Thread nD τ), osem 32) 0 ∗ semVal ((c : Thread nD τ), osem 33) 0 ∗ semVal ((c : Thread nD τ), osem 34) 0 ∗ semVal ((c : Thread nD τ), osem 35) 0 ∗ semVal ((c : Thread nD τ), osem 36) 0 ∗ semVal ((c : Thread nD τ), osem 37) 0 ∗ semVal ((c : Thread nD τ), osem 38) 0 ∗ semVal ((c : Thread nD τ), osem 39) 0 ∗ semVal ((c : Thread nD τ), osem 40) 0 ∗ semVal ((c : Thread nD τ), osem 41) 0 ∗ semVal ((c : Thread nD τ), osem 42) 0 ∗ semVal ((c : Thread nD τ), osem 43) 0 ∗ semVal ((c : Thread nD τ), osem 44) 0 ∗ ∃ W₁, owes (c : Thread nD τ) 0 W₁) -∗ Q ⟨⟩))
    ⊢ wp frame (wpE (defs₀ (F := F)) Variants.none c none) Set.univ (bodyP i M0 h0 M1 h1 M2 h2 M3 h3 M4 h4 M5 h5 M6 h6 M7 h7 M8 h8 M9 h9 M10 h10) Q := by
  iintro ⟨H0, H2, H3, H4, H5, H6, H7, H8, H9, HCA, HPA, HST, HH, S0, S1, S2, S3, S4, S5, S6, S7, S8, S9, S10, S11, S12, S13, S14, S30, S31, S32, S33, S34, S35, S36, S37, S38, S39, S40, S41, S42, S43, S44, R0, R1, R2, R3, R4, R5, R6, R7, R8, R9, R10, R11, R12, R13, R14, HO, Hk⟩
  unfold bodyP
  simp only [cc0_mixer_eq_skeleton]
  unfold cc0_mixer_skel
  sl_exec
  sl_step
  iapply Hk
  iframe H0 H2 H3 H4 H5 H6 H7
  isplitl [H8]
  · iexists _
    isplitr
    swap
    · iexact H8
    ipureintro
    exact oP_read c M0 M2 M3 M4 M5 M6 M7 M8 f0 f2 f3 f4 f5 f6 f7 f8 (posV i) X g W' C Wp Sc Wo hX hg hW hC hWp hSc hWo _ rfl
      _ _ (cE_eq _ _ _ _ _ (uP_eq c M0 M2 M3 f0 f2 f3 X g W' hX hg hW _ _) _ _ (cTop_eq c fc u' hc' _)) _ _ (pE_eq _ _ _ _ _ (pP_eq c M0 M2 M3 f0 f2 f3 X g W' hX hg hW _ _) _ _ (pTop_eq c fp p' hp' _)) _ _ _ _
  isplitl [H9]
  · iexists _
    isplitr
    swap
    · iexact H9
    ipureintro
    exact cP_read c M9 f9 _ _ _ _ _ (uP_eq c M0 M2 M3 f0 f2 f3 X g W' hX hg hW _ _) _
  isplitl [HCA]; · iexists _; iexact HCA
  isplitl [HPA_lend HPA_lend_2 HPA_lend_3 HPA_lend_4 HPA_lend_5 HPA_lend_6 HPA_lend_7 HPA]
  · iexists _
    iapply (shares8 c paM _)
    isplitl [HPA_lend]; · iexact HPA_lend
    isplitl [HPA_lend_2]; · iexact HPA_lend_2
    isplitl [HPA_lend_3]; · iexact HPA_lend_3
    isplitl [HPA_lend_4]; · iexact HPA_lend_4
    isplitl [HPA_lend_5]; · iexact HPA_lend_5
    isplitl [HPA_lend_6]; · iexact HPA_lend_6
    isplitl [HPA_lend_7]; · iexact HPA_lend_7
    iexact HPA
  isplitl [HST]
  · iexists _
    isplitr
    swap
    · iexact HST
    ipureintro
    refine stepA ?_ (by decide) _ ho.2.2.2.2.2.2.2.2.2.2.2.2.2.2 _ 1039 rfl _ _ _ _ (pP_eq c M0 M2 M3 f0 f2 f3 X g W' hX hg hW _ _) _
    refine stepA ?_ (by decide) _ ho.2.2.2.2.2.2.2.2.2.2.2.2.2.1 _ 1038 rfl _ _ _ _ (pP_eq c M0 M2 M3 f0 f2 f3 X g W' hX hg hW _ _) _
    refine stepA ?_ (by decide) _ ho.2.2.2.2.2.2.2.2.2.2.2.2.1 _ 1037 rfl _ _ _ _ (pP_eq c M0 M2 M3 f0 f2 f3 X g W' hX hg hW _ _) _
    refine stepA ?_ (by decide) _ ho.2.2.2.2.2.2.2.2.2.2.2.1 _ 1036 rfl _ _ _ _ (pP_eq c M0 M2 M3 f0 f2 f3 X g W' hX hg hW _ _) _
    refine stepA ?_ (by decide) _ ho.2.2.2.2.2.2.2.2.2.2.1 _ 1035 rfl _ _ _ _ (pP_eq c M0 M2 M3 f0 f2 f3 X g W' hX hg hW _ _) _
    refine stepA ?_ (by decide) _ ho.2.2.2.2.2.2.2.2.2.1 _ 1034 rfl _ _ _ _ (pP_eq c M0 M2 M3 f0 f2 f3 X g W' hX hg hW _ _) _
    refine stepA ?_ (by decide) _ ho.2.2.2.2.2.2.2.2.1 _ 1033 rfl _ _ _ _ (pP_eq c M0 M2 M3 f0 f2 f3 X g W' hX hg hW _ _) _
    refine stepA ?_ (by decide) _ ho.2.2.2.2.2.2.2.1 _ 1032 rfl _ _ _ _ (pP_eq c M0 M2 M3 f0 f2 f3 X g W' hX hg hW _ _) _
    refine stepA ?_ (by decide) _ ho.2.2.2.2.2.2.1 _ 1031 rfl _ _ _ _ (pP_eq c M0 M2 M3 f0 f2 f3 X g W' hX hg hW _ _) _
    refine stepA ?_ (by decide) _ ho.2.2.2.2.2.1 _ 1030 rfl _ _ _ _ (pP_eq c M0 M2 M3 f0 f2 f3 X g W' hX hg hW _ _) _
    refine stepA ?_ (by decide) _ ho.2.2.2.2.1 _ 1029 rfl _ _ _ _ (pP_eq c M0 M2 M3 f0 f2 f3 X g W' hX hg hW _ _) _
    refine stepA ?_ (by decide) _ ho.2.2.2.1 _ 1028 rfl _ _ _ _ (pP_eq c M0 M2 M3 f0 f2 f3 X g W' hX hg hW _ _) _
    refine stepA ?_ (by decide) _ ho.2.2.1 _ 1027 rfl _ _ _ _ (pP_eq c M0 M2 M3 f0 f2 f3 X g W' hX hg hW _ _) _
    refine stepA ?_ (by decide) _ ho.2.1 _ 1026 rfl _ _ _ _ (pP_eq c M0 M2 M3 f0 f2 f3 X g W' hX hg hW _ _) _
    refine stepA ?_ (by decide) _ ho.1 _ 1025 rfl _ _ _ _ (pP_eq c M0 M2 M3 f0 f2 f3 X g W' hX hg hW _ _) _
    exact UpdA.init c s _ fa
  iframe S0 S1 S2 S3 S4 S5 S6 S7 S8 S9 S10 S11 S12 S13 S14 HH S30 S31 S32 S33 S34 S35 S36 S37 S38 S39 S40 S41 S42 S43 S44
  iexists _
  iexact HO

end Cert.Mix

end
-- ==== Proof.MixE.lean ====
/-
  The last grid point: the sample's tile.
-/
module

public import proofs.«01_k».proof.Proof.MixOut

@[expose] public section

set_option maxRecDepth 16384

noncomputable section

namespace Cert.Mix

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 8000000 in
set_option sl_exec.lendShare "HPB" in
theorem stepSample (c : Dev nD) (i : grid0.Coords) (hc6 : k0_cond6 i = 1#1) (hz : ¬ atFirst i = 1#1) (hp : ¬ k0_cond2 i = 1#1) (hc7 : ¬ k0_cond7 i = 1#1)
    (M0 : Memref sig .tc .vmem S1024x1024 .f32) (h0 : M0.IsWhole) (M1 : Memref sig .tc .vmem S128x2x512 .f32) (h1 : M1.IsWhole) (M2 : Memref sig .tc .vmem S1x1024 .f32) (h2 : M2.IsWhole) (M3 : Memref sig .tc .vmem S1024x2048 .f32) (h3 : M3.IsWhole) (M4 : Memref sig .tc .vmem S3x512 .f32) (h4 : M4.IsWhole) (M5 : Memref sig .tc .vmem S4x128x128 .f32) (h5 : M5.IsWhole) (M6 : Memref sig .tc .vmem S1x512 .f32) (h6 : M6.IsWhole) (M7 : Memref sig .tc .vmem S1024x1024 .f32) (h7 : M7.IsWhole) (M8 : Memref sig .tc .vmem S1024x1024 .f32) (h8 : M8.IsWhole) (M9 : Memref sig .tc .vmem S1x2x512 .f32) (h9 : M9.IsWhole) (M10 : Memref sig .tc .vmem S128x2x512 .f32) (h10 : M10.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f10 : Bf (F := F) c M10) (gc : Bf (F := F) c cbM) (fa : Bf (F := F) c stBM) (X : Vec F S1024x1024 .f32) (g : Vec F S1x1024 .f32) (W' : S1024x2048.Idx → F .f32) (hX : M0.view.read (Elt F) f0 = X) (hg : M2.view.read (Elt F) f2 = g) (hW : M3.view.read (Elt F) f3 = W') (C : S3x512.Idx → F .f32) (Wp : S4x128x128.Idx → F .f32) (Sc : S1x512.Idx → F .f32) (Wo : Vec F S1024x1024 .f32) (hC : M4.view.read (Elt F) f4 = C) (hWp : M5.view.read (Elt F) f5 = Wp) (hSc : M6.view.read (Elt F) f6 = Sc) (hWo : M7.view.read (Elt F) f7 = Wo) (h1v : S128x2x512.Idx → F .f32) (hH1 : M1.view.read (Elt F) f1 = h1v) (ho : offsB i) (gp g0 : Bf (F := F) c pbM) (hh : Bf (F := F) c histM) (r0 : Bf (F := F) c pbM) (r1 : Bf (F := F) c pbM) (r2 : Bf (F := F) c pbM) (r3 : Bf (F := F) c pbM) (r4 : Bf (F := F) c pbM) (r5 : Bf (F := F) c pbM) (r6 : Bf (F := F) c pbM) (r7 : Bf (F := F) c pbM) (r8 : Bf (F := F) c pbM) (r9 : Bf (F := F) c pbM) (r10 : Bf (F := F) c pbM) (r11 : Bf (F := F) c pbM) (r12 : Bf (F := F) c pbM) (r13 : Bf (F := F) c pbM) (r14 : Bf (F := F) c pbM)
    (W : Waits sig Unit) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M10 f10 ∗ pt c cbM gc ∗ pt c stBM fa ∗ semVal ((c : Thread nD τ), osem 15) 0 ∗ semVal ((c : Thread nD τ), osem 16) 0 ∗ semVal ((c : Thread nD τ), osem 17) 0 ∗ semVal ((c : Thread nD τ), osem 18) 0 ∗ semVal ((c : Thread nD τ), osem 19) 0 ∗ semVal ((c : Thread nD τ), osem 20) 0 ∗ semVal ((c : Thread nD τ), osem 21) 0 ∗ semVal ((c : Thread nD τ), osem 22) 0 ∗ semVal ((c : Thread nD τ), osem 23) 0 ∗ semVal ((c : Thread nD τ), osem 24) 0 ∗ semVal ((c : Thread nD τ), osem 25) 0 ∗ semVal ((c : Thread nD τ), osem 26) 0 ∗ semVal ((c : Thread nD τ), osem 27) 0 ∗ semVal ((c : Thread nD τ), osem 28) 0 ∗ semVal ((c : Thread nD τ), osem 29) 0
      ∗ flH c 0 (hr 1 inb_S128x24x512_S128x1x512_0_1_0) (hs 0 inb_S15x128x512_S1x128x512_0_0_0) r0 hh ∗ flH c 1 (hr 2 inb_S128x24x512_S128x1x512_0_2_0) (hs 1 inb_S15x128x512_S1x128x512_1_0_0) r1 hh ∗ flH c 2 (hr 3 inb_S128x24x512_S128x1x512_0_3_0) (hs 2 inb_S15x128x512_S1x128x512_2_0_0) r2 hh ∗ flH c 3 (hr 4 inb_S128x24x512_S128x1x512_0_4_0) (hs 3 inb_S15x128x512_S1x128x512_3_0_0) r3 hh ∗ flH c 4 (hr 5 inb_S128x24x512_S128x1x512_0_5_0) (hs 4 inb_S15x128x512_S1x128x512_4_0_0) r4 hh ∗ flH c 5 (hr 6 inb_S128x24x512_S128x1x512_0_6_0) (hs 5 inb_S15x128x512_S1x128x512_5_0_0) r5 hh ∗ flH c 6 (hr 7 inb_S128x24x512_S128x1x512_0_7_0) (hs 6 inb_S15x128x512_S1x128x512_6_0_0) r6 hh ∗ flH c 7 (hr 8 inb_S128x24x512_S128x1x512_0_8_0) (hs 7 inb_S15x128x512_S1x128x512_7_0_0) r7 hh ∗ flH c 8 (hr 9 inb_S128x24x512_S128x1x512_0_9_0) (hs 8 inb_S15x128x512_S1x128x512_8_0_0) r8 hh ∗ flH c 9 (hr 10 inb_S128x24x512_S128x1x512_0_10_0) (hs 9 inb_S15x128x512_S1x128x512_9_0_0) r9 hh ∗ flH c 10 (hr 11 inb_S128x24x512_S128x1x512_0_11_0) (hs 10 inb_S15x128x512_S1x128x512_10_0_0) r10 hh ∗ flH c 11 (hr 12 inb_S128x24x512_S128x1x512_0_12_0) (hs 11 inb_S15x128x512_S1x128x512_11_0_0) r11 hh ∗ flH c 12 (hr 13 inb_S128x24x512_S128x1x512_0_13_0) (hs 12 inb_S15x128x512_S1x128x512_12_0_0) r12 hh ∗ flH c 13 (hr 14 inb_S128x24x512_S128x1x512_0_14_0) (hs 13 inb_S15x128x512_S1x128x512_13_0_0) r13 hh ∗ flH c 14 (hr 15 inb_S128x24x512_S128x1x512_0_15_0) (hs 14 inb_S15x128x512_S1x128x512_14_0_0) r14 hh
      ∗ (histM.view.loc (c : Thread nD τ) ↦[histRest c]{fullShare} hh) ∗ ptOwn c pbT gp ∗ ptOwn c (hr 0 inb_S128x24x512_S128x1x512_0_0_0) g0
      ∗ owes (c : Thread nD τ) 0 W
      ∗ (iprop(pt c M0 f0 ∗ pt c M1 f1 ∗ pt c M2 f2 ∗ pt c M3 f3 ∗ pt c M4 f4 ∗ pt c M5 f5 ∗ pt c M6 f6 ∗ pt c M7 f7 ∗ (∃ Y : Vec F S1024x1024 .f32, ⌜∃ ce pe, hasCS ce h1v (uS X g W') ∧ hasPS pe hh (pS X g W') ∧ Y = oS X g W' C Wp Sc Wo ce pe⌝ ∗ hold c M8 Y) ∗ hold c M10 (cS (uS X g W')) ∗ some' c cbM ∗ some' c pbM ∗ (∃ fa' : Bf (F := F) c stBM, ⌜UpdB c 15 (rS hh (pS X g W')) fa'⌝ ∗ pt c stBM fa') ∗ semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0 ∗ semVal ((c : Thread nD τ), osem 16) 0 ∗ semVal ((c : Thread nD τ), osem 17) 0 ∗ semVal ((c : Thread nD τ), osem 18) 0 ∗ semVal ((c : Thread nD τ), osem 19) 0 ∗ semVal ((c : Thread nD τ), osem 20) 0 ∗ semVal ((c : Thread nD τ), osem 21) 0 ∗ semVal ((c : Thread nD τ), osem 22) 0 ∗ semVal ((c : Thread nD τ), osem 23) 0 ∗ semVal ((c : Thread nD τ), osem 24) 0 ∗ semVal ((c : Thread nD τ), osem 25) 0 ∗ semVal ((c : Thread nD τ), osem 26) 0 ∗ semVal ((c : Thread nD τ), osem 27) 0 ∗ semVal ((c : Thread nD τ), osem 28) 0 ∗ semVal ((c : Thread nD τ), osem 29) 0 ∗ pt c histM hh ∗ ∃ W₁, owes (c : Thread nD τ) 0 W₁) -∗ Q ⟨⟩))
    ⊢ wp frame (wpE (defs₀ (F := F)) Variants.none c none) Set.univ (bodyP i M0 h0 M1 h1 M2 h2 M3 h3 M4 h4 M5 h5 M6 h6 M7 h7 M8 h8 M9 h9 M10 h10) Q := by
  iintro ⟨H0, H1, H2, H3, H4, H5, H6, H7, H8, H10, HCB, HST, S15, S16, S17, S18, S19, S20, S21, S22, S23, S24, S25, S26, S27, S28, S29, R0, R1, R2, R3, R4, R5, R6, R7, R8, R9, R10, R11, R12, R13, R14, HH, HPB, HP0, HO, Hk⟩
  unfold bodyP
  simp only [cc0_mixer_eq_skeleton]
  unfold cc0_mixer_skel
  ihave HST := (keep _) $$ HST
  sl_exec
  ihave HPB := (pb_join17 c _ _ _ _ _ _ _ _ _ _ _ _ _ _ _ _ _) $$ [HP0 R0_dst R1_dst R2_dst R3_dst R4_dst R5_dst R6_dst R7_dst R8_dst R9_dst R10_dst R11_dst R12_dst R13_dst R14_dst HPB]
  · isplitl [HP0]
    · iexact HP0
    isplitl [R0_dst]
    · iexact R0_dst
    isplitl [R1_dst]
    · iexact R1_dst
    isplitl [R2_dst]
    · iexact R2_dst
    isplitl [R3_dst]
    · iexact R3_dst
    isplitl [R4_dst]
    · iexact R4_dst
    isplitl [R5_dst]
    · iexact R5_dst
    isplitl [R6_dst]
    · iexact R6_dst
    isplitl [R7_dst]
    · iexact R7_dst
    isplitl [R8_dst]
    · iexact R8_dst
    isplitl [R9_dst]
    · iexact R9_dst
    isplitl [R10_dst]
    · iexact R10_dst
    isplitl [R11_dst]
    · iexact R11_dst
    isplitl [R12_dst]
    · iexact R12_dst
    isplitl [R13_dst]
    · iexact R13_dst
    isplitl [R14_dst]
    · iexact R14_dst
    iexact HPB
  icases HPB with ⟨%gj, %hg', HPB⟩
  ihave HST := HST $$ []
  · iempintro
  sl_exec
  sl_step
  iapply Hk
  iframe H0 H1 H2 H3 H4 H5 H6 H7
  isplitl [H8]
  · iexists _
    isplitr
    swap
    · iexists _
      isplitr
      swap
      · iexact H8
      ipureintro
      rfl
    ipureintro
    refine ⟨_, _, ?_, ?_, oS_read c M0 M2 M3 M4 M5 M6 M7 M8 f0 f2 f3 f4 f5 f6 f7 f8 X g W' C Wp Sc Wo hX hg hW hC hWp hSc hWo _ _ rfl _ _ rfl _ _ _ _⟩
    · exact hasCS_writes c gc _ _ _ _ (uS_eq c M0 M2 M3 f0 f2 f3 X g W' hX hg hW _ _) M1 f1 h1v hH1 _ _
    rw [View.readAt_full pbM.view]
    constructor
    · intro s k l
      match k with
      | ⟨0, _⟩ => exact (hg' (ValueIdx.ix3 s ⟨1, by decide⟩ l)).trans ((congrFun (fam1 c _ _ _ _ _ _ _ _ _ _ _ _ _ _ _ _ _) _).trans (hr_landed c 1 (by decide) _ 0 (by decide) _ r0 hh s l))
      | ⟨1, _⟩ => exact (hg' (ValueIdx.ix3 s ⟨2, by decide⟩ l)).trans ((congrFun (fam2 c _ _ _ _ _ _ _ _ _ _ _ _ _ _ _ _ _) _).trans (hr_landed c 2 (by decide) _ 1 (by decide) _ r1 hh s l))
      | ⟨2, _⟩ => exact (hg' (ValueIdx.ix3 s ⟨3, by decide⟩ l)).trans ((congrFun (fam3 c _ _ _ _ _ _ _ _ _ _ _ _ _ _ _ _ _) _).trans (hr_landed c 3 (by decide) _ 2 (by decide) _ r2 hh s l))
      | ⟨3, _⟩ => exact (hg' (ValueIdx.ix3 s ⟨4, by decide⟩ l)).trans ((congrFun (fam4 c _ _ _ _ _ _ _ _ _ _ _ _ _ _ _ _ _) _).trans (hr_landed c 4 (by decide) _ 3 (by decide) _ r3 hh s l))
      | ⟨4, _⟩ => exact (hg' (ValueIdx.ix3 s ⟨5, by decide⟩ l)).trans ((congrFun (fam5 c _ _ _ _ _ _ _ _ _ _ _ _ _ _ _ _ _) _).trans (hr_landed c 5 (by decide) _ 4 (by decide) _ r4 hh s l))
      | ⟨5, _⟩ => exact (hg' (ValueIdx.ix3 s ⟨6, by decide⟩ l)).trans ((congrFun (fam6 c _ _ _ _ _ _ _ _ _ _ _ _ _ _ _ _ _) _).trans (hr_landed c 6 (by decide) _ 5 (by decide) _ r5 hh s l))
      | ⟨6, _⟩ => exact (hg' (ValueIdx.ix3 s ⟨7, by decide⟩ l)).trans ((congrFun (fam7 c _ _ _ _ _ _ _ _ _ _ _ _ _ _ _ _ _) _).trans (hr_landed c 7 (by decide) _ 6 (by decide) _ r6 hh s l))
      | ⟨7, _⟩ => exact (hg' (ValueIdx.ix3 s ⟨8, by decide⟩ l)).trans ((congrFun (fam8 c _ _ _ _ _ _ _ _ _ _ _ _ _ _ _ _ _) _).trans (hr_landed c 8 (by decide) _ 7 (by decide) _ r7 hh s l))
      | ⟨8, _⟩ => exact (hg' (ValueIdx.ix3 s ⟨9, by decide⟩ l)).trans ((congrFun (fam9 c _ _ _ _ _ _ _ _ _ _ _ _ _ _ _ _ _) _).trans (hr_landed c 9 (by decide) _ 8 (by decide) _ r8 hh s l))
      | ⟨9, _⟩ => exact (hg' (ValueIdx.ix3 s ⟨10, by decide⟩ l)).trans ((congrFun (fam10 c _ _ _ _ _ _ _ _ _ _ _ _ _ _ _ _ _) _).trans (hr_landed c 10 (by decide) _ 9 (by decide) _ r9 hh s l))
      | ⟨10, _⟩ => exact (hg' (ValueIdx.ix3 s ⟨11, by decide⟩ l)).trans ((congrFun (fam11 c _ _ _ _ _ _ _ _ _ _ _ _ _ _ _ _ _) _).trans (hr_landed c 11 (by decide) _ 10 (by decide) _ r10 hh s l))
      | ⟨11, _⟩ => exact (hg' (ValueIdx.ix3 s ⟨12, by decide⟩ l)).trans ((congrFun (fam12 c _ _ _ _ _ _ _ _ _ _ _ _ _ _ _ _ _) _).trans (hr_landed c 12 (by decide) _ 11 (by decide) _ r11 hh s l))
      | ⟨12, _⟩ => exact (hg' (ValueIdx.ix3 s ⟨13, by decide⟩ l)).trans ((congrFun (fam13 c _ _ _ _ _ _ _ _ _ _ _ _ _ _ _ _ _) _).trans (hr_landed c 13 (by decide) _ 12 (by decide) _ r12 hh s l))
      | ⟨13, _⟩ => exact (hg' (ValueIdx.ix3 s ⟨14, by decide⟩ l)).trans ((congrFun (fam14 c _ _ _ _ _ _ _ _ _ _ _ _ _ _ _ _ _) _).trans (hr_landed c 14 (by decide) _ 13 (by decide) _ r13 hh s l))
      | ⟨14, _⟩ => exact (hg' (ValueIdx.ix3 s ⟨15, by decide⟩ l)).trans ((congrFun (fam15 c _ _ _ _ _ _ _ _ _ _ _ _ _ _ _ _ _) _).trans (hr_landed c 15 (by decide) _ 14 (by decide) _ r14 hh s l))
    · intro s q l
      match q with
      | ⟨0, _⟩ => exact (hg' (ValueIdx.ix3 s ⟨16, by decide⟩ l)).trans ((congrFun (fam16 c _ _ _ _ _ _ _ _ _ _ _ _ _ _ _ _ _) _).trans ((tail_stored c _ gp _ s 0 l 16 rfl).trans (congrFun (pS_eq c M0 M2 M3 f0 f2 f3 X g W' hX hg hW _ _) _)))
      | ⟨1, _⟩ => exact (hg' (ValueIdx.ix3 s ⟨17, by decide⟩ l)).trans ((congrFun (fam16 c _ _ _ _ _ _ _ _ _ _ _ _ _ _ _ _ _) _).trans ((tail_stored c _ gp _ s 1 l 17 rfl).trans (congrFun (pS_eq c M0 M2 M3 f0 f2 f3 X g W' hX hg hW _ _) _)))
      | ⟨2, _⟩ => exact (hg' (ValueIdx.ix3 s ⟨18, by decide⟩ l)).trans ((congrFun (fam16 c _ _ _ _ _ _ _ _ _ _ _ _ _ _ _ _ _) _).trans ((tail_stored c _ gp _ s 2 l 18 rfl).trans (congrFun (pS_eq c M0 M2 M3 f0 f2 f3 X g W' hX hg hW _ _) _)))
      | ⟨3, _⟩ => exact (hg' (ValueIdx.ix3 s ⟨19, by decide⟩ l)).trans ((congrFun (fam16 c _ _ _ _ _ _ _ _ _ _ _ _ _ _ _ _ _) _).trans ((tail_stored c _ gp _ s 3 l 19 rfl).trans (congrFun (pS_eq c M0 M2 M3 f0 f2 f3 X g W' hX hg hW _ _) _)))
      | ⟨4, _⟩ => exact (hg' (ValueIdx.ix3 s ⟨20, by decide⟩ l)).trans ((congrFun (fam16 c _ _ _ _ _ _ _ _ _ _ _ _ _ _ _ _ _) _).trans ((tail_stored c _ gp _ s 4 l 20 rfl).trans (congrFun (pS_eq c M0 M2 M3 f0 f2 f3 X g W' hX hg hW _ _) _)))
      | ⟨5, _⟩ => exact (hg' (ValueIdx.ix3 s ⟨21, by decide⟩ l)).trans ((congrFun (fam16 c _ _ _ _ _ _ _ _ _ _ _ _ _ _ _ _ _) _).trans ((tail_stored c _ gp _ s 5 l 21 rfl).trans (congrFun (pS_eq c M0 M2 M3 f0 f2 f3 X g W' hX hg hW _ _) _)))
      | ⟨6, _⟩ => exact (hg' (ValueIdx.ix3 s ⟨22, by decide⟩ l)).trans ((congrFun (fam16 c _ _ _ _ _ _ _ _ _ _ _ _ _ _ _ _ _) _).trans ((tail_stored c _ gp _ s 6 l 22 rfl).trans (congrFun (pS_eq c M0 M2 M3 f0 f2 f3 X g W' hX hg hW _ _) _)))
      | ⟨7, _⟩ => exact (hg' (ValueIdx.ix3 s ⟨23, by decide⟩ l)).trans ((congrFun (fam16 c _ _ _ _ _ _ _ _ _ _ _ _ _ _ _ _ _) _).trans ((tail_stored c _ gp _ s 7 l 23 rfl).trans (congrFun (pS_eq c M0 M2 M3 f0 f2 f3 X g W' hX hg hW _ _) _)))
  isplitl [H10]
  · iexists _
    isplitr
    swap
    · iexact H10
    ipureintro
    exact cS_read c M10 f10 _ _ _ _ _ (uS_eq c M0 M2 M3 f0 f2 f3 X g W' hX hg hW _ _) _
  isplitl [HCB]; · iexists _; iexact HCB
  isplitl [HPB_lend HPB_lend_2 HPB_lend_3 HPB_lend_4 HPB_lend_5 HPB_lend_6 HPB_lend_7 HPB]
  · iexists _
    iapply (shares8 c pbM _)
    isplitl [HPB_lend]; · iexact HPB_lend
    isplitl [HPB_lend_2]; · iexact HPB_lend_2
    isplitl [HPB_lend_3]; · iexact HPB_lend_3
    isplitl [HPB_lend_4]; · iexact HPB_lend_4
    isplitl [HPB_lend_5]; · iexact HPB_lend_5
    isplitl [HPB_lend_6]; · iexact HPB_lend_6
    isplitl [HPB_lend_7]; · iexact HPB_lend_7
    iexact HPB
  isplitl [HST]
  · iexists _
    isplitr
    swap
    · iexact HST
    ipureintro
    refine stepB ?_ (by decide) _ ho.2.2.2.2.2.2.2.2.2.2.2.2.2.2 _ 23 (by decide) _ _ (fun s l => ((hg' (ValueIdx.ix3 s ⟨23, by decide⟩ l)).trans ((congrFun (fam16 c _ _ _ _ _ _ _ _ _ _ _ _ _ _ _ _ _) _).trans ((tail_stored c _ gp _ s 7 l 23 rfl).trans (congrFun (pS_eq c M0 M2 M3 f0 f2 f3 X g W' hX hg hW _ _) _)))).trans (rS_hi hh _ 14 (by decide) (by decide) s l))
    refine stepB ?_ (by decide) _ ho.2.2.2.2.2.2.2.2.2.2.2.2.2.1 _ 22 (by decide) _ _ (fun s l => ((hg' (ValueIdx.ix3 s ⟨22, by decide⟩ l)).trans ((congrFun (fam16 c _ _ _ _ _ _ _ _ _ _ _ _ _ _ _ _ _) _).trans ((tail_stored c _ gp _ s 6 l 22 rfl).trans (congrFun (pS_eq c M0 M2 M3 f0 f2 f3 X g W' hX hg hW _ _) _)))).trans (rS_hi hh _ 13 (by decide) (by decide) s l))
    refine stepB ?_ (by decide) _ ho.2.2.2.2.2.2.2.2.2.2.2.2.1 _ 21 (by decide) _ _ (fun s l => ((hg' (ValueIdx.ix3 s ⟨21, by decide⟩ l)).trans ((congrFun (fam16 c _ _ _ _ _ _ _ _ _ _ _ _ _ _ _ _ _) _).trans ((tail_stored c _ gp _ s 5 l 21 rfl).trans (congrFun (pS_eq c M0 M2 M3 f0 f2 f3 X g W' hX hg hW _ _) _)))).trans (rS_hi hh _ 12 (by decide) (by decide) s l))
    refine stepB ?_ (by decide) _ ho.2.2.2.2.2.2.2.2.2.2.2.1 _ 20 (by decide) _ _ (fun s l => ((hg' (ValueIdx.ix3 s ⟨20, by decide⟩ l)).trans ((congrFun (fam16 c _ _ _ _ _ _ _ _ _ _ _ _ _ _ _ _ _) _).trans ((tail_stored c _ gp _ s 4 l 20 rfl).trans (congrFun (pS_eq c M0 M2 M3 f0 f2 f3 X g W' hX hg hW _ _) _)))).trans (rS_hi hh _ 11 (by decide) (by decide) s l))
    refine stepB ?_ (by decide) _ ho.2.2.2.2.2.2.2.2.2.2.1 _ 19 (by decide) _ _ (fun s l => ((hg' (ValueIdx.ix3 s ⟨19, by decide⟩ l)).trans ((congrFun (fam16 c _ _ _ _ _ _ _ _ _ _ _ _ _ _ _ _ _) _).trans ((tail_stored c _ gp _ s 3 l 19 rfl).trans (congrFun (pS_eq c M0 M2 M3 f0 f2 f3 X g W' hX hg hW _ _) _)))).trans (rS_hi hh _ 10 (by decide) (by decide) s l))
    refine stepB ?_ (by decide) _ ho.2.2.2.2.2.2.2.2.2.1 _ 18 (by decide) _ _ (fun s l => ((hg' (ValueIdx.ix3 s ⟨18, by decide⟩ l)).trans ((congrFun (fam16 c _ _ _ _ _ _ _ _ _ _ _ _ _ _ _ _ _) _).trans ((tail_stored c _ gp _ s 2 l 18 rfl).trans (congrFun (pS_eq c M0 M2 M3 f0 f2 f3 X g W' hX hg hW _ _) _)))).trans (rS_hi hh _ 9 (by decide) (by decide) s l))
    refine stepB ?_ (by decide) _ ho.2.2.2.2.2.2.2.2.1 _ 17 (by decide) _ _ (fun s l => ((hg' (ValueIdx.ix3 s ⟨17, by decide⟩ l)).trans ((congrFun (fam16 c _ _ _ _ _ _ _ _ _ _ _ _ _ _ _ _ _) _).trans ((tail_stored c _ gp _ s 1 l 17 rfl).trans (congrFun (pS_eq c M0 M2 M3 f0 f2 f3 X g W' hX hg hW _ _) _)))).trans (rS_hi hh _ 8 (by decide) (by decide) s l))
    refine stepB ?_ (by decide) _ ho.2.2.2.2.2.2.2.1 _ 16 (by decide) _ _ (fun s l => ((hg' (ValueIdx.ix3 s ⟨16, by decide⟩ l)).trans ((congrFun (fam16 c _ _ _ _ _ _ _ _ _ _ _ _ _ _ _ _ _) _).trans ((tail_stored c _ gp _ s 0 l 16 rfl).trans (congrFun (pS_eq c M0 M2 M3 f0 f2 f3 X g W' hX hg hW _ _) _)))).trans (rS_hi hh _ 7 (by decide) (by decide) s l))
    refine stepB ?_ (by decide) _ ho.2.2.2.2.2.2.1 _ 15 (by decide) _ _ (fun s l => ((hg' (ValueIdx.ix3 s ⟨15, by decide⟩ l)).trans ((congrFun (fam15 c _ _ _ _ _ _ _ _ _ _ _ _ _ _ _ _ _) _).trans (hr_landed c 15 (by decide) _ 14 (by decide) _ r14 hh s l))).trans (rS_lo hh _ 6 (by decide) s l))
    refine stepB ?_ (by decide) _ ho.2.2.2.2.2.1 _ 14 (by decide) _ _ (fun s l => ((hg' (ValueIdx.ix3 s ⟨14, by decide⟩ l)).trans ((congrFun (fam14 c _ _ _ _ _ _ _ _ _ _ _ _ _ _ _ _ _) _).trans (hr_landed c 14 (by decide) _ 13 (by decide) _ r13 hh s l))).trans (rS_lo hh _ 5 (by decide) s l))
    refine stepB ?_ (by decide) _ ho.2.2.2.2.1 _ 13 (by decide) _ _ (fun s l => ((hg' (ValueIdx.ix3 s ⟨13, by decide⟩ l)).trans ((congrFun (fam13 c _ _ _ _ _ _ _ _ _ _ _ _ _ _ _ _ _) _).trans (hr_landed c 13 (by decide) _ 12 (by decide) _ r12 hh s l))).trans (rS_lo hh _ 4 (by decide) s l))
    refine stepB ?_ (by decide) _ ho.2.2.2.1 _ 12 (by decide) _ _ (fun s l => ((hg' (ValueIdx.ix3 s ⟨12, by decide⟩ l)).trans ((congrFun (fam12 c _ _ _ _ _ _ _ _ _ _ _ _ _ _ _ _ _) _).trans (hr_landed c 12 (by decide) _ 11 (by decide) _ r11 hh s l))).trans (rS_lo hh _ 3 (by decide) s l))
    refine stepB ?_ (by decide) _ ho.2.2.1 _ 11 (by decide) _ _ (fun s l => ((hg' (ValueIdx.ix3 s ⟨11, by decide⟩ l)).trans ((congrFun (fam11 c _ _ _ _ _ _ _ _ _ _ _ _ _ _ _ _ _) _).trans (hr_landed c 11 (by decide) _ 10 (by decide) _ r10 hh s l))).trans (rS_lo hh _ 2 (by decide) s l))
    refine stepB ?_ (by decide) _ ho.2.1 _ 10 (by decide) _ _ (fun s l => ((hg' (ValueIdx.ix3 s ⟨10, by decide⟩ l)).trans ((congrFun (fam10 c _ _ _ _ _ _ _ _ _ _ _ _ _ _ _ _ _) _).trans (hr_landed c 10 (by decide) _ 9 (by decide) _ r9 hh s l))).trans (rS_lo hh _ 1 (by decide) s l))
    refine stepB ?_ (by decide) _ ho.1 _ 9 (by decide) _ _ (fun s l => ((hg' (ValueIdx.ix3 s ⟨9, by decide⟩ l)).trans ((congrFun (fam9 c _ _ _ _ _ _ _ _ _ _ _ _ _ _ _ _ _) _).trans (hr_landed c 9 (by decide) _ 8 (by decide) _ r8 hh s l))).trans (rS_lo hh _ 0 (by decide) s l))
    exact UpdB.init c _ fa
  iframe R0 R1 R2 R3 R4 R5 R6 R7 R8 R9 R10 R11 R12 R13 R14 S15 S16 S17 S18 S19 S20 S21 S22 S23 S24 S25 S26 S27 S28 S29
  isplitl [R0_src R1_src R2_src R3_src R4_src R5_src R6_src R7_src R8_src R9_src R10_src R11_src R12_src R13_src R14_src HH]
  · iapply (hist_join c hh)
    isplitl [R0_src]; · iexact R0_src
    isplitl [R1_src]; · iexact R1_src
    isplitl [R2_src]; · iexact R2_src
    isplitl [R3_src]; · iexact R3_src
    isplitl [R4_src]; · iexact R4_src
    isplitl [R5_src]; · iexact R5_src
    isplitl [R6_src]; · iexact R6_src
    isplitl [R7_src]; · iexact R7_src
    isplitl [R8_src]; · iexact R8_src
    isplitl [R9_src]; · iexact R9_src
    isplitl [R10_src]; · iexact R10_src
    isplitl [R11_src]; · iexact R11_src
    isplitl [R12_src]; · iexact R12_src
    isplitl [R13_src]; · iexact R13_src
    isplitl [R14_src]; · iexact R14_src
    iexact HH
  iexists _
  iexact HO

end Cert.Mix

end
-- ==== Proof.MixBody.lean ====
/-
  Each grid point of the mixer takes the invariant before it to the invariant after it, and leaves in the windows' buffers what the
  pipeline's data says.
-/
module

public import proofs.«01_k».proof.Proof.MixInv
public import proofs.«01_k».proof.Proof.MixA
public import proofs.«01_k».proof.Proof.MixB
public import proofs.«01_k».proof.Proof.MixC
public import proofs.«01_k».proof.Proof.MixD
public import proofs.«01_k».proof.Proof.MixE

@[expose] public section

set_option maxRecDepth 16384

noncomputable section

namespace Cert.Mix

open Cert.Kernel3Ideal Cert.Kernel3Ideal.Gen
open Idealize.ShloMosaic
open Idealize.ShloMosaic.TcCoe Idealize.ShloMosaic.Tactic
open Idealize.ShloMosaic.Pipeline (RDat Cfg Window)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

/-- What a point starts from: the invariant, what the core owes, and the staging buffers at what they hold. -/
abbrev preP (c : Dev nD) (n : ℕ) (M0 : Memref sig .tc .vmem S1024x1024 .f32) (M1 : Memref sig .tc .vmem S128x2x512 .f32) (M2 : Memref sig .tc .vmem S1x1024 .f32) (M3 : Memref sig .tc .vmem S1024x2048 .f32) (M4 : Memref sig .tc .vmem S3x512 .f32) (M5 : Memref sig .tc .vmem S4x128x128 .f32) (M6 : Memref sig .tc .vmem S1x512 .f32) (M7 : Memref sig .tc .vmem S1024x1024 .f32) (M8 : Memref sig .tc .vmem S1024x1024 .f32) (M9 : Memref sig .tc .vmem S1x2x512 .f32) (M10 : Memref sig .tc .vmem S128x2x512 .f32)
    (Y8 : Vec F S1024x1024 .f32) (Y9 : Vec F S1x2x512 .f32) (Y10 : Vec F S128x2x512 .f32) : sProp 𝕄 :=
  iprop(phi m c n ∗ (∃ W, owes (c : Thread nD τ) 0 W) ∗ hold c M0 (tX m c n) ∗ hold c M1 (hN m c) ∗ hold c M2 (gN m c) ∗ hold c M3 (wN m c) ∗ hold c M4 (cN m c) ∗ hold c M5 (kN m c) ∗ hold c M6 (sN m c) ∗ hold c M7 (oN m c) ∗ hold c M8 Y8 ∗ hold c M9 Y9 ∗ hold c M10 Y10)
/-- What a point ends at. -/
abbrev postP (c : Dev nD) (n : ℕ) (M0 : Memref sig .tc .vmem S1024x1024 .f32) (M1 : Memref sig .tc .vmem S128x2x512 .f32) (M2 : Memref sig .tc .vmem S1x1024 .f32) (M3 : Memref sig .tc .vmem S1024x2048 .f32) (M4 : Memref sig .tc .vmem S3x512 .f32) (M5 : Memref sig .tc .vmem S4x128x128 .f32) (M6 : Memref sig .tc .vmem S1x512 .f32) (M7 : Memref sig .tc .vmem S1024x1024 .f32) (M8 : Memref sig .tc .vmem S1024x1024 .f32) (M9 : Memref sig .tc .vmem S1x2x512 .f32) (M10 : Memref sig .tc .vmem S128x2x512 .f32)
    (Y8 : Vec F S1024x1024 .f32) (Y9 : Vec F S1x2x512 .f32) (Y10 : Vec F S128x2x512 .f32) : sProp 𝕄 :=
  iprop(phi m c (n + 1) ∗ (∃ W, owes (c : Thread nD τ) 0 W) ∗ hold c M0 (tX m c n) ∗ hold c M1 (hN m c) ∗ hold c M2 (gN m c) ∗ hold c M3 (wN m c) ∗ hold c M4 (cN m c) ∗ hold c M5 (kN m c) ∗ hold c M6 (sN m c) ∗ hold c M7 (oN m c)
    ∗ (∃ X, ⌜after8 m c n X⌝ ∗ hold c M8 X) ∗ (∃ X, ⌜after9 m c n Y9 X⌝ ∗ hold c M9 X) ∗ (∃ X, ⌜after10 m c n X⌝ ∗ hold c M10 X))

/-- A buffer that holds what it should. -/
theorem hold_of {sp : Space} {S : Shape} {e : EltTy} {c : Dev nD} {M : Memref sig .tc sp S e} {f : Bf (F := F) c M} {X : S.Idx → Elt F e} (h : M.view.read (Elt F) f = X) : pt c M f ⊢ hold c M X := by
  iintro H
  iexists f; isplitr; · ipureintro; exact h
  iexact H

variable (c : Dev nD) (t : Fin grid0.N) (M0 : Memref sig .tc .vmem S1024x1024 .f32) (h0 : M0.IsWhole) (M1 : Memref sig .tc .vmem S128x2x512 .f32) (h1 : M1.IsWhole) (M2 : Memref sig .tc .vmem S1x1024 .f32) (h2 : M2.IsWhole) (M3 : Memref sig .tc .vmem S1024x2048 .f32) (h3 : M3.IsWhole) (M4 : Memref sig .tc .vmem S3x512 .f32) (h4 : M4.IsWhole) (M5 : Memref sig .tc .vmem S4x128x128 .f32) (h5 : M5.IsWhole) (M6 : Memref sig .tc .vmem S1x512 .f32) (h6 : M6.IsWhole) (M7 : Memref sig .tc .vmem S1024x1024 .f32) (h7 : M7.IsWhole) (M8 : Memref sig .tc .vmem S1024x1024 .f32) (h8 : M8.IsWhole) (M9 : Memref sig .tc .vmem S1x2x512 .f32) (h9 : M9.IsWhole) (M10 : Memref sig .tc .vmem S128x2x512 .f32) (h10 : M10.IsWhole)
  (Y8 : Vec F S1024x1024 .f32) (Y9 : Vec F S1x2x512 .f32) (Y10 : Vec F S128x2x512 .f32)

/-- A sequence's first tile, not the first point. -/
theorem bodyHead (hq : t.val % 2 = 0) (hlo : 0 < t.val) (hhi : t.val < 15) :
    preP m c t.val M0 M1 M2 M3 M4 M5 M6 M7 M8 M9 M10 Y8 Y9 Y10
    ⊢ wp frame (wpE (defs₀ (F := F)) Variants.none c none) Set.univ (bodyP (grid0.coords t) M0 h0 M1 h1 M2 h2 M3 h3 M4 h4 M5 h5 M6 h6 M7 h7 M8 h8 M9 h9 M10 h10)
      fun _ => postP m c t.val M0 M1 M2 M3 M4 M5 M6 M7 M8 M9 M10 Y8 Y9 Y10 := by
  have hp := (pt_c2 t).2 (by omega)
  have hh := (pt_head t).2 (by omega)
  have hz := mt (pt_first t).1 (by omega)
  have ht := mt (pt_tail t).1 (by omega)
  have hc5 := mt (pt_c5 t).1 (by omega)
  have hc6 := mt (pt_c6 t).1 (by omega)
  have ho := pt_offsA t (by omega)
  unfold preP postP
  rw [phi_run m c t.val (by omega), phi_run m c (t.val + 1) (by omega)]
  unfold phiRun stAat caAt paAt
  iintro ⟨⟨⟨⟨%fc, %hfc, HCA⟩, ⟨%fp, %hfp, HPA⟩, HCB, HPB⟩, Hp, S, HH, ⟨%fa, %ha, HST⟩, HB⟩, ⟨%W, HO⟩, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩
  ihave S := (sems_split (F := F) c) $$ S
  unfold sems2
  icases S with ⟨Sa, Sb, ⟨S30, S31, S32, S33, S34, S35, S36, S37, S38, S39, S40, S41, S42, S43, S44⟩⟩
  iapply (stepHead c (grid0.coords t) hp hh hz ht hc5 hc6 M0 h0 M1 h1 M2 h2 M3 h3 M4 h4 M5 h5 M6 h6 M7 h7 M8 h8 M9 h9 M10 h10 f0 f2 f3 f4 f5 f6 f7 f8 f9 fc fp fa (tX m c t.val) (gN m c) (wN m c) e0 e2 e3 (cN m c) (kN m c) (sN m c) (oN m c) e4 e5 e6 e7 (t.val / 2) ho W _)
  iframe H0 H2 H3 H4 H5 H6 H7 H8 H9 HCA HPA HST S30 S31 S32 S33 S34 S35 S36 S37 S38 S39 S40 S41 S42 S43 S44 HO
  iintro ⟨H0, H2, H3, H4, H5, H6, H7, H8, H9, HCA, HPA, ⟨%fa', %ua, HST⟩, S30, S31, S32, S33, S34, S35, S36, S37, S38, S39, S40, S41, S42, S43, S44, HW⟩
  isplitl [HCA HPA HCB HPB Hp Sa Sb S30 S31 S32 S33 S34 S35 S36 S37 S38 S39 S40 S41 S42 S43 S44 HH HST HB]
  · isplitl [HCA HPA HCB HPB]
    · isplitl [HCA]
      · icases HCA with ⟨%fc', %hc', HCA⟩; iexists fc'; isplitr; · ipureintro; exact fun _ => hc'
        iexact HCA
      isplitl [HPA]
      · icases HPA with ⟨%fp', %hp', HPA⟩; iexists fp'; isplitr; · ipureintro; exact fun _ => hp'
        iexact HPA
      iframe HCB
      iexact HPB
    iframe Hp
    isplitl [Sa Sb S30 S31 S32 S33 S34 S35 S36 S37 S38 S39 S40 S41 S42 S43 S44]
    · iapply (sems_join (F := F) c)
      iframe Sa Sb
      unfold sems2
      iframe S30 S31 S32 S33 S34 S35 S36 S37 S38 S39 S40 S41 S42 S43
      iexact S44
    iframe HH
    isplitl [HST]
    · iexists fa'; isplitr; · ipureintro; exact agree_step m c t.val fa fa' ha ua
      iexact HST
    iexact HB
  iframe HW
  isplitl [H0]; · iapply (hold_of e0) $$ H0
  isplitl [H1]; · iapply (hold_of e1) $$ H1
  isplitl [H2]; · iapply (hold_of e2) $$ H2
  isplitl [H3]; · iapply (hold_of e3) $$ H3
  isplitl [H4]; · iapply (hold_of e4) $$ H4
  isplitl [H5]; · iapply (hold_of e5) $$ H5
  isplitl [H6]; · iapply (hold_of e6) $$ H6
  isplitl [H7]; · iapply (hold_of e7) $$ H7
  isplitl [H8]
  · iexists _; isplitr; swap; · iexact H8
    ipureintro; unfold after8; rw [if_pos (by omega), tO_first m c t (by omega)]; rfl
  isplitl [H9]
  · iexists _; isplitr; swap; · iexact H9
    ipureintro; unfold after9; rw [if_pos (by omega)]; rfl
  iexists Y10; isplitr
  · ipureintro; exact fun h => absurd h (by omega)
  iexists f10; isplitr; · ipureintro; exact e10
  iexact H10

/-- A sequence's second tile, not the last. -/
theorem bodyTail (hq : t.val % 2 = 1) (hhi : t.val < 15) :
    preP m c t.val M0 M1 M2 M3 M4 M5 M6 M7 M8 M9 M10 Y8 Y9 Y10
    ⊢ wp frame (wpE (defs₀ (F := F)) Variants.none c none) Set.univ (bodyP (grid0.coords t) M0 h0 M1 h1 M2 h2 M3 h3 M4 h4 M5 h5 M6 h6 M7 h7 M8 h8 M9 h9 M10 h10)
      fun _ => postP m c t.val M0 M1 M2 M3 M4 M5 M6 M7 M8 M9 M10 Y8 Y9 Y10 := by
  have hp := (pt_c2 t).2 (by omega)
  have ht := (pt_tail t).2 (by omega)
  have hz := mt (pt_first t).1 (by omega)
  have hh := mt (pt_head t).1 (by omega)
  have hc5 := mt (pt_c5 t).1 (by omega)
  have hc6 := mt (pt_c6 t).1 (by omega)
  have ho := pt_offsA t (by omega)
  unfold preP postP
  rw [phi_run m c t.val (by omega), phi_run m c (t.val + 1) (by omega)]
  unfold phiRun stAat caAt paAt
  iintro ⟨⟨⟨⟨%fc, %hfc, HCA⟩, ⟨%fp, %hfp, HPA⟩, HCB, HPB⟩, Hp, S, HH, ⟨%fa, %ha, HST⟩, HB⟩, ⟨%W, HO⟩, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩
  ihave S := (sems_split (F := F) c) $$ S
  unfold sems2
  icases S with ⟨Sa, Sb, ⟨S30, S31, S32, S33, S34, S35, S36, S37, S38, S39, S40, S41, S42, S43, S44⟩⟩
  iapply (stepTail c (grid0.coords t) hp ht hz hh hc5 hc6 M0 h0 M1 h1 M2 h2 M3 h3 M4 h4 M5 h5 M6 h6 M7 h7 M8 h8 M9 h9 M10 h10 f0 f2 f3 f4 f5 f6 f7 f8 f9 fc fp fa (tX m c t.val) (gN m c) (wN m c) e0 e2 e3 (cN m c) (kN m c) (sN m c) (oN m c) e4 e5 e6 e7 (uT m c (t.val - 1)) (pT m c (t.val - 1)) (hfc (by omega)) (hfp (by omega)) (t.val / 2) ho W _)
  iframe H0 H2 H3 H4 H5 H6 H7 H8 H9 HCA HPA HST S30 S31 S32 S33 S34 S35 S36 S37 S38 S39 S40 S41 S42 S43 S44 HO
  iintro ⟨H0, H2, H3, H4, H5, H6, H7, H8, H9, HCA, HPA, ⟨%fa', %ua, HST⟩, S30, S31, S32, S33, S34, S35, S36, S37, S38, S39, S40, S41, S42, S43, S44, HW⟩
  isplitl [HCA HPA HCB HPB Hp Sa Sb S30 S31 S32 S33 S34 S35 S36 S37 S38 S39 S40 S41 S42 S43 S44 HH HST HB]
  · isplitl [HCA HPA HCB HPB]
    · isplitl [HCA]
      · icases HCA with ⟨%fc', HCA⟩; iexists fc'; isplitr; · ipureintro; exact fun h => absurd h (by omega)
        iexact HCA
      isplitl [HPA]
      · icases HPA with ⟨%fp', HPA⟩; iexists fp'; isplitr; · ipureintro; exact fun h => absurd h (by omega)
        iexact HPA
      iframe HCB
      iexact HPB
    iframe Hp
    isplitl [Sa Sb S30 S31 S32 S33 S34 S35 S36 S37 S38 S39 S40 S41 S42 S43 S44]
    · iapply (sems_join (F := F) c)
      iframe Sa Sb
      unfold sems2
      iframe S30 S31 S32 S33 S34 S35 S36 S37 S38 S39 S40 S41 S42 S43
      iexact S44
    iframe HH
    isplitl [HST]
    · iexists fa'; isplitr; · ipureintro; exact agree_step m c t.val fa fa' ha ua
      iexact HST
    iexact HB
  iframe HW
  isplitl [H0]; · iapply (hold_of e0) $$ H0
  isplitl [H1]; · iapply (hold_of e1) $$ H1
  isplitl [H2]; · iapply (hold_of e2) $$ H2
  isplitl [H3]; · iapply (hold_of e3) $$ H3
  isplitl [H4]; · iapply (hold_of e4) $$ H4
  isplitl [H5]; · iapply (hold_of e5) $$ H5
  isplitl [H6]; · iapply (hold_of e6) $$ H6
  isplitl [H7]; · iapply (hold_of e7) $$ H7
  isplitl [H8]
  · iexists _; isplitr; swap; · iexact H8
    ipureintro; unfold after8; rw [if_pos (by omega), tO_second m c t (by omega)]; rfl
  isplitl [H9]
  · iexists _; isplitr; swap; · iexact H9
    ipureintro; unfold after9; rw [if_pos (by omega)]; rfl
  iexists Y10; isplitr
  · ipureintro; exact fun h => absurd h (by omega)
  iexists f10; isplitr; · ipureintro; exact e10
  iexact H10

/-- The first point. -/
theorem bodyFirst (hq : t.val = 0) :
    preP m c t.val M0 M1 M2 M3 M4 M5 M6 M7 M8 M9 M10 Y8 Y9 Y10
    ⊢ wp frame (wpE (defs₀ (F := F)) Variants.none c none) Set.univ (bodyP (grid0.coords t) M0 h0 M1 h1 M2 h2 M3 h3 M4 h4 M5 h5 M6 h6 M7 h7 M8 h8 M9 h9 M10 h10)
      fun _ => postP m c t.val M0 M1 M2 M3 M4 M5 M6 M7 M8 M9 M10 Y8 Y9 Y10 := by
  have hz := (pt_first t).2 (by omega)
  have hp := (pt_c2 t).2 (by omega)
  have hh := (pt_head t).2 (by omega)
  have ht := mt (pt_tail t).1 (by omega)
  have hc5 := mt (pt_c5 t).1 (by omega)
  have hc6 := mt (pt_c6 t).1 (by omega)
  have ho := pt_offsA t (by omega)
  unfold preP postP
  rw [phi_run m c t.val (by omega), phi_run m c (t.val + 1) (by omega)]
  unfold phiRun stAat caAt paAt
  iintro ⟨⟨⟨⟨%fc, %hfc, HCA⟩, ⟨%fp, %hfp, HPA⟩, HCB, ⟨%gp, HPB⟩⟩, Hp, S, HH, ⟨%fa, %ha, HST⟩, HB⟩, ⟨%W, HO⟩, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩
  ihave S := (sems_split (F := F) c) $$ S
  unfold sems2
  icases S with ⟨Sa, Sb, ⟨S30, S31, S32, S33, S34, S35, S36, S37, S38, S39, S40, S41, S42, S43, S44⟩⟩
  iapply (stepFirst c (grid0.coords t) hz hp hh ht hc5 hc6 M0 h0 M1 h1 M2 h2 M3 h3 M4 h4 M5 h5 M6 h6 M7 h7 M8 h8 M9 h9 M10 h10 f0 f2 f3 f4 f5 f6 f7 f8 f9 fc fp fa gp (tX m c t.val) (gN m c) (wN m c) e0 e2 e3 (cN m c) (kN m c) (sN m c) (oN m c) e4 e5 e6 e7 (t.val / 2) ho W _)
  iframe H0 H2 H3 H4 H5 H6 H7 H8 H9 HCA HPA HST HPB S30 S31 S32 S33 S34 S35 S36 S37 S38 S39 S40 S41 S42 S43 S44 HO
  iintro ⟨H0, H2, H3, H4, H5, H6, H7, H8, H9, HCA, HPA, ⟨%fa', %ua, HST⟩, HPB, S30, S31, S32, S33, S34, S35, S36, S37, S38, S39, S40, S41, S42, S43, S44, HW⟩
  isplitl [HCA HPA HCB HPB Hp Sa Sb S30 S31 S32 S33 S34 S35 S36 S37 S38 S39 S40 S41 S42 S43 S44 HH HST HB]
  · isplitl [HCA HPA HCB HPB]
    · isplitl [HCA]
      · icases HCA with ⟨%fc', %hc', HCA⟩; iexists fc'; isplitr; · ipureintro; exact fun _ => hc'
        iexact HCA
      isplitl [HPA]
      · icases HPA with ⟨%fp', %hp', HPA⟩; iexists fp'; isplitr; · ipureintro; exact fun _ => hp'
        iexact HPA
      iframe HCB
      iexact HPB
    iframe Hp
    isplitl [Sa Sb S30 S31 S32 S33 S34 S35 S36 S37 S38 S39 S40 S41 S42 S43 S44]
    · iapply (sems_join (F := F) c)
      iframe Sa Sb
      unfold sems2
      iframe S30 S31 S32 S33 S34 S35 S36 S37 S38 S39 S40 S41 S42 S43
      iexact S44
    iframe HH
    isplitl [HST]
    · iexists fa'; isplitr; · ipureintro; exact agree_step m c t.val fa fa' ha ua
      iexact HST
    iexact HB
  iframe HW
  isplitl [H0]; · iapply (hold_of e0) $$ H0
  isplitl [H1]; · iapply (hold_of e1) $$ H1
  isplitl [H2]; · iapply (hold_of e2) $$ H2
  isplitl [H3]; · iapply (hold_of e3) $$ H3
  isplitl [H4]; · iapply (hold_of e4) $$ H4
  isplitl [H5]; · iapply (hold_of e5) $$ H5
  isplitl [H6]; · iapply (hold_of e6) $$ H6
  isplitl [H7]; · iapply (hold_of e7) $$ H7
  isplitl [H8]
  · iexists _; isplitr; swap; · iexact H8
    ipureintro; unfold after8; rw [if_pos (by omega), tO_first m c t (by omega)]; rfl
  isplitl [H9]
  · iexists _; isplitr; swap; · iexact H9
    ipureintro; unfold after9; rw [if_pos (by omega)]; rfl
  iexists Y10; isplitr
  · ipureintro; exact fun h => absurd h (by omega)
  iexists f10; isplitr; · ipureintro; exact e10
  iexact H10

/-- The last prompt's second tile, which starts the sample's pool history. -/
theorem bodyLast (hq : t.val = 15) :
    preP m c t.val M0 M1 M2 M3 M4 M5 M6 M7 M8 M9 M10 Y8 Y9 Y10
    ⊢ wp frame (wpE (defs₀ (F := F)) Variants.none c none) Set.univ (bodyP (grid0.coords t) M0 h0 M1 h1 M2 h2 M3 h3 M4 h4 M5 h5 M6 h6 M7 h7 M8 h8 M9 h9 M10 h10)
      fun _ => postP m c t.val M0 M1 M2 M3 M4 M5 M6 M7 M8 M9 M10 Y8 Y9 Y10 := by
  have hp := (pt_c2 t).2 (by omega)
  have ht := (pt_tail t).2 (by omega)
  have hc5 := (pt_c5 t).2 (by omega)
  have hz := mt (pt_first t).1 (by omega)
  have hh := mt (pt_head t).1 (by omega)
  have hc6 := mt (pt_c6 t).1 (by omega)
  have ho := pt_offsA t (by omega)
  have hn : t.val + 1 = 16 := by omega
  unfold preP postP
  rw [phi_run m c t.val (by omega), hn, phi_fly]
  unfold phiRun phiFly stAat caAt paAt
  iintro ⟨⟨⟨⟨%fc, %hfc, HCA⟩, ⟨%fp, %hfp, HPA⟩, HCB, ⟨%gp, HPB⟩⟩, Hp, S, HH, ⟨%fa, %ha, HST⟩, HB⟩, ⟨%W, HO⟩, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩
  ihave S := (sems_split (F := F) c) $$ S
  unfold sems0 sems2
  icases S with ⟨⟨S0, S1, S2, S3, S4, S5, S6, S7, S8, S9, S10, S11, S12, S13, S14⟩, Sb, ⟨S30, S31, S32, S33, S34, S35, S36, S37, S38, S39, S40, S41, S42, S43, S44⟩⟩
  ihave HPB := (pb_split (F := F) c gp) $$ HPB
  unfold pbParts
  icases HPB with ⟨RZ, R0, R1, R2, R3, R4, R5, R6, R7, R8, R9, R10, R11, R12, R13, R14, RT⟩
  iapply (stepLastP c (grid0.coords t) hp ht hc5 hz hh hc6 M0 h0 M1 h1 M2 h2 M3 h3 M4 h4 M5 h5 M6 h6 M7 h7 M8 h8 M9 h9 M10 h10 f0 f2 f3 f4 f5 f6 f7 f8 f9 fc fp fa (V m c main_v0) (tX m c t.val) (gN m c) (wN m c) e0 e2 e3 (cN m c) (kN m c) (sN m c) (oN m c) e4 e5 e6 e7 (uT m c (t.val - 1)) (pT m c (t.val - 1)) (hfc (by omega)) (hfp (by omega)) (t.val / 2) ho gp gp gp gp gp gp gp gp gp gp gp gp gp gp gp W _)
  iframe H0 H2 H3 H4 H5 H6 H7 H8 H9 HCA HPA HST HH S0 S1 S2 S3 S4 S5 S6 S7 S8 S9 S10 S11 S12 S13 S14 S30 S31 S32 S33 S34 S35 S36 S37 S38 S39 S40 S41 S42 S43 S44 R0 R1 R2 R3 R4 R5 R6 R7 R8 R9 R10 R11 R12 R13 R14 HO
  iintro ⟨H0, H2, H3, H4, H5, H6, H7, H8, H9, HCA, HPA, ⟨%fa', %ua, HST⟩, R0, R1, R2, R3, R4, R5, R6, R7, R8, R9, R10, R11, R12, R13, R14, HH, S30, S31, S32, S33, S34, S35, S36, S37, S38, S39, S40, S41, S42, S43, S44, HW⟩
  isplitl [HCA HPA HCB Hp Sb S30 S31 S32 S33 S34 S35 S36 S37 S38 S39 S40 S41 S42 S43 S44 R0 R1 R2 R3 R4 R5 R6 R7 R8 R9 R10 R11 R12 R13 R14 HH RT RZ HST HB]
  · isplitl [HCA HPA HCB]
    · isplitl [HCA]; · iexact HCA
      iframe HPA
      iexact HCB
    iframe Hp Sb
    isplitl [S30 S31 S32 S33 S34 S35 S36 S37 S38 S39 S40 S41 S42 S43 S44]
    · isplitl [S30]; · iexact S30
      iframe S31 S32 S33 S34 S35 S36 S37 S38 S39 S40 S41 S42 S43
      iexact S44
    isplitl [R0 R1 R2 R3 R4 R5 R6 R7 R8 R9 R10 R11 R12 R13 R14]
    · isplitl [R0]; · iexists _; iexact R0
      isplitl [R1]; · iexists _; iexact R1
      isplitl [R2]; · iexists _; iexact R2
      isplitl [R3]; · iexists _; iexact R3
      isplitl [R4]; · iexists _; iexact R4
      isplitl [R5]; · iexists _; iexact R5
      isplitl [R6]; · iexists _; iexact R6
      isplitl [R7]; · iexists _; iexact R7
      isplitl [R8]; · iexists _; iexact R8
      isplitl [R9]; · iexists _; iexact R9
      isplitl [R10]; · iexists _; iexact R10
      isplitl [R11]; · iexists _; iexact R11
      isplitl [R12]; · iexists _; iexact R12
      isplitl [R13]; · iexists _; iexact R13
      iexists _; iexact R14
    iframe HH
    isplitl [RT]; · iexists _; iexact RT
    isplitl [RZ]; · iexists _; iexact RZ
    isplitl [HST]
    · iexists fa'; isplitr; · ipureintro; exact hn ▸ agree_step m c t.val fa fa' ha ua
      iexact HST
    iexact HB
  iframe HW
  isplitl [H0]; · iapply (hold_of e0) $$ H0
  isplitl [H1]; · iapply (hold_of e1) $$ H1
  isplitl [H2]; · iapply (hold_of e2) $$ H2
  isplitl [H3]; · iapply (hold_of e3) $$ H3
  isplitl [H4]; · iapply (hold_of e4) $$ H4
  isplitl [H5]; · iapply (hold_of e5) $$ H5
  isplitl [H6]; · iapply (hold_of e6) $$ H6
  isplitl [H7]; · iapply (hold_of e7) $$ H7
  isplitl [H8]
  · iexists _; isplitr; swap; · iexact H8
    ipureintro; unfold after8; rw [if_pos (by omega), tO_second m c t (by omega)]; rfl
  isplitl [H9]
  · iexists _; isplitr; swap; · iexact H9
    ipureintro; unfold after9; rw [if_pos (by omega)]; rfl
  iexists Y10; isplitr
  · ipureintro; exact fun h => absurd h (by omega)
  iexists f10; isplitr; · ipureintro; exact e10
  iexact H10

/-- The sample's point. -/
theorem bodySample (hq : t.val = 16) :
    preP m c t.val M0 M1 M2 M3 M4 M5 M6 M7 M8 M9 M10 Y8 Y9 Y10
    ⊢ wp frame (wpE (defs₀ (F := F)) Variants.none c none) Set.univ (bodyP (grid0.coords t) M0 h0 M1 h1 M2 h2 M3 h3 M4 h4 M5 h5 M6 h6 M7 h7 M8 h8 M9 h9 M10 h10)
      fun _ => postP m c t.val M0 M1 M2 M3 M4 M5 M6 M7 M8 M9 M10 Y8 Y9 Y10 := by
  have hc6 := (pt_c6 t).2 (by omega)
  have hz := mt (pt_first t).1 (by omega)
  have hp := mt (pt_c2 t).1 (by omega)
  have hc7 := pt_c7 t
  have ho := pt_offsB t hq
  have hn : t.val + 1 = 17 := by omega
  unfold preP postP
  rw [hn, phi_end, show phi m c t.val = phiFly m c by rw [hq, phi_fly]]
  unfold phiFly phiEnd
  iintro ⟨⟨⟨HCA, HPA, ⟨%gc, HCB⟩⟩, Hp, Sb, Sc, ⟨⟨%a0, R0⟩, ⟨%a1, R1⟩, ⟨%a2, R2⟩, ⟨%a3, R3⟩, ⟨%a4, R4⟩, ⟨%a5, R5⟩, ⟨%a6, R6⟩, ⟨%a7, R7⟩, ⟨%a8, R8⟩, ⟨%a9, R9⟩, ⟨%a10, R10⟩, ⟨%a11, R11⟩, ⟨%a12, R12⟩, ⟨%a13, R13⟩, ⟨%a14, R14⟩⟩, HH, ⟨%gp, RT⟩, ⟨%g0, RZ⟩, HST, ⟨%fb, HB⟩⟩, ⟨%W, HO⟩, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩
  unfold sems1
  icases Sb with ⟨S15, S16, S17, S18, S19, S20, S21, S22, S23, S24, S25, S26, S27, S28, S29⟩
  iapply (stepSample c (grid0.coords t) hc6 hz hp hc7 M0 h0 M1 h1 M2 h2 M3 h3 M4 h4 M5 h5 M6 h6 M7 h7 M8 h8 M9 h9 M10 h10 f0 f1 f2 f3 f4 f5 f6 f7 f8 f10 gc fb (tX m c t.val) (gN m c) (wN m c) e0 e2 e3 (cN m c) (kN m c) (sN m c) (oN m c) e4 e5 e6 e7 (hN m c) e1 ho gp g0 (V m c main_v0) a0 a1 a2 a3 a4 a5 a6 a7 a8 a9 a10 a11 a12 a13 a14 W _)
  iframe H0 H1 H2 H3 H4 H5 H6 H7 H8 H10 HCB HB S15 S16 S17 S18 S19 S20 S21 S22 S23 S24 S25 S26 S27 S28 S29 R0 R1 R2 R3 R4 R5 R6 R7 R8 R9 R10 R11 R12 R13 R14 HH RT RZ HO
  iintro ⟨H0, H1, H2, H3, H4, H5, H6, H7, H8, H10, HCB, HPB, ⟨%fb', %ub, HB⟩, S0, S1, S2, S3, S4, S5, S6, S7, S8, S9, S10, S11, S12, S13, S14, S15, S16, S17, S18, S19, S20, S21, S22, S23, S24, S25, S26, S27, S28, S29, HH, HW⟩
  isplitl [HCA HPA HCB HPB Hp S0 S1 S2 S3 S4 S5 S6 S7 S8 S9 S10 S11 S12 S13 S14 S15 S16 S17 S18 S19 S20 S21 S22 S23 S24 S25 S26 S27 S28 S29 Sc HH HST HB]
  · isplitl [HCA HPA HCB HPB]
    · isplitl [HCA]; · iexact HCA
      iframe HPA HCB
      iexact HPB
    iframe Hp
    isplitl [S0 S1 S2 S3 S4 S5 S6 S7 S8 S9 S10 S11 S12 S13 S14 S15 S16 S17 S18 S19 S20 S21 S22 S23 S24 S25 S26 S27 S28 S29 Sc]
    · iapply (sems_join (F := F) c)
      isplitl [S0 S1 S2 S3 S4 S5 S6 S7 S8 S9 S10 S11 S12 S13 S14]
      · unfold sems0
        iframe S0 S1 S2 S3 S4 S5 S6 S7 S8 S9 S10 S11 S12 S13
        iexact S14
      isplitl [S15 S16 S17 S18 S19 S20 S21 S22 S23 S24 S25 S26 S27 S28 S29]
      · unfold sems1
        iframe S15 S16 S17 S18 S19 S20 S21 S22 S23 S24 S25 S26 S27 S28
        iexact S29
      iexact Sc
    iframe HH
    isplitl [HST]
    · unfold stAat
      icases HST with ⟨%fa, %ha, HST⟩
      iexists fa; isplitr; · ipureintro; exact agree_mono m c 16 (by decide) fa ha
      iexact HST
    rw [show GB m c = fb' from (funext fun i => (ub i (i 0).isLt).trans (by unfold GB; rw [hq])).symm]
    iexact HB
  iframe HW
  isplitl [H0]; · iapply (hold_of e0) $$ H0
  isplitl [H1]; · iapply (hold_of e1) $$ H1
  isplitl [H2]; · iapply (hold_of e2) $$ H2
  isplitl [H3]; · iapply (hold_of e3) $$ H3
  isplitl [H4]; · iapply (hold_of e4) $$ H4
  isplitl [H5]; · iapply (hold_of e5) $$ H5
  isplitl [H6]; · iapply (hold_of e6) $$ H6
  isplitl [H7]; · iapply (hold_of e7) $$ H7
  isplitl [H8]
  · icases H8 with ⟨%Y8', %hY, H8⟩; iexists Y8'; isplitr
    · ipureintro; unfold after8; rw [if_neg (by omega)]; unfold tOS; rw [hq] at hY; exact hY
    iexact H8
  isplitl [H9]
  · iexists Y9; isplitr
    · ipureintro; unfold after9; rw [if_neg (by omega)]
    iexists f9; isplitr; · ipureintro; exact e9
    iexact H9
  iexists _; isplitr; swap; · iexact H10
  ipureintro; intro _; unfold tS; rw [hq]

/-- Every point. -/
theorem bodyAll :
    preP m c t.val M0 M1 M2 M3 M4 M5 M6 M7 M8 M9 M10 Y8 Y9 Y10
    ⊢ wp frame (wpE (defs₀ (F := F)) Variants.none c none) Set.univ (bodyP (grid0.coords t) M0 h0 M1 h1 M2 h2 M3 h3 M4 h4 M5 h5 M6 h6 M7 h7 M8 h8 M9 h9 M10 h10)
      fun _ => postP m c t.val M0 M1 M2 M3 M4 M5 M6 M7 M8 M9 M10 Y8 Y9 Y10 := by
  have hlt : t.val < 17 := lt_of_lt_of_eq t.isLt N_0
  rcases Nat.lt_or_ge t.val 15 with h | h
  · rcases Nat.eq_zero_or_pos t.val with h' | h'
    · exact bodyFirst m c t M0 h0 M1 h1 M2 h2 M3 h3 M4 h4 M5 h5 M6 h6 M7 h7 M8 h8 M9 h9 M10 h10 Y8 Y9 Y10 h'
    · rcases Nat.mod_two_eq_zero_or_one t.val with e | e
      · exact bodyHead m c t M0 h0 M1 h1 M2 h2 M3 h3 M4 h4 M5 h5 M6 h6 M7 h7 M8 h8 M9 h9 M10 h10 Y8 Y9 Y10 e h' h
      · exact bodyTail m c t M0 h0 M1 h1 M2 h2 M3 h3 M4 h4 M5 h5 M6 h6 M7 h7 M8 h8 M9 h9 M10 h10 Y8 Y9 Y10 e h
  · rcases Nat.lt_or_ge t.val 16 with h' | h'
    · exact bodyLast m c t M0 h0 M1 h1 M2 h2 M3 h3 M4 h4 M5 h5 M6 h6 M7 h7 M8 h8 M9 h9 M10 h10 Y8 Y9 Y10 (by omega)
    · exact bodySample m c t M0 h0 M1 h1 M2 h2 M3 h3 M4 h4 M5 h5 M6 h6 M7 h7 M8 h8 M9 h9 M10 h10 Y8 Y9 Y10 (by omega)

end Cert.Mix

end
-- ==== Proof.MixRun.lean ====
/-
  The mixer's run: from any memory it terminates with its arguments unchanged and every semaphore at zero, and its results hold
  what the pipeline's data says.
-/
module

public import proofs.«01_k».proof.Proof.MixBody
public import Idealize.ShloMosaic.Lib.Pipeline.FrameValue

@[expose] public section

set_option maxRecDepth 16384

noncomputable section

namespace Cert.Mix

open Cert.Kernel3Ideal Cert.Kernel3Ideal.Gen
open Idealize.ShloMosaic
open Idealize.ShloMosaic.TcCoe Idealize.ShloMosaic.Tactic
open Idealize.ShloMosaic.Pipeline (RDat Cfg Window)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem body_row (t : Fin cfg0.N) :
    defs₀ (F := F) .tc cfg0.body (cfg0.bodyArgs t (cfg0.slots t)) = bodyAt0 t := by
  unfold defs₀; rw [Defs.onTc_tc]

/-- The pipeline's obligation at every point. -/
theorem obligation (c : Dev nD) : (rdat m c).BodyObligation (defs₀ (F := F)) Variants.none () Set.univ := fun t Y hY => by
  rw [bigSep_W0, bigSep_W0, body_row]
  have hb := bodyAll m c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10))
    (Y 8) (Y 9) (Y 10)
  refine BI.Entails.trans ?_ (hb.trans (wp_mono _ _ _ fun _ => ?_))
  · unfold RDat.owesAt Pipeline.owesWithin
    rw [show (rdat m c).owed t.castSucc = 0 from rfl]
    change iprop(phi m c t.val ∗ _) ⊢ _
    iintro ⟨HP, ⟨%W, -, HO⟩, H0, H1, H2, H3, H4, H5, H6, H7, H8, H9, H10⟩
    isplitl [HP]; · iexact HP
    isplitl [HO]; · iexists W; iexact HO
    isplitl [H0]
    · rw [← finds0 m c t (Y 0) (hY 0)]
      iapply (owns_hold c _ (hstage0_0 ((cfg0.slots t 0).cast nbuf0_0)) (Y 0)); iexact H0
    isplitl [H1]
    · rw [← finds1 m c t (Y 1) (hY 1)]
      iapply (owns_hold c _ (hstage0_1 ((cfg0.slots t 1).cast nbuf0_1)) (Y 1)); iexact H1
    isplitl [H2]
    · rw [← finds2 m c t (Y 2) (hY 2)]
      iapply (owns_hold c _ (hstage0_2 ((cfg0.slots t 2).cast nbuf0_2)) (Y 2)); iexact H2
    isplitl [H3]
    · rw [← finds3 m c t (Y 3) (hY 3)]
      iapply (owns_hold c _ (hstage0_3 ((cfg0.slots t 3).cast nbuf0_3)) (Y 3)); iexact H3
    isplitl [H4]
    · rw [← finds4 m c t (Y 4) (hY 4)]
      iapply (owns_hold c _ (hstage0_4 ((cfg0.slots t 4).cast nbuf0_4)) (Y 4)); iexact H4
    isplitl [H5]
    · rw [← finds5 m c t (Y 5) (hY 5)]
      iapply (owns_hold c _ (hstage0_5 ((cfg0.slots t 5).cast nbuf0_5)) (Y 5)); iexact H5
    isplitl [H6]
    · rw [← finds6 m c t (Y 6) (hY 6)]
      iapply (owns_hold c _ (hstage0_6 ((cfg0.slots t 6).cast nbuf0_6)) (Y 6)); iexact H6
    isplitl [H7]
    · rw [← finds7 m c t (Y 7) (hY 7)]
      iapply (owns_hold c _ (hstage0_7 ((cfg0.slots t 7).cast nbuf0_7)) (Y 7)); iexact H7
    isplitl [H8]
    · iapply (owns_hold c _ (hstage0_8 ((cfg0.slots t 8).cast nbuf0_8)) (Y 8)); iexact H8
    isplitl [H9]
    · iapply (owns_hold c _ (hstage0_9 ((cfg0.slots t 9).cast nbuf0_9)) (Y 9)); iexact H9
    iapply (owns_hold c _ (hstage0_10 ((cfg0.slots t 10).cast nbuf0_10)) (Y 10)); iexact H10
  · unfold RDat.owesAt Pipeline.owesWithin
    rw [show (rdat m c).owed t.succ = 0 from rfl]
    change _ ⊢ iprop(phi m c (t.val + 1) ∗ _)
    iintro ⟨HP, ⟨%W, HO⟩, H0, H1, H2, H3, H4, H5, H6, H7, ⟨%X8, %a8, H8⟩, ⟨%X9, %a9, H9⟩, ⟨%X10, %a10, H10⟩⟩
    isplitl [HP]; · iexact HP
    isplitl [HO]
    · iexists W; isplitr; · ipureintro; exact fun _ _ => Or.inl trivial
      iexact HO
    isplitl [H0]
    · iexists (Y 0); isplitr; · ipureintro; rfl
      rw [← finds0 m c t (Y 0) (hY 0)]
      iapply (hold_owns c _ (hstage0_0 ((cfg0.slots t 0).cast nbuf0_0)) (Y 0)); iexact H0
    isplitl [H1]
    · iexists (Y 1); isplitr; · ipureintro; rfl
      rw [← finds1 m c t (Y 1) (hY 1)]
      iapply (hold_owns c _ (hstage0_1 ((cfg0.slots t 1).cast nbuf0_1)) (Y 1)); iexact H1
    isplitl [H2]
    · iexists (Y 2); isplitr; · ipureintro; rfl
      rw [← finds2 m c t (Y 2) (hY 2)]
      iapply (hold_owns c _ (hstage0_2 ((cfg0.slots t 2).cast nbuf0_2)) (Y 2)); iexact H2
    isplitl [H3]
    · iexists (Y 3); isplitr; · ipureintro; rfl
      rw [← finds3 m c t (Y 3) (hY 3)]
      iapply (hold_owns c _ (hstage0_3 ((cfg0.slots t 3).cast nbuf0_3)) (Y 3)); iexact H3
    isplitl [H4]
    · iexists (Y 4); isplitr; · ipureintro; rfl
      rw [← finds4 m c t (Y 4) (hY 4)]
      iapply (hold_owns c _ (hstage0_4 ((cfg0.slots t 4).cast nbuf0_4)) (Y 4)); iexact H4
    isplitl [H5]
    · iexists (Y 5); isplitr; · ipureintro; rfl
      rw [← finds5 m c t (Y 5) (hY 5)]
      iapply (hold_owns c _ (hstage0_5 ((cfg0.slots t 5).cast nbuf0_5)) (Y 5)); iexact H5
    isplitl [H6]
    · iexists (Y 6); isplitr; · ipureintro; rfl
      rw [← finds6 m c t (Y 6) (hY 6)]
      iapply (hold_owns c _ (hstage0_6 ((cfg0.slots t 6).cast nbuf0_6)) (Y 6)); iexact H6
    isplitl [H7]
    · iexists (Y 7); isplitr; · ipureintro; rfl
      rw [← finds7 m c t (Y 7) (hY 7)]
      iapply (hold_owns c _ (hstage0_7 ((cfg0.slots t 7).cast nbuf0_7)) (Y 7)); iexact H7
    isplitl [H8]
    · iexists X8; isplitr; · ipureintro; exact a8
      iapply (hold_owns c _ (hstage0_8 ((cfg0.slots t 8).cast nbuf0_8)) X8); iexact H8
    isplitl [H9]
    · iexists X9; isplitr; · ipureintro; exact a9
      iapply (hold_owns c _ (hstage0_9 ((cfg0.slots t 9).cast nbuf0_9)) X9); iexact H9
    iexists X10; isplitr; · ipureintro; exact a10
    iapply (hold_owns c _ (hstage0_10 ((cfg0.slots t 10).cast nbuf0_10)) X10); iexact H10

/-- The run: every window's array as the pipeline's data says, the two buffers the kernel writes itself at what they end at, every other
    unscoped buffer as the region finds it, every counter at zero. -/
theorem run_main : θ_run defs (onTc (τ := τ) (main (F := F))) (s₀ m ρ)
    (fun r => RDat.FramePostRG cfg0 (rdat m) outRefs (V m) (ends m) r ∧ r.2.sem = fun _ => 0) :=
  RDat.θ_run_frame_dmaRG_shared (Q' := _) cfgs (0 : Fin 1) launch0.to₀ osem defs₀ Variants.none (rdat m) osem_ok hbmRefs outRefs hbmRefs_sub outRefs_sub m ρ main
    (hbody := obligation m) (hq := fun _ _ _ => rfl) (howed := fun _ _ => rfl) (V := V m)
    (hmain := Pipeline.hmain_prefix cfgs 0 defs₀ Variants.none m main hostOps0 hostOps0_sub hostOps0_fresh main_chain)
    (hA := fun _ _ => rfl) (G := ends m) (hin := fun c => phi_in m c) (hout := fun c => phi_out m c)

/-- The arguments end as they were. -/
theorem args_of {r : PUnit × MemSt nD τ sig (Elt F)} (h : RDat.FramePostRG cfg0 (rdat m) outRefs (V m) (ends m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(h.toR.arr_in c 0 rfl).trans (V_main_arg0 m c),
    (h.toR.arr_in c 1 rfl).trans (V_main_arg1 m c),
    ((h.toR c).2 main_arg2 (by decide)).trans (V_main_arg2 m c),
    ((h.toR c).2 main_arg3 (by decide)).trans (V_main_arg3 m c),
    (h.toR.arr_in c 3 rfl).trans (V_main_arg4 m c),
    (h.toR.arr_in c 4 rfl).trans (V_main_arg5 m c),
    (h.toR.arr_in c 5 rfl).trans (V_main_arg6 m c),
    ((h.toR c).2 main_arg7 (by decide)).trans (V_main_arg7 m c),
    (h.toR.arr_in c 7 rfl).trans (V_main_arg8 m c)⟩

/-- The frame, at any float values: the run terminates, the arguments end as they were, every counter ends at zero. -/
theorem frame_main : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
    ∧ r.2.sem = fun _ => 0) :=
  (θ_run defs _ _).mono (fun _ h => ⟨fun c => args_of m h.1 c, h.2⟩) (run_main m ρ)

end Cert.Mix

end
-- ==== Proof.MixFinal.lean ====
/-
  WHAT THE MIXER'S STATES HOLD AT THE END, at any float values: a prompt's convolution state is what its second tile left, the
  sample's what the sample's tile left; the two pool states are the buffers the kernel writes itself.
-/
module

public import proofs.«01_k».proof.Proof.MixRun
public import Idealize.ShloMosaic.Lib.Pipeline.ArrRel
public import Idealize.ShloMosaic.Lib.Pipeline.Value

@[expose] public section

set_option maxRecDepth 16384

noncomputable section

namespace Cert.Mix

open Cert.Kernel3Ideal Cert.Kernel3Ideal.Gen
open Idealize.ShloMosaic
open Idealize.ShloMosaic.TcCoe Idealize.ShloMosaic.Tactic
open Idealize.ShloMosaic.Pipeline (RDat Cfg Window)
open Idealize.SL.Sem

variable {F : FTy → Type} [FloatOps F]

variable (m : (ℓ : Loc nD τ sig) → Buf (Elt F) ℓ)

theorem flush9 : ∀ t : Fin cfg0.N, (cfg0.win 9).flush t = true → (t.val % 2 = 1 ∧ t.val < 15) ∨ t.val = 16 := by decide +kernel
theorem flushed9 : ∀ t : Fin cfg0.N, (t.val % 2 = 1 ∧ t.val < 15) ∨ t.val = 16 → (cfg0.win 9).flush t = true := by decide +kernel
theorem index9 : ∀ t : Fin cfg0.N, (cfg0.win 9).index t = ![min t.val 15 / 2, 0, 0] := by decide +kernel
theorem flush10 : ∀ t : Fin cfg0.N, (cfg0.win 10).flush t = true ↔ t.val = 16 := by decide +kernel
theorem index10 : ∀ t : Fin cfg0.N, (cfg0.win 10).index t = ![0, 0, 0] := by decide +kernel
theorem flush8 : ∀ t : Fin cfg0.N, (cfg0.win 8).flush t = true := by decide +kernel
theorem index8 : ∀ t : Fin cfg0.N, (cfg0.win 8).index t = ![t.val, 0] := by decide +kernel
theorem fetch9 : ∀ t : Fin cfg0.N, (cfg0.win 9).fetch t = false := by decide +kernel

/-- Point `n` of the grid. -/
abbrev ptOf (n : ℕ) (h : n < 17) : Fin cfg0.N := ⟨n, lt_of_lt_of_eq h N_0.symm⟩

/-- The last point finds the last prompt's convolution state as the point before it left it. -/
theorem finds9_last (c : Dev nD) (t : Fin cfg0.N) (ht : t.val = 16) (Y) (h : (rdat m c).Finds 9 t Y) : Y = tC m c 15 := by
  unfold RDat.Finds at h
  rw [if_neg (by rw [show (cfg0.win 9).fetch t = false from fetch9 t]; decide), if_neg (by omega)] at h
  have hf : ¬ (cfg0.win 9).flush ⟨t.val - 1, lt_of_le_of_lt (Nat.sub_le _ _) t.isLt⟩ = true := fun e => by
    rcases flush9 _ e with h1 | h1
    · exact absurd h1.2 (by show ¬ t.val - 1 < 15; omega)
    · exact absurd h1 (by show ¬ t.val - 1 = 16; omega)
  dsimp only at h
  rw [if_neg hf] at h
  obtain ⟨Y', _, ha⟩ := h
  have h' : after9 m c (t.val - 1) Y' Y := ha
  unfold after9 at h'
  rw [if_pos (by omega)] at h'
  rw [h', show t.val - 1 = 15 from by omega]

/-- What a point that writes a prompt's convolution state back left in its buffer: what the prompt's second tile left. -/
theorem leaves9 (c : Dev nD) (t : Fin cfg0.N) (ht : (cfg0.win 9).flush t = true) (X) (hX : (rdat m c).Leaves 9 t X) :
    X = tC m c (2 * (min t.val 15 / 2) + 1) := by
  obtain ⟨Y, hY, hXY⟩ := hX
  have h' : after9 m c t.val Y X := hXY
  unfold after9 at h'
  rcases flush9 t ht with h | h
  · rw [if_pos (by omega)] at h'
    rw [h', show 2 * (min t.val 15 / 2) + 1 = t.val from by omega]
  · rw [if_neg (by omega)] at h'
    rw [h', finds9_last m c t h Y hY, show 2 * (min t.val 15 / 2) + 1 = 15 from by omega]

/-- What the last point left for the sample's convolution state. -/
theorem leaves10 (c : Dev nD) (t : Fin cfg0.N) (ht : (cfg0.win 10).flush t = true) (X) (hX : (rdat m c).Leaves 10 t X) : X = tS m c := by
  obtain ⟨Y, _, hXY⟩ := hX
  have h' : after10 m c t.val X := hXY
  exact h' ((flush10 t).mp ht)

variable {m} {r : PUnit × MemSt nD τ sig (Elt F)} (h : RDat.FramePostRG cfg0 (rdat m) outRefs (V m) (ends m) r) (c : Dev nD)

/-- An entry of the tokens in its tile. -/
theorem tile_at {α : Type} (A : Fin cfg0.N → S1024x1024.Idx → α) (t : Fin cfg0.N) (y : S1024x1024.Idx) (i : S17408x1024.Idx) (h0 : (i 0).val = t.val * 1024 + (y 0).val) (h1 : (i 1).val = (y 1).val) :
    A t y = A (ptOf ((i 0).val / 1024) (by have : (i 0).val < 17408 := (i 0).isLt; omega)) (ValueIdx.ix2 (⟨(i 0).val % 1024, Nat.mod_lt _ (by decide)⟩ : Fin 1024) (i 1)) := by
  have hy : (y 0).val < 1024 := (y 0).isLt
  have ep : ∀ h, ptOf ((i 0).val / 1024) h = t := fun h => Fin.ext (by show (i 0).val / 1024 = t.val; omega)
  rw [ep]
  refine congrArg (A t) (funext fun a => Fin.ext ?_)
  match a with
  | ⟨0, _⟩ => show (y 0).val = (i 0).val % 1024; omega
  | ⟨1, _⟩ => exact h1.symm

/-- What the points leave of the tokens, tile by tile. -/
def toks8 (Z : S17408x1024.Idx → F .f32) : Prop :=
  ∀ n : ℕ, ∀ hn : n < 17, after8 m c n (fun y : S1024x1024.Idx => Z (ValueIdx.ix2 (⟨n * 1024 + (y 0).val, by have h0 : (y 0).val < 1024 := (y 0).isLt; omega⟩ : Fin 17408) (y 1)))

include h in
/-- The tokens. -/
theorem toks_at : toks8 (m := m) c (r.2.mem ((c.tc : Thread nD τ).loc main_v3_0)) := by
  obtain ⟨after, hL, hA⟩ := RDat.FramePostR.exists_exact h.toR c
  intro n hn
  have hz : ∀ y : S1024x1024.Idx, after 8 (ptOf n hn) y = r.2.mem ((c.tc : Thread nD τ).loc main_v3_0) (ValueIdx.ix2 (⟨n * 1024 + (y 0).val, by have h0 : (y 0).val < 1024 := (y 0).isLt; omega⟩ : Fin 17408) (y 1)) := by
    intro y
    have h0 : (y 0).val < 1024 := (y 0).isLt
    have key := Pipeline.Dat.arrAt_forall_of_cover (dat := (rdat m c).withAfter after) 8
      (fun (i : S17408x1024.Idx) v => v = after 8 (ptOf ((i 0).val / 1024) (by have : (i 0).val < 17408 := (i 0).isLt; omega)) (ValueIdx.ix2 (⟨(i 0).val % 1024, Nat.mod_lt _ (by decide)⟩ : Fin 1024) (i 1))) ?_ ?_
      (ValueIdx.ix2 (⟨n * 1024 + (y 0).val, by omega⟩ : Fin 17408) (y 1))
    · exact (tile_at (after 8) (ptOf n hn) y (ValueIdx.ix2 (⟨n * 1024 + (y 0).val, by omega⟩ : Fin 17408) (y 1)) rfl rfl).trans ((congrFun (hA 8) _).trans key).symm
    · intro t _ y
      have hy : (y 0 : ℕ) < 1024 := (y 0).isLt
      have h0 : (((cfg0.win 8).rect t).emb y 0 : ℕ) = t.val * 1024 + y 0 := by
        rw [Pipeline.Window.rect_emb_val (hk := rfl), index8]; rfl
      have h1 : (((cfg0.win 8).rect t).emb y 1 : ℕ) = y 1 := by
        rw [Pipeline.Window.rect_emb_val (hk := rfl), index8]; show 0 * 1024 + _ = _; omega
      exact tile_at (after 8) t y _ h0 h1
    · intro i
      have hi : ((i : S17408x1024.Idx) 0).val < 17408 := ((i : S17408x1024.Idx) 0).isLt
      obtain ⟨t, ht⟩ : ∃ t : Fin cfg0.N, t.val = ((i : S17408x1024.Idx) 0).val / 1024 := ⟨ptOf (((i : S17408x1024.Idx) 0).val / 1024) (by omega), rfl⟩
      refine ⟨t, flush8 t, ?_⟩
      have hc : ((cfg0.win 8).rect t).emb (ValueIdx.ix2 (⟨((i : S17408x1024.Idx) 0).val % 1024, Nat.mod_lt _ (by decide)⟩ : Fin 1024) ((i : S17408x1024.Idx) 1) : S1024x1024.Idx) = i := by
        funext a
        apply Fin.ext
        match a with
        | ⟨0, _⟩ =>
          refine (Pipeline.Window.rect_emb_val (cfg0.win 8) _ _ 0 (hk := rfl)).trans ?_
          rw [index8]
          show t.val * 1024 + ((i : S17408x1024.Idx) 0).val % 1024 = ((i : S17408x1024.Idx) 0).val
          omega
        | ⟨1, _⟩ =>
          refine (Pipeline.Window.rect_emb_val (cfg0.win 8) _ _ 1 (hk := rfl)).trans ?_
          rw [index8]
          show 0 * 1024 + ((i : S17408x1024.Idx) 1).val = ((i : S17408x1024.Idx) 1).val
          omega
      exact Finset.mem_map.mpr ⟨_, Finset.mem_univ _, hc⟩
  obtain ⟨Y, _, hXY⟩ := hL 8 (ptOf n hn) (flush8 _)
  have h' : after8 m c n (after 8 (ptOf n hn)) := hXY
  rwa [show after 8 (ptOf n hn) = _ from funext hz] at h'

include h in
/-- The prompts' convolution states. -/
theorem convA_at (i : S8x2x512.Idx) : r.2.mem ((c.tc : Thread nD τ).loc main_v3_1) i = tC m c (2 * (i 0).val + 1) (ValueIdx.ix3 (0 : Fin 1) (i 1) (i 2)) := by
  obtain ⟨after, hL, hA⟩ := RDat.FramePostR.exists_exact h.toR c
  refine (congrFun (hA 9) i).trans ?_
  refine Pipeline.Dat.arrAt_forall_of_cover (dat := (rdat m c).withAfter after) 9
    (fun (i : S8x2x512.Idx) v => v = tC m c (2 * (i 0).val + 1) (ValueIdx.ix3 (0 : Fin 1) (i 1) (i 2))) ?_ ?_ i
  · intro t ht y
    have e := leaves9 m c t ht _ (hL 9 t ht)
    have h0 : (((cfg0.win 9).rect t).emb y 0 : ℕ) = min t.val 15 / 2 * 1 + y 0 := by
      rw [Pipeline.Window.rect_emb_val (hk := rfl), index9]; rfl
    have h1 : (((cfg0.win 9).rect t).emb y 1 : ℕ) = y 1 := by
      rw [Pipeline.Window.rect_emb_val (hk := rfl), index9]; show 0 * 2 + _ = _; omega
    have h2 : (((cfg0.win 9).rect t).emb y 2 : ℕ) = y 2 := by
      rw [Pipeline.Window.rect_emb_val (hk := rfl), index9]; show 0 * 512 + _ = _; omega
    have hy : (y 0 : ℕ) < 1 := (y 0).isLt
    show after 9 t _ = tC m c (2 * (((cfg0.win 9).rect t).emb y 0 : ℕ) + 1) (ValueIdx.ix3 (0 : Fin 1) (((cfg0.win 9).rect t).emb y 1) (((cfg0.win 9).rect t).emb y 2))
    rw [e]
    refine (congrArg (tC m c _) (funext fun a => Fin.ext ?_)).trans (congrArg (fun k => tC m c k _) ?_)
    · match a with
      | ⟨0, _⟩ => show (y 0 : ℕ) = 0; omega
      | ⟨1, _⟩ => show (y 1 : ℕ) = (((cfg0.win 9).rect t).emb y 1 : ℕ); omega
      | ⟨2, _⟩ => show (y 2 : ℕ) = (((cfg0.win 9).rect t).emb y 2 : ℕ); omega
    · omega
  · intro i
    have hi : ((i : S8x2x512.Idx) 0).val < 8 := ((i : S8x2x512.Idx) 0).isLt
    have ht : ∃ t : Fin cfg0.N, ((t.val % 2 = 1 ∧ t.val < 15) ∨ t.val = 16) ∧ min t.val 15 / 2 = ((i : S8x2x512.Idx) 0).val := by
      by_cases h7 : ((i : S8x2x512.Idx) 0).val = 7
      · exact ⟨ptOf 16 (by omega), Or.inr rfl, by rw [h7]; show min 16 15 / 2 = 7; decide⟩
      · refine ⟨ptOf (2 * ((i : S8x2x512.Idx) 0).val + 1) (by omega), Or.inl ⟨?_, ?_⟩, ?_⟩
        · show (2 * ((i : S8x2x512.Idx) 0).val + 1) % 2 = 1; omega
        · show 2 * ((i : S8x2x512.Idx) 0).val + 1 < 15; omega
        · show min (2 * ((i : S8x2x512.Idx) 0).val + 1) 15 / 2 = _; omega
    obtain ⟨t, h2, ht⟩ := ht
    refine ⟨t, flushed9 t h2, Finset.mem_map.mpr ⟨(ValueIdx.ix3 (0 : Fin 1) ((i : S8x2x512.Idx) 1) ((i : S8x2x512.Idx) 2) : S1x2x512.Idx), Finset.mem_univ _, ?_⟩⟩
    funext a
    apply Fin.ext
    match a with
    | ⟨0, _⟩ =>
      refine (Pipeline.Window.rect_emb_val (cfg0.win 9) t _ 0 (hk := rfl)).trans ?_
      rw [index9]
      show min t.val 15 / 2 * 1 + 0 = ((i : S8x2x512.Idx) 0).val
      omega
    | ⟨1, _⟩ =>
      refine (Pipeline.Window.rect_emb_val (cfg0.win 9) t _ 1 (hk := rfl)).trans ?_
      rw [index9]
      show 0 * 2 + ((i : S8x2x512.Idx) 1).val = ((i : S8x2x512.Idx) 1).val
      omega
    | ⟨2, _⟩ =>
      refine (Pipeline.Window.rect_emb_val (cfg0.win 9) t _ 2 (hk := rfl)).trans ?_
      rw [index9]
      show 0 * 512 + ((i : S8x2x512.Idx) 2).val = ((i : S8x2x512.Idx) 2).val
      omega

include h in
/-- The sample's convolution states. -/
theorem convB_at (i : S128x2x512.Idx) : r.2.mem ((c.tc : Thread nD τ).loc main_v3_3) i = tS m c i := by
  obtain ⟨after, hL, hA⟩ := RDat.FramePostR.exists_exact h.toR c
  refine (congrFun (hA 10) i).trans ?_
  have hz : ∀ (t : Fin cfg0.N) (y : S128x2x512.Idx), ((cfg0.win 10).rect t).emb y = y := fun t y => by
    funext a
    apply Fin.ext
    match a with
    | ⟨0, _⟩ =>
      refine (Pipeline.Window.rect_emb_val (cfg0.win 10) t _ 0 (hk := rfl)).trans ?_
      rw [index10]; show 0 * 128 + (y 0).val = (y 0).val; omega
    | ⟨1, _⟩ =>
      refine (Pipeline.Window.rect_emb_val (cfg0.win 10) t _ 1 (hk := rfl)).trans ?_
      rw [index10]; show 0 * 2 + (y 1).val = (y 1).val; omega
    | ⟨2, _⟩ =>
      refine (Pipeline.Window.rect_emb_val (cfg0.win 10) t _ 2 (hk := rfl)).trans ?_
      rw [index10]; show 0 * 512 + (y 2).val = (y 2).val; omega
  have e := fun (t : Fin cfg0.N) ht => leaves10 m c t ht _ (hL 10 t ht)
  generalize tS m c = S at e ⊢
  refine Pipeline.Dat.arrAt_forall_of_cover (dat := (rdat m c).withAfter after) 10 (fun (i : S128x2x512.Idx) v => v = S i) ?_ ?_ i
  · intro t ht y
    show after 10 t _ = S (((cfg0.win 10).rect t).emb y)
    rw [e t ht]
    exact congrArg S (hz t y).symm
  · intro i
    obtain ⟨t, ht⟩ : ∃ t : Fin cfg0.N, t.val = 16 := ⟨ptOf 16 (by omega), rfl⟩
    refine ⟨t, (flush10 t).mpr ht, Finset.mem_map.mpr ⟨((i : S128x2x512.Idx) : S128x2x512.Idx), Finset.mem_univ _, ?_⟩⟩
    exact hz t i

include h in
/-- The prompts' pool states. -/
theorem poolA_at : r.2.mem ((c.tc : Thread nD τ).loc main_v3_2) = GA m c := (h.written c (b := main_v3_2) (by decide)).trans (ends_A m c)

include h in
/-- The sample's pool states. -/
theorem poolB_at : r.2.mem ((c.tc : Thread nD τ).loc main_v3_4) = GB m c := (h.written c (b := main_v3_4) (by decide)).trans (ends_B m c)

end Cert.Mix

end
-- ==== Proof.MixRow.lean ====
/-
  WHAT THE MIXER'S STATES HOLD OF A ROW, over the extended reals: columns of the input projection of the row's normed values — the
  pool input is one column, the gated convolution input the product of two. The call's tiles and the reference's states are read
  row by row as these functions.
-/
module

public import proofs.«01_k».proof.Proof.MixContent
public import proofs.«01_k».proof.Proof.Row
public import proofs.«01_k».proof.Proof.Gen.Reference3Ideal.Run

@[expose] public section

set_option maxRecDepth 16384

noncomputable section

namespace Cert.Mix

open Cert.Ffn2 (nrm rowOf matOf)
open Idealize.ShloMosaic
open Idealize.ShloMosaic.TcCoe

/-- Column `f` of the input projection of a row's normed values. -/
def proj (x g : Fin 1024 → EReal) (W : Fin 1024 → Fin 2048 → EReal) (f : Fin 2048) : EReal := ∑ k, nrm x g k * W k f
/-- The pool input of a row. -/
def poolIn (x g : Fin 1024 → EReal) (W : Fin 1024 → Fin 2048 → EReal) (l : Fin 512) : EReal := proj x g W ⟨1536 + l.val, by omega⟩
/-- The gated convolution input of a row. -/
def convIn (x g : Fin 1024 → EReal) (W : Fin 1024 → Fin 2048 → EReal) (l : Fin 512) : EReal :=
  proj x g W ⟨512 + l.val, by omega⟩ * proj x g W ⟨1024 + l.val, by omega⟩

section Tile
open Cert.Kernel3Ideal Cert.Kernel3Ideal.Gen

theorem norm_row (X : Vec Ideal S1024x1024 .f32) (g : Vec Ideal S1x1024 .f32) (p : Fin 1024) (k : Fin 1024) :
    k0_pay6 X g (ix2 p k) = nrm (rowOf X p) (rowOf g 0) k := by
  pointwise [k0_pay6, nrm]

theorem cw_at (W : S1024x2048.Idx → EReal) (o : ℕ) (h) (k : Fin 1024) (f : Fin 512) (ho : o + f.val < 2048) :
    cw (F := Ideal) W o h (ix2 k f) = W (ix2 k ⟨o + f.val, ho⟩) := by
  unfold cw
  refine congrArg W (funext fun a => Fin.ext ?_)
  match a with
  | ⟨0, _⟩ => show 0 + 1 * k.val = k.val; omega
  | ⟨1, _⟩ => show o + 1 * f.val = o + f.val; omega

/-- A column block of the projection of a tile. -/
theorem prod_row (h : Vec Ideal S1024x1024 .bf16) (B : Vec Ideal S1024x512 .f32) (p : Fin 1024) (f : Fin 512) :
    matmul (F := Ideal) (φ₁ := .bf16) (φ₂ := .f32) dot_S1024x1024_S1024x512_S1024x512_1_0_0_1_n_n none h B (constant S1024x512 .f32 0x00000000#32) (ix2 p f)
      = ∑ k, h (ix2 p k) * B (ix2 k f) := by
  pointwise

theorem proj_row (X : Vec Ideal S1024x1024 .f32) (g : Vec Ideal S1x1024 .f32) (W : S1024x2048.Idx → EReal) (o : ℕ) (h) (p : Fin 1024) (f : Fin 512) (ho : o + f.val < 2048) :
    matmul (F := Ideal) (φ₁ := .bf16) (φ₂ := .f32) dot_S1024x1024_S1024x512_S1024x512_1_0_0_1_n_n none (k0_pay6 X g) (cw (F := Ideal) W o h) (constant S1024x512 .f32 0x00000000#32) (ix2 p f)
      = proj (rowOf X p) (rowOf g 0) (matOf W) ⟨o + f.val, ho⟩ := by
  rw [prod_row]
  exact Finset.sum_congr rfl fun k _ => by rw [norm_row, cw_at _ _ _ _ _ ho]

/-- A prompt tile's pool input, row by row. -/
theorem pP_row (X : Vec Ideal S1024x1024 .f32) (g : Vec Ideal S1x1024 .f32) (W : S1024x2048.Idx → EReal) (p : Fin 1024) (l : Fin 512) :
    pP (F := Ideal) X g W (ix2 p l) = poolIn (rowOf X p) (rowOf g 0) (matOf W) l := by
  unfold pP k0_pay11
  rw [shapeCast_self]
  exact proj_row X g W 1536 _ p l (by omega)

/-- A prompt tile's gated convolution input, row by row. -/
theorem uP_row (X : Vec Ideal S1024x1024 .f32) (g : Vec Ideal S1x1024 .f32) (W : S1024x2048.Idx → EReal) (p : Fin 1024) (l : Fin 512) :
    uP (F := Ideal) X g W (ix2 p l) = convIn (rowOf X p) (rowOf g 0) (matOf W) l := by
  unfold uP k0_pay28
  rw [shapeCast_self]
  exact congrArg₂ (· * ·) (proj_row X g W 512 _ p l (by omega)) (proj_row X g W 1024 _ p l (by omega))

theorem split_at (v : S1024x512.Idx → EReal) (b : Fin 128) (q : Fin 8) (l : Fin 512) :
    shapeCast S128x8x512 v shapeCasts_S1024x512_S128x8x512 (ix3 b q l) = v (ix2 (⟨b.val * 8 + q.val, by omega⟩ : Fin 1024) l) := by
  refine shapeCast_apply _ _ (ix3 b q l) (ix2 (⟨b.val * 8 + q.val, by omega⟩ : Fin 1024) l) ?_
  rw [Shape.rowMajor_val_two, Shape.rowMajor_val_three]
  rfl

/-- The sample's pool input: row `8 · b + q` of the tile at `(b, q)`. -/
theorem pS_row (X : Vec Ideal S1024x1024 .f32) (g : Vec Ideal S1x1024 .f32) (W : S1024x2048.Idx → EReal) (b : Fin 128) (q : Fin 8) (l : Fin 512) :
    pS (F := Ideal) X g W (ix3 b q l) = poolIn (rowOf X ⟨b.val * 8 + q.val, by omega⟩) (rowOf g 0) (matOf W) l := by
  unfold pS k0_pay40
  rw [shapeCast_self]
  unfold k0_pay36
  refine (split_at _ b q l).trans ?_
  exact proj_row X g W 1536 _ _ l (by omega)

/-- The sample's gated convolution input: row `8 · b + q` of the tile at `(b, q)`. -/
theorem uS_row (X : Vec Ideal S1024x1024 .f32) (g : Vec Ideal S1x1024 .f32) (W : S1024x2048.Idx → EReal) (b : Fin 128) (q : Fin 8) (l : Fin 512) :
    uS (F := Ideal) X g W (ix3 b q l) = convIn (rowOf X ⟨b.val * 8 + q.val, by omega⟩) (rowOf g 0) (matOf W) l := by
  unfold uS k0_pay54
  rw [shapeCast_self]
  exact congrArg₂ (· * ·) ((split_at _ b q l).trans (proj_row X g W 512 _ _ l (by omega))) ((split_at _ b q l).trans (proj_row X g W 1024 _ _ l (by omega)))

end Tile

section Reference
open Cert.Reference3Ideal Cert.Reference3Ideal.Gen

/-- Row `r` of the tokens. -/
abbrev tok (X : S17408x1024.Idx → EReal) (r : Fin 17408) : Fin 1024 → EReal := fun k => X (ix2 r k)

/-- The prompts' tokens; their normed values; a projection; the input projection, the pool input and the gated convolution input. -/
def toksA (X : FVec Ideal S17408x1024 .f32) : FVec Ideal S8x2048x1024 .f32 :=
  shapeCast _ (extractStridedSlice S16384x1024 ![0, 0] X slices_S17408x1024_S16384x1024_0_0) shapeCasts_S16384x1024_S8x2048x1024
def normsA (T : FVec Ideal S8x2048x1024 .f32) (g : FVec Ideal S1024 .f32) : FVec Ideal S8x2048x1024 .f32 :=
  mulf (mulf T (broadcastInDim S8x2048x1024 ![0, 1, 2] bcast_S8x2048x1_S8x2048x1024_0_1_2 (Host.rsqrt (addf (Host.divf (broadcastInDim S8x2048x1 ![0, 1] bcast_S8x2048_S8x2048x1_0_1
    (Host.reduceAdd (mulf T T) (constant (F := Ideal) S_ .f32 0x00000000#32) reducesTo_S8x2048x1024_S8x2048_d2 h_S_)) (broadcastInDim S8x2048x1 ![] bcast_S_S8x2048x1 (constant (F := Ideal) S_ .f32 0x44800000#32)))
    (broadcastInDim S8x2048x1 ![] bcast_S_S8x2048x1 (constant (F := Ideal) S_ .f32 0x358637BD#32))))))
    (broadcastInDim S8x2048x1024 ![0, 1, 2] bcast_S1x1x1024_S8x2048x1024_0_1_2 (broadcastInDim S1x1x1024 ![2] bcast_S1024_S1x1x1024_2 g))
def prodsA (h : FVec Ideal S8x2048x1024 .f32) (W : FVec Ideal S1024x2048 .f32) : FVec Ideal S8x2048x2048 .f32 :=
  Host.dotGeneral dot_S8x2048x1024_S1024x2048_S8x2048x2048_2_0_01_1_n_n none h W
def projA (X : FVec Ideal S17408x1024 .f32) (g : FVec Ideal S1024 .f32) (W : FVec Ideal S1024x2048 .f32) : FVec Ideal S8x2048x2048 .f32 := prodsA (normsA (toksA X) g) W
def poolA (X : FVec Ideal S17408x1024 .f32) (g : FVec Ideal S1024 .f32) (W : FVec Ideal S1024x2048 .f32) : FVec Ideal S8x2048x512 .f32 :=
  extractStridedSlice S8x2048x512 ![0, 0, 1536] (projA X g W) slices_S8x2048x2048_S8x2048x512_0_0_1536
def convA (X : FVec Ideal S17408x1024 .f32) (g : FVec Ideal S1024 .f32) (W : FVec Ideal S1024x2048 .f32) : FVec Ideal S8x2048x512 .f32 :=
  mulf (extractStridedSlice S8x2048x512 ![0, 0, 512] (projA X g W) slices_S8x2048x2048_S8x2048x512_0_0_512)
    (extractStridedSlice S8x2048x512 ![0, 0, 1024] (projA X g W) slices_S8x2048x2048_S8x2048x512_0_0_1024)

/-- The sample's tokens; their normed values; a projection; the input projection, the pool input and the gated convolution input. -/
def toksB (X : FVec Ideal S17408x1024 .f32) : FVec Ideal S128x8x1024 .f32 :=
  shapeCast _ (extractStridedSlice S1024x1024 ![16384, 0] X slices_S17408x1024_S1024x1024_16384_0) shapeCasts_S1024x1024_S128x8x1024
def normsB (T : FVec Ideal S128x8x1024 .f32) (g : FVec Ideal S1024 .f32) : FVec Ideal S128x8x1024 .f32 :=
  mulf (mulf T (broadcastInDim S128x8x1024 ![0, 1, 2] bcast_S128x8x1_S128x8x1024_0_1_2 (Host.rsqrt (addf (Host.divf (broadcastInDim S128x8x1 ![0, 1] bcast_S128x8_S128x8x1_0_1
    (Host.reduceAdd (mulf T T) (constant (F := Ideal) S_ .f32 0x00000000#32) reducesTo_S128x8x1024_S128x8_d2 h_S_)) (broadcastInDim S128x8x1 ![] bcast_S_S128x8x1 (constant (F := Ideal) S_ .f32 0x44800000#32)))
    (broadcastInDim S128x8x1 ![] bcast_S_S128x8x1 (constant (F := Ideal) S_ .f32 0x358637BD#32))))))
    (broadcastInDim S128x8x1024 ![0, 1, 2] bcast_S1x1x1024_S128x8x1024_0_1_2 (broadcastInDim S1x1x1024 ![2] bcast_S1024_S1x1x1024_2 g))
def prodsB (h : FVec Ideal S128x8x1024 .f32) (W : FVec Ideal S1024x2048 .f32) : FVec Ideal S128x8x2048 .f32 :=
  Host.dotGeneral dot_S128x8x1024_S1024x2048_S128x8x2048_2_0_01_1_n_n none h W
def projB (X : FVec Ideal S17408x1024 .f32) (g : FVec Ideal S1024 .f32) (W : FVec Ideal S1024x2048 .f32) : FVec Ideal S128x8x2048 .f32 := prodsB (normsB (toksB X) g) W
def poolB (X : FVec Ideal S17408x1024 .f32) (g : FVec Ideal S1024 .f32) (W : FVec Ideal S1024x2048 .f32) : FVec Ideal S128x8x512 .f32 :=
  extractStridedSlice S128x8x512 ![0, 0, 1536] (projB X g W) slices_S128x8x2048_S128x8x512_0_0_1536
def convB (X : FVec Ideal S17408x1024 .f32) (g : FVec Ideal S1024 .f32) (W : FVec Ideal S1024x2048 .f32) : FVec Ideal S128x8x512 .f32 :=
  mulf (extractStridedSlice S128x8x512 ![0, 0, 512] (projB X g W) slices_S128x8x2048_S128x8x512_0_0_512)
    (extractStridedSlice S128x8x512 ![0, 0, 1024] (projB X g W) slices_S128x8x2048_S128x8x512_0_0_1024)

variable (X : FVec Ideal S17408x1024 .f32) (g : FVec Ideal S1024 .f32) (W : FVec Ideal S1024x2048 .f32)

/-- Row `q` of prompt `s`. -/
theorem tokA_at (s : Fin 8) (q : Fin 2048) (k : Fin 1024) : toksA X (ix3 s q k) = tok X ⟨s.val * 2048 + q.val, by omega⟩ k := by
  unfold toksA
  refine (shapeCast_apply _ _ (ix3 s q k) (ix2 (⟨s.val * 2048 + q.val, by omega⟩ : Fin 16384) k) ?_).trans ?_
  · rw [Shape.rowMajor_val_two, Shape.rowMajor_val_three]; rfl
  · refine extractStridedSlice_apply _ _ _ _ (ix2 (⟨s.val * 2048 + q.val, by omega⟩ : Fin 17408) k) (fun a => ?_)
    match a with
    | ⟨0, _⟩ => show s.val * 2048 + q.val = 0 + (s.val * 2048 + q.val); omega
    | ⟨1, _⟩ => show k.val = 0 + k.val; omega

theorem normsA_row (T : FVec Ideal S8x2048x1024 .f32) (s : Fin 8) (q : Fin 2048) (k : Fin 1024) :
    normsA T g (ix3 s q k) = nrm (fun k => T (ix3 s q k)) (fun k => g (ix1 k)) k := by
  pointwise [normsA, nrm]

theorem prodsA_row (h : FVec Ideal S8x2048x1024 .f32) (s : Fin 8) (q : Fin 2048) (f : Fin 2048) :
    prodsA h W (ix3 s q f) = ∑ k, h (ix3 s q k) * W (ix2 k f) := by
  pointwise [prodsA]

theorem projA_row (s : Fin 8) (q : Fin 2048) (f : Fin 2048) :
    projA X g W (ix3 s q f) = proj (tok X ⟨s.val * 2048 + q.val, by omega⟩) (fun k => g (ix1 k)) (matOf W) f := by
  unfold projA proj
  rw [prodsA_row]
  refine Finset.sum_congr rfl fun k _ => ?_
  rw [normsA_row]
  exact congrArg (fun z => nrm z _ k * _) (funext fun k => tokA_at X s q k)

/-- A column block of the projection, row by row. -/
theorem colsA_at (o : ℕ) (hs) (s : Fin 8) (q : Fin 2048) (l : Fin 512) (ho : o + l.val < 2048) :
    extractStridedSlice S8x2048x512 ![0, 0, o] (projA X g W) hs (ix3 s q l) = proj (tok X ⟨s.val * 2048 + q.val, by omega⟩) (fun k => g (ix1 k)) (matOf W) ⟨o + l.val, ho⟩ := by
  refine (extractStridedSlice_apply _ _ _ _ (ix3 s q (⟨o + l.val, ho⟩ : Fin 2048)) (fun a => ?_)).trans (projA_row X g W s q _)
  match a with
  | ⟨0, _⟩ => show s.val = 0 + s.val; omega
  | ⟨1, _⟩ => show q.val = 0 + q.val; omega
  | ⟨2, _⟩ => rfl

theorem poolA_row (s : Fin 8) (q : Fin 2048) (l : Fin 512) :
    poolA X g W (ix3 s q l) = poolIn (tok X ⟨s.val * 2048 + q.val, by omega⟩) (fun k => g (ix1 k)) (matOf W) l :=
  colsA_at X g W 1536 _ s q l (by omega)

theorem convA_row (s : Fin 8) (q : Fin 2048) (l : Fin 512) :
    convA X g W (ix3 s q l) = convIn (tok X ⟨s.val * 2048 + q.val, by omega⟩) (fun k => g (ix1 k)) (matOf W) l :=
  congrArg₂ (· * ·) (colsA_at X g W 512 _ s q l (by omega)) (colsA_at X g W 1024 _ s q l (by omega))

/-- Row `q` of sequence `s`. -/
theorem tokB_at (s : Fin 128) (q : Fin 8) (k : Fin 1024) : toksB X (ix3 s q k) = tok X ⟨16384 + s.val * 8 + q.val, by omega⟩ k := by
  unfold toksB
  refine (shapeCast_apply _ _ (ix3 s q k) (ix2 (⟨s.val * 8 + q.val, by omega⟩ : Fin 1024) k) ?_).trans ?_
  · rw [Shape.rowMajor_val_two, Shape.rowMajor_val_three]; rfl
  · refine extractStridedSlice_apply _ _ _ _ (ix2 (⟨16384 + s.val * 8 + q.val, by omega⟩ : Fin 17408) k) (fun a => ?_)
    match a with
    | ⟨0, _⟩ => show 16384 + s.val * 8 + q.val = 16384 + (s.val * 8 + q.val); omega
    | ⟨1, _⟩ => show k.val = 0 + k.val; omega

theorem normsB_row (T : FVec Ideal S128x8x1024 .f32) (s : Fin 128) (q : Fin 8) (k : Fin 1024) :
    normsB T g (ix3 s q k) = nrm (fun k => T (ix3 s q k)) (fun k => g (ix1 k)) k := by
  pointwise [normsB, nrm]

theorem prodsB_row (h : FVec Ideal S128x8x1024 .f32) (s : Fin 128) (q : Fin 8) (f : Fin 2048) :
    prodsB h W (ix3 s q f) = ∑ k, h (ix3 s q k) * W (ix2 k f) := by
  pointwise [prodsB]

theorem projB_row (s : Fin 128) (q : Fin 8) (f : Fin 2048) :
    projB X g W (ix3 s q f) = proj (tok X ⟨16384 + s.val * 8 + q.val, by omega⟩) (fun k => g (ix1 k)) (matOf W) f := by
  unfold projB proj
  rw [prodsB_row]
  refine Finset.sum_congr rfl fun k _ => ?_
  rw [normsB_row]
  exact congrArg (fun z => nrm z _ k * _) (funext fun k => tokB_at X s q k)

/-- A column block of the projection, row by row. -/
theorem colsB_at (o : ℕ) (hs) (s : Fin 128) (q : Fin 8) (l : Fin 512) (ho : o + l.val < 2048) :
    extractStridedSlice S128x8x512 ![0, 0, o] (projB X g W) hs (ix3 s q l) = proj (tok X ⟨16384 + s.val * 8 + q.val, by omega⟩) (fun k => g (ix1 k)) (matOf W) ⟨o + l.val, ho⟩ := by
  refine (extractStridedSlice_apply _ _ _ _ (ix3 s q (⟨o + l.val, ho⟩ : Fin 2048)) (fun a => ?_)).trans (projB_row X g W s q _)
  match a with
  | ⟨0, _⟩ => show s.val = 0 + s.val; omega
  | ⟨1, _⟩ => show q.val = 0 + q.val; omega
  | ⟨2, _⟩ => rfl

theorem poolB_row (s : Fin 128) (q : Fin 8) (l : Fin 512) :
    poolB X g W (ix3 s q l) = poolIn (tok X ⟨16384 + s.val * 8 + q.val, by omega⟩) (fun k => g (ix1 k)) (matOf W) l :=
  colsB_at X g W 1536 _ s q l (by omega)

theorem convB_row (s : Fin 128) (q : Fin 8) (l : Fin 512) :
    convB X g W (ix3 s q l) = convIn (tok X ⟨16384 + s.val * 8 + q.val, by omega⟩) (fun k => g (ix1 k)) (matOf W) l :=
  congrArg₂ (· * ·) (colsB_at X g W 512 _ s q l (by omega)) (colsB_at X g W 1024 _ s q l (by omega))

/-- The reference's four states. -/
def rConvA : FVec Ideal S8x2x512 .f32 :=
  extractStridedSlice S8x2x512 ![0, 2048, 0] (concatenate S8x2050x512 1 [⟨S8x2x512, (broadcastInDim S8x2x512 ![] bcast_S_S8x2x512 (constant (F := Ideal) S_ .f32 0x00000000#32))⟩, ⟨S8x2048x512, convA X g W⟩] concatenates_S8x2x512_S8x2048x512_S8x2050x512_d1) slices_S8x2050x512_S8x2x512_0_2048_0
def rPoolA : FVec Ideal S15x8x512 .f32 :=
  transpose S15x8x512 [1, 0, 2] (extractStridedSlice S8x15x512 ![0, 2048, 0] (concatenate S8x2063x512 1 [⟨S8x15x512, (broadcastInDim S8x15x512 ![] bcast_S_S8x15x512 (constant (F := Ideal) S_ .f32 0x00000000#32))⟩, ⟨S8x2048x512, poolA X g W⟩] concatenates_S8x15x512_S8x2048x512_S8x2063x512_d1) slices_S8x2063x512_S8x15x512_0_2048_0) transposes_S8x15x512_S15x8x512_1_0_2
def rConvB (C : FVec Ideal S128x2x512 .f32) : FVec Ideal S128x2x512 .f32 :=
  extractStridedSlice S128x2x512 ![0, 8, 0] (concatenate S128x10x512 1 [⟨S128x2x512, C⟩, ⟨S128x8x512, convB X g W⟩] concatenates_S128x2x512_S128x8x512_S128x10x512_d1) slices_S128x10x512_S128x2x512_0_8_0
def rPoolB (H : FVec Ideal S128x15x512 .f32) : FVec Ideal S15x128x512 .f32 :=
  transpose S15x128x512 [1, 0, 2] (extractStridedSlice S128x15x512 ![0, 8, 0] (concatenate S128x23x512 1 [⟨S128x15x512, H⟩, ⟨S128x8x512, poolB X g W⟩] concatenates_S128x15x512_S128x8x512_S128x23x512_d1) slices_S128x23x512_S128x15x512_0_8_0) transposes_S128x15x512_S15x128x512_1_0_2

/-- A prompt's convolution state: its last two rows'. -/
theorem rConvA_row (s : Fin 8) (j : Fin 2) (l : Fin 512) :
    rConvA X g W (ix3 s j l) = convIn (tok X ⟨s.val * 2048 + (2046 + j.val), by omega⟩) (fun k => g (ix1 k)) (matOf W) l := by
  unfold rConvA
  refine (extractStridedSlice_apply _ _ _ _ (ix3 s (⟨2048 + j.val, by omega⟩ : Fin 2050) l) (fun a => ?_)).trans ?_
  · match a with
    | ⟨0, _⟩ => show s.val = 0 + s.val; omega
    | ⟨1, _⟩ => rfl
    | ⟨2, _⟩ => show l.val = 0 + l.val; omega
  refine (concatenate_pair_apply_right (t := S8x2050x512) (s₁ := S8x2x512) (s₂ := S8x2048x512) (1 : Fin 3) _ _ _ _ rfl rfl (ix3 s (⟨2046 + j.val, by omega⟩ : Fin 2048) l) (fun b hb => ?_) ?_).trans (convA_row X g W s _ l)
  · match b with
    | ⟨0, _⟩ => rfl
    | ⟨1, _⟩ => exact absurd rfl hb
    | ⟨2, _⟩ => rfl
  · show 2046 + j.val + 2 = 2048 + j.val
    omega

/-- A prompt's pool state: its last fifteen rows'. -/
theorem rPoolA_row (j : Fin 15) (s : Fin 8) (l : Fin 512) :
    rPoolA X g W (ix3 j s l) = poolIn (tok X ⟨s.val * 2048 + (2033 + j.val), by omega⟩) (fun k => g (ix1 k)) (matOf W) l := by
  unfold rPoolA
  refine (transpose_apply _ _ _ _ (ix3 s j l) (fun b => ?_)).trans ?_
  · match b with
    | ⟨0, _⟩ => rfl
    | ⟨1, _⟩ => rfl
    | ⟨2, _⟩ => rfl
  refine (extractStridedSlice_apply _ _ _ _ (ix3 s (⟨2048 + j.val, by omega⟩ : Fin 2063) l) (fun a => ?_)).trans ?_
  · match a with
    | ⟨0, _⟩ => show s.val = 0 + s.val; omega
    | ⟨1, _⟩ => rfl
    | ⟨2, _⟩ => show l.val = 0 + l.val; omega
  refine (concatenate_pair_apply_right (t := S8x2063x512) (s₁ := S8x15x512) (s₂ := S8x2048x512) (1 : Fin 3) _ _ _ _ rfl rfl (ix3 s (⟨2033 + j.val, by omega⟩ : Fin 2048) l) (fun b hb => ?_) ?_).trans (poolA_row X g W s _ l)
  · match b with
    | ⟨0, _⟩ => rfl
    | ⟨1, _⟩ => exact absurd rfl hb
    | ⟨2, _⟩ => rfl
  · show 2033 + j.val + 15 = 2048 + j.val
    omega

/-- A sampled sequence's convolution state: its last two rows'. -/
theorem rConvB_row (C : FVec Ideal S128x2x512 .f32) (s : Fin 128) (j : Fin 2) (l : Fin 512) :
    rConvB X g W C (ix3 s j l) = convIn (tok X ⟨16384 + s.val * 8 + (6 + j.val), by omega⟩) (fun k => g (ix1 k)) (matOf W) l := by
  unfold rConvB
  refine (extractStridedSlice_apply _ _ _ _ (ix3 s (⟨8 + j.val, by omega⟩ : Fin 10) l) (fun a => ?_)).trans ?_
  · match a with
    | ⟨0, _⟩ => show s.val = 0 + s.val; omega
    | ⟨1, _⟩ => rfl
    | ⟨2, _⟩ => show l.val = 0 + l.val; omega
  refine (concatenate_pair_apply_right (t := S128x10x512) (s₁ := S128x2x512) (s₂ := S128x8x512) (1 : Fin 3) _ _ _ _ rfl rfl (ix3 s (⟨6 + j.val, by omega⟩ : Fin 8) l) (fun b hb => ?_) ?_).trans (convB_row X g W s _ l)
  · match b with
    | ⟨0, _⟩ => rfl
    | ⟨1, _⟩ => exact absurd rfl hb
    | ⟨2, _⟩ => rfl
  · show 6 + j.val + 2 = 8 + j.val
    omega

/-- A sampled sequence's pool state: the seven newest rows of its history, -/
theorem rPoolB_old (H : FVec Ideal S128x15x512 .f32) (j : Fin 15) (s : Fin 128) (l : Fin 512) (hj : j.val < 7) :
    rPoolB X g W H (ix3 j s l) = H (ix3 s ⟨8 + j.val, by omega⟩ l) := by
  unfold rPoolB
  refine (transpose_apply _ _ _ _ (ix3 s j l) (fun b => ?_)).trans ?_
  · match b with
    | ⟨0, _⟩ => rfl
    | ⟨1, _⟩ => rfl
    | ⟨2, _⟩ => rfl
  refine (extractStridedSlice_apply _ _ _ _ (ix3 s (⟨8 + j.val, by omega⟩ : Fin 23) l) (fun a => ?_)).trans ?_
  · match a with
    | ⟨0, _⟩ => show s.val = 0 + s.val; omega
    | ⟨1, _⟩ => rfl
    | ⟨2, _⟩ => show l.val = 0 + l.val; omega
  refine concatenate_pair_apply_left (t := S128x23x512) (s₁ := S128x15x512) (s₂ := S128x8x512) (1 : Fin 3) _ _ _ _ rfl (ix3 s (⟨8 + j.val, by omega⟩ : Fin 15) l) (fun b => ?_)
  match b with
  | ⟨0, _⟩ => rfl
  | ⟨1, _⟩ => rfl
  | ⟨2, _⟩ => rfl

/-- then its own eight rows. -/
theorem rPoolB_new (H : FVec Ideal S128x15x512 .f32) (j : Fin 15) (s : Fin 128) (l : Fin 512) (hj : ¬ j.val < 7) :
    rPoolB X g W H (ix3 j s l) = poolIn (tok X ⟨16384 + s.val * 8 + (j.val - 7), by omega⟩) (fun k => g (ix1 k)) (matOf W) l := by
  unfold rPoolB
  refine (transpose_apply _ _ _ _ (ix3 s j l) (fun b => ?_)).trans ?_
  · match b with
    | ⟨0, _⟩ => rfl
    | ⟨1, _⟩ => rfl
    | ⟨2, _⟩ => rfl
  refine (extractStridedSlice_apply _ _ _ _ (ix3 s (⟨8 + j.val, by omega⟩ : Fin 23) l) (fun a => ?_)).trans ?_
  · match a with
    | ⟨0, _⟩ => show s.val = 0 + s.val; omega
    | ⟨1, _⟩ => rfl
    | ⟨2, _⟩ => show l.val = 0 + l.val; omega
  refine (concatenate_pair_apply_right (t := S128x23x512) (s₁ := S128x15x512) (s₂ := S128x8x512) (1 : Fin 3) _ _ _ _ rfl rfl (ix3 s (⟨j.val - 7, by omega⟩ : Fin 8) l) (fun b hb => ?_) ?_).trans (poolB_row X g W s _ l)
  · match b with
    | ⟨0, _⟩ => rfl
    | ⟨1, _⟩ => exact absurd rfl hb
    | ⟨2, _⟩ => rfl
  · show j.val - 7 + 15 = 8 + j.val
    omega

end Reference

end Cert.Mix

end
-- ==== Proof.MixValue.lean ====
/-
  THE MIXER'S FOUR STATES OVER THE EXTENDED REALS: each row is the gated convolution input, or the pool input, of the token it comes
  from, or a row of the history; so are the reference's (MixRow), so the states are the reference's.
-/
module

public import proofs.«01_k».proof.Proof.MixFinal
public import proofs.«01_k».proof.Proof.MixRow

@[expose] public section

set_option maxRecDepth 16384

noncomputable section

namespace Cert.Mix

open Cert.Kernel3Ideal Cert.Kernel3Ideal.Gen
open Cert.Ffn2 (nrm rowOf matOf)
open Idealize.ShloMosaic
open Idealize.ShloMosaic.TcCoe Idealize.ShloMosaic.Tactic
open Idealize.ShloMosaic.Pipeline (RDat Cfg Window)
open Idealize.SL.Sem

variable (m : (ℓ : Loc nD τ sig) → Buf (Elt Ideal) ℓ) (c : Dev nD)

/-! ## What the region finds -/

/-- The pool history, as the region finds it: its rows outermost. -/
theorem V_hist : V m c main_v0 = transpose S15x128x512 [1, 0, 2] (m ((c.tc : Thread nD τ).loc main_arg2)) transposes_S128x15x512_S15x128x512_1_0_2 := by
  unfold V hostOps0
  simp only [List.flatten_cons, List.flatten_nil, List.append_nil, List.cons_append, List.nil_append, StableHlo.after_cons, StableHlo.after_nil]
  rw [StableHlo.unary_result_ne' (h := by decide), StableHlo.reshape_result_ne' (h := by decide), StableHlo.reshape_result_ne' (h := by decide), StableHlo.unary_result']

/-- The gain, as the region finds it: the argument as one row. -/
theorem V_gain : V m c main_v1 = shapeCast S1x1024 (m ((c.tc : Thread nD τ).loc main_arg3)) shapeCasts_S1024_S1x1024 := by
  unfold V hostOps0
  simp only [List.flatten_cons, List.flatten_nil, List.append_nil, List.cons_append, List.nil_append, StableHlo.after_cons, StableHlo.after_nil]
  rw [StableHlo.unary_result_ne' (h := by decide), StableHlo.reshape_result_ne' (h := by decide), StableHlo.reshape_result', StableHlo.unary_result_ne' (h := by decide)]
  rfl

theorem index0 : ∀ t : Fin cfg0.N, (cfg0.win 0).index t = ![t.val, 0] := by decide +kernel

/-- The tokens, the gain and the weight of the input projection, as the call is given them. -/
abbrev aX : Vec Ideal S17408x1024 .f32 := m ((c.tc : Thread nD τ).loc main_arg0)
abbrev aG : Fin 1024 → EReal := fun k => m ((c.tc : Thread nD τ).loc main_arg3) (ix1 k)
abbrev aW : Fin 1024 → Fin 2048 → EReal := matOf (m ((c.tc : Thread nD τ).loc main_arg4))

/-- The tile of point `n` is tokens `1024 · n …`. -/
theorem tX_row (n : ℕ) (hn : n < 17) (p : Fin 1024) (k : Fin 1024) : tX m c n (ix2 p k) = tok (aX m c) ⟨n * 1024 + p.val, by omega⟩ k := by
  refine Eq.trans (?_ : _ = V m c main_arg0 (ix2 (⟨n * 1024 + p.val, by omega⟩ : Fin 17408) k)) (congrFun (V_main_arg0 m c) _)
  show V m c main_arg0 (((cfg0.win 0).rect (ptMin n)).emb (ix2 p k : S1024x1024.Idx)) = _
  refine congrArg (V m c main_arg0) (funext fun a => Fin.ext ?_)
  match a with
  | ⟨0, _⟩ =>
    refine (Pipeline.Window.rect_emb_val (cfg0.win 0) (ptMin n) _ 0 (hk := rfl)).trans ?_
    rw [index0]
    show min n 16 * 1024 + p.val = n * 1024 + p.val
    omega
  | ⟨1, _⟩ =>
    refine (Pipeline.Window.rect_emb_val (cfg0.win 0) (ptMin n) _ 1 (hk := rfl)).trans ?_
    rw [index0]
    show 0 * 1024 + k.val = k.val
    omega

theorem gain_row (X : Vec Ideal S1024 .f32) (k : Fin 1024) : shapeCast S1x1024 X shapeCasts_S1024_S1x1024 (ix2 0 k) = X (ix1 k) := by pointwise

/-- The gain's window holds the argument. -/
theorem gN_row (k : Fin 1024) : gN m c (ix2 0 k) = aG m c k := by
  refine Eq.trans (?_ : _ = V m c main_v1 (ix2 0 k)) ((congrFun (V_gain m c) _).trans (gain_row _ k))
  show V m c main_v1 (((cfg0.win 2).rect (⟨0, by rw [N_0]; omega⟩ : Fin grid0.N)).emb (ix2 0 k : S1x1024.Idx)) = _
  refine congrArg (V m c main_v1) (funext fun a => Fin.ext ?_)
  match a with
  | ⟨0, _⟩ => rfl
  | ⟨1, _⟩ => exact Pipeline.Window.rect_emb_val_of_index_zero (cfg0.win 2) _ 1 rfl _

/-- The weight's window holds the argument. -/
theorem wN_at (k : Fin 1024) (f : Fin 2048) : wN m c (ix2 k f) = aW m c k f := by
  refine Eq.trans (?_ : _ = V m c main_arg4 (ix2 k f)) (congrFun (V_main_arg4 m c) _)
  show V m c main_arg4 (((cfg0.win 3).rect (⟨0, by rw [N_0]; omega⟩ : Fin grid0.N)).emb (ix2 k f : S1024x2048.Idx)) = _
  refine congrArg (V m c main_arg4) (funext fun a => Fin.ext ?_)
  match a with
  | ⟨0, _⟩ => exact Pipeline.Window.rect_emb_val_of_index_zero (cfg0.win 3) _ 0 rfl _
  | ⟨1, _⟩ => exact Pipeline.Window.rect_emb_val_of_index_zero (cfg0.win 3) _ 1 rfl _

/-! ## The states -/

/-- A row of tile `n`, its gain and its weight are token `1024 · n + p`, the argument gain and the argument weight. -/
theorem args_row (f : (Fin 1024 → EReal) → (Fin 1024 → EReal) → (Fin 1024 → Fin 2048 → EReal) → Fin 512 → EReal) (n : ℕ) (hn : n < 17) (p : Fin 1024) (q : Fin 17408)
    (hq : n * 1024 + p.val = q.val) (l : Fin 512) :
    f (rowOf (tX m c n) p) (rowOf (gN m c) 0) (matOf (wN m c)) l = f (tok (aX m c) q) (aG m c) (aW m c) l := by
  have e0 : rowOf (tX m c n) p = tok (aX m c) q := funext fun k => (tX_row m c n hn p k).trans (congrArg (fun z => aX m c (ix2 z k)) (Fin.ext hq))
  have e1 : rowOf (gN m c) 0 = aG m c := funext fun k => gN_row m c k
  have e2 : matOf (wN m c) = aW m c := funext fun k => funext fun f => wN_at m c k f
  rw [e0, e1, e2]

/-- The states as arrays. -/
def oConvA : Vec Ideal S8x2x512 .f32 := fun i =>
  convIn (tok (aX m c) ⟨(i 0).val * 2048 + (2046 + (i 1).val), by have h0 : (i 0).val < 8 := (i 0).isLt; have h1 : (i 1).val < 2 := (i 1).isLt; omega⟩) (aG m c) (aW m c) (i 2)
def oPoolA : Vec Ideal S15x8x512 .f32 := fun i =>
  poolIn (tok (aX m c) ⟨(i 1).val * 2048 + (2033 + (i 0).val), by have h0 : (i 0).val < 15 := (i 0).isLt; have h1 : (i 1).val < 8 := (i 1).isLt; omega⟩) (aG m c) (aW m c) (i 2)
def oConvB : Vec Ideal S128x2x512 .f32 := fun i =>
  convIn (tok (aX m c) ⟨16384 + (i 0).val * 8 + (6 + (i 1).val), by have h0 : (i 0).val < 128 := (i 0).isLt; have h1 : (i 1).val < 2 := (i 1).isLt; omega⟩) (aG m c) (aW m c) (i 2)
def oPoolB : Vec Ideal S15x128x512 .f32 := fun i =>
  if h : (i 0).val < 7 then m ((c.tc : Thread nD τ).loc main_arg2) (ix3 (n0 := 128) (n1 := 15) (n2 := 512) (i 1) ⟨8 + (i 0).val, by omega⟩ (i 2))
  else poolIn (tok (aX m c) ⟨16384 + (i 1).val * 8 + ((i 0).val - 7), by have h0 : (i 0).val < 15 := (i 0).isLt; have h1 : (i 1).val < 128 := (i 1).isLt; omega⟩) (aG m c) (aW m c) (i 2)

theorem tC_row (s : Fin 8) (j : Fin 2) (l : Fin 512) : tC m c (2 * s.val + 1) (ValueIdx.ix3 (0 : Fin 1) j l) = oConvA m c (ix3 s j l) := by
  show uP (F := Ideal) (tX m c (2 * s.val + 1)) (gN m c) (wN m c) (ValueIdx.ix2 (⟨1022 + j.val, _⟩ : Fin 1024) l) = _
  rw [← ix2_eq_valueIdx]
  refine (uP_row _ _ _ _ l).trans (args_row m c convIn (2 * s.val + 1) (by omega) _ _ ?_ l)
  show (2 * s.val + 1) * 1024 + (1022 + j.val) = s.val * 2048 + (2046 + j.val)
  omega

theorem GA_row (j : Fin 15) (s : Fin 8) (l : Fin 512) : GA m c (ix3 j s l) = oPoolA m c (ix3 j s l) := by
  show pP (F := Ideal) (tX m c (2 * s.val + 1)) (gN m c) (wN m c) (ValueIdx.ix2 (⟨1009 + j.val, _⟩ : Fin 1024) l) = _
  rw [← ix2_eq_valueIdx]
  refine (pP_row _ _ _ _ l).trans (args_row m c poolIn (2 * s.val + 1) (by omega) _ _ ?_ l)
  show (2 * s.val + 1) * 1024 + (1009 + j.val) = s.val * 2048 + (2033 + j.val)
  omega

theorem tS_row (s : Fin 128) (j : Fin 2) (l : Fin 512) : tS m c (ix3 s j l) = oConvB m c (ix3 s j l) := by
  show uS (F := Ideal) (tX m c 16) (gN m c) (wN m c) (ValueIdx.ix3 s (⟨6 + j.val, _⟩ : Fin 8) l) = _
  rw [← ix3_eq_valueIdx]
  refine (uS_row _ _ _ s _ l).trans (args_row m c convIn 16 (by omega) _ _ ?_ l)
  show 16 * 1024 + (s.val * 8 + (6 + j.val)) = 16384 + s.val * 8 + (6 + j.val)
  omega

theorem GB_row (j : Fin 15) (s : Fin 128) (l : Fin 512) : GB m c (ix3 j s l) = oPoolB m c (ix3 j s l) := by
  by_cases hj : j.val < 7
  · refine (dif_pos hj).trans (Eq.trans ?_ (dif_pos hj).symm)
    refine (congrFun (V_hist m c) _).trans ?_
    refine transpose_apply _ _ _ _ _ (fun b => ?_)
    match b with
    | ⟨0, _⟩ => rfl
    | ⟨1, _⟩ => rfl
    | ⟨2, _⟩ => rfl
  · refine (dif_neg hj).trans (Eq.trans ?_ (dif_neg hj).symm)
    show pS (F := Ideal) (tX m c 16) (gN m c) (wN m c) (ValueIdx.ix3 s (⟨j.val - 7, _⟩ : Fin 8) l) = _
    rw [← ix3_eq_valueIdx]
    refine (pS_row _ _ _ s _ l).trans (args_row m c poolIn 16 (by omega) _ _ ?_ l)
    show 16 * 1024 + (s.val * 8 + (j.val - 7)) = 16384 + s.val * 8 + (j.val - 7)
    omega

section Call
variable {m} {r : PUnit × MemSt nD τ sig (Elt Ideal)} (h : RDat.FramePostRG cfg0 (rdat m) outRefs (V m) (ends m) r)
include h

theorem call_convA : r.2.mem ((c.tc : Thread nD τ).loc main_v3_1) = oConvA m c := by
  funext i
  have e : i = ix3 (n0 := 8) (n1 := 2) (n2 := 512) (i 0) (i 1) (i 2) := eq_ix3 i
  rw [e]
  exact (convA_at h c _).trans (tC_row m c _ _ _)

theorem call_poolA : r.2.mem ((c.tc : Thread nD τ).loc main_v3_2) = oPoolA m c := by
  funext i
  have e : i = ix3 (n0 := 15) (n1 := 8) (n2 := 512) (i 0) (i 1) (i 2) := eq_ix3 i
  rw [e]
  exact (congrFun (poolA_at h c) _).trans (GA_row m c _ _ _)

theorem call_convB : r.2.mem ((c.tc : Thread nD τ).loc main_v3_3) = oConvB m c := by
  funext i
  have e : i = ix3 (n0 := 128) (n1 := 2) (n2 := 512) (i 0) (i 1) (i 2) := eq_ix3 i
  rw [e]
  exact (convB_at h c _).trans (tS_row m c _ _ _)

theorem call_poolB : r.2.mem ((c.tc : Thread nD τ).loc main_v3_4) = oPoolB m c := by
  funext i
  have e : i = ix3 (n0 := 15) (n1 := 128) (n2 := 512) (i 0) (i 1) (i 2) := eq_ix3 i
  rw [e]
  exact (congrFun (poolB_at h c) _).trans (GB_row m c _ _ _)

end Call

/-! ## The reference's states at the same arguments -/

section Reference
variable {m} {X : FVec Ideal S17408x1024 .f32} {g : FVec Ideal S1024 .f32} {W : FVec Ideal S1024x2048 .f32}
  (hX : X = m ((c.tc : Thread nD τ).loc main_arg0)) (hg : g = m ((c.tc : Thread nD τ).loc main_arg3)) (hW : W = m ((c.tc : Thread nD τ).loc main_arg4))
include hX hg hW

theorem reference_convA : rConvA X g W = oConvA m c := by
  subst hX hg hW
  funext i
  have e : i = ix3 (n0 := 8) (n1 := 2) (n2 := 512) (i 0) (i 1) (i 2) := eq_ix3 i
  rw [e]
  exact rConvA_row _ _ _ _ _ _

theorem reference_poolA : rPoolA X g W = oPoolA m c := by
  subst hX hg hW
  funext i
  have e : i = ix3 (n0 := 15) (n1 := 8) (n2 := 512) (i 0) (i 1) (i 2) := eq_ix3 i
  rw [e]
  exact rPoolA_row _ _ _ _ _ _

theorem reference_convB (C : FVec Ideal S128x2x512 .f32) : rConvB X g W C = oConvB m c := by
  subst hX hg hW
  funext i
  have e : i = ix3 (n0 := 128) (n1 := 2) (n2 := 512) (i 0) (i 1) (i 2) := eq_ix3 i
  rw [e]
  exact rConvB_row _ _ _ _ _ _ _

theorem reference_poolB {H : FVec Ideal S128x15x512 .f32} (hH : H = m ((c.tc : Thread nD τ).loc main_arg2)) : rPoolB X g W H = oPoolB m c := by
  subst hX hg hW hH
  funext i
  have e : i = ix3 (n0 := 15) (n1 := 128) (n2 := 512) (i 0) (i 1) (i 2) := eq_ix3 i
  rw [e]
  by_cases hj : (i 0).val < 7
  · refine Eq.trans ?_ (dif_pos hj).symm
    exact rPoolB_old _ _ _ _ _ _ _ hj
  · refine Eq.trans ?_ (dif_neg hj).symm
    exact rPoolB_new _ _ _ _ _ _ _ hj

end Reference

end Cert.Mix

end
-- ==== Proof.MixTok.lean ====
/-
  WHAT THE MIXER ADDS TO A TOKEN, over the extended reals, and the prompts' tile of it row by row: windows of the pool input, which the
  call sums by rotating and doubling; their mean less the row itself, through the group's matrix; three rows of the convolution input.
-/
module

public import proofs.«01_k».proof.Proof.MixContent
public import proofs.«01_k».proof.Proof.Row
public import Idealize.ShloMosaic.Lib.KernelVsHost

@[expose] public section

set_option maxRecDepth 16384

noncomputable section

namespace Cert.Mix

open Idealize.ShloMosaic
open Idealize.ShloMosaic.TcCoe

/-- A window's length, or the number of rows so far. -/
def cnt (n w : ℕ) : EReal := min ((n : ℝ) : EReal) ((w : ℝ) : EReal)
/-- The sum of `w` entries, `V` by how many rows back. -/
def win (w : ℕ) (V : ℕ → EReal) : EReal := ∑ j ∈ Finset.range w, V j
/-- One entry of a group of the pool: the window's mean less the row itself, through the group's matrix, scaled. -/
def poolMix (P : ℕ → ℕ → EReal) (n w o : ℕ) (Wp : Fin 128 → EReal) (s : EReal) : EReal :=
  (∑ c : Fin 128, (Ideal.div (win w (fun j => P j (o + c.val))) (cnt n w) - P 0 (o + c.val)) * Wp c) * s
/-- One entry of the gated convolution of three rows. -/
def convMix (b : EReal) (U : ℕ → EReal) (c0 c1 c2 : EReal) : EReal := b * (U 2 * c0 + U 1 * c1 + U 0 * c2)
/-- The convolution's entries, then the pool's four groups. -/
def mixed (a : Fin 512 → EReal) (y0 y1 y2 y3 : Fin 128 → EReal) (k : Fin 1024) : EReal :=
  if h : k.val < 512 then a ⟨k.val, h⟩ else if h : k.val - 512 < 128 then y0 ⟨k.val - 512, h⟩
  else if h : k.val - 512 - 128 < 128 then y1 ⟨k.val - 512 - 128, h⟩ else if h : k.val - 512 - 128 - 128 < 128 then y2 ⟨k.val - 512 - 128 - 128, h⟩
  else y3 ⟨k.val - 512 - 128 - 128 - 128, by omega⟩

theorem win_double (w : ℕ) (V : ℕ → EReal) : win (w + w) V = win w V + win w (fun j => V (w + j)) := Finset.sum_range_add V w w
theorem win_congr (w : ℕ) {V V' : ℕ → EReal} (h : ∀ j < w, V j = V' j) : win w V = win w V' := Finset.sum_congr rfl fun j hj => h j (Finset.mem_range.1 hj)

/-- An entry of an array of two axes by its numbers. -/
def at2 {N L : ℕ} (x : (⟨2, ![N, L]⟩ : Shape).Idx → EReal) (r l : ℕ) : EReal := if h : r < N ∧ l < L then x (ix2 ⟨r, h.1⟩ ⟨l, h.2⟩) else 0
theorem at2_ix {N L : ℕ} (x : (⟨2, ![N, L]⟩ : Shape).Idx → EReal) (r : Fin N) (l : Fin L) : x (ix2 r l) = at2 x r.val l.val := by
  unfold at2
  rw [dif_pos ⟨r.2, l.2⟩]
theorem at2_add {N L : ℕ} (x y : FVec Ideal ⟨2, ![N, L]⟩ .f32) (r l : ℕ) : at2 (addf x y) r l = at2 x r l + at2 y r l := by
  unfold at2
  split
  · rfl
  · exact (add_zero _).symm
theorem at2_rot {N L : ℕ} (s : BitVec 32) (x : (⟨2, ![N, L]⟩ : Shape).Idx → EReal) (h) (r l : ℕ) (hs : s.toNat ≤ r) (hr : r < N) :
    at2 (dynamicRotate (0 : Fin 2) s none x h) r l = at2 x (r - s.toNat) l := by
  unfold at2
  by_cases hl : l < L
  · rw [dif_pos ⟨hr, hl⟩, dif_pos ⟨by omega, hl⟩]
    refine dynamicRotate_apply _ _ _ _ _ _ fun b => ?_
    match b with
    | ⟨0, _⟩ =>
      refine Eq.trans ?_ (if_pos rfl).symm
      show r - s.toNat = (r + N - s.toNat % N) % N
      rw [Nat.mod_eq_of_lt (show s.toNat < N by omega), show r + N - s.toNat = (r - s.toNat) + N by omega, Nat.add_mod_right, Nat.mod_eq_of_lt (by omega)]
    | ⟨1, _⟩ => exact Eq.trans rfl (if_neg fun e => absurd (congrArg Fin.val e) Nat.one_ne_zero).symm
  · rw [dif_neg (by tauto), dif_neg (by tauto)]
theorem at2_slice {N L n m : ℕ} (a b : ℕ) (x : (⟨2, ![N, L]⟩ : Shape).Idx → EReal) (h) (r l : ℕ) (hr : r < n) (hl : l < m) (ha : a + r < N) (hb : b + l < L) :
    at2 (extractStridedSlice ⟨2, ![n, m]⟩ ![a, b] x h) r l = at2 x (a + r) (b + l) := by
  unfold at2
  rw [dif_pos ⟨hr, hl⟩, dif_pos ⟨ha, hb⟩]
  refine extractStridedSlice_apply _ _ _ _ _ fun b => ?_
  match b with
  | ⟨0, _⟩ => rfl
  | ⟨1, _⟩ => rfl

theorem two_f32 : Ideal.ofBits .f32 0x40000000#32 = (((2 : ℕ) : ℝ) : EReal) := by
  simp [Ideal.ofBits, Ideal.ieee, -EReal.coe_mul]; norm_num
theorem four_f32 : Ideal.ofBits .f32 0x40800000#32 = (((4 : ℕ) : ℝ) : EReal) := by
  simp [Ideal.ofBits, Ideal.ieee, -EReal.coe_mul]; norm_num
theorem eight_f32 : Ideal.ofBits .f32 0x41000000#32 = (((8 : ℕ) : ℝ) : EReal) := by
  simp [Ideal.ofBits, Ideal.ieee, -EReal.coe_mul]; norm_num
theorem sixteen_f32 : Ideal.ofBits .f32 0x41800000#32 = (((16 : ℕ) : ℝ) : EReal) := by
  simp [Ideal.ofBits, Ideal.ieee, -EReal.coe_mul]; norm_num

section Tile
open Cert.Kernel3Ideal Cert.Kernel3Ideal.Gen

variable (v : Vec Ideal S1040x512 .f32)

theorem w2_at (r l : ℕ) (h1 : 1 ≤ r) (hr : r < 1040) : at2 (k0_pay12 v) r l = win 2 (fun j => at2 v (r - j) l) := by
  unfold k0_pay12
  rw [at2_add, at2_rot _ _ _ _ _ h1 hr]
  simp [win, Finset.sum_range_succ]
theorem w4_at (r l : ℕ) (h1 : 3 ≤ r) (hr : r < 1040) (hl : l < 384) : at2 (k0_pay14 v) r l = win 4 (fun j => at2 v (r - j) (128 + l)) := by
  unfold k0_pay14
  rw [at2_add, at2_rot _ _ _ _ _ (show (2#32).toNat ≤ r from le_trans (by decide) h1) hr]
  show at2 _ r l + at2 _ (r - 2) l = _
  rw [at2_slice 0 128 _ _ _ _ hr hl (by omega) (by omega), at2_slice 0 128 _ _ _ _ (by omega) hl (by omega) (by omega), Nat.zero_add, Nat.zero_add,
    w2_at v _ _ (by omega) hr, w2_at v _ _ (by omega) (by omega), show 4 = 2 + 2 from rfl, win_double]
  exact congrArg₂ (· + ·) rfl (win_congr _ fun j _ => by rw [Nat.sub_sub])
theorem w8_at (r l : ℕ) (h1 : 7 ≤ r) (hr : r < 1040) (hl : l < 256) : at2 (k0_pay16 v) r l = win 8 (fun j => at2 v (r - j) (256 + l)) := by
  unfold k0_pay16
  rw [at2_add, at2_rot _ _ _ _ _ (show (4#32).toNat ≤ r from le_trans (by decide) h1) hr]
  show at2 _ r l + at2 _ (r - 4) l = _
  rw [at2_slice 0 128 _ _ _ _ hr hl (by omega) (by omega), at2_slice 0 128 _ _ _ _ (by omega) hl (by omega) (by omega), Nat.zero_add, Nat.zero_add,
    w4_at v _ _ (by omega) hr (by omega), w4_at v _ _ (by omega) (by omega) (by omega), show 8 = 4 + 4 from rfl, win_double]
  exact congrArg₂ (· + ·) (win_congr _ fun j _ => by rw [← Nat.add_assoc]) (win_congr _ fun j _ => by rw [Nat.sub_sub, ← Nat.add_assoc])

theorem w2_row (p l : ℕ) (hp : p < 1024) (hl : l < 128) : at2 (k0_pay13 v) p l = win 2 (fun j => at2 v (16 + p - j) (0 + l)) := by
  unfold k0_pay13
  exact (at2_slice 16 0 _ _ _ _ hp hl (by omega) (by omega)).trans (w2_at v _ _ (by omega) (by omega))
theorem w4_row (p l : ℕ) (hp : p < 1024) (hl : l < 128) : at2 (k0_pay15 v) p l = win 4 (fun j => at2 v (16 + p - j) (128 + l)) := by
  unfold k0_pay15
  rw [at2_slice 16 0 _ _ _ _ hp hl (by omega) (by omega), w4_at v _ _ (by omega) (by omega) (by omega), Nat.zero_add]
theorem w8_row (p l : ℕ) (hp : p < 1024) (hl : l < 128) : at2 (k0_pay17 v) p l = win 8 (fun j => at2 v (16 + p - j) (256 + l)) := by
  unfold k0_pay17
  rw [at2_slice 16 0 _ _ _ _ hp hl (by omega) (by omega), w8_at v _ _ (by omega) (by omega) (by omega), Nat.zero_add]
theorem w16_row (p l : ℕ) (hp : p < 1024) (hl : l < 128) : at2 (k0_pay21 (k0_pay19 v) (k0_pay20 v)) p l = win 16 (fun j => at2 v (16 + p - j) (384 + l)) := by
  unfold k0_pay21 k0_pay19 k0_pay20 k0_pay18
  rw [at2_add, at2_slice 16 0 _ _ _ _ hp hl (by omega) (by omega), at2_slice 8 0 _ _ _ _ hp hl (by omega) (by omega),
    at2_slice 0 128 _ _ _ _ (by omega) (by omega) (by omega) (by omega), at2_slice 0 128 _ _ _ _ (by omega) (by omega) (by omega) (by omega),
    w8_at v _ _ (by omega) (by omega) (by omega), w8_at v _ _ (by omega) (by omega) (by omega), show 16 = 8 + 8 from rfl, win_double]
  refine congrArg₂ (· + ·) (win_congr _ fun j _ => ?_) (win_congr _ fun j _ => ?_)
  · exact congrArg₂ (at2 v) (by omega) (by omega)
  · exact congrArg₂ (at2 v) (by omega) (by omega)

/-- How many rows there are up to row `p` of the tile from `b` on. -/
theorem cnt_at (b : ℕ) (p : Fin 1024) (hb : b + 2048 < 2 ^ 31) : k0_pay22 (F := Ideal) (BitVec.ofNat 32 b) (ix2 p (0 : Fin 1)) = (((b + p.val + 1 : ℕ) : ℝ) : EReal) := by
  pointwise [k0_pay22]
  show ((((BitVec.ofNat 32 b + 1#32) + BitVec.ofNat 32 p.val).toInt : ℝ) : EReal) = _
  rw [← BitVec.ofNat_add, ← BitVec.ofNat_add, BitVec.toInt_eq_toNat_of_lt (by rw [BitVec.toNat_ofNat, Nat.mod_eq_of_lt (by omega)]; omega),
    BitVec.toNat_ofNat, Nat.mod_eq_of_lt (by omega), show b + 1 + p.val = b + p.val + 1 by omega]
  rfl

theorem y0_row (b : ℕ) (hb : b + 2048 < 2 ^ 31) (P : Vec Ideal S1024x512 .f32) (ws : Vec Ideal S1024x128 .f32) (Wb : Vec Ideal S1x128x128 .f32) (sc : Vec Ideal S1x128 .f32) (p : Fin 1024) (j : Fin 128) :
    k0_pay23 (BitVec.ofNat 32 b) P ws Wb sc (ix2 p j)
      = (∑ c : Fin 128, (Ideal.div (at2 ws p.val c.val) (cnt (b + p.val + 1) 2) - at2 P p.val (0 + c.val)) * Wb (ix3 0 c j)) * sc (ix2 0 j) := by
  pointwise [k0_pay23]
  simp only [cnt_at b p hb, two_f32]
  refine congrArg (· * _) (Finset.sum_congr rfl fun c _ => congrArg (· * _) (congrArg₂ (· - ·) ?_ ?_))
  · exact congrArg (Ideal.div · _) (at2_ix ws p c)
  · first | exact at2_ix P p ⟨0 + c.val, by omega⟩ | exact at2_ix P p ⟨c.val, by omega⟩
theorem y1_row (b : ℕ) (hb : b + 2048 < 2 ^ 31) (P : Vec Ideal S1024x512 .f32) (ws : Vec Ideal S1024x128 .f32) (Wb : Vec Ideal S1x128x128 .f32) (sc : Vec Ideal S1x128 .f32) (p : Fin 1024) (j : Fin 128) :
    k0_pay24 (BitVec.ofNat 32 b) P ws Wb sc (ix2 p j)
      = (∑ c : Fin 128, (Ideal.div (at2 ws p.val c.val) (cnt (b + p.val + 1) 4) - at2 P p.val (128 + c.val)) * Wb (ix3 0 c j)) * sc (ix2 0 j) := by
  pointwise [k0_pay24]
  simp only [cnt_at b p hb, four_f32]
  refine congrArg (· * _) (Finset.sum_congr rfl fun c _ => congrArg (· * _) (congrArg₂ (· - ·) ?_ ?_))
  · exact congrArg (Ideal.div · _) (at2_ix ws p c)
  · first | exact at2_ix P p ⟨128 + c.val, by omega⟩ | exact at2_ix P p ⟨c.val, by omega⟩
theorem y2_row (b : ℕ) (hb : b + 2048 < 2 ^ 31) (P : Vec Ideal S1024x512 .f32) (ws : Vec Ideal S1024x128 .f32) (Wb : Vec Ideal S1x128x128 .f32) (sc : Vec Ideal S1x128 .f32) (p : Fin 1024) (j : Fin 128) :
    k0_pay26 (k0_pay25 (BitVec.ofNat 32 b) P ws) Wb sc (ix2 p j)
      = (∑ c : Fin 128, (Ideal.div (at2 ws p.val c.val) (cnt (b + p.val + 1) 8) - at2 P p.val (256 + c.val)) * Wb (ix3 0 c j)) * sc (ix2 0 j) := by
  pointwise [k0_pay25, k0_pay26]
  simp only [cnt_at b p hb, eight_f32]
  refine congrArg (· * _) (Finset.sum_congr rfl fun c _ => congrArg (· * _) (congrArg₂ (· - ·) ?_ ?_))
  · exact congrArg (Ideal.div · _) (at2_ix ws p c)
  · first | exact at2_ix P p ⟨256 + c.val, by omega⟩ | exact at2_ix P p ⟨c.val, by omega⟩
theorem y3_row (b : ℕ) (hb : b + 2048 < 2 ^ 31) (P : Vec Ideal S1024x512 .f32) (ws : Vec Ideal S1024x128 .f32) (Wb : Vec Ideal S1x128x128 .f32) (sc : Vec Ideal S1x128 .f32) (p : Fin 1024) (j : Fin 128) :
    k0_pay27 P ws (k0_pay22 (BitVec.ofNat 32 b)) Wb sc (ix2 p j)
      = (∑ c : Fin 128, (Ideal.div (at2 ws p.val c.val) (cnt (b + p.val + 1) 16) - at2 P p.val (384 + c.val)) * Wb (ix3 0 c j)) * sc (ix2 0 j) := by
  pointwise [k0_pay27]
  simp only [cnt_at b p hb, sixteen_f32]
  refine congrArg (· * _) (Finset.sum_congr rfl fun c _ => congrArg (· * _) (congrArg₂ (· - ·) ?_ ?_))
  · exact congrArg (Ideal.div · _) (at2_ix ws p c)
  · first | exact at2_ix P p ⟨384 + c.val, by omega⟩ | exact at2_ix P p ⟨c.val, by omega⟩

theorem cat_row (a : Vec Ideal S1024x512 .f32) (y0 y1 y2 y3 : Vec Ideal S1024x128 .f32) (p k : Fin 1024) :
    concatenate S1024x1024 1 [⟨S1024x512, a⟩, ⟨S1024x128, y0⟩, ⟨S1024x128, y1⟩, ⟨S1024x128, y2⟩, ⟨S1024x128, y3⟩] concatenates_S1024x512_S1024x128_S1024x128_S1024x128_S1024x128_S1024x1024_d1 (ix2 p k)
      = mixed (fun l => a (ix2 p l)) (fun l => y0 (ix2 p l)) (fun l => y1 (ix2 p l)) (fun l => y2 (ix2 p l)) (fun l => y3 (ix2 p l)) k := by
  pointwise [mixed]

theorem conv_row (e : Vec Ideal S1032x512 .f32) (c0 c1 : Vec Ideal S1x512 .f32) (p : Fin 1024) (l : Fin 512) :
    k0_pay29 e c0 c1 (ix2 p l) = at2 e (8 + p.val - 2) l.val * c0 (ix2 0 l) + at2 e (8 + p.val - 1) l.val * c1 (ix2 0 l) := by
  unfold k0_pay29
  refine congrArg₂ (· + ·) (congrArg₂ (· * ·) ?_ ?_) (congrArg₂ (· * ·) ?_ ?_)
  · refine (at2_ix _ p l).trans ?_
    rw [at2_slice 8 0 _ _ _ _ p.isLt l.isLt (by omega) (by omega), at2_rot _ _ _ _ _ (show (2#32).toNat ≤ 8 + p.val from le_trans (by decide) (Nat.le_add_right 8 _)) (by omega), Nat.zero_add]
    rfl
  · pointwise
  · refine (at2_ix _ p l).trans ?_
    rw [at2_slice 8 0 _ _ _ _ p.isLt l.isLt (by omega) (by omega), at2_rot _ _ _ _ _ (show (1#32).toNat ≤ 8 + p.val from le_trans (by decide) (Nat.le_add_right 8 _)) (by omega), Nat.zero_add]
    rfl
  · pointwise
theorem out_row (X : Vec Ideal S1024x1024 .f32) (gb : Vec Ideal S1024x512 .f32) (y0 y1 y2 y3 : Vec Ideal S1024x128 .f32) (a b : Vec Ideal S1024x512 .f32) (c2 : Vec Ideal S1x512 .f32) (Wo : Vec Ideal S1024x1024 .f32) (p f : Fin 1024) :
    k0_pay31 X gb y0 y1 y2 y3 a b c2 Wo (ix2 p f) = X (ix2 p f)
      + ∑ k, mixed (fun l => gb (ix2 p l) * (a (ix2 p l) + b (ix2 p l) * c2 (ix2 0 l))) (fun l => y0 (ix2 p l)) (fun l => y1 (ix2 p l)) (fun l => y2 (ix2 p l)) (fun l => y3 (ix2 p l)) k * Wo (ix2 k f) := by
  have e : ∀ (A : Vec Ideal S1024x1024 .bf16), matmul (F := Ideal) (φ₁ := .bf16) (φ₂ := .f32) dot_S1024x1024_S1024x1024_S1024x1024_1_0_0_1_n_n none A Wo (constant S1024x1024 .f32 0x00000000#32) (ix2 p f) = ∑ k, A (ix2 p k) * Wo (ix2 k f) := by
    intro A
    pointwise
  unfold k0_pay31
  refine congrArg₂ (· + ·) rfl ((e _).trans (Finset.sum_congr rfl fun k _ => congrArg₂ (· * ·) ?_ rfl))
  refine (cat_row _ y0 y1 y2 y3 p k).trans ?_
  refine congrArg (fun a => mixed a _ _ _ _ k) (funext fun l => ?_)
  refine congrArg₂ (· * ·) rfl (congrArg₂ (· + ·) rfl (congrArg₂ (· * ·) rfl ?_))
  pointwise

end Tile

end Cert.Mix

end
-- ==== Proof.MixTokS.lean ====
/-
  THE SAMPLE'S TILE OF WHAT THE MIXER ADDS, row by row over the extended reals: eight rows of each of the 128 sequences.
-/
module

public import proofs.«01_k».proof.Proof.MixTok

@[expose] public section

set_option maxRecDepth 16384

noncomputable section

namespace Cert.Mix

open Idealize.ShloMosaic
open Idealize.ShloMosaic.TcCoe

/-- An entry of an array of three axes by its numbers. -/
def at3 {B N L : ℕ} (x : (⟨3, ![B, N, L]⟩ : Shape).Idx → EReal) (b : Fin B) (r l : ℕ) : EReal := if h : r < N ∧ l < L then x (ix3 b ⟨r, h.1⟩ ⟨l, h.2⟩) else 0
theorem at3_ix {B N L : ℕ} (x : (⟨3, ![B, N, L]⟩ : Shape).Idx → EReal) (b : Fin B) (r : Fin N) (l : Fin L) : x (ix3 b r l) = at3 x b r.val l.val := by
  unfold at3
  rw [dif_pos ⟨r.2, l.2⟩]
theorem at3_add {B N L : ℕ} (x y : FVec Ideal ⟨3, ![B, N, L]⟩ .f32) (b : Fin B) (r l : ℕ) : at3 (addf x y) b r l = at3 x b r l + at3 y b r l := by
  unfold at3
  split
  · rfl
  · exact (add_zero _).symm
theorem at3_rot {B N L : ℕ} (s : BitVec 32) (x : (⟨3, ![B, N, L]⟩ : Shape).Idx → EReal) (h) (b : Fin B) (r l : ℕ) (hs : s.toNat ≤ r) (hr : r < N) :
    at3 (dynamicRotate (1 : Fin 3) s none x h) b r l = at3 x b (r - s.toNat) l := by
  unfold at3
  by_cases hl : l < L
  · rw [dif_pos ⟨hr, hl⟩, dif_pos ⟨by omega, hl⟩]
    refine dynamicRotate_apply _ _ _ _ _ _ fun a => ?_
    match a with
    | ⟨0, _⟩ => exact Eq.trans rfl (if_neg fun e => absurd (congrArg Fin.val e) Nat.zero_ne_one).symm
    | ⟨1, _⟩ =>
      refine Eq.trans ?_ (if_pos rfl).symm
      show r - s.toNat = (r + N - s.toNat % N) % N
      rw [Nat.mod_eq_of_lt (show s.toNat < N by omega), show r + N - s.toNat = (r - s.toNat) + N by omega, Nat.add_mod_right, Nat.mod_eq_of_lt (by omega)]
    | ⟨2, _⟩ => exact Eq.trans rfl (if_neg fun e => absurd (congrArg Fin.val e) (by decide : (2 : ℕ) ≠ 1)).symm
  · rw [dif_neg (by tauto), dif_neg (by tauto)]
theorem at3_slice {B N L n m : ℕ} (a c : ℕ) (x : (⟨3, ![B, N, L]⟩ : Shape).Idx → EReal) (h) (b : Fin B) (r l : ℕ) (hr : r < n) (hl : l < m) (ha : a + r < N) (hb : c + l < L) :
    at3 (extractStridedSlice ⟨3, ![B, n, m]⟩ ![0, a, c] x h) b r l = at3 x b (a + r) (c + l) := by
  unfold at3
  rw [dif_pos ⟨hr, hl⟩, dif_pos ⟨ha, hb⟩]
  refine extractStridedSlice_apply _ _ _ _ _ fun a => ?_
  match a with
  | ⟨0, _⟩ => exact (Nat.zero_add _).symm
  | ⟨1, _⟩ => rfl
  | ⟨2, _⟩ => rfl

section Tile
open Cert.Kernel3Ideal Cert.Kernel3Ideal.Gen

variable (v : Vec Ideal S128x24x512 .f32)

theorem w2_atS (b : Fin 128) (r l : ℕ) (h1 : 1 ≤ r) (hr : r < 24) : at3 (k0_pay41 v) b r l = win 2 (fun j => at3 v b (r - j) l) := by
  unfold k0_pay41
  rw [at3_add, at3_rot _ _ _ _ _ _ h1 hr]
  simp [win, Finset.sum_range_succ]
theorem w4_atS (b : Fin 128) (r l : ℕ) (h1 : 3 ≤ r) (hr : r < 24) (hl : l < 384) : at3 (k0_pay43 v) b r l = win 4 (fun j => at3 v b (r - j) (128 + l)) := by
  unfold k0_pay43
  rw [at3_add, at3_rot _ _ _ _ _ _ (show (2#32).toNat ≤ r from le_trans (by decide) h1) hr]
  show at3 _ b r l + at3 _ b (r - 2) l = _
  rw [at3_slice 0 128 _ _ _ _ _ hr hl (by omega) (by omega), at3_slice 0 128 _ _ _ _ _ (by omega) hl (by omega) (by omega), Nat.zero_add, Nat.zero_add,
    w2_atS v _ _ _ (by omega) hr, w2_atS v _ _ _ (by omega) (by omega), show 4 = 2 + 2 from rfl, win_double]
  exact congrArg₂ (· + ·) rfl (win_congr _ fun j _ => by rw [Nat.sub_sub])
theorem w8_atS (b : Fin 128) (r l : ℕ) (h1 : 7 ≤ r) (hr : r < 24) (hl : l < 256) : at3 (k0_pay45 v) b r l = win 8 (fun j => at3 v b (r - j) (256 + l)) := by
  unfold k0_pay45
  rw [at3_add, at3_rot _ _ _ _ _ _ (show (4#32).toNat ≤ r from le_trans (by decide) h1) hr]
  show at3 _ b r l + at3 _ b (r - 4) l = _
  rw [at3_slice 0 128 _ _ _ _ _ hr hl (by omega) (by omega), at3_slice 0 128 _ _ _ _ _ (by omega) hl (by omega) (by omega), Nat.zero_add, Nat.zero_add,
    w4_atS v _ _ _ (by omega) hr (by omega), w4_atS v _ _ _ (by omega) (by omega) (by omega), show 8 = 4 + 4 from rfl, win_double]
  exact congrArg₂ (· + ·) (win_congr _ fun j _ => by rw [← Nat.add_assoc]) (win_congr _ fun j _ => by rw [Nat.sub_sub, ← Nat.add_assoc])

theorem w2_rowS (b : Fin 128) (p l : ℕ) (hp : p < 8) (hl : l < 128) : at3 (k0_pay42 v) b p l = win 2 (fun j => at3 v b (16 + p - j) (0 + l)) := by
  unfold k0_pay42
  exact (at3_slice 16 0 _ _ _ _ _ hp hl (by omega) (by omega)).trans (w2_atS v _ _ _ (by omega) (by omega))
theorem w4_rowS (b : Fin 128) (p l : ℕ) (hp : p < 8) (hl : l < 128) : at3 (k0_pay44 v) b p l = win 4 (fun j => at3 v b (16 + p - j) (128 + l)) := by
  unfold k0_pay44
  rw [at3_slice 16 0 _ _ _ _ _ hp hl (by omega) (by omega), w4_atS v _ _ _ (by omega) (by omega) (by omega), Nat.zero_add]
theorem w8_rowS (b : Fin 128) (p l : ℕ) (hp : p < 8) (hl : l < 128) : at3 (k0_pay46 v) b p l = win 8 (fun j => at3 v b (16 + p - j) (256 + l)) := by
  unfold k0_pay46
  rw [at3_slice 16 0 _ _ _ _ _ hp hl (by omega) (by omega), w8_atS v _ _ _ (by omega) (by omega) (by omega), Nat.zero_add]
theorem w16_rowS (b : Fin 128) (p l : ℕ) (hp : p < 8) (hl : l < 128) : at3 (k0_pay47 v) b p l = win 16 (fun j => at3 v b (16 + p - j) (384 + l)) := by
  unfold k0_pay47
  rw [at3_add, at3_slice 16 0 _ _ _ _ _ hp hl (by omega) (by omega), at3_slice 8 0 _ _ _ _ _ hp hl (by omega) (by omega),
    at3_slice 0 128 _ _ _ _ _ (by omega) (by omega) (by omega) (by omega), at3_slice 0 128 _ _ _ _ _ (by omega) (by omega) (by omega) (by omega),
    w8_atS v _ _ _ (by omega) (by omega) (by omega), w8_atS v _ _ _ (by omega) (by omega) (by omega), show 16 = 8 + 8 from rfl, win_double]
  refine congrArg₂ (· + ·) (win_congr _ fun j _ => ?_) (win_congr _ fun j _ => ?_)
  · exact congrArg₂ (at3 v b) (by omega) (by omega)
  · exact congrArg₂ (at3 v b) (by omega) (by omega)

/-- How many rows there are up to row `q` of the sample's tile. -/
theorem cnt_atS (q : Fin 8) : k0_pay48 (F := Ideal) (ix2 q (0 : Fin 1)) = (((16384 + q.val + 1 : ℕ) : ℝ) : EReal) := by
  pointwise [k0_pay48]
  show (((16385#32 + BitVec.ofNat 32 q.val).toInt : ℝ) : EReal) = _
  rw [show 16385#32 = BitVec.ofNat 32 16385 from rfl, ← BitVec.ofNat_add, BitVec.toInt_eq_toNat_of_lt (by rw [BitVec.toNat_ofNat, Nat.mod_eq_of_lt (by omega)]; omega),
    BitVec.toNat_ofNat, Nat.mod_eq_of_lt (by omega), show 16385 + q.val = 16384 + q.val + 1 by omega]
  rfl

theorem flat_at (v : S128x8x128.Idx → EReal) (b : Fin 128) (q : Fin 8) (l : Fin 128) :
    shapeCast S1024x128 v shapeCasts_S128x8x128_S1024x128 (ix2 (⟨b.val * 8 + q.val, by omega⟩ : Fin 1024) l) = v (ix3 b q l) := by
  refine shapeCast_apply _ _ (ix2 (⟨b.val * 8 + q.val, by omega⟩ : Fin 1024) l) (ix3 b q l) ?_
  rw [Shape.rowMajor_val_two, Shape.rowMajor_val_three]
  rfl
theorem back_at (v : S1024x128.Idx → EReal) (b : Fin 128) (q : Fin 8) (l : Fin 128) :
    shapeCast S128x8x128 v shapeCasts_S1024x128_S128x8x128 (ix3 b q l) = v (ix2 (⟨b.val * 8 + q.val, by omega⟩ : Fin 1024) l) := by
  refine shapeCast_apply _ _ (ix3 b q l) (ix2 (⟨b.val * 8 + q.val, by omega⟩ : Fin 1024) l) ?_
  rw [Shape.rowMajor_val_two, Shape.rowMajor_val_three]
  rfl
theorem flatO_at (v : S128x8x1024.Idx → EReal) (b : Fin 128) (q : Fin 8) (l : Fin 1024) :
    shapeCast S1024x1024 v shapeCasts_S128x8x1024_S1024x1024 (ix2 (⟨b.val * 8 + q.val, by omega⟩ : Fin 1024) l) = v (ix3 b q l) := by
  refine shapeCast_apply _ _ (ix2 (⟨b.val * 8 + q.val, by omega⟩ : Fin 1024) l) (ix3 b q l) ?_
  rw [Shape.rowMajor_val_two, Shape.rowMajor_val_three]
  rfl
theorem backO_at (v : S1024x1024.Idx → EReal) (b : Fin 128) (q : Fin 8) (l : Fin 1024) :
    shapeCast S128x8x1024 v shapeCasts_S1024x1024_S128x8x1024 (ix3 b q l) = v (ix2 (⟨b.val * 8 + q.val, by omega⟩ : Fin 1024) l) := by
  refine shapeCast_apply _ _ (ix3 b q l) (ix2 (⟨b.val * 8 + q.val, by omega⟩ : Fin 1024) l) ?_
  rw [Shape.rowMajor_val_two, Shape.rowMajor_val_three]
  rfl
/-- A group's entries through its matrix. -/
theorem group_rowS (D : Vec Ideal S1024x128 .bf16) (Wb : Vec Ideal S1x128x128 .f32) (p : Fin 1024) (j : Fin 128) :
    matmul (F := Ideal) (φ₁ := .bf16) (φ₂ := .f32) dot_S1024x128_S128x128_S1024x128_1_0_0_1_n_n none D (shapeCast S128x128 Wb shapeCasts_S1x128x128_S128x128) (constant S1024x128 .f32 0x00000000#32) (ix2 p j)
      = ∑ k, D (ix2 p k) * Wb (ix3 0 k j) := by
  pointwise
theorem scale_rowS (sc : Vec Ideal S1x128 .f32) (b : Fin 128) (q : Fin 8) (j : Fin 128) :
    broadcastTo S128x8x128 (shapeCast S1x1x128 (shapeCast S1x128 sc shapeCasts_S1x128_S1x128) shapeCasts_S1x128_S1x1x128) broadcasts_S1x1x128_S128x8x128 (ix3 b q j) = sc (ix2 0 j) := by
  pointwise

theorem y0_rowS (P : Vec Ideal S128x8x512 .f32) (ws : Vec Ideal S128x8x128 .f32) (Wb : Vec Ideal S1x128x128 .f32) (sc : Vec Ideal S1x128 .f32) (b : Fin 128) (q : Fin 8) (j : Fin 128) :
    k0_pay49 P ws k0_pay48 (Scalar.ofBits .f32 0x40000000#32) Wb sc (ix3 b q j)
      = (∑ c : Fin 128, (Ideal.div (at3 ws b q.val c.val) (cnt (16384 + q.val + 1) 2) - at3 P b q.val (0 + c.val)) * Wb (ix3 0 c j)) * sc (ix2 0 j) := by
  unfold k0_pay49
  refine congrArg₂ (· * ·) ((back_at _ b q j).trans ((group_rowS _ Wb _ j).trans (Finset.sum_congr rfl fun c _ => congrArg (· * _) ((flat_at _ b q c).trans ?_)))) (scale_rowS sc b q j)
  refine congrArg₂ (· - ·) (congrArg₂ Ideal.div (at3_ix ws b q c) ?_) ?_
  · pointwise
    simp only [cnt_atS, two_f32]
    rfl
  · refine (at3_ix _ b q c).trans ?_
    rw [at3_slice 0 0 _ _ _ _ _ q.isLt c.isLt (by omega) (by omega), Nat.zero_add]

theorem y1_rowS (P : Vec Ideal S128x8x512 .f32) (ws : Vec Ideal S128x8x128 .f32) (Wb : Vec Ideal S1x128x128 .f32) (sc : Vec Ideal S1x128 .f32) (b : Fin 128) (q : Fin 8) (j : Fin 128) :
    k0_pay50 P ws k0_pay48 Wb sc (ix3 b q j)
      = (∑ c : Fin 128, (Ideal.div (at3 ws b q.val c.val) (cnt (16384 + q.val + 1) 4) - at3 P b q.val (128 + c.val)) * Wb (ix3 0 c j)) * sc (ix2 0 j) := by
  unfold k0_pay50
  refine congrArg₂ (· * ·) ((back_at _ b q j).trans ((group_rowS _ Wb _ j).trans (Finset.sum_congr rfl fun c _ => congrArg (· * _) ((flat_at _ b q c).trans ?_)))) (scale_rowS sc b q j)
  refine congrArg₂ (· - ·) (congrArg₂ Ideal.div (at3_ix ws b q c) ?_) ?_
  · pointwise
    simp only [cnt_atS, four_f32]
    rfl
  · refine (at3_ix _ b q c).trans ?_
    rw [at3_slice 0 128 _ _ _ _ _ q.isLt c.isLt (by omega) (by omega), Nat.zero_add]

theorem y2_rowS (P : Vec Ideal S128x8x512 .f32) (ws : Vec Ideal S128x8x128 .f32) (Wb : Vec Ideal S1x128x128 .f32) (sc : Vec Ideal S1x128 .f32) (b : Fin 128) (q : Fin 8) (j : Fin 128) :
    k0_pay52 (k0_pay51 P ws k0_pay48) Wb sc (ix3 b q j)
      = (∑ c : Fin 128, (Ideal.div (at3 ws b q.val c.val) (cnt (16384 + q.val + 1) 8) - at3 P b q.val (256 + c.val)) * Wb (ix3 0 c j)) * sc (ix2 0 j) := by
  unfold k0_pay52 k0_pay51
  refine congrArg₂ (· * ·) ((back_at _ b q j).trans ((group_rowS _ Wb _ j).trans (Finset.sum_congr rfl fun c _ => congrArg (· * _) ((flat_at _ b q c).trans ?_)))) (scale_rowS sc b q j)
  refine congrArg₂ (· - ·) (congrArg₂ Ideal.div (at3_ix ws b q c) ?_) ?_
  · pointwise
    simp only [cnt_atS, eight_f32]
    rfl
  · refine (at3_ix _ b q c).trans ?_
    rw [at3_slice 0 256 _ _ _ _ _ q.isLt c.isLt (by omega) (by omega), Nat.zero_add]

theorem y3_rowS (P : Vec Ideal S128x8x512 .f32) (ws : Vec Ideal S128x8x128 .f32) (Wb : Vec Ideal S1x128x128 .f32) (sc : Vec Ideal S1x128 .f32) (b : Fin 128) (q : Fin 8) (j : Fin 128) :
    k0_pay53 P ws k0_pay48 Wb sc (ix3 b q j)
      = (∑ c : Fin 128, (Ideal.div (at3 ws b q.val c.val) (cnt (16384 + q.val + 1) 16) - at3 P b q.val (384 + c.val)) * Wb (ix3 0 c j)) * sc (ix2 0 j) := by
  unfold k0_pay53
  refine congrArg₂ (· * ·) ((back_at _ b q j).trans ((group_rowS _ Wb _ j).trans (Finset.sum_congr rfl fun c _ => congrArg (· * _) ((flat_at _ b q c).trans ?_)))) (scale_rowS sc b q j)
  refine congrArg₂ (· - ·) (congrArg₂ Ideal.div (at3_ix ws b q c) ?_) ?_
  · pointwise
    simp only [cnt_atS, sixteen_f32]
    rfl
  · refine (at3_ix _ b q c).trans ?_
    rw [at3_slice 0 384 _ _ _ _ _ q.isLt c.isLt (by omega) (by omega), Nat.zero_add]

theorem cat_rowS (a : Vec Ideal S128x8x512 .f32) (y0 y1 y2 y3 : Vec Ideal S128x8x128 .f32) (b : Fin 128) (q : Fin 8) (k : Fin 1024) :
    concatenate S128x8x1024 2 [⟨S128x8x512, a⟩, ⟨S128x8x128, y0⟩, ⟨S128x8x128, y1⟩, ⟨S128x8x128, y2⟩, ⟨S128x8x128, y3⟩] concatenates_S128x8x512_S128x8x128_S128x8x128_S128x8x128_S128x8x128_S128x8x1024_d2 (ix3 b q k)
      = mixed (fun l => a (ix3 b q l)) (fun l => y0 (ix3 b q l)) (fun l => y1 (ix3 b q l)) (fun l => y2 (ix3 b q l)) (fun l => y3 (ix3 b q l)) k := by
  pointwise [mixed]
theorem lane_rowS (c : Vec Ideal S1x512 .f32) (b : Fin 128) (q : Fin 8) (l : Fin 512) :
    broadcastTo S128x8x512 (shapeCast S1x1x512 c shapeCasts_S1x512_S1x1x512) broadcasts_S1x1x512_S128x8x512 (ix3 b q l) = c (ix2 0 l) := by
  pointwise
theorem conv_rowS (e : Vec Ideal S128x16x512 .f32) (c0 : Vec Ideal S1x512 .f32) (b : Fin 128) (q : Fin 8) (l : Fin 512) :
    k0_pay55 e c0 (ix3 b q l) = at3 e b (8 + q.val - 2) l.val * c0 (ix2 0 l) := by
  unfold k0_pay55
  refine congrArg₂ (· * ·) ((at3_ix _ b q l).trans ?_) (lane_rowS c0 b q l)
  rw [at3_slice 8 0 _ _ _ _ _ q.isLt l.isLt (by omega) (by omega), at3_rot _ _ _ _ _ _ (show (2#32).toNat ≤ 8 + q.val from le_trans (by decide) (Nat.le_add_right 8 _)) (by omega), Nat.zero_add]
  rfl
theorem out_rowS (X : Vec Ideal S1024x1024 .f32) (gb : Vec Ideal S128x8x512 .f32) (y0 y1 y2 y3 : Vec Ideal S128x8x128 .f32) (e : Vec Ideal S128x16x512 .f32) (a : Vec Ideal S128x8x512 .f32)
    (c1 c2 : Vec Ideal S1x512 .f32) (Wo : Vec Ideal S1024x1024 .f32) (b : Fin 128) (q : Fin 8) (f : Fin 1024) :
    k0_pay56 (k0_pay35 X) gb y0 y1 y2 y3 e a c1 c2 Wo (ix2 (⟨b.val * 8 + q.val, by omega⟩ : Fin 1024) f) = X (ix2 (⟨b.val * 8 + q.val, by omega⟩ : Fin 1024) f)
      + ∑ k, mixed (fun l => gb (ix3 b q l) * (a (ix3 b q l) + at3 e b (8 + q.val - 1) l.val * c1 (ix2 0 l) + at3 e b (8 + q.val) l.val * c2 (ix2 0 l)))
        (fun l => y0 (ix3 b q l)) (fun l => y1 (ix3 b q l)) (fun l => y2 (ix3 b q l)) (fun l => y3 (ix3 b q l)) k * Wo (ix2 k f) := by
  have h : ∀ (A : Vec Ideal S1024x1024 .bf16) (p : Fin 1024), matmul (F := Ideal) (φ₁ := .bf16) (φ₂ := .f32) dot_S1024x1024_S1024x1024_S1024x1024_1_0_0_1_n_n none A Wo (constant S1024x1024 .f32 0x00000000#32) (ix2 p f) = ∑ k, A (ix2 p k) * Wo (ix2 k f) := by
    intro A p
    pointwise
  unfold k0_pay56
  refine (flatO_at _ b q f).trans (congrArg₂ (· + ·) (backO_at X b q f) ((backO_at _ b q f).trans ((h _ _).trans (Finset.sum_congr rfl fun k _ => congrArg (· * _) ((flatO_at _ b q k).trans ?_)))))
  refine (cat_rowS _ y0 y1 y2 y3 b q k).trans ?_
  refine congrArg (fun a => mixed a _ _ _ _ k) (funext fun l => ?_)
  refine congrArg₂ (· * ·) rfl (congrArg₂ (· + ·) (congrArg₂ (· + ·) rfl (congrArg₂ (· * ·) ((at3_ix _ b q l).trans ?_) (lane_rowS c1 b q l))) (congrArg₂ (· * ·) ((at3_ix _ b q l).trans ?_) (lane_rowS c2 b q l)))
  · rw [at3_slice 8 0 _ _ _ _ _ q.isLt l.isLt (by omega) (by omega), at3_rot _ _ _ _ _ _ (show (1#32).toNat ≤ 8 + q.val from le_trans (by decide) (Nat.le_add_right 8 _)) (by omega), Nat.zero_add]
    rfl
  · rw [at3_slice 8 0 _ _ _ _ _ q.isLt l.isLt (by omega) (by omega), Nat.zero_add]

end Tile

end Cert.Mix

end
-- ==== Proof.MixTokR.lean ====
/-
  THE REFERENCE'S TOKENS, row by row over the extended reals: three rows of the convolution input and the pool's windows, the rows
  before a sequence's first being zeros for a prompt and the histories for the sample, then the output projection.
-/
module

public import proofs.«01_k».proof.Proof.MixTokS
public import proofs.«01_k».proof.Proof.MixRow

@[expose] public section

set_option maxRecDepth 16384

noncomputable section

namespace Cert.Mix

open Cert.Ffn2 (nrm rowOf matOf)
open Idealize.ShloMosaic
open Idealize.ShloMosaic.TcCoe

/-- A token after the mixer: `U` and `P` are the convolution and pool inputs by how many rows back, `n` the rows so far. -/
def tokOut (x : Fin 1024 → EReal) (gb : Fin 512 → EReal) (U P : ℕ → ℕ → EReal) (n : ℕ) (C : Fin 3 → Fin 512 → EReal) (K : Fin 4 → Fin 128 → Fin 128 → EReal)
    (S : Fin 512 → EReal) (Wo : Fin 1024 → Fin 1024 → EReal) (f : Fin 1024) : EReal :=
  x f + ∑ k, mixed (fun l => convMix (gb l) (fun j => U j l.val) (C 0 l) (C 1 l) (C 2 l))
    (fun l => poolMix P n 2 0 (fun c => K 0 c l) (S ⟨0 + l.val, by omega⟩)) (fun l => poolMix P n 4 128 (fun c => K 1 c l) (S ⟨128 + l.val, by omega⟩))
    (fun l => poolMix P n 8 256 (fun c => K 2 c l) (S ⟨256 + l.val, by omega⟩)) (fun l => poolMix P n 16 384 (fun c => K 3 c l) (S ⟨384 + l.val, by omega⟩)) k * Wo k f

theorem poolMix_congr {P P' : ℕ → ℕ → EReal} (h : ∀ j < 16, ∀ l < 512, P j l = P' j l) (n w o : ℕ) (hw : 0 < w ∧ w ≤ 16) (ho : o + 128 ≤ 512) (Wp : Fin 128 → EReal) (s : EReal) :
    poolMix P n w o Wp s = poolMix P' n w o Wp s := by
  unfold poolMix
  refine congrArg (· * s) (Finset.sum_congr rfl fun c _ => congrArg (· * _) (congrArg₂ (· - ·) (congrArg (Ideal.div · _) (win_congr _ fun j hj => ?_)) ?_))
  · exact h j (by omega) _ (by omega)
  · exact h 0 (by omega) _ (by omega)
theorem tokOut_congr {x x' : Fin 1024 → EReal} (hx : x = x') {gb gb' : Fin 512 → EReal} (hgb : gb = gb') {U U' : ℕ → ℕ → EReal} (hU : ∀ j < 3, ∀ l < 512, U j l = U' j l)
    {P P' : ℕ → ℕ → EReal} (hP : ∀ j < 16, ∀ l < 512, P j l = P' j l) (n : ℕ) {C C' : Fin 3 → Fin 512 → EReal} (hC : C = C') {K K' : Fin 4 → Fin 128 → Fin 128 → EReal} (hK : K = K')
    {S S' : Fin 512 → EReal} (hS : S = S') {Wo Wo' : Fin 1024 → Fin 1024 → EReal} (hWo : Wo = Wo') (f : Fin 1024) :
    tokOut x gb U P n C K S Wo f = tokOut x' gb' U' P' n C' K' S' Wo' f := by
  subst hx hgb hC hK hS hWo
  unfold tokOut
  simp only [poolMix_congr hP n 2 0 (by omega) (by omega), poolMix_congr hP n 4 128 (by omega) (by omega), poolMix_congr hP n 8 256 (by omega) (by omega),
    poolMix_congr hP n 16 384 (by omega) (by omega), convMix, hU 0 (by omega) _ (Fin.isLt _), hU 1 (by omega) _ (Fin.isLt _), hU 2 (by omega) _ (Fin.isLt _)]

/-- Rows from `a` on, by how many rows before `base`. -/
theorem sl_at {B N L n m : ℕ} (a o base i : ℕ) (E : (⟨3, ![B, N, L]⟩ : Shape).Idx → EReal) (h) (s : Fin B) (q : Fin n) (c : Fin m) (hi : a + i = base) (ha : a + n ≤ N) (ho : o + m ≤ L) :
    extractStridedSlice ⟨3, ![B, n, m]⟩ ![0, a, o] E h (ix3 s q c) = at3 E s (base + q.val - i) (o + c.val) := by
  refine (at3_ix _ s q c).trans ?_
  rw [at3_slice a o _ _ _ _ _ q.isLt c.isLt (by omega) (by omega), show base + q.val - i = a + q.val by omega]

/-- The sum of the rows from 15 down to `15 - v`. -/
def winS {B N M : ℕ} (o : ℕ) (E : FVec Ideal ⟨3, ![B, M, 512]⟩ .f32) (h : ∀ a < 16, (⟨3, ![B, M, 512]⟩ : Shape).Slices ![0, a, o] ⟨3, ![B, N, 128]⟩) : ℕ → FVec Ideal ⟨3, ![B, N, 128]⟩ .f32
  | 0 => extractStridedSlice ⟨3, ![B, N, 128]⟩ ![0, 15, o] E (h 15 (by omega))
  | v + 1 => addf (winS o E h v) (extractStridedSlice ⟨3, ![B, N, 128]⟩ ![0, 15 - (v + 1), o] E (h _ (by omega)))
theorem winS_row {B N M : ℕ} (o : ℕ) (E : FVec Ideal ⟨3, ![B, M, 512]⟩ .f32) (h) (hM : 15 + N ≤ M) (ho : o + 128 ≤ 512) (s : Fin B) (q : Fin N) (c : Fin 128) (v : ℕ) (hv : v ≤ 15) :
    winS o E h v (ix3 s q c) = win (v + 1) (fun j => at3 E s (15 + q.val - j) (o + c.val)) := by
  unfold win
  induction v with
  | zero => rw [Finset.sum_range_one]; exact sl_at 15 o 15 0 E _ s q c rfl (by omega) ho
  | succ v ih =>
    rw [Finset.sum_range_succ, ← ih (by omega)]
    exact congrArg (winS o E h v (ix3 s q c) + ·) (sl_at (15 - (v + 1)) o 15 (v + 1) E _ s q c (by omega) (by omega) ho)

/-- Two arrays joined along their rows: a row of the second, `j` rows back, and one of the first. -/
theorem cat_own {B K N M L : ℕ} (H : (⟨3, ![B, K, L]⟩ : Shape).Idx → EReal) (Y : (⟨3, ![B, N, L]⟩ : Shape).Idx → EReal) (h) (hM : M = K + N) (s : Fin B) (q j l : ℕ) (hq : q < N) (hj : j ≤ q) (hl : l < L) :
    at3 (concatenate ⟨3, ![B, M, L]⟩ (1 : Fin 3) [⟨⟨3, ![B, K, L]⟩, H⟩, ⟨⟨3, ![B, N, L]⟩, Y⟩] h) s (K + q - j) l = Y (ix3 s ⟨q - j, by omega⟩ ⟨l, hl⟩) := by
  refine (at3_ix _ s (⟨K + q - j, by omega⟩ : Fin M) ⟨l, hl⟩).symm.trans ?_
  refine concatenate_pair_apply_right (t := ⟨3, ![B, M, L]⟩) (s₁ := ⟨3, ![B, K, L]⟩) (s₂ := ⟨3, ![B, N, L]⟩) (1 : Fin 3) _ _ _ _ rfl rfl (ix3 s (⟨q - j, by omega⟩ : Fin N) ⟨l, hl⟩) (fun b hb => ?_) ?_
  · match b with
    | ⟨0, _⟩ => rfl
    | ⟨1, _⟩ => exact absurd rfl hb
    | ⟨2, _⟩ => rfl
  · show q - j + K = K + q - j
    omega
theorem cat_old {B K N M L : ℕ} (H : (⟨3, ![B, K, L]⟩ : Shape).Idx → EReal) (Y : (⟨3, ![B, N, L]⟩ : Shape).Idx → EReal) (h) (hM : M = K + N) (s : Fin B) (q j l : ℕ) (hj : q < j) (hj' : j ≤ K) (hl : l < L) :
    at3 (concatenate ⟨3, ![B, M, L]⟩ (1 : Fin 3) [⟨⟨3, ![B, K, L]⟩, H⟩, ⟨⟨3, ![B, N, L]⟩, Y⟩] h) s (K + q - j) l = H (ix3 s ⟨K + q - j, by omega⟩ ⟨l, hl⟩) := by
  refine (at3_ix _ s (⟨K + q - j, by omega⟩ : Fin M) ⟨l, hl⟩).symm.trans ?_
  refine concatenate_pair_apply_left (t := ⟨3, ![B, M, L]⟩) (s₁ := ⟨3, ![B, K, L]⟩) (s₂ := ⟨3, ![B, N, L]⟩) (1 : Fin 3) _ _ _ _ rfl (ix3 s (⟨K + q - j, by omega⟩ : Fin K) ⟨l, hl⟩) (fun b => ?_)
  match b with
  | ⟨0, _⟩ => rfl
  | ⟨1, _⟩ => rfl
  | ⟨2, _⟩ => rfl

/-- The smaller of two numbers as 32-bit integers. -/
theorem min_cnt (x : BitVec 32) (n w : ℕ) (hx : x = BitVec.ofNat 32 n) (hn : n < 2 ^ 31) (hw : w < 2 ^ 31) :
    (((IntOp.minsi x (BitVec.ofNat 32 w)).toInt : ℝ) : EReal) = cnt n w := by
  subst hx
  have e : ∀ k : ℕ, k < 2 ^ 31 → (BitVec.ofNat 32 k).toInt = (k : ℤ) := fun k hk => by
    rw [BitVec.toInt_eq_toNat_of_lt (by rw [BitVec.toNat_ofNat, Nat.mod_eq_of_lt (by omega)]; omega), BitVec.toNat_ofNat, Nat.mod_eq_of_lt (by omega)]
  unfold cnt IntOp.minsi
  rcases Nat.lt_or_ge n w with h | h
  · have hs : (BitVec.ofNat 32 n).slt (BitVec.ofNat 32 w) = true := by simp only [BitVec.slt, e n hn, e w hw, decide_eq_true_eq]; omega
    simp only [hs, if_true, e n hn]
    refine Eq.trans ?_ (min_eq_left (EReal.coe_le_coe_iff.2 (Nat.cast_le.2 h.le))).symm
    rw [Int.cast_natCast]
  · have hs : (BitVec.ofNat 32 n).slt (BitVec.ofNat 32 w) = false := by simp only [BitVec.slt, e n hn, e w hw, decide_eq_false_iff_not]; omega
    simp only [hs, Bool.false_eq_true, if_false, e w hw]
    refine Eq.trans ?_ (min_eq_right (EReal.coe_le_coe_iff.2 (Nat.cast_le.2 h))).symm
    rw [Int.cast_natCast]

section Reference
open Cert.Reference3Ideal Cert.Reference3Ideal.Gen

/-- The groups' matrices. -/
def kM0 (K : FVec Ideal S4x128x128 .f32) : FVec Ideal S128x128 .f32 := shapeCast _ (extractStridedSlice S1x128x128 ![0, 0, 0] K slices_S4x128x128_S1x128x128_0_0_0) shapeCasts_S1x128x128_S128x128
def kM1 (K : FVec Ideal S4x128x128 .f32) : FVec Ideal S128x128 .f32 := shapeCast _ (extractStridedSlice S1x128x128 ![1, 0, 0] K slices_S4x128x128_S1x128x128_1_0_0) shapeCasts_S1x128x128_S128x128
def kM2 (K : FVec Ideal S4x128x128 .f32) : FVec Ideal S128x128 .f32 := shapeCast _ (extractStridedSlice S1x128x128 ![2, 0, 0] K slices_S4x128x128_S1x128x128_2_0_0) shapeCasts_S1x128x128_S128x128
def kM3 (K : FVec Ideal S4x128x128 .f32) : FVec Ideal S128x128 .f32 := shapeCast _ (extractStridedSlice S1x128x128 ![3, 0, 0] K slices_S4x128x128_S1x128x128_3_0_0) shapeCasts_S1x128x128_S128x128
theorem mat_at (K : FVec Ideal S4x128x128 .f32) (c j : Fin 128) :
    kM0 K (ix2 c j) = K (ix3 0 c j) ∧ kM1 K (ix2 c j) = K (ix3 1 c j) ∧ kM2 K (ix2 c j) = K (ix3 2 c j) ∧ kM3 K (ix2 c j) = K (ix3 3 c j) := by
  unfold kM0 kM1 kM2 kM3
  refine ⟨?_, ?_, ?_, ?_⟩ <;> pointwise

variable (X : FVec Ideal S17408x1024 .f32) (g : FVec Ideal S1024 .f32) (W : FVec Ideal S1024x2048 .f32)

/-- The prompts' rows with the rows before them; the positions. -/
def hcA : FVec Ideal S8x2050x512 .f32 :=
  concatenate S8x2050x512 1 [⟨S8x2x512, (broadcastInDim S8x2x512 ![] bcast_S_S8x2x512 (constant (F := Ideal) S_ .f32 0x00000000#32))⟩, ⟨S8x2048x512, convA X g W⟩] concatenates_S8x2x512_S8x2048x512_S8x2050x512_d1
def hpA : FVec Ideal S8x2063x512 .f32 :=
  concatenate S8x2063x512 1 [⟨S8x15x512, (broadcastInDim S8x15x512 ![] bcast_S_S8x15x512 (constant (F := Ideal) S_ .f32 0x00000000#32))⟩, ⟨S8x2048x512, poolA X g W⟩] concatenates_S8x15x512_S8x2048x512_S8x2063x512_d1
def posA : IVec S2048 32 := addi (broadcastInDim S2048 ![] bcast_S_S2048 (constantI S_ 32 0#32)) (iotaInDim S2048 32 0)
/-- A window's length, or the rows so far if fewer. -/
def lenA (w : BitVec 32) : FVec Ideal S8x2048x128 .f32 :=
  broadcastInDim S8x2048x128 ![0, 1, 2] bcast_S1x2048x1_S8x2048x128_0_1_2 (broadcastInDim S1x2048x1 ![1] bcast_S2048_S1x2048x1_1 (sitofp .f32 (minsi (addi posA (broadcastInDim S2048 ![] bcast_S_S2048 (constantI S_ 32 1#32))) (broadcastInDim S2048 ![] bcast_S_S2048 (constantI S_ 32 w)))))
theorem lenA_at (w : ℕ) (hw : w < 2 ^ 31) (s : Fin 8) (q : Fin 2048) (c : Fin 128) : lenA (BitVec.ofNat 32 w) (ix3 s q c) = cnt (q.val + 1) w := by
  refine Eq.trans ?_ (min_cnt ((0#32 + BitVec.ofNat 32 q.val) + 1#32) _ w ?_ (by omega) hw)
  · pointwise [lenA, posA]
    first | done | rfl
  · rw [show 0#32 = BitVec.ofNat 32 0 from rfl, ← BitVec.ofNat_add, ← BitVec.ofNat_add]
    exact congrArg (BitVec.ofNat 32) (by omega)
theorem dotA_row (D : FVec Ideal S8x2048x128 .f32) (M : FVec Ideal S128x128 .f32) (s : Fin 8) (q : Fin 2048) (j : Fin 128) :
    Host.dotGeneral dot_S8x2048x128_S128x128_S8x2048x128_2_0_01_1_n_n none D M (ix3 s q j) = ∑ c, D (ix3 s q c) * M (ix2 c j) := by
  pointwise
/-- A group of the pool, of a window of `w = v + 1` rows. -/
def grpA (o w v : ℕ) (h : ∀ a < 16, S8x2063x512.Slices ![0, a, o] S8x2048x128) (E : FVec Ideal S8x2063x512 .f32) (M : FVec Ideal S128x128 .f32) : FVec Ideal S8x2048x128 .f32 :=
  Host.dotGeneral dot_S8x2048x128_S128x128_S8x2048x128_2_0_01_1_n_n none (subf (Host.divf (winS o E h v) (lenA (BitVec.ofNat 32 w))) (extractStridedSlice S8x2048x128 ![0, 15, o] E (h 15 (by omega)))) M
theorem grpA_row (o w v : ℕ) (hw : w = v + 1) (hv : v ≤ 15) (ho : o + 128 ≤ 512) (h) (E : FVec Ideal S8x2063x512 .f32) (M : FVec Ideal S128x128 .f32) (s : Fin 8) (q : Fin 2048) (j : Fin 128) (z : EReal) :
    grpA o w v h E M (ix3 s q j) * z = poolMix (fun i l => at3 E s (15 + q.val - i) l) (q.val + 1) w o (fun c => M (ix2 c j)) z := by
  subst hw
  unfold grpA poolMix
  refine congrArg (· * z) ((dotA_row _ _ s q j).trans (Finset.sum_congr rfl fun c _ => congrArg₂ (· * ·) ?_ rfl))
  exact congrArg₂ (· - ·) (congrArg₂ Ideal.div (winS_row o E h (by omega) ho s q c v hv) (lenA_at (v + 1) (by omega) s q c)) (sl_at 15 o 15 0 E _ s q c rfl (by omega) ho)
theorem cutA : ∀ g < 4, ∀ a < 16, S8x2063x512.Slices ![0, a, 128 * g] S8x2048x128 := by decide
/-- The gated convolution; the pool's groups side by side; both, the pool scaled; the output projection of them added. -/
def cvA (Y : FVec Ideal S8x2048x2048 .f32) (E : FVec Ideal S8x2050x512 .f32) (C : FVec Ideal S3x512 .f32) : FVec Ideal S8x2048x512 .f32 :=
  mulf (extractStridedSlice S8x2048x512 ![0, 0, 0] Y slices_S8x2048x2048_S8x2048x512_0_0_0) (addf (addf (mulf (extractStridedSlice S8x2048x512 ![0, 0, 0] E slices_S8x2050x512_S8x2048x512_0_0_0) (broadcastInDim S8x2048x512 ![0, 1, 2] bcast_S1x1x512_S8x2048x512_0_1_2 (broadcastInDim S1x1x512 ![2] bcast_S512_S1x1x512_2 (shapeCast _ (extractStridedSlice S1x512 ![0, 0] C slices_S3x512_S1x512_0_0) shapeCasts_S1x512_S512)))) (mulf (extractStridedSlice S8x2048x512 ![0, 1, 0] E slices_S8x2050x512_S8x2048x512_0_1_0) (broadcastInDim S8x2048x512 ![0, 1, 2] bcast_S1x1x512_S8x2048x512_0_1_2 (broadcastInDim S1x1x512 ![2] bcast_S512_S1x1x512_2 (shapeCast _ (extractStridedSlice S1x512 ![1, 0] C slices_S3x512_S1x512_1_0) shapeCasts_S1x512_S512))))) (mulf (extractStridedSlice S8x2048x512 ![0, 2, 0] E slices_S8x2050x512_S8x2048x512_0_2_0) (broadcastInDim S8x2048x512 ![0, 1, 2] bcast_S1x1x512_S8x2048x512_0_1_2 (broadcastInDim S1x1x512 ![2] bcast_S512_S1x1x512_2 (shapeCast _ (extractStridedSlice S1x512 ![2, 0] C slices_S3x512_S1x512_2_0) shapeCasts_S1x512_S512)))))
def plA (y0 y1 y2 y3 : FVec Ideal S8x2048x128 .f32) : FVec Ideal S8x2048x512 .f32 :=
  concatenate S8x2048x512 2 [⟨S8x2048x128, y0⟩, ⟨S8x2048x128, y1⟩, ⟨S8x2048x128, y2⟩, ⟨S8x2048x128, y3⟩] concatenates_S8x2048x128_S8x2048x128_S8x2048x128_S8x2048x128_S8x2048x512_d2
def mxA (a p : FVec Ideal S8x2048x512 .f32) (S : FVec Ideal S512 .f32) : FVec Ideal S8x2048x1024 .f32 :=
  concatenate S8x2048x1024 2 [⟨S8x2048x512, a⟩, ⟨S8x2048x512, mulf p (broadcastInDim S8x2048x512 ![0, 1, 2] bcast_S1x1x512_S8x2048x512_0_1_2 (broadcastInDim S1x1x512 ![2] bcast_S512_S1x1x512_2 S))⟩] concatenates_S8x2048x512_S8x2048x512_S8x2048x1024_d2
def adA (T : FVec Ideal S8x2048x1024 .f32) (M : FVec Ideal S8x2048x1024 .f32) (Wo : FVec Ideal S1024x1024 .f32) : FVec Ideal S8x2048x1024 .f32 :=
  addf T (Host.dotGeneral dot_S8x2048x1024_S1024x1024_S8x2048x1024_2_0_01_1_n_n none M Wo)

theorem cwtA_at (C : FVec Ideal S3x512 .f32) (s : Fin 8) (q : Fin 2048) (l : Fin 512) :
    (broadcastInDim S8x2048x512 ![0, 1, 2] bcast_S1x1x512_S8x2048x512_0_1_2 (broadcastInDim S1x1x512 ![2] bcast_S512_S1x1x512_2 (shapeCast _ (extractStridedSlice S1x512 ![0, 0] C slices_S3x512_S1x512_0_0) shapeCasts_S1x512_S512))) (ix3 s q l) = C (ix2 0 l) ∧ (broadcastInDim S8x2048x512 ![0, 1, 2] bcast_S1x1x512_S8x2048x512_0_1_2 (broadcastInDim S1x1x512 ![2] bcast_S512_S1x1x512_2 (shapeCast _ (extractStridedSlice S1x512 ![1, 0] C slices_S3x512_S1x512_1_0) shapeCasts_S1x512_S512))) (ix3 s q l) = C (ix2 1 l) ∧ (broadcastInDim S8x2048x512 ![0, 1, 2] bcast_S1x1x512_S8x2048x512_0_1_2 (broadcastInDim S1x1x512 ![2] bcast_S512_S1x1x512_2 (shapeCast _ (extractStridedSlice S1x512 ![2, 0] C slices_S3x512_S1x512_2_0) shapeCasts_S1x512_S512))) (ix3 s q l) = C (ix2 2 l) := by
  refine ⟨?_, ?_, ?_⟩ <;> pointwise
theorem cvA_row (Y : FVec Ideal S8x2048x2048 .f32) (E : FVec Ideal S8x2050x512 .f32) (C : FVec Ideal S3x512 .f32) (s : Fin 8) (q : Fin 2048) (l : Fin 512) :
    cvA Y E C (ix3 s q l) = convMix (Y (ix3 s q ⟨0 + l.val, by omega⟩)) (fun j => at3 E s (2 + q.val - j) (0 + l.val)) (C (ix2 0 l)) (C (ix2 1 l)) (C (ix2 2 l)) := by
  unfold cvA convMix
  refine congrArg₂ (· * ·) ?_ (congrArg₂ (· + ·) (congrArg₂ (· + ·) (congrArg₂ (· * ·) (sl_at 0 0 2 2 E _ s q l rfl (by omega) (by omega)) (cwtA_at C s q l).1)
    (congrArg₂ (· * ·) (sl_at 1 0 2 1 E _ s q l rfl (by omega) (by omega)) (cwtA_at C s q l).2.1)) (congrArg₂ (· * ·) (sl_at 2 0 2 0 E _ s q l rfl (by omega) (by omega)) (cwtA_at C s q l).2.2))
  refine extractStridedSlice_apply _ _ _ _ (ix3 s q (⟨0 + l.val, by omega⟩ : Fin 2048)) (fun a => ?_)
  match a with
  | ⟨0, _⟩ => exact (Nat.zero_add _).symm
  | ⟨1, _⟩ => exact (Nat.zero_add _).symm
  | ⟨2, _⟩ => rfl
theorem mxA_row (a : FVec Ideal S8x2048x512 .f32) (y0 y1 y2 y3 : FVec Ideal S8x2048x128 .f32) (S : FVec Ideal S512 .f32) (s : Fin 8) (q : Fin 2048) (k : Fin 1024) :
    mxA a (plA y0 y1 y2 y3) S (ix3 s q k) = mixed (fun l => a (ix3 s q l)) (fun l => y0 (ix3 s q l) * S (ix1 ⟨0 + l.val, by omega⟩)) (fun l => y1 (ix3 s q l) * S (ix1 ⟨128 + l.val, by omega⟩))
      (fun l => y2 (ix3 s q l) * S (ix1 ⟨256 + l.val, by omega⟩)) (fun l => y3 (ix3 s q l) * S (ix1 ⟨384 + l.val, by omega⟩)) k := by
  pointwise [mxA, plA, mixed]
  split_ifs <;> first | rfl | exact congrArg (fun z => _ * S (ix1 z)) (Fin.ext (by dsimp only; omega))
theorem adA_row (T M : FVec Ideal S8x2048x1024 .f32) (Wo : FVec Ideal S1024x1024 .f32) (s : Fin 8) (q : Fin 2048) (f : Fin 1024) :
    adA T M Wo (ix3 s q f) = T (ix3 s q f) + ∑ k, M (ix3 s q k) * Wo (ix2 k f) := by
  pointwise [adA]

/-- The prompts' tokens. -/
def rTokA (C : FVec Ideal S3x512 .f32) (K : FVec Ideal S4x128x128 .f32) (S : FVec Ideal S512 .f32) (Wo : FVec Ideal S1024x1024 .f32) : FVec Ideal S8x2048x1024 .f32 :=
  adA (toksA X) (mxA (cvA (projA X g W) (hcA X g W) C) (plA (grpA 0 2 1 (cutA 0 (by omega)) (hpA X g W) (kM0 K)) (grpA 128 4 3 (cutA 1 (by omega)) (hpA X g W) (kM1 K)) (grpA 256 8 7 (cutA 2 (by omega)) (hpA X g W) (kM2 K)) (grpA 384 16 15 (cutA 3 (by omega)) (hpA X g W) (kM3 K))) S) Wo
theorem rTokA_row (C : FVec Ideal S3x512 .f32) (K : FVec Ideal S4x128x128 .f32) (S : FVec Ideal S512 .f32) (Wo : FVec Ideal S1024x1024 .f32) (s : Fin 8) (q : Fin 2048) (f : Fin 1024) :
    rTokA X g W C K S Wo (ix3 s q f) = tokOut (tok X ⟨s.val * 2048 + q.val, by omega⟩) (fun l => proj (tok X ⟨s.val * 2048 + q.val, by omega⟩) (fun k => g (ix1 k)) (matOf W) ⟨0 + l.val, by omega⟩)
      (fun j l => at3 (hcA X g W) s (2 + q.val - j) (0 + l)) (fun j l => at3 (hpA X g W) s (15 + q.val - j) l) (q.val + 1)
      (fun k l => C (ix2 k l)) (fun k c l => K (ix3 k c l)) (fun l => S (ix1 l)) (matOf Wo) f := by
  unfold rTokA tokOut
  rw [adA_row, tokA_at]
  refine congrArg₂ (· + ·) rfl (Finset.sum_congr rfl fun k _ => congrArg₂ (· * ·) ?_ rfl)
  rw [mxA_row]
  simp only [grpA_row 0 2 1 rfl (by omega) (by omega), grpA_row 128 4 3 rfl (by omega) (by omega), grpA_row 256 8 7 rfl (by omega) (by omega), grpA_row 384 16 15 rfl (by omega) (by omega),
    fun c j => (mat_at K c j).1, fun c j => (mat_at K c j).2.1, fun c j => (mat_at K c j).2.2.1, fun c j => (mat_at K c j).2.2.2, cvA_row, projA_row]

/-- A row of the sequence itself, `j` rows back, -/
theorem hpA_own (s : Fin 8) (q j l : ℕ) (hq : q < 2048) (hj : j ≤ q) (hl : l < 512) :
    at3 (hpA X g W) s (15 + q - j) l = poolIn (tok X ⟨s.val * 2048 + (q - j), by omega⟩) (fun k => g (ix1 k)) (matOf W) ⟨l, hl⟩ := by
  exact (cat_own (M := 2063) _ _ _ rfl s q j l hq hj hl).trans (poolA_row X g W s _ _)
theorem hcA_own (s : Fin 8) (q j l : ℕ) (hq : q < 2048) (hj : j ≤ q) (hl : l < 512) :
    at3 (hcA X g W) s (2 + q - j) l = convIn (tok X ⟨s.val * 2048 + (q - j), by omega⟩) (fun k => g (ix1 k)) (matOf W) ⟨l, hl⟩ := by
  exact (cat_own (M := 2050) _ _ _ rfl s q j l hq hj hl).trans (convA_row X g W s _ _)
/-- and one before its first. -/
theorem hpA_old (s : Fin 8) (q j l : ℕ) (hj : q < j) (hj' : j ≤ 15) (hl : l < 512) :
    at3 (hpA X g W) s (15 + q - j) l = 0 := by
  refine (cat_old (M := 2063) _ _ _ rfl s q j l hj hj' hl).trans ?_
  pointwise
theorem hcA_old (s : Fin 8) (q j l : ℕ) (hj : q < j) (hj' : j ≤ 2) (hl : l < 512) :
    at3 (hcA X g W) s (2 + q - j) l = 0 := by
  refine (cat_old (M := 2050) _ _ _ rfl s q j l hj hj' hl).trans ?_
  pointwise

/-- The sample's rows with the rows before them; the positions. -/
def hcB (H1 : FVec Ideal S128x2x512 .f32) : FVec Ideal S128x10x512 .f32 :=
  concatenate S128x10x512 1 [⟨S128x2x512, H1⟩, ⟨S128x8x512, convB X g W⟩] concatenates_S128x2x512_S128x8x512_S128x10x512_d1
def hpB (H2 : FVec Ideal S128x15x512 .f32) : FVec Ideal S128x23x512 .f32 :=
  concatenate S128x23x512 1 [⟨S128x15x512, H2⟩, ⟨S128x8x512, poolB X g W⟩] concatenates_S128x15x512_S128x8x512_S128x23x512_d1
def posB : IVec S8 32 := addi (broadcastInDim S8 ![] bcast_S_S8 (constantI S_ 32 16384#32)) (iotaInDim S8 32 0)
/-- A window's length, or the rows so far if fewer. -/
def lenB (w : BitVec 32) : FVec Ideal S128x8x128 .f32 :=
  broadcastInDim S128x8x128 ![0, 1, 2] bcast_S1x8x1_S128x8x128_0_1_2 (broadcastInDim S1x8x1 ![1] bcast_S8_S1x8x1_1 (sitofp .f32 (minsi (addi posB (broadcastInDim S8 ![] bcast_S_S8 (constantI S_ 32 1#32))) (broadcastInDim S8 ![] bcast_S_S8 (constantI S_ 32 w)))))
theorem lenB_at (w : ℕ) (hw : w < 2 ^ 31) (s : Fin 128) (q : Fin 8) (c : Fin 128) : lenB (BitVec.ofNat 32 w) (ix3 s q c) = cnt (16384 + q.val + 1) w := by
  refine Eq.trans ?_ (min_cnt ((16384#32 + BitVec.ofNat 32 q.val) + 1#32) _ w ?_ (by omega) hw)
  · pointwise [lenB, posB]
    first | done | rfl
  · rw [show 16384#32 = BitVec.ofNat 32 16384 from rfl, ← BitVec.ofNat_add, ← BitVec.ofNat_add]
theorem dotB_row (D : FVec Ideal S128x8x128 .f32) (M : FVec Ideal S128x128 .f32) (s : Fin 128) (q : Fin 8) (j : Fin 128) :
    Host.dotGeneral dot_S128x8x128_S128x128_S128x8x128_2_0_01_1_n_n none D M (ix3 s q j) = ∑ c, D (ix3 s q c) * M (ix2 c j) := by
  pointwise
/-- A group of the pool, of a window of `w = v + 1` rows. -/
def grpB (o w v : ℕ) (h : ∀ a < 16, S128x23x512.Slices ![0, a, o] S128x8x128) (E : FVec Ideal S128x23x512 .f32) (M : FVec Ideal S128x128 .f32) : FVec Ideal S128x8x128 .f32 :=
  Host.dotGeneral dot_S128x8x128_S128x128_S128x8x128_2_0_01_1_n_n none (subf (Host.divf (winS o E h v) (lenB (BitVec.ofNat 32 w))) (extractStridedSlice S128x8x128 ![0, 15, o] E (h 15 (by omega)))) M
theorem grpB_row (o w v : ℕ) (hw : w = v + 1) (hv : v ≤ 15) (ho : o + 128 ≤ 512) (h) (E : FVec Ideal S128x23x512 .f32) (M : FVec Ideal S128x128 .f32) (s : Fin 128) (q : Fin 8) (j : Fin 128) (z : EReal) :
    grpB o w v h E M (ix3 s q j) * z = poolMix (fun i l => at3 E s (15 + q.val - i) l) (16384 + q.val + 1) w o (fun c => M (ix2 c j)) z := by
  subst hw
  unfold grpB poolMix
  refine congrArg (· * z) ((dotB_row _ _ s q j).trans (Finset.sum_congr rfl fun c _ => congrArg₂ (· * ·) ?_ rfl))
  exact congrArg₂ (· - ·) (congrArg₂ Ideal.div (winS_row o E h (by omega) ho s q c v hv) (lenB_at (v + 1) (by omega) s q c)) (sl_at 15 o 15 0 E _ s q c rfl (by omega) ho)
theorem cutB : ∀ g < 4, ∀ a < 16, S128x23x512.Slices ![0, a, 128 * g] S128x8x128 := by decide
/-- The gated convolution; the pool's groups side by side; both, the pool scaled; the output projection of them added. -/
def cvB (Y : FVec Ideal S128x8x2048 .f32) (E : FVec Ideal S128x10x512 .f32) (C : FVec Ideal S3x512 .f32) : FVec Ideal S128x8x512 .f32 :=
  mulf (extractStridedSlice S128x8x512 ![0, 0, 0] Y slices_S128x8x2048_S128x8x512_0_0_0) (addf (addf (mulf (extractStridedSlice S128x8x512 ![0, 0, 0] E slices_S128x10x512_S128x8x512_0_0_0) (broadcastInDim S128x8x512 ![0, 1, 2] bcast_S1x1x512_S128x8x512_0_1_2 (broadcastInDim S1x1x512 ![2] bcast_S512_S1x1x512_2 (shapeCast _ (extractStridedSlice S1x512 ![0, 0] C slices_S3x512_S1x512_0_0) shapeCasts_S1x512_S512)))) (mulf (extractStridedSlice S128x8x512 ![0, 1, 0] E slices_S128x10x512_S128x8x512_0_1_0) (broadcastInDim S128x8x512 ![0, 1, 2] bcast_S1x1x512_S128x8x512_0_1_2 (broadcastInDim S1x1x512 ![2] bcast_S512_S1x1x512_2 (shapeCast _ (extractStridedSlice S1x512 ![1, 0] C slices_S3x512_S1x512_1_0) shapeCasts_S1x512_S512))))) (mulf (extractStridedSlice S128x8x512 ![0, 2, 0] E slices_S128x10x512_S128x8x512_0_2_0) (broadcastInDim S128x8x512 ![0, 1, 2] bcast_S1x1x512_S128x8x512_0_1_2 (broadcastInDim S1x1x512 ![2] bcast_S512_S1x1x512_2 (shapeCast _ (extractStridedSlice S1x512 ![2, 0] C slices_S3x512_S1x512_2_0) shapeCasts_S1x512_S512)))))
def plB (y0 y1 y2 y3 : FVec Ideal S128x8x128 .f32) : FVec Ideal S128x8x512 .f32 :=
  concatenate S128x8x512 2 [⟨S128x8x128, y0⟩, ⟨S128x8x128, y1⟩, ⟨S128x8x128, y2⟩, ⟨S128x8x128, y3⟩] concatenates_S128x8x128_S128x8x128_S128x8x128_S128x8x128_S128x8x512_d2
def mxB (a p : FVec Ideal S128x8x512 .f32) (S : FVec Ideal S512 .f32) : FVec Ideal S128x8x1024 .f32 :=
  concatenate S128x8x1024 2 [⟨S128x8x512, a⟩, ⟨S128x8x512, mulf p (broadcastInDim S128x8x512 ![0, 1, 2] bcast_S1x1x512_S128x8x512_0_1_2 (broadcastInDim S1x1x512 ![2] bcast_S512_S1x1x512_2 S))⟩] concatenates_S128x8x512_S128x8x512_S128x8x1024_d2
def adB (T : FVec Ideal S128x8x1024 .f32) (M : FVec Ideal S128x8x1024 .f32) (Wo : FVec Ideal S1024x1024 .f32) : FVec Ideal S128x8x1024 .f32 :=
  addf T (Host.dotGeneral dot_S128x8x1024_S1024x1024_S128x8x1024_2_0_01_1_n_n none M Wo)

theorem cwtB_at (C : FVec Ideal S3x512 .f32) (s : Fin 128) (q : Fin 8) (l : Fin 512) :
    (broadcastInDim S128x8x512 ![0, 1, 2] bcast_S1x1x512_S128x8x512_0_1_2 (broadcastInDim S1x1x512 ![2] bcast_S512_S1x1x512_2 (shapeCast _ (extractStridedSlice S1x512 ![0, 0] C slices_S3x512_S1x512_0_0) shapeCasts_S1x512_S512))) (ix3 s q l) = C (ix2 0 l) ∧ (broadcastInDim S128x8x512 ![0, 1, 2] bcast_S1x1x512_S128x8x512_0_1_2 (broadcastInDim S1x1x512 ![2] bcast_S512_S1x1x512_2 (shapeCast _ (extractStridedSlice S1x512 ![1, 0] C slices_S3x512_S1x512_1_0) shapeCasts_S1x512_S512))) (ix3 s q l) = C (ix2 1 l) ∧ (broadcastInDim S128x8x512 ![0, 1, 2] bcast_S1x1x512_S128x8x512_0_1_2 (broadcastInDim S1x1x512 ![2] bcast_S512_S1x1x512_2 (shapeCast _ (extractStridedSlice S1x512 ![2, 0] C slices_S3x512_S1x512_2_0) shapeCasts_S1x512_S512))) (ix3 s q l) = C (ix2 2 l) := by
  refine ⟨?_, ?_, ?_⟩ <;> pointwise
theorem cvB_row (Y : FVec Ideal S128x8x2048 .f32) (E : FVec Ideal S128x10x512 .f32) (C : FVec Ideal S3x512 .f32) (s : Fin 128) (q : Fin 8) (l : Fin 512) :
    cvB Y E C (ix3 s q l) = convMix (Y (ix3 s q ⟨0 + l.val, by omega⟩)) (fun j => at3 E s (2 + q.val - j) (0 + l.val)) (C (ix2 0 l)) (C (ix2 1 l)) (C (ix2 2 l)) := by
  unfold cvB convMix
  refine congrArg₂ (· * ·) ?_ (congrArg₂ (· + ·) (congrArg₂ (· + ·) (congrArg₂ (· * ·) (sl_at 0 0 2 2 E _ s q l rfl (by omega) (by omega)) (cwtB_at C s q l).1)
    (congrArg₂ (· * ·) (sl_at 1 0 2 1 E _ s q l rfl (by omega) (by omega)) (cwtB_at C s q l).2.1)) (congrArg₂ (· * ·) (sl_at 2 0 2 0 E _ s q l rfl (by omega) (by omega)) (cwtB_at C s q l).2.2))
  refine extractStridedSlice_apply _ _ _ _ (ix3 s q (⟨0 + l.val, by omega⟩ : Fin 2048)) (fun a => ?_)
  match a with
  | ⟨0, _⟩ => exact (Nat.zero_add _).symm
  | ⟨1, _⟩ => exact (Nat.zero_add _).symm
  | ⟨2, _⟩ => rfl
theorem mxB_row (a : FVec Ideal S128x8x512 .f32) (y0 y1 y2 y3 : FVec Ideal S128x8x128 .f32) (S : FVec Ideal S512 .f32) (s : Fin 128) (q : Fin 8) (k : Fin 1024) :
    mxB a (plB y0 y1 y2 y3) S (ix3 s q k) = mixed (fun l => a (ix3 s q l)) (fun l => y0 (ix3 s q l) * S (ix1 ⟨0 + l.val, by omega⟩)) (fun l => y1 (ix3 s q l) * S (ix1 ⟨128 + l.val, by omega⟩))
      (fun l => y2 (ix3 s q l) * S (ix1 ⟨256 + l.val, by omega⟩)) (fun l => y3 (ix3 s q l) * S (ix1 ⟨384 + l.val, by omega⟩)) k := by
  pointwise [mxB, plB, mixed]
  split_ifs <;> first | rfl | exact congrArg (fun z => _ * S (ix1 z)) (Fin.ext (by dsimp only; omega))
theorem adB_row (T M : FVec Ideal S128x8x1024 .f32) (Wo : FVec Ideal S1024x1024 .f32) (s : Fin 128) (q : Fin 8) (f : Fin 1024) :
    adB T M Wo (ix3 s q f) = T (ix3 s q f) + ∑ k, M (ix3 s q k) * Wo (ix2 k f) := by
  pointwise [adB]

/-- The sample's tokens. -/
def rTokB (X : FVec Ideal S17408x1024 .f32) (H1 : FVec Ideal S128x2x512 .f32) (H2 : FVec Ideal S128x15x512 .f32) (g : FVec Ideal S1024 .f32) (W : FVec Ideal S1024x2048 .f32) (C : FVec Ideal S3x512 .f32) (K : FVec Ideal S4x128x128 .f32) (S : FVec Ideal S512 .f32) (Wo : FVec Ideal S1024x1024 .f32) : FVec Ideal S128x8x1024 .f32 :=
  adB (toksB X) (mxB (cvB (projB X g W) (hcB X g W H1) C) (plB (grpB 0 2 1 (cutB 0 (by omega)) (hpB X g W H2) (kM0 K)) (grpB 128 4 3 (cutB 1 (by omega)) (hpB X g W H2) (kM1 K)) (grpB 256 8 7 (cutB 2 (by omega)) (hpB X g W H2) (kM2 K)) (grpB 384 16 15 (cutB 3 (by omega)) (hpB X g W H2) (kM3 K))) S) Wo
theorem rTokB_row (X : FVec Ideal S17408x1024 .f32) (H1 : FVec Ideal S128x2x512 .f32) (H2 : FVec Ideal S128x15x512 .f32) (g : FVec Ideal S1024 .f32) (W : FVec Ideal S1024x2048 .f32) (C : FVec Ideal S3x512 .f32) (K : FVec Ideal S4x128x128 .f32) (S : FVec Ideal S512 .f32) (Wo : FVec Ideal S1024x1024 .f32) (s : Fin 128) (q : Fin 8) (f : Fin 1024) :
    rTokB X H1 H2 g W C K S Wo (ix3 s q f) = tokOut (tok X ⟨16384 + s.val * 8 + q.val, by omega⟩) (fun l => proj (tok X ⟨16384 + s.val * 8 + q.val, by omega⟩) (fun k => g (ix1 k)) (matOf W) ⟨0 + l.val, by omega⟩)
      (fun j l => at3 (hcB X g W H1) s (2 + q.val - j) (0 + l)) (fun j l => at3 (hpB X g W H2) s (15 + q.val - j) l) (16384 + q.val + 1)
      (fun k l => C (ix2 k l)) (fun k c l => K (ix3 k c l)) (fun l => S (ix1 l)) (matOf Wo) f := by
  unfold rTokB tokOut
  rw [adB_row, tokB_at]
  refine congrArg₂ (· + ·) rfl (Finset.sum_congr rfl fun k _ => congrArg₂ (· * ·) ?_ rfl)
  rw [mxB_row]
  simp only [grpB_row 0 2 1 rfl (by omega) (by omega), grpB_row 128 4 3 rfl (by omega) (by omega), grpB_row 256 8 7 rfl (by omega) (by omega), grpB_row 384 16 15 rfl (by omega) (by omega),
    fun c j => (mat_at K c j).1, fun c j => (mat_at K c j).2.1, fun c j => (mat_at K c j).2.2.1, fun c j => (mat_at K c j).2.2.2, cvB_row, projB_row]

/-- A row of the sequence itself, `j` rows back, -/
theorem hpB_own (H2 : FVec Ideal S128x15x512 .f32) (s : Fin 128) (q j l : ℕ) (hq : q < 8) (hj : j ≤ q) (hl : l < 512) :
    at3 (hpB X g W H2) s (15 + q - j) l = poolIn (tok X ⟨16384 + s.val * 8 + (q - j), by omega⟩) (fun k => g (ix1 k)) (matOf W) ⟨l, hl⟩ := by
  exact (cat_own (M := 23) _ _ _ rfl s q j l hq hj hl).trans (poolB_row X g W s _ _)
theorem hcB_own (H1 : FVec Ideal S128x2x512 .f32) (s : Fin 128) (q j l : ℕ) (hq : q < 8) (hj : j ≤ q) (hl : l < 512) :
    at3 (hcB X g W H1) s (2 + q - j) l = convIn (tok X ⟨16384 + s.val * 8 + (q - j), by omega⟩) (fun k => g (ix1 k)) (matOf W) ⟨l, hl⟩ := by
  exact (cat_own (M := 10) _ _ _ rfl s q j l hq hj hl).trans (convB_row X g W s _ _)
/-- and one before its first. -/
theorem hpB_old (H2 : FVec Ideal S128x15x512 .f32) (s : Fin 128) (q j l : ℕ) (hj : q < j) (hj' : j ≤ 15) (hl : l < 512) :
    at3 (hpB X g W H2) s (15 + q - j) l = H2 (ix3 s ⟨15 + q - j, by omega⟩ ⟨l, hl⟩) := by
  refine (cat_old (M := 23) _ _ _ rfl s q j l hj hj' hl).trans ?_
  rfl
theorem hcB_old (H1 : FVec Ideal S128x2x512 .f32) (s : Fin 128) (q j l : ℕ) (hj : q < j) (hj' : j ≤ 2) (hl : l < 512) :
    at3 (hcB X g W H1) s (2 + q - j) l = H1 (ix3 s ⟨2 + q - j, by omega⟩ ⟨l, hl⟩) := by
  refine (cat_old (M := 10) _ _ _ rfl s q j l hj hj' hl).trans ?_
  rfl

/-- The reference's tokens. -/
def rToks (X : FVec Ideal S17408x1024 .f32) (H1 : FVec Ideal S128x2x512 .f32) (H2 : FVec Ideal S128x15x512 .f32) (g : FVec Ideal S1024 .f32) (W : FVec Ideal S1024x2048 .f32)
    (C : FVec Ideal S3x512 .f32) (K : FVec Ideal S4x128x128 .f32) (S : FVec Ideal S512 .f32) (Wo : FVec Ideal S1024x1024 .f32) : FVec Ideal S17408x1024 .f32 :=
  concatenate S17408x1024 0 [⟨S16384x1024, shapeCast _ (rTokA X g W C K S Wo) shapeCasts_S8x2048x1024_S16384x1024⟩,
    ⟨S1024x1024, shapeCast _ (rTokB X H1 H2 g W C K S Wo) shapeCasts_S128x8x1024_S1024x1024⟩] concatenates_S16384x1024_S1024x1024_S17408x1024_d0

variable (X : FVec Ideal S17408x1024 .f32) (H1 : FVec Ideal S128x2x512 .f32) (H2 : FVec Ideal S128x15x512 .f32) (g : FVec Ideal S1024 .f32) (W : FVec Ideal S1024x2048 .f32)
    (C : FVec Ideal S3x512 .f32) (K : FVec Ideal S4x128x128 .f32) (S : FVec Ideal S512 .f32) (Wo : FVec Ideal S1024x1024 .f32)

theorem rToks_prompt (s : Fin 8) (q : Fin 2048) (f : Fin 1024) :
    rToks X H1 H2 g W C K S Wo (ix2 (⟨s.val * 2048 + q.val, by omega⟩ : Fin 17408) f) = rTokA X g W C K S Wo (ix3 s q f) := by
  unfold rToks
  refine (concatenate_pair_apply_left (t := S17408x1024) (s₁ := S16384x1024) (s₂ := S1024x1024) (0 : Fin 2) _ _ _ _ rfl (ix2 (⟨s.val * 2048 + q.val, by omega⟩ : Fin 16384) f) (fun b => ?_)).trans ?_
  · match b with
    | ⟨0, _⟩ => rfl
    | ⟨1, _⟩ => rfl
  · refine shapeCast_apply _ _ (ix2 (⟨s.val * 2048 + q.val, by omega⟩ : Fin 16384) f) (ix3 s q f) ?_
    rw [Shape.rowMajor_val_two, Shape.rowMajor_val_three]
    rfl
theorem rToks_sample (s : Fin 128) (q : Fin 8) (f : Fin 1024) :
    rToks X H1 H2 g W C K S Wo (ix2 (⟨16384 + s.val * 8 + q.val, by omega⟩ : Fin 17408) f) = rTokB X H1 H2 g W C K S Wo (ix3 s q f) := by
  unfold rToks
  refine (concatenate_pair_apply_right (t := S17408x1024) (s₁ := S16384x1024) (s₂ := S1024x1024) (0 : Fin 2) _ _ _ _ rfl rfl (ix2 (⟨s.val * 8 + q.val, by omega⟩ : Fin 1024) f) (fun b hb => ?_) ?_).trans ?_
  · match b with
    | ⟨0, _⟩ => exact absurd rfl hb
    | ⟨1, _⟩ => rfl
  · show s.val * 8 + q.val + 16384 = 16384 + s.val * 8 + q.val
    omega
  · refine shapeCast_apply _ _ (ix2 (⟨s.val * 8 + q.val, by omega⟩ : Fin 1024) f) (ix3 s q f) ?_
    rw [Shape.rowMajor_val_two, Shape.rowMajor_val_three]
    rfl

end Reference

end Cert.Mix

end
-- ==== Proof.MixTokV.lean ====
/-
  THE MIXER'S TOKENS OVER THE EXTENDED REALS: a tile's rows are the token, the gated convolution of its last three rows and the means of
  its last rows, read off the conv and pool buffers; the buffers' rows are the reference's rows, so the tokens are the reference's.
-/
module

public import proofs.«01_k».proof.Proof.MixValue
public import proofs.«01_k».proof.Proof.MixTokR

@[expose] public section

set_option maxRecDepth 16384

noncomputable section

namespace Cert.Mix

open Cert.Kernel3Ideal Cert.Kernel3Ideal.Gen
open Cert.Ffn2 (nrm rowOf matOf)
open Idealize.ShloMosaic
open Idealize.ShloMosaic.TcCoe Idealize.ShloMosaic.Tactic
open Idealize.ShloMosaic.Pipeline (RDat Cfg Window)
open Idealize.SL.Sem

/-! ## A tile's rows from its buffers -/

theorem at2_val {N L : ℕ} (x : (⟨2, ![N, L]⟩ : Shape).Idx → EReal) (r l : ℕ) (hr : r < N) (hl : l < L) : at2 x r l = x (ix2 ⟨r, hr⟩ ⟨l, hl⟩) := dif_pos ⟨hr, hl⟩
theorem at3_val {B N L : ℕ} (x : (⟨3, ![B, N, L]⟩ : Shape).Idx → EReal) (b : Fin B) (r l : ℕ) (hr : r < N) (hl : l < L) : at3 x b r l = x (ix3 b ⟨r, hr⟩ ⟨l, hl⟩) := dif_pos ⟨hr, hl⟩

theorem kw_at (C : S3x512.Idx → EReal) (k : ℕ) (h) (hk : k < 3) (l : Fin 512) : kw (F := Ideal) C k h (ix2 0 l) = C (ix2 ⟨k, hk⟩ l) := by
  unfold kw
  refine congrArg C (funext fun a => Fin.ext ?_)
  match a with
  | ⟨0, _⟩ => show k + 1 * 0 = k; omega
  | ⟨1, _⟩ => show 0 + 1 * l.val = l.val; omega
theorem gw_at (P : S4x128x128.Idx → EReal) (k : ℕ) (h) (hk : k < 4) (c j : Fin 128) : gw (F := Ideal) P k h (ix3 0 c j) = P (ix3 ⟨k, hk⟩ c j) := by
  unfold gw
  refine congrArg P (funext fun a => Fin.ext ?_)
  match a with
  | ⟨0, _⟩ => show k + 1 * 0 = k; omega
  | ⟨1, _⟩ => show 0 + 1 * c.val = c.val; omega
  | ⟨2, _⟩ => show 0 + 1 * j.val = j.val; omega
theorem sw_at (S : S1x512.Idx → EReal) (o : ℕ) (h) (j : Fin 128) (ho : o + j.val < 512) : sw (F := Ideal) S o h (ix2 0 j) = S (ix2 0 ⟨o + j.val, ho⟩) := by
  unfold sw
  refine congrArg S (funext fun a => Fin.ext ?_)
  match a with
  | ⟨0, _⟩ => rfl
  | ⟨1, _⟩ => show o + 1 * j.val = o + j.val; omega
theorem mixed_congr {a a' : Fin 512 → EReal} {y0 y0' y1 y1' y2 y2' y3 y3' : Fin 128 → EReal} (ha : ∀ l, a l = a' l) (h0 : ∀ l, y0 l = y0' l) (h1 : ∀ l, y1 l = y1' l) (h2 : ∀ l, y2 l = y2' l)
    (h3 : ∀ l, y3 l = y3' l) (k : Fin 1024) : mixed a y0 y1 y2 y3 k = mixed a' y0' y1' y2' y3' k := by
  rw [funext ha, funext h0, funext h1, funext h2, funext h3]
/-- A group's entry from the buffer's windows and rows. -/
theorem group_of {A D : ℕ → EReal} {B : Fin 128 → EReal} {s : EReal} {P : ℕ → ℕ → EReal} {n w o : ℕ} {Wp : Fin 128 → EReal} {z : EReal} (hA : ∀ c < 128, A c = win w (fun j => P j (o + c)))
    (hD : ∀ c < 128, D c = P 0 (o + c)) (hB : ∀ c, B c = Wp c) (hs : s = z) :
    (∑ c : Fin 128, (Ideal.div (A c.val) (cnt n w) - D c.val) * B c) * s = poolMix P n w o Wp z := by
  subst hs
  unfold poolMix
  exact congrArg (· * s) (Finset.sum_congr rfl fun c _ => by rw [hA _ c.isLt, hD _ c.isLt, hB])

theorem own_row (e : Vec Ideal S1032x512 .f32) (p : Fin 1024) (l : Fin 512) : k0_pay30 e (ix2 p l) = at2 e (8 + p.val) l.val := by
  unfold k0_pay30
  refine (at2_ix _ p l).trans ?_
  rw [at2_slice 8 0 _ _ _ _ p.isLt l.isLt (by omega) (by omega), Nat.zero_add]

theorem oP_row (b : ℕ) (hb : b + 2048 < 2 ^ 31) (X : Vec Ideal S1024x1024 .f32) (g : Vec Ideal S1x1024 .f32) (W : S1024x2048.Idx → EReal) (C : S3x512.Idx → EReal) (Wp : S4x128x128.Idx → EReal) (Sc : S1x512.Idx → EReal)
    (Wo : Vec Ideal S1024x1024 .f32) (ce : Vec Ideal S1032x512 .f32) (pe : Vec Ideal S1040x512 .f32)
    (hpe : ∀ p l : ℕ, p < 1024 → l < 512 → at2 (k0_pay7 (k0_pay6 X g) (cw (F := Ideal) W 1536 inb_S1024x2048_S1024x512_0_1536)) p l = at2 pe (16 + p) l) (p f : Fin 1024) :
    oP (F := Ideal) (BitVec.ofNat 32 b) X g W C Wp Sc Wo ce pe (ix2 p f)
      = tokOut (rowOf X p) (fun l => proj (rowOf X p) (rowOf g 0) (matOf W) ⟨0 + l.val, by omega⟩) (fun j l => at2 ce (8 + p.val - j) l) (fun j l => at2 pe (16 + p.val - j) l) (b + p.val + 1)
        (fun k l => C (ix2 k l)) (fun k c l => Wp (ix3 k c l)) (fun l => Sc (ix2 0 l)) (matOf Wo) f := by
  unfold oP tokOut
  refine (out_row _ _ _ _ _ _ _ _ _ _ p f).trans (congrArg₂ (· + ·) rfl (Finset.sum_congr rfl fun k _ => congrArg (· * _) (mixed_congr (fun l => ?_) (fun l => ?_) (fun l => ?_) (fun l => ?_) (fun l => ?_) k)))
  · unfold convMix
    refine congrArg₂ (· * ·) (proj_row X g W 0 _ p l (by omega)) (congrArg₂ (· + ·) ((conv_row ce _ _ p l).trans (congrArg₂ (· + ·) (congrArg (_ * ·) ?_) (congrArg (_ * ·) ?_))) (congrArg₂ (· * ·) (own_row ce p l) ?_))
    · exact kw_at C 0 _ (by omega) l
    · exact kw_at C 1 _ (by omega) l
    · exact kw_at C 2 _ (by omega) l
  · exact (y0_row b hb _ _ _ _ p l).trans (group_of (A := fun c => at2 (k0_pay13 pe) p.val c) (D := fun c => at2 (k0_pay7 (k0_pay6 X g) (cw (F := Ideal) W 1536 inb_S1024x2048_S1024x512_0_1536)) p.val (0 + c)) (fun c hc => w2_row pe p.val c p.isLt hc) (fun c hc => hpe p.val _ p.isLt (by omega)) (fun c => gw_at Wp 0 _ (by omega) c l) (sw_at Sc 0 _ l (by omega)))
  · exact (y1_row b hb _ _ _ _ p l).trans (group_of (A := fun c => at2 (k0_pay15 pe) p.val c) (D := fun c => at2 (k0_pay7 (k0_pay6 X g) (cw (F := Ideal) W 1536 inb_S1024x2048_S1024x512_0_1536)) p.val (128 + c)) (fun c hc => w4_row pe p.val c p.isLt hc) (fun c hc => hpe p.val _ p.isLt (by omega)) (fun c => gw_at Wp 1 _ (by omega) c l) (sw_at Sc 128 _ l (by omega)))
  · exact (y2_row b hb _ _ _ _ p l).trans (group_of (A := fun c => at2 (k0_pay17 pe) p.val c) (D := fun c => at2 (k0_pay7 (k0_pay6 X g) (cw (F := Ideal) W 1536 inb_S1024x2048_S1024x512_0_1536)) p.val (256 + c)) (fun c hc => w8_row pe p.val c p.isLt hc) (fun c hc => hpe p.val _ p.isLt (by omega)) (fun c => gw_at Wp 2 _ (by omega) c l) (sw_at Sc 256 _ l (by omega)))
  · exact (y3_row b hb _ _ _ _ p l).trans (group_of (A := fun c => at2 (k0_pay21 (k0_pay19 pe) (k0_pay20 pe)) p.val c) (D := fun c => at2 (k0_pay7 (k0_pay6 X g) (cw (F := Ideal) W 1536 inb_S1024x2048_S1024x512_0_1536)) p.val (384 + c)) (fun c hc => w16_row pe p.val c p.isLt hc) (fun c hc => hpe p.val _ p.isLt (by omega)) (fun c => gw_at Wp 3 _ (by omega) c l) (sw_at Sc 384 _ l (by omega)))

theorem oS_row (X : Vec Ideal S1024x1024 .f32) (g : Vec Ideal S1x1024 .f32) (W : S1024x2048.Idx → EReal) (C : S3x512.Idx → EReal) (Wp : S4x128x128.Idx → EReal) (Sc : S1x512.Idx → EReal)
    (Wo : Vec Ideal S1024x1024 .f32) (ce : Vec Ideal S128x16x512 .f32) (pe : Vec Ideal S128x24x512 .f32)
    (hpe : ∀ (b : Fin 128) (q l : ℕ), q < 8 → l < 512 → at3 (k0_pay36 X g (cw (F := Ideal) W 1536 inb_S1024x2048_S1024x512_0_1536)) b q l = at3 pe b (16 + q) l) (b : Fin 128) (q : Fin 8) (f : Fin 1024) :
    oS (F := Ideal) X g W C Wp Sc Wo ce pe (ix2 (⟨b.val * 8 + q.val, by omega⟩ : Fin 1024) f)
      = tokOut (rowOf X ⟨b.val * 8 + q.val, by omega⟩) (fun l => proj (rowOf X ⟨b.val * 8 + q.val, by omega⟩) (rowOf g 0) (matOf W) ⟨0 + l.val, by omega⟩) (fun j l => at3 ce b (8 + q.val - j) l) (fun j l => at3 pe b (16 + q.val - j) l)
        (16384 + q.val + 1) (fun k l => C (ix2 k l)) (fun k c l => Wp (ix3 k c l)) (fun l => Sc (ix2 0 l)) (matOf Wo) f := by
  unfold oS tokOut
  refine (out_rowS _ _ _ _ _ _ _ _ _ _ _ b q f).trans (congrArg₂ (· + ·) rfl (Finset.sum_congr rfl fun k _ => congrArg (· * _) (mixed_congr (fun l => ?_) (fun l => ?_) (fun l => ?_) (fun l => ?_) (fun l => ?_) k)))
  · unfold convMix
    refine congrArg₂ (· * ·) ((split_at _ b q l).trans (proj_row X g W 0 _ _ l (by omega))) (congrArg₂ (· + ·) (congrArg₂ (· + ·) ((conv_rowS ce _ b q l).trans (congrArg (_ * ·) ?_)) (congrArg (_ * ·) ?_)) (congrArg (_ * ·) ?_))
    · exact kw_at C 0 _ (by omega) l
    · exact kw_at C 1 _ (by omega) l
    · exact kw_at C 2 _ (by omega) l
  · exact (y0_rowS _ _ _ _ b q l).trans (group_of (A := fun c => at3 (k0_pay42 pe) b q.val c) (D := fun c => at3 (k0_pay36 X g (cw (F := Ideal) W 1536 inb_S1024x2048_S1024x512_0_1536)) b q.val (0 + c)) (fun c hc => w2_rowS pe b q.val c q.isLt hc) (fun c hc => hpe b q.val _ q.isLt (by omega)) (fun c => gw_at Wp 0 _ (by omega) c l) (sw_at Sc 0 _ l (by omega)))
  · exact (y1_rowS _ _ _ _ b q l).trans (group_of (A := fun c => at3 (k0_pay44 pe) b q.val c) (D := fun c => at3 (k0_pay36 X g (cw (F := Ideal) W 1536 inb_S1024x2048_S1024x512_0_1536)) b q.val (128 + c)) (fun c hc => w4_rowS pe b q.val c q.isLt hc) (fun c hc => hpe b q.val _ q.isLt (by omega)) (fun c => gw_at Wp 1 _ (by omega) c l) (sw_at Sc 128 _ l (by omega)))
  · exact (y2_rowS _ _ _ _ b q l).trans (group_of (A := fun c => at3 (k0_pay46 pe) b q.val c) (D := fun c => at3 (k0_pay36 X g (cw (F := Ideal) W 1536 inb_S1024x2048_S1024x512_0_1536)) b q.val (256 + c)) (fun c hc => w8_rowS pe b q.val c q.isLt hc) (fun c hc => hpe b q.val _ q.isLt (by omega)) (fun c => gw_at Wp 2 _ (by omega) c l) (sw_at Sc 256 _ l (by omega)))
  · exact (y3_rowS _ _ _ _ b q l).trans (group_of (A := fun c => at3 (k0_pay47 pe) b q.val c) (D := fun c => at3 (k0_pay36 X g (cw (F := Ideal) W 1536 inb_S1024x2048_S1024x512_0_1536)) b q.val (384 + c)) (fun c hc => w16_rowS pe b q.val c q.isLt hc) (fun c hc => hpe b q.val _ q.isLt (by omega)) (fun c => gw_at Wp 3 _ (by omega) c l) (sw_at Sc 384 _ l (by omega)))

/-! ## The buffers of a prompt -/

theorem cE_own (lo : Vec Ideal S8x512 .f32) (u : Vec Ideal S1024x512 .f32) (p j l : ℕ) (hp : p < 1024) (hj : j ≤ p) (hl : l < 512) : at2 (cE lo u) (8 + p - j) l = u (ix2 (⟨p - j, by omega⟩ : Fin 1024) ⟨l, hl⟩) := by
  rw [at2_val _ _ _ (show 8 + p - j < 1032 by omega) hl]
  refine (dif_neg (show ¬ 8 + p - j < 8 by omega)).trans (congrArg u (funext fun a => Fin.ext ?_))
  match a with
  | ⟨0, _⟩ => show 8 + p - j - 8 = p - j; omega
  | ⟨1, _⟩ => rfl
theorem cE_lo (lo : Vec Ideal S8x512 .f32) (u : Vec Ideal S1024x512 .f32) (p j l : ℕ) (hj : p < j) (hj' : j ≤ 8) (hl : l < 512) : at2 (cE lo u) (8 + p - j) l = lo (ix2 (⟨8 + p - j, by omega⟩ : Fin 8) ⟨l, hl⟩) := by
  rw [at2_val _ _ _ (show 8 + p - j < 1032 by omega) hl]
  refine (dif_pos (show 8 + p - j < 8 by omega)).trans (congrArg lo (funext fun a => Fin.ext ?_))
  match a with
  | ⟨0, _⟩ => rfl
  | ⟨1, _⟩ => rfl
theorem pE_own (lo : Vec Ideal S16x512 .f32) (u : Vec Ideal S1024x512 .f32) (p j l : ℕ) (hp : p < 1024) (hj : j ≤ p) (hl : l < 512) : at2 (pE lo u) (16 + p - j) l = u (ix2 (⟨p - j, by omega⟩ : Fin 1024) ⟨l, hl⟩) := by
  rw [at2_val _ _ _ (show 16 + p - j < 1040 by omega) hl]
  refine (dif_neg (show ¬ 16 + p - j < 16 by omega)).trans (congrArg u (funext fun a => Fin.ext ?_))
  match a with
  | ⟨0, _⟩ => show 16 + p - j - 16 = p - j; omega
  | ⟨1, _⟩ => rfl
theorem pE_lo (lo : Vec Ideal S16x512 .f32) (u : Vec Ideal S1024x512 .f32) (p j l : ℕ) (hj : p < j) (hj' : j ≤ 16) (hl : l < 512) : at2 (pE lo u) (16 + p - j) l = lo (ix2 (⟨16 + p - j, by omega⟩ : Fin 16) ⟨l, hl⟩) := by
  rw [at2_val _ _ _ (show 16 + p - j < 1040 by omega) hl]
  refine (dif_pos (show 16 + p - j < 16 by omega)).trans (congrArg lo (funext fun a => Fin.ext ?_))
  match a with
  | ⟨0, _⟩ => rfl
  | ⟨1, _⟩ => rfl
theorem zero8 (p : Fin 8) (l : Fin 512) : k0_pay2 (F := Ideal) (ix2 p l) = 0 := by pointwise [k0_pay2]
theorem zero16 (p : Fin 16) (l : Fin 512) : k0_pay3 (F := Ideal) (ix2 p l) = 0 := by pointwise [k0_pay3]

theorem pos_at : ∀ t : Fin grid0.N, t.val < 16 → posV (grid0.coords t) = BitVec.ofNat 32 (t.val % 2 * 1024) := by decide +kernel

variable (m : (ℓ : Loc nD τ sig) → Buf (Elt Ideal) ℓ) (c : Dev nD)

/-! ## The windows and the arguments -/

abbrev aH1 : FVec Ideal S128x2x512 .f32 := m ((c.tc : Thread nD τ).loc main_arg1)
abbrev aH2 : FVec Ideal S128x15x512 .f32 := m ((c.tc : Thread nD τ).loc main_arg2)
abbrev aGv : FVec Ideal S1024 .f32 := m ((c.tc : Thread nD τ).loc main_arg3)
abbrev aWv : FVec Ideal S1024x2048 .f32 := m ((c.tc : Thread nD τ).loc main_arg4)
abbrev aC : FVec Ideal S3x512 .f32 := m ((c.tc : Thread nD τ).loc main_arg5)
abbrev aK : FVec Ideal S4x128x128 .f32 := m ((c.tc : Thread nD τ).loc main_arg6)
abbrev aS : FVec Ideal S512 .f32 := m ((c.tc : Thread nD τ).loc main_arg7)
abbrev aO : FVec Ideal S1024x1024 .f32 := m ((c.tc : Thread nD τ).loc main_arg8)

/-- The pool's scales, as the region finds them: the argument as one row. -/
theorem V_scale : V m c main_v2 = shapeCast S1x512 (m ((c.tc : Thread nD τ).loc main_arg7)) shapeCasts_S512_S1x512 := by
  unfold V hostOps0
  simp only [List.flatten_cons, List.flatten_nil, List.append_nil, List.cons_append, List.nil_append, StableHlo.after_cons, StableHlo.after_nil]
  rw [StableHlo.unary_result_ne' (h := by decide), StableHlo.reshape_result', StableHlo.reshape_result_ne' (h := by decide), StableHlo.unary_result_ne' (h := by decide)]
  rfl
theorem scale_row (X : Vec Ideal S512 .f32) (k : Fin 512) : shapeCast S1x512 X shapeCasts_S512_S1x512 (ix2 0 k) = X (ix1 k) := by pointwise
theorem sN_at (k : Fin 512) : sN m c (ix2 0 k) = aS m c (ix1 k) := by
  refine Eq.trans (?_ : _ = V m c main_v2 (ix2 0 k)) ((congrFun (V_scale m c) _).trans (scale_row _ k))
  show V m c main_v2 (((cfg0.win 6).rect (⟨0, by rw [N_0]; omega⟩ : Fin grid0.N)).emb (ix2 0 k : S1x512.Idx)) = _
  refine congrArg (V m c main_v2) (funext fun a => Fin.ext ?_)
  match a with
  | ⟨0, _⟩ => rfl
  | ⟨1, _⟩ => exact Pipeline.Window.rect_emb_val_of_index_zero (cfg0.win 6) _ 1 rfl _
theorem cN_at (k : Fin 3) (l : Fin 512) : cN m c (ix2 k l) = aC m c (ix2 k l) := by
  refine Eq.trans (?_ : _ = V m c main_arg5 (ix2 k l)) (congrFun (V_main_arg5 m c) _)
  show V m c main_arg5 (((cfg0.win 4).rect (⟨0, by rw [N_0]; omega⟩ : Fin grid0.N)).emb (ix2 k l : S3x512.Idx)) = _
  refine congrArg (V m c main_arg5) (funext fun a => Fin.ext ?_)
  match a with
  | ⟨0, _⟩ => exact Pipeline.Window.rect_emb_val_of_index_zero (cfg0.win 4) _ 0 rfl _
  | ⟨1, _⟩ => exact Pipeline.Window.rect_emb_val_of_index_zero (cfg0.win 4) _ 1 rfl _
theorem kN_at (k : Fin 4) (j l : Fin 128) : kN m c (ix3 k j l) = aK m c (ix3 k j l) := by
  refine Eq.trans (?_ : _ = V m c main_arg6 (ix3 k j l)) (congrFun (V_main_arg6 m c) _)
  show V m c main_arg6 (((cfg0.win 5).rect (⟨0, by rw [N_0]; omega⟩ : Fin grid0.N)).emb (ix3 k j l : S4x128x128.Idx)) = _
  refine congrArg (V m c main_arg6) (funext fun a => Fin.ext ?_)
  match a with
  | ⟨0, _⟩ => exact Pipeline.Window.rect_emb_val_of_index_zero (cfg0.win 5) _ 0 rfl _
  | ⟨1, _⟩ => exact Pipeline.Window.rect_emb_val_of_index_zero (cfg0.win 5) _ 1 rfl _
  | ⟨2, _⟩ => exact Pipeline.Window.rect_emb_val_of_index_zero (cfg0.win 5) _ 2 rfl _
theorem oN_at (k l : Fin 1024) : oN m c (ix2 k l) = aO m c (ix2 k l) := by
  refine Eq.trans (?_ : _ = V m c main_arg8 (ix2 k l)) (congrFun (V_main_arg8 m c) _)
  show V m c main_arg8 (((cfg0.win 7).rect (⟨0, by rw [N_0]; omega⟩ : Fin grid0.N)).emb (ix2 k l : S1024x1024.Idx)) = _
  refine congrArg (V m c main_arg8) (funext fun a => Fin.ext ?_)
  match a with
  | ⟨0, _⟩ => exact Pipeline.Window.rect_emb_val_of_index_zero (cfg0.win 7) _ 0 rfl _
  | ⟨1, _⟩ => exact Pipeline.Window.rect_emb_val_of_index_zero (cfg0.win 7) _ 1 rfl _

theorem uT_row (n : ℕ) (hn : n < 17) (p : Fin 1024) (r : Fin 17408) (hr : n * 1024 + p.val = r.val) (l : Fin 512) : uT m c n (ix2 p l) = convIn (tok (aX m c) r) (aG m c) (aW m c) l :=
  (uP_row _ _ _ p l).trans (args_row m c convIn n hn p r hr l)
theorem pT_row (n : ℕ) (hn : n < 17) (p : Fin 1024) (r : Fin 17408) (hr : n * 1024 + p.val = r.val) (l : Fin 512) : pT m c n (ix2 p l) = poolIn (tok (aX m c) r) (aG m c) (aW m c) l :=
  (pP_row _ _ _ p l).trans (args_row m c poolIn n hn p r hr l)

/-! ## The tokens -/

/-- The tokens as an array. -/
def oToks : FVec Ideal S17408x1024 .f32 := rToks (aX m c) (aH1 m c) (aH2 m c) (aGv m c) (aWv m c) (aC m c) (aK m c) (aS m c) (aO m c)

/-- The conv buffer holds the reference's rows of the convolution input, -/
theorem cE_ref (n : ℕ) (hn : n < 16) (s : Fin 8) (hs : s.val = n / 2) (p : Fin 1024) (q : Fin 2048) (hq : q.val = n % 2 * 1024 + p.val) (j : ℕ) (hj : j < 3) (l : ℕ) (hl : l < 512) :
    at2 (cE (if n % 2 = 0 then k0_pay2 else cTop (uT m c (n - 1))) (uT m c n)) (8 + p.val - j) l = at3 (hcA (aX m c) (aGv m c) (aWv m c)) s (2 + q.val - j) (0 + l) := by
  rw [Nat.zero_add]
  have hp := p.isLt
  by_cases h : j ≤ p.val
  · rw [cE_own _ _ _ _ _ hp h hl, hcA_own _ _ _ s q.val j l q.isLt (by omega) hl]
    exact uT_row m c n (by omega) _ _ (by show n * 1024 + (p.val - j) = s.val * 2048 + (q.val - j); omega) _
  · rw [cE_lo _ _ _ _ _ (by omega) (by omega) hl]
    by_cases h2 : n % 2 = 0
    · rw [if_pos h2, hcA_old _ _ _ s q.val j l (by omega) (by omega) hl]
      exact zero8 _ _
    · rw [if_neg h2, hcA_own _ _ _ s q.val j l q.isLt (by omega) hl]
      have hv : 1016 + (8 + p.val - j) < 1024 := by omega
      show uT m c (n - 1) (ValueIdx.ix2 (⟨1016 + (8 + p.val - j), hv⟩ : Fin 1024) (⟨l, hl⟩ : Fin 512)) = _
      rw [← ix2_eq_valueIdx]
      exact uT_row m c (n - 1) (by omega) _ _ (by show (n - 1) * 1024 + (1016 + (8 + p.val - j)) = s.val * 2048 + (q.val - j); omega) _
/-- and the pool buffer those of the pool input. -/
theorem pE_ref (n : ℕ) (hn : n < 16) (s : Fin 8) (hs : s.val = n / 2) (p : Fin 1024) (q : Fin 2048) (hq : q.val = n % 2 * 1024 + p.val) (j : ℕ) (hj : j < 16) (l : ℕ) (hl : l < 512) :
    at2 (pE (if n % 2 = 0 then k0_pay3 else pTop (pT m c (n - 1))) (pT m c n)) (16 + p.val - j) l = at3 (hpA (aX m c) (aGv m c) (aWv m c)) s (15 + q.val - j) l := by
  have hp := p.isLt
  by_cases h : j ≤ p.val
  · rw [pE_own _ _ _ _ _ hp h hl, hpA_own _ _ _ s q.val j l q.isLt (by omega) hl]
    exact pT_row m c n (by omega) _ _ (by show n * 1024 + (p.val - j) = s.val * 2048 + (q.val - j); omega) _
  · rw [pE_lo _ _ _ _ _ (by omega) (by omega) hl]
    by_cases h2 : n % 2 = 0
    · rw [if_pos h2, hpA_old _ _ _ s q.val j l (by omega) (by omega) hl]
      exact zero16 _ _
    · rw [if_neg h2, hpA_own _ _ _ s q.val j l q.isLt (by omega) hl]
      have hv : 1008 + (16 + p.val - j) < 1024 := by omega
      show pT m c (n - 1) (ValueIdx.ix2 (⟨1008 + (16 + p.val - j), hv⟩ : Fin 1024) (⟨l, hl⟩ : Fin 512)) = _
      rw [← ix2_eq_valueIdx]
      exact pT_row m c (n - 1) (by omega) _ _ (by show (n - 1) * 1024 + (1008 + (16 + p.val - j)) = s.val * 2048 + (q.val - j); omega) _

theorem row_args (n : ℕ) (hn : n < 17) (p : Fin 1024) (r : Fin 17408) (hr : n * 1024 + p.val = r.val) :
    rowOf (tX m c n) p = tok (aX m c) r ∧ rowOf (gN m c) 0 = aG m c ∧ matOf (wN m c) = aW m c :=
  ⟨funext fun k => (tX_row m c n hn p k).trans (congrArg (fun z => aX m c (ix2 z k)) (Fin.ext hr)), funext fun k => gN_row m c k, funext fun k => funext fun f => wN_at m c k f⟩

/-- A prompt's tile holds the reference's tokens. -/
theorem tO_row (n : ℕ) (hn : n < 16) (s : Fin 8) (hs : s.val = n / 2) (p : Fin 1024) (q : Fin 2048) (hq : q.val = n % 2 * 1024 + p.val) (f : Fin 1024) :
    tO m c n (ix2 p f) = rTokA (aX m c) (aGv m c) (aWv m c) (aC m c) (aK m c) (aS m c) (aO m c) (ix3 s q f) := by
  have hmin : (ptMin n).val = n := by show min n 16 = n; omega
  have hr := row_args m c n (by omega) p ⟨s.val * 2048 + q.val, by omega⟩ (by show n * 1024 + p.val = s.val * 2048 + q.val; omega)
  rw [rTokA_row]
  unfold tO
  rw [pos_at (ptMin n) (by omega), hmin]
  refine (oP_row (n % 2 * 1024) (by omega) _ _ _ _ _ _ _ _ _ (fun p l hp hl => ?_) p f).trans ?_
  · refine Eq.trans ?_ (pE_own _ _ p 0 l hp (Nat.zero_le _) hl).symm
    rw [at2_val _ _ _ hp hl]
    exact (proj_row _ _ _ 1536 _ _ _ (by show 1536 + l < 2048; omega)).trans (pP_row _ _ _ _ _).symm
  · rw [show n % 2 * 1024 + p.val + 1 = q.val + 1 by omega]
    refine tokOut_congr hr.1 (funext fun l => ?_) (cE_ref m c n hn s hs p q hq) (pE_ref m c n hn s hs p q hq) _ (funext fun k => funext fun l => cN_at m c k l)
      (funext fun k => funext fun j => funext fun l => kN_at m c k j l) (funext fun l => sN_at m c l) (funext fun k => funext fun l => oN_at m c k l) f
    rw [hr.1, hr.2.1, hr.2.2]

/-- The sample's tile holds the reference's tokens. -/
theorem tOS_row (Y : Vec Ideal S1024x1024 .f32) (hY : tOS m c Y) (s : Fin 128) (q : Fin 8) (f : Fin 1024) :
    Y (ix2 (⟨s.val * 8 + q.val, by omega⟩ : Fin 1024) f) = rTokB (aX m c) (aH1 m c) (aH2 m c) (aGv m c) (aWv m c) (aC m c) (aK m c) (aS m c) (aO m c) (ix3 s q f) := by
  obtain ⟨ce, pe, ⟨hc1, hc2⟩, ⟨hp1, hp2⟩, rfl⟩ := hY
  have hq := q.isLt
  have hr := row_args m c 16 (by omega) ⟨s.val * 8 + q.val, by omega⟩ ⟨16384 + s.val * 8 + q.val, by omega⟩ (by show 16 * 1024 + (s.val * 8 + q.val) = 16384 + s.val * 8 + q.val; omega)
  have pown : ∀ (b : Fin 128) (q l : ℕ) (hq : q < 8) (hl : l < 512), at3 pe b (16 + q) l = pS (F := Ideal) (tX m c 16) (gN m c) (wN m c) (ix3 b ⟨q, hq⟩ ⟨l, hl⟩) := fun b q l hq hl => by
    rw [at3_val _ _ _ _ (show 16 + q < 24 by omega) hl, ix3_eq_valueIdx, ix3_eq_valueIdx]
    exact hp2 b ⟨q, hq⟩ ⟨l, hl⟩
  have cown : ∀ (b : Fin 128) (q l : ℕ) (hq : q < 8) (hl : l < 512), at3 ce b (8 + q) l = uS (F := Ideal) (tX m c 16) (gN m c) (wN m c) (ix3 b ⟨q, hq⟩ ⟨l, hl⟩) := fun b q l hq hl => by
    rw [at3_val _ _ _ _ (show 8 + q < 16 by omega) hl, ix3_eq_valueIdx, ix3_eq_valueIdx]
    exact hc2 b ⟨q, hq⟩ ⟨l, hl⟩
  rw [rTokB_row]
  refine (oS_row _ _ _ _ _ _ _ _ _ (fun b q l hq hl => ?_) s q f).trans ?_
  · rw [pown b q l hq hl, at3_val _ _ _ _ hq hl]
    refine Eq.trans ?_ (pS_row _ _ _ b ⟨q, hq⟩ ⟨l, hl⟩).symm
    exact (split_at _ b ⟨q, hq⟩ ⟨l, hl⟩).trans (proj_row _ _ _ 1536 _ _ _ (by show 1536 + l < 2048; omega))
  · refine tokOut_congr hr.1 (funext fun l => ?_) (fun j hj l hl => ?_) (fun j hj l hl => ?_) _ (funext fun k => funext fun l => cN_at m c k l)
      (funext fun k => funext fun j => funext fun l => kN_at m c k j l) (funext fun l => sN_at m c l) (funext fun k => funext fun l => oN_at m c k l) f
    · rw [hr.1, hr.2.1, hr.2.2]
    · rw [Nat.zero_add]
      by_cases h : j ≤ q.val
      · rw [show 8 + q.val - j = 8 + (q.val - j) by omega, cown s (q.val - j) l (by omega) hl, hcB_own _ _ _ _ s q.val j l hq h hl]
        exact (uS_row _ _ _ s _ _).trans (args_row m c convIn 16 (by omega) _ _ (by show 16 * 1024 + (s.val * 8 + (q.val - j)) = 16384 + s.val * 8 + (q.val - j); omega) _)
      · rw [hcB_old _ _ _ _ s q.val j l (by omega) (by omega) hl]
        have e : at3 ce s (6 + (2 + q.val - j)) l = hN m c (ix3 s (⟨2 + q.val - j, by omega⟩ : Fin 2) ⟨l, hl⟩) := by
          rw [at3_val _ _ _ _ (show 6 + (2 + q.val - j) < 16 by omega) hl, ix3_eq_valueIdx, ix3_eq_valueIdx]
          exact hc1 s ⟨2 + q.val - j, by omega⟩ ⟨l, hl⟩
        rw [show 8 + q.val - j = 6 + (2 + q.val - j) by omega, e]
        exact congrFun (V_main_arg1 m c) _
    · by_cases h : j ≤ q.val
      · rw [show 16 + q.val - j = 16 + (q.val - j) by omega, pown s (q.val - j) l (by omega) hl, hpB_own _ _ _ _ s q.val j l hq h hl]
        exact (pS_row _ _ _ s _ _).trans (args_row m c poolIn 16 (by omega) _ _ (by show 16 * 1024 + (s.val * 8 + (q.val - j)) = 16384 + s.val * 8 + (q.val - j); omega) _)
      · rw [hpB_old _ _ _ _ s q.val j l (by omega) (by omega) hl]
        have e : at3 pe s (1 + (15 + q.val - j)) l = V m c main_v0 (ix3 (⟨15 + q.val - j, by omega⟩ : Fin 15) s ⟨l, hl⟩ : S15x128x512.Idx) := by
          rw [at3_val _ _ _ _ (show 1 + (15 + q.val - j) < 24 by omega) hl, ix3_eq_valueIdx, ix3_eq_valueIdx]
          exact hp1 s ⟨15 + q.val - j, by omega⟩ ⟨l, hl⟩
        rw [show 16 + q.val - j = 1 + (15 + q.val - j) by omega, e]
        refine (congrFun (V_hist m c) _).trans ?_
        refine transpose_apply _ _ _ _ _ (fun b => ?_)
        match b with
        | ⟨0, _⟩ => rfl
        | ⟨1, _⟩ => rfl
        | ⟨2, _⟩ => rfl

section Call
variable {m} {r : PUnit × MemSt nD τ sig (Elt Ideal)} (h : RDat.FramePostRG cfg0 (rdat m) outRefs (V m) (ends m) r)
include h

theorem call_toks : r.2.mem ((c.tc : Thread nD τ).loc main_v3_0) = oToks m c := by
  funext i
  have key := toks_at h c
  generalize r.2.mem ((c.tc : Thread nD τ).loc main_v3_0) = Z at key
  have hi : (i 0).val < 17408 := (i 0).isLt
  have e : i = ix2 (n0 := 17408) (n1 := 1024) (i 0) (i 1) := eq_ix2 i
  have hk := key ((i 0).val / 1024) (by omega)
  have hz : Z i = (fun y : S1024x1024.Idx => Z (ValueIdx.ix2 (⟨(i 0).val / 1024 * 1024 + (y 0).val, by have h0 : (y 0).val < 1024 := (y 0).isLt; omega⟩ : Fin 17408) (y 1))) (ix2 (⟨(i 0).val % 1024, by omega⟩ : Fin 1024) (i 1)) := by
    refine congrArg Z (funext fun a => Fin.ext ?_)
    match a with
    | ⟨0, _⟩ => show (i 0).val = (i 0).val / 1024 * 1024 + (i 0).val % 1024; omega
    | ⟨1, _⟩ => rfl
  refine hz.trans ?_
  unfold after8 at hk
  unfold oToks
  by_cases h16 : (i 0).val / 1024 < 16
  · rw [if_pos h16] at hk
    rw [hk]
    refine (tO_row m c _ h16 ⟨(i 0).val / 2048, by omega⟩ (by show (i 0).val / 2048 = (i 0).val / 1024 / 2; omega) _ ⟨(i 0).val % 2048, by omega⟩
      (by show (i 0).val % 2048 = (i 0).val / 1024 % 2 * 1024 + (i 0).val % 1024; omega) (i 1)).trans ?_
    refine (rToks_prompt (aX m c) (aH1 m c) (aH2 m c) (aGv m c) (aWv m c) (aC m c) (aK m c) (aS m c) (aO m c) _ _ _).symm.trans (congrArg _ (funext fun a => Fin.ext ?_))
    match a with
    | ⟨0, _⟩ => show (i 0).val / 2048 * 2048 + (i 0).val % 2048 = (i 0).val; omega
    | ⟨1, _⟩ => rfl
  · rw [if_neg h16] at hk
    have hr : (⟨(i 0).val % 1024, by omega⟩ : Fin 1024) = ⟨(i 0).val % 1024 / 8 * 8 + (i 0).val % 8, by omega⟩ := Fin.ext (by show (i 0).val % 1024 = (i 0).val % 1024 / 8 * 8 + (i 0).val % 8; omega)
    rw [hr]
    refine (tOS_row m c _ hk ⟨(i 0).val % 1024 / 8, by omega⟩ ⟨(i 0).val % 8, by omega⟩ (i 1)).trans ?_
    refine (rToks_sample (aX m c) (aH1 m c) (aH2 m c) (aGv m c) (aWv m c) (aC m c) (aK m c) (aS m c) (aO m c) _ _ _).symm.trans (congrArg _ (funext fun a => Fin.ext ?_))
    match a with
    | ⟨0, _⟩ => show 16384 + (i 0).val % 1024 / 8 * 8 + (i 0).val % 8 = (i 0).val; omega
    | ⟨1, _⟩ => rfl

end Call

theorem reference_toks {m} {X : FVec Ideal S17408x1024 .f32} {H1 : FVec Ideal S128x2x512 .f32} {H2 : FVec Ideal S128x15x512 .f32} {g : FVec Ideal S1024 .f32} {W : FVec Ideal S1024x2048 .f32}
    {C : FVec Ideal S3x512 .f32} {K : FVec Ideal S4x128x128 .f32} {S : FVec Ideal S512 .f32} {Wo : FVec Ideal S1024x1024 .f32}
    (hX : X = aX m c) (h1 : H1 = aH1 m c) (h2 : H2 = aH2 m c) (hg : g = aGv m c) (hW : W = aWv m c) (hC : C = aC m c) (hK : K = aK m c) (hS : S = aS m c) (hO : Wo = aO m c) :
    rToks X H1 H2 g W C K S Wo = oToks m c := by
  subst hX h1 h2 hg hW hC hK hS hO
  rfl

end Cert.Mix

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Value
public import proofs.«01_k».proof.Proof.FirstValue
public import proofs.«01_k».proof.Proof.MixValue
public import proofs.«01_k».proof.Proof.MixTokV
public import Idealize.ShloMosaic.Adequacy
public import Idealize.ShloMosaic.Init

@[expose] public section

noncomputable section

namespace Cert.Proof

open Idealize.ShloMosaic Idealize.SL.Sem Cert.Kernel

/-- The kernel's function table is the idealized kernel's: the two programs have the same body. -/
theorem defs_same : Cert.Kernel.defs₀ (F := Bits) = Cert.KernelIdeal.defs₀ (F := Bits) := by
  unfold Cert.Kernel.defs₀ Cert.KernelIdeal.defs₀
  refine congrArg Defs.onTc (funext fun l => ?_)
  obtain ⟨l, h⟩ := l
  match l, h with
  | 0, h => rfl
  | n + 1, h => exact absurd h (Nat.not_lt.2 (Nat.le_add_left _ _))
/-- `Cert.quiescent_Kernel`: the kernel's one run, read at the machine's floats. -/
theorem frame_kernel : Cert.quiescent_Kernel := fun m ρ _ => by
  have h := Cert.Ffn2.frame_main (F := Bits) m ρ
  unfold Cert.KernelIdeal.defs at h
  rw [← defs_same] at h
  exact h
/-- `Cert.quiescent_KernelIdeal`: the same run, read at the extended reals. -/
theorem frame_kernel_ideal : Cert.quiescent_KernelIdeal := fun m ρ _ => Cert.Ffn2.frame_main (F := Ideal) m ρ
/-- `Cert.quiescent_ReferenceIdeal`: the reference's run leaves its arguments alone, and it declares no semaphore. -/
theorem frame_reference : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- `Cert.algebraic_KernelIdeal_ReferenceIdeal`: both results are the same function of the same arguments. -/
theorem values : Cert.algebraic_KernelIdeal_ReferenceIdeal := fun m ρ m' ρ' _ hargs =>
  ⟨fun c => Cert.Ffn2.outFirst m c, fun c => Cert.Ffn2.outSecond m c,
    (θ_run Cert.KernelIdeal.defs _ _).mono (fun _ h c => ⟨Cert.Ffn2.call_first c h.1, Cert.Ffn2.call_second c h.1, Cert.Ffn2.args_of m h.1 c⟩)
      (Cert.Ffn2.run_main (F := Ideal) m ρ),
    (θ_run Cert.ReferenceIdeal.defs _ _).mono (fun _ h c => ⟨(h c).1.trans (Cert.Ffn2.reference_first c (hargs c)), (h c).2.1.trans (Cert.Ffn2.reference_second c (hargs c)), (h c).2.2⟩)
      (Cert.ReferenceIdeal.Value.run (F := Ideal) m' ρ')⟩

/-- The second program's function table is its idealized program's: the two have the same body. -/
theorem defs_same2 : Cert.Kernel2.defs₀ (F := Bits) = Cert.Kernel2Ideal.defs₀ (F := Bits) := by
  unfold Cert.Kernel2.defs₀ Cert.Kernel2Ideal.defs₀
  refine congrArg Defs.onTc (funext fun l => ?_)
  obtain ⟨l, h⟩ := l
  match l, h with
  | 0, h => rfl
  | n + 1, h => exact absurd h (Nat.not_lt.2 (Nat.le_add_left _ _))
/-- `Cert.quiescent_Kernel2`: the second program's one run, read at the machine's floats. -/
theorem frame_kernel2 : Cert.quiescent_Kernel2 := fun m ρ _ => by
  have h := Cert.Ffn1.frame_main (F := Bits) m ρ
  unfold Cert.Kernel2Ideal.defs at h
  rw [← defs_same2] at h
  exact h
/-- `Cert.quiescent_Kernel2Ideal`: the same run, read at the extended reals. -/
theorem frame_kernel2_ideal : Cert.quiescent_Kernel2Ideal := fun m ρ _ => Cert.Ffn1.frame_main (F := Ideal) m ρ
/-- `Cert.quiescent_Reference2Ideal`: the reference's run leaves its arguments alone, and it declares no semaphore. -/
theorem frame_reference2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- `Cert.algebraic_Kernel2Ideal_Reference2Ideal`: the result is the same function of the same arguments. -/
theorem values2 : Cert.algebraic_Kernel2Ideal_Reference2Ideal := fun m ρ m' ρ' _ hargs =>
  ⟨fun c => Cert.Ffn1.out m c,
    (θ_run Cert.Kernel2Ideal.defs _ _).mono (fun _ h c => ⟨Cert.Ffn1.call_out c h.1, Cert.Ffn1.args_of m h.1 c⟩)
      (Cert.Ffn1.run_main (F := Ideal) m ρ),
    (θ_run Cert.Reference2Ideal.defs _ _).mono (fun _ h c => ⟨(h c).1.trans (Cert.Ffn1.reference_out c (hargs c)), (h c).2⟩)
      (Cert.Reference2Ideal.Value.run (F := Ideal) m' ρ')⟩

/-- The third program's function table is its idealized program's: the two have the same body. -/
theorem defs_same3 : Cert.Kernel3.defs₀ (F := Bits) = Cert.Kernel3Ideal.defs₀ (F := Bits) := by
  unfold Cert.Kernel3.defs₀ Cert.Kernel3Ideal.defs₀
  refine congrArg Defs.onTc (funext fun l => ?_)
  obtain ⟨l, h⟩ := l
  match l, h with
  | 0, h => rfl
  | n + 1, h => exact absurd h (Nat.not_lt.2 (Nat.le_add_left _ _))
/-- `Cert.quiescent_Kernel3`: the third program's one run, read at the machine's floats. -/
theorem frame_kernel3 : Cert.quiescent_Kernel3 := fun m ρ _ => by
  have h := Cert.Mix.frame_main (F := Bits) m ρ
  unfold Cert.Kernel3Ideal.defs at h
  rw [← defs_same3] at h
  exact h
/-- `Cert.quiescent_Kernel3Ideal`: the same run, read at the extended reals. -/
theorem frame_kernel3_ideal : Cert.quiescent_Kernel3Ideal := fun m ρ _ => Cert.Mix.frame_main (F := Ideal) m ρ
/-- `Cert.quiescent_Reference3Ideal`: the reference's run leaves its arguments alone, and it declares no semaphore. -/
theorem frame_reference3 : Cert.quiescent_Reference3Ideal := fun m ρ _ =>
  (θ_run Cert.Reference3Ideal.defs _ _).mono (fun r h => ⟨fun c => (h c).2.2.2.2.2, Idealize.ShloMosaic.sem_eq_zero_of_no_sems (by decide) r.2⟩)
    (Cert.Reference3Ideal.Value.run (F := Ideal) m ρ)

/-- `Cert.algebraic_Kernel3Ideal_Reference3Ideal`: the tokens and the four states are the same functions of the same arguments. -/
theorem values3 : Cert.algebraic_Kernel3Ideal_Reference3Ideal := fun m ρ m' ρ' _ hargs =>
  ⟨fun c => Cert.Mix.oToks m c, fun c => Cert.Mix.oConvA m c, fun c => Cert.Mix.oPoolA m c, fun c => Cert.Mix.oConvB m c, fun c => Cert.Mix.oPoolB m c,
    (θ_run Cert.Kernel3Ideal.defs _ _).mono
      (fun _ h c => ⟨Cert.Mix.call_toks c h.1, Cert.Mix.call_convA c h.1, Cert.Mix.call_poolA c h.1, Cert.Mix.call_convB c h.1, Cert.Mix.call_poolB c h.1, Cert.Mix.args_of m h.1 c⟩)
      (Cert.Mix.run_main (F := Ideal) m ρ),
    (θ_run Cert.Reference3Ideal.defs _ _).mono
      (fun _ h c => ⟨(h c).1.trans (Cert.Mix.reference_toks c (hargs c).1 (hargs c).2.1 (hargs c).2.2.1 (hargs c).2.2.2.1 (hargs c).2.2.2.2.1
          (hargs c).2.2.2.2.2.1 (hargs c).2.2.2.2.2.2.1 (hargs c).2.2.2.2.2.2.2.1 (hargs c).2.2.2.2.2.2.2.2),
        (h c).2.1.trans (Cert.Mix.reference_convA c (hargs c).1 (hargs c).2.2.2.1 (hargs c).2.2.2.2.1),
        (h c).2.2.1.trans (Cert.Mix.reference_poolA c (hargs c).1 (hargs c).2.2.2.1 (hargs c).2.2.2.2.1),
        (h c).2.2.2.1.trans (Cert.Mix.reference_convB c (hargs c).1 (hargs c).2.2.2.1 (hargs c).2.2.2.2.1 _),
        (h c).2.2.2.2.1.trans (Cert.Mix.reference_poolB c (hargs c).1 (hargs c).2.2.2.1 (hargs c).2.2.2.2.1 (hargs c).2.2.1), (h c).2.2.2.2.2⟩)
      (Cert.Reference3Ideal.Value.run (F := Ideal) m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  frame_kernel, frame_kernel_ideal, frame_reference, frame_kernel2, frame_kernel2_ideal, frame_reference2,
  frame_kernel3, frame_kernel3_ideal, frame_reference3,
  trivial, values, trivial, values2, trivial, values3⟩

end Cert.Proof

end
